-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActRefIdeal (m : (ℓ : Loc Cert.DActRefIdeal.nD Cert.DActRefIdeal.τ Cert.DActRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_DH2 (m : (ℓ : Loc Cert.DH2.nD Cert.DH2.τ Cert.DH2.sig) → Buf (Elt Bits) ℓ) : Prop :=
  True

def Pre_DH2Ideal (m : (ℓ : Loc Cert.DH2Ideal.nD Cert.DH2Ideal.τ Cert.DH2Ideal.sig) → Buf (Elt Ideal) ℓ) : Prop :=
  True

def Pre_DH2RefIdeal (m : (ℓ : Loc Cert.DH2RefIdeal.nD Cert.DH2RefIdeal.τ Cert.DH2RefIdeal.sig) → Buf (Elt Ideal) ℓ) : Prop :=
  True

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownRefIdeal (m : (ℓ : Loc Cert.MlpDownRefIdeal.nD Cert.MlpDownRefIdeal.τ Cert.MlpDownRefIdeal.sig) → Buf (Elt Ideal) ℓ) : Prop :=
  True

def Pre_DH1 (m : (ℓ : Loc Cert.DH1.nD Cert.DH1.τ Cert.DH1.sig) → Buf (Elt Bits) ℓ) : Prop :=
  True

def Pre_DH1Ideal (m : (ℓ : Loc Cert.DH1Ideal.nD Cert.DH1Ideal.τ Cert.DH1Ideal.sig) → Buf (Elt Ideal) ℓ) : Prop :=
  True

def Pre_DH1RefIdeal (m : (ℓ : Loc Cert.DH1RefIdeal.nD Cert.DH1RefIdeal.τ Cert.DH1RefIdeal.sig) → Buf (Elt Ideal) ℓ) : Prop :=
  True

def Pre_DOx (m : (ℓ : Loc Cert.DOx.nD Cert.DOx.τ Cert.DOx.sig) → Buf (Elt Bits) ℓ) : Prop :=
  True

def Pre_DOxIdeal (m : (ℓ : Loc Cert.DOxIdeal.nD Cert.DOxIdeal.τ Cert.DOxIdeal.sig) → Buf (Elt Ideal) ℓ) : Prop :=
  True

def Pre_DOxRefIdeal (m : (ℓ : Loc Cert.DOxRefIdeal.nD Cert.DOxRefIdeal.τ Cert.DOxRefIdeal.sig) → Buf (Elt Ideal) ℓ) : Prop :=
  True

def Pre_DwXo (m : (ℓ : Loc Cert.DwXo.nD Cert.DwXo.τ Cert.DwXo.sig) → Buf (Elt Bits) ℓ) : Prop :=
  True

def Pre_DwXoIdeal (m : (ℓ : Loc Cert.DwXoIdeal.nD Cert.DwXoIdeal.τ Cert.DwXoIdeal.sig) → Buf (Elt Ideal) ℓ) : Prop :=
  True

def Pre_DwXoRefIdeal (m : (ℓ : Loc Cert.DwXoRefIdeal.nD Cert.DwXoRefIdeal.τ Cert.DwXoRefIdeal.sig) → Buf (Elt Ideal) ℓ) : Prop :=
  True

def Pre_DwXq (m : (ℓ : Loc Cert.DwXq.nD Cert.DwXq.τ Cert.DwXq.sig) → Buf (Elt Bits) ℓ) : Prop :=
  True

def Pre_DwXqIdeal (m : (ℓ : Loc Cert.DwXqIdeal.nD Cert.DwXqIdeal.τ Cert.DwXqIdeal.sig) → Buf (Elt Ideal) ℓ) : Prop :=
  True

def Pre_DwXqRefIdeal (m : (ℓ : Loc Cert.DwXqRefIdeal.nD Cert.DwXqRefIdeal.τ Cert.DwXqRefIdeal.sig) → Buf (Elt Ideal) ℓ) : Prop :=
  True

def Pre_DwXkv (m : (ℓ : Loc Cert.DwXkv.nD Cert.DwXkv.τ Cert.DwXkv.sig) → Buf (Elt Bits) ℓ) : Prop :=
  True

def Pre_DwXkvIdeal (m : (ℓ : Loc Cert.DwXkvIdeal.nD Cert.DwXkvIdeal.τ Cert.DwXkvIdeal.sig) → Buf (Elt Ideal) ℓ) : Prop :=
  True

def Pre_DwXkvRefIdeal (m : (ℓ : Loc Cert.DwXkvRefIdeal.nD Cert.DwXkvRefIdeal.τ Cert.DwXkvRefIdeal.sig) → Buf (Elt Ideal) ℓ) : Prop :=
  True

def Pre_DMemn (m : (ℓ : Loc Cert.DMemn.nD Cert.DMemn.τ Cert.DMemn.sig) → Buf (Elt Bits) ℓ) : Prop :=
  True

def Pre_DMemnIdeal (m : (ℓ : Loc Cert.DMemnIdeal.nD Cert.DMemnIdeal.τ Cert.DMemnIdeal.sig) → Buf (Elt Ideal) ℓ) : Prop :=
  True

def Pre_DMemnRefIdeal (m : (ℓ : Loc Cert.DMemnRefIdeal.nD Cert.DMemnRefIdeal.τ Cert.DMemnRefIdeal.sig) → Buf (Elt Ideal) ℓ) : Prop :=
  True

def Pre_DYnSsm (m : (ℓ : Loc Cert.DYnSsm.nD Cert.DYnSsm.τ Cert.DYnSsm.sig) → Buf (Elt Bits) ℓ) : Prop :=
  True

def Pre_DYnSsmIdeal (m : (ℓ : Loc Cert.DYnSsmIdeal.nD Cert.DYnSsmIdeal.τ Cert.DYnSsmIdeal.sig) → Buf (Elt Ideal) ℓ) : Prop :=
  True

def Pre_DYnSsmRefIdeal (m : (ℓ : Loc Cert.DYnSsmRefIdeal.nD Cert.DYnSsmRefIdeal.τ Cert.DYnSsmRefIdeal.sig) → Buf (Elt Ideal) ℓ) : Prop :=
  True

def Pre_DwOutSsm (m : (ℓ : Loc Cert.DwOutSsm.nD Cert.DwOutSsm.τ Cert.DwOutSsm.sig) → Buf (Elt Bits) ℓ) : Prop :=
  True

def Pre_DwOutSsmIdeal (m : (ℓ : Loc Cert.DwOutSsmIdeal.nD Cert.DwOutSsmIdeal.τ Cert.DwOutSsmIdeal.sig) → Buf (Elt Ideal) ℓ) : Prop :=
  True

def Pre_DwOutSsmRefIdeal (m : (ℓ : Loc Cert.DwOutSsmRefIdeal.nD Cert.DwOutSsmRefIdeal.τ Cert.DwOutSsmRefIdeal.sig) → Buf (Elt Ideal) ℓ) : Prop :=
  True

def Pre_DwU (m : (ℓ : Loc Cert.DwU.nD Cert.DwU.τ Cert.DwU.sig) → Buf (Elt Bits) ℓ) : Prop :=
  True

def Pre_DwUIdeal (m : (ℓ : Loc Cert.DwUIdeal.nD Cert.DwUIdeal.τ Cert.DwUIdeal.sig) → Buf (Elt Ideal) ℓ) : Prop :=
  True

def Pre_DwURefIdeal (m : (ℓ : Loc Cert.DwURefIdeal.nD Cert.DwURefIdeal.τ Cert.DwURefIdeal.sig) → Buf (Elt Ideal) ℓ) : Prop :=
  True

def Pre_DH0U (m : (ℓ : Loc Cert.DH0U.nD Cert.DH0U.τ Cert.DH0U.sig) → Buf (Elt Bits) ℓ) : Prop :=
  True

def Pre_DH0UIdeal (m : (ℓ : Loc Cert.DH0UIdeal.nD Cert.DH0UIdeal.τ Cert.DH0UIdeal.sig) → Buf (Elt Ideal) ℓ) : Prop :=
  True

def Pre_DH0URefIdeal (m : (ℓ : Loc Cert.DH0URefIdeal.nD Cert.DH0URefIdeal.τ Cert.DH0URefIdeal.sig) → Buf (Elt Ideal) ℓ) : Prop :=
  True

def Pre_ProjU (m : (ℓ : Loc Cert.ProjU.nD Cert.ProjU.τ Cert.ProjU.sig) → Buf (Elt Bits) ℓ) : Prop :=
  True

def Pre_ProjUIdeal (m : (ℓ : Loc Cert.ProjUIdeal.nD Cert.ProjUIdeal.τ Cert.ProjUIdeal.sig) → Buf (Elt Ideal) ℓ) : Prop :=
  True

def Pre_ProjURefIdeal (m : (ℓ : Loc Cert.ProjURefIdeal.nD Cert.ProjURefIdeal.τ Cert.ProjURefIdeal.sig) → Buf (Elt Ideal) ℓ) : Prop :=
  True

def Pre_XaQ (m : (ℓ : Loc Cert.XaQ.nD Cert.XaQ.τ Cert.XaQ.sig) → Buf (Elt Bits) ℓ) : Prop :=
  True

def Pre_XaQIdeal (m : (ℓ : Loc Cert.XaQIdeal.nD Cert.XaQIdeal.τ Cert.XaQIdeal.sig) → Buf (Elt Ideal) ℓ) : Prop :=
  True

def Pre_XaQRefIdeal (m : (ℓ : Loc Cert.XaQRefIdeal.nD Cert.XaQRefIdeal.τ Cert.XaQRefIdeal.sig) → Buf (Elt Ideal) ℓ) : Prop :=
  True

def Pre_XaKv (m : (ℓ : Loc Cert.XaKv.nD Cert.XaKv.τ Cert.XaKv.sig) → Buf (Elt Bits) ℓ) : Prop :=
  True

def Pre_XaKvIdeal (m : (ℓ : Loc Cert.XaKvIdeal.nD Cert.XaKvIdeal.τ Cert.XaKvIdeal.sig) → Buf (Elt Ideal) ℓ) : Prop :=
  True

def Pre_XaKvRefIdeal (m : (ℓ : Loc Cert.XaKvRefIdeal.nD Cert.XaKvRefIdeal.τ Cert.XaKvRefIdeal.sig) → Buf (Elt Ideal) ℓ) : Prop :=
  True

def Pre_OutSsm (m : (ℓ : Loc Cert.OutSsm.nD Cert.OutSsm.τ Cert.OutSsm.sig) → Buf (Elt Bits) ℓ) : Prop :=
  True

def Pre_OutSsmIdeal (m : (ℓ : Loc Cert.OutSsmIdeal.nD Cert.OutSsmIdeal.τ Cert.OutSsmIdeal.sig) → Buf (Elt Ideal) ℓ) : Prop :=
  True

def Pre_OutSsmRefIdeal (m : (ℓ : Loc Cert.OutSsmRefIdeal.nD Cert.OutSsmRefIdeal.τ Cert.OutSsmRefIdeal.sig) → Buf (Elt Ideal) ℓ) : Prop :=
  True

def Pre_XaO (m : (ℓ : Loc Cert.XaO.nD Cert.XaO.τ Cert.XaO.sig) → Buf (Elt Bits) ℓ) : Prop :=
  True

def Pre_XaOIdeal (m : (ℓ : Loc Cert.XaOIdeal.nD Cert.XaOIdeal.τ Cert.XaOIdeal.sig) → Buf (Elt Ideal) ℓ) : Prop :=
  True

def Pre_XaORefIdeal (m : (ℓ : Loc Cert.XaORefIdeal.nD Cert.XaORefIdeal.τ Cert.XaORefIdeal.sig) → Buf (Elt Ideal) ℓ) : Prop :=
  True

def Pre_OutSb (m : (ℓ : Loc Cert.OutSb.nD Cert.OutSb.τ Cert.OutSb.sig) → Buf (Elt Bits) ℓ) : Prop :=
  True

def Pre_OutSbIdeal (m : (ℓ : Loc Cert.OutSbIdeal.nD Cert.OutSbIdeal.τ Cert.OutSbIdeal.sig) → Buf (Elt Ideal) ℓ) : Prop :=
  True

def Pre_OutSbRefIdeal (m : (ℓ : Loc Cert.OutSbRefIdeal.nD Cert.OutSbRefIdeal.τ Cert.OutSbRefIdeal.sig) → Buf (Elt Ideal) ℓ) : Prop :=
  True

def Pre_DYnSb (m : (ℓ : Loc Cert.DYnSb.nD Cert.DYnSb.τ Cert.DYnSb.sig) → Buf (Elt Bits) ℓ) : Prop :=
  True

def Pre_DYnSbIdeal (m : (ℓ : Loc Cert.DYnSbIdeal.nD Cert.DYnSbIdeal.τ Cert.DYnSbIdeal.sig) → Buf (Elt Ideal) ℓ) : Prop :=
  True

def Pre_DYnSbRefIdeal (m : (ℓ : Loc Cert.DYnSbRefIdeal.nD Cert.DYnSbRefIdeal.τ Cert.DYnSbRefIdeal.sig) → Buf (Elt Ideal) ℓ) : Prop :=
  True

def Pre_DwOutSb (m : (ℓ : Loc Cert.DwOutSb.nD Cert.DwOutSb.τ Cert.DwOutSb.sig) → Buf (Elt Bits) ℓ) : Prop :=
  True

def Pre_DwOutSbIdeal (m : (ℓ : Loc Cert.DwOutSbIdeal.nD Cert.DwOutSbIdeal.τ Cert.DwOutSbIdeal.sig) → Buf (Elt Ideal) ℓ) : Prop :=
  True

def Pre_DwOutSbRefIdeal (m : (ℓ : Loc Cert.DwOutSbRefIdeal.nD Cert.DwOutSbRefIdeal.τ Cert.DwOutSbRefIdeal.sig) → Buf (Elt Ideal) ℓ) : Prop :=
  True

def Pre_DwQkv (m : (ℓ : Loc Cert.DwQkv.nD Cert.DwQkv.τ Cert.DwQkv.sig) → Buf (Elt Bits) ℓ) : Prop :=
  True

def Pre_DwQkvIdeal (m : (ℓ : Loc Cert.DwQkvIdeal.nD Cert.DwQkvIdeal.τ Cert.DwQkvIdeal.sig) → Buf (Elt Ideal) ℓ) : Prop :=
  True

def Pre_DwQkvRefIdeal (m : (ℓ : Loc Cert.DwQkvRefIdeal.nD Cert.DwQkvRefIdeal.τ Cert.DwQkvRefIdeal.sig) → Buf (Elt Ideal) ℓ) : Prop :=
  True

def Pre_GluFwd (m : (ℓ : Loc Cert.GluFwd.nD Cert.GluFwd.τ Cert.GluFwd.sig) → Buf (Elt Bits) ℓ) : Prop :=
  True

def Pre_GluFwdIdeal (m : (ℓ : Loc Cert.GluFwdIdeal.nD Cert.GluFwdIdeal.τ Cert.GluFwdIdeal.sig) → Buf (Elt Ideal) ℓ) : Prop :=
  True

def Pre_GluFwdRefIdeal (m : (ℓ : Loc Cert.GluFwdRefIdeal.nD Cert.GluFwdRefIdeal.τ Cert.GluFwdRefIdeal.sig) → Buf (Elt Ideal) ℓ) : Prop :=
  True

def Pre_XaFwd (m : (ℓ : Loc Cert.XaFwd.nD Cert.XaFwd.τ Cert.XaFwd.sig) → Buf (Elt Bits) ℓ) : Prop :=
  True

def Pre_XaFwdIdeal (m : (ℓ : Loc Cert.XaFwdIdeal.nD Cert.XaFwdIdeal.τ Cert.XaFwdIdeal.sig) → Buf (Elt Ideal) ℓ) : Prop :=
  True

def Pre_XaFwdRefIdeal (m : (ℓ : Loc Cert.XaFwdRefIdeal.nD Cert.XaFwdRefIdeal.τ Cert.XaFwdRefIdeal.sig) → Buf (Elt Ideal) ℓ) : Prop :=
  True

def Pre_XaBwd (m : (ℓ : Loc Cert.XaBwd.nD Cert.XaBwd.τ Cert.XaBwd.sig) → Buf (Elt Bits) ℓ) : Prop :=
  True

def Pre_XaBwdIdeal (m : (ℓ : Loc Cert.XaBwdIdeal.nD Cert.XaBwdIdeal.τ Cert.XaBwdIdeal.sig) → Buf (Elt Ideal) ℓ) : Prop :=
  True

def Pre_XaBwdIdeal_finite [hPre_finite : Cert.Pre_finite.Facts] (m : (ℓ : Loc Cert.XaBwdIdeal.nD Cert.XaBwdIdeal.τ Cert.XaBwdIdeal.sig) → Buf (Elt Ideal) ℓ) : Prop :=
  ∀ c : Dev Cert.XaBwdIdeal.nD,
    (Cert.Pre_finite.fn (F := Ideal) (m ((c.tc : Thread Cert.XaBwdIdeal.nD Cert.XaBwdIdeal.τ).loc Cert.XaBwdIdeal.main_arg0)) (m ((c.tc : Thread Cert.XaBwdIdeal.nD Cert.XaBwdIdeal.τ).loc Cert.XaBwdIdeal.main_arg1)) (m ((c.tc : Thread Cert.XaBwdIdeal.nD Cert.XaBwdIdeal.τ).loc Cert.XaBwdIdeal.main_arg2)) (m ((c.tc : Thread Cert.XaBwdIdeal.nD Cert.XaBwdIdeal.τ).loc Cert.XaBwdIdeal.main_arg3)) (m ((c.tc : Thread Cert.XaBwdIdeal.nD Cert.XaBwdIdeal.τ).loc Cert.XaBwdIdeal.main_arg4))).1 = (fun _ => 1#1)
    ∧ (Cert.Pre_finite.fn (F := Ideal) (m ((c.tc : Thread Cert.XaBwdIdeal.nD Cert.XaBwdIdeal.τ).loc Cert.XaBwdIdeal.main_arg0)) (m ((c.tc : Thread Cert.XaBwdIdeal.nD Cert.XaBwdIdeal.τ).loc Cert.XaBwdIdeal.main_arg1)) (m ((c.tc : Thread Cert.XaBwdIdeal.nD Cert.XaBwdIdeal.τ).loc Cert.XaBwdIdeal.main_arg2)) (m ((c.tc : Thread Cert.XaBwdIdeal.nD Cert.XaBwdIdeal.τ).loc Cert.XaBwdIdeal.main_arg3)) (m ((c.tc : Thread Cert.XaBwdIdeal.nD Cert.XaBwdIdeal.τ).loc Cert.XaBwdIdeal.main_arg4))).2.1 = (fun _ => 1#1)
    ∧ (Cert.Pre_finite.fn (F := Ideal) (m ((c.tc : Thread Cert.XaBwdIdeal.nD Cert.XaBwdIdeal.τ).loc Cert.XaBwdIdeal.main_arg0)) (m ((c.tc : Thread Cert.XaBwdIdeal.nD Cert.XaBwdIdeal.τ).loc Cert.XaBwdIdeal.main_arg1)) (m ((c.tc : Thread Cert.XaBwdIdeal.nD Cert.XaBwdIdeal.τ).loc Cert.XaBwdIdeal.main_arg2)) (m ((c.tc : Thread Cert.XaBwdIdeal.nD Cert.XaBwdIdeal.τ).loc Cert.XaBwdIdeal.main_arg3)) (m ((c.tc : Thread Cert.XaBwdIdeal.nD Cert.XaBwdIdeal.τ).loc Cert.XaBwdIdeal.main_arg4))).2.2.1 = (fun _ => 1#1)
    ∧ (Cert.Pre_finite.fn (F := Ideal) (m ((c.tc : Thread Cert.XaBwdIdeal.nD Cert.XaBwdIdeal.τ).loc Cert.XaBwdIdeal.main_arg0)) (m ((c.tc : Thread Cert.XaBwdIdeal.nD Cert.XaBwdIdeal.τ).loc Cert.XaBwdIdeal.main_arg1)) (m ((c.tc : Thread Cert.XaBwdIdeal.nD Cert.XaBwdIdeal.τ).loc Cert.XaBwdIdeal.main_arg2)) (m ((c.tc : Thread Cert.XaBwdIdeal.nD Cert.XaBwdIdeal.τ).loc Cert.XaBwdIdeal.main_arg3)) (m ((c.tc : Thread Cert.XaBwdIdeal.nD Cert.XaBwdIdeal.τ).loc Cert.XaBwdIdeal.main_arg4))).2.2.2.1 = (fun _ => 1#1)
    ∧ (Cert.Pre_finite.fn (F := Ideal) (m ((c.tc : Thread Cert.XaBwdIdeal.nD Cert.XaBwdIdeal.τ).loc Cert.XaBwdIdeal.main_arg0)) (m ((c.tc : Thread Cert.XaBwdIdeal.nD Cert.XaBwdIdeal.τ).loc Cert.XaBwdIdeal.main_arg1)) (m ((c.tc : Thread Cert.XaBwdIdeal.nD Cert.XaBwdIdeal.τ).loc Cert.XaBwdIdeal.main_arg2)) (m ((c.tc : Thread Cert.XaBwdIdeal.nD Cert.XaBwdIdeal.τ).loc Cert.XaBwdIdeal.main_arg3)) (m ((c.tc : Thread Cert.XaBwdIdeal.nD Cert.XaBwdIdeal.τ).loc Cert.XaBwdIdeal.main_arg4))).2.2.2.2 = (fun _ => 1#1)

def Pre_XaBwdRefIdeal (m : (ℓ : Loc Cert.XaBwdRefIdeal.nD Cert.XaBwdRefIdeal.τ Cert.XaBwdRefIdeal.sig) → Buf (Elt Ideal) ℓ) : Prop :=
  True

def Pre_XaBwdRefIdeal_finite [hPre_finite : Cert.Pre_finite.Facts] (m : (ℓ : Loc Cert.XaBwdRefIdeal.nD Cert.XaBwdRefIdeal.τ Cert.XaBwdRefIdeal.sig) → Buf (Elt Ideal) ℓ) : Prop :=
  ∀ c : Dev Cert.XaBwdRefIdeal.nD,
    (Cert.Pre_finite.fn (F := Ideal) (m ((c.tc : Thread Cert.XaBwdRefIdeal.nD Cert.XaBwdRefIdeal.τ).loc Cert.XaBwdRefIdeal.main_arg0)) (m ((c.tc : Thread Cert.XaBwdRefIdeal.nD Cert.XaBwdRefIdeal.τ).loc Cert.XaBwdRefIdeal.main_arg1)) (m ((c.tc : Thread Cert.XaBwdRefIdeal.nD Cert.XaBwdRefIdeal.τ).loc Cert.XaBwdRefIdeal.main_arg2)) (m ((c.tc : Thread Cert.XaBwdRefIdeal.nD Cert.XaBwdRefIdeal.τ).loc Cert.XaBwdRefIdeal.main_arg3)) (m ((c.tc : Thread Cert.XaBwdRefIdeal.nD Cert.XaBwdRefIdeal.τ).loc Cert.XaBwdRefIdeal.main_arg4))).1 = (fun _ => 1#1)
    ∧ (Cert.Pre_finite.fn (F := Ideal) (m ((c.tc : Thread Cert.XaBwdRefIdeal.nD Cert.XaBwdRefIdeal.τ).loc Cert.XaBwdRefIdeal.main_arg0)) (m ((c.tc : Thread Cert.XaBwdRefIdeal.nD Cert.XaBwdRefIdeal.τ).loc Cert.XaBwdRefIdeal.main_arg1)) (m ((c.tc : Thread Cert.XaBwdRefIdeal.nD Cert.XaBwdRefIdeal.τ).loc Cert.XaBwdRefIdeal.main_arg2)) (m ((c.tc : Thread Cert.XaBwdRefIdeal.nD Cert.XaBwdRefIdeal.τ).loc Cert.XaBwdRefIdeal.main_arg3)) (m ((c.tc : Thread Cert.XaBwdRefIdeal.nD Cert.XaBwdRefIdeal.τ).loc Cert.XaBwdRefIdeal.main_arg4))).2.1 = (fun _ => 1#1)
    ∧ (Cert.Pre_finite.fn (F := Ideal) (m ((c.tc : Thread Cert.XaBwdRefIdeal.nD Cert.XaBwdRefIdeal.τ).loc Cert.XaBwdRefIdeal.main_arg0)) (m ((c.tc : Thread Cert.XaBwdRefIdeal.nD Cert.XaBwdRefIdeal.τ).loc Cert.XaBwdRefIdeal.main_arg1)) (m ((c.tc : Thread Cert.XaBwdRefIdeal.nD Cert.XaBwdRefIdeal.τ).loc Cert.XaBwdRefIdeal.main_arg2)) (m ((c.tc : Thread Cert.XaBwdRefIdeal.nD Cert.XaBwdRefIdeal.τ).loc Cert.XaBwdRefIdeal.main_arg3)) (m ((c.tc : Thread Cert.XaBwdRefIdeal.nD Cert.XaBwdRefIdeal.τ).loc Cert.XaBwdRefIdeal.main_arg4))).2.2.1 = (fun _ => 1#1)
    ∧ (Cert.Pre_finite.fn (F := Ideal) (m ((c.tc : Thread Cert.XaBwdRefIdeal.nD Cert.XaBwdRefIdeal.τ).loc Cert.XaBwdRefIdeal.main_arg0)) (m ((c.tc : Thread Cert.XaBwdRefIdeal.nD Cert.XaBwdRefIdeal.τ).loc Cert.XaBwdRefIdeal.main_arg1)) (m ((c.tc : Thread Cert.XaBwdRefIdeal.nD Cert.XaBwdRefIdeal.τ).loc Cert.XaBwdRefIdeal.main_arg2)) (m ((c.tc : Thread Cert.XaBwdRefIdeal.nD Cert.XaBwdRefIdeal.τ).loc Cert.XaBwdRefIdeal.main_arg3)) (m ((c.tc : Thread Cert.XaBwdRefIdeal.nD Cert.XaBwdRefIdeal.τ).loc Cert.XaBwdRefIdeal.main_arg4))).2.2.2.1 = (fun _ => 1#1)
    ∧ (Cert.Pre_finite.fn (F := Ideal) (m ((c.tc : Thread Cert.XaBwdRefIdeal.nD Cert.XaBwdRefIdeal.τ).loc Cert.XaBwdRefIdeal.main_arg0)) (m ((c.tc : Thread Cert.XaBwdRefIdeal.nD Cert.XaBwdRefIdeal.τ).loc Cert.XaBwdRefIdeal.main_arg1)) (m ((c.tc : Thread Cert.XaBwdRefIdeal.nD Cert.XaBwdRefIdeal.τ).loc Cert.XaBwdRefIdeal.main_arg2)) (m ((c.tc : Thread Cert.XaBwdRefIdeal.nD Cert.XaBwdRefIdeal.τ).loc Cert.XaBwdRefIdeal.main_arg3)) (m ((c.tc : Thread Cert.XaBwdRefIdeal.nD Cert.XaBwdRefIdeal.τ).loc Cert.XaBwdRefIdeal.main_arg4))).2.2.2.2 = (fun _ => 1#1)

def Pre_RmsSsm (m : (ℓ : Loc Cert.RmsSsm.nD Cert.RmsSsm.τ Cert.RmsSsm.sig) → Buf (Elt Bits) ℓ) : Prop :=
  True

def Pre_RmsSsmIdeal (m : (ℓ : Loc Cert.RmsSsmIdeal.nD Cert.RmsSsmIdeal.τ Cert.RmsSsmIdeal.sig) → Buf (Elt Ideal) ℓ) : Prop :=
  True

def Pre_RmsSsmRefIdeal (m : (ℓ : Loc Cert.RmsSsmRefIdeal.nD Cert.RmsSsmRefIdeal.τ Cert.RmsSsmRefIdeal.sig) → Buf (Elt Ideal) ℓ) : Prop :=
  True

def Pre_RmsMem (m : (ℓ : Loc Cert.RmsMem.nD Cert.RmsMem.τ Cert.RmsMem.sig) → Buf (Elt Bits) ℓ) : Prop :=
  True

def Pre_RmsMemIdeal (m : (ℓ : Loc Cert.RmsMemIdeal.nD Cert.RmsMemIdeal.τ Cert.RmsMemIdeal.sig) → Buf (Elt Ideal) ℓ) : Prop :=
  True

def Pre_RmsMemRefIdeal (m : (ℓ : Loc Cert.RmsMemRefIdeal.nD Cert.RmsMemRefIdeal.τ Cert.RmsMemRefIdeal.sig) → Buf (Elt Ideal) ℓ) : Prop :=
  True

def Pre_S5Prep (m : (ℓ : Loc Cert.S5Prep.nD Cert.S5Prep.τ Cert.S5Prep.sig) → Buf (Elt Bits) ℓ) : Prop :=
  True

def Pre_S5PrepIdeal (m : (ℓ : Loc Cert.S5PrepIdeal.nD Cert.S5PrepIdeal.τ Cert.S5PrepIdeal.sig) → Buf (Elt Ideal) ℓ) : Prop :=
  True

def Pre_S5PrepRefIdeal (m : (ℓ : Loc Cert.S5PrepRefIdeal.nD Cert.S5PrepRefIdeal.τ Cert.S5PrepRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1)
      ∧ r.2.mem ((c.tc : Thread Cert.DAct.nD Cert.DAct.τ).loc Cert.DAct.main_arg2) = m ((c.tc : Thread Cert.DAct.nD Cert.DAct.τ).loc Cert.DAct.main_arg2))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1)
      ∧ r.2.mem ((c.tc : Thread Cert.DActIdeal.nD Cert.DActIdeal.τ).loc Cert.DActIdeal.main_arg2) = m ((c.tc : Thread Cert.DActIdeal.nD Cert.DActIdeal.τ).loc Cert.DActIdeal.main_arg2))
      ∧ r.2.sem = fun _ => 0)

def quiescent_DActRefIdeal [hDActRefIdeal : Cert.DActRefIdeal.Facts] : Prop :=
  ∀ (m : (ℓ : Loc Cert.DActRefIdeal.nD Cert.DActRefIdeal.τ Cert.DActRefIdeal.sig) → Buf (Elt Ideal) ℓ) (g : Dev Cert.DActRefIdeal.nD → PrngReg), Pre_DActRefIdeal m →
    θ_run (Cert.DActRefIdeal.defs (F := Ideal)) (onTc (τ := Cert.DActRefIdeal.τ) (Cert.DActRefIdeal.main (F := Ideal))) ⟨m, fun _ => 0, g⟩ (fun r => (∀ c : Dev Cert.DActRefIdeal.nD,
      r.2.mem ((c.tc : Thread Cert.DActRefIdeal.nD Cert.DActRefIdeal.τ).loc Cert.DActRefIdeal.main_arg0) = m ((c.tc : Thread Cert.DActRefIdeal.nD Cert.DActRefIdeal.τ).loc Cert.DActRefIdeal.main_arg0)
      ∧ r.2.mem ((c.tc : Thread Cert.DActRefIdeal.nD Cert.DActRefIdeal.τ).loc Cert.DActRefIdeal.main_arg1) = m ((c.tc : Thread Cert.DActRefIdeal.nD Cert.DActRefIdeal.τ).loc Cert.DActRefIdeal.main_arg1)
      ∧ r.2.mem ((c.tc : Thread Cert.DActRefIdeal.nD Cert.DActRefIdeal.τ).loc Cert.DActRefIdeal.main_arg2) = m ((c.tc : Thread Cert.DActRefIdeal.nD Cert.DActRefIdeal.τ).loc Cert.DActRefIdeal.main_arg2))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1)
      ∧ r.2.mem ((c.tc : Thread Cert.DwDown.nD Cert.DwDown.τ).loc Cert.DwDown.main_arg2) = m ((c.tc : Thread Cert.DwDown.nD Cert.DwDown.τ).loc Cert.DwDown.main_arg2))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1)
      ∧ r.2.mem ((c.tc : Thread Cert.DwDownIdeal.nD Cert.DwDownIdeal.τ).loc Cert.DwDownIdeal.main_arg2) = m ((c.tc : Thread Cert.DwDownIdeal.nD Cert.DwDownIdeal.τ).loc Cert.DwDownIdeal.main_arg2))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1)
      ∧ r.2.mem ((c.tc : Thread Cert.DwDownRefIdeal.nD Cert.DwDownRefIdeal.τ).loc Cert.DwDownRefIdeal.main_arg2) = m ((c.tc : Thread Cert.DwDownRefIdeal.nD Cert.DwDownRefIdeal.τ).loc Cert.DwDownRefIdeal.main_arg2))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1)
      ∧ r.2.mem ((c.tc : Thread Cert.DwUp.nD Cert.DwUp.τ).loc Cert.DwUp.main_arg2) = m ((c.tc : Thread Cert.DwUp.nD Cert.DwUp.τ).loc Cert.DwUp.main_arg2)
      ∧ r.2.mem ((c.tc : Thread Cert.DwUp.nD Cert.DwUp.τ).loc Cert.DwUp.main_arg3) = m ((c.tc : Thread Cert.DwUp.nD Cert.DwUp.τ).loc Cert.DwUp.main_arg3))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
      ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2)
      ∧ r.2.mem ((c.tc : Thread Cert.DwUpIdeal.nD Cert.DwUpIdeal.τ).loc Cert.DwUpIdeal.main_arg3) = m ((c.tc : Thread Cert.DwUpIdeal.nD Cert.DwUpIdeal.τ).loc Cert.DwUpIdeal.main_arg3))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1)
      ∧ r.2.mem ((c.tc : Thread Cert.DwUpRefIdeal.nD Cert.DwUpRefIdeal.τ).loc Cert.DwUpRefIdeal.main_arg2) = m ((c.tc : Thread Cert.DwUpRefIdeal.nD Cert.DwUpRefIdeal.τ).loc Cert.DwUpRefIdeal.main_arg2)
      ∧ r.2.mem ((c.tc : Thread Cert.DwUpRefIdeal.nD Cert.DwUpRefIdeal.τ).loc Cert.DwUpRefIdeal.main_arg3) = m ((c.tc : Thread Cert.DwUpRefIdeal.nD Cert.DwUpRefIdeal.τ).loc Cert.DwUpRefIdeal.main_arg3))
      ∧ r.2.sem = fun _ => 0)

def quiescent_DH2 [hDH2 : Cert.DH2.Facts] : Prop :=
  ∀ (m : (ℓ : Loc Cert.DH2.nD Cert.DH2.τ Cert.DH2.sig) → Buf (Elt Bits) ℓ) (g : Dev Cert.DH2.nD → PrngReg), Pre_DH2 m →
    θ_run (Cert.DH2.defs (F := Bits)) (onTc (τ := Cert.DH2.τ) (Cert.DH2.main (F := Bits))) ⟨m, fun _ => 0, g⟩ (fun r => (∀ c : Dev Cert.DH2.nD,
      r.2.mem ((c.tc : Thread Cert.DH2.nD Cert.DH2.τ).loc Cert.DH2.main_arg0) = m ((c.tc : Thread Cert.DH2.nD Cert.DH2.τ).loc Cert.DH2.main_arg0)
      ∧ r.2.mem ((c.tc : Thread Cert.DH2.nD Cert.DH2.τ).loc Cert.DH2.main_arg1) = m ((c.tc : Thread Cert.DH2.nD Cert.DH2.τ).loc Cert.DH2.main_arg1)
      ∧ r.2.mem ((c.tc : Thread Cert.DH2.nD Cert.DH2.τ).loc Cert.DH2.main_arg2) = m ((c.tc : Thread Cert.DH2.nD Cert.DH2.τ).loc Cert.DH2.main_arg2)
      ∧ r.2.mem ((c.tc : Thread Cert.DH2.nD Cert.DH2.τ).loc Cert.DH2.main_arg3) = m ((c.tc : Thread Cert.DH2.nD Cert.DH2.τ).loc Cert.DH2.main_arg3)
      ∧ r.2.mem ((c.tc : Thread Cert.DH2.nD Cert.DH2.τ).loc Cert.DH2.main_arg4) = m ((c.tc : Thread Cert.DH2.nD Cert.DH2.τ).loc Cert.DH2.main_arg4))
      ∧ r.2.sem = fun _ => 0)

def quiescent_DH2Ideal [hDH2Ideal : Cert.DH2Ideal.Facts] : Prop :=
  ∀ (m : (ℓ : Loc Cert.DH2Ideal.nD Cert.DH2Ideal.τ Cert.DH2Ideal.sig) → Buf (Elt Ideal) ℓ) (g : Dev Cert.DH2Ideal.nD → PrngReg), Pre_DH2Ideal m →
    θ_run (Cert.DH2Ideal.defs (F := Ideal)) (onTc (τ := Cert.DH2Ideal.τ) (Cert.DH2Ideal.main (F := Ideal))) ⟨m, fun _ => 0, g⟩ (fun r => (∀ c : Dev Cert.DH2Ideal.nD,
      r.2.mem ((c.tc : Thread Cert.DH2Ideal.nD Cert.DH2Ideal.τ).loc Cert.DH2Ideal.main_arg0) = m ((c.tc : Thread Cert.DH2Ideal.nD Cert.DH2Ideal.τ).loc Cert.DH2Ideal.main_arg0)
      ∧ r.2.mem ((c.tc : Thread Cert.DH2Ideal.nD Cert.DH2Ideal.τ).loc Cert.DH2Ideal.main_arg1) = m ((c.tc : Thread Cert.DH2Ideal.nD Cert.DH2Ideal.τ).loc Cert.DH2Ideal.main_arg1)
      ∧ r.2.mem ((c.tc : Thread Cert.DH2Ideal.nD Cert.DH2Ideal.τ).loc Cert.DH2Ideal.main_arg2) = m ((c.tc : Thread Cert.DH2Ideal.nD Cert.DH2Ideal.τ).loc Cert.DH2Ideal.main_arg2)
      ∧ r.2.mem ((c.tc : Thread Cert.DH2Ideal.nD Cert.DH2Ideal.τ).loc Cert.DH2Ideal.main_arg3) = m ((c.tc : Thread Cert.DH2Ideal.nD Cert.DH2Ideal.τ).loc Cert.DH2Ideal.main_arg3)
      ∧ r.2.mem ((c.tc : Thread Cert.DH2Ideal.nD Cert.DH2Ideal.τ).loc Cert.DH2Ideal.main_arg4) = m ((c.tc : Thread Cert.DH2Ideal.nD Cert.DH2Ideal.τ).loc Cert.DH2Ideal.main_arg4))
      ∧ r.2.sem = fun _ => 0)

def quiescent_DH2RefIdeal [hDH2RefIdeal : Cert.DH2RefIdeal.Facts] : Prop :=
  ∀ (m : (ℓ : Loc Cert.DH2RefIdeal.nD Cert.DH2RefIdeal.τ Cert.DH2RefIdeal.sig) → Buf (Elt Ideal) ℓ) (g : Dev Cert.DH2RefIdeal.nD → PrngReg), Pre_DH2RefIdeal m →
    θ_run (Cert.DH2RefIdeal.defs (F := Ideal)) (onTc (τ := Cert.DH2RefIdeal.τ) (Cert.DH2RefIdeal.main (F := Ideal))) ⟨m, fun _ => 0, g⟩ (fun r => (∀ c : Dev Cert.DH2RefIdeal.nD,
      r.2.mem ((c.tc : Thread Cert.DH2RefIdeal.nD Cert.DH2RefIdeal.τ).loc Cert.DH2RefIdeal.main_arg0) = m ((c.tc : Thread Cert.DH2RefIdeal.nD Cert.DH2RefIdeal.τ).loc Cert.DH2RefIdeal.main_arg0)
      ∧ r.2.mem ((c.tc : Thread Cert.DH2RefIdeal.nD Cert.DH2RefIdeal.τ).loc Cert.DH2RefIdeal.main_arg1) = m ((c.tc : Thread Cert.DH2RefIdeal.nD Cert.DH2RefIdeal.τ).loc Cert.DH2RefIdeal.main_arg1)
      ∧ r.2.mem ((c.tc : Thread Cert.DH2RefIdeal.nD Cert.DH2RefIdeal.τ).loc Cert.DH2RefIdeal.main_arg2) = m ((c.tc : Thread Cert.DH2RefIdeal.nD Cert.DH2RefIdeal.τ).loc Cert.DH2RefIdeal.main_arg2)
      ∧ r.2.mem ((c.tc : Thread Cert.DH2RefIdeal.nD Cert.DH2RefIdeal.τ).loc Cert.DH2RefIdeal.main_arg3) = m ((c.tc : Thread Cert.DH2RefIdeal.nD Cert.DH2RefIdeal.τ).loc Cert.DH2RefIdeal.main_arg3)
      ∧ r.2.mem ((c.tc : Thread Cert.DH2RefIdeal.nD Cert.DH2RefIdeal.τ).loc Cert.DH2RefIdeal.main_arg4) = m ((c.tc : Thread Cert.DH2RefIdeal.nD Cert.DH2RefIdeal.τ).loc Cert.DH2RefIdeal.main_arg4))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1)
      ∧ r.2.mem ((c.tc : Thread Cert.MlpDown.nD Cert.MlpDown.τ).loc Cert.MlpDown.main_arg2) = m ((c.tc : Thread Cert.MlpDown.nD Cert.MlpDown.τ).loc Cert.MlpDown.main_arg2)
      ∧ r.2.mem ((c.tc : Thread Cert.MlpDown.nD Cert.MlpDown.τ).loc Cert.MlpDown.main_arg3) = m ((c.tc : Thread Cert.MlpDown.nD Cert.MlpDown.τ).loc Cert.MlpDown.main_arg3))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
      ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3))
      ∧ r.2.sem = fun _ => 0)

def quiescent_MlpDownRefIdeal [hMlpDownRefIdeal : Cert.MlpDownRefIdeal.Facts] : Prop :=
  ∀ (m : (ℓ : Loc Cert.MlpDownRefIdeal.nD Cert.MlpDownRefIdeal.τ Cert.MlpDownRefIdeal.sig) → Buf (Elt Ideal) ℓ) (g : Dev Cert.MlpDownRefIdeal.nD → PrngReg), Pre_MlpDownRefIdeal m →
    θ_run (Cert.MlpDownRefIdeal.defs (F := Ideal)) (onTc (τ := Cert.MlpDownRefIdeal.τ) (Cert.MlpDownRefIdeal.main (F := Ideal))) ⟨m, fun _ => 0, g⟩ (fun r => (∀ c : Dev Cert.MlpDownRefIdeal.nD,
      r.2.mem ((c.tc : Thread Cert.MlpDownRefIdeal.nD Cert.MlpDownRefIdeal.τ).loc Cert.MlpDownRefIdeal.main_arg0) = m ((c.tc : Thread Cert.MlpDownRefIdeal.nD Cert.MlpDownRefIdeal.τ).loc Cert.MlpDownRefIdeal.main_arg0)
      ∧ r.2.mem ((c.tc : Thread Cert.MlpDownRefIdeal.nD Cert.MlpDownRefIdeal.τ).loc Cert.MlpDownRefIdeal.main_arg1) = m ((c.tc : Thread Cert.MlpDownRefIdeal.nD Cert.MlpDownRefIdeal.τ).loc Cert.MlpDownRefIdeal.main_arg1)
      ∧ r.2.mem ((c.tc : Thread Cert.MlpDownRefIdeal.nD Cert.MlpDownRefIdeal.τ).loc Cert.MlpDownRefIdeal.main_arg2) = m ((c.tc : Thread Cert.MlpDownRefIdeal.nD Cert.MlpDownRefIdeal.τ).loc Cert.MlpDownRefIdeal.main_arg2)
      ∧ r.2.mem ((c.tc : Thread Cert.MlpDownRefIdeal.nD Cert.MlpDownRefIdeal.τ).loc Cert.MlpDownRefIdeal.main_arg3) = m ((c.tc : Thread Cert.MlpDownRefIdeal.nD Cert.MlpDownRefIdeal.τ).loc Cert.MlpDownRefIdeal.main_arg3))
      ∧ r.2.sem = fun _ => 0)

def quiescent_DH1 [hDH1 : Cert.DH1.Facts] : Prop :=
  ∀ (m : (ℓ : Loc Cert.DH1.nD Cert.DH1.τ Cert.DH1.sig) → Buf (Elt Bits) ℓ) (g : Dev Cert.DH1.nD → PrngReg), Pre_DH1 m →
    θ_run (Cert.DH1.defs (F := Bits)) (onTc (τ := Cert.DH1.τ) (Cert.DH1.main (F := Bits))) ⟨m, fun _ => 0, g⟩ (fun r => (∀ c : Dev Cert.DH1.nD,
      r.2.mem ((c.tc : Thread Cert.DH1.nD Cert.DH1.τ).loc Cert.DH1.main_arg0) = m ((c.tc : Thread Cert.DH1.nD Cert.DH1.τ).loc Cert.DH1.main_arg0)
      ∧ r.2.mem ((c.tc : Thread Cert.DH1.nD Cert.DH1.τ).loc Cert.DH1.main_arg1) = m ((c.tc : Thread Cert.DH1.nD Cert.DH1.τ).loc Cert.DH1.main_arg1)
      ∧ r.2.mem ((c.tc : Thread Cert.DH1.nD Cert.DH1.τ).loc Cert.DH1.main_arg2) = m ((c.tc : Thread Cert.DH1.nD Cert.DH1.τ).loc Cert.DH1.main_arg2)
      ∧ r.2.mem ((c.tc : Thread Cert.DH1.nD Cert.DH1.τ).loc Cert.DH1.main_arg3) = m ((c.tc : Thread Cert.DH1.nD Cert.DH1.τ).loc Cert.DH1.main_arg3)
      ∧ r.2.mem ((c.tc : Thread Cert.DH1.nD Cert.DH1.τ).loc Cert.DH1.main_arg4) = m ((c.tc : Thread Cert.DH1.nD Cert.DH1.τ).loc Cert.DH1.main_arg4))
      ∧ r.2.sem = fun _ => 0)

def quiescent_DH1Ideal [hDH1Ideal : Cert.DH1Ideal.Facts] : Prop :=
  ∀ (m : (ℓ : Loc Cert.DH1Ideal.nD Cert.DH1Ideal.τ Cert.DH1Ideal.sig) → Buf (Elt Ideal) ℓ) (g : Dev Cert.DH1Ideal.nD → PrngReg), Pre_DH1Ideal m →
    θ_run (Cert.DH1Ideal.defs (F := Ideal)) (onTc (τ := Cert.DH1Ideal.τ) (Cert.DH1Ideal.main (F := Ideal))) ⟨m, fun _ => 0, g⟩ (fun r => (∀ c : Dev Cert.DH1Ideal.nD,
      r.2.mem ((c.tc : Thread Cert.DH1Ideal.nD Cert.DH1Ideal.τ).loc Cert.DH1Ideal.main_arg0) = m ((c.tc : Thread Cert.DH1Ideal.nD Cert.DH1Ideal.τ).loc Cert.DH1Ideal.main_arg0)
      ∧ r.2.mem ((c.tc : Thread Cert.DH1Ideal.nD Cert.DH1Ideal.τ).loc Cert.DH1Ideal.main_arg1) = m ((c.tc : Thread Cert.DH1Ideal.nD Cert.DH1Ideal.τ).loc Cert.DH1Ideal.main_arg1)
      ∧ r.2.mem ((c.tc : Thread Cert.DH1Ideal.nD Cert.DH1Ideal.τ).loc Cert.DH1Ideal.main_arg2) = m ((c.tc : Thread Cert.DH1Ideal.nD Cert.DH1Ideal.τ).loc Cert.DH1Ideal.main_arg2)
      ∧ r.2.mem ((c.tc : Thread Cert.DH1Ideal.nD Cert.DH1Ideal.τ).loc Cert.DH1Ideal.main_arg3) = m ((c.tc : Thread Cert.DH1Ideal.nD Cert.DH1Ideal.τ).loc Cert.DH1Ideal.main_arg3)
      ∧ r.2.mem ((c.tc : Thread Cert.DH1Ideal.nD Cert.DH1Ideal.τ).loc Cert.DH1Ideal.main_arg4) = m ((c.tc : Thread Cert.DH1Ideal.nD Cert.DH1Ideal.τ).loc Cert.DH1Ideal.main_arg4))
      ∧ r.2.sem = fun _ => 0)

def quiescent_DH1RefIdeal [hDH1RefIdeal : Cert.DH1RefIdeal.Facts] : Prop :=
  ∀ (m : (ℓ : Loc Cert.DH1RefIdeal.nD Cert.DH1RefIdeal.τ Cert.DH1RefIdeal.sig) → Buf (Elt Ideal) ℓ) (g : Dev Cert.DH1RefIdeal.nD → PrngReg), Pre_DH1RefIdeal m →
    θ_run (Cert.DH1RefIdeal.defs (F := Ideal)) (onTc (τ := Cert.DH1RefIdeal.τ) (Cert.DH1RefIdeal.main (F := Ideal))) ⟨m, fun _ => 0, g⟩ (fun r => (∀ c : Dev Cert.DH1RefIdeal.nD,
      r.2.mem ((c.tc : Thread Cert.DH1RefIdeal.nD Cert.DH1RefIdeal.τ).loc Cert.DH1RefIdeal.main_arg0) = m ((c.tc : Thread Cert.DH1RefIdeal.nD Cert.DH1RefIdeal.τ).loc Cert.DH1RefIdeal.main_arg0)
      ∧ r.2.mem ((c.tc : Thread Cert.DH1RefIdeal.nD Cert.DH1RefIdeal.τ).loc Cert.DH1RefIdeal.main_arg1) = m ((c.tc : Thread Cert.DH1RefIdeal.nD Cert.DH1RefIdeal.τ).loc Cert.DH1RefIdeal.main_arg1)
      ∧ r.2.mem ((c.tc : Thread Cert.DH1RefIdeal.nD Cert.DH1RefIdeal.τ).loc Cert.DH1RefIdeal.main_arg2) = m ((c.tc : Thread Cert.DH1RefIdeal.nD Cert.DH1RefIdeal.τ).loc Cert.DH1RefIdeal.main_arg2)
      ∧ r.2.mem ((c.tc : Thread Cert.DH1RefIdeal.nD Cert.DH1RefIdeal.τ).loc Cert.DH1RefIdeal.main_arg3) = m ((c.tc : Thread Cert.DH1RefIdeal.nD Cert.DH1RefIdeal.τ).loc Cert.DH1RefIdeal.main_arg3)
      ∧ r.2.mem ((c.tc : Thread Cert.DH1RefIdeal.nD Cert.DH1RefIdeal.τ).loc Cert.DH1RefIdeal.main_arg4) = m ((c.tc : Thread Cert.DH1RefIdeal.nD Cert.DH1RefIdeal.τ).loc Cert.DH1RefIdeal.main_arg4))
      ∧ r.2.sem = fun _ => 0)

def quiescent_DOx [hDOx : Cert.DOx.Facts] : Prop :=
  ∀ (m : (ℓ : Loc Cert.DOx.nD Cert.DOx.τ Cert.DOx.sig) → Buf (Elt Bits) ℓ) (g : Dev Cert.DOx.nD → PrngReg), Pre_DOx m →
    θ_run (Cert.DOx.defs (F := Bits)) (onTc (τ := Cert.DOx.τ) (Cert.DOx.main (F := Bits))) ⟨m, fun _ => 0, g⟩ (fun r => (∀ c : Dev Cert.DOx.nD,
      r.2.mem ((c.tc : Thread Cert.DOx.nD Cert.DOx.τ).loc Cert.DOx.main_arg0) = m ((c.tc : Thread Cert.DOx.nD Cert.DOx.τ).loc Cert.DOx.main_arg0)
      ∧ r.2.mem ((c.tc : Thread Cert.DOx.nD Cert.DOx.τ).loc Cert.DOx.main_arg1) = m ((c.tc : Thread Cert.DOx.nD Cert.DOx.τ).loc Cert.DOx.main_arg1)
      ∧ r.2.mem ((c.tc : Thread Cert.DOx.nD Cert.DOx.τ).loc Cert.DOx.main_arg2) = m ((c.tc : Thread Cert.DOx.nD Cert.DOx.τ).loc Cert.DOx.main_arg2))
      ∧ r.2.sem = fun _ => 0)

def quiescent_DOxIdeal [hDOxIdeal : Cert.DOxIdeal.Facts] : Prop :=
  ∀ (m : (ℓ : Loc Cert.DOxIdeal.nD Cert.DOxIdeal.τ Cert.DOxIdeal.sig) → Buf (Elt Ideal) ℓ) (g : Dev Cert.DOxIdeal.nD → PrngReg), Pre_DOxIdeal m →
    θ_run (Cert.DOxIdeal.defs (F := Ideal)) (onTc (τ := Cert.DOxIdeal.τ) (Cert.DOxIdeal.main (F := Ideal))) ⟨m, fun _ => 0, g⟩ (fun r => (∀ c : Dev Cert.DOxIdeal.nD,
      r.2.mem ((c.tc : Thread Cert.DOxIdeal.nD Cert.DOxIdeal.τ).loc Cert.DOxIdeal.main_arg0) = m ((c.tc : Thread Cert.DOxIdeal.nD Cert.DOxIdeal.τ).loc Cert.DOxIdeal.main_arg0)
      ∧ r.2.mem ((c.tc : Thread Cert.DOxIdeal.nD Cert.DOxIdeal.τ).loc Cert.DOxIdeal.main_arg1) = m ((c.tc : Thread Cert.DOxIdeal.nD Cert.DOxIdeal.τ).loc Cert.DOxIdeal.main_arg1)
      ∧ r.2.mem ((c.tc : Thread Cert.DOxIdeal.nD Cert.DOxIdeal.τ).loc Cert.DOxIdeal.main_arg2) = m ((c.tc : Thread Cert.DOxIdeal.nD Cert.DOxIdeal.τ).loc Cert.DOxIdeal.main_arg2))
      ∧ r.2.sem = fun _ => 0)

def quiescent_DOxRefIdeal [hDOxRefIdeal : Cert.DOxRefIdeal.Facts] : Prop :=
  ∀ (m : (ℓ : Loc Cert.DOxRefIdeal.nD Cert.DOxRefIdeal.τ Cert.DOxRefIdeal.sig) → Buf (Elt Ideal) ℓ) (g : Dev Cert.DOxRefIdeal.nD → PrngReg), Pre_DOxRefIdeal m →
    θ_run (Cert.DOxRefIdeal.defs (F := Ideal)) (onTc (τ := Cert.DOxRefIdeal.τ) (Cert.DOxRefIdeal.main (F := Ideal))) ⟨m, fun _ => 0, g⟩ (fun r => (∀ c : Dev Cert.DOxRefIdeal.nD,
      r.2.mem ((c.tc : Thread Cert.DOxRefIdeal.nD Cert.DOxRefIdeal.τ).loc Cert.DOxRefIdeal.main_arg0) = m ((c.tc : Thread Cert.DOxRefIdeal.nD Cert.DOxRefIdeal.τ).loc Cert.DOxRefIdeal.main_arg0)
      ∧ r.2.mem ((c.tc : Thread Cert.DOxRefIdeal.nD Cert.DOxRefIdeal.τ).loc Cert.DOxRefIdeal.main_arg1) = m ((c.tc : Thread Cert.DOxRefIdeal.nD Cert.DOxRefIdeal.τ).loc Cert.DOxRefIdeal.main_arg1)
      ∧ r.2.mem ((c.tc : Thread Cert.DOxRefIdeal.nD Cert.DOxRefIdeal.τ).loc Cert.DOxRefIdeal.main_arg2) = m ((c.tc : Thread Cert.DOxRefIdeal.nD Cert.DOxRefIdeal.τ).loc Cert.DOxRefIdeal.main_arg2))
      ∧ r.2.sem = fun _ => 0)

def quiescent_DwXo [hDwXo : Cert.DwXo.Facts] : Prop :=
  ∀ (m : (ℓ : Loc Cert.DwXo.nD Cert.DwXo.τ Cert.DwXo.sig) → Buf (Elt Bits) ℓ) (g : Dev Cert.DwXo.nD → PrngReg), Pre_DwXo m →
    θ_run (Cert.DwXo.defs (F := Bits)) (onTc (τ := Cert.DwXo.τ) (Cert.DwXo.main (F := Bits))) ⟨m, fun _ => 0, g⟩ (fun r => (∀ c : Dev Cert.DwXo.nD,
      r.2.mem ((c.tc : Thread Cert.DwXo.nD Cert.DwXo.τ).loc Cert.DwXo.main_arg0) = m ((c.tc : Thread Cert.DwXo.nD Cert.DwXo.τ).loc Cert.DwXo.main_arg0)
      ∧ r.2.mem ((c.tc : Thread Cert.DwXo.nD Cert.DwXo.τ).loc Cert.DwXo.main_arg1) = m ((c.tc : Thread Cert.DwXo.nD Cert.DwXo.τ).loc Cert.DwXo.main_arg1)
      ∧ r.2.mem ((c.tc : Thread Cert.DwXo.nD Cert.DwXo.τ).loc Cert.DwXo.main_arg2) = m ((c.tc : Thread Cert.DwXo.nD Cert.DwXo.τ).loc Cert.DwXo.main_arg2))
      ∧ r.2.sem = fun _ => 0)

def quiescent_DwXoIdeal [hDwXoIdeal : Cert.DwXoIdeal.Facts] : Prop :=
  ∀ (m : (ℓ : Loc Cert.DwXoIdeal.nD Cert.DwXoIdeal.τ Cert.DwXoIdeal.sig) → Buf (Elt Ideal) ℓ) (g : Dev Cert.DwXoIdeal.nD → PrngReg), Pre_DwXoIdeal m →
    θ_run (Cert.DwXoIdeal.defs (F := Ideal)) (onTc (τ := Cert.DwXoIdeal.τ) (Cert.DwXoIdeal.main (F := Ideal))) ⟨m, fun _ => 0, g⟩ (fun r => (∀ c : Dev Cert.DwXoIdeal.nD,
      r.2.mem ((c.tc : Thread Cert.DwXoIdeal.nD Cert.DwXoIdeal.τ).loc Cert.DwXoIdeal.main_arg0) = m ((c.tc : Thread Cert.DwXoIdeal.nD Cert.DwXoIdeal.τ).loc Cert.DwXoIdeal.main_arg0)
      ∧ r.2.mem ((c.tc : Thread Cert.DwXoIdeal.nD Cert.DwXoIdeal.τ).loc Cert.DwXoIdeal.main_arg1) = m ((c.tc : Thread Cert.DwXoIdeal.nD Cert.DwXoIdeal.τ).loc Cert.DwXoIdeal.main_arg1)
      ∧ r.2.mem ((c.tc : Thread Cert.DwXoIdeal.nD Cert.DwXoIdeal.τ).loc Cert.DwXoIdeal.main_arg2) = m ((c.tc : Thread Cert.DwXoIdeal.nD Cert.DwXoIdeal.τ).loc Cert.DwXoIdeal.main_arg2))
      ∧ r.2.sem = fun _ => 0)

def quiescent_DwXoRefIdeal [hDwXoRefIdeal : Cert.DwXoRefIdeal.Facts] : Prop :=
  ∀ (m : (ℓ : Loc Cert.DwXoRefIdeal.nD Cert.DwXoRefIdeal.τ Cert.DwXoRefIdeal.sig) → Buf (Elt Ideal) ℓ) (g : Dev Cert.DwXoRefIdeal.nD → PrngReg), Pre_DwXoRefIdeal m →
    θ_run (Cert.DwXoRefIdeal.defs (F := Ideal)) (onTc (τ := Cert.DwXoRefIdeal.τ) (Cert.DwXoRefIdeal.main (F := Ideal))) ⟨m, fun _ => 0, g⟩ (fun r => (∀ c : Dev Cert.DwXoRefIdeal.nD,
      r.2.mem ((c.tc : Thread Cert.DwXoRefIdeal.nD Cert.DwXoRefIdeal.τ).loc Cert.DwXoRefIdeal.main_arg0) = m ((c.tc : Thread Cert.DwXoRefIdeal.nD Cert.DwXoRefIdeal.τ).loc Cert.DwXoRefIdeal.main_arg0)
      ∧ r.2.mem ((c.tc : Thread Cert.DwXoRefIdeal.nD Cert.DwXoRefIdeal.τ).loc Cert.DwXoRefIdeal.main_arg1) = m ((c.tc : Thread Cert.DwXoRefIdeal.nD Cert.DwXoRefIdeal.τ).loc Cert.DwXoRefIdeal.main_arg1)
      ∧ r.2.mem ((c.tc : Thread Cert.DwXoRefIdeal.nD Cert.DwXoRefIdeal.τ).loc Cert.DwXoRefIdeal.main_arg2) = m ((c.tc : Thread Cert.DwXoRefIdeal.nD Cert.DwXoRefIdeal.τ).loc Cert.DwXoRefIdeal.main_arg2))
      ∧ r.2.sem = fun _ => 0)

def quiescent_DwXq [hDwXq : Cert.DwXq.Facts] : Prop :=
  ∀ (m : (ℓ : Loc Cert.DwXq.nD Cert.DwXq.τ Cert.DwXq.sig) → Buf (Elt Bits) ℓ) (g : Dev Cert.DwXq.nD → PrngReg), Pre_DwXq m →
    θ_run (Cert.DwXq.defs (F := Bits)) (onTc (τ := Cert.DwXq.τ) (Cert.DwXq.main (F := Bits))) ⟨m, fun _ => 0, g⟩ (fun r => (∀ c : Dev Cert.DwXq.nD,
      r.2.mem ((c.tc : Thread Cert.DwXq.nD Cert.DwXq.τ).loc Cert.DwXq.main_arg0) = m ((c.tc : Thread Cert.DwXq.nD Cert.DwXq.τ).loc Cert.DwXq.main_arg0)
      ∧ r.2.mem ((c.tc : Thread Cert.DwXq.nD Cert.DwXq.τ).loc Cert.DwXq.main_arg1) = m ((c.tc : Thread Cert.DwXq.nD Cert.DwXq.τ).loc Cert.DwXq.main_arg1)
      ∧ r.2.mem ((c.tc : Thread Cert.DwXq.nD Cert.DwXq.τ).loc Cert.DwXq.main_arg2) = m ((c.tc : Thread Cert.DwXq.nD Cert.DwXq.τ).loc Cert.DwXq.main_arg2))
      ∧ r.2.sem = fun _ => 0)

def quiescent_DwXqIdeal [hDwXqIdeal : Cert.DwXqIdeal.Facts] : Prop :=
  ∀ (m : (ℓ : Loc Cert.DwXqIdeal.nD Cert.DwXqIdeal.τ Cert.DwXqIdeal.sig) → Buf (Elt Ideal) ℓ) (g : Dev Cert.DwXqIdeal.nD → PrngReg), Pre_DwXqIdeal m →
    θ_run (Cert.DwXqIdeal.defs (F := Ideal)) (onTc (τ := Cert.DwXqIdeal.τ) (Cert.DwXqIdeal.main (F := Ideal))) ⟨m, fun _ => 0, g⟩ (fun r => (∀ c : Dev Cert.DwXqIdeal.nD,
      r.2.mem ((c.tc : Thread Cert.DwXqIdeal.nD Cert.DwXqIdeal.τ).loc Cert.DwXqIdeal.main_arg0) = m ((c.tc : Thread Cert.DwXqIdeal.nD Cert.DwXqIdeal.τ).loc Cert.DwXqIdeal.main_arg0)
      ∧ r.2.mem ((c.tc : Thread Cert.DwXqIdeal.nD Cert.DwXqIdeal.τ).loc Cert.DwXqIdeal.main_arg1) = m ((c.tc : Thread Cert.DwXqIdeal.nD Cert.DwXqIdeal.τ).loc Cert.DwXqIdeal.main_arg1)
      ∧ r.2.mem ((c.tc : Thread Cert.DwXqIdeal.nD Cert.DwXqIdeal.τ).loc Cert.DwXqIdeal.main_arg2) = m ((c.tc : Thread Cert.DwXqIdeal.nD Cert.DwXqIdeal.τ).loc Cert.DwXqIdeal.main_arg2))
      ∧ r.2.sem = fun _ => 0)

def quiescent_DwXqRefIdeal [hDwXqRefIdeal : Cert.DwXqRefIdeal.Facts] : Prop :=
  ∀ (m : (ℓ : Loc Cert.DwXqRefIdeal.nD Cert.DwXqRefIdeal.τ Cert.DwXqRefIdeal.sig) → Buf (Elt Ideal) ℓ) (g : Dev Cert.DwXqRefIdeal.nD → PrngReg), Pre_DwXqRefIdeal m →
    θ_run (Cert.DwXqRefIdeal.defs (F := Ideal)) (onTc (τ := Cert.DwXqRefIdeal.τ) (Cert.DwXqRefIdeal.main (F := Ideal))) ⟨m, fun _ => 0, g⟩ (fun r => (∀ c : Dev Cert.DwXqRefIdeal.nD,
      r.2.mem ((c.tc : Thread Cert.DwXqRefIdeal.nD Cert.DwXqRefIdeal.τ).loc Cert.DwXqRefIdeal.main_arg0) = m ((c.tc : Thread Cert.DwXqRefIdeal.nD Cert.DwXqRefIdeal.τ).loc Cert.DwXqRefIdeal.main_arg0)
      ∧ r.2.mem ((c.tc : Thread Cert.DwXqRefIdeal.nD Cert.DwXqRefIdeal.τ).loc Cert.DwXqRefIdeal.main_arg1) = m ((c.tc : Thread Cert.DwXqRefIdeal.nD Cert.DwXqRefIdeal.τ).loc Cert.DwXqRefIdeal.main_arg1)
      ∧ r.2.mem ((c.tc : Thread Cert.DwXqRefIdeal.nD Cert.DwXqRefIdeal.τ).loc Cert.DwXqRefIdeal.main_arg2) = m ((c.tc : Thread Cert.DwXqRefIdeal.nD Cert.DwXqRefIdeal.τ).loc Cert.DwXqRefIdeal.main_arg2))
      ∧ r.2.sem = fun _ => 0)

def quiescent_DwXkv [hDwXkv : Cert.DwXkv.Facts] : Prop :=
  ∀ (m : (ℓ : Loc Cert.DwXkv.nD Cert.DwXkv.τ Cert.DwXkv.sig) → Buf (Elt Bits) ℓ) (g : Dev Cert.DwXkv.nD → PrngReg), Pre_DwXkv m →
    θ_run (Cert.DwXkv.defs (F := Bits)) (onTc (τ := Cert.DwXkv.τ) (Cert.DwXkv.main (F := Bits))) ⟨m, fun _ => 0, g⟩ (fun r => (∀ c : Dev Cert.DwXkv.nD,
      r.2.mem ((c.tc : Thread Cert.DwXkv.nD Cert.DwXkv.τ).loc Cert.DwXkv.main_arg0) = m ((c.tc : Thread Cert.DwXkv.nD Cert.DwXkv.τ).loc Cert.DwXkv.main_arg0)
      ∧ r.2.mem ((c.tc : Thread Cert.DwXkv.nD Cert.DwXkv.τ).loc Cert.DwXkv.main_arg1) = m ((c.tc : Thread Cert.DwXkv.nD Cert.DwXkv.τ).loc Cert.DwXkv.main_arg1)
      ∧ r.2.mem ((c.tc : Thread Cert.DwXkv.nD Cert.DwXkv.τ).loc Cert.DwXkv.main_arg2) = m ((c.tc : Thread Cert.DwXkv.nD Cert.DwXkv.τ).loc Cert.DwXkv.main_arg2))
      ∧ r.2.sem = fun _ => 0)

def quiescent_DwXkvIdeal [hDwXkvIdeal : Cert.DwXkvIdeal.Facts] : Prop :=
  ∀ (m : (ℓ : Loc Cert.DwXkvIdeal.nD Cert.DwXkvIdeal.τ Cert.DwXkvIdeal.sig) → Buf (Elt Ideal) ℓ) (g : Dev Cert.DwXkvIdeal.nD → PrngReg), Pre_DwXkvIdeal m →
    θ_run (Cert.DwXkvIdeal.defs (F := Ideal)) (onTc (τ := Cert.DwXkvIdeal.τ) (Cert.DwXkvIdeal.main (F := Ideal))) ⟨m, fun _ => 0, g⟩ (fun r => (∀ c : Dev Cert.DwXkvIdeal.nD,
      r.2.mem ((c.tc : Thread Cert.DwXkvIdeal.nD Cert.DwXkvIdeal.τ).loc Cert.DwXkvIdeal.main_arg0) = m ((c.tc : Thread Cert.DwXkvIdeal.nD Cert.DwXkvIdeal.τ).loc Cert.DwXkvIdeal.main_arg0)
      ∧ r.2.mem ((c.tc : Thread Cert.DwXkvIdeal.nD Cert.DwXkvIdeal.τ).loc Cert.DwXkvIdeal.main_arg1) = m ((c.tc : Thread Cert.DwXkvIdeal.nD Cert.DwXkvIdeal.τ).loc Cert.DwXkvIdeal.main_arg1)
      ∧ r.2.mem ((c.tc : Thread Cert.DwXkvIdeal.nD Cert.DwXkvIdeal.τ).loc Cert.DwXkvIdeal.main_arg2) = m ((c.tc : Thread Cert.DwXkvIdeal.nD Cert.DwXkvIdeal.τ).loc Cert.DwXkvIdeal.main_arg2))
      ∧ r.2.sem = fun _ => 0)

def quiescent_DwXkvRefIdeal [hDwXkvRefIdeal : Cert.DwXkvRefIdeal.Facts] : Prop :=
  ∀ (m : (ℓ : Loc Cert.DwXkvRefIdeal.nD Cert.DwXkvRefIdeal.τ Cert.DwXkvRefIdeal.sig) → Buf (Elt Ideal) ℓ) (g : Dev Cert.DwXkvRefIdeal.nD → PrngReg), Pre_DwXkvRefIdeal m →
    θ_run (Cert.DwXkvRefIdeal.defs (F := Ideal)) (onTc (τ := Cert.DwXkvRefIdeal.τ) (Cert.DwXkvRefIdeal.main (F := Ideal))) ⟨m, fun _ => 0, g⟩ (fun r => (∀ c : Dev Cert.DwXkvRefIdeal.nD,
      r.2.mem ((c.tc : Thread Cert.DwXkvRefIdeal.nD Cert.DwXkvRefIdeal.τ).loc Cert.DwXkvRefIdeal.main_arg0) = m ((c.tc : Thread Cert.DwXkvRefIdeal.nD Cert.DwXkvRefIdeal.τ).loc Cert.DwXkvRefIdeal.main_arg0)
      ∧ r.2.mem ((c.tc : Thread Cert.DwXkvRefIdeal.nD Cert.DwXkvRefIdeal.τ).loc Cert.DwXkvRefIdeal.main_arg1) = m ((c.tc : Thread Cert.DwXkvRefIdeal.nD Cert.DwXkvRefIdeal.τ).loc Cert.DwXkvRefIdeal.main_arg1)
      ∧ r.2.mem ((c.tc : Thread Cert.DwXkvRefIdeal.nD Cert.DwXkvRefIdeal.τ).loc Cert.DwXkvRefIdeal.main_arg2) = m ((c.tc : Thread Cert.DwXkvRefIdeal.nD Cert.DwXkvRefIdeal.τ).loc Cert.DwXkvRefIdeal.main_arg2))
      ∧ r.2.sem = fun _ => 0)

def quiescent_DMemn [hDMemn : Cert.DMemn.Facts] : Prop :=
  ∀ (m : (ℓ : Loc Cert.DMemn.nD Cert.DMemn.τ Cert.DMemn.sig) → Buf (Elt Bits) ℓ) (g : Dev Cert.DMemn.nD → PrngReg), Pre_DMemn m →
    θ_run (Cert.DMemn.defs (F := Bits)) (onTc (τ := Cert.DMemn.τ) (Cert.DMemn.main (F := Bits))) ⟨m, fun _ => 0, g⟩ (fun r => (∀ c : Dev Cert.DMemn.nD,
      r.2.mem ((c.tc : Thread Cert.DMemn.nD Cert.DMemn.τ).loc Cert.DMemn.main_arg0) = m ((c.tc : Thread Cert.DMemn.nD Cert.DMemn.τ).loc Cert.DMemn.main_arg0)
      ∧ r.2.mem ((c.tc : Thread Cert.DMemn.nD Cert.DMemn.τ).loc Cert.DMemn.main_arg1) = m ((c.tc : Thread Cert.DMemn.nD Cert.DMemn.τ).loc Cert.DMemn.main_arg1)
      ∧ r.2.mem ((c.tc : Thread Cert.DMemn.nD Cert.DMemn.τ).loc Cert.DMemn.main_arg2) = m ((c.tc : Thread Cert.DMemn.nD Cert.DMemn.τ).loc Cert.DMemn.main_arg2))
      ∧ r.2.sem = fun _ => 0)

def quiescent_DMemnIdeal [hDMemnIdeal : Cert.DMemnIdeal.Facts] : Prop :=
  ∀ (m : (ℓ : Loc Cert.DMemnIdeal.nD Cert.DMemnIdeal.τ Cert.DMemnIdeal.sig) → Buf (Elt Ideal) ℓ) (g : Dev Cert.DMemnIdeal.nD → PrngReg), Pre_DMemnIdeal m →
    θ_run (Cert.DMemnIdeal.defs (F := Ideal)) (onTc (τ := Cert.DMemnIdeal.τ) (Cert.DMemnIdeal.main (F := Ideal))) ⟨m, fun _ => 0, g⟩ (fun r => (∀ c : Dev Cert.DMemnIdeal.nD,
      r.2.mem ((c.tc : Thread Cert.DMemnIdeal.nD Cert.DMemnIdeal.τ).loc Cert.DMemnIdeal.main_arg0) = m ((c.tc : Thread Cert.DMemnIdeal.nD Cert.DMemnIdeal.τ).loc Cert.DMemnIdeal.main_arg0)
      ∧ r.2.mem ((c.tc : Thread Cert.DMemnIdeal.nD Cert.DMemnIdeal.τ).loc Cert.DMemnIdeal.main_arg1) = m ((c.tc : Thread Cert.DMemnIdeal.nD Cert.DMemnIdeal.τ).loc Cert.DMemnIdeal.main_arg1)
      ∧ r.2.mem ((c.tc : Thread Cert.DMemnIdeal.nD Cert.DMemnIdeal.τ).loc Cert.DMemnIdeal.main_arg2) = m ((c.tc : Thread Cert.DMemnIdeal.nD Cert.DMemnIdeal.τ).loc Cert.DMemnIdeal.main_arg2))
      ∧ r.2.sem = fun _ => 0)

def quiescent_DMemnRefIdeal [hDMemnRefIdeal : Cert.DMemnRefIdeal.Facts] : Prop :=
  ∀ (m : (ℓ : Loc Cert.DMemnRefIdeal.nD Cert.DMemnRefIdeal.τ Cert.DMemnRefIdeal.sig) → Buf (Elt Ideal) ℓ) (g : Dev Cert.DMemnRefIdeal.nD → PrngReg), Pre_DMemnRefIdeal m →
    θ_run (Cert.DMemnRefIdeal.defs (F := Ideal)) (onTc (τ := Cert.DMemnRefIdeal.τ) (Cert.DMemnRefIdeal.main (F := Ideal))) ⟨m, fun _ => 0, g⟩ (fun r => (∀ c : Dev Cert.DMemnRefIdeal.nD,
      r.2.mem ((c.tc : Thread Cert.DMemnRefIdeal.nD Cert.DMemnRefIdeal.τ).loc Cert.DMemnRefIdeal.main_arg0) = m ((c.tc : Thread Cert.DMemnRefIdeal.nD Cert.DMemnRefIdeal.τ).loc Cert.DMemnRefIdeal.main_arg0)
      ∧ r.2.mem ((c.tc : Thread Cert.DMemnRefIdeal.nD Cert.DMemnRefIdeal.τ).loc Cert.DMemnRefIdeal.main_arg1) = m ((c.tc : Thread Cert.DMemnRefIdeal.nD Cert.DMemnRefIdeal.τ).loc Cert.DMemnRefIdeal.main_arg1)
      ∧ r.2.mem ((c.tc : Thread Cert.DMemnRefIdeal.nD Cert.DMemnRefIdeal.τ).loc Cert.DMemnRefIdeal.main_arg2) = m ((c.tc : Thread Cert.DMemnRefIdeal.nD Cert.DMemnRefIdeal.τ).loc Cert.DMemnRefIdeal.main_arg2))
      ∧ r.2.sem = fun _ => 0)

def quiescent_DYnSsm [hDYnSsm : Cert.DYnSsm.Facts] : Prop :=
  ∀ (m : (ℓ : Loc Cert.DYnSsm.nD Cert.DYnSsm.τ Cert.DYnSsm.sig) → Buf (Elt Bits) ℓ) (g : Dev Cert.DYnSsm.nD → PrngReg), Pre_DYnSsm m →
    θ_run (Cert.DYnSsm.defs (F := Bits)) (onTc (τ := Cert.DYnSsm.τ) (Cert.DYnSsm.main (F := Bits))) ⟨m, fun _ => 0, g⟩ (fun r => (∀ c : Dev Cert.DYnSsm.nD,
      r.2.mem ((c.tc : Thread Cert.DYnSsm.nD Cert.DYnSsm.τ).loc Cert.DYnSsm.main_arg0) = m ((c.tc : Thread Cert.DYnSsm.nD Cert.DYnSsm.τ).loc Cert.DYnSsm.main_arg0)
      ∧ r.2.mem ((c.tc : Thread Cert.DYnSsm.nD Cert.DYnSsm.τ).loc Cert.DYnSsm.main_arg1) = m ((c.tc : Thread Cert.DYnSsm.nD Cert.DYnSsm.τ).loc Cert.DYnSsm.main_arg1)
      ∧ r.2.mem ((c.tc : Thread Cert.DYnSsm.nD Cert.DYnSsm.τ).loc Cert.DYnSsm.main_arg2) = m ((c.tc : Thread Cert.DYnSsm.nD Cert.DYnSsm.τ).loc Cert.DYnSsm.main_arg2))
      ∧ r.2.sem = fun _ => 0)

def quiescent_DYnSsmIdeal [hDYnSsmIdeal : Cert.DYnSsmIdeal.Facts] : Prop :=
  ∀ (m : (ℓ : Loc Cert.DYnSsmIdeal.nD Cert.DYnSsmIdeal.τ Cert.DYnSsmIdeal.sig) → Buf (Elt Ideal) ℓ) (g : Dev Cert.DYnSsmIdeal.nD → PrngReg), Pre_DYnSsmIdeal m →
    θ_run (Cert.DYnSsmIdeal.defs (F := Ideal)) (onTc (τ := Cert.DYnSsmIdeal.τ) (Cert.DYnSsmIdeal.main (F := Ideal))) ⟨m, fun _ => 0, g⟩ (fun r => (∀ c : Dev Cert.DYnSsmIdeal.nD,
      r.2.mem ((c.tc : Thread Cert.DYnSsmIdeal.nD Cert.DYnSsmIdeal.τ).loc Cert.DYnSsmIdeal.main_arg0) = m ((c.tc : Thread Cert.DYnSsmIdeal.nD Cert.DYnSsmIdeal.τ).loc Cert.DYnSsmIdeal.main_arg0)
      ∧ r.2.mem ((c.tc : Thread Cert.DYnSsmIdeal.nD Cert.DYnSsmIdeal.τ).loc Cert.DYnSsmIdeal.main_arg1) = m ((c.tc : Thread Cert.DYnSsmIdeal.nD Cert.DYnSsmIdeal.τ).loc Cert.DYnSsmIdeal.main_arg1)
      ∧ r.2.mem ((c.tc : Thread Cert.DYnSsmIdeal.nD Cert.DYnSsmIdeal.τ).loc Cert.DYnSsmIdeal.main_arg2) = m ((c.tc : Thread Cert.DYnSsmIdeal.nD Cert.DYnSsmIdeal.τ).loc Cert.DYnSsmIdeal.main_arg2))
      ∧ r.2.sem = fun _ => 0)

def quiescent_DYnSsmRefIdeal [hDYnSsmRefIdeal : Cert.DYnSsmRefIdeal.Facts] : Prop :=
  ∀ (m : (ℓ : Loc Cert.DYnSsmRefIdeal.nD Cert.DYnSsmRefIdeal.τ Cert.DYnSsmRefIdeal.sig) → Buf (Elt Ideal) ℓ) (g : Dev Cert.DYnSsmRefIdeal.nD → PrngReg), Pre_DYnSsmRefIdeal m →
    θ_run (Cert.DYnSsmRefIdeal.defs (F := Ideal)) (onTc (τ := Cert.DYnSsmRefIdeal.τ) (Cert.DYnSsmRefIdeal.main (F := Ideal))) ⟨m, fun _ => 0, g⟩ (fun r => (∀ c : Dev Cert.DYnSsmRefIdeal.nD,
      r.2.mem ((c.tc : Thread Cert.DYnSsmRefIdeal.nD Cert.DYnSsmRefIdeal.τ).loc Cert.DYnSsmRefIdeal.main_arg0) = m ((c.tc : Thread Cert.DYnSsmRefIdeal.nD Cert.DYnSsmRefIdeal.τ).loc Cert.DYnSsmRefIdeal.main_arg0)
      ∧ r.2.mem ((c.tc : Thread Cert.DYnSsmRefIdeal.nD Cert.DYnSsmRefIdeal.τ).loc Cert.DYnSsmRefIdeal.main_arg1) = m ((c.tc : Thread Cert.DYnSsmRefIdeal.nD Cert.DYnSsmRefIdeal.τ).loc Cert.DYnSsmRefIdeal.main_arg1)
      ∧ r.2.mem ((c.tc : Thread Cert.DYnSsmRefIdeal.nD Cert.DYnSsmRefIdeal.τ).loc Cert.DYnSsmRefIdeal.main_arg2) = m ((c.tc : Thread Cert.DYnSsmRefIdeal.nD Cert.DYnSsmRefIdeal.τ).loc Cert.DYnSsmRefIdeal.main_arg2))
      ∧ r.2.sem = fun _ => 0)

def quiescent_DwOutSsm [hDwOutSsm : Cert.DwOutSsm.Facts] : Prop :=
  ∀ (m : (ℓ : Loc Cert.DwOutSsm.nD Cert.DwOutSsm.τ Cert.DwOutSsm.sig) → Buf (Elt Bits) ℓ) (g : Dev Cert.DwOutSsm.nD → PrngReg), Pre_DwOutSsm m →
    θ_run (Cert.DwOutSsm.defs (F := Bits)) (onTc (τ := Cert.DwOutSsm.τ) (Cert.DwOutSsm.main (F := Bits))) ⟨m, fun _ => 0, g⟩ (fun r => (∀ c : Dev Cert.DwOutSsm.nD,
      r.2.mem ((c.tc : Thread Cert.DwOutSsm.nD Cert.DwOutSsm.τ).loc Cert.DwOutSsm.main_arg0) = m ((c.tc : Thread Cert.DwOutSsm.nD Cert.DwOutSsm.τ).loc Cert.DwOutSsm.main_arg0)
      ∧ r.2.mem ((c.tc : Thread Cert.DwOutSsm.nD Cert.DwOutSsm.τ).loc Cert.DwOutSsm.main_arg1) = m ((c.tc : Thread Cert.DwOutSsm.nD Cert.DwOutSsm.τ).loc Cert.DwOutSsm.main_arg1)
      ∧ r.2.mem ((c.tc : Thread Cert.DwOutSsm.nD Cert.DwOutSsm.τ).loc Cert.DwOutSsm.main_arg2) = m ((c.tc : Thread Cert.DwOutSsm.nD Cert.DwOutSsm.τ).loc Cert.DwOutSsm.main_arg2))
      ∧ r.2.sem = fun _ => 0)

def quiescent_DwOutSsmIdeal [hDwOutSsmIdeal : Cert.DwOutSsmIdeal.Facts] : Prop :=
  ∀ (m : (ℓ : Loc Cert.DwOutSsmIdeal.nD Cert.DwOutSsmIdeal.τ Cert.DwOutSsmIdeal.sig) → Buf (Elt Ideal) ℓ) (g : Dev Cert.DwOutSsmIdeal.nD → PrngReg), Pre_DwOutSsmIdeal m →
    θ_run (Cert.DwOutSsmIdeal.defs (F := Ideal)) (onTc (τ := Cert.DwOutSsmIdeal.τ) (Cert.DwOutSsmIdeal.main (F := Ideal))) ⟨m, fun _ => 0, g⟩ (fun r => (∀ c : Dev Cert.DwOutSsmIdeal.nD,
      r.2.mem ((c.tc : Thread Cert.DwOutSsmIdeal.nD Cert.DwOutSsmIdeal.τ).loc Cert.DwOutSsmIdeal.main_arg0) = m ((c.tc : Thread Cert.DwOutSsmIdeal.nD Cert.DwOutSsmIdeal.τ).loc Cert.DwOutSsmIdeal.main_arg0)
      ∧ r.2.mem ((c.tc : Thread Cert.DwOutSsmIdeal.nD Cert.DwOutSsmIdeal.τ).loc Cert.DwOutSsmIdeal.main_arg1) = m ((c.tc : Thread Cert.DwOutSsmIdeal.nD Cert.DwOutSsmIdeal.τ).loc Cert.DwOutSsmIdeal.main_arg1)
      ∧ r.2.mem ((c.tc : Thread Cert.DwOutSsmIdeal.nD Cert.DwOutSsmIdeal.τ).loc Cert.DwOutSsmIdeal.main_arg2) = m ((c.tc : Thread Cert.DwOutSsmIdeal.nD Cert.DwOutSsmIdeal.τ).loc Cert.DwOutSsmIdeal.main_arg2))
      ∧ r.2.sem = fun _ => 0)

def quiescent_DwOutSsmRefIdeal [hDwOutSsmRefIdeal : Cert.DwOutSsmRefIdeal.Facts] : Prop :=
  ∀ (m : (ℓ : Loc Cert.DwOutSsmRefIdeal.nD Cert.DwOutSsmRefIdeal.τ Cert.DwOutSsmRefIdeal.sig) → Buf (Elt Ideal) ℓ) (g : Dev Cert.DwOutSsmRefIdeal.nD → PrngReg), Pre_DwOutSsmRefIdeal m →
    θ_run (Cert.DwOutSsmRefIdeal.defs (F := Ideal)) (onTc (τ := Cert.DwOutSsmRefIdeal.τ) (Cert.DwOutSsmRefIdeal.main (F := Ideal))) ⟨m, fun _ => 0, g⟩ (fun r => (∀ c : Dev Cert.DwOutSsmRefIdeal.nD,
      r.2.mem ((c.tc : Thread Cert.DwOutSsmRefIdeal.nD Cert.DwOutSsmRefIdeal.τ).loc Cert.DwOutSsmRefIdeal.main_arg0) = m ((c.tc : Thread Cert.DwOutSsmRefIdeal.nD Cert.DwOutSsmRefIdeal.τ).loc Cert.DwOutSsmRefIdeal.main_arg0)
      ∧ r.2.mem ((c.tc : Thread Cert.DwOutSsmRefIdeal.nD Cert.DwOutSsmRefIdeal.τ).loc Cert.DwOutSsmRefIdeal.main_arg1) = m ((c.tc : Thread Cert.DwOutSsmRefIdeal.nD Cert.DwOutSsmRefIdeal.τ).loc Cert.DwOutSsmRefIdeal.main_arg1)
      ∧ r.2.mem ((c.tc : Thread Cert.DwOutSsmRefIdeal.nD Cert.DwOutSsmRefIdeal.τ).loc Cert.DwOutSsmRefIdeal.main_arg2) = m ((c.tc : Thread Cert.DwOutSsmRefIdeal.nD Cert.DwOutSsmRefIdeal.τ).loc Cert.DwOutSsmRefIdeal.main_arg2))
      ∧ r.2.sem = fun _ => 0)

def quiescent_DwU [hDwU : Cert.DwU.Facts] : Prop :=
  ∀ (m : (ℓ : Loc Cert.DwU.nD Cert.DwU.τ Cert.DwU.sig) → Buf (Elt Bits) ℓ) (g : Dev Cert.DwU.nD → PrngReg), Pre_DwU m →
    θ_run (Cert.DwU.defs (F := Bits)) (onTc (τ := Cert.DwU.τ) (Cert.DwU.main (F := Bits))) ⟨m, fun _ => 0, g⟩ (fun r => (∀ c : Dev Cert.DwU.nD,
      r.2.mem ((c.tc : Thread Cert.DwU.nD Cert.DwU.τ).loc Cert.DwU.main_arg0) = m ((c.tc : Thread Cert.DwU.nD Cert.DwU.τ).loc Cert.DwU.main_arg0)
      ∧ r.2.mem ((c.tc : Thread Cert.DwU.nD Cert.DwU.τ).loc Cert.DwU.main_arg1) = m ((c.tc : Thread Cert.DwU.nD Cert.DwU.τ).loc Cert.DwU.main_arg1)
      ∧ r.2.mem ((c.tc : Thread Cert.DwU.nD Cert.DwU.τ).loc Cert.DwU.main_arg2) = m ((c.tc : Thread Cert.DwU.nD Cert.DwU.τ).loc Cert.DwU.main_arg2))
      ∧ r.2.sem = fun _ => 0)

def quiescent_DwUIdeal [hDwUIdeal : Cert.DwUIdeal.Facts] : Prop :=
  ∀ (m : (ℓ : Loc Cert.DwUIdeal.nD Cert.DwUIdeal.τ Cert.DwUIdeal.sig) → Buf (Elt Ideal) ℓ) (g : Dev Cert.DwUIdeal.nD → PrngReg), Pre_DwUIdeal m →
    θ_run (Cert.DwUIdeal.defs (F := Ideal)) (onTc (τ := Cert.DwUIdeal.τ) (Cert.DwUIdeal.main (F := Ideal))) ⟨m, fun _ => 0, g⟩ (fun r => (∀ c : Dev Cert.DwUIdeal.nD,
      r.2.mem ((c.tc : Thread Cert.DwUIdeal.nD Cert.DwUIdeal.τ).loc Cert.DwUIdeal.main_arg0) = m ((c.tc : Thread Cert.DwUIdeal.nD Cert.DwUIdeal.τ).loc Cert.DwUIdeal.main_arg0)
      ∧ r.2.mem ((c.tc : Thread Cert.DwUIdeal.nD Cert.DwUIdeal.τ).loc Cert.DwUIdeal.main_arg1) = m ((c.tc : Thread Cert.DwUIdeal.nD Cert.DwUIdeal.τ).loc Cert.DwUIdeal.main_arg1)
      ∧ r.2.mem ((c.tc : Thread Cert.DwUIdeal.nD Cert.DwUIdeal.τ).loc Cert.DwUIdeal.main_arg2) = m ((c.tc : Thread Cert.DwUIdeal.nD Cert.DwUIdeal.τ).loc Cert.DwUIdeal.main_arg2))
      ∧ r.2.sem = fun _ => 0)

def quiescent_DwURefIdeal [hDwURefIdeal : Cert.DwURefIdeal.Facts] : Prop :=
  ∀ (m : (ℓ : Loc Cert.DwURefIdeal.nD Cert.DwURefIdeal.τ Cert.DwURefIdeal.sig) → Buf (Elt Ideal) ℓ) (g : Dev Cert.DwURefIdeal.nD → PrngReg), Pre_DwURefIdeal m →
    θ_run (Cert.DwURefIdeal.defs (F := Ideal)) (onTc (τ := Cert.DwURefIdeal.τ) (Cert.DwURefIdeal.main (F := Ideal))) ⟨m, fun _ => 0, g⟩ (fun r => (∀ c : Dev Cert.DwURefIdeal.nD,
      r.2.mem ((c.tc : Thread Cert.DwURefIdeal.nD Cert.DwURefIdeal.τ).loc Cert.DwURefIdeal.main_arg0) = m ((c.tc : Thread Cert.DwURefIdeal.nD Cert.DwURefIdeal.τ).loc Cert.DwURefIdeal.main_arg0)
      ∧ r.2.mem ((c.tc : Thread Cert.DwURefIdeal.nD Cert.DwURefIdeal.τ).loc Cert.DwURefIdeal.main_arg1) = m ((c.tc : Thread Cert.DwURefIdeal.nD Cert.DwURefIdeal.τ).loc Cert.DwURefIdeal.main_arg1)
      ∧ r.2.mem ((c.tc : Thread Cert.DwURefIdeal.nD Cert.DwURefIdeal.τ).loc Cert.DwURefIdeal.main_arg2) = m ((c.tc : Thread Cert.DwURefIdeal.nD Cert.DwURefIdeal.τ).loc Cert.DwURefIdeal.main_arg2))
      ∧ r.2.sem = fun _ => 0)

def quiescent_DH0U [hDH0U : Cert.DH0U.Facts] : Prop :=
  ∀ (m : (ℓ : Loc Cert.DH0U.nD Cert.DH0U.τ Cert.DH0U.sig) → Buf (Elt Bits) ℓ) (g : Dev Cert.DH0U.nD → PrngReg), Pre_DH0U m →
    θ_run (Cert.DH0U.defs (F := Bits)) (onTc (τ := Cert.DH0U.τ) (Cert.DH0U.main (F := Bits))) ⟨m, fun _ => 0, g⟩ (fun r => (∀ c : Dev Cert.DH0U.nD,
      r.2.mem ((c.tc : Thread Cert.DH0U.nD Cert.DH0U.τ).loc Cert.DH0U.main_arg0) = m ((c.tc : Thread Cert.DH0U.nD Cert.DH0U.τ).loc Cert.DH0U.main_arg0)
      ∧ r.2.mem ((c.tc : Thread Cert.DH0U.nD Cert.DH0U.τ).loc Cert.DH0U.main_arg1) = m ((c.tc : Thread Cert.DH0U.nD Cert.DH0U.τ).loc Cert.DH0U.main_arg1)
      ∧ r.2.mem ((c.tc : Thread Cert.DH0U.nD Cert.DH0U.τ).loc Cert.DH0U.main_arg2) = m ((c.tc : Thread Cert.DH0U.nD Cert.DH0U.τ).loc Cert.DH0U.main_arg2))
      ∧ r.2.sem = fun _ => 0)

def quiescent_DH0UIdeal [hDH0UIdeal : Cert.DH0UIdeal.Facts] : Prop :=
  ∀ (m : (ℓ : Loc Cert.DH0UIdeal.nD Cert.DH0UIdeal.τ Cert.DH0UIdeal.sig) → Buf (Elt Ideal) ℓ) (g : Dev Cert.DH0UIdeal.nD → PrngReg), Pre_DH0UIdeal m →
    θ_run (Cert.DH0UIdeal.defs (F := Ideal)) (onTc (τ := Cert.DH0UIdeal.τ) (Cert.DH0UIdeal.main (F := Ideal))) ⟨m, fun _ => 0, g⟩ (fun r => (∀ c : Dev Cert.DH0UIdeal.nD,
      r.2.mem ((c.tc : Thread Cert.DH0UIdeal.nD Cert.DH0UIdeal.τ).loc Cert.DH0UIdeal.main_arg0) = m ((c.tc : Thread Cert.DH0UIdeal.nD Cert.DH0UIdeal.τ).loc Cert.DH0UIdeal.main_arg0)
      ∧ r.2.mem ((c.tc : Thread Cert.DH0UIdeal.nD Cert.DH0UIdeal.τ).loc Cert.DH0UIdeal.main_arg1) = m ((c.tc : Thread Cert.DH0UIdeal.nD Cert.DH0UIdeal.τ).loc Cert.DH0UIdeal.main_arg1)
      ∧ r.2.mem ((c.tc : Thread Cert.DH0UIdeal.nD Cert.DH0UIdeal.τ).loc Cert.DH0UIdeal.main_arg2) = m ((c.tc : Thread Cert.DH0UIdeal.nD Cert.DH0UIdeal.τ).loc Cert.DH0UIdeal.main_arg2))
      ∧ r.2.sem = fun _ => 0)

def quiescent_DH0URefIdeal [hDH0URefIdeal : Cert.DH0URefIdeal.Facts] : Prop :=
  ∀ (m : (ℓ : Loc Cert.DH0URefIdeal.nD Cert.DH0URefIdeal.τ Cert.DH0URefIdeal.sig) → Buf (Elt Ideal) ℓ) (g : Dev Cert.DH0URefIdeal.nD → PrngReg), Pre_DH0URefIdeal m →
    θ_run (Cert.DH0URefIdeal.defs (F := Ideal)) (onTc (τ := Cert.DH0URefIdeal.τ) (Cert.DH0URefIdeal.main (F := Ideal))) ⟨m, fun _ => 0, g⟩ (fun r => (∀ c : Dev Cert.DH0URefIdeal.nD,
      r.2.mem ((c.tc : Thread Cert.DH0URefIdeal.nD Cert.DH0URefIdeal.τ).loc Cert.DH0URefIdeal.main_arg0) = m ((c.tc : Thread Cert.DH0URefIdeal.nD Cert.DH0URefIdeal.τ).loc Cert.DH0URefIdeal.main_arg0)
      ∧ r.2.mem ((c.tc : Thread Cert.DH0URefIdeal.nD Cert.DH0URefIdeal.τ).loc Cert.DH0URefIdeal.main_arg1) = m ((c.tc : Thread Cert.DH0URefIdeal.nD Cert.DH0URefIdeal.τ).loc Cert.DH0URefIdeal.main_arg1)
      ∧ r.2.mem ((c.tc : Thread Cert.DH0URefIdeal.nD Cert.DH0URefIdeal.τ).loc Cert.DH0URefIdeal.main_arg2) = m ((c.tc : Thread Cert.DH0URefIdeal.nD Cert.DH0URefIdeal.τ).loc Cert.DH0URefIdeal.main_arg2))
      ∧ r.2.sem = fun _ => 0)

def quiescent_ProjU [hProjU : Cert.ProjU.Facts] : Prop :=
  ∀ (m : (ℓ : Loc Cert.ProjU.nD Cert.ProjU.τ Cert.ProjU.sig) → Buf (Elt Bits) ℓ) (g : Dev Cert.ProjU.nD → PrngReg), Pre_ProjU m →
    θ_run (Cert.ProjU.defs (F := Bits)) (onTc (τ := Cert.ProjU.τ) (Cert.ProjU.main (F := Bits))) ⟨m, fun _ => 0, g⟩ (fun r => (∀ c : Dev Cert.ProjU.nD,
      r.2.mem ((c.tc : Thread Cert.ProjU.nD Cert.ProjU.τ).loc Cert.ProjU.main_arg0) = m ((c.tc : Thread Cert.ProjU.nD Cert.ProjU.τ).loc Cert.ProjU.main_arg0)
      ∧ r.2.mem ((c.tc : Thread Cert.ProjU.nD Cert.ProjU.τ).loc Cert.ProjU.main_arg1) = m ((c.tc : Thread Cert.ProjU.nD Cert.ProjU.τ).loc Cert.ProjU.main_arg1))
      ∧ r.2.sem = fun _ => 0)

def quiescent_ProjUIdeal [hProjUIdeal : Cert.ProjUIdeal.Facts] : Prop :=
  ∀ (m : (ℓ : Loc Cert.ProjUIdeal.nD Cert.ProjUIdeal.τ Cert.ProjUIdeal.sig) → Buf (Elt Ideal) ℓ) (g : Dev Cert.ProjUIdeal.nD → PrngReg), Pre_ProjUIdeal m →
    θ_run (Cert.ProjUIdeal.defs (F := Ideal)) (onTc (τ := Cert.ProjUIdeal.τ) (Cert.ProjUIdeal.main (F := Ideal))) ⟨m, fun _ => 0, g⟩ (fun r => (∀ c : Dev Cert.ProjUIdeal.nD,
      r.2.mem ((c.tc : Thread Cert.ProjUIdeal.nD Cert.ProjUIdeal.τ).loc Cert.ProjUIdeal.main_arg0) = m ((c.tc : Thread Cert.ProjUIdeal.nD Cert.ProjUIdeal.τ).loc Cert.ProjUIdeal.main_arg0)
      ∧ r.2.mem ((c.tc : Thread Cert.ProjUIdeal.nD Cert.ProjUIdeal.τ).loc Cert.ProjUIdeal.main_arg1) = m ((c.tc : Thread Cert.ProjUIdeal.nD Cert.ProjUIdeal.τ).loc Cert.ProjUIdeal.main_arg1))
      ∧ r.2.sem = fun _ => 0)

def quiescent_ProjURefIdeal [hProjURefIdeal : Cert.ProjURefIdeal.Facts] : Prop :=
  ∀ (m : (ℓ : Loc Cert.ProjURefIdeal.nD Cert.ProjURefIdeal.τ Cert.ProjURefIdeal.sig) → Buf (Elt Ideal) ℓ) (g : Dev Cert.ProjURefIdeal.nD → PrngReg), Pre_ProjURefIdeal m →
    θ_run (Cert.ProjURefIdeal.defs (F := Ideal)) (onTc (τ := Cert.ProjURefIdeal.τ) (Cert.ProjURefIdeal.main (F := Ideal))) ⟨m, fun _ => 0, g⟩ (fun r => (∀ c : Dev Cert.ProjURefIdeal.nD,
      r.2.mem ((c.tc : Thread Cert.ProjURefIdeal.nD Cert.ProjURefIdeal.τ).loc Cert.ProjURefIdeal.main_arg0) = m ((c.tc : Thread Cert.ProjURefIdeal.nD Cert.ProjURefIdeal.τ).loc Cert.ProjURefIdeal.main_arg0)
      ∧ r.2.mem ((c.tc : Thread Cert.ProjURefIdeal.nD Cert.ProjURefIdeal.τ).loc Cert.ProjURefIdeal.main_arg1) = m ((c.tc : Thread Cert.ProjURefIdeal.nD Cert.ProjURefIdeal.τ).loc Cert.ProjURefIdeal.main_arg1))
      ∧ r.2.sem = fun _ => 0)

def quiescent_XaQ [hXaQ : Cert.XaQ.Facts] : Prop :=
  ∀ (m : (ℓ : Loc Cert.XaQ.nD Cert.XaQ.τ Cert.XaQ.sig) → Buf (Elt Bits) ℓ) (g : Dev Cert.XaQ.nD → PrngReg), Pre_XaQ m →
    θ_run (Cert.XaQ.defs (F := Bits)) (onTc (τ := Cert.XaQ.τ) (Cert.XaQ.main (F := Bits))) ⟨m, fun _ => 0, g⟩ (fun r => (∀ c : Dev Cert.XaQ.nD,
      r.2.mem ((c.tc : Thread Cert.XaQ.nD Cert.XaQ.τ).loc Cert.XaQ.main_arg0) = m ((c.tc : Thread Cert.XaQ.nD Cert.XaQ.τ).loc Cert.XaQ.main_arg0)
      ∧ r.2.mem ((c.tc : Thread Cert.XaQ.nD Cert.XaQ.τ).loc Cert.XaQ.main_arg1) = m ((c.tc : Thread Cert.XaQ.nD Cert.XaQ.τ).loc Cert.XaQ.main_arg1))
      ∧ r.2.sem = fun _ => 0)

def quiescent_XaQIdeal [hXaQIdeal : Cert.XaQIdeal.Facts] : Prop :=
  ∀ (m : (ℓ : Loc Cert.XaQIdeal.nD Cert.XaQIdeal.τ Cert.XaQIdeal.sig) → Buf (Elt Ideal) ℓ) (g : Dev Cert.XaQIdeal.nD → PrngReg), Pre_XaQIdeal m →
    θ_run (Cert.XaQIdeal.defs (F := Ideal)) (onTc (τ := Cert.XaQIdeal.τ) (Cert.XaQIdeal.main (F := Ideal))) ⟨m, fun _ => 0, g⟩ (fun r => (∀ c : Dev Cert.XaQIdeal.nD,
      r.2.mem ((c.tc : Thread Cert.XaQIdeal.nD Cert.XaQIdeal.τ).loc Cert.XaQIdeal.main_arg0) = m ((c.tc : Thread Cert.XaQIdeal.nD Cert.XaQIdeal.τ).loc Cert.XaQIdeal.main_arg0)
      ∧ r.2.mem ((c.tc : Thread Cert.XaQIdeal.nD Cert.XaQIdeal.τ).loc Cert.XaQIdeal.main_arg1) = m ((c.tc : Thread Cert.XaQIdeal.nD Cert.XaQIdeal.τ).loc Cert.XaQIdeal.main_arg1))
      ∧ r.2.sem = fun _ => 0)

def quiescent_XaQRefIdeal [hXaQRefIdeal : Cert.XaQRefIdeal.Facts] : Prop :=
  ∀ (m : (ℓ : Loc Cert.XaQRefIdeal.nD Cert.XaQRefIdeal.τ Cert.XaQRefIdeal.sig) → Buf (Elt Ideal) ℓ) (g : Dev Cert.XaQRefIdeal.nD → PrngReg), Pre_XaQRefIdeal m →
    θ_run (Cert.XaQRefIdeal.defs (F := Ideal)) (onTc (τ := Cert.XaQRefIdeal.τ) (Cert.XaQRefIdeal.main (F := Ideal))) ⟨m, fun _ => 0, g⟩ (fun r => (∀ c : Dev Cert.XaQRefIdeal.nD,
      r.2.mem ((c.tc : Thread Cert.XaQRefIdeal.nD Cert.XaQRefIdeal.τ).loc Cert.XaQRefIdeal.main_arg0) = m ((c.tc : Thread Cert.XaQRefIdeal.nD Cert.XaQRefIdeal.τ).loc Cert.XaQRefIdeal.main_arg0)
      ∧ r.2.mem ((c.tc : Thread Cert.XaQRefIdeal.nD Cert.XaQRefIdeal.τ).loc Cert.XaQRefIdeal.main_arg1) = m ((c.tc : Thread Cert.XaQRefIdeal.nD Cert.XaQRefIdeal.τ).loc Cert.XaQRefIdeal.main_arg1))
      ∧ r.2.sem = fun _ => 0)

def quiescent_XaKv [hXaKv : Cert.XaKv.Facts] : Prop :=
  ∀ (m : (ℓ : Loc Cert.XaKv.nD Cert.XaKv.τ Cert.XaKv.sig) → Buf (Elt Bits) ℓ) (g : Dev Cert.XaKv.nD → PrngReg), Pre_XaKv m →
    θ_run (Cert.XaKv.defs (F := Bits)) (onTc (τ := Cert.XaKv.τ) (Cert.XaKv.main (F := Bits))) ⟨m, fun _ => 0, g⟩ (fun r => (∀ c : Dev Cert.XaKv.nD,
      r.2.mem ((c.tc : Thread Cert.XaKv.nD Cert.XaKv.τ).loc Cert.XaKv.main_arg0) = m ((c.tc : Thread Cert.XaKv.nD Cert.XaKv.τ).loc Cert.XaKv.main_arg0)
      ∧ r.2.mem ((c.tc : Thread Cert.XaKv.nD Cert.XaKv.τ).loc Cert.XaKv.main_arg1) = m ((c.tc : Thread Cert.XaKv.nD Cert.XaKv.τ).loc Cert.XaKv.main_arg1))
      ∧ r.2.sem = fun _ => 0)

def quiescent_XaKvIdeal [hXaKvIdeal : Cert.XaKvIdeal.Facts] : Prop :=
  ∀ (m : (ℓ : Loc Cert.XaKvIdeal.nD Cert.XaKvIdeal.τ Cert.XaKvIdeal.sig) → Buf (Elt Ideal) ℓ) (g : Dev Cert.XaKvIdeal.nD → PrngReg), Pre_XaKvIdeal m →
    θ_run (Cert.XaKvIdeal.defs (F := Ideal)) (onTc (τ := Cert.XaKvIdeal.τ) (Cert.XaKvIdeal.main (F := Ideal))) ⟨m, fun _ => 0, g⟩ (fun r => (∀ c : Dev Cert.XaKvIdeal.nD,
      r.2.mem ((c.tc : Thread Cert.XaKvIdeal.nD Cert.XaKvIdeal.τ).loc Cert.XaKvIdeal.main_arg0) = m ((c.tc : Thread Cert.XaKvIdeal.nD Cert.XaKvIdeal.τ).loc Cert.XaKvIdeal.main_arg0)
      ∧ r.2.mem ((c.tc : Thread Cert.XaKvIdeal.nD Cert.XaKvIdeal.τ).loc Cert.XaKvIdeal.main_arg1) = m ((c.tc : Thread Cert.XaKvIdeal.nD Cert.XaKvIdeal.τ).loc Cert.XaKvIdeal.main_arg1))
      ∧ r.2.sem = fun _ => 0)

def quiescent_XaKvRefIdeal [hXaKvRefIdeal : Cert.XaKvRefIdeal.Facts] : Prop :=
  ∀ (m : (ℓ : Loc Cert.XaKvRefIdeal.nD Cert.XaKvRefIdeal.τ Cert.XaKvRefIdeal.sig) → Buf (Elt Ideal) ℓ) (g : Dev Cert.XaKvRefIdeal.nD → PrngReg), Pre_XaKvRefIdeal m →
    θ_run (Cert.XaKvRefIdeal.defs (F := Ideal)) (onTc (τ := Cert.XaKvRefIdeal.τ) (Cert.XaKvRefIdeal.main (F := Ideal))) ⟨m, fun _ => 0, g⟩ (fun r => (∀ c : Dev Cert.XaKvRefIdeal.nD,
      r.2.mem ((c.tc : Thread Cert.XaKvRefIdeal.nD Cert.XaKvRefIdeal.τ).loc Cert.XaKvRefIdeal.main_arg0) = m ((c.tc : Thread Cert.XaKvRefIdeal.nD Cert.XaKvRefIdeal.τ).loc Cert.XaKvRefIdeal.main_arg0)
      ∧ r.2.mem ((c.tc : Thread Cert.XaKvRefIdeal.nD Cert.XaKvRefIdeal.τ).loc Cert.XaKvRefIdeal.main_arg1) = m ((c.tc : Thread Cert.XaKvRefIdeal.nD Cert.XaKvRefIdeal.τ).loc Cert.XaKvRefIdeal.main_arg1))
      ∧ r.2.sem = fun _ => 0)

def quiescent_OutSsm [hOutSsm : Cert.OutSsm.Facts] : Prop :=
  ∀ (m : (ℓ : Loc Cert.OutSsm.nD Cert.OutSsm.τ Cert.OutSsm.sig) → Buf (Elt Bits) ℓ) (g : Dev Cert.OutSsm.nD → PrngReg), Pre_OutSsm m →
    θ_run (Cert.OutSsm.defs (F := Bits)) (onTc (τ := Cert.OutSsm.τ) (Cert.OutSsm.main (F := Bits))) ⟨m, fun _ => 0, g⟩ (fun r => (∀ c : Dev Cert.OutSsm.nD,
      r.2.mem ((c.tc : Thread Cert.OutSsm.nD Cert.OutSsm.τ).loc Cert.OutSsm.main_arg0) = m ((c.tc : Thread Cert.OutSsm.nD Cert.OutSsm.τ).loc Cert.OutSsm.main_arg0)
      ∧ r.2.mem ((c.tc : Thread Cert.OutSsm.nD Cert.OutSsm.τ).loc Cert.OutSsm.main_arg1) = m ((c.tc : Thread Cert.OutSsm.nD Cert.OutSsm.τ).loc Cert.OutSsm.main_arg1)
      ∧ r.2.mem ((c.tc : Thread Cert.OutSsm.nD Cert.OutSsm.τ).loc Cert.OutSsm.main_arg2) = m ((c.tc : Thread Cert.OutSsm.nD Cert.OutSsm.τ).loc Cert.OutSsm.main_arg2))
      ∧ r.2.sem = fun _ => 0)

def quiescent_OutSsmIdeal [hOutSsmIdeal : Cert.OutSsmIdeal.Facts] : Prop :=
  ∀ (m : (ℓ : Loc Cert.OutSsmIdeal.nD Cert.OutSsmIdeal.τ Cert.OutSsmIdeal.sig) → Buf (Elt Ideal) ℓ) (g : Dev Cert.OutSsmIdeal.nD → PrngReg), Pre_OutSsmIdeal m →
    θ_run (Cert.OutSsmIdeal.defs (F := Ideal)) (onTc (τ := Cert.OutSsmIdeal.τ) (Cert.OutSsmIdeal.main (F := Ideal))) ⟨m, fun _ => 0, g⟩ (fun r => (∀ c : Dev Cert.OutSsmIdeal.nD,
      r.2.mem ((c.tc : Thread Cert.OutSsmIdeal.nD Cert.OutSsmIdeal.τ).loc Cert.OutSsmIdeal.main_arg0) = m ((c.tc : Thread Cert.OutSsmIdeal.nD Cert.OutSsmIdeal.τ).loc Cert.OutSsmIdeal.main_arg0)
      ∧ r.2.mem ((c.tc : Thread Cert.OutSsmIdeal.nD Cert.OutSsmIdeal.τ).loc Cert.OutSsmIdeal.main_arg1) = m ((c.tc : Thread Cert.OutSsmIdeal.nD Cert.OutSsmIdeal.τ).loc Cert.OutSsmIdeal.main_arg1)
      ∧ r.2.mem ((c.tc : Thread Cert.OutSsmIdeal.nD Cert.OutSsmIdeal.τ).loc Cert.OutSsmIdeal.main_arg2) = m ((c.tc : Thread Cert.OutSsmIdeal.nD Cert.OutSsmIdeal.τ).loc Cert.OutSsmIdeal.main_arg2))
      ∧ r.2.sem = fun _ => 0)

def quiescent_OutSsmRefIdeal [hOutSsmRefIdeal : Cert.OutSsmRefIdeal.Facts] : Prop :=
  ∀ (m : (ℓ : Loc Cert.OutSsmRefIdeal.nD Cert.OutSsmRefIdeal.τ Cert.OutSsmRefIdeal.sig) → Buf (Elt Ideal) ℓ) (g : Dev Cert.OutSsmRefIdeal.nD → PrngReg), Pre_OutSsmRefIdeal m →
    θ_run (Cert.OutSsmRefIdeal.defs (F := Ideal)) (onTc (τ := Cert.OutSsmRefIdeal.τ) (Cert.OutSsmRefIdeal.main (F := Ideal))) ⟨m, fun _ => 0, g⟩ (fun r => (∀ c : Dev Cert.OutSsmRefIdeal.nD,
      r.2.mem ((c.tc : Thread Cert.OutSsmRefIdeal.nD Cert.OutSsmRefIdeal.τ).loc Cert.OutSsmRefIdeal.main_arg0) = m ((c.tc : Thread Cert.OutSsmRefIdeal.nD Cert.OutSsmRefIdeal.τ).loc Cert.OutSsmRefIdeal.main_arg0)
      ∧ r.2.mem ((c.tc : Thread Cert.OutSsmRefIdeal.nD Cert.OutSsmRefIdeal.τ).loc Cert.OutSsmRefIdeal.main_arg1) = m ((c.tc : Thread Cert.OutSsmRefIdeal.nD Cert.OutSsmRefIdeal.τ).loc Cert.OutSsmRefIdeal.main_arg1)
      ∧ r.2.mem ((c.tc : Thread Cert.OutSsmRefIdeal.nD Cert.OutSsmRefIdeal.τ).loc Cert.OutSsmRefIdeal.main_arg2) = m ((c.tc : Thread Cert.OutSsmRefIdeal.nD Cert.OutSsmRefIdeal.τ).loc Cert.OutSsmRefIdeal.main_arg2))
      ∧ r.2.sem = fun _ => 0)

def quiescent_XaO [hXaO : Cert.XaO.Facts] : Prop :=
  ∀ (m : (ℓ : Loc Cert.XaO.nD Cert.XaO.τ Cert.XaO.sig) → Buf (Elt Bits) ℓ) (g : Dev Cert.XaO.nD → PrngReg), Pre_XaO m →
    θ_run (Cert.XaO.defs (F := Bits)) (onTc (τ := Cert.XaO.τ) (Cert.XaO.main (F := Bits))) ⟨m, fun _ => 0, g⟩ (fun r => (∀ c : Dev Cert.XaO.nD,
      r.2.mem ((c.tc : Thread Cert.XaO.nD Cert.XaO.τ).loc Cert.XaO.main_arg0) = m ((c.tc : Thread Cert.XaO.nD Cert.XaO.τ).loc Cert.XaO.main_arg0)
      ∧ r.2.mem ((c.tc : Thread Cert.XaO.nD Cert.XaO.τ).loc Cert.XaO.main_arg1) = m ((c.tc : Thread Cert.XaO.nD Cert.XaO.τ).loc Cert.XaO.main_arg1)
      ∧ r.2.mem ((c.tc : Thread Cert.XaO.nD Cert.XaO.τ).loc Cert.XaO.main_arg2) = m ((c.tc : Thread Cert.XaO.nD Cert.XaO.τ).loc Cert.XaO.main_arg2))
      ∧ r.2.sem = fun _ => 0)

def quiescent_XaOIdeal [hXaOIdeal : Cert.XaOIdeal.Facts] : Prop :=
  ∀ (m : (ℓ : Loc Cert.XaOIdeal.nD Cert.XaOIdeal.τ Cert.XaOIdeal.sig) → Buf (Elt Ideal) ℓ) (g : Dev Cert.XaOIdeal.nD → PrngReg), Pre_XaOIdeal m →
    θ_run (Cert.XaOIdeal.defs (F := Ideal)) (onTc (τ := Cert.XaOIdeal.τ) (Cert.XaOIdeal.main (F := Ideal))) ⟨m, fun _ => 0, g⟩ (fun r => (∀ c : Dev Cert.XaOIdeal.nD,
      r.2.mem ((c.tc : Thread Cert.XaOIdeal.nD Cert.XaOIdeal.τ).loc Cert.XaOIdeal.main_arg0) = m ((c.tc : Thread Cert.XaOIdeal.nD Cert.XaOIdeal.τ).loc Cert.XaOIdeal.main_arg0)
      ∧ r.2.mem ((c.tc : Thread Cert.XaOIdeal.nD Cert.XaOIdeal.τ).loc Cert.XaOIdeal.main_arg1) = m ((c.tc : Thread Cert.XaOIdeal.nD Cert.XaOIdeal.τ).loc Cert.XaOIdeal.main_arg1)
      ∧ r.2.mem ((c.tc : Thread Cert.XaOIdeal.nD Cert.XaOIdeal.τ).loc Cert.XaOIdeal.main_arg2) = m ((c.tc : Thread Cert.XaOIdeal.nD Cert.XaOIdeal.τ).loc Cert.XaOIdeal.main_arg2))
      ∧ r.2.sem = fun _ => 0)

def quiescent_XaORefIdeal [hXaORefIdeal : Cert.XaORefIdeal.Facts] : Prop :=
  ∀ (m : (ℓ : Loc Cert.XaORefIdeal.nD Cert.XaORefIdeal.τ Cert.XaORefIdeal.sig) → Buf (Elt Ideal) ℓ) (g : Dev Cert.XaORefIdeal.nD → PrngReg), Pre_XaORefIdeal m →
    θ_run (Cert.XaORefIdeal.defs (F := Ideal)) (onTc (τ := Cert.XaORefIdeal.τ) (Cert.XaORefIdeal.main (F := Ideal))) ⟨m, fun _ => 0, g⟩ (fun r => (∀ c : Dev Cert.XaORefIdeal.nD,
      r.2.mem ((c.tc : Thread Cert.XaORefIdeal.nD Cert.XaORefIdeal.τ).loc Cert.XaORefIdeal.main_arg0) = m ((c.tc : Thread Cert.XaORefIdeal.nD Cert.XaORefIdeal.τ).loc Cert.XaORefIdeal.main_arg0)
      ∧ r.2.mem ((c.tc : Thread Cert.XaORefIdeal.nD Cert.XaORefIdeal.τ).loc Cert.XaORefIdeal.main_arg1) = m ((c.tc : Thread Cert.XaORefIdeal.nD Cert.XaORefIdeal.τ).loc Cert.XaORefIdeal.main_arg1)
      ∧ r.2.mem ((c.tc : Thread Cert.XaORefIdeal.nD Cert.XaORefIdeal.τ).loc Cert.XaORefIdeal.main_arg2) = m ((c.tc : Thread Cert.XaORefIdeal.nD Cert.XaORefIdeal.τ).loc Cert.XaORefIdeal.main_arg2))
      ∧ r.2.sem = fun _ => 0)

def quiescent_OutSb [hOutSb : Cert.OutSb.Facts] : Prop :=
  ∀ (m : (ℓ : Loc Cert.OutSb.nD Cert.OutSb.τ Cert.OutSb.sig) → Buf (Elt Bits) ℓ) (g : Dev Cert.OutSb.nD → PrngReg), Pre_OutSb m →
    θ_run (Cert.OutSb.defs (F := Bits)) (onTc (τ := Cert.OutSb.τ) (Cert.OutSb.main (F := Bits))) ⟨m, fun _ => 0, g⟩ (fun r => (∀ c : Dev Cert.OutSb.nD,
      r.2.mem ((c.tc : Thread Cert.OutSb.nD Cert.OutSb.τ).loc Cert.OutSb.main_arg0) = m ((c.tc : Thread Cert.OutSb.nD Cert.OutSb.τ).loc Cert.OutSb.main_arg0)
      ∧ r.2.mem ((c.tc : Thread Cert.OutSb.nD Cert.OutSb.τ).loc Cert.OutSb.main_arg1) = m ((c.tc : Thread Cert.OutSb.nD Cert.OutSb.τ).loc Cert.OutSb.main_arg1)
      ∧ r.2.mem ((c.tc : Thread Cert.OutSb.nD Cert.OutSb.τ).loc Cert.OutSb.main_arg2) = m ((c.tc : Thread Cert.OutSb.nD Cert.OutSb.τ).loc Cert.OutSb.main_arg2))
      ∧ r.2.sem = fun _ => 0)

def quiescent_OutSbIdeal [hOutSbIdeal : Cert.OutSbIdeal.Facts] : Prop :=
  ∀ (m : (ℓ : Loc Cert.OutSbIdeal.nD Cert.OutSbIdeal.τ Cert.OutSbIdeal.sig) → Buf (Elt Ideal) ℓ) (g : Dev Cert.OutSbIdeal.nD → PrngReg), Pre_OutSbIdeal m →
    θ_run (Cert.OutSbIdeal.defs (F := Ideal)) (onTc (τ := Cert.OutSbIdeal.τ) (Cert.OutSbIdeal.main (F := Ideal))) ⟨m, fun _ => 0, g⟩ (fun r => (∀ c : Dev Cert.OutSbIdeal.nD,
      r.2.mem ((c.tc : Thread Cert.OutSbIdeal.nD Cert.OutSbIdeal.τ).loc Cert.OutSbIdeal.main_arg0) = m ((c.tc : Thread Cert.OutSbIdeal.nD Cert.OutSbIdeal.τ).loc Cert.OutSbIdeal.main_arg0)
      ∧ r.2.mem ((c.tc : Thread Cert.OutSbIdeal.nD Cert.OutSbIdeal.τ).loc Cert.OutSbIdeal.main_arg1) = m ((c.tc : Thread Cert.OutSbIdeal.nD Cert.OutSbIdeal.τ).loc Cert.OutSbIdeal.main_arg1)
      ∧ r.2.mem ((c.tc : Thread Cert.OutSbIdeal.nD Cert.OutSbIdeal.τ).loc Cert.OutSbIdeal.main_arg2) = m ((c.tc : Thread Cert.OutSbIdeal.nD Cert.OutSbIdeal.τ).loc Cert.OutSbIdeal.main_arg2))
      ∧ r.2.sem = fun _ => 0)

def quiescent_OutSbRefIdeal [hOutSbRefIdeal : Cert.OutSbRefIdeal.Facts] : Prop :=
  ∀ (m : (ℓ : Loc Cert.OutSbRefIdeal.nD Cert.OutSbRefIdeal.τ Cert.OutSbRefIdeal.sig) → Buf (Elt Ideal) ℓ) (g : Dev Cert.OutSbRefIdeal.nD → PrngReg), Pre_OutSbRefIdeal m →
    θ_run (Cert.OutSbRefIdeal.defs (F := Ideal)) (onTc (τ := Cert.OutSbRefIdeal.τ) (Cert.OutSbRefIdeal.main (F := Ideal))) ⟨m, fun _ => 0, g⟩ (fun r => (∀ c : Dev Cert.OutSbRefIdeal.nD,
      r.2.mem ((c.tc : Thread Cert.OutSbRefIdeal.nD Cert.OutSbRefIdeal.τ).loc Cert.OutSbRefIdeal.main_arg0) = m ((c.tc : Thread Cert.OutSbRefIdeal.nD Cert.OutSbRefIdeal.τ).loc Cert.OutSbRefIdeal.main_arg0)
      ∧ r.2.mem ((c.tc : Thread Cert.OutSbRefIdeal.nD Cert.OutSbRefIdeal.τ).loc Cert.OutSbRefIdeal.main_arg1) = m ((c.tc : Thread Cert.OutSbRefIdeal.nD Cert.OutSbRefIdeal.τ).loc Cert.OutSbRefIdeal.main_arg1)
      ∧ r.2.mem ((c.tc : Thread Cert.OutSbRefIdeal.nD Cert.OutSbRefIdeal.τ).loc Cert.OutSbRefIdeal.main_arg2) = m ((c.tc : Thread Cert.OutSbRefIdeal.nD Cert.OutSbRefIdeal.τ).loc Cert.OutSbRefIdeal.main_arg2))
      ∧ r.2.sem = fun _ => 0)

def quiescent_DYnSb [hDYnSb : Cert.DYnSb.Facts] : Prop :=
  ∀ (m : (ℓ : Loc Cert.DYnSb.nD Cert.DYnSb.τ Cert.DYnSb.sig) → Buf (Elt Bits) ℓ) (g : Dev Cert.DYnSb.nD → PrngReg), Pre_DYnSb m →
    θ_run (Cert.DYnSb.defs (F := Bits)) (onTc (τ := Cert.DYnSb.τ) (Cert.DYnSb.main (F := Bits))) ⟨m, fun _ => 0, g⟩ (fun r => (∀ c : Dev Cert.DYnSb.nD,
      r.2.mem ((c.tc : Thread Cert.DYnSb.nD Cert.DYnSb.τ).loc Cert.DYnSb.main_arg0) = m ((c.tc : Thread Cert.DYnSb.nD Cert.DYnSb.τ).loc Cert.DYnSb.main_arg0)
      ∧ r.2.mem ((c.tc : Thread Cert.DYnSb.nD Cert.DYnSb.τ).loc Cert.DYnSb.main_arg1) = m ((c.tc : Thread Cert.DYnSb.nD Cert.DYnSb.τ).loc Cert.DYnSb.main_arg1)
      ∧ r.2.mem ((c.tc : Thread Cert.DYnSb.nD Cert.DYnSb.τ).loc Cert.DYnSb.main_arg2) = m ((c.tc : Thread Cert.DYnSb.nD Cert.DYnSb.τ).loc Cert.DYnSb.main_arg2))
      ∧ r.2.sem = fun _ => 0)

def quiescent_DYnSbIdeal [hDYnSbIdeal : Cert.DYnSbIdeal.Facts] : Prop :=
  ∀ (m : (ℓ : Loc Cert.DYnSbIdeal.nD Cert.DYnSbIdeal.τ Cert.DYnSbIdeal.sig) → Buf (Elt Ideal) ℓ) (g : Dev Cert.DYnSbIdeal.nD → PrngReg), Pre_DYnSbIdeal m →
    θ_run (Cert.DYnSbIdeal.defs (F := Ideal)) (onTc (τ := Cert.DYnSbIdeal.τ) (Cert.DYnSbIdeal.main (F := Ideal))) ⟨m, fun _ => 0, g⟩ (fun r => (∀ c : Dev Cert.DYnSbIdeal.nD,
      r.2.mem ((c.tc : Thread Cert.DYnSbIdeal.nD Cert.DYnSbIdeal.τ).loc Cert.DYnSbIdeal.main_arg0) = m ((c.tc : Thread Cert.DYnSbIdeal.nD Cert.DYnSbIdeal.τ).loc Cert.DYnSbIdeal.main_arg0)
      ∧ r.2.mem ((c.tc : Thread Cert.DYnSbIdeal.nD Cert.DYnSbIdeal.τ).loc Cert.DYnSbIdeal.main_arg1) = m ((c.tc : Thread Cert.DYnSbIdeal.nD Cert.DYnSbIdeal.τ).loc Cert.DYnSbIdeal.main_arg1)
      ∧ r.2.mem ((c.tc : Thread Cert.DYnSbIdeal.nD Cert.DYnSbIdeal.τ).loc Cert.DYnSbIdeal.main_arg2) = m ((c.tc : Thread Cert.DYnSbIdeal.nD Cert.DYnSbIdeal.τ).loc Cert.DYnSbIdeal.main_arg2))
      ∧ r.2.sem = fun _ => 0)

def quiescent_DYnSbRefIdeal [hDYnSbRefIdeal : Cert.DYnSbRefIdeal.Facts] : Prop :=
  ∀ (m : (ℓ : Loc Cert.DYnSbRefIdeal.nD Cert.DYnSbRefIdeal.τ Cert.DYnSbRefIdeal.sig) → Buf (Elt Ideal) ℓ) (g : Dev Cert.DYnSbRefIdeal.nD → PrngReg), Pre_DYnSbRefIdeal m →
    θ_run (Cert.DYnSbRefIdeal.defs (F := Ideal)) (onTc (τ := Cert.DYnSbRefIdeal.τ) (Cert.DYnSbRefIdeal.main (F := Ideal))) ⟨m, fun _ => 0, g⟩ (fun r => (∀ c : Dev Cert.DYnSbRefIdeal.nD,
      r.2.mem ((c.tc : Thread Cert.DYnSbRefIdeal.nD Cert.DYnSbRefIdeal.τ).loc Cert.DYnSbRefIdeal.main_arg0) = m ((c.tc : Thread Cert.DYnSbRefIdeal.nD Cert.DYnSbRefIdeal.τ).loc Cert.DYnSbRefIdeal.main_arg0)
      ∧ r.2.mem ((c.tc : Thread Cert.DYnSbRefIdeal.nD Cert.DYnSbRefIdeal.τ).loc Cert.DYnSbRefIdeal.main_arg1) = m ((c.tc : Thread Cert.DYnSbRefIdeal.nD Cert.DYnSbRefIdeal.τ).loc Cert.DYnSbRefIdeal.main_arg1)
      ∧ r.2.mem ((c.tc : Thread Cert.DYnSbRefIdeal.nD Cert.DYnSbRefIdeal.τ).loc Cert.DYnSbRefIdeal.main_arg2) = m ((c.tc : Thread Cert.DYnSbRefIdeal.nD Cert.DYnSbRefIdeal.τ).loc Cert.DYnSbRefIdeal.main_arg2))
      ∧ r.2.sem = fun _ => 0)

def quiescent_DwOutSb [hDwOutSb : Cert.DwOutSb.Facts] : Prop :=
  ∀ (m : (ℓ : Loc Cert.DwOutSb.nD Cert.DwOutSb.τ Cert.DwOutSb.sig) → Buf (Elt Bits) ℓ) (g : Dev Cert.DwOutSb.nD → PrngReg), Pre_DwOutSb m →
    θ_run (Cert.DwOutSb.defs (F := Bits)) (onTc (τ := Cert.DwOutSb.τ) (Cert.DwOutSb.main (F := Bits))) ⟨m, fun _ => 0, g⟩ (fun r => (∀ c : Dev Cert.DwOutSb.nD,
      r.2.mem ((c.tc : Thread Cert.DwOutSb.nD Cert.DwOutSb.τ).loc Cert.DwOutSb.main_arg0) = m ((c.tc : Thread Cert.DwOutSb.nD Cert.DwOutSb.τ).loc Cert.DwOutSb.main_arg0)
      ∧ r.2.mem ((c.tc : Thread Cert.DwOutSb.nD Cert.DwOutSb.τ).loc Cert.DwOutSb.main_arg1) = m ((c.tc : Thread Cert.DwOutSb.nD Cert.DwOutSb.τ).loc Cert.DwOutSb.main_arg1)
      ∧ r.2.mem ((c.tc : Thread Cert.DwOutSb.nD Cert.DwOutSb.τ).loc Cert.DwOutSb.main_arg2) = m ((c.tc : Thread Cert.DwOutSb.nD Cert.DwOutSb.τ).loc Cert.DwOutSb.main_arg2))
      ∧ r.2.sem = fun _ => 0)

def quiescent_DwOutSbIdeal [hDwOutSbIdeal : Cert.DwOutSbIdeal.Facts] : Prop :=
  ∀ (m : (ℓ : Loc Cert.DwOutSbIdeal.nD Cert.DwOutSbIdeal.τ Cert.DwOutSbIdeal.sig) → Buf (Elt Ideal) ℓ) (g : Dev Cert.DwOutSbIdeal.nD → PrngReg), Pre_DwOutSbIdeal m →
    θ_run (Cert.DwOutSbIdeal.defs (F := Ideal)) (onTc (τ := Cert.DwOutSbIdeal.τ) (Cert.DwOutSbIdeal.main (F := Ideal))) ⟨m, fun _ => 0, g⟩ (fun r => (∀ c : Dev Cert.DwOutSbIdeal.nD,
      r.2.mem ((c.tc : Thread Cert.DwOutSbIdeal.nD Cert.DwOutSbIdeal.τ).loc Cert.DwOutSbIdeal.main_arg0) = m ((c.tc : Thread Cert.DwOutSbIdeal.nD Cert.DwOutSbIdeal.τ).loc Cert.DwOutSbIdeal.main_arg0)
      ∧ r.2.mem ((c.tc : Thread Cert.DwOutSbIdeal.nD Cert.DwOutSbIdeal.τ).loc Cert.DwOutSbIdeal.main_arg1) = m ((c.tc : Thread Cert.DwOutSbIdeal.nD Cert.DwOutSbIdeal.τ).loc Cert.DwOutSbIdeal.main_arg1)
      ∧ r.2.mem ((c.tc : Thread Cert.DwOutSbIdeal.nD Cert.DwOutSbIdeal.τ).loc Cert.DwOutSbIdeal.main_arg2) = m ((c.tc : Thread Cert.DwOutSbIdeal.nD Cert.DwOutSbIdeal.τ).loc Cert.DwOutSbIdeal.main_arg2))
      ∧ r.2.sem = fun _ => 0)

def quiescent_DwOutSbRefIdeal [hDwOutSbRefIdeal : Cert.DwOutSbRefIdeal.Facts] : Prop :=
  ∀ (m : (ℓ : Loc Cert.DwOutSbRefIdeal.nD Cert.DwOutSbRefIdeal.τ Cert.DwOutSbRefIdeal.sig) → Buf (Elt Ideal) ℓ) (g : Dev Cert.DwOutSbRefIdeal.nD → PrngReg), Pre_DwOutSbRefIdeal m →
    θ_run (Cert.DwOutSbRefIdeal.defs (F := Ideal)) (onTc (τ := Cert.DwOutSbRefIdeal.τ) (Cert.DwOutSbRefIdeal.main (F := Ideal))) ⟨m, fun _ => 0, g⟩ (fun r => (∀ c : Dev Cert.DwOutSbRefIdeal.nD,
      r.2.mem ((c.tc : Thread Cert.DwOutSbRefIdeal.nD Cert.DwOutSbRefIdeal.τ).loc Cert.DwOutSbRefIdeal.main_arg0) = m ((c.tc : Thread Cert.DwOutSbRefIdeal.nD Cert.DwOutSbRefIdeal.τ).loc Cert.DwOutSbRefIdeal.main_arg0)
      ∧ r.2.mem ((c.tc : Thread Cert.DwOutSbRefIdeal.nD Cert.DwOutSbRefIdeal.τ).loc Cert.DwOutSbRefIdeal.main_arg1) = m ((c.tc : Thread Cert.DwOutSbRefIdeal.nD Cert.DwOutSbRefIdeal.τ).loc Cert.DwOutSbRefIdeal.main_arg1)
      ∧ r.2.mem ((c.tc : Thread Cert.DwOutSbRefIdeal.nD Cert.DwOutSbRefIdeal.τ).loc Cert.DwOutSbRefIdeal.main_arg2) = m ((c.tc : Thread Cert.DwOutSbRefIdeal.nD Cert.DwOutSbRefIdeal.τ).loc Cert.DwOutSbRefIdeal.main_arg2))
      ∧ r.2.sem = fun _ => 0)

def quiescent_DwQkv [hDwQkv : Cert.DwQkv.Facts] : Prop :=
  ∀ (m : (ℓ : Loc Cert.DwQkv.nD Cert.DwQkv.τ Cert.DwQkv.sig) → Buf (Elt Bits) ℓ) (g : Dev Cert.DwQkv.nD → PrngReg), Pre_DwQkv m →
    θ_run (Cert.DwQkv.defs (F := Bits)) (onTc (τ := Cert.DwQkv.τ) (Cert.DwQkv.main (F := Bits))) ⟨m, fun _ => 0, g⟩ (fun r => (∀ c : Dev Cert.DwQkv.nD,
      r.2.mem ((c.tc : Thread Cert.DwQkv.nD Cert.DwQkv.τ).loc Cert.DwQkv.main_arg0) = m ((c.tc : Thread Cert.DwQkv.nD Cert.DwQkv.τ).loc Cert.DwQkv.main_arg0)
      ∧ r.2.mem ((c.tc : Thread Cert.DwQkv.nD Cert.DwQkv.τ).loc Cert.DwQkv.main_arg1) = m ((c.tc : Thread Cert.DwQkv.nD Cert.DwQkv.τ).loc Cert.DwQkv.main_arg1)
      ∧ r.2.mem ((c.tc : Thread Cert.DwQkv.nD Cert.DwQkv.τ).loc Cert.DwQkv.main_arg2) = m ((c.tc : Thread Cert.DwQkv.nD Cert.DwQkv.τ).loc Cert.DwQkv.main_arg2)
      ∧ r.2.mem ((c.tc : Thread Cert.DwQkv.nD Cert.DwQkv.τ).loc Cert.DwQkv.main_arg3) = m ((c.tc : Thread Cert.DwQkv.nD Cert.DwQkv.τ).loc Cert.DwQkv.main_arg3)
      ∧ r.2.mem ((c.tc : Thread Cert.DwQkv.nD Cert.DwQkv.τ).loc Cert.DwQkv.main_arg4) = m ((c.tc : Thread Cert.DwQkv.nD Cert.DwQkv.τ).loc Cert.DwQkv.main_arg4)
      ∧ r.2.mem ((c.tc : Thread Cert.DwQkv.nD Cert.DwQkv.τ).loc Cert.DwQkv.main_arg5) = m ((c.tc : Thread Cert.DwQkv.nD Cert.DwQkv.τ).loc Cert.DwQkv.main_arg5)
      ∧ r.2.mem ((c.tc : Thread Cert.DwQkv.nD Cert.DwQkv.τ).loc Cert.DwQkv.main_arg6) = m ((c.tc : Thread Cert.DwQkv.nD Cert.DwQkv.τ).loc Cert.DwQkv.main_arg6))
      ∧ r.2.sem = fun _ => 0)

def quiescent_DwQkvIdeal [hDwQkvIdeal : Cert.DwQkvIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg), Pre_DwQkvIdeal m →
    θ_run (Cert.DwQkvIdeal.defs (F := Ideal)) (onTc (τ := Cert.DwQkvIdeal.τ) (Cert.DwQkvIdeal.main (F := Ideal))) ⟨m, fun _ => 0, g⟩ (fun r => (∀ c : Dev Cert.DwQkvIdeal.nD,
      r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
      ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1)
      ∧ r.2.mem ((c.tc : Thread Cert.DwQkvIdeal.nD Cert.DwQkvIdeal.τ).loc Cert.DwQkvIdeal.main_arg2) = m ((c.tc : Thread Cert.DwQkvIdeal.nD Cert.DwQkvIdeal.τ).loc Cert.DwQkvIdeal.main_arg2)
      ∧ r.2.mem ((c.tc : Thread Cert.DwQkvIdeal.nD Cert.DwQkvIdeal.τ).loc Cert.DwQkvIdeal.main_arg3) = m ((c.tc : Thread Cert.DwQkvIdeal.nD Cert.DwQkvIdeal.τ).loc Cert.DwQkvIdeal.main_arg3)
      ∧ r.2.mem ((c.tc : Thread Cert.DwQkvIdeal.nD Cert.DwQkvIdeal.τ).loc Cert.DwQkvIdeal.main_arg4) = m ((c.tc : Thread Cert.DwQkvIdeal.nD Cert.DwQkvIdeal.τ).loc Cert.DwQkvIdeal.main_arg4)
      ∧ r.2.mem ((c.tc : Thread Cert.DwQkvIdeal.nD Cert.DwQkvIdeal.τ).loc Cert.DwQkvIdeal.main_arg5) = m ((c.tc : Thread Cert.DwQkvIdeal.nD Cert.DwQkvIdeal.τ).loc Cert.DwQkvIdeal.main_arg5)
      ∧ r.2.mem ((c.tc : Thread Cert.DwQkvIdeal.nD Cert.DwQkvIdeal.τ).loc Cert.DwQkvIdeal.main_arg6) = m ((c.tc : Thread Cert.DwQkvIdeal.nD Cert.DwQkvIdeal.τ).loc Cert.DwQkvIdeal.main_arg6))
      ∧ r.2.sem = fun _ => 0)

def quiescent_DwQkvRefIdeal [hDwQkvRefIdeal : Cert.DwQkvRefIdeal.Facts] : Prop :=
  ∀ (m : (ℓ : Loc Cert.DwQkvRefIdeal.nD Cert.DwQkvRefIdeal.τ Cert.DwQkvRefIdeal.sig) → Buf (Elt Ideal) ℓ) (g : Dev Cert.DwQkvRefIdeal.nD → PrngReg), Pre_DwQkvRefIdeal m →
    θ_run (Cert.DwQkvRefIdeal.defs (F := Ideal)) (onTc (τ := Cert.DwQkvRefIdeal.τ) (Cert.DwQkvRefIdeal.main (F := Ideal))) ⟨m, fun _ => 0, g⟩ (fun r => (∀ c : Dev Cert.DwQkvRefIdeal.nD,
      r.2.mem ((c.tc : Thread Cert.DwQkvRefIdeal.nD Cert.DwQkvRefIdeal.τ).loc Cert.DwQkvRefIdeal.main_arg0) = m ((c.tc : Thread Cert.DwQkvRefIdeal.nD Cert.DwQkvRefIdeal.τ).loc Cert.DwQkvRefIdeal.main_arg0)
      ∧ r.2.mem ((c.tc : Thread Cert.DwQkvRefIdeal.nD Cert.DwQkvRefIdeal.τ).loc Cert.DwQkvRefIdeal.main_arg1) = m ((c.tc : Thread Cert.DwQkvRefIdeal.nD Cert.DwQkvRefIdeal.τ).loc Cert.DwQkvRefIdeal.main_arg1)
      ∧ r.2.mem ((c.tc : Thread Cert.DwQkvRefIdeal.nD Cert.DwQkvRefIdeal.τ).loc Cert.DwQkvRefIdeal.main_arg2) = m ((c.tc : Thread Cert.DwQkvRefIdeal.nD Cert.DwQkvRefIdeal.τ).loc Cert.DwQkvRefIdeal.main_arg2)
      ∧ r.2.mem ((c.tc : Thread Cert.DwQkvRefIdeal.nD Cert.DwQkvRefIdeal.τ).loc Cert.DwQkvRefIdeal.main_arg3) = m ((c.tc : Thread Cert.DwQkvRefIdeal.nD Cert.DwQkvRefIdeal.τ).loc Cert.DwQkvRefIdeal.main_arg3)
      ∧ r.2.mem ((c.tc : Thread Cert.DwQkvRefIdeal.nD Cert.DwQkvRefIdeal.τ).loc Cert.DwQkvRefIdeal.main_arg4) = m ((c.tc : Thread Cert.DwQkvRefIdeal.nD Cert.DwQkvRefIdeal.τ).loc Cert.DwQkvRefIdeal.main_arg4)
      ∧ r.2.mem ((c.tc : Thread Cert.DwQkvRefIdeal.nD Cert.DwQkvRefIdeal.τ).loc Cert.DwQkvRefIdeal.main_arg5) = m ((c.tc : Thread Cert.DwQkvRefIdeal.nD Cert.DwQkvRefIdeal.τ).loc Cert.DwQkvRefIdeal.main_arg5)
      ∧ r.2.mem ((c.tc : Thread Cert.DwQkvRefIdeal.nD Cert.DwQkvRefIdeal.τ).loc Cert.DwQkvRefIdeal.main_arg6) = m ((c.tc : Thread Cert.DwQkvRefIdeal.nD Cert.DwQkvRefIdeal.τ).loc Cert.DwQkvRefIdeal.main_arg6))
      ∧ r.2.sem = fun _ => 0)

def quiescent_GluFwd [hGluFwd : Cert.GluFwd.Facts] : Prop :=
  ∀ (m : (ℓ : Loc Cert.GluFwd.nD Cert.GluFwd.τ Cert.GluFwd.sig) → Buf (Elt Bits) ℓ) (g : Dev Cert.GluFwd.nD → PrngReg), Pre_GluFwd m →
    θ_run (Cert.GluFwd.defs (F := Bits)) (onTc (τ := Cert.GluFwd.τ) (Cert.GluFwd.main (F := Bits))) ⟨m, fun _ => 0, g⟩ (fun r => (∀ c : Dev Cert.GluFwd.nD,
      r.2.mem ((c.tc : Thread Cert.GluFwd.nD Cert.GluFwd.τ).loc Cert.GluFwd.main_arg0) = m ((c.tc : Thread Cert.GluFwd.nD Cert.GluFwd.τ).loc Cert.GluFwd.main_arg0)
      ∧ r.2.mem ((c.tc : Thread Cert.GluFwd.nD Cert.GluFwd.τ).loc Cert.GluFwd.main_arg1) = m ((c.tc : Thread Cert.GluFwd.nD Cert.GluFwd.τ).loc Cert.GluFwd.main_arg1)
      ∧ r.2.mem ((c.tc : Thread Cert.GluFwd.nD Cert.GluFwd.τ).loc Cert.GluFwd.main_arg2) = m ((c.tc : Thread Cert.GluFwd.nD Cert.GluFwd.τ).loc Cert.GluFwd.main_arg2)
      ∧ r.2.mem ((c.tc : Thread Cert.GluFwd.nD Cert.GluFwd.τ).loc Cert.GluFwd.main_arg3) = m ((c.tc : Thread Cert.GluFwd.nD Cert.GluFwd.τ).loc Cert.GluFwd.main_arg3)
      ∧ r.2.mem ((c.tc : Thread Cert.GluFwd.nD Cert.GluFwd.τ).loc Cert.GluFwd.main_arg4) = m ((c.tc : Thread Cert.GluFwd.nD Cert.GluFwd.τ).loc Cert.GluFwd.main_arg4))
      ∧ r.2.sem = fun _ => 0)

def quiescent_GluFwdIdeal [hGluFwdIdeal : Cert.GluFwdIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg), Pre_GluFwdIdeal m →
    θ_run (Cert.GluFwdIdeal.defs (F := Ideal)) (onTc (τ := Cert.GluFwdIdeal.τ) (Cert.GluFwdIdeal.main (F := Ideal))) ⟨m, fun _ => 0, g⟩ (fun r => (∀ c : Dev Cert.GluFwdIdeal.nD,
      r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
      ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
      ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2)
      ∧ r.2.mem ((c.tc : Thread Cert.GluFwdIdeal.nD Cert.GluFwdIdeal.τ).loc Cert.GluFwdIdeal.main_arg3) = m ((c.tc : Thread Cert.GluFwdIdeal.nD Cert.GluFwdIdeal.τ).loc Cert.GluFwdIdeal.main_arg3)
      ∧ r.2.mem ((c.tc : Thread Cert.GluFwdIdeal.nD Cert.GluFwdIdeal.τ).loc Cert.GluFwdIdeal.main_arg4) = m ((c.tc : Thread Cert.GluFwdIdeal.nD Cert.GluFwdIdeal.τ).loc Cert.GluFwdIdeal.main_arg4))
      ∧ r.2.sem = fun _ => 0)

def quiescent_GluFwdRefIdeal [hGluFwdRefIdeal : Cert.GluFwdRefIdeal.Facts] : Prop :=
  ∀ (m : (ℓ : Loc Cert.GluFwdRefIdeal.nD Cert.GluFwdRefIdeal.τ Cert.GluFwdRefIdeal.sig) → Buf (Elt Ideal) ℓ) (g : Dev Cert.GluFwdRefIdeal.nD → PrngReg), Pre_GluFwdRefIdeal m →
    θ_run (Cert.GluFwdRefIdeal.defs (F := Ideal)) (onTc (τ := Cert.GluFwdRefIdeal.τ) (Cert.GluFwdRefIdeal.main (F := Ideal))) ⟨m, fun _ => 0, g⟩ (fun r => (∀ c : Dev Cert.GluFwdRefIdeal.nD,
      r.2.mem ((c.tc : Thread Cert.GluFwdRefIdeal.nD Cert.GluFwdRefIdeal.τ).loc Cert.GluFwdRefIdeal.main_arg0) = m ((c.tc : Thread Cert.GluFwdRefIdeal.nD Cert.GluFwdRefIdeal.τ).loc Cert.GluFwdRefIdeal.main_arg0)
      ∧ r.2.mem ((c.tc : Thread Cert.GluFwdRefIdeal.nD Cert.GluFwdRefIdeal.τ).loc Cert.GluFwdRefIdeal.main_arg1) = m ((c.tc : Thread Cert.GluFwdRefIdeal.nD Cert.GluFwdRefIdeal.τ).loc Cert.GluFwdRefIdeal.main_arg1)
      ∧ r.2.mem ((c.tc : Thread Cert.GluFwdRefIdeal.nD Cert.GluFwdRefIdeal.τ).loc Cert.GluFwdRefIdeal.main_arg2) = m ((c.tc : Thread Cert.GluFwdRefIdeal.nD Cert.GluFwdRefIdeal.τ).loc Cert.GluFwdRefIdeal.main_arg2)
      ∧ r.2.mem ((c.tc : Thread Cert.GluFwdRefIdeal.nD Cert.GluFwdRefIdeal.τ).loc Cert.GluFwdRefIdeal.main_arg3) = m ((c.tc : Thread Cert.GluFwdRefIdeal.nD Cert.GluFwdRefIdeal.τ).loc Cert.GluFwdRefIdeal.main_arg3)
      ∧ r.2.mem ((c.tc : Thread Cert.GluFwdRefIdeal.nD Cert.GluFwdRefIdeal.τ).loc Cert.GluFwdRefIdeal.main_arg4) = m ((c.tc : Thread Cert.GluFwdRefIdeal.nD Cert.GluFwdRefIdeal.τ).loc Cert.GluFwdRefIdeal.main_arg4))
      ∧ r.2.sem = fun _ => 0)

def quiescent_XaFwd [hXaFwd : Cert.XaFwd.Facts] : Prop :=
  ∀ (m : (ℓ : Loc Cert.XaFwd.nD Cert.XaFwd.τ Cert.XaFwd.sig) → Buf (Elt Bits) ℓ) (g : Dev Cert.XaFwd.nD → PrngReg), Pre_XaFwd m →
    θ_run (Cert.XaFwd.defs (F := Bits)) (onTc (τ := Cert.XaFwd.τ) (Cert.XaFwd.main (F := Bits))) ⟨m, fun _ => 0, g⟩ (fun r => (∀ c : Dev Cert.XaFwd.nD,
      r.2.mem ((c.tc : Thread Cert.XaFwd.nD Cert.XaFwd.τ).loc Cert.XaFwd.main_arg0) = m ((c.tc : Thread Cert.XaFwd.nD Cert.XaFwd.τ).loc Cert.XaFwd.main_arg0)
      ∧ r.2.mem ((c.tc : Thread Cert.XaFwd.nD Cert.XaFwd.τ).loc Cert.XaFwd.main_arg1) = m ((c.tc : Thread Cert.XaFwd.nD Cert.XaFwd.τ).loc Cert.XaFwd.main_arg1)
      ∧ r.2.mem ((c.tc : Thread Cert.XaFwd.nD Cert.XaFwd.τ).loc Cert.XaFwd.main_arg2) = m ((c.tc : Thread Cert.XaFwd.nD Cert.XaFwd.τ).loc Cert.XaFwd.main_arg2)
      ∧ r.2.mem ((c.tc : Thread Cert.XaFwd.nD Cert.XaFwd.τ).loc Cert.XaFwd.main_arg3) = m ((c.tc : Thread Cert.XaFwd.nD Cert.XaFwd.τ).loc Cert.XaFwd.main_arg3))
      ∧ r.2.sem = fun _ => 0)

def quiescent_XaFwdIdeal [hXaFwdIdeal : Cert.XaFwdIdeal.Facts] : Prop :=
  ∀ (m : (ℓ : Loc Cert.XaFwdIdeal.nD Cert.XaFwdIdeal.τ Cert.XaFwdIdeal.sig) → Buf (Elt Ideal) ℓ) (g : Dev Cert.XaFwdIdeal.nD → PrngReg), Pre_XaFwdIdeal m →
    θ_run (Cert.XaFwdIdeal.defs (F := Ideal)) (onTc (τ := Cert.XaFwdIdeal.τ) (Cert.XaFwdIdeal.main (F := Ideal))) ⟨m, fun _ => 0, g⟩ (fun r => (∀ c : Dev Cert.XaFwdIdeal.nD,
      r.2.mem ((c.tc : Thread Cert.XaFwdIdeal.nD Cert.XaFwdIdeal.τ).loc Cert.XaFwdIdeal.main_arg0) = m ((c.tc : Thread Cert.XaFwdIdeal.nD Cert.XaFwdIdeal.τ).loc Cert.XaFwdIdeal.main_arg0)
      ∧ r.2.mem ((c.tc : Thread Cert.XaFwdIdeal.nD Cert.XaFwdIdeal.τ).loc Cert.XaFwdIdeal.main_arg1) = m ((c.tc : Thread Cert.XaFwdIdeal.nD Cert.XaFwdIdeal.τ).loc Cert.XaFwdIdeal.main_arg1)
      ∧ r.2.mem ((c.tc : Thread Cert.XaFwdIdeal.nD Cert.XaFwdIdeal.τ).loc Cert.XaFwdIdeal.main_arg2) = m ((c.tc : Thread Cert.XaFwdIdeal.nD Cert.XaFwdIdeal.τ).loc Cert.XaFwdIdeal.main_arg2)
      ∧ r.2.mem ((c.tc : Thread Cert.XaFwdIdeal.nD Cert.XaFwdIdeal.τ).loc Cert.XaFwdIdeal.main_arg3) = m ((c.tc : Thread Cert.XaFwdIdeal.nD Cert.XaFwdIdeal.τ).loc Cert.XaFwdIdeal.main_arg3))
      ∧ r.2.sem = fun _ => 0)

def quiescent_XaFwdRefIdeal [hXaFwdRefIdeal : Cert.XaFwdRefIdeal.Facts] : Prop :=
  ∀ (m : (ℓ : Loc Cert.XaFwdRefIdeal.nD Cert.XaFwdRefIdeal.τ Cert.XaFwdRefIdeal.sig) → Buf (Elt Ideal) ℓ) (g : Dev Cert.XaFwdRefIdeal.nD → PrngReg), Pre_XaFwdRefIdeal m →
    θ_run (Cert.XaFwdRefIdeal.defs (F := Ideal)) (onTc (τ := Cert.XaFwdRefIdeal.τ) (Cert.XaFwdRefIdeal.main (F := Ideal))) ⟨m, fun _ => 0, g⟩ (fun r => (∀ c : Dev Cert.XaFwdRefIdeal.nD,
      r.2.mem ((c.tc : Thread Cert.XaFwdRefIdeal.nD Cert.XaFwdRefIdeal.τ).loc Cert.XaFwdRefIdeal.main_arg0) = m ((c.tc : Thread Cert.XaFwdRefIdeal.nD Cert.XaFwdRefIdeal.τ).loc Cert.XaFwdRefIdeal.main_arg0)
      ∧ r.2.mem ((c.tc : Thread Cert.XaFwdRefIdeal.nD Cert.XaFwdRefIdeal.τ).loc Cert.XaFwdRefIdeal.main_arg1) = m ((c.tc : Thread Cert.XaFwdRefIdeal.nD Cert.XaFwdRefIdeal.τ).loc Cert.XaFwdRefIdeal.main_arg1)
      ∧ r.2.mem ((c.tc : Thread Cert.XaFwdRefIdeal.nD Cert.XaFwdRefIdeal.τ).loc Cert.XaFwdRefIdeal.main_arg2) = m ((c.tc : Thread Cert.XaFwdRefIdeal.nD Cert.XaFwdRefIdeal.τ).loc Cert.XaFwdRefIdeal.main_arg2)
      ∧ r.2.mem ((c.tc : Thread Cert.XaFwdRefIdeal.nD Cert.XaFwdRefIdeal.τ).loc Cert.XaFwdRefIdeal.main_arg3) = m ((c.tc : Thread Cert.XaFwdRefIdeal.nD Cert.XaFwdRefIdeal.τ).loc Cert.XaFwdRefIdeal.main_arg3))
      ∧ r.2.sem = fun _ => 0)

def quiescent_XaBwd [hXaBwd : Cert.XaBwd.Facts] : Prop :=
  ∀ (m : (ℓ : Loc Cert.XaBwd.nD Cert.XaBwd.τ Cert.XaBwd.sig) → Buf (Elt Bits) ℓ) (g : Dev Cert.XaBwd.nD → PrngReg), Pre_XaBwd m →
    θ_run (Cert.XaBwd.defs (F := Bits)) (onTc (τ := Cert.XaBwd.τ) (Cert.XaBwd.main (F := Bits))) ⟨m, fun _ => 0, g⟩ (fun r => (∀ c : Dev Cert.XaBwd.nD,
      r.2.mem ((c.tc : Thread Cert.XaBwd.nD Cert.XaBwd.τ).loc Cert.XaBwd.main_arg0) = m ((c.tc : Thread Cert.XaBwd.nD Cert.XaBwd.τ).loc Cert.XaBwd.main_arg0)
      ∧ r.2.mem ((c.tc : Thread Cert.XaBwd.nD Cert.XaBwd.τ).loc Cert.XaBwd.main_arg1) = m ((c.tc : Thread Cert.XaBwd.nD Cert.XaBwd.τ).loc Cert.XaBwd.main_arg1)
      ∧ r.2.mem ((c.tc : Thread Cert.XaBwd.nD Cert.XaBwd.τ).loc Cert.XaBwd.main_arg2) = m ((c.tc : Thread Cert.XaBwd.nD Cert.XaBwd.τ).loc Cert.XaBwd.main_arg2)
      ∧ r.2.mem ((c.tc : Thread Cert.XaBwd.nD Cert.XaBwd.τ).loc Cert.XaBwd.main_arg3) = m ((c.tc : Thread Cert.XaBwd.nD Cert.XaBwd.τ).loc Cert.XaBwd.main_arg3)
      ∧ r.2.mem ((c.tc : Thread Cert.XaBwd.nD Cert.XaBwd.τ).loc Cert.XaBwd.main_arg4) = m ((c.tc : Thread Cert.XaBwd.nD Cert.XaBwd.τ).loc Cert.XaBwd.main_arg4))
      ∧ r.2.sem = fun _ => 0)

def quiescent_XaBwdIdeal [hXaBwdIdeal : Cert.XaBwdIdeal.Facts] : Prop :=
  ∀ (m : (ℓ : Loc Cert.XaBwdIdeal.nD Cert.XaBwdIdeal.τ Cert.XaBwdIdeal.sig) → Buf (Elt Ideal) ℓ) (g : Dev Cert.XaBwdIdeal.nD → PrngReg), Pre_XaBwdIdeal m →
    θ_run (Cert.XaBwdIdeal.defs (F := Ideal)) (onTc (τ := Cert.XaBwdIdeal.τ) (Cert.XaBwdIdeal.main (F := Ideal))) ⟨m, fun _ => 0, g⟩ (fun r => (∀ c : Dev Cert.XaBwdIdeal.nD,
      r.2.mem ((c.tc : Thread Cert.XaBwdIdeal.nD Cert.XaBwdIdeal.τ).loc Cert.XaBwdIdeal.main_arg0) = m ((c.tc : Thread Cert.XaBwdIdeal.nD Cert.XaBwdIdeal.τ).loc Cert.XaBwdIdeal.main_arg0)
      ∧ r.2.mem ((c.tc : Thread Cert.XaBwdIdeal.nD Cert.XaBwdIdeal.τ).loc Cert.XaBwdIdeal.main_arg1) = m ((c.tc : Thread Cert.XaBwdIdeal.nD Cert.XaBwdIdeal.τ).loc Cert.XaBwdIdeal.main_arg1)
      ∧ r.2.mem ((c.tc : Thread Cert.XaBwdIdeal.nD Cert.XaBwdIdeal.τ).loc Cert.XaBwdIdeal.main_arg2) = m ((c.tc : Thread Cert.XaBwdIdeal.nD Cert.XaBwdIdeal.τ).loc Cert.XaBwdIdeal.main_arg2)
      ∧ r.2.mem ((c.tc : Thread Cert.XaBwdIdeal.nD Cert.XaBwdIdeal.τ).loc Cert.XaBwdIdeal.main_arg3) = m ((c.tc : Thread Cert.XaBwdIdeal.nD Cert.XaBwdIdeal.τ).loc Cert.XaBwdIdeal.main_arg3)
      ∧ r.2.mem ((c.tc : Thread Cert.XaBwdIdeal.nD Cert.XaBwdIdeal.τ).loc Cert.XaBwdIdeal.main_arg4) = m ((c.tc : Thread Cert.XaBwdIdeal.nD Cert.XaBwdIdeal.τ).loc Cert.XaBwdIdeal.main_arg4))
      ∧ r.2.sem = fun _ => 0)

def quiescent_XaBwdIdeal_pre_finite [hXaBwdIdeal : Cert.XaBwdIdeal.Facts] [hPre_finite : Cert.Pre_finite.Facts] : Prop :=
  ∀ (m : (ℓ : Loc Cert.XaBwdIdeal.nD Cert.XaBwdIdeal.τ Cert.XaBwdIdeal.sig) → Buf (Elt Ideal) ℓ) (g : Dev Cert.XaBwdIdeal.nD → PrngReg), Pre_XaBwdIdeal_finite m →
    θ_run (Cert.XaBwdIdeal.defs (F := Ideal)) (onTc (τ := Cert.XaBwdIdeal.τ) (Cert.XaBwdIdeal.main (F := Ideal))) ⟨m, fun _ => 0, g⟩ (fun r => (∀ c : Dev Cert.XaBwdIdeal.nD,
      r.2.mem ((c.tc : Thread Cert.XaBwdIdeal.nD Cert.XaBwdIdeal.τ).loc Cert.XaBwdIdeal.main_arg0) = m ((c.tc : Thread Cert.XaBwdIdeal.nD Cert.XaBwdIdeal.τ).loc Cert.XaBwdIdeal.main_arg0)
      ∧ r.2.mem ((c.tc : Thread Cert.XaBwdIdeal.nD Cert.XaBwdIdeal.τ).loc Cert.XaBwdIdeal.main_arg1) = m ((c.tc : Thread Cert.XaBwdIdeal.nD Cert.XaBwdIdeal.τ).loc Cert.XaBwdIdeal.main_arg1)
      ∧ r.2.mem ((c.tc : Thread Cert.XaBwdIdeal.nD Cert.XaBwdIdeal.τ).loc Cert.XaBwdIdeal.main_arg2) = m ((c.tc : Thread Cert.XaBwdIdeal.nD Cert.XaBwdIdeal.τ).loc Cert.XaBwdIdeal.main_arg2)
      ∧ r.2.mem ((c.tc : Thread Cert.XaBwdIdeal.nD Cert.XaBwdIdeal.τ).loc Cert.XaBwdIdeal.main_arg3) = m ((c.tc : Thread Cert.XaBwdIdeal.nD Cert.XaBwdIdeal.τ).loc Cert.XaBwdIdeal.main_arg3)
      ∧ r.2.mem ((c.tc : Thread Cert.XaBwdIdeal.nD Cert.XaBwdIdeal.τ).loc Cert.XaBwdIdeal.main_arg4) = m ((c.tc : Thread Cert.XaBwdIdeal.nD Cert.XaBwdIdeal.τ).loc Cert.XaBwdIdeal.main_arg4))
      ∧ r.2.sem = fun _ => 0)

def quiescent_XaBwdRefIdeal [hXaBwdRefIdeal : Cert.XaBwdRefIdeal.Facts] : Prop :=
  ∀ (m : (ℓ : Loc Cert.XaBwdRefIdeal.nD Cert.XaBwdRefIdeal.τ Cert.XaBwdRefIdeal.sig) → Buf (Elt Ideal) ℓ) (g : Dev Cert.XaBwdRefIdeal.nD → PrngReg), Pre_XaBwdRefIdeal m →
    θ_run (Cert.XaBwdRefIdeal.defs (F := Ideal)) (onTc (τ := Cert.XaBwdRefIdeal.τ) (Cert.XaBwdRefIdeal.main (F := Ideal))) ⟨m, fun _ => 0, g⟩ (fun r => (∀ c : Dev Cert.XaBwdRefIdeal.nD,
      r.2.mem ((c.tc : Thread Cert.XaBwdRefIdeal.nD Cert.XaBwdRefIdeal.τ).loc Cert.XaBwdRefIdeal.main_arg0) = m ((c.tc : Thread Cert.XaBwdRefIdeal.nD Cert.XaBwdRefIdeal.τ).loc Cert.XaBwdRefIdeal.main_arg0)
      ∧ r.2.mem ((c.tc : Thread Cert.XaBwdRefIdeal.nD Cert.XaBwdRefIdeal.τ).loc Cert.XaBwdRefIdeal.main_arg1) = m ((c.tc : Thread Cert.XaBwdRefIdeal.nD Cert.XaBwdRefIdeal.τ).loc Cert.XaBwdRefIdeal.main_arg1)
      ∧ r.2.mem ((c.tc : Thread Cert.XaBwdRefIdeal.nD Cert.XaBwdRefIdeal.τ).loc Cert.XaBwdRefIdeal.main_arg2) = m ((c.tc : Thread Cert.XaBwdRefIdeal.nD Cert.XaBwdRefIdeal.τ).loc Cert.XaBwdRefIdeal.main_arg2)
      ∧ r.2.mem ((c.tc : Thread Cert.XaBwdRefIdeal.nD Cert.XaBwdRefIdeal.τ).loc Cert.XaBwdRefIdeal.main_arg3) = m ((c.tc : Thread Cert.XaBwdRefIdeal.nD Cert.XaBwdRefIdeal.τ).loc Cert.XaBwdRefIdeal.main_arg3)
      ∧ r.2.mem ((c.tc : Thread Cert.XaBwdRefIdeal.nD Cert.XaBwdRefIdeal.τ).loc Cert.XaBwdRefIdeal.main_arg4) = m ((c.tc : Thread Cert.XaBwdRefIdeal.nD Cert.XaBwdRefIdeal.τ).loc Cert.XaBwdRefIdeal.main_arg4))
      ∧ r.2.sem = fun _ => 0)

def quiescent_XaBwdRefIdeal_pre_finite [hXaBwdRefIdeal : Cert.XaBwdRefIdeal.Facts] [hPre_finite : Cert.Pre_finite.Facts] : Prop :=
  ∀ (m : (ℓ : Loc Cert.XaBwdRefIdeal.nD Cert.XaBwdRefIdeal.τ Cert.XaBwdRefIdeal.sig) → Buf (Elt Ideal) ℓ) (g : Dev Cert.XaBwdRefIdeal.nD → PrngReg), Pre_XaBwdRefIdeal_finite m →
    θ_run (Cert.XaBwdRefIdeal.defs (F := Ideal)) (onTc (τ := Cert.XaBwdRefIdeal.τ) (Cert.XaBwdRefIdeal.main (F := Ideal))) ⟨m, fun _ => 0, g⟩ (fun r => (∀ c : Dev Cert.XaBwdRefIdeal.nD,
      r.2.mem ((c.tc : Thread Cert.XaBwdRefIdeal.nD Cert.XaBwdRefIdeal.τ).loc Cert.XaBwdRefIdeal.main_arg0) = m ((c.tc : Thread Cert.XaBwdRefIdeal.nD Cert.XaBwdRefIdeal.τ).loc Cert.XaBwdRefIdeal.main_arg0)
      ∧ r.2.mem ((c.tc : Thread Cert.XaBwdRefIdeal.nD Cert.XaBwdRefIdeal.τ).loc Cert.XaBwdRefIdeal.main_arg1) = m ((c.tc : Thread Cert.XaBwdRefIdeal.nD Cert.XaBwdRefIdeal.τ).loc Cert.XaBwdRefIdeal.main_arg1)
      ∧ r.2.mem ((c.tc : Thread Cert.XaBwdRefIdeal.nD Cert.XaBwdRefIdeal.τ).loc Cert.XaBwdRefIdeal.main_arg2) = m ((c.tc : Thread Cert.XaBwdRefIdeal.nD Cert.XaBwdRefIdeal.τ).loc Cert.XaBwdRefIdeal.main_arg2)
      ∧ r.2.mem ((c.tc : Thread Cert.XaBwdRefIdeal.nD Cert.XaBwdRefIdeal.τ).loc Cert.XaBwdRefIdeal.main_arg3) = m ((c.tc : Thread Cert.XaBwdRefIdeal.nD Cert.XaBwdRefIdeal.τ).loc Cert.XaBwdRefIdeal.main_arg3)
      ∧ r.2.mem ((c.tc : Thread Cert.XaBwdRefIdeal.nD Cert.XaBwdRefIdeal.τ).loc Cert.XaBwdRefIdeal.main_arg4) = m ((c.tc : Thread Cert.XaBwdRefIdeal.nD Cert.XaBwdRefIdeal.τ).loc Cert.XaBwdRefIdeal.main_arg4))
      ∧ r.2.sem = fun _ => 0)

def quiescent_RmsSsm [hRmsSsm : Cert.RmsSsm.Facts] : Prop :=
  ∀ (m : (ℓ : Loc Cert.RmsSsm.nD Cert.RmsSsm.τ Cert.RmsSsm.sig) → Buf (Elt Bits) ℓ) (g : Dev Cert.RmsSsm.nD → PrngReg), Pre_RmsSsm m →
    θ_run (Cert.RmsSsm.defs (F := Bits)) (onTc (τ := Cert.RmsSsm.τ) (Cert.RmsSsm.main (F := Bits))) ⟨m, fun _ => 0, g⟩ (fun r => (∀ c : Dev Cert.RmsSsm.nD,
      r.2.mem ((c.tc : Thread Cert.RmsSsm.nD Cert.RmsSsm.τ).loc Cert.RmsSsm.main_arg0) = m ((c.tc : Thread Cert.RmsSsm.nD Cert.RmsSsm.τ).loc Cert.RmsSsm.main_arg0)
      ∧ r.2.mem ((c.tc : Thread Cert.RmsSsm.nD Cert.RmsSsm.τ).loc Cert.RmsSsm.main_arg1) = m ((c.tc : Thread Cert.RmsSsm.nD Cert.RmsSsm.τ).loc Cert.RmsSsm.main_arg1)
      ∧ r.2.mem ((c.tc : Thread Cert.RmsSsm.nD Cert.RmsSsm.τ).loc Cert.RmsSsm.main_arg2) = m ((c.tc : Thread Cert.RmsSsm.nD Cert.RmsSsm.τ).loc Cert.RmsSsm.main_arg2))
      ∧ r.2.sem = fun _ => 0)

def quiescent_RmsSsmIdeal [hRmsSsmIdeal : Cert.RmsSsmIdeal.Facts] : Prop :=
  ∀ (m : (ℓ : Loc Cert.RmsSsmIdeal.nD Cert.RmsSsmIdeal.τ Cert.RmsSsmIdeal.sig) → Buf (Elt Ideal) ℓ) (g : Dev Cert.RmsSsmIdeal.nD → PrngReg), Pre_RmsSsmIdeal m →
    θ_run (Cert.RmsSsmIdeal.defs (F := Ideal)) (onTc (τ := Cert.RmsSsmIdeal.τ) (Cert.RmsSsmIdeal.main (F := Ideal))) ⟨m, fun _ => 0, g⟩ (fun r => (∀ c : Dev Cert.RmsSsmIdeal.nD,
      r.2.mem ((c.tc : Thread Cert.RmsSsmIdeal.nD Cert.RmsSsmIdeal.τ).loc Cert.RmsSsmIdeal.main_arg0) = m ((c.tc : Thread Cert.RmsSsmIdeal.nD Cert.RmsSsmIdeal.τ).loc Cert.RmsSsmIdeal.main_arg0)
      ∧ r.2.mem ((c.tc : Thread Cert.RmsSsmIdeal.nD Cert.RmsSsmIdeal.τ).loc Cert.RmsSsmIdeal.main_arg1) = m ((c.tc : Thread Cert.RmsSsmIdeal.nD Cert.RmsSsmIdeal.τ).loc Cert.RmsSsmIdeal.main_arg1)
      ∧ r.2.mem ((c.tc : Thread Cert.RmsSsmIdeal.nD Cert.RmsSsmIdeal.τ).loc Cert.RmsSsmIdeal.main_arg2) = m ((c.tc : Thread Cert.RmsSsmIdeal.nD Cert.RmsSsmIdeal.τ).loc Cert.RmsSsmIdeal.main_arg2))
      ∧ r.2.sem = fun _ => 0)

def quiescent_RmsSsmRefIdeal [hRmsSsmRefIdeal : Cert.RmsSsmRefIdeal.Facts] : Prop :=
  ∀ (m : (ℓ : Loc Cert.RmsSsmRefIdeal.nD Cert.RmsSsmRefIdeal.τ Cert.RmsSsmRefIdeal.sig) → Buf (Elt Ideal) ℓ) (g : Dev Cert.RmsSsmRefIdeal.nD → PrngReg), Pre_RmsSsmRefIdeal m →
    θ_run (Cert.RmsSsmRefIdeal.defs (F := Ideal)) (onTc (τ := Cert.RmsSsmRefIdeal.τ) (Cert.RmsSsmRefIdeal.main (F := Ideal))) ⟨m, fun _ => 0, g⟩ (fun r => (∀ c : Dev Cert.RmsSsmRefIdeal.nD,
      r.2.mem ((c.tc : Thread Cert.RmsSsmRefIdeal.nD Cert.RmsSsmRefIdeal.τ).loc Cert.RmsSsmRefIdeal.main_arg0) = m ((c.tc : Thread Cert.RmsSsmRefIdeal.nD Cert.RmsSsmRefIdeal.τ).loc Cert.RmsSsmRefIdeal.main_arg0)
      ∧ r.2.mem ((c.tc : Thread Cert.RmsSsmRefIdeal.nD Cert.RmsSsmRefIdeal.τ).loc Cert.RmsSsmRefIdeal.main_arg1) = m ((c.tc : Thread Cert.RmsSsmRefIdeal.nD Cert.RmsSsmRefIdeal.τ).loc Cert.RmsSsmRefIdeal.main_arg1)
      ∧ r.2.mem ((c.tc : Thread Cert.RmsSsmRefIdeal.nD Cert.RmsSsmRefIdeal.τ).loc Cert.RmsSsmRefIdeal.main_arg2) = m ((c.tc : Thread Cert.RmsSsmRefIdeal.nD Cert.RmsSsmRefIdeal.τ).loc Cert.RmsSsmRefIdeal.main_arg2))
      ∧ r.2.sem = fun _ => 0)

def quiescent_RmsMem [hRmsMem : Cert.RmsMem.Facts] : Prop :=
  ∀ (m : (ℓ : Loc Cert.RmsMem.nD Cert.RmsMem.τ Cert.RmsMem.sig) → Buf (Elt Bits) ℓ) (g : Dev Cert.RmsMem.nD → PrngReg), Pre_RmsMem m →
    θ_run (Cert.RmsMem.defs (F := Bits)) (onTc (τ := Cert.RmsMem.τ) (Cert.RmsMem.main (F := Bits))) ⟨m, fun _ => 0, g⟩ (fun r => (∀ c : Dev Cert.RmsMem.nD,
      r.2.mem ((c.tc : Thread Cert.RmsMem.nD Cert.RmsMem.τ).loc Cert.RmsMem.main_arg0) = m ((c.tc : Thread Cert.RmsMem.nD Cert.RmsMem.τ).loc Cert.RmsMem.main_arg0)
      ∧ r.2.mem ((c.tc : Thread Cert.RmsMem.nD Cert.RmsMem.τ).loc Cert.RmsMem.main_arg1) = m ((c.tc : Thread Cert.RmsMem.nD Cert.RmsMem.τ).loc Cert.RmsMem.main_arg1)
      ∧ r.2.mem ((c.tc : Thread Cert.RmsMem.nD Cert.RmsMem.τ).loc Cert.RmsMem.main_arg2) = m ((c.tc : Thread Cert.RmsMem.nD Cert.RmsMem.τ).loc Cert.RmsMem.main_arg2))
      ∧ r.2.sem = fun _ => 0)

def quiescent_RmsMemIdeal [hRmsMemIdeal : Cert.RmsMemIdeal.Facts] : Prop :=
  ∀ (m : (ℓ : Loc Cert.RmsMemIdeal.nD Cert.RmsMemIdeal.τ Cert.RmsMemIdeal.sig) → Buf (Elt Ideal) ℓ) (g : Dev Cert.RmsMemIdeal.nD → PrngReg), Pre_RmsMemIdeal m →
    θ_run (Cert.RmsMemIdeal.defs (F := Ideal)) (onTc (τ := Cert.RmsMemIdeal.τ) (Cert.RmsMemIdeal.main (F := Ideal))) ⟨m, fun _ => 0, g⟩ (fun r => (∀ c : Dev Cert.RmsMemIdeal.nD,
      r.2.mem ((c.tc : Thread Cert.RmsMemIdeal.nD Cert.RmsMemIdeal.τ).loc Cert.RmsMemIdeal.main_arg0) = m ((c.tc : Thread Cert.RmsMemIdeal.nD Cert.RmsMemIdeal.τ).loc Cert.RmsMemIdeal.main_arg0)
      ∧ r.2.mem ((c.tc : Thread Cert.RmsMemIdeal.nD Cert.RmsMemIdeal.τ).loc Cert.RmsMemIdeal.main_arg1) = m ((c.tc : Thread Cert.RmsMemIdeal.nD Cert.RmsMemIdeal.τ).loc Cert.RmsMemIdeal.main_arg1)
      ∧ r.2.mem ((c.tc : Thread Cert.RmsMemIdeal.nD Cert.RmsMemIdeal.τ).loc Cert.RmsMemIdeal.main_arg2) = m ((c.tc : Thread Cert.RmsMemIdeal.nD Cert.RmsMemIdeal.τ).loc Cert.RmsMemIdeal.main_arg2))
      ∧ r.2.sem = fun _ => 0)

def quiescent_RmsMemRefIdeal [hRmsMemRefIdeal : Cert.RmsMemRefIdeal.Facts] : Prop :=
  ∀ (m : (ℓ : Loc Cert.RmsMemRefIdeal.nD Cert.RmsMemRefIdeal.τ Cert.RmsMemRefIdeal.sig) → Buf (Elt Ideal) ℓ) (g : Dev Cert.RmsMemRefIdeal.nD → PrngReg), Pre_RmsMemRefIdeal m →
    θ_run (Cert.RmsMemRefIdeal.defs (F := Ideal)) (onTc (τ := Cert.RmsMemRefIdeal.τ) (Cert.RmsMemRefIdeal.main (F := Ideal))) ⟨m, fun _ => 0, g⟩ (fun r => (∀ c : Dev Cert.RmsMemRefIdeal.nD,
      r.2.mem ((c.tc : Thread Cert.RmsMemRefIdeal.nD Cert.RmsMemRefIdeal.τ).loc Cert.RmsMemRefIdeal.main_arg0) = m ((c.tc : Thread Cert.RmsMemRefIdeal.nD Cert.RmsMemRefIdeal.τ).loc Cert.RmsMemRefIdeal.main_arg0)
      ∧ r.2.mem ((c.tc : Thread Cert.RmsMemRefIdeal.nD Cert.RmsMemRefIdeal.τ).loc Cert.RmsMemRefIdeal.main_arg1) = m ((c.tc : Thread Cert.RmsMemRefIdeal.nD Cert.RmsMemRefIdeal.τ).loc Cert.RmsMemRefIdeal.main_arg1)
      ∧ r.2.mem ((c.tc : Thread Cert.RmsMemRefIdeal.nD Cert.RmsMemRefIdeal.τ).loc Cert.RmsMemRefIdeal.main_arg2) = m ((c.tc : Thread Cert.RmsMemRefIdeal.nD Cert.RmsMemRefIdeal.τ).loc Cert.RmsMemRefIdeal.main_arg2))
      ∧ r.2.sem = fun _ => 0)

def quiescent_S5Prep [hS5Prep : Cert.S5Prep.Facts] : Prop :=
  ∀ (m : (ℓ : Loc Cert.S5Prep.nD Cert.S5Prep.τ Cert.S5Prep.sig) → Buf (Elt Bits) ℓ) (g : Dev Cert.S5Prep.nD → PrngReg), Pre_S5Prep m →
    θ_run (Cert.S5Prep.defs (F := Bits)) (onTc (τ := Cert.S5Prep.τ) (Cert.S5Prep.main (F := Bits))) ⟨m, fun _ => 0, g⟩ (fun r => (∀ c : Dev Cert.S5Prep.nD,
      r.2.mem ((c.tc : Thread Cert.S5Prep.nD Cert.S5Prep.τ).loc Cert.S5Prep.main_arg0) = m ((c.tc : Thread Cert.S5Prep.nD Cert.S5Prep.τ).loc Cert.S5Prep.main_arg0)
      ∧ r.2.mem ((c.tc : Thread Cert.S5Prep.nD Cert.S5Prep.τ).loc Cert.S5Prep.main_arg1) = m ((c.tc : Thread Cert.S5Prep.nD Cert.S5Prep.τ).loc Cert.S5Prep.main_arg1)
      ∧ r.2.mem ((c.tc : Thread Cert.S5Prep.nD Cert.S5Prep.τ).loc Cert.S5Prep.main_arg2) = m ((c.tc : Thread Cert.S5Prep.nD Cert.S5Prep.τ).loc Cert.S5Prep.main_arg2)
      ∧ r.2.mem ((c.tc : Thread Cert.S5Prep.nD Cert.S5Prep.τ).loc Cert.S5Prep.main_arg3) = m ((c.tc : Thread Cert.S5Prep.nD Cert.S5Prep.τ).loc Cert.S5Prep.main_arg3)
      ∧ r.2.mem ((c.tc : Thread Cert.S5Prep.nD Cert.S5Prep.τ).loc Cert.S5Prep.main_arg4) = m ((c.tc : Thread Cert.S5Prep.nD Cert.S5Prep.τ).loc Cert.S5Prep.main_arg4)
      ∧ r.2.mem ((c.tc : Thread Cert.S5Prep.nD Cert.S5Prep.τ).loc Cert.S5Prep.main_arg5) = m ((c.tc : Thread Cert.S5Prep.nD Cert.S5Prep.τ).loc Cert.S5Prep.main_arg5)
      ∧ r.2.mem ((c.tc : Thread Cert.S5Prep.nD Cert.S5Prep.τ).loc Cert.S5Prep.main_arg6) = m ((c.tc : Thread Cert.S5Prep.nD Cert.S5Prep.τ).loc Cert.S5Prep.main_arg6)
      ∧ r.2.mem ((c.tc : Thread Cert.S5Prep.nD Cert.S5Prep.τ).loc Cert.S5Prep.main_arg7) = m ((c.tc : Thread Cert.S5Prep.nD Cert.S5Prep.τ).loc Cert.S5Prep.main_arg7)
      ∧ r.2.mem ((c.tc : Thread Cert.S5Prep.nD Cert.S5Prep.τ).loc Cert.S5Prep.main_arg8) = m ((c.tc : Thread Cert.S5Prep.nD Cert.S5Prep.τ).loc Cert.S5Prep.main_arg8)
      ∧ r.2.mem ((c.tc : Thread Cert.S5Prep.nD Cert.S5Prep.τ).loc Cert.S5Prep.main_arg9) = m ((c.tc : Thread Cert.S5Prep.nD Cert.S5Prep.τ).loc Cert.S5Prep.main_arg9)
      ∧ r.2.mem ((c.tc : Thread Cert.S5Prep.nD Cert.S5Prep.τ).loc Cert.S5Prep.main_arg10) = m ((c.tc : Thread Cert.S5Prep.nD Cert.S5Prep.τ).loc Cert.S5Prep.main_arg10))
      ∧ r.2.sem = fun _ => 0)

def quiescent_S5PrepIdeal [hS5PrepIdeal : Cert.S5PrepIdeal.Facts] : Prop :=
  ∀ (m : (ℓ : Loc Cert.S5PrepIdeal.nD Cert.S5PrepIdeal.τ Cert.S5PrepIdeal.sig) → Buf (Elt Ideal) ℓ) (g : Dev Cert.S5PrepIdeal.nD → PrngReg), Pre_S5PrepIdeal m →
    θ_run (Cert.S5PrepIdeal.defs (F := Ideal)) (onTc (τ := Cert.S5PrepIdeal.τ) (Cert.S5PrepIdeal.main (F := Ideal))) ⟨m, fun _ => 0, g⟩ (fun r => (∀ c : Dev Cert.S5PrepIdeal.nD,
      r.2.mem ((c.tc : Thread Cert.S5PrepIdeal.nD Cert.S5PrepIdeal.τ).loc Cert.S5PrepIdeal.main_arg0) = m ((c.tc : Thread Cert.S5PrepIdeal.nD Cert.S5PrepIdeal.τ).loc Cert.S5PrepIdeal.main_arg0)
      ∧ r.2.mem ((c.tc : Thread Cert.S5PrepIdeal.nD Cert.S5PrepIdeal.τ).loc Cert.S5PrepIdeal.main_arg1) = m ((c.tc : Thread Cert.S5PrepIdeal.nD Cert.S5PrepIdeal.τ).loc Cert.S5PrepIdeal.main_arg1)
      ∧ r.2.mem ((c.tc : Thread Cert.S5PrepIdeal.nD Cert.S5PrepIdeal.τ).loc Cert.S5PrepIdeal.main_arg2) = m ((c.tc : Thread Cert.S5PrepIdeal.nD Cert.S5PrepIdeal.τ).loc Cert.S5PrepIdeal.main_arg2)
      ∧ r.2.mem ((c.tc : Thread Cert.S5PrepIdeal.nD Cert.S5PrepIdeal.τ).loc Cert.S5PrepIdeal.main_arg3) = m ((c.tc : Thread Cert.S5PrepIdeal.nD Cert.S5PrepIdeal.τ).loc Cert.S5PrepIdeal.main_arg3)
      ∧ r.2.mem ((c.tc : Thread Cert.S5PrepIdeal.nD Cert.S5PrepIdeal.τ).loc Cert.S5PrepIdeal.main_arg4) = m ((c.tc : Thread Cert.S5PrepIdeal.nD Cert.S5PrepIdeal.τ).loc Cert.S5PrepIdeal.main_arg4)
      ∧ r.2.mem ((c.tc : Thread Cert.S5PrepIdeal.nD Cert.S5PrepIdeal.τ).loc Cert.S5PrepIdeal.main_arg5) = m ((c.tc : Thread Cert.S5PrepIdeal.nD Cert.S5PrepIdeal.τ).loc Cert.S5PrepIdeal.main_arg5)
      ∧ r.2.mem ((c.tc : Thread Cert.S5PrepIdeal.nD Cert.S5PrepIdeal.τ).loc Cert.S5PrepIdeal.main_arg6) = m ((c.tc : Thread Cert.S5PrepIdeal.nD Cert.S5PrepIdeal.τ).loc Cert.S5PrepIdeal.main_arg6)
      ∧ r.2.mem ((c.tc : Thread Cert.S5PrepIdeal.nD Cert.S5PrepIdeal.τ).loc Cert.S5PrepIdeal.main_arg7) = m ((c.tc : Thread Cert.S5PrepIdeal.nD Cert.S5PrepIdeal.τ).loc Cert.S5PrepIdeal.main_arg7)
      ∧ r.2.mem ((c.tc : Thread Cert.S5PrepIdeal.nD Cert.S5PrepIdeal.τ).loc Cert.S5PrepIdeal.main_arg8) = m ((c.tc : Thread Cert.S5PrepIdeal.nD Cert.S5PrepIdeal.τ).loc Cert.S5PrepIdeal.main_arg8)
      ∧ r.2.mem ((c.tc : Thread Cert.S5PrepIdeal.nD Cert.S5PrepIdeal.τ).loc Cert.S5PrepIdeal.main_arg9) = m ((c.tc : Thread Cert.S5PrepIdeal.nD Cert.S5PrepIdeal.τ).loc Cert.S5PrepIdeal.main_arg9)
      ∧ r.2.mem ((c.tc : Thread Cert.S5PrepIdeal.nD Cert.S5PrepIdeal.τ).loc Cert.S5PrepIdeal.main_arg10) = m ((c.tc : Thread Cert.S5PrepIdeal.nD Cert.S5PrepIdeal.τ).loc Cert.S5PrepIdeal.main_arg10))
      ∧ r.2.sem = fun _ => 0)

def quiescent_S5PrepRefIdeal [hS5PrepRefIdeal : Cert.S5PrepRefIdeal.Facts] : Prop :=
  ∀ (m : (ℓ : Loc Cert.S5PrepRefIdeal.nD Cert.S5PrepRefIdeal.τ Cert.S5PrepRefIdeal.sig) → Buf (Elt Ideal) ℓ) (g : Dev Cert.S5PrepRefIdeal.nD → PrngReg), Pre_S5PrepRefIdeal m →
    θ_run (Cert.S5PrepRefIdeal.defs (F := Ideal)) (onTc (τ := Cert.S5PrepRefIdeal.τ) (Cert.S5PrepRefIdeal.main (F := Ideal))) ⟨m, fun _ => 0, g⟩ (fun r => (∀ c : Dev Cert.S5PrepRefIdeal.nD,
      r.2.mem ((c.tc : Thread Cert.S5PrepRefIdeal.nD Cert.S5PrepRefIdeal.τ).loc Cert.S5PrepRefIdeal.main_arg0) = m ((c.tc : Thread Cert.S5PrepRefIdeal.nD Cert.S5PrepRefIdeal.τ).loc Cert.S5PrepRefIdeal.main_arg0)
      ∧ r.2.mem ((c.tc : Thread Cert.S5PrepRefIdeal.nD Cert.S5PrepRefIdeal.τ).loc Cert.S5PrepRefIdeal.main_arg1) = m ((c.tc : Thread Cert.S5PrepRefIdeal.nD Cert.S5PrepRefIdeal.τ).loc Cert.S5PrepRefIdeal.main_arg1)
      ∧ r.2.mem ((c.tc : Thread Cert.S5PrepRefIdeal.nD Cert.S5PrepRefIdeal.τ).loc Cert.S5PrepRefIdeal.main_arg2) = m ((c.tc : Thread Cert.S5PrepRefIdeal.nD Cert.S5PrepRefIdeal.τ).loc Cert.S5PrepRefIdeal.main_arg2)
      ∧ r.2.mem ((c.tc : Thread Cert.S5PrepRefIdeal.nD Cert.S5PrepRefIdeal.τ).loc Cert.S5PrepRefIdeal.main_arg3) = m ((c.tc : Thread Cert.S5PrepRefIdeal.nD Cert.S5PrepRefIdeal.τ).loc Cert.S5PrepRefIdeal.main_arg3)
      ∧ r.2.mem ((c.tc : Thread Cert.S5PrepRefIdeal.nD Cert.S5PrepRefIdeal.τ).loc Cert.S5PrepRefIdeal.main_arg4) = m ((c.tc : Thread Cert.S5PrepRefIdeal.nD Cert.S5PrepRefIdeal.τ).loc Cert.S5PrepRefIdeal.main_arg4)
      ∧ r.2.mem ((c.tc : Thread Cert.S5PrepRefIdeal.nD Cert.S5PrepRefIdeal.τ).loc Cert.S5PrepRefIdeal.main_arg5) = m ((c.tc : Thread Cert.S5PrepRefIdeal.nD Cert.S5PrepRefIdeal.τ).loc Cert.S5PrepRefIdeal.main_arg5)
      ∧ r.2.mem ((c.tc : Thread Cert.S5PrepRefIdeal.nD Cert.S5PrepRefIdeal.τ).loc Cert.S5PrepRefIdeal.main_arg6) = m ((c.tc : Thread Cert.S5PrepRefIdeal.nD Cert.S5PrepRefIdeal.τ).loc Cert.S5PrepRefIdeal.main_arg6)
      ∧ r.2.mem ((c.tc : Thread Cert.S5PrepRefIdeal.nD Cert.S5PrepRefIdeal.τ).loc Cert.S5PrepRefIdeal.main_arg7) = m ((c.tc : Thread Cert.S5PrepRefIdeal.nD Cert.S5PrepRefIdeal.τ).loc Cert.S5PrepRefIdeal.main_arg7)
      ∧ r.2.mem ((c.tc : Thread Cert.S5PrepRefIdeal.nD Cert.S5PrepRefIdeal.τ).loc Cert.S5PrepRefIdeal.main_arg8) = m ((c.tc : Thread Cert.S5PrepRefIdeal.nD Cert.S5PrepRefIdeal.τ).loc Cert.S5PrepRefIdeal.main_arg8)
      ∧ r.2.mem ((c.tc : Thread Cert.S5PrepRefIdeal.nD Cert.S5PrepRefIdeal.τ).loc Cert.S5PrepRefIdeal.main_arg9) = m ((c.tc : Thread Cert.S5PrepRefIdeal.nD Cert.S5PrepRefIdeal.τ).loc Cert.S5PrepRefIdeal.main_arg9)
      ∧ r.2.mem ((c.tc : Thread Cert.S5PrepRefIdeal.nD Cert.S5PrepRefIdeal.τ).loc Cert.S5PrepRefIdeal.main_arg10) = m ((c.tc : Thread Cert.S5PrepRefIdeal.nD Cert.S5PrepRefIdeal.τ).loc Cert.S5PrepRefIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_v58) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_DAct_DActIdeal : Prop :=
  True

def algebraic_DActIdeal_DActRefIdeal [hDActIdeal : Cert.DActIdeal.Facts] [hDActRefIdeal : Cert.DActRefIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActRefIdeal.nD Cert.DActRefIdeal.τ Cert.DActRefIdeal.sig) → Buf (Elt Ideal) ℓ) (g' : Dev Cert.DActRefIdeal.nD → PrngReg), Pre_DActIdeal m →
    (∀ c : Dev Cert.DActIdeal.nD,
      m' ((c.tc : Thread Cert.DActRefIdeal.nD Cert.DActRefIdeal.τ).loc Cert.DActRefIdeal.main_arg0) = m ((c.tc : Thread Cert.DActIdeal.nD Cert.DActIdeal.τ).loc Cert.DActIdeal.main_arg0)
      ∧ m' ((c.tc : Thread Cert.DActRefIdeal.nD Cert.DActRefIdeal.τ).loc Cert.DActRefIdeal.main_arg1) = m ((c.tc : Thread Cert.DActIdeal.nD Cert.DActIdeal.τ).loc Cert.DActIdeal.main_arg1)
      ∧ m' ((c.tc : Thread Cert.DActRefIdeal.nD Cert.DActRefIdeal.τ).loc Cert.DActRefIdeal.main_arg2) = m ((c.tc : Thread Cert.DActIdeal.nD Cert.DActIdeal.τ).loc Cert.DActIdeal.main_arg2)) →
    ∃ (v0 : (c : Dev Cert.DActIdeal.nD) → Buf (Elt Ideal) ((c.tc : Thread Cert.DActIdeal.nD Cert.DActIdeal.τ).loc Cert.DActIdeal.main_v3)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v3) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1)
          ∧ r.2.mem ((c.tc : Thread Cert.DActIdeal.nD Cert.DActIdeal.τ).loc Cert.DActIdeal.main_arg2) = m ((c.tc : Thread Cert.DActIdeal.nD Cert.DActIdeal.τ).loc Cert.DActIdeal.main_arg2))
      ∧ θ_run (Cert.DActRefIdeal.defs (F := Ideal)) (onTc (τ := Cert.DActRefIdeal.τ) (Cert.DActRefIdeal.main (F := Ideal))) ⟨m', fun _ => 0, g'⟩ (fun r => ∀ c : Dev Cert.DActRefIdeal.nD,
          r.2.mem ((c.tc : Thread Cert.DActRefIdeal.nD Cert.DActRefIdeal.τ).loc Cert.DActRefIdeal.main_v14) = v0 c
          ∧ r.2.mem ((c.tc : Thread Cert.DActRefIdeal.nD Cert.DActRefIdeal.τ).loc Cert.DActRefIdeal.main_arg0) = m' ((c.tc : Thread Cert.DActRefIdeal.nD Cert.DActRefIdeal.τ).loc Cert.DActRefIdeal.main_arg0)
          ∧ r.2.mem ((c.tc : Thread Cert.DActRefIdeal.nD Cert.DActRefIdeal.τ).loc Cert.DActRefIdeal.main_arg1) = m' ((c.tc : Thread Cert.DActRefIdeal.nD Cert.DActRefIdeal.τ).loc Cert.DActRefIdeal.main_arg1)
          ∧ r.2.mem ((c.tc : Thread Cert.DActRefIdeal.nD Cert.DActRefIdeal.τ).loc Cert.DActRefIdeal.main_arg2) = m' ((c.tc : Thread Cert.DActRefIdeal.nD Cert.DActRefIdeal.τ).loc Cert.DActRefIdeal.main_arg2))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)
      ∧ m' ((c.tc : Thread Cert.DwDownRefIdeal.nD Cert.DwDownRefIdeal.τ).loc Cert.DwDownRefIdeal.main_arg2) = m ((c.tc : Thread Cert.DwDownIdeal.nD Cert.DwDownIdeal.τ).loc Cert.DwDownIdeal.main_arg2)) →
    ∃ (v0 : (c : Dev Cert.DwDownIdeal.nD) → Buf (Elt Ideal) ((c.tc : Thread Cert.DwDownIdeal.nD Cert.DwDownIdeal.τ).loc Cert.DwDownIdeal.main_v2)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v2) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1)
          ∧ r.2.mem ((c.tc : Thread Cert.DwDownIdeal.nD Cert.DwDownIdeal.τ).loc Cert.DwDownIdeal.main_arg2) = m ((c.tc : Thread Cert.DwDownIdeal.nD Cert.DwDownIdeal.τ).loc Cert.DwDownIdeal.main_arg2))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v9) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1)
          ∧ r.2.mem ((c.tc : Thread Cert.DwDownRefIdeal.nD Cert.DwDownRefIdeal.τ).loc Cert.DwDownRefIdeal.main_arg2) = m' ((c.tc : Thread Cert.DwDownRefIdeal.nD Cert.DwDownRefIdeal.τ).loc Cert.DwDownRefIdeal.main_arg2))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)
      ∧ m' ((c.tc : Thread Cert.DwUpRefIdeal.nD Cert.DwUpRefIdeal.τ).loc Cert.DwUpRefIdeal.main_arg2) = m ((c.tc : Thread Cert.DwUpIdeal.nD Cert.DwUpIdeal.τ).loc Cert.DwUpIdeal.main_arg2)
      ∧ m' ((c.tc : Thread Cert.DwUpRefIdeal.nD Cert.DwUpRefIdeal.τ).loc Cert.DwUpRefIdeal.main_arg3) = m ((c.tc : Thread Cert.DwUpIdeal.nD Cert.DwUpIdeal.τ).loc Cert.DwUpIdeal.main_arg3)) →
    ∃ (v0 : (c : Dev Cert.DwUpIdeal.nD) → Buf (Elt Ideal) ((c.tc : Thread Cert.DwUpIdeal.nD Cert.DwUpIdeal.τ).loc Cert.DwUpIdeal.main_v14)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v14) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
          ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2)
          ∧ r.2.mem ((c.tc : Thread Cert.DwUpIdeal.nD Cert.DwUpIdeal.τ).loc Cert.DwUpIdeal.main_arg3) = m ((c.tc : Thread Cert.DwUpIdeal.nD Cert.DwUpIdeal.τ).loc Cert.DwUpIdeal.main_arg3))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v39) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1)
          ∧ r.2.mem ((c.tc : Thread Cert.DwUpRefIdeal.nD Cert.DwUpRefIdeal.τ).loc Cert.DwUpRefIdeal.main_arg2) = m' ((c.tc : Thread Cert.DwUpRefIdeal.nD Cert.DwUpRefIdeal.τ).loc Cert.DwUpRefIdeal.main_arg2)
          ∧ r.2.mem ((c.tc : Thread Cert.DwUpRefIdeal.nD Cert.DwUpRefIdeal.τ).loc Cert.DwUpRefIdeal.main_arg3) = m' ((c.tc : Thread Cert.DwUpRefIdeal.nD Cert.DwUpRefIdeal.τ).loc Cert.DwUpRefIdeal.main_arg3))

def preserves_DH2_DH2Ideal : Prop :=
  True

def algebraic_DH2Ideal_DH2RefIdeal [hDH2Ideal : Cert.DH2Ideal.Facts] [hDH2RefIdeal : Cert.DH2RefIdeal.Facts] : Prop :=
  ∀ (m : (ℓ : Loc Cert.DH2Ideal.nD Cert.DH2Ideal.τ Cert.DH2Ideal.sig) → Buf (Elt Ideal) ℓ) (g : Dev Cert.DH2Ideal.nD → PrngReg)
    (m' : (ℓ : Loc Cert.DH2RefIdeal.nD Cert.DH2RefIdeal.τ Cert.DH2RefIdeal.sig) → Buf (Elt Ideal) ℓ) (g' : Dev Cert.DH2RefIdeal.nD → PrngReg), Pre_DH2Ideal m →
    (∀ c : Dev Cert.DH2Ideal.nD,
      m' ((c.tc : Thread Cert.DH2RefIdeal.nD Cert.DH2RefIdeal.τ).loc Cert.DH2RefIdeal.main_arg0) = m ((c.tc : Thread Cert.DH2Ideal.nD Cert.DH2Ideal.τ).loc Cert.DH2Ideal.main_arg0)
      ∧ m' ((c.tc : Thread Cert.DH2RefIdeal.nD Cert.DH2RefIdeal.τ).loc Cert.DH2RefIdeal.main_arg1) = m ((c.tc : Thread Cert.DH2Ideal.nD Cert.DH2Ideal.τ).loc Cert.DH2Ideal.main_arg1)
      ∧ m' ((c.tc : Thread Cert.DH2RefIdeal.nD Cert.DH2RefIdeal.τ).loc Cert.DH2RefIdeal.main_arg2) = m ((c.tc : Thread Cert.DH2Ideal.nD Cert.DH2Ideal.τ).loc Cert.DH2Ideal.main_arg2)
      ∧ m' ((c.tc : Thread Cert.DH2RefIdeal.nD Cert.DH2RefIdeal.τ).loc Cert.DH2RefIdeal.main_arg3) = m ((c.tc : Thread Cert.DH2Ideal.nD Cert.DH2Ideal.τ).loc Cert.DH2Ideal.main_arg3)
      ∧ m' ((c.tc : Thread Cert.DH2RefIdeal.nD Cert.DH2RefIdeal.τ).loc Cert.DH2RefIdeal.main_arg4) = m ((c.tc : Thread Cert.DH2Ideal.nD Cert.DH2Ideal.τ).loc Cert.DH2Ideal.main_arg4)) →
    ∃ (v0 : (c : Dev Cert.DH2Ideal.nD) → Buf (Elt Ideal) ((c.tc : Thread Cert.DH2Ideal.nD Cert.DH2Ideal.τ).loc Cert.DH2Ideal.main_v2_0)) (v1 : (c : Dev Cert.DH2Ideal.nD) → Buf (Elt Ideal) ((c.tc : Thread Cert.DH2Ideal.nD Cert.DH2Ideal.τ).loc Cert.DH2Ideal.main_v2_1)) (v2 : (c : Dev Cert.DH2Ideal.nD) → Buf (Elt Ideal) ((c.tc : Thread Cert.DH2Ideal.nD Cert.DH2Ideal.τ).loc Cert.DH2Ideal.main_v2_2)),
      θ_run (Cert.DH2Ideal.defs (F := Ideal)) (onTc (τ := Cert.DH2Ideal.τ) (Cert.DH2Ideal.main (F := Ideal))) ⟨m, fun _ => 0, g⟩ (fun r => ∀ c : Dev Cert.DH2Ideal.nD,
          r.2.mem ((c.tc : Thread Cert.DH2Ideal.nD Cert.DH2Ideal.τ).loc Cert.DH2Ideal.main_v2_0) = v0 c
          ∧ r.2.mem ((c.tc : Thread Cert.DH2Ideal.nD Cert.DH2Ideal.τ).loc Cert.DH2Ideal.main_v2_1) = v1 c
          ∧ r.2.mem ((c.tc : Thread Cert.DH2Ideal.nD Cert.DH2Ideal.τ).loc Cert.DH2Ideal.main_v2_2) = v2 c
          ∧ r.2.mem ((c.tc : Thread Cert.DH2Ideal.nD Cert.DH2Ideal.τ).loc Cert.DH2Ideal.main_arg0) = m ((c.tc : Thread Cert.DH2Ideal.nD Cert.DH2Ideal.τ).loc Cert.DH2Ideal.main_arg0)
          ∧ r.2.mem ((c.tc : Thread Cert.DH2Ideal.nD Cert.DH2Ideal.τ).loc Cert.DH2Ideal.main_arg1) = m ((c.tc : Thread Cert.DH2Ideal.nD Cert.DH2Ideal.τ).loc Cert.DH2Ideal.main_arg1)
          ∧ r.2.mem ((c.tc : Thread Cert.DH2Ideal.nD Cert.DH2Ideal.τ).loc Cert.DH2Ideal.main_arg2) = m ((c.tc : Thread Cert.DH2Ideal.nD Cert.DH2Ideal.τ).loc Cert.DH2Ideal.main_arg2)
          ∧ r.2.mem ((c.tc : Thread Cert.DH2Ideal.nD Cert.DH2Ideal.τ).loc Cert.DH2Ideal.main_arg3) = m ((c.tc : Thread Cert.DH2Ideal.nD Cert.DH2Ideal.τ).loc Cert.DH2Ideal.main_arg3)
          ∧ r.2.mem ((c.tc : Thread Cert.DH2Ideal.nD Cert.DH2Ideal.τ).loc Cert.DH2Ideal.main_arg4) = m ((c.tc : Thread Cert.DH2Ideal.nD Cert.DH2Ideal.τ).loc Cert.DH2Ideal.main_arg4))
      ∧ θ_run (Cert.DH2RefIdeal.defs (F := Ideal)) (onTc (τ := Cert.DH2RefIdeal.τ) (Cert.DH2RefIdeal.main (F := Ideal))) ⟨m', fun _ => 0, g'⟩ (fun r => ∀ c : Dev Cert.DH2RefIdeal.nD,
          r.2.mem ((c.tc : Thread Cert.DH2RefIdeal.nD Cert.DH2RefIdeal.τ).loc Cert.DH2RefIdeal.main_v38) = v0 c
          ∧ r.2.mem ((c.tc : Thread Cert.DH2RefIdeal.nD Cert.DH2RefIdeal.τ).loc Cert.DH2RefIdeal.main_v21) = v1 c
          ∧ r.2.mem ((c.tc : Thread Cert.DH2RefIdeal.nD Cert.DH2RefIdeal.τ).loc Cert.DH2RefIdeal.main_v39) = v2 c
          ∧ r.2.mem ((c.tc : Thread Cert.DH2RefIdeal.nD Cert.DH2RefIdeal.τ).loc Cert.DH2RefIdeal.main_arg0) = m' ((c.tc : Thread Cert.DH2RefIdeal.nD Cert.DH2RefIdeal.τ).loc Cert.DH2RefIdeal.main_arg0)
          ∧ r.2.mem ((c.tc : Thread Cert.DH2RefIdeal.nD Cert.DH2RefIdeal.τ).loc Cert.DH2RefIdeal.main_arg1) = m' ((c.tc : Thread Cert.DH2RefIdeal.nD Cert.DH2RefIdeal.τ).loc Cert.DH2RefIdeal.main_arg1)
          ∧ r.2.mem ((c.tc : Thread Cert.DH2RefIdeal.nD Cert.DH2RefIdeal.τ).loc Cert.DH2RefIdeal.main_arg2) = m' ((c.tc : Thread Cert.DH2RefIdeal.nD Cert.DH2RefIdeal.τ).loc Cert.DH2RefIdeal.main_arg2)
          ∧ r.2.mem ((c.tc : Thread Cert.DH2RefIdeal.nD Cert.DH2RefIdeal.τ).loc Cert.DH2RefIdeal.main_arg3) = m' ((c.tc : Thread Cert.DH2RefIdeal.nD Cert.DH2RefIdeal.τ).loc Cert.DH2RefIdeal.main_arg3)
          ∧ r.2.mem ((c.tc : Thread Cert.DH2RefIdeal.nD Cert.DH2RefIdeal.τ).loc Cert.DH2RefIdeal.main_arg4) = m' ((c.tc : Thread Cert.DH2RefIdeal.nD Cert.DH2RefIdeal.τ).loc Cert.DH2RefIdeal.main_arg4))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)) →
    ∃ (v0 : (c : Dev Cert.MlpUpIdeal.nD) → Buf (Elt Ideal) ((c.tc : Thread Cert.MlpUpIdeal.nD Cert.MlpUpIdeal.τ).loc Cert.MlpUpIdeal.main_v2)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v2) = v0 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v1) = v0 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1))

def preserves_MlpDown_MlpDownIdeal : Prop :=
  True

def algebraic_MlpDownIdeal_MlpDownRefIdeal [hMlpDownIdeal : Cert.MlpDownIdeal.Facts] [hMlpDownRefIdeal : Cert.MlpDownRefIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownRefIdeal.nD Cert.MlpDownRefIdeal.τ Cert.MlpDownRefIdeal.sig) → Buf (Elt Ideal) ℓ) (g' : Dev Cert.MlpDownRefIdeal.nD → PrngReg), Pre_MlpDownIdeal m →
    (∀ c : Dev Cert.MlpDownIdeal.nD,
      m' ((c.tc : Thread Cert.MlpDownRefIdeal.nD Cert.MlpDownRefIdeal.τ).loc Cert.MlpDownRefIdeal.main_arg0) = m ((c.tc : Thread Cert.MlpDownIdeal.nD Cert.MlpDownIdeal.τ).loc Cert.MlpDownIdeal.main_arg0)
      ∧ m' ((c.tc : Thread Cert.MlpDownRefIdeal.nD Cert.MlpDownRefIdeal.τ).loc Cert.MlpDownRefIdeal.main_arg1) = m ((c.tc : Thread Cert.MlpDownIdeal.nD Cert.MlpDownIdeal.τ).loc Cert.MlpDownIdeal.main_arg1)
      ∧ m' ((c.tc : Thread Cert.MlpDownRefIdeal.nD Cert.MlpDownRefIdeal.τ).loc Cert.MlpDownRefIdeal.main_arg2) = m ((c.tc : Thread Cert.MlpDownIdeal.nD Cert.MlpDownIdeal.τ).loc Cert.MlpDownIdeal.main_arg2)
      ∧ m' ((c.tc : Thread Cert.MlpDownRefIdeal.nD Cert.MlpDownRefIdeal.τ).loc Cert.MlpDownRefIdeal.main_arg3) = m ((c.tc : Thread Cert.MlpDownIdeal.nD Cert.MlpDownIdeal.τ).loc Cert.MlpDownIdeal.main_arg3)) →
    ∃ (v0 : (c : Dev Cert.MlpDownIdeal.nD) → Buf (Elt Ideal) ((c.tc : Thread Cert.MlpDownIdeal.nD Cert.MlpDownIdeal.τ).loc Cert.MlpDownIdeal.main_v2_0)) (v1 : (c : Dev Cert.MlpDownIdeal.nD) → Buf (Elt Ideal) ((c.tc : Thread Cert.MlpDownIdeal.nD Cert.MlpDownIdeal.τ).loc Cert.MlpDownIdeal.main_v2_1)) (v2 : (c : Dev Cert.MlpDownIdeal.nD) → Buf (Elt Ideal) ((c.tc : Thread Cert.MlpDownIdeal.nD Cert.MlpDownIdeal.τ).loc Cert.MlpDownIdeal.main_v2_2)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v2_0) = v0 c
          ∧ r.2.mem ((c.tc : Thread Cert.MlpDownIdeal.nD Cert.MlpDownIdeal.τ).loc Cert.MlpDownIdeal.main_v2_1) = v1 c
          ∧ r.2.mem ((c.tc : Thread Cert.MlpDownIdeal.nD Cert.MlpDownIdeal.τ).loc Cert.MlpDownIdeal.main_v2_2) = v2 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
          ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
          ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3))
      ∧ θ_run (Cert.MlpDownRefIdeal.defs (F := Ideal)) (onTc (τ := Cert.MlpDownRefIdeal.τ) (Cert.MlpDownRefIdeal.main (F := Ideal))) ⟨m', fun _ => 0, g'⟩ (fun r => ∀ c : Dev Cert.MlpDownRefIdeal.nD,
          r.2.mem ((c.tc : Thread Cert.MlpDownRefIdeal.nD Cert.MlpDownRefIdeal.τ).loc Cert.MlpDownRefIdeal.main_v18) = v0 c
          ∧ r.2.mem ((c.tc : Thread Cert.MlpDownRefIdeal.nD Cert.MlpDownRefIdeal.τ).loc Cert.MlpDownRefIdeal.main_v19) = v1 c
          ∧ r.2.mem ((c.tc : Thread Cert.MlpDownRefIdeal.nD Cert.MlpDownRefIdeal.τ).loc Cert.MlpDownRefIdeal.main_v20) = v2 c
          ∧ r.2.mem ((c.tc : Thread Cert.MlpDownRefIdeal.nD Cert.MlpDownRefIdeal.τ).loc Cert.MlpDownRefIdeal.main_arg0) = m' ((c.tc : Thread Cert.MlpDownRefIdeal.nD Cert.MlpDownRefIdeal.τ).loc Cert.MlpDownRefIdeal.main_arg0)
          ∧ r.2.mem ((c.tc : Thread Cert.MlpDownRefIdeal.nD Cert.MlpDownRefIdeal.τ).loc Cert.MlpDownRefIdeal.main_arg1) = m' ((c.tc : Thread Cert.MlpDownRefIdeal.nD Cert.MlpDownRefIdeal.τ).loc Cert.MlpDownRefIdeal.main_arg1)
          ∧ r.2.mem ((c.tc : Thread Cert.MlpDownRefIdeal.nD Cert.MlpDownRefIdeal.τ).loc Cert.MlpDownRefIdeal.main_arg2) = m' ((c.tc : Thread Cert.MlpDownRefIdeal.nD Cert.MlpDownRefIdeal.τ).loc Cert.MlpDownRefIdeal.main_arg2)
          ∧ r.2.mem ((c.tc : Thread Cert.MlpDownRefIdeal.nD Cert.MlpDownRefIdeal.τ).loc Cert.MlpDownRefIdeal.main_arg3) = m' ((c.tc : Thread Cert.MlpDownRefIdeal.nD Cert.MlpDownRefIdeal.τ).loc Cert.MlpDownRefIdeal.main_arg3))

def preserves_DH1_DH1Ideal : Prop :=
  True

def algebraic_DH1Ideal_DH1RefIdeal [hDH1Ideal : Cert.DH1Ideal.Facts] [hDH1RefIdeal : Cert.DH1RefIdeal.Facts] : Prop :=
  ∀ (m : (ℓ : Loc Cert.DH1Ideal.nD Cert.DH1Ideal.τ Cert.DH1Ideal.sig) → Buf (Elt Ideal) ℓ) (g : Dev Cert.DH1Ideal.nD → PrngReg)
    (m' : (ℓ : Loc Cert.DH1RefIdeal.nD Cert.DH1RefIdeal.τ Cert.DH1RefIdeal.sig) → Buf (Elt Ideal) ℓ) (g' : Dev Cert.DH1RefIdeal.nD → PrngReg), Pre_DH1Ideal m →
    (∀ c : Dev Cert.DH1Ideal.nD,
      m' ((c.tc : Thread Cert.DH1RefIdeal.nD Cert.DH1RefIdeal.τ).loc Cert.DH1RefIdeal.main_arg0) = m ((c.tc : Thread Cert.DH1Ideal.nD Cert.DH1Ideal.τ).loc Cert.DH1Ideal.main_arg0)
      ∧ m' ((c.tc : Thread Cert.DH1RefIdeal.nD Cert.DH1RefIdeal.τ).loc Cert.DH1RefIdeal.main_arg1) = m ((c.tc : Thread Cert.DH1Ideal.nD Cert.DH1Ideal.τ).loc Cert.DH1Ideal.main_arg1)
      ∧ m' ((c.tc : Thread Cert.DH1RefIdeal.nD Cert.DH1RefIdeal.τ).loc Cert.DH1RefIdeal.main_arg2) = m ((c.tc : Thread Cert.DH1Ideal.nD Cert.DH1Ideal.τ).loc Cert.DH1Ideal.main_arg2)
      ∧ m' ((c.tc : Thread Cert.DH1RefIdeal.nD Cert.DH1RefIdeal.τ).loc Cert.DH1RefIdeal.main_arg3) = m ((c.tc : Thread Cert.DH1Ideal.nD Cert.DH1Ideal.τ).loc Cert.DH1Ideal.main_arg3)
      ∧ m' ((c.tc : Thread Cert.DH1RefIdeal.nD Cert.DH1RefIdeal.τ).loc Cert.DH1RefIdeal.main_arg4) = m ((c.tc : Thread Cert.DH1Ideal.nD Cert.DH1Ideal.τ).loc Cert.DH1Ideal.main_arg4)) →
    ∃ (v0 : (c : Dev Cert.DH1Ideal.nD) → Buf (Elt Ideal) ((c.tc : Thread Cert.DH1Ideal.nD Cert.DH1Ideal.τ).loc Cert.DH1Ideal.main_v2_0)) (v1 : (c : Dev Cert.DH1Ideal.nD) → Buf (Elt Ideal) ((c.tc : Thread Cert.DH1Ideal.nD Cert.DH1Ideal.τ).loc Cert.DH1Ideal.main_v2_1)) (v2 : (c : Dev Cert.DH1Ideal.nD) → Buf (Elt Ideal) ((c.tc : Thread Cert.DH1Ideal.nD Cert.DH1Ideal.τ).loc Cert.DH1Ideal.main_v2_2)),
      θ_run (Cert.DH1Ideal.defs (F := Ideal)) (onTc (τ := Cert.DH1Ideal.τ) (Cert.DH1Ideal.main (F := Ideal))) ⟨m, fun _ => 0, g⟩ (fun r => ∀ c : Dev Cert.DH1Ideal.nD,
          r.2.mem ((c.tc : Thread Cert.DH1Ideal.nD Cert.DH1Ideal.τ).loc Cert.DH1Ideal.main_v2_0) = v0 c
          ∧ r.2.mem ((c.tc : Thread Cert.DH1Ideal.nD Cert.DH1Ideal.τ).loc Cert.DH1Ideal.main_v2_1) = v1 c
          ∧ r.2.mem ((c.tc : Thread Cert.DH1Ideal.nD Cert.DH1Ideal.τ).loc Cert.DH1Ideal.main_v2_2) = v2 c
          ∧ r.2.mem ((c.tc : Thread Cert.DH1Ideal.nD Cert.DH1Ideal.τ).loc Cert.DH1Ideal.main_arg0) = m ((c.tc : Thread Cert.DH1Ideal.nD Cert.DH1Ideal.τ).loc Cert.DH1Ideal.main_arg0)
          ∧ r.2.mem ((c.tc : Thread Cert.DH1Ideal.nD Cert.DH1Ideal.τ).loc Cert.DH1Ideal.main_arg1) = m ((c.tc : Thread Cert.DH1Ideal.nD Cert.DH1Ideal.τ).loc Cert.DH1Ideal.main_arg1)
          ∧ r.2.mem ((c.tc : Thread Cert.DH1Ideal.nD Cert.DH1Ideal.τ).loc Cert.DH1Ideal.main_arg2) = m ((c.tc : Thread Cert.DH1Ideal.nD Cert.DH1Ideal.τ).loc Cert.DH1Ideal.main_arg2)
          ∧ r.2.mem ((c.tc : Thread Cert.DH1Ideal.nD Cert.DH1Ideal.τ).loc Cert.DH1Ideal.main_arg3) = m ((c.tc : Thread Cert.DH1Ideal.nD Cert.DH1Ideal.τ).loc Cert.DH1Ideal.main_arg3)
          ∧ r.2.mem ((c.tc : Thread Cert.DH1Ideal.nD Cert.DH1Ideal.τ).loc Cert.DH1Ideal.main_arg4) = m ((c.tc : Thread Cert.DH1Ideal.nD Cert.DH1Ideal.τ).loc Cert.DH1Ideal.main_arg4))
      ∧ θ_run (Cert.DH1RefIdeal.defs (F := Ideal)) (onTc (τ := Cert.DH1RefIdeal.τ) (Cert.DH1RefIdeal.main (F := Ideal))) ⟨m', fun _ => 0, g'⟩ (fun r => ∀ c : Dev Cert.DH1RefIdeal.nD,
          r.2.mem ((c.tc : Thread Cert.DH1RefIdeal.nD Cert.DH1RefIdeal.τ).loc Cert.DH1RefIdeal.main_v38) = v0 c
          ∧ r.2.mem ((c.tc : Thread Cert.DH1RefIdeal.nD Cert.DH1RefIdeal.τ).loc Cert.DH1RefIdeal.main_v21) = v1 c
          ∧ r.2.mem ((c.tc : Thread Cert.DH1RefIdeal.nD Cert.DH1RefIdeal.τ).loc Cert.DH1RefIdeal.main_v39) = v2 c
          ∧ r.2.mem ((c.tc : Thread Cert.DH1RefIdeal.nD Cert.DH1RefIdeal.τ).loc Cert.DH1RefIdeal.main_arg0) = m' ((c.tc : Thread Cert.DH1RefIdeal.nD Cert.DH1RefIdeal.τ).loc Cert.DH1RefIdeal.main_arg0)
          ∧ r.2.mem ((c.tc : Thread Cert.DH1RefIdeal.nD Cert.DH1RefIdeal.τ).loc Cert.DH1RefIdeal.main_arg1) = m' ((c.tc : Thread Cert.DH1RefIdeal.nD Cert.DH1RefIdeal.τ).loc Cert.DH1RefIdeal.main_arg1)
          ∧ r.2.mem ((c.tc : Thread Cert.DH1RefIdeal.nD Cert.DH1RefIdeal.τ).loc Cert.DH1RefIdeal.main_arg2) = m' ((c.tc : Thread Cert.DH1RefIdeal.nD Cert.DH1RefIdeal.τ).loc Cert.DH1RefIdeal.main_arg2)
          ∧ r.2.mem ((c.tc : Thread Cert.DH1RefIdeal.nD Cert.DH1RefIdeal.τ).loc Cert.DH1RefIdeal.main_arg3) = m' ((c.tc : Thread Cert.DH1RefIdeal.nD Cert.DH1RefIdeal.τ).loc Cert.DH1RefIdeal.main_arg3)
          ∧ r.2.mem ((c.tc : Thread Cert.DH1RefIdeal.nD Cert.DH1RefIdeal.τ).loc Cert.DH1RefIdeal.main_arg4) = m' ((c.tc : Thread Cert.DH1RefIdeal.nD Cert.DH1RefIdeal.τ).loc Cert.DH1RefIdeal.main_arg4))

def preserves_DOx_DOxIdeal : Prop :=
  True

def algebraic_DOxIdeal_DOxRefIdeal [hDOxIdeal : Cert.DOxIdeal.Facts] [hDOxRefIdeal : Cert.DOxRefIdeal.Facts] : Prop :=
  ∀ (m : (ℓ : Loc Cert.DOxIdeal.nD Cert.DOxIdeal.τ Cert.DOxIdeal.sig) → Buf (Elt Ideal) ℓ) (g : Dev Cert.DOxIdeal.nD → PrngReg)
    (m' : (ℓ : Loc Cert.DOxRefIdeal.nD Cert.DOxRefIdeal.τ Cert.DOxRefIdeal.sig) → Buf (Elt Ideal) ℓ) (g' : Dev Cert.DOxRefIdeal.nD → PrngReg), Pre_DOxIdeal m →
    (∀ c : Dev Cert.DOxIdeal.nD,
      m' ((c.tc : Thread Cert.DOxRefIdeal.nD Cert.DOxRefIdeal.τ).loc Cert.DOxRefIdeal.main_arg0) = m ((c.tc : Thread Cert.DOxIdeal.nD Cert.DOxIdeal.τ).loc Cert.DOxIdeal.main_arg0)
      ∧ m' ((c.tc : Thread Cert.DOxRefIdeal.nD Cert.DOxRefIdeal.τ).loc Cert.DOxRefIdeal.main_arg1) = m ((c.tc : Thread Cert.DOxIdeal.nD Cert.DOxIdeal.τ).loc Cert.DOxIdeal.main_arg1)
      ∧ m' ((c.tc : Thread Cert.DOxRefIdeal.nD Cert.DOxRefIdeal.τ).loc Cert.DOxRefIdeal.main_arg2) = m ((c.tc : Thread Cert.DOxIdeal.nD Cert.DOxIdeal.τ).loc Cert.DOxIdeal.main_arg2)) →
    ∃ (v0 : (c : Dev Cert.DOxIdeal.nD) → Buf (Elt Ideal) ((c.tc : Thread Cert.DOxIdeal.nD Cert.DOxIdeal.τ).loc Cert.DOxIdeal.main_v2)),
      θ_run (Cert.DOxIdeal.defs (F := Ideal)) (onTc (τ := Cert.DOxIdeal.τ) (Cert.DOxIdeal.main (F := Ideal))) ⟨m, fun _ => 0, g⟩ (fun r => ∀ c : Dev Cert.DOxIdeal.nD,
          r.2.mem ((c.tc : Thread Cert.DOxIdeal.nD Cert.DOxIdeal.τ).loc Cert.DOxIdeal.main_v2) = v0 c
          ∧ r.2.mem ((c.tc : Thread Cert.DOxIdeal.nD Cert.DOxIdeal.τ).loc Cert.DOxIdeal.main_arg0) = m ((c.tc : Thread Cert.DOxIdeal.nD Cert.DOxIdeal.τ).loc Cert.DOxIdeal.main_arg0)
          ∧ r.2.mem ((c.tc : Thread Cert.DOxIdeal.nD Cert.DOxIdeal.τ).loc Cert.DOxIdeal.main_arg1) = m ((c.tc : Thread Cert.DOxIdeal.nD Cert.DOxIdeal.τ).loc Cert.DOxIdeal.main_arg1)
          ∧ r.2.mem ((c.tc : Thread Cert.DOxIdeal.nD Cert.DOxIdeal.τ).loc Cert.DOxIdeal.main_arg2) = m ((c.tc : Thread Cert.DOxIdeal.nD Cert.DOxIdeal.τ).loc Cert.DOxIdeal.main_arg2))
      ∧ θ_run (Cert.DOxRefIdeal.defs (F := Ideal)) (onTc (τ := Cert.DOxRefIdeal.τ) (Cert.DOxRefIdeal.main (F := Ideal))) ⟨m', fun _ => 0, g'⟩ (fun r => ∀ c : Dev Cert.DOxRefIdeal.nD,
          r.2.mem ((c.tc : Thread Cert.DOxRefIdeal.nD Cert.DOxRefIdeal.τ).loc Cert.DOxRefIdeal.main_v4) = v0 c
          ∧ r.2.mem ((c.tc : Thread Cert.DOxRefIdeal.nD Cert.DOxRefIdeal.τ).loc Cert.DOxRefIdeal.main_arg0) = m' ((c.tc : Thread Cert.DOxRefIdeal.nD Cert.DOxRefIdeal.τ).loc Cert.DOxRefIdeal.main_arg0)
          ∧ r.2.mem ((c.tc : Thread Cert.DOxRefIdeal.nD Cert.DOxRefIdeal.τ).loc Cert.DOxRefIdeal.main_arg1) = m' ((c.tc : Thread Cert.DOxRefIdeal.nD Cert.DOxRefIdeal.τ).loc Cert.DOxRefIdeal.main_arg1)
          ∧ r.2.mem ((c.tc : Thread Cert.DOxRefIdeal.nD Cert.DOxRefIdeal.τ).loc Cert.DOxRefIdeal.main_arg2) = m' ((c.tc : Thread Cert.DOxRefIdeal.nD Cert.DOxRefIdeal.τ).loc Cert.DOxRefIdeal.main_arg2))

def preserves_DwXo_DwXoIdeal : Prop :=
  True

def algebraic_DwXoIdeal_DwXoRefIdeal [hDwXoIdeal : Cert.DwXoIdeal.Facts] [hDwXoRefIdeal : Cert.DwXoRefIdeal.Facts] : Prop :=
  ∀ (m : (ℓ : Loc Cert.DwXoIdeal.nD Cert.DwXoIdeal.τ Cert.DwXoIdeal.sig) → Buf (Elt Ideal) ℓ) (g : Dev Cert.DwXoIdeal.nD → PrngReg)
    (m' : (ℓ : Loc Cert.DwXoRefIdeal.nD Cert.DwXoRefIdeal.τ Cert.DwXoRefIdeal.sig) → Buf (Elt Ideal) ℓ) (g' : Dev Cert.DwXoRefIdeal.nD → PrngReg), Pre_DwXoIdeal m →
    (∀ c : Dev Cert.DwXoIdeal.nD,
      m' ((c.tc : Thread Cert.DwXoRefIdeal.nD Cert.DwXoRefIdeal.τ).loc Cert.DwXoRefIdeal.main_arg0) = m ((c.tc : Thread Cert.DwXoIdeal.nD Cert.DwXoIdeal.τ).loc Cert.DwXoIdeal.main_arg0)
      ∧ m' ((c.tc : Thread Cert.DwXoRefIdeal.nD Cert.DwXoRefIdeal.τ).loc Cert.DwXoRefIdeal.main_arg1) = m ((c.tc : Thread Cert.DwXoIdeal.nD Cert.DwXoIdeal.τ).loc Cert.DwXoIdeal.main_arg1)
      ∧ m' ((c.tc : Thread Cert.DwXoRefIdeal.nD Cert.DwXoRefIdeal.τ).loc Cert.DwXoRefIdeal.main_arg2) = m ((c.tc : Thread Cert.DwXoIdeal.nD Cert.DwXoIdeal.τ).loc Cert.DwXoIdeal.main_arg2)) →
    ∃ (v0 : (c : Dev Cert.DwXoIdeal.nD) → Buf (Elt Ideal) ((c.tc : Thread Cert.DwXoIdeal.nD Cert.DwXoIdeal.τ).loc Cert.DwXoIdeal.main_v2)),
      θ_run (Cert.DwXoIdeal.defs (F := Ideal)) (onTc (τ := Cert.DwXoIdeal.τ) (Cert.DwXoIdeal.main (F := Ideal))) ⟨m, fun _ => 0, g⟩ (fun r => ∀ c : Dev Cert.DwXoIdeal.nD,
          r.2.mem ((c.tc : Thread Cert.DwXoIdeal.nD Cert.DwXoIdeal.τ).loc Cert.DwXoIdeal.main_v2) = v0 c
          ∧ r.2.mem ((c.tc : Thread Cert.DwXoIdeal.nD Cert.DwXoIdeal.τ).loc Cert.DwXoIdeal.main_arg0) = m ((c.tc : Thread Cert.DwXoIdeal.nD Cert.DwXoIdeal.τ).loc Cert.DwXoIdeal.main_arg0)
          ∧ r.2.mem ((c.tc : Thread Cert.DwXoIdeal.nD Cert.DwXoIdeal.τ).loc Cert.DwXoIdeal.main_arg1) = m ((c.tc : Thread Cert.DwXoIdeal.nD Cert.DwXoIdeal.τ).loc Cert.DwXoIdeal.main_arg1)
          ∧ r.2.mem ((c.tc : Thread Cert.DwXoIdeal.nD Cert.DwXoIdeal.τ).loc Cert.DwXoIdeal.main_arg2) = m ((c.tc : Thread Cert.DwXoIdeal.nD Cert.DwXoIdeal.τ).loc Cert.DwXoIdeal.main_arg2))
      ∧ θ_run (Cert.DwXoRefIdeal.defs (F := Ideal)) (onTc (τ := Cert.DwXoRefIdeal.τ) (Cert.DwXoRefIdeal.main (F := Ideal))) ⟨m', fun _ => 0, g'⟩ (fun r => ∀ c : Dev Cert.DwXoRefIdeal.nD,
          r.2.mem ((c.tc : Thread Cert.DwXoRefIdeal.nD Cert.DwXoRefIdeal.τ).loc Cert.DwXoRefIdeal.main_v5) = v0 c
          ∧ r.2.mem ((c.tc : Thread Cert.DwXoRefIdeal.nD Cert.DwXoRefIdeal.τ).loc Cert.DwXoRefIdeal.main_arg0) = m' ((c.tc : Thread Cert.DwXoRefIdeal.nD Cert.DwXoRefIdeal.τ).loc Cert.DwXoRefIdeal.main_arg0)
          ∧ r.2.mem ((c.tc : Thread Cert.DwXoRefIdeal.nD Cert.DwXoRefIdeal.τ).loc Cert.DwXoRefIdeal.main_arg1) = m' ((c.tc : Thread Cert.DwXoRefIdeal.nD Cert.DwXoRefIdeal.τ).loc Cert.DwXoRefIdeal.main_arg1)
          ∧ r.2.mem ((c.tc : Thread Cert.DwXoRefIdeal.nD Cert.DwXoRefIdeal.τ).loc Cert.DwXoRefIdeal.main_arg2) = m' ((c.tc : Thread Cert.DwXoRefIdeal.nD Cert.DwXoRefIdeal.τ).loc Cert.DwXoRefIdeal.main_arg2))

def preserves_DwXq_DwXqIdeal : Prop :=
  True

def algebraic_DwXqIdeal_DwXqRefIdeal [hDwXqIdeal : Cert.DwXqIdeal.Facts] [hDwXqRefIdeal : Cert.DwXqRefIdeal.Facts] : Prop :=
  ∀ (m : (ℓ : Loc Cert.DwXqIdeal.nD Cert.DwXqIdeal.τ Cert.DwXqIdeal.sig) → Buf (Elt Ideal) ℓ) (g : Dev Cert.DwXqIdeal.nD → PrngReg)
    (m' : (ℓ : Loc Cert.DwXqRefIdeal.nD Cert.DwXqRefIdeal.τ Cert.DwXqRefIdeal.sig) → Buf (Elt Ideal) ℓ) (g' : Dev Cert.DwXqRefIdeal.nD → PrngReg), Pre_DwXqIdeal m →
    (∀ c : Dev Cert.DwXqIdeal.nD,
      m' ((c.tc : Thread Cert.DwXqRefIdeal.nD Cert.DwXqRefIdeal.τ).loc Cert.DwXqRefIdeal.main_arg0) = m ((c.tc : Thread Cert.DwXqIdeal.nD Cert.DwXqIdeal.τ).loc Cert.DwXqIdeal.main_arg0)
      ∧ m' ((c.tc : Thread Cert.DwXqRefIdeal.nD Cert.DwXqRefIdeal.τ).loc Cert.DwXqRefIdeal.main_arg1) = m ((c.tc : Thread Cert.DwXqIdeal.nD Cert.DwXqIdeal.τ).loc Cert.DwXqIdeal.main_arg1)
      ∧ m' ((c.tc : Thread Cert.DwXqRefIdeal.nD Cert.DwXqRefIdeal.τ).loc Cert.DwXqRefIdeal.main_arg2) = m ((c.tc : Thread Cert.DwXqIdeal.nD Cert.DwXqIdeal.τ).loc Cert.DwXqIdeal.main_arg2)) →
    ∃ (v0 : (c : Dev Cert.DwXqIdeal.nD) → Buf (Elt Ideal) ((c.tc : Thread Cert.DwXqIdeal.nD Cert.DwXqIdeal.τ).loc Cert.DwXqIdeal.main_v2)),
      θ_run (Cert.DwXqIdeal.defs (F := Ideal)) (onTc (τ := Cert.DwXqIdeal.τ) (Cert.DwXqIdeal.main (F := Ideal))) ⟨m, fun _ => 0, g⟩ (fun r => ∀ c : Dev Cert.DwXqIdeal.nD,
          r.2.mem ((c.tc : Thread Cert.DwXqIdeal.nD Cert.DwXqIdeal.τ).loc Cert.DwXqIdeal.main_v2) = v0 c
          ∧ r.2.mem ((c.tc : Thread Cert.DwXqIdeal.nD Cert.DwXqIdeal.τ).loc Cert.DwXqIdeal.main_arg0) = m ((c.tc : Thread Cert.DwXqIdeal.nD Cert.DwXqIdeal.τ).loc Cert.DwXqIdeal.main_arg0)
          ∧ r.2.mem ((c.tc : Thread Cert.DwXqIdeal.nD Cert.DwXqIdeal.τ).loc Cert.DwXqIdeal.main_arg1) = m ((c.tc : Thread Cert.DwXqIdeal.nD Cert.DwXqIdeal.τ).loc Cert.DwXqIdeal.main_arg1)
          ∧ r.2.mem ((c.tc : Thread Cert.DwXqIdeal.nD Cert.DwXqIdeal.τ).loc Cert.DwXqIdeal.main_arg2) = m ((c.tc : Thread Cert.DwXqIdeal.nD Cert.DwXqIdeal.τ).loc Cert.DwXqIdeal.main_arg2))
      ∧ θ_run (Cert.DwXqRefIdeal.defs (F := Ideal)) (onTc (τ := Cert.DwXqRefIdeal.τ) (Cert.DwXqRefIdeal.main (F := Ideal))) ⟨m', fun _ => 0, g'⟩ (fun r => ∀ c : Dev Cert.DwXqRefIdeal.nD,
          r.2.mem ((c.tc : Thread Cert.DwXqRefIdeal.nD Cert.DwXqRefIdeal.τ).loc Cert.DwXqRefIdeal.main_v2) = v0 c
          ∧ r.2.mem ((c.tc : Thread Cert.DwXqRefIdeal.nD Cert.DwXqRefIdeal.τ).loc Cert.DwXqRefIdeal.main_arg0) = m' ((c.tc : Thread Cert.DwXqRefIdeal.nD Cert.DwXqRefIdeal.τ).loc Cert.DwXqRefIdeal.main_arg0)
          ∧ r.2.mem ((c.tc : Thread Cert.DwXqRefIdeal.nD Cert.DwXqRefIdeal.τ).loc Cert.DwXqRefIdeal.main_arg1) = m' ((c.tc : Thread Cert.DwXqRefIdeal.nD Cert.DwXqRefIdeal.τ).loc Cert.DwXqRefIdeal.main_arg1)
          ∧ r.2.mem ((c.tc : Thread Cert.DwXqRefIdeal.nD Cert.DwXqRefIdeal.τ).loc Cert.DwXqRefIdeal.main_arg2) = m' ((c.tc : Thread Cert.DwXqRefIdeal.nD Cert.DwXqRefIdeal.τ).loc Cert.DwXqRefIdeal.main_arg2))

def preserves_DwXkv_DwXkvIdeal : Prop :=
  True

def algebraic_DwXkvIdeal_DwXkvRefIdeal [hDwXkvIdeal : Cert.DwXkvIdeal.Facts] [hDwXkvRefIdeal : Cert.DwXkvRefIdeal.Facts] : Prop :=
  ∀ (m : (ℓ : Loc Cert.DwXkvIdeal.nD Cert.DwXkvIdeal.τ Cert.DwXkvIdeal.sig) → Buf (Elt Ideal) ℓ) (g : Dev Cert.DwXkvIdeal.nD → PrngReg)
    (m' : (ℓ : Loc Cert.DwXkvRefIdeal.nD Cert.DwXkvRefIdeal.τ Cert.DwXkvRefIdeal.sig) → Buf (Elt Ideal) ℓ) (g' : Dev Cert.DwXkvRefIdeal.nD → PrngReg), Pre_DwXkvIdeal m →
    (∀ c : Dev Cert.DwXkvIdeal.nD,
      m' ((c.tc : Thread Cert.DwXkvRefIdeal.nD Cert.DwXkvRefIdeal.τ).loc Cert.DwXkvRefIdeal.main_arg0) = m ((c.tc : Thread Cert.DwXkvIdeal.nD Cert.DwXkvIdeal.τ).loc Cert.DwXkvIdeal.main_arg0)
      ∧ m' ((c.tc : Thread Cert.DwXkvRefIdeal.nD Cert.DwXkvRefIdeal.τ).loc Cert.DwXkvRefIdeal.main_arg1) = m ((c.tc : Thread Cert.DwXkvIdeal.nD Cert.DwXkvIdeal.τ).loc Cert.DwXkvIdeal.main_arg1)
      ∧ m' ((c.tc : Thread Cert.DwXkvRefIdeal.nD Cert.DwXkvRefIdeal.τ).loc Cert.DwXkvRefIdeal.main_arg2) = m ((c.tc : Thread Cert.DwXkvIdeal.nD Cert.DwXkvIdeal.τ).loc Cert.DwXkvIdeal.main_arg2)) →
    ∃ (v0 : (c : Dev Cert.DwXkvIdeal.nD) → Buf (Elt Ideal) ((c.tc : Thread Cert.DwXkvIdeal.nD Cert.DwXkvIdeal.τ).loc Cert.DwXkvIdeal.main_v2)),
      θ_run (Cert.DwXkvIdeal.defs (F := Ideal)) (onTc (τ := Cert.DwXkvIdeal.τ) (Cert.DwXkvIdeal.main (F := Ideal))) ⟨m, fun _ => 0, g⟩ (fun r => ∀ c : Dev Cert.DwXkvIdeal.nD,
          r.2.mem ((c.tc : Thread Cert.DwXkvIdeal.nD Cert.DwXkvIdeal.τ).loc Cert.DwXkvIdeal.main_v2) = v0 c
          ∧ r.2.mem ((c.tc : Thread Cert.DwXkvIdeal.nD Cert.DwXkvIdeal.τ).loc Cert.DwXkvIdeal.main_arg0) = m ((c.tc : Thread Cert.DwXkvIdeal.nD Cert.DwXkvIdeal.τ).loc Cert.DwXkvIdeal.main_arg0)
          ∧ r.2.mem ((c.tc : Thread Cert.DwXkvIdeal.nD Cert.DwXkvIdeal.τ).loc Cert.DwXkvIdeal.main_arg1) = m ((c.tc : Thread Cert.DwXkvIdeal.nD Cert.DwXkvIdeal.τ).loc Cert.DwXkvIdeal.main_arg1)
          ∧ r.2.mem ((c.tc : Thread Cert.DwXkvIdeal.nD Cert.DwXkvIdeal.τ).loc Cert.DwXkvIdeal.main_arg2) = m ((c.tc : Thread Cert.DwXkvIdeal.nD Cert.DwXkvIdeal.τ).loc Cert.DwXkvIdeal.main_arg2))
      ∧ θ_run (Cert.DwXkvRefIdeal.defs (F := Ideal)) (onTc (τ := Cert.DwXkvRefIdeal.τ) (Cert.DwXkvRefIdeal.main (F := Ideal))) ⟨m', fun _ => 0, g'⟩ (fun r => ∀ c : Dev Cert.DwXkvRefIdeal.nD,
          r.2.mem ((c.tc : Thread Cert.DwXkvRefIdeal.nD Cert.DwXkvRefIdeal.τ).loc Cert.DwXkvRefIdeal.main_v2) = v0 c
          ∧ r.2.mem ((c.tc : Thread Cert.DwXkvRefIdeal.nD Cert.DwXkvRefIdeal.τ).loc Cert.DwXkvRefIdeal.main_arg0) = m' ((c.tc : Thread Cert.DwXkvRefIdeal.nD Cert.DwXkvRefIdeal.τ).loc Cert.DwXkvRefIdeal.main_arg0)
          ∧ r.2.mem ((c.tc : Thread Cert.DwXkvRefIdeal.nD Cert.DwXkvRefIdeal.τ).loc Cert.DwXkvRefIdeal.main_arg1) = m' ((c.tc : Thread Cert.DwXkvRefIdeal.nD Cert.DwXkvRefIdeal.τ).loc Cert.DwXkvRefIdeal.main_arg1)
          ∧ r.2.mem ((c.tc : Thread Cert.DwXkvRefIdeal.nD Cert.DwXkvRefIdeal.τ).loc Cert.DwXkvRefIdeal.main_arg2) = m' ((c.tc : Thread Cert.DwXkvRefIdeal.nD Cert.DwXkvRefIdeal.τ).loc Cert.DwXkvRefIdeal.main_arg2))

def preserves_DMemn_DMemnIdeal : Prop :=
  True

def algebraic_DMemnIdeal_DMemnRefIdeal [hDMemnIdeal : Cert.DMemnIdeal.Facts] [hDMemnRefIdeal : Cert.DMemnRefIdeal.Facts] : Prop :=
  ∀ (m : (ℓ : Loc Cert.DMemnIdeal.nD Cert.DMemnIdeal.τ Cert.DMemnIdeal.sig) → Buf (Elt Ideal) ℓ) (g : Dev Cert.DMemnIdeal.nD → PrngReg)
    (m' : (ℓ : Loc Cert.DMemnRefIdeal.nD Cert.DMemnRefIdeal.τ Cert.DMemnRefIdeal.sig) → Buf (Elt Ideal) ℓ) (g' : Dev Cert.DMemnRefIdeal.nD → PrngReg), Pre_DMemnIdeal m →
    (∀ c : Dev Cert.DMemnIdeal.nD,
      m' ((c.tc : Thread Cert.DMemnRefIdeal.nD Cert.DMemnRefIdeal.τ).loc Cert.DMemnRefIdeal.main_arg0) = m ((c.tc : Thread Cert.DMemnIdeal.nD Cert.DMemnIdeal.τ).loc Cert.DMemnIdeal.main_arg0)
      ∧ m' ((c.tc : Thread Cert.DMemnRefIdeal.nD Cert.DMemnRefIdeal.τ).loc Cert.DMemnRefIdeal.main_arg1) = m ((c.tc : Thread Cert.DMemnIdeal.nD Cert.DMemnIdeal.τ).loc Cert.DMemnIdeal.main_arg1)
      ∧ m' ((c.tc : Thread Cert.DMemnRefIdeal.nD Cert.DMemnRefIdeal.τ).loc Cert.DMemnRefIdeal.main_arg2) = m ((c.tc : Thread Cert.DMemnIdeal.nD Cert.DMemnIdeal.τ).loc Cert.DMemnIdeal.main_arg2)) →
    ∃ (v0 : (c : Dev Cert.DMemnIdeal.nD) → Buf (Elt Ideal) ((c.tc : Thread Cert.DMemnIdeal.nD Cert.DMemnIdeal.τ).loc Cert.DMemnIdeal.main_v2)),
      θ_run (Cert.DMemnIdeal.defs (F := Ideal)) (onTc (τ := Cert.DMemnIdeal.τ) (Cert.DMemnIdeal.main (F := Ideal))) ⟨m, fun _ => 0, g⟩ (fun r => ∀ c : Dev Cert.DMemnIdeal.nD,
          r.2.mem ((c.tc : Thread Cert.DMemnIdeal.nD Cert.DMemnIdeal.τ).loc Cert.DMemnIdeal.main_v2) = v0 c
          ∧ r.2.mem ((c.tc : Thread Cert.DMemnIdeal.nD Cert.DMemnIdeal.τ).loc Cert.DMemnIdeal.main_arg0) = m ((c.tc : Thread Cert.DMemnIdeal.nD Cert.DMemnIdeal.τ).loc Cert.DMemnIdeal.main_arg0)
          ∧ r.2.mem ((c.tc : Thread Cert.DMemnIdeal.nD Cert.DMemnIdeal.τ).loc Cert.DMemnIdeal.main_arg1) = m ((c.tc : Thread Cert.DMemnIdeal.nD Cert.DMemnIdeal.τ).loc Cert.DMemnIdeal.main_arg1)
          ∧ r.2.mem ((c.tc : Thread Cert.DMemnIdeal.nD Cert.DMemnIdeal.τ).loc Cert.DMemnIdeal.main_arg2) = m ((c.tc : Thread Cert.DMemnIdeal.nD Cert.DMemnIdeal.τ).loc Cert.DMemnIdeal.main_arg2))
      ∧ θ_run (Cert.DMemnRefIdeal.defs (F := Ideal)) (onTc (τ := Cert.DMemnRefIdeal.τ) (Cert.DMemnRefIdeal.main (F := Ideal))) ⟨m', fun _ => 0, g'⟩ (fun r => ∀ c : Dev Cert.DMemnRefIdeal.nD,
          r.2.mem ((c.tc : Thread Cert.DMemnRefIdeal.nD Cert.DMemnRefIdeal.τ).loc Cert.DMemnRefIdeal.main_v3) = v0 c
          ∧ r.2.mem ((c.tc : Thread Cert.DMemnRefIdeal.nD Cert.DMemnRefIdeal.τ).loc Cert.DMemnRefIdeal.main_arg0) = m' ((c.tc : Thread Cert.DMemnRefIdeal.nD Cert.DMemnRefIdeal.τ).loc Cert.DMemnRefIdeal.main_arg0)
          ∧ r.2.mem ((c.tc : Thread Cert.DMemnRefIdeal.nD Cert.DMemnRefIdeal.τ).loc Cert.DMemnRefIdeal.main_arg1) = m' ((c.tc : Thread Cert.DMemnRefIdeal.nD Cert.DMemnRefIdeal.τ).loc Cert.DMemnRefIdeal.main_arg1)
          ∧ r.2.mem ((c.tc : Thread Cert.DMemnRefIdeal.nD Cert.DMemnRefIdeal.τ).loc Cert.DMemnRefIdeal.main_arg2) = m' ((c.tc : Thread Cert.DMemnRefIdeal.nD Cert.DMemnRefIdeal.τ).loc Cert.DMemnRefIdeal.main_arg2))

def preserves_DYnSsm_DYnSsmIdeal : Prop :=
  True

def algebraic_DYnSsmIdeal_DYnSsmRefIdeal [hDYnSsmIdeal : Cert.DYnSsmIdeal.Facts] [hDYnSsmRefIdeal : Cert.DYnSsmRefIdeal.Facts] : Prop :=
  ∀ (m : (ℓ : Loc Cert.DYnSsmIdeal.nD Cert.DYnSsmIdeal.τ Cert.DYnSsmIdeal.sig) → Buf (Elt Ideal) ℓ) (g : Dev Cert.DYnSsmIdeal.nD → PrngReg)
    (m' : (ℓ : Loc Cert.DYnSsmRefIdeal.nD Cert.DYnSsmRefIdeal.τ Cert.DYnSsmRefIdeal.sig) → Buf (Elt Ideal) ℓ) (g' : Dev Cert.DYnSsmRefIdeal.nD → PrngReg), Pre_DYnSsmIdeal m →
    (∀ c : Dev Cert.DYnSsmIdeal.nD,
      m' ((c.tc : Thread Cert.DYnSsmRefIdeal.nD Cert.DYnSsmRefIdeal.τ).loc Cert.DYnSsmRefIdeal.main_arg0) = m ((c.tc : Thread Cert.DYnSsmIdeal.nD Cert.DYnSsmIdeal.τ).loc Cert.DYnSsmIdeal.main_arg0)
      ∧ m' ((c.tc : Thread Cert.DYnSsmRefIdeal.nD Cert.DYnSsmRefIdeal.τ).loc Cert.DYnSsmRefIdeal.main_arg1) = m ((c.tc : Thread Cert.DYnSsmIdeal.nD Cert.DYnSsmIdeal.τ).loc Cert.DYnSsmIdeal.main_arg1)
      ∧ m' ((c.tc : Thread Cert.DYnSsmRefIdeal.nD Cert.DYnSsmRefIdeal.τ).loc Cert.DYnSsmRefIdeal.main_arg2) = m ((c.tc : Thread Cert.DYnSsmIdeal.nD Cert.DYnSsmIdeal.τ).loc Cert.DYnSsmIdeal.main_arg2)) →
    ∃ (v0 : (c : Dev Cert.DYnSsmIdeal.nD) → Buf (Elt Ideal) ((c.tc : Thread Cert.DYnSsmIdeal.nD Cert.DYnSsmIdeal.τ).loc Cert.DYnSsmIdeal.main_v2)),
      θ_run (Cert.DYnSsmIdeal.defs (F := Ideal)) (onTc (τ := Cert.DYnSsmIdeal.τ) (Cert.DYnSsmIdeal.main (F := Ideal))) ⟨m, fun _ => 0, g⟩ (fun r => ∀ c : Dev Cert.DYnSsmIdeal.nD,
          r.2.mem ((c.tc : Thread Cert.DYnSsmIdeal.nD Cert.DYnSsmIdeal.τ).loc Cert.DYnSsmIdeal.main_v2) = v0 c
          ∧ r.2.mem ((c.tc : Thread Cert.DYnSsmIdeal.nD Cert.DYnSsmIdeal.τ).loc Cert.DYnSsmIdeal.main_arg0) = m ((c.tc : Thread Cert.DYnSsmIdeal.nD Cert.DYnSsmIdeal.τ).loc Cert.DYnSsmIdeal.main_arg0)
          ∧ r.2.mem ((c.tc : Thread Cert.DYnSsmIdeal.nD Cert.DYnSsmIdeal.τ).loc Cert.DYnSsmIdeal.main_arg1) = m ((c.tc : Thread Cert.DYnSsmIdeal.nD Cert.DYnSsmIdeal.τ).loc Cert.DYnSsmIdeal.main_arg1)
          ∧ r.2.mem ((c.tc : Thread Cert.DYnSsmIdeal.nD Cert.DYnSsmIdeal.τ).loc Cert.DYnSsmIdeal.main_arg2) = m ((c.tc : Thread Cert.DYnSsmIdeal.nD Cert.DYnSsmIdeal.τ).loc Cert.DYnSsmIdeal.main_arg2))
      ∧ θ_run (Cert.DYnSsmRefIdeal.defs (F := Ideal)) (onTc (τ := Cert.DYnSsmRefIdeal.τ) (Cert.DYnSsmRefIdeal.main (F := Ideal))) ⟨m', fun _ => 0, g'⟩ (fun r => ∀ c : Dev Cert.DYnSsmRefIdeal.nD,
          r.2.mem ((c.tc : Thread Cert.DYnSsmRefIdeal.nD Cert.DYnSsmRefIdeal.τ).loc Cert.DYnSsmRefIdeal.main_v3) = v0 c
          ∧ r.2.mem ((c.tc : Thread Cert.DYnSsmRefIdeal.nD Cert.DYnSsmRefIdeal.τ).loc Cert.DYnSsmRefIdeal.main_arg0) = m' ((c.tc : Thread Cert.DYnSsmRefIdeal.nD Cert.DYnSsmRefIdeal.τ).loc Cert.DYnSsmRefIdeal.main_arg0)
          ∧ r.2.mem ((c.tc : Thread Cert.DYnSsmRefIdeal.nD Cert.DYnSsmRefIdeal.τ).loc Cert.DYnSsmRefIdeal.main_arg1) = m' ((c.tc : Thread Cert.DYnSsmRefIdeal.nD Cert.DYnSsmRefIdeal.τ).loc Cert.DYnSsmRefIdeal.main_arg1)
          ∧ r.2.mem ((c.tc : Thread Cert.DYnSsmRefIdeal.nD Cert.DYnSsmRefIdeal.τ).loc Cert.DYnSsmRefIdeal.main_arg2) = m' ((c.tc : Thread Cert.DYnSsmRefIdeal.nD Cert.DYnSsmRefIdeal.τ).loc Cert.DYnSsmRefIdeal.main_arg2))

def preserves_DwOutSsm_DwOutSsmIdeal : Prop :=
  True

def algebraic_DwOutSsmIdeal_DwOutSsmRefIdeal [hDwOutSsmIdeal : Cert.DwOutSsmIdeal.Facts] [hDwOutSsmRefIdeal : Cert.DwOutSsmRefIdeal.Facts] : Prop :=
  ∀ (m : (ℓ : Loc Cert.DwOutSsmIdeal.nD Cert.DwOutSsmIdeal.τ Cert.DwOutSsmIdeal.sig) → Buf (Elt Ideal) ℓ) (g : Dev Cert.DwOutSsmIdeal.nD → PrngReg)
    (m' : (ℓ : Loc Cert.DwOutSsmRefIdeal.nD Cert.DwOutSsmRefIdeal.τ Cert.DwOutSsmRefIdeal.sig) → Buf (Elt Ideal) ℓ) (g' : Dev Cert.DwOutSsmRefIdeal.nD → PrngReg), Pre_DwOutSsmIdeal m →
    (∀ c : Dev Cert.DwOutSsmIdeal.nD,
      m' ((c.tc : Thread Cert.DwOutSsmRefIdeal.nD Cert.DwOutSsmRefIdeal.τ).loc Cert.DwOutSsmRefIdeal.main_arg0) = m ((c.tc : Thread Cert.DwOutSsmIdeal.nD Cert.DwOutSsmIdeal.τ).loc Cert.DwOutSsmIdeal.main_arg0)
      ∧ m' ((c.tc : Thread Cert.DwOutSsmRefIdeal.nD Cert.DwOutSsmRefIdeal.τ).loc Cert.DwOutSsmRefIdeal.main_arg1) = m ((c.tc : Thread Cert.DwOutSsmIdeal.nD Cert.DwOutSsmIdeal.τ).loc Cert.DwOutSsmIdeal.main_arg1)
      ∧ m' ((c.tc : Thread Cert.DwOutSsmRefIdeal.nD Cert.DwOutSsmRefIdeal.τ).loc Cert.DwOutSsmRefIdeal.main_arg2) = m ((c.tc : Thread Cert.DwOutSsmIdeal.nD Cert.DwOutSsmIdeal.τ).loc Cert.DwOutSsmIdeal.main_arg2)) →
    ∃ (v0 : (c : Dev Cert.DwOutSsmIdeal.nD) → Buf (Elt Ideal) ((c.tc : Thread Cert.DwOutSsmIdeal.nD Cert.DwOutSsmIdeal.τ).loc Cert.DwOutSsmIdeal.main_v2)),
      θ_run (Cert.DwOutSsmIdeal.defs (F := Ideal)) (onTc (τ := Cert.DwOutSsmIdeal.τ) (Cert.DwOutSsmIdeal.main (F := Ideal))) ⟨m, fun _ => 0, g⟩ (fun r => ∀ c : Dev Cert.DwOutSsmIdeal.nD,
          r.2.mem ((c.tc : Thread Cert.DwOutSsmIdeal.nD Cert.DwOutSsmIdeal.τ).loc Cert.DwOutSsmIdeal.main_v2) = v0 c
          ∧ r.2.mem ((c.tc : Thread Cert.DwOutSsmIdeal.nD Cert.DwOutSsmIdeal.τ).loc Cert.DwOutSsmIdeal.main_arg0) = m ((c.tc : Thread Cert.DwOutSsmIdeal.nD Cert.DwOutSsmIdeal.τ).loc Cert.DwOutSsmIdeal.main_arg0)
          ∧ r.2.mem ((c.tc : Thread Cert.DwOutSsmIdeal.nD Cert.DwOutSsmIdeal.τ).loc Cert.DwOutSsmIdeal.main_arg1) = m ((c.tc : Thread Cert.DwOutSsmIdeal.nD Cert.DwOutSsmIdeal.τ).loc Cert.DwOutSsmIdeal.main_arg1)
          ∧ r.2.mem ((c.tc : Thread Cert.DwOutSsmIdeal.nD Cert.DwOutSsmIdeal.τ).loc Cert.DwOutSsmIdeal.main_arg2) = m ((c.tc : Thread Cert.DwOutSsmIdeal.nD Cert.DwOutSsmIdeal.τ).loc Cert.DwOutSsmIdeal.main_arg2))
      ∧ θ_run (Cert.DwOutSsmRefIdeal.defs (F := Ideal)) (onTc (τ := Cert.DwOutSsmRefIdeal.τ) (Cert.DwOutSsmRefIdeal.main (F := Ideal))) ⟨m', fun _ => 0, g'⟩ (fun r => ∀ c : Dev Cert.DwOutSsmRefIdeal.nD,
          r.2.mem ((c.tc : Thread Cert.DwOutSsmRefIdeal.nD Cert.DwOutSsmRefIdeal.τ).loc Cert.DwOutSsmRefIdeal.main_v2) = v0 c
          ∧ r.2.mem ((c.tc : Thread Cert.DwOutSsmRefIdeal.nD Cert.DwOutSsmRefIdeal.τ).loc Cert.DwOutSsmRefIdeal.main_arg0) = m' ((c.tc : Thread Cert.DwOutSsmRefIdeal.nD Cert.DwOutSsmRefIdeal.τ).loc Cert.DwOutSsmRefIdeal.main_arg0)
          ∧ r.2.mem ((c.tc : Thread Cert.DwOutSsmRefIdeal.nD Cert.DwOutSsmRefIdeal.τ).loc Cert.DwOutSsmRefIdeal.main_arg1) = m' ((c.tc : Thread Cert.DwOutSsmRefIdeal.nD Cert.DwOutSsmRefIdeal.τ).loc Cert.DwOutSsmRefIdeal.main_arg1)
          ∧ r.2.mem ((c.tc : Thread Cert.DwOutSsmRefIdeal.nD Cert.DwOutSsmRefIdeal.τ).loc Cert.DwOutSsmRefIdeal.main_arg2) = m' ((c.tc : Thread Cert.DwOutSsmRefIdeal.nD Cert.DwOutSsmRefIdeal.τ).loc Cert.DwOutSsmRefIdeal.main_arg2))

def preserves_DwU_DwUIdeal : Prop :=
  True

def algebraic_DwUIdeal_DwURefIdeal [hDwUIdeal : Cert.DwUIdeal.Facts] [hDwURefIdeal : Cert.DwURefIdeal.Facts] : Prop :=
  ∀ (m : (ℓ : Loc Cert.DwUIdeal.nD Cert.DwUIdeal.τ Cert.DwUIdeal.sig) → Buf (Elt Ideal) ℓ) (g : Dev Cert.DwUIdeal.nD → PrngReg)
    (m' : (ℓ : Loc Cert.DwURefIdeal.nD Cert.DwURefIdeal.τ Cert.DwURefIdeal.sig) → Buf (Elt Ideal) ℓ) (g' : Dev Cert.DwURefIdeal.nD → PrngReg), Pre_DwUIdeal m →
    (∀ c : Dev Cert.DwUIdeal.nD,
      m' ((c.tc : Thread Cert.DwURefIdeal.nD Cert.DwURefIdeal.τ).loc Cert.DwURefIdeal.main_arg0) = m ((c.tc : Thread Cert.DwUIdeal.nD Cert.DwUIdeal.τ).loc Cert.DwUIdeal.main_arg0)
      ∧ m' ((c.tc : Thread Cert.DwURefIdeal.nD Cert.DwURefIdeal.τ).loc Cert.DwURefIdeal.main_arg1) = m ((c.tc : Thread Cert.DwUIdeal.nD Cert.DwUIdeal.τ).loc Cert.DwUIdeal.main_arg1)
      ∧ m' ((c.tc : Thread Cert.DwURefIdeal.nD Cert.DwURefIdeal.τ).loc Cert.DwURefIdeal.main_arg2) = m ((c.tc : Thread Cert.DwUIdeal.nD Cert.DwUIdeal.τ).loc Cert.DwUIdeal.main_arg2)) →
    ∃ (v0 : (c : Dev Cert.DwUIdeal.nD) → Buf (Elt Ideal) ((c.tc : Thread Cert.DwUIdeal.nD Cert.DwUIdeal.τ).loc Cert.DwUIdeal.main_v2)),
      θ_run (Cert.DwUIdeal.defs (F := Ideal)) (onTc (τ := Cert.DwUIdeal.τ) (Cert.DwUIdeal.main (F := Ideal))) ⟨m, fun _ => 0, g⟩ (fun r => ∀ c : Dev Cert.DwUIdeal.nD,
          r.2.mem ((c.tc : Thread Cert.DwUIdeal.nD Cert.DwUIdeal.τ).loc Cert.DwUIdeal.main_v2) = v0 c
          ∧ r.2.mem ((c.tc : Thread Cert.DwUIdeal.nD Cert.DwUIdeal.τ).loc Cert.DwUIdeal.main_arg0) = m ((c.tc : Thread Cert.DwUIdeal.nD Cert.DwUIdeal.τ).loc Cert.DwUIdeal.main_arg0)
          ∧ r.2.mem ((c.tc : Thread Cert.DwUIdeal.nD Cert.DwUIdeal.τ).loc Cert.DwUIdeal.main_arg1) = m ((c.tc : Thread Cert.DwUIdeal.nD Cert.DwUIdeal.τ).loc Cert.DwUIdeal.main_arg1)
          ∧ r.2.mem ((c.tc : Thread Cert.DwUIdeal.nD Cert.DwUIdeal.τ).loc Cert.DwUIdeal.main_arg2) = m ((c.tc : Thread Cert.DwUIdeal.nD Cert.DwUIdeal.τ).loc Cert.DwUIdeal.main_arg2))
      ∧ θ_run (Cert.DwURefIdeal.defs (F := Ideal)) (onTc (τ := Cert.DwURefIdeal.τ) (Cert.DwURefIdeal.main (F := Ideal))) ⟨m', fun _ => 0, g'⟩ (fun r => ∀ c : Dev Cert.DwURefIdeal.nD,
          r.2.mem ((c.tc : Thread Cert.DwURefIdeal.nD Cert.DwURefIdeal.τ).loc Cert.DwURefIdeal.main_v2) = v0 c
          ∧ r.2.mem ((c.tc : Thread Cert.DwURefIdeal.nD Cert.DwURefIdeal.τ).loc Cert.DwURefIdeal.main_arg0) = m' ((c.tc : Thread Cert.DwURefIdeal.nD Cert.DwURefIdeal.τ).loc Cert.DwURefIdeal.main_arg0)
          ∧ r.2.mem ((c.tc : Thread Cert.DwURefIdeal.nD Cert.DwURefIdeal.τ).loc Cert.DwURefIdeal.main_arg1) = m' ((c.tc : Thread Cert.DwURefIdeal.nD Cert.DwURefIdeal.τ).loc Cert.DwURefIdeal.main_arg1)
          ∧ r.2.mem ((c.tc : Thread Cert.DwURefIdeal.nD Cert.DwURefIdeal.τ).loc Cert.DwURefIdeal.main_arg2) = m' ((c.tc : Thread Cert.DwURefIdeal.nD Cert.DwURefIdeal.τ).loc Cert.DwURefIdeal.main_arg2))

def preserves_DH0U_DH0UIdeal : Prop :=
  True

def algebraic_DH0UIdeal_DH0URefIdeal [hDH0UIdeal : Cert.DH0UIdeal.Facts] [hDH0URefIdeal : Cert.DH0URefIdeal.Facts] : Prop :=
  ∀ (m : (ℓ : Loc Cert.DH0UIdeal.nD Cert.DH0UIdeal.τ Cert.DH0UIdeal.sig) → Buf (Elt Ideal) ℓ) (g : Dev Cert.DH0UIdeal.nD → PrngReg)
    (m' : (ℓ : Loc Cert.DH0URefIdeal.nD Cert.DH0URefIdeal.τ Cert.DH0URefIdeal.sig) → Buf (Elt Ideal) ℓ) (g' : Dev Cert.DH0URefIdeal.nD → PrngReg), Pre_DH0UIdeal m →
    (∀ c : Dev Cert.DH0UIdeal.nD,
      m' ((c.tc : Thread Cert.DH0URefIdeal.nD Cert.DH0URefIdeal.τ).loc Cert.DH0URefIdeal.main_arg0) = m ((c.tc : Thread Cert.DH0UIdeal.nD Cert.DH0UIdeal.τ).loc Cert.DH0UIdeal.main_arg0)
      ∧ m' ((c.tc : Thread Cert.DH0URefIdeal.nD Cert.DH0URefIdeal.τ).loc Cert.DH0URefIdeal.main_arg1) = m ((c.tc : Thread Cert.DH0UIdeal.nD Cert.DH0UIdeal.τ).loc Cert.DH0UIdeal.main_arg1)
      ∧ m' ((c.tc : Thread Cert.DH0URefIdeal.nD Cert.DH0URefIdeal.τ).loc Cert.DH0URefIdeal.main_arg2) = m ((c.tc : Thread Cert.DH0UIdeal.nD Cert.DH0UIdeal.τ).loc Cert.DH0UIdeal.main_arg2)) →
    ∃ (v0 : (c : Dev Cert.DH0UIdeal.nD) → Buf (Elt Ideal) ((c.tc : Thread Cert.DH0UIdeal.nD Cert.DH0UIdeal.τ).loc Cert.DH0UIdeal.main_v2)),
      θ_run (Cert.DH0UIdeal.defs (F := Ideal)) (onTc (τ := Cert.DH0UIdeal.τ) (Cert.DH0UIdeal.main (F := Ideal))) ⟨m, fun _ => 0, g⟩ (fun r => ∀ c : Dev Cert.DH0UIdeal.nD,
          r.2.mem ((c.tc : Thread Cert.DH0UIdeal.nD Cert.DH0UIdeal.τ).loc Cert.DH0UIdeal.main_v2) = v0 c
          ∧ r.2.mem ((c.tc : Thread Cert.DH0UIdeal.nD Cert.DH0UIdeal.τ).loc Cert.DH0UIdeal.main_arg0) = m ((c.tc : Thread Cert.DH0UIdeal.nD Cert.DH0UIdeal.τ).loc Cert.DH0UIdeal.main_arg0)
          ∧ r.2.mem ((c.tc : Thread Cert.DH0UIdeal.nD Cert.DH0UIdeal.τ).loc Cert.DH0UIdeal.main_arg1) = m ((c.tc : Thread Cert.DH0UIdeal.nD Cert.DH0UIdeal.τ).loc Cert.DH0UIdeal.main_arg1)
          ∧ r.2.mem ((c.tc : Thread Cert.DH0UIdeal.nD Cert.DH0UIdeal.τ).loc Cert.DH0UIdeal.main_arg2) = m ((c.tc : Thread Cert.DH0UIdeal.nD Cert.DH0UIdeal.τ).loc Cert.DH0UIdeal.main_arg2))
      ∧ θ_run (Cert.DH0URefIdeal.defs (F := Ideal)) (onTc (τ := Cert.DH0URefIdeal.τ) (Cert.DH0URefIdeal.main (F := Ideal))) ⟨m', fun _ => 0, g'⟩ (fun r => ∀ c : Dev Cert.DH0URefIdeal.nD,
          r.2.mem ((c.tc : Thread Cert.DH0URefIdeal.nD Cert.DH0URefIdeal.τ).loc Cert.DH0URefIdeal.main_v3) = v0 c
          ∧ r.2.mem ((c.tc : Thread Cert.DH0URefIdeal.nD Cert.DH0URefIdeal.τ).loc Cert.DH0URefIdeal.main_arg0) = m' ((c.tc : Thread Cert.DH0URefIdeal.nD Cert.DH0URefIdeal.τ).loc Cert.DH0URefIdeal.main_arg0)
          ∧ r.2.mem ((c.tc : Thread Cert.DH0URefIdeal.nD Cert.DH0URefIdeal.τ).loc Cert.DH0URefIdeal.main_arg1) = m' ((c.tc : Thread Cert.DH0URefIdeal.nD Cert.DH0URefIdeal.τ).loc Cert.DH0URefIdeal.main_arg1)
          ∧ r.2.mem ((c.tc : Thread Cert.DH0URefIdeal.nD Cert.DH0URefIdeal.τ).loc Cert.DH0URefIdeal.main_arg2) = m' ((c.tc : Thread Cert.DH0URefIdeal.nD Cert.DH0URefIdeal.τ).loc Cert.DH0URefIdeal.main_arg2))

def preserves_ProjU_ProjUIdeal : Prop :=
  True

def algebraic_ProjUIdeal_ProjURefIdeal [hProjUIdeal : Cert.ProjUIdeal.Facts] [hProjURefIdeal : Cert.ProjURefIdeal.Facts] : Prop :=
  ∀ (m : (ℓ : Loc Cert.ProjUIdeal.nD Cert.ProjUIdeal.τ Cert.ProjUIdeal.sig) → Buf (Elt Ideal) ℓ) (g : Dev Cert.ProjUIdeal.nD → PrngReg)
    (m' : (ℓ : Loc Cert.ProjURefIdeal.nD Cert.ProjURefIdeal.τ Cert.ProjURefIdeal.sig) → Buf (Elt Ideal) ℓ) (g' : Dev Cert.ProjURefIdeal.nD → PrngReg), Pre_ProjUIdeal m →
    (∀ c : Dev Cert.ProjUIdeal.nD,
      m' ((c.tc : Thread Cert.ProjURefIdeal.nD Cert.ProjURefIdeal.τ).loc Cert.ProjURefIdeal.main_arg0) = m ((c.tc : Thread Cert.ProjUIdeal.nD Cert.ProjUIdeal.τ).loc Cert.ProjUIdeal.main_arg0)
      ∧ m' ((c.tc : Thread Cert.ProjURefIdeal.nD Cert.ProjURefIdeal.τ).loc Cert.ProjURefIdeal.main_arg1) = m ((c.tc : Thread Cert.ProjUIdeal.nD Cert.ProjUIdeal.τ).loc Cert.ProjUIdeal.main_arg1)) →
    ∃ (v0 : (c : Dev Cert.ProjUIdeal.nD) → Buf (Elt Ideal) ((c.tc : Thread Cert.ProjUIdeal.nD Cert.ProjUIdeal.τ).loc Cert.ProjUIdeal.main_v2)),
      θ_run (Cert.ProjUIdeal.defs (F := Ideal)) (onTc (τ := Cert.ProjUIdeal.τ) (Cert.ProjUIdeal.main (F := Ideal))) ⟨m, fun _ => 0, g⟩ (fun r => ∀ c : Dev Cert.ProjUIdeal.nD,
          r.2.mem ((c.tc : Thread Cert.ProjUIdeal.nD Cert.ProjUIdeal.τ).loc Cert.ProjUIdeal.main_v2) = v0 c
          ∧ r.2.mem ((c.tc : Thread Cert.ProjUIdeal.nD Cert.ProjUIdeal.τ).loc Cert.ProjUIdeal.main_arg0) = m ((c.tc : Thread Cert.ProjUIdeal.nD Cert.ProjUIdeal.τ).loc Cert.ProjUIdeal.main_arg0)
          ∧ r.2.mem ((c.tc : Thread Cert.ProjUIdeal.nD Cert.ProjUIdeal.τ).loc Cert.ProjUIdeal.main_arg1) = m ((c.tc : Thread Cert.ProjUIdeal.nD Cert.ProjUIdeal.τ).loc Cert.ProjUIdeal.main_arg1))
      ∧ θ_run (Cert.ProjURefIdeal.defs (F := Ideal)) (onTc (τ := Cert.ProjURefIdeal.τ) (Cert.ProjURefIdeal.main (F := Ideal))) ⟨m', fun _ => 0, g'⟩ (fun r => ∀ c : Dev Cert.ProjURefIdeal.nD,
          r.2.mem ((c.tc : Thread Cert.ProjURefIdeal.nD Cert.ProjURefIdeal.τ).loc Cert.ProjURefIdeal.main_v0) = v0 c
          ∧ r.2.mem ((c.tc : Thread Cert.ProjURefIdeal.nD Cert.ProjURefIdeal.τ).loc Cert.ProjURefIdeal.main_arg0) = m' ((c.tc : Thread Cert.ProjURefIdeal.nD Cert.ProjURefIdeal.τ).loc Cert.ProjURefIdeal.main_arg0)
          ∧ r.2.mem ((c.tc : Thread Cert.ProjURefIdeal.nD Cert.ProjURefIdeal.τ).loc Cert.ProjURefIdeal.main_arg1) = m' ((c.tc : Thread Cert.ProjURefIdeal.nD Cert.ProjURefIdeal.τ).loc Cert.ProjURefIdeal.main_arg1))

def preserves_XaQ_XaQIdeal : Prop :=
  True

def algebraic_XaQIdeal_XaQRefIdeal [hXaQIdeal : Cert.XaQIdeal.Facts] [hXaQRefIdeal : Cert.XaQRefIdeal.Facts] : Prop :=
  ∀ (m : (ℓ : Loc Cert.XaQIdeal.nD Cert.XaQIdeal.τ Cert.XaQIdeal.sig) → Buf (Elt Ideal) ℓ) (g : Dev Cert.XaQIdeal.nD → PrngReg)
    (m' : (ℓ : Loc Cert.XaQRefIdeal.nD Cert.XaQRefIdeal.τ Cert.XaQRefIdeal.sig) → Buf (Elt Ideal) ℓ) (g' : Dev Cert.XaQRefIdeal.nD → PrngReg), Pre_XaQIdeal m →
    (∀ c : Dev Cert.XaQIdeal.nD,
      m' ((c.tc : Thread Cert.XaQRefIdeal.nD Cert.XaQRefIdeal.τ).loc Cert.XaQRefIdeal.main_arg0) = m ((c.tc : Thread Cert.XaQIdeal.nD Cert.XaQIdeal.τ).loc Cert.XaQIdeal.main_arg0)
      ∧ m' ((c.tc : Thread Cert.XaQRefIdeal.nD Cert.XaQRefIdeal.τ).loc Cert.XaQRefIdeal.main_arg1) = m ((c.tc : Thread Cert.XaQIdeal.nD Cert.XaQIdeal.τ).loc Cert.XaQIdeal.main_arg1)) →
    ∃ (v0 : (c : Dev Cert.XaQIdeal.nD) → Buf (Elt Ideal) ((c.tc : Thread Cert.XaQIdeal.nD Cert.XaQIdeal.τ).loc Cert.XaQIdeal.main_v2)),
      θ_run (Cert.XaQIdeal.defs (F := Ideal)) (onTc (τ := Cert.XaQIdeal.τ) (Cert.XaQIdeal.main (F := Ideal))) ⟨m, fun _ => 0, g⟩ (fun r => ∀ c : Dev Cert.XaQIdeal.nD,
          r.2.mem ((c.tc : Thread Cert.XaQIdeal.nD Cert.XaQIdeal.τ).loc Cert.XaQIdeal.main_v2) = v0 c
          ∧ r.2.mem ((c.tc : Thread Cert.XaQIdeal.nD Cert.XaQIdeal.τ).loc Cert.XaQIdeal.main_arg0) = m ((c.tc : Thread Cert.XaQIdeal.nD Cert.XaQIdeal.τ).loc Cert.XaQIdeal.main_arg0)
          ∧ r.2.mem ((c.tc : Thread Cert.XaQIdeal.nD Cert.XaQIdeal.τ).loc Cert.XaQIdeal.main_arg1) = m ((c.tc : Thread Cert.XaQIdeal.nD Cert.XaQIdeal.τ).loc Cert.XaQIdeal.main_arg1))
      ∧ θ_run (Cert.XaQRefIdeal.defs (F := Ideal)) (onTc (τ := Cert.XaQRefIdeal.τ) (Cert.XaQRefIdeal.main (F := Ideal))) ⟨m', fun _ => 0, g'⟩ (fun r => ∀ c : Dev Cert.XaQRefIdeal.nD,
          r.2.mem ((c.tc : Thread Cert.XaQRefIdeal.nD Cert.XaQRefIdeal.τ).loc Cert.XaQRefIdeal.main_v0) = v0 c
          ∧ r.2.mem ((c.tc : Thread Cert.XaQRefIdeal.nD Cert.XaQRefIdeal.τ).loc Cert.XaQRefIdeal.main_arg0) = m' ((c.tc : Thread Cert.XaQRefIdeal.nD Cert.XaQRefIdeal.τ).loc Cert.XaQRefIdeal.main_arg0)
          ∧ r.2.mem ((c.tc : Thread Cert.XaQRefIdeal.nD Cert.XaQRefIdeal.τ).loc Cert.XaQRefIdeal.main_arg1) = m' ((c.tc : Thread Cert.XaQRefIdeal.nD Cert.XaQRefIdeal.τ).loc Cert.XaQRefIdeal.main_arg1))

def preserves_XaKv_XaKvIdeal : Prop :=
  True

def algebraic_XaKvIdeal_XaKvRefIdeal [hXaKvIdeal : Cert.XaKvIdeal.Facts] [hXaKvRefIdeal : Cert.XaKvRefIdeal.Facts] : Prop :=
  ∀ (m : (ℓ : Loc Cert.XaKvIdeal.nD Cert.XaKvIdeal.τ Cert.XaKvIdeal.sig) → Buf (Elt Ideal) ℓ) (g : Dev Cert.XaKvIdeal.nD → PrngReg)
    (m' : (ℓ : Loc Cert.XaKvRefIdeal.nD Cert.XaKvRefIdeal.τ Cert.XaKvRefIdeal.sig) → Buf (Elt Ideal) ℓ) (g' : Dev Cert.XaKvRefIdeal.nD → PrngReg), Pre_XaKvIdeal m →
    (∀ c : Dev Cert.XaKvIdeal.nD,
      m' ((c.tc : Thread Cert.XaKvRefIdeal.nD Cert.XaKvRefIdeal.τ).loc Cert.XaKvRefIdeal.main_arg0) = m ((c.tc : Thread Cert.XaKvIdeal.nD Cert.XaKvIdeal.τ).loc Cert.XaKvIdeal.main_arg0)
      ∧ m' ((c.tc : Thread Cert.XaKvRefIdeal.nD Cert.XaKvRefIdeal.τ).loc Cert.XaKvRefIdeal.main_arg1) = m ((c.tc : Thread Cert.XaKvIdeal.nD Cert.XaKvIdeal.τ).loc Cert.XaKvIdeal.main_arg1)) →
    ∃ (v0 : (c : Dev Cert.XaKvIdeal.nD) → Buf (Elt Ideal) ((c.tc : Thread Cert.XaKvIdeal.nD Cert.XaKvIdeal.τ).loc Cert.XaKvIdeal.main_v2)),
      θ_run (Cert.XaKvIdeal.defs (F := Ideal)) (onTc (τ := Cert.XaKvIdeal.τ) (Cert.XaKvIdeal.main (F := Ideal))) ⟨m, fun _ => 0, g⟩ (fun r => ∀ c : Dev Cert.XaKvIdeal.nD,
          r.2.mem ((c.tc : Thread Cert.XaKvIdeal.nD Cert.XaKvIdeal.τ).loc Cert.XaKvIdeal.main_v2) = v0 c
          ∧ r.2.mem ((c.tc : Thread Cert.XaKvIdeal.nD Cert.XaKvIdeal.τ).loc Cert.XaKvIdeal.main_arg0) = m ((c.tc : Thread Cert.XaKvIdeal.nD Cert.XaKvIdeal.τ).loc Cert.XaKvIdeal.main_arg0)
          ∧ r.2.mem ((c.tc : Thread Cert.XaKvIdeal.nD Cert.XaKvIdeal.τ).loc Cert.XaKvIdeal.main_arg1) = m ((c.tc : Thread Cert.XaKvIdeal.nD Cert.XaKvIdeal.τ).loc Cert.XaKvIdeal.main_arg1))
      ∧ θ_run (Cert.XaKvRefIdeal.defs (F := Ideal)) (onTc (τ := Cert.XaKvRefIdeal.τ) (Cert.XaKvRefIdeal.main (F := Ideal))) ⟨m', fun _ => 0, g'⟩ (fun r => ∀ c : Dev Cert.XaKvRefIdeal.nD,
          r.2.mem ((c.tc : Thread Cert.XaKvRefIdeal.nD Cert.XaKvRefIdeal.τ).loc Cert.XaKvRefIdeal.main_v0) = v0 c
          ∧ r.2.mem ((c.tc : Thread Cert.XaKvRefIdeal.nD Cert.XaKvRefIdeal.τ).loc Cert.XaKvRefIdeal.main_arg0) = m' ((c.tc : Thread Cert.XaKvRefIdeal.nD Cert.XaKvRefIdeal.τ).loc Cert.XaKvRefIdeal.main_arg0)
          ∧ r.2.mem ((c.tc : Thread Cert.XaKvRefIdeal.nD Cert.XaKvRefIdeal.τ).loc Cert.XaKvRefIdeal.main_arg1) = m' ((c.tc : Thread Cert.XaKvRefIdeal.nD Cert.XaKvRefIdeal.τ).loc Cert.XaKvRefIdeal.main_arg1))

def preserves_OutSsm_OutSsmIdeal : Prop :=
  True

def algebraic_OutSsmIdeal_OutSsmRefIdeal [hOutSsmIdeal : Cert.OutSsmIdeal.Facts] [hOutSsmRefIdeal : Cert.OutSsmRefIdeal.Facts] : Prop :=
  ∀ (m : (ℓ : Loc Cert.OutSsmIdeal.nD Cert.OutSsmIdeal.τ Cert.OutSsmIdeal.sig) → Buf (Elt Ideal) ℓ) (g : Dev Cert.OutSsmIdeal.nD → PrngReg)
    (m' : (ℓ : Loc Cert.OutSsmRefIdeal.nD Cert.OutSsmRefIdeal.τ Cert.OutSsmRefIdeal.sig) → Buf (Elt Ideal) ℓ) (g' : Dev Cert.OutSsmRefIdeal.nD → PrngReg), Pre_OutSsmIdeal m →
    (∀ c : Dev Cert.OutSsmIdeal.nD,
      m' ((c.tc : Thread Cert.OutSsmRefIdeal.nD Cert.OutSsmRefIdeal.τ).loc Cert.OutSsmRefIdeal.main_arg0) = m ((c.tc : Thread Cert.OutSsmIdeal.nD Cert.OutSsmIdeal.τ).loc Cert.OutSsmIdeal.main_arg0)
      ∧ m' ((c.tc : Thread Cert.OutSsmRefIdeal.nD Cert.OutSsmRefIdeal.τ).loc Cert.OutSsmRefIdeal.main_arg1) = m ((c.tc : Thread Cert.OutSsmIdeal.nD Cert.OutSsmIdeal.τ).loc Cert.OutSsmIdeal.main_arg1)
      ∧ m' ((c.tc : Thread Cert.OutSsmRefIdeal.nD Cert.OutSsmRefIdeal.τ).loc Cert.OutSsmRefIdeal.main_arg2) = m ((c.tc : Thread Cert.OutSsmIdeal.nD Cert.OutSsmIdeal.τ).loc Cert.OutSsmIdeal.main_arg2)) →
    ∃ (v0 : (c : Dev Cert.OutSsmIdeal.nD) → Buf (Elt Ideal) ((c.tc : Thread Cert.OutSsmIdeal.nD Cert.OutSsmIdeal.τ).loc Cert.OutSsmIdeal.main_v2)),
      θ_run (Cert.OutSsmIdeal.defs (F := Ideal)) (onTc (τ := Cert.OutSsmIdeal.τ) (Cert.OutSsmIdeal.main (F := Ideal))) ⟨m, fun _ => 0, g⟩ (fun r => ∀ c : Dev Cert.OutSsmIdeal.nD,
          r.2.mem ((c.tc : Thread Cert.OutSsmIdeal.nD Cert.OutSsmIdeal.τ).loc Cert.OutSsmIdeal.main_v2) = v0 c
          ∧ r.2.mem ((c.tc : Thread Cert.OutSsmIdeal.nD Cert.OutSsmIdeal.τ).loc Cert.OutSsmIdeal.main_arg0) = m ((c.tc : Thread Cert.OutSsmIdeal.nD Cert.OutSsmIdeal.τ).loc Cert.OutSsmIdeal.main_arg0)
          ∧ r.2.mem ((c.tc : Thread Cert.OutSsmIdeal.nD Cert.OutSsmIdeal.τ).loc Cert.OutSsmIdeal.main_arg1) = m ((c.tc : Thread Cert.OutSsmIdeal.nD Cert.OutSsmIdeal.τ).loc Cert.OutSsmIdeal.main_arg1)
          ∧ r.2.mem ((c.tc : Thread Cert.OutSsmIdeal.nD Cert.OutSsmIdeal.τ).loc Cert.OutSsmIdeal.main_arg2) = m ((c.tc : Thread Cert.OutSsmIdeal.nD Cert.OutSsmIdeal.τ).loc Cert.OutSsmIdeal.main_arg2))
      ∧ θ_run (Cert.OutSsmRefIdeal.defs (F := Ideal)) (onTc (τ := Cert.OutSsmRefIdeal.τ) (Cert.OutSsmRefIdeal.main (F := Ideal))) ⟨m', fun _ => 0, g'⟩ (fun r => ∀ c : Dev Cert.OutSsmRefIdeal.nD,
          r.2.mem ((c.tc : Thread Cert.OutSsmRefIdeal.nD Cert.OutSsmRefIdeal.τ).loc Cert.OutSsmRefIdeal.main_v1) = v0 c
          ∧ r.2.mem ((c.tc : Thread Cert.OutSsmRefIdeal.nD Cert.OutSsmRefIdeal.τ).loc Cert.OutSsmRefIdeal.main_arg0) = m' ((c.tc : Thread Cert.OutSsmRefIdeal.nD Cert.OutSsmRefIdeal.τ).loc Cert.OutSsmRefIdeal.main_arg0)
          ∧ r.2.mem ((c.tc : Thread Cert.OutSsmRefIdeal.nD Cert.OutSsmRefIdeal.τ).loc Cert.OutSsmRefIdeal.main_arg1) = m' ((c.tc : Thread Cert.OutSsmRefIdeal.nD Cert.OutSsmRefIdeal.τ).loc Cert.OutSsmRefIdeal.main_arg1)
          ∧ r.2.mem ((c.tc : Thread Cert.OutSsmRefIdeal.nD Cert.OutSsmRefIdeal.τ).loc Cert.OutSsmRefIdeal.main_arg2) = m' ((c.tc : Thread Cert.OutSsmRefIdeal.nD Cert.OutSsmRefIdeal.τ).loc Cert.OutSsmRefIdeal.main_arg2))

def preserves_XaO_XaOIdeal : Prop :=
  True

def algebraic_XaOIdeal_XaORefIdeal [hXaOIdeal : Cert.XaOIdeal.Facts] [hXaORefIdeal : Cert.XaORefIdeal.Facts] : Prop :=
  ∀ (m : (ℓ : Loc Cert.XaOIdeal.nD Cert.XaOIdeal.τ Cert.XaOIdeal.sig) → Buf (Elt Ideal) ℓ) (g : Dev Cert.XaOIdeal.nD → PrngReg)
    (m' : (ℓ : Loc Cert.XaORefIdeal.nD Cert.XaORefIdeal.τ Cert.XaORefIdeal.sig) → Buf (Elt Ideal) ℓ) (g' : Dev Cert.XaORefIdeal.nD → PrngReg), Pre_XaOIdeal m →
    (∀ c : Dev Cert.XaOIdeal.nD,
      m' ((c.tc : Thread Cert.XaORefIdeal.nD Cert.XaORefIdeal.τ).loc Cert.XaORefIdeal.main_arg0) = m ((c.tc : Thread Cert.XaOIdeal.nD Cert.XaOIdeal.τ).loc Cert.XaOIdeal.main_arg0)
      ∧ m' ((c.tc : Thread Cert.XaORefIdeal.nD Cert.XaORefIdeal.τ).loc Cert.XaORefIdeal.main_arg1) = m ((c.tc : Thread Cert.XaOIdeal.nD Cert.XaOIdeal.τ).loc Cert.XaOIdeal.main_arg1)
      ∧ m' ((c.tc : Thread Cert.XaORefIdeal.nD Cert.XaORefIdeal.τ).loc Cert.XaORefIdeal.main_arg2) = m ((c.tc : Thread Cert.XaOIdeal.nD Cert.XaOIdeal.τ).loc Cert.XaOIdeal.main_arg2)) →
    ∃ (v0 : (c : Dev Cert.XaOIdeal.nD) → Buf (Elt Ideal) ((c.tc : Thread Cert.XaOIdeal.nD Cert.XaOIdeal.τ).loc Cert.XaOIdeal.main_v2)),
      θ_run (Cert.XaOIdeal.defs (F := Ideal)) (onTc (τ := Cert.XaOIdeal.τ) (Cert.XaOIdeal.main (F := Ideal))) ⟨m, fun _ => 0, g⟩ (fun r => ∀ c : Dev Cert.XaOIdeal.nD,
          r.2.mem ((c.tc : Thread Cert.XaOIdeal.nD Cert.XaOIdeal.τ).loc Cert.XaOIdeal.main_v2) = v0 c
          ∧ r.2.mem ((c.tc : Thread Cert.XaOIdeal.nD Cert.XaOIdeal.τ).loc Cert.XaOIdeal.main_arg0) = m ((c.tc : Thread Cert.XaOIdeal.nD Cert.XaOIdeal.τ).loc Cert.XaOIdeal.main_arg0)
          ∧ r.2.mem ((c.tc : Thread Cert.XaOIdeal.nD Cert.XaOIdeal.τ).loc Cert.XaOIdeal.main_arg1) = m ((c.tc : Thread Cert.XaOIdeal.nD Cert.XaOIdeal.τ).loc Cert.XaOIdeal.main_arg1)
          ∧ r.2.mem ((c.tc : Thread Cert.XaOIdeal.nD Cert.XaOIdeal.τ).loc Cert.XaOIdeal.main_arg2) = m ((c.tc : Thread Cert.XaOIdeal.nD Cert.XaOIdeal.τ).loc Cert.XaOIdeal.main_arg2))
      ∧ θ_run (Cert.XaORefIdeal.defs (F := Ideal)) (onTc (τ := Cert.XaORefIdeal.τ) (Cert.XaORefIdeal.main (F := Ideal))) ⟨m', fun _ => 0, g'⟩ (fun r => ∀ c : Dev Cert.XaORefIdeal.nD,
          r.2.mem ((c.tc : Thread Cert.XaORefIdeal.nD Cert.XaORefIdeal.τ).loc Cert.XaORefIdeal.main_v1) = v0 c
          ∧ r.2.mem ((c.tc : Thread Cert.XaORefIdeal.nD Cert.XaORefIdeal.τ).loc Cert.XaORefIdeal.main_arg0) = m' ((c.tc : Thread Cert.XaORefIdeal.nD Cert.XaORefIdeal.τ).loc Cert.XaORefIdeal.main_arg0)
          ∧ r.2.mem ((c.tc : Thread Cert.XaORefIdeal.nD Cert.XaORefIdeal.τ).loc Cert.XaORefIdeal.main_arg1) = m' ((c.tc : Thread Cert.XaORefIdeal.nD Cert.XaORefIdeal.τ).loc Cert.XaORefIdeal.main_arg1)
          ∧ r.2.mem ((c.tc : Thread Cert.XaORefIdeal.nD Cert.XaORefIdeal.τ).loc Cert.XaORefIdeal.main_arg2) = m' ((c.tc : Thread Cert.XaORefIdeal.nD Cert.XaORefIdeal.τ).loc Cert.XaORefIdeal.main_arg2))

def preserves_OutSb_OutSbIdeal : Prop :=
  True

def algebraic_OutSbIdeal_OutSbRefIdeal [hOutSbIdeal : Cert.OutSbIdeal.Facts] [hOutSbRefIdeal : Cert.OutSbRefIdeal.Facts] : Prop :=
  ∀ (m : (ℓ : Loc Cert.OutSbIdeal.nD Cert.OutSbIdeal.τ Cert.OutSbIdeal.sig) → Buf (Elt Ideal) ℓ) (g : Dev Cert.OutSbIdeal.nD → PrngReg)
    (m' : (ℓ : Loc Cert.OutSbRefIdeal.nD Cert.OutSbRefIdeal.τ Cert.OutSbRefIdeal.sig) → Buf (Elt Ideal) ℓ) (g' : Dev Cert.OutSbRefIdeal.nD → PrngReg), Pre_OutSbIdeal m →
    (∀ c : Dev Cert.OutSbIdeal.nD,
      m' ((c.tc : Thread Cert.OutSbRefIdeal.nD Cert.OutSbRefIdeal.τ).loc Cert.OutSbRefIdeal.main_arg0) = m ((c.tc : Thread Cert.OutSbIdeal.nD Cert.OutSbIdeal.τ).loc Cert.OutSbIdeal.main_arg0)
      ∧ m' ((c.tc : Thread Cert.OutSbRefIdeal.nD Cert.OutSbRefIdeal.τ).loc Cert.OutSbRefIdeal.main_arg1) = m ((c.tc : Thread Cert.OutSbIdeal.nD Cert.OutSbIdeal.τ).loc Cert.OutSbIdeal.main_arg1)
      ∧ m' ((c.tc : Thread Cert.OutSbRefIdeal.nD Cert.OutSbRefIdeal.τ).loc Cert.OutSbRefIdeal.main_arg2) = m ((c.tc : Thread Cert.OutSbIdeal.nD Cert.OutSbIdeal.τ).loc Cert.OutSbIdeal.main_arg2)) →
    ∃ (v0 : (c : Dev Cert.OutSbIdeal.nD) → Buf (Elt Ideal) ((c.tc : Thread Cert.OutSbIdeal.nD Cert.OutSbIdeal.τ).loc Cert.OutSbIdeal.main_v8)),
      θ_run (Cert.OutSbIdeal.defs (F := Ideal)) (onTc (τ := Cert.OutSbIdeal.τ) (Cert.OutSbIdeal.main (F := Ideal))) ⟨m, fun _ => 0, g⟩ (fun r => ∀ c : Dev Cert.OutSbIdeal.nD,
          r.2.mem ((c.tc : Thread Cert.OutSbIdeal.nD Cert.OutSbIdeal.τ).loc Cert.OutSbIdeal.main_v8) = v0 c
          ∧ r.2.mem ((c.tc : Thread Cert.OutSbIdeal.nD Cert.OutSbIdeal.τ).loc Cert.OutSbIdeal.main_arg0) = m ((c.tc : Thread Cert.OutSbIdeal.nD Cert.OutSbIdeal.τ).loc Cert.OutSbIdeal.main_arg0)
          ∧ r.2.mem ((c.tc : Thread Cert.OutSbIdeal.nD Cert.OutSbIdeal.τ).loc Cert.OutSbIdeal.main_arg1) = m ((c.tc : Thread Cert.OutSbIdeal.nD Cert.OutSbIdeal.τ).loc Cert.OutSbIdeal.main_arg1)
          ∧ r.2.mem ((c.tc : Thread Cert.OutSbIdeal.nD Cert.OutSbIdeal.τ).loc Cert.OutSbIdeal.main_arg2) = m ((c.tc : Thread Cert.OutSbIdeal.nD Cert.OutSbIdeal.τ).loc Cert.OutSbIdeal.main_arg2))
      ∧ θ_run (Cert.OutSbRefIdeal.defs (F := Ideal)) (onTc (τ := Cert.OutSbRefIdeal.τ) (Cert.OutSbRefIdeal.main (F := Ideal))) ⟨m', fun _ => 0, g'⟩ (fun r => ∀ c : Dev Cert.OutSbRefIdeal.nD,
          r.2.mem ((c.tc : Thread Cert.OutSbRefIdeal.nD Cert.OutSbRefIdeal.τ).loc Cert.OutSbRefIdeal.main_v1) = v0 c
          ∧ r.2.mem ((c.tc : Thread Cert.OutSbRefIdeal.nD Cert.OutSbRefIdeal.τ).loc Cert.OutSbRefIdeal.main_arg0) = m' ((c.tc : Thread Cert.OutSbRefIdeal.nD Cert.OutSbRefIdeal.τ).loc Cert.OutSbRefIdeal.main_arg0)
          ∧ r.2.mem ((c.tc : Thread Cert.OutSbRefIdeal.nD Cert.OutSbRefIdeal.τ).loc Cert.OutSbRefIdeal.main_arg1) = m' ((c.tc : Thread Cert.OutSbRefIdeal.nD Cert.OutSbRefIdeal.τ).loc Cert.OutSbRefIdeal.main_arg1)
          ∧ r.2.mem ((c.tc : Thread Cert.OutSbRefIdeal.nD Cert.OutSbRefIdeal.τ).loc Cert.OutSbRefIdeal.main_arg2) = m' ((c.tc : Thread Cert.OutSbRefIdeal.nD Cert.OutSbRefIdeal.τ).loc Cert.OutSbRefIdeal.main_arg2))

def preserves_DYnSb_DYnSbIdeal : Prop :=
  True

def algebraic_DYnSbIdeal_DYnSbRefIdeal [hDYnSbIdeal : Cert.DYnSbIdeal.Facts] [hDYnSbRefIdeal : Cert.DYnSbRefIdeal.Facts] : Prop :=
  ∀ (m : (ℓ : Loc Cert.DYnSbIdeal.nD Cert.DYnSbIdeal.τ Cert.DYnSbIdeal.sig) → Buf (Elt Ideal) ℓ) (g : Dev Cert.DYnSbIdeal.nD → PrngReg)
    (m' : (ℓ : Loc Cert.DYnSbRefIdeal.nD Cert.DYnSbRefIdeal.τ Cert.DYnSbRefIdeal.sig) → Buf (Elt Ideal) ℓ) (g' : Dev Cert.DYnSbRefIdeal.nD → PrngReg), Pre_DYnSbIdeal m →
    (∀ c : Dev Cert.DYnSbIdeal.nD,
      m' ((c.tc : Thread Cert.DYnSbRefIdeal.nD Cert.DYnSbRefIdeal.τ).loc Cert.DYnSbRefIdeal.main_arg0) = m ((c.tc : Thread Cert.DYnSbIdeal.nD Cert.DYnSbIdeal.τ).loc Cert.DYnSbIdeal.main_arg0)
      ∧ m' ((c.tc : Thread Cert.DYnSbRefIdeal.nD Cert.DYnSbRefIdeal.τ).loc Cert.DYnSbRefIdeal.main_arg1) = m ((c.tc : Thread Cert.DYnSbIdeal.nD Cert.DYnSbIdeal.τ).loc Cert.DYnSbIdeal.main_arg1)
      ∧ m' ((c.tc : Thread Cert.DYnSbRefIdeal.nD Cert.DYnSbRefIdeal.τ).loc Cert.DYnSbRefIdeal.main_arg2) = m ((c.tc : Thread Cert.DYnSbIdeal.nD Cert.DYnSbIdeal.τ).loc Cert.DYnSbIdeal.main_arg2)) →
    ∃ (v0 : (c : Dev Cert.DYnSbIdeal.nD) → Buf (Elt Ideal) ((c.tc : Thread Cert.DYnSbIdeal.nD Cert.DYnSbIdeal.τ).loc Cert.DYnSbIdeal.main_v5)),
      θ_run (Cert.DYnSbIdeal.defs (F := Ideal)) (onTc (τ := Cert.DYnSbIdeal.τ) (Cert.DYnSbIdeal.main (F := Ideal))) ⟨m, fun _ => 0, g⟩ (fun r => ∀ c : Dev Cert.DYnSbIdeal.nD,
          r.2.mem ((c.tc : Thread Cert.DYnSbIdeal.nD Cert.DYnSbIdeal.τ).loc Cert.DYnSbIdeal.main_v5) = v0 c
          ∧ r.2.mem ((c.tc : Thread Cert.DYnSbIdeal.nD Cert.DYnSbIdeal.τ).loc Cert.DYnSbIdeal.main_arg0) = m ((c.tc : Thread Cert.DYnSbIdeal.nD Cert.DYnSbIdeal.τ).loc Cert.DYnSbIdeal.main_arg0)
          ∧ r.2.mem ((c.tc : Thread Cert.DYnSbIdeal.nD Cert.DYnSbIdeal.τ).loc Cert.DYnSbIdeal.main_arg1) = m ((c.tc : Thread Cert.DYnSbIdeal.nD Cert.DYnSbIdeal.τ).loc Cert.DYnSbIdeal.main_arg1)
          ∧ r.2.mem ((c.tc : Thread Cert.DYnSbIdeal.nD Cert.DYnSbIdeal.τ).loc Cert.DYnSbIdeal.main_arg2) = m ((c.tc : Thread Cert.DYnSbIdeal.nD Cert.DYnSbIdeal.τ).loc Cert.DYnSbIdeal.main_arg2))
      ∧ θ_run (Cert.DYnSbRefIdeal.defs (F := Ideal)) (onTc (τ := Cert.DYnSbRefIdeal.τ) (Cert.DYnSbRefIdeal.main (F := Ideal))) ⟨m', fun _ => 0, g'⟩ (fun r => ∀ c : Dev Cert.DYnSbRefIdeal.nD,
          r.2.mem ((c.tc : Thread Cert.DYnSbRefIdeal.nD Cert.DYnSbRefIdeal.τ).loc Cert.DYnSbRefIdeal.main_v6) = v0 c
          ∧ r.2.mem ((c.tc : Thread Cert.DYnSbRefIdeal.nD Cert.DYnSbRefIdeal.τ).loc Cert.DYnSbRefIdeal.main_arg0) = m' ((c.tc : Thread Cert.DYnSbRefIdeal.nD Cert.DYnSbRefIdeal.τ).loc Cert.DYnSbRefIdeal.main_arg0)
          ∧ r.2.mem ((c.tc : Thread Cert.DYnSbRefIdeal.nD Cert.DYnSbRefIdeal.τ).loc Cert.DYnSbRefIdeal.main_arg1) = m' ((c.tc : Thread Cert.DYnSbRefIdeal.nD Cert.DYnSbRefIdeal.τ).loc Cert.DYnSbRefIdeal.main_arg1)
          ∧ r.2.mem ((c.tc : Thread Cert.DYnSbRefIdeal.nD Cert.DYnSbRefIdeal.τ).loc Cert.DYnSbRefIdeal.main_arg2) = m' ((c.tc : Thread Cert.DYnSbRefIdeal.nD Cert.DYnSbRefIdeal.τ).loc Cert.DYnSbRefIdeal.main_arg2))

def preserves_DwOutSb_DwOutSbIdeal : Prop :=
  True

def algebraic_DwOutSbIdeal_DwOutSbRefIdeal [hDwOutSbIdeal : Cert.DwOutSbIdeal.Facts] [hDwOutSbRefIdeal : Cert.DwOutSbRefIdeal.Facts] : Prop :=
  ∀ (m : (ℓ : Loc Cert.DwOutSbIdeal.nD Cert.DwOutSbIdeal.τ Cert.DwOutSbIdeal.sig) → Buf (Elt Ideal) ℓ) (g : Dev Cert.DwOutSbIdeal.nD → PrngReg)
    (m' : (ℓ : Loc Cert.DwOutSbRefIdeal.nD Cert.DwOutSbRefIdeal.τ Cert.DwOutSbRefIdeal.sig) → Buf (Elt Ideal) ℓ) (g' : Dev Cert.DwOutSbRefIdeal.nD → PrngReg), Pre_DwOutSbIdeal m →
    (∀ c : Dev Cert.DwOutSbIdeal.nD,
      m' ((c.tc : Thread Cert.DwOutSbRefIdeal.nD Cert.DwOutSbRefIdeal.τ).loc Cert.DwOutSbRefIdeal.main_arg0) = m ((c.tc : Thread Cert.DwOutSbIdeal.nD Cert.DwOutSbIdeal.τ).loc Cert.DwOutSbIdeal.main_arg0)
      ∧ m' ((c.tc : Thread Cert.DwOutSbRefIdeal.nD Cert.DwOutSbRefIdeal.τ).loc Cert.DwOutSbRefIdeal.main_arg1) = m ((c.tc : Thread Cert.DwOutSbIdeal.nD Cert.DwOutSbIdeal.τ).loc Cert.DwOutSbIdeal.main_arg1)
      ∧ m' ((c.tc : Thread Cert.DwOutSbRefIdeal.nD Cert.DwOutSbRefIdeal.τ).loc Cert.DwOutSbRefIdeal.main_arg2) = m ((c.tc : Thread Cert.DwOutSbIdeal.nD Cert.DwOutSbIdeal.τ).loc Cert.DwOutSbIdeal.main_arg2)) →
    ∃ (v0 : (c : Dev Cert.DwOutSbIdeal.nD) → Buf (Elt Ideal) ((c.tc : Thread Cert.DwOutSbIdeal.nD Cert.DwOutSbIdeal.τ).loc Cert.DwOutSbIdeal.main_v5)),
      θ_run (Cert.DwOutSbIdeal.defs (F := Ideal)) (onTc (τ := Cert.DwOutSbIdeal.τ) (Cert.DwOutSbIdeal.main (F := Ideal))) ⟨m, fun _ => 0, g⟩ (fun r => ∀ c : Dev Cert.DwOutSbIdeal.nD,
          r.2.mem ((c.tc : Thread Cert.DwOutSbIdeal.nD Cert.DwOutSbIdeal.τ).loc Cert.DwOutSbIdeal.main_v5) = v0 c
          ∧ r.2.mem ((c.tc : Thread Cert.DwOutSbIdeal.nD Cert.DwOutSbIdeal.τ).loc Cert.DwOutSbIdeal.main_arg0) = m ((c.tc : Thread Cert.DwOutSbIdeal.nD Cert.DwOutSbIdeal.τ).loc Cert.DwOutSbIdeal.main_arg0)
          ∧ r.2.mem ((c.tc : Thread Cert.DwOutSbIdeal.nD Cert.DwOutSbIdeal.τ).loc Cert.DwOutSbIdeal.main_arg1) = m ((c.tc : Thread Cert.DwOutSbIdeal.nD Cert.DwOutSbIdeal.τ).loc Cert.DwOutSbIdeal.main_arg1)
          ∧ r.2.mem ((c.tc : Thread Cert.DwOutSbIdeal.nD Cert.DwOutSbIdeal.τ).loc Cert.DwOutSbIdeal.main_arg2) = m ((c.tc : Thread Cert.DwOutSbIdeal.nD Cert.DwOutSbIdeal.τ).loc Cert.DwOutSbIdeal.main_arg2))
      ∧ θ_run (Cert.DwOutSbRefIdeal.defs (F := Ideal)) (onTc (τ := Cert.DwOutSbRefIdeal.τ) (Cert.DwOutSbRefIdeal.main (F := Ideal))) ⟨m', fun _ => 0, g'⟩ (fun r => ∀ c : Dev Cert.DwOutSbRefIdeal.nD,
          r.2.mem ((c.tc : Thread Cert.DwOutSbRefIdeal.nD Cert.DwOutSbRefIdeal.τ).loc Cert.DwOutSbRefIdeal.main_v6) = v0 c
          ∧ r.2.mem ((c.tc : Thread Cert.DwOutSbRefIdeal.nD Cert.DwOutSbRefIdeal.τ).loc Cert.DwOutSbRefIdeal.main_arg0) = m' ((c.tc : Thread Cert.DwOutSbRefIdeal.nD Cert.DwOutSbRefIdeal.τ).loc Cert.DwOutSbRefIdeal.main_arg0)
          ∧ r.2.mem ((c.tc : Thread Cert.DwOutSbRefIdeal.nD Cert.DwOutSbRefIdeal.τ).loc Cert.DwOutSbRefIdeal.main_arg1) = m' ((c.tc : Thread Cert.DwOutSbRefIdeal.nD Cert.DwOutSbRefIdeal.τ).loc Cert.DwOutSbRefIdeal.main_arg1)
          ∧ r.2.mem ((c.tc : Thread Cert.DwOutSbRefIdeal.nD Cert.DwOutSbRefIdeal.τ).loc Cert.DwOutSbRefIdeal.main_arg2) = m' ((c.tc : Thread Cert.DwOutSbRefIdeal.nD Cert.DwOutSbRefIdeal.τ).loc Cert.DwOutSbRefIdeal.main_arg2))

def preserves_DwQkv_DwQkvIdeal : Prop :=
  True

def algebraic_DwQkvIdeal_DwQkvRefIdeal [hDwQkvIdeal : Cert.DwQkvIdeal.Facts] [hDwQkvRefIdeal : Cert.DwQkvRefIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg)
    (m' : (ℓ : Loc Cert.DwQkvRefIdeal.nD Cert.DwQkvRefIdeal.τ Cert.DwQkvRefIdeal.sig) → Buf (Elt Ideal) ℓ) (g' : Dev Cert.DwQkvRefIdeal.nD → PrngReg), Pre_DwQkvIdeal m →
    (∀ c : Dev Cert.DwQkvIdeal.nD,
      m' ((c.tc : Thread Cert.DwQkvRefIdeal.nD Cert.DwQkvRefIdeal.τ).loc Cert.DwQkvRefIdeal.main_arg0) = m ((c.tc : Thread Cert.DwQkvIdeal.nD Cert.DwQkvIdeal.τ).loc Cert.DwQkvIdeal.main_arg0)
      ∧ m' ((c.tc : Thread Cert.DwQkvRefIdeal.nD Cert.DwQkvRefIdeal.τ).loc Cert.DwQkvRefIdeal.main_arg1) = m ((c.tc : Thread Cert.DwQkvIdeal.nD Cert.DwQkvIdeal.τ).loc Cert.DwQkvIdeal.main_arg1)
      ∧ m' ((c.tc : Thread Cert.DwQkvRefIdeal.nD Cert.DwQkvRefIdeal.τ).loc Cert.DwQkvRefIdeal.main_arg2) = m ((c.tc : Thread Cert.DwQkvIdeal.nD Cert.DwQkvIdeal.τ).loc Cert.DwQkvIdeal.main_arg2)
      ∧ m' ((c.tc : Thread Cert.DwQkvRefIdeal.nD Cert.DwQkvRefIdeal.τ).loc Cert.DwQkvRefIdeal.main_arg3) = m ((c.tc : Thread Cert.DwQkvIdeal.nD Cert.DwQkvIdeal.τ).loc Cert.DwQkvIdeal.main_arg3)
      ∧ m' ((c.tc : Thread Cert.DwQkvRefIdeal.nD Cert.DwQkvRefIdeal.τ).loc Cert.DwQkvRefIdeal.main_arg4) = m ((c.tc : Thread Cert.DwQkvIdeal.nD Cert.DwQkvIdeal.τ).loc Cert.DwQkvIdeal.main_arg4)
      ∧ m' ((c.tc : Thread Cert.DwQkvRefIdeal.nD Cert.DwQkvRefIdeal.τ).loc Cert.DwQkvRefIdeal.main_arg5) = m ((c.tc : Thread Cert.DwQkvIdeal.nD Cert.DwQkvIdeal.τ).loc Cert.DwQkvIdeal.main_arg5)
      ∧ m' ((c.tc : Thread Cert.DwQkvRefIdeal.nD Cert.DwQkvRefIdeal.τ).loc Cert.DwQkvRefIdeal.main_arg6) = m ((c.tc : Thread Cert.DwQkvIdeal.nD Cert.DwQkvIdeal.τ).loc Cert.DwQkvIdeal.main_arg6)) →
    ∃ (v0 : (c : Dev Cert.DwQkvIdeal.nD) → Buf (Elt Ideal) ((c.tc : Thread Cert.DwQkvIdeal.nD Cert.DwQkvIdeal.τ).loc Cert.DwQkvIdeal.main_v14)),
      θ_run (Cert.DwQkvIdeal.defs (F := Ideal)) (onTc (τ := Cert.DwQkvIdeal.τ) (Cert.DwQkvIdeal.main (F := Ideal))) ⟨m, fun _ => 0, g⟩ (fun r => ∀ c : Dev Cert.DwQkvIdeal.nD,
          r.2.mem ((c.tc : Thread Cert.DwQkvIdeal.nD Cert.DwQkvIdeal.τ).loc Cert.DwQkvIdeal.main_v14) = v0 c
          ∧ r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
          ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1)
          ∧ r.2.mem ((c.tc : Thread Cert.DwQkvIdeal.nD Cert.DwQkvIdeal.τ).loc Cert.DwQkvIdeal.main_arg2) = m ((c.tc : Thread Cert.DwQkvIdeal.nD Cert.DwQkvIdeal.τ).loc Cert.DwQkvIdeal.main_arg2)
          ∧ r.2.mem ((c.tc : Thread Cert.DwQkvIdeal.nD Cert.DwQkvIdeal.τ).loc Cert.DwQkvIdeal.main_arg3) = m ((c.tc : Thread Cert.DwQkvIdeal.nD Cert.DwQkvIdeal.τ).loc Cert.DwQkvIdeal.main_arg3)
          ∧ r.2.mem ((c.tc : Thread Cert.DwQkvIdeal.nD Cert.DwQkvIdeal.τ).loc Cert.DwQkvIdeal.main_arg4) = m ((c.tc : Thread Cert.DwQkvIdeal.nD Cert.DwQkvIdeal.τ).loc Cert.DwQkvIdeal.main_arg4)
          ∧ r.2.mem ((c.tc : Thread Cert.DwQkvIdeal.nD Cert.DwQkvIdeal.τ).loc Cert.DwQkvIdeal.main_arg5) = m ((c.tc : Thread Cert.DwQkvIdeal.nD Cert.DwQkvIdeal.τ).loc Cert.DwQkvIdeal.main_arg5)
          ∧ r.2.mem ((c.tc : Thread Cert.DwQkvIdeal.nD Cert.DwQkvIdeal.τ).loc Cert.DwQkvIdeal.main_arg6) = m ((c.tc : Thread Cert.DwQkvIdeal.nD Cert.DwQkvIdeal.τ).loc Cert.DwQkvIdeal.main_arg6))
      ∧ θ_run (Cert.DwQkvRefIdeal.defs (F := Ideal)) (onTc (τ := Cert.DwQkvRefIdeal.τ) (Cert.DwQkvRefIdeal.main (F := Ideal))) ⟨m', fun _ => 0, g'⟩ (fun r => ∀ c : Dev Cert.DwQkvRefIdeal.nD,
          r.2.mem ((c.tc : Thread Cert.DwQkvRefIdeal.nD Cert.DwQkvRefIdeal.τ).loc Cert.DwQkvRefIdeal.main_v17) = v0 c
          ∧ r.2.mem ((c.tc : Thread Cert.DwQkvRefIdeal.nD Cert.DwQkvRefIdeal.τ).loc Cert.DwQkvRefIdeal.main_arg0) = m' ((c.tc : Thread Cert.DwQkvRefIdeal.nD Cert.DwQkvRefIdeal.τ).loc Cert.DwQkvRefIdeal.main_arg0)
          ∧ r.2.mem ((c.tc : Thread Cert.DwQkvRefIdeal.nD Cert.DwQkvRefIdeal.τ).loc Cert.DwQkvRefIdeal.main_arg1) = m' ((c.tc : Thread Cert.DwQkvRefIdeal.nD Cert.DwQkvRefIdeal.τ).loc Cert.DwQkvRefIdeal.main_arg1)
          ∧ r.2.mem ((c.tc : Thread Cert.DwQkvRefIdeal.nD Cert.DwQkvRefIdeal.τ).loc Cert.DwQkvRefIdeal.main_arg2) = m' ((c.tc : Thread Cert.DwQkvRefIdeal.nD Cert.DwQkvRefIdeal.τ).loc Cert.DwQkvRefIdeal.main_arg2)
          ∧ r.2.mem ((c.tc : Thread Cert.DwQkvRefIdeal.nD Cert.DwQkvRefIdeal.τ).loc Cert.DwQkvRefIdeal.main_arg3) = m' ((c.tc : Thread Cert.DwQkvRefIdeal.nD Cert.DwQkvRefIdeal.τ).loc Cert.DwQkvRefIdeal.main_arg3)
          ∧ r.2.mem ((c.tc : Thread Cert.DwQkvRefIdeal.nD Cert.DwQkvRefIdeal.τ).loc Cert.DwQkvRefIdeal.main_arg4) = m' ((c.tc : Thread Cert.DwQkvRefIdeal.nD Cert.DwQkvRefIdeal.τ).loc Cert.DwQkvRefIdeal.main_arg4)
          ∧ r.2.mem ((c.tc : Thread Cert.DwQkvRefIdeal.nD Cert.DwQkvRefIdeal.τ).loc Cert.DwQkvRefIdeal.main_arg5) = m' ((c.tc : Thread Cert.DwQkvRefIdeal.nD Cert.DwQkvRefIdeal.τ).loc Cert.DwQkvRefIdeal.main_arg5)
          ∧ r.2.mem ((c.tc : Thread Cert.DwQkvRefIdeal.nD Cert.DwQkvRefIdeal.τ).loc Cert.DwQkvRefIdeal.main_arg6) = m' ((c.tc : Thread Cert.DwQkvRefIdeal.nD Cert.DwQkvRefIdeal.τ).loc Cert.DwQkvRefIdeal.main_arg6))

def preserves_GluFwd_GluFwdIdeal : Prop :=
  True

def algebraic_GluFwdIdeal_GluFwdRefIdeal [hGluFwdIdeal : Cert.GluFwdIdeal.Facts] [hGluFwdRefIdeal : Cert.GluFwdRefIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg)
    (m' : (ℓ : Loc Cert.GluFwdRefIdeal.nD Cert.GluFwdRefIdeal.τ Cert.GluFwdRefIdeal.sig) → Buf (Elt Ideal) ℓ) (g' : Dev Cert.GluFwdRefIdeal.nD → PrngReg), Pre_GluFwdIdeal m →
    (∀ c : Dev Cert.GluFwdIdeal.nD,
      m' ((c.tc : Thread Cert.GluFwdRefIdeal.nD Cert.GluFwdRefIdeal.τ).loc Cert.GluFwdRefIdeal.main_arg0) = m ((c.tc : Thread Cert.GluFwdIdeal.nD Cert.GluFwdIdeal.τ).loc Cert.GluFwdIdeal.main_arg0)
      ∧ m' ((c.tc : Thread Cert.GluFwdRefIdeal.nD Cert.GluFwdRefIdeal.τ).loc Cert.GluFwdRefIdeal.main_arg1) = m ((c.tc : Thread Cert.GluFwdIdeal.nD Cert.GluFwdIdeal.τ).loc Cert.GluFwdIdeal.main_arg1)
      ∧ m' ((c.tc : Thread Cert.GluFwdRefIdeal.nD Cert.GluFwdRefIdeal.τ).loc Cert.GluFwdRefIdeal.main_arg2) = m ((c.tc : Thread Cert.GluFwdIdeal.nD Cert.GluFwdIdeal.τ).loc Cert.GluFwdIdeal.main_arg2)
      ∧ m' ((c.tc : Thread Cert.GluFwdRefIdeal.nD Cert.GluFwdRefIdeal.τ).loc Cert.GluFwdRefIdeal.main_arg3) = m ((c.tc : Thread Cert.GluFwdIdeal.nD Cert.GluFwdIdeal.τ).loc Cert.GluFwdIdeal.main_arg3)
      ∧ m' ((c.tc : Thread Cert.GluFwdRefIdeal.nD Cert.GluFwdRefIdeal.τ).loc Cert.GluFwdRefIdeal.main_arg4) = m ((c.tc : Thread Cert.GluFwdIdeal.nD Cert.GluFwdIdeal.τ).loc Cert.GluFwdIdeal.main_arg4)) →
    ∃ (v0 : (c : Dev Cert.GluFwdIdeal.nD) → Buf (Elt Ideal) ((c.tc : Thread Cert.GluFwdIdeal.nD Cert.GluFwdIdeal.τ).loc Cert.GluFwdIdeal.main_v1_0)) (v1 : (c : Dev Cert.GluFwdIdeal.nD) → Buf (Elt Ideal) ((c.tc : Thread Cert.GluFwdIdeal.nD Cert.GluFwdIdeal.τ).loc Cert.GluFwdIdeal.main_v1_1)) (v2 : (c : Dev Cert.GluFwdIdeal.nD) → Buf (Elt Ideal) ((c.tc : Thread Cert.GluFwdIdeal.nD Cert.GluFwdIdeal.τ).loc Cert.GluFwdIdeal.main_v1_2)),
      θ_run (Cert.GluFwdIdeal.defs (F := Ideal)) (onTc (τ := Cert.GluFwdIdeal.τ) (Cert.GluFwdIdeal.main (F := Ideal))) ⟨m, fun _ => 0, g⟩ (fun r => ∀ c : Dev Cert.GluFwdIdeal.nD,
          r.2.mem ((c.tc : Thread Cert.GluFwdIdeal.nD Cert.GluFwdIdeal.τ).loc Cert.GluFwdIdeal.main_v1_0) = v0 c
          ∧ r.2.mem ((c.tc : Thread Cert.GluFwdIdeal.nD Cert.GluFwdIdeal.τ).loc Cert.GluFwdIdeal.main_v1_1) = v1 c
          ∧ r.2.mem ((c.tc : Thread Cert.GluFwdIdeal.nD Cert.GluFwdIdeal.τ).loc Cert.GluFwdIdeal.main_v1_2) = v2 c
          ∧ r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
          ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
          ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2)
          ∧ r.2.mem ((c.tc : Thread Cert.GluFwdIdeal.nD Cert.GluFwdIdeal.τ).loc Cert.GluFwdIdeal.main_arg3) = m ((c.tc : Thread Cert.GluFwdIdeal.nD Cert.GluFwdIdeal.τ).loc Cert.GluFwdIdeal.main_arg3)
          ∧ r.2.mem ((c.tc : Thread Cert.GluFwdIdeal.nD Cert.GluFwdIdeal.τ).loc Cert.GluFwdIdeal.main_arg4) = m ((c.tc : Thread Cert.GluFwdIdeal.nD Cert.GluFwdIdeal.τ).loc Cert.GluFwdIdeal.main_arg4))
      ∧ θ_run (Cert.GluFwdRefIdeal.defs (F := Ideal)) (onTc (τ := Cert.GluFwdRefIdeal.τ) (Cert.GluFwdRefIdeal.main (F := Ideal))) ⟨m', fun _ => 0, g'⟩ (fun r => ∀ c : Dev Cert.GluFwdRefIdeal.nD,
          r.2.mem ((c.tc : Thread Cert.GluFwdRefIdeal.nD Cert.GluFwdRefIdeal.τ).loc Cert.GluFwdRefIdeal.main_v26) = v0 c
          ∧ r.2.mem ((c.tc : Thread Cert.GluFwdRefIdeal.nD Cert.GluFwdRefIdeal.τ).loc Cert.GluFwdRefIdeal.main_v23) = v1 c
          ∧ r.2.mem ((c.tc : Thread Cert.GluFwdRefIdeal.nD Cert.GluFwdRefIdeal.τ).loc Cert.GluFwdRefIdeal.main_v39) = v2 c
          ∧ r.2.mem ((c.tc : Thread Cert.GluFwdRefIdeal.nD Cert.GluFwdRefIdeal.τ).loc Cert.GluFwdRefIdeal.main_arg0) = m' ((c.tc : Thread Cert.GluFwdRefIdeal.nD Cert.GluFwdRefIdeal.τ).loc Cert.GluFwdRefIdeal.main_arg0)
          ∧ r.2.mem ((c.tc : Thread Cert.GluFwdRefIdeal.nD Cert.GluFwdRefIdeal.τ).loc Cert.GluFwdRefIdeal.main_arg1) = m' ((c.tc : Thread Cert.GluFwdRefIdeal.nD Cert.GluFwdRefIdeal.τ).loc Cert.GluFwdRefIdeal.main_arg1)
          ∧ r.2.mem ((c.tc : Thread Cert.GluFwdRefIdeal.nD Cert.GluFwdRefIdeal.τ).loc Cert.GluFwdRefIdeal.main_arg2) = m' ((c.tc : Thread Cert.GluFwdRefIdeal.nD Cert.GluFwdRefIdeal.τ).loc Cert.GluFwdRefIdeal.main_arg2)
          ∧ r.2.mem ((c.tc : Thread Cert.GluFwdRefIdeal.nD Cert.GluFwdRefIdeal.τ).loc Cert.GluFwdRefIdeal.main_arg3) = m' ((c.tc : Thread Cert.GluFwdRefIdeal.nD Cert.GluFwdRefIdeal.τ).loc Cert.GluFwdRefIdeal.main_arg3)
          ∧ r.2.mem ((c.tc : Thread Cert.GluFwdRefIdeal.nD Cert.GluFwdRefIdeal.τ).loc Cert.GluFwdRefIdeal.main_arg4) = m' ((c.tc : Thread Cert.GluFwdRefIdeal.nD Cert.GluFwdRefIdeal.τ).loc Cert.GluFwdRefIdeal.main_arg4))

def preserves_XaFwd_XaFwdIdeal : Prop :=
  True

def algebraic_XaFwdIdeal_XaFwdRefIdeal [hXaFwdIdeal : Cert.XaFwdIdeal.Facts] [hXaFwdRefIdeal : Cert.XaFwdRefIdeal.Facts] : Prop :=
  ∀ (m : (ℓ : Loc Cert.XaFwdIdeal.nD Cert.XaFwdIdeal.τ Cert.XaFwdIdeal.sig) → Buf (Elt Ideal) ℓ) (g : Dev Cert.XaFwdIdeal.nD → PrngReg)
    (m' : (ℓ : Loc Cert.XaFwdRefIdeal.nD Cert.XaFwdRefIdeal.τ Cert.XaFwdRefIdeal.sig) → Buf (Elt Ideal) ℓ) (g' : Dev Cert.XaFwdRefIdeal.nD → PrngReg), Pre_XaFwdIdeal m →
    (∀ c : Dev Cert.XaFwdIdeal.nD,
      m' ((c.tc : Thread Cert.XaFwdRefIdeal.nD Cert.XaFwdRefIdeal.τ).loc Cert.XaFwdRefIdeal.main_arg0) = m ((c.tc : Thread Cert.XaFwdIdeal.nD Cert.XaFwdIdeal.τ).loc Cert.XaFwdIdeal.main_arg0)
      ∧ m' ((c.tc : Thread Cert.XaFwdRefIdeal.nD Cert.XaFwdRefIdeal.τ).loc Cert.XaFwdRefIdeal.main_arg1) = m ((c.tc : Thread Cert.XaFwdIdeal.nD Cert.XaFwdIdeal.τ).loc Cert.XaFwdIdeal.main_arg1)
      ∧ m' ((c.tc : Thread Cert.XaFwdRefIdeal.nD Cert.XaFwdRefIdeal.τ).loc Cert.XaFwdRefIdeal.main_arg2) = m ((c.tc : Thread Cert.XaFwdIdeal.nD Cert.XaFwdIdeal.τ).loc Cert.XaFwdIdeal.main_arg2)
      ∧ m' ((c.tc : Thread Cert.XaFwdRefIdeal.nD Cert.XaFwdRefIdeal.τ).loc Cert.XaFwdRefIdeal.main_arg3) = m ((c.tc : Thread Cert.XaFwdIdeal.nD Cert.XaFwdIdeal.τ).loc Cert.XaFwdIdeal.main_arg3)) →
    ∃ (v0 : (c : Dev Cert.XaFwdIdeal.nD) → Buf (Elt Ideal) ((c.tc : Thread Cert.XaFwdIdeal.nD Cert.XaFwdIdeal.τ).loc Cert.XaFwdIdeal.main_v0)),
      θ_run (Cert.XaFwdIdeal.defs (F := Ideal)) (onTc (τ := Cert.XaFwdIdeal.τ) (Cert.XaFwdIdeal.main (F := Ideal))) ⟨m, fun _ => 0, g⟩ (fun r => ∀ c : Dev Cert.XaFwdIdeal.nD,
          r.2.mem ((c.tc : Thread Cert.XaFwdIdeal.nD Cert.XaFwdIdeal.τ).loc Cert.XaFwdIdeal.main_v0) = v0 c
          ∧ r.2.mem ((c.tc : Thread Cert.XaFwdIdeal.nD Cert.XaFwdIdeal.τ).loc Cert.XaFwdIdeal.main_arg0) = m ((c.tc : Thread Cert.XaFwdIdeal.nD Cert.XaFwdIdeal.τ).loc Cert.XaFwdIdeal.main_arg0)
          ∧ r.2.mem ((c.tc : Thread Cert.XaFwdIdeal.nD Cert.XaFwdIdeal.τ).loc Cert.XaFwdIdeal.main_arg1) = m ((c.tc : Thread Cert.XaFwdIdeal.nD Cert.XaFwdIdeal.τ).loc Cert.XaFwdIdeal.main_arg1)
          ∧ r.2.mem ((c.tc : Thread Cert.XaFwdIdeal.nD Cert.XaFwdIdeal.τ).loc Cert.XaFwdIdeal.main_arg2) = m ((c.tc : Thread Cert.XaFwdIdeal.nD Cert.XaFwdIdeal.τ).loc Cert.XaFwdIdeal.main_arg2)
          ∧ r.2.mem ((c.tc : Thread Cert.XaFwdIdeal.nD Cert.XaFwdIdeal.τ).loc Cert.XaFwdIdeal.main_arg3) = m ((c.tc : Thread Cert.XaFwdIdeal.nD Cert.XaFwdIdeal.τ).loc Cert.XaFwdIdeal.main_arg3))
      ∧ θ_run (Cert.XaFwdRefIdeal.defs (F := Ideal)) (onTc (τ := Cert.XaFwdRefIdeal.τ) (Cert.XaFwdRefIdeal.main (F := Ideal))) ⟨m', fun _ => 0, g'⟩ (fun r => ∀ c : Dev Cert.XaFwdRefIdeal.nD,
          r.2.mem ((c.tc : Thread Cert.XaFwdRefIdeal.nD Cert.XaFwdRefIdeal.τ).loc Cert.XaFwdRefIdeal.main_v46) = v0 c
          ∧ r.2.mem ((c.tc : Thread Cert.XaFwdRefIdeal.nD Cert.XaFwdRefIdeal.τ).loc Cert.XaFwdRefIdeal.main_arg0) = m' ((c.tc : Thread Cert.XaFwdRefIdeal.nD Cert.XaFwdRefIdeal.τ).loc Cert.XaFwdRefIdeal.main_arg0)
          ∧ r.2.mem ((c.tc : Thread Cert.XaFwdRefIdeal.nD Cert.XaFwdRefIdeal.τ).loc Cert.XaFwdRefIdeal.main_arg1) = m' ((c.tc : Thread Cert.XaFwdRefIdeal.nD Cert.XaFwdRefIdeal.τ).loc Cert.XaFwdRefIdeal.main_arg1)
          ∧ r.2.mem ((c.tc : Thread Cert.XaFwdRefIdeal.nD Cert.XaFwdRefIdeal.τ).loc Cert.XaFwdRefIdeal.main_arg2) = m' ((c.tc : Thread Cert.XaFwdRefIdeal.nD Cert.XaFwdRefIdeal.τ).loc Cert.XaFwdRefIdeal.main_arg2)
          ∧ r.2.mem ((c.tc : Thread Cert.XaFwdRefIdeal.nD Cert.XaFwdRefIdeal.τ).loc Cert.XaFwdRefIdeal.main_arg3) = m' ((c.tc : Thread Cert.XaFwdRefIdeal.nD Cert.XaFwdRefIdeal.τ).loc Cert.XaFwdRefIdeal.main_arg3))

def preserves_XaBwd_XaBwdIdeal : Prop :=
  True

def algebraic_XaBwdIdeal_XaBwdRefIdeal_pre_finite [hXaBwdIdeal : Cert.XaBwdIdeal.Facts] [hXaBwdRefIdeal : Cert.XaBwdRefIdeal.Facts] [hPre_finite : Cert.Pre_finite.Facts] : Prop :=
  ∀ (m : (ℓ : Loc Cert.XaBwdIdeal.nD Cert.XaBwdIdeal.τ Cert.XaBwdIdeal.sig) → Buf (Elt Ideal) ℓ) (g : Dev Cert.XaBwdIdeal.nD → PrngReg)
    (m' : (ℓ : Loc Cert.XaBwdRefIdeal.nD Cert.XaBwdRefIdeal.τ Cert.XaBwdRefIdeal.sig) → Buf (Elt Ideal) ℓ) (g' : Dev Cert.XaBwdRefIdeal.nD → PrngReg), Pre_XaBwdIdeal_finite m →
    (∀ c : Dev Cert.XaBwdIdeal.nD,
      m' ((c.tc : Thread Cert.XaBwdRefIdeal.nD Cert.XaBwdRefIdeal.τ).loc Cert.XaBwdRefIdeal.main_arg0) = m ((c.tc : Thread Cert.XaBwdIdeal.nD Cert.XaBwdIdeal.τ).loc Cert.XaBwdIdeal.main_arg0)
      ∧ m' ((c.tc : Thread Cert.XaBwdRefIdeal.nD Cert.XaBwdRefIdeal.τ).loc Cert.XaBwdRefIdeal.main_arg1) = m ((c.tc : Thread Cert.XaBwdIdeal.nD Cert.XaBwdIdeal.τ).loc Cert.XaBwdIdeal.main_arg1)
      ∧ m' ((c.tc : Thread Cert.XaBwdRefIdeal.nD Cert.XaBwdRefIdeal.τ).loc Cert.XaBwdRefIdeal.main_arg2) = m ((c.tc : Thread Cert.XaBwdIdeal.nD Cert.XaBwdIdeal.τ).loc Cert.XaBwdIdeal.main_arg2)
      ∧ m' ((c.tc : Thread Cert.XaBwdRefIdeal.nD Cert.XaBwdRefIdeal.τ).loc Cert.XaBwdRefIdeal.main_arg3) = m ((c.tc : Thread Cert.XaBwdIdeal.nD Cert.XaBwdIdeal.τ).loc Cert.XaBwdIdeal.main_arg3)
      ∧ m' ((c.tc : Thread Cert.XaBwdRefIdeal.nD Cert.XaBwdRefIdeal.τ).loc Cert.XaBwdRefIdeal.main_arg4) = m ((c.tc : Thread Cert.XaBwdIdeal.nD Cert.XaBwdIdeal.τ).loc Cert.XaBwdIdeal.main_arg4)) →
    ∃ (v0 : (c : Dev Cert.XaBwdIdeal.nD) → Buf (Elt Ideal) ((c.tc : Thread Cert.XaBwdIdeal.nD Cert.XaBwdIdeal.τ).loc Cert.XaBwdIdeal.main_v1_0)) (v1 : (c : Dev Cert.XaBwdIdeal.nD) → Buf (Elt Ideal) ((c.tc : Thread Cert.XaBwdIdeal.nD Cert.XaBwdIdeal.τ).loc Cert.XaBwdIdeal.main_v1_1)) (v2 : (c : Dev Cert.XaBwdIdeal.nD) → Buf (Elt Ideal) ((c.tc : Thread Cert.XaBwdIdeal.nD Cert.XaBwdIdeal.τ).loc Cert.XaBwdIdeal.main_v1_2)) (v3 : (c : Dev Cert.XaBwdIdeal.nD) → Buf (Elt Ideal) ((c.tc : Thread Cert.XaBwdIdeal.nD Cert.XaBwdIdeal.τ).loc Cert.XaBwdIdeal.main_v1_3)),
      θ_run (Cert.XaBwdIdeal.defs (F := Ideal)) (onTc (τ := Cert.XaBwdIdeal.τ) (Cert.XaBwdIdeal.main (F := Ideal))) ⟨m, fun _ => 0, g⟩ (fun r => ∀ c : Dev Cert.XaBwdIdeal.nD,
          r.2.mem ((c.tc : Thread Cert.XaBwdIdeal.nD Cert.XaBwdIdeal.τ).loc Cert.XaBwdIdeal.main_v1_0) = v0 c
          ∧ r.2.mem ((c.tc : Thread Cert.XaBwdIdeal.nD Cert.XaBwdIdeal.τ).loc Cert.XaBwdIdeal.main_v1_1) = v1 c
          ∧ r.2.mem ((c.tc : Thread Cert.XaBwdIdeal.nD Cert.XaBwdIdeal.τ).loc Cert.XaBwdIdeal.main_v1_2) = v2 c
          ∧ r.2.mem ((c.tc : Thread Cert.XaBwdIdeal.nD Cert.XaBwdIdeal.τ).loc Cert.XaBwdIdeal.main_v1_3) = v3 c
          ∧ r.2.mem ((c.tc : Thread Cert.XaBwdIdeal.nD Cert.XaBwdIdeal.τ).loc Cert.XaBwdIdeal.main_arg0) = m ((c.tc : Thread Cert.XaBwdIdeal.nD Cert.XaBwdIdeal.τ).loc Cert.XaBwdIdeal.main_arg0)
          ∧ r.2.mem ((c.tc : Thread Cert.XaBwdIdeal.nD Cert.XaBwdIdeal.τ).loc Cert.XaBwdIdeal.main_arg1) = m ((c.tc : Thread Cert.XaBwdIdeal.nD Cert.XaBwdIdeal.τ).loc Cert.XaBwdIdeal.main_arg1)
          ∧ r.2.mem ((c.tc : Thread Cert.XaBwdIdeal.nD Cert.XaBwdIdeal.τ).loc Cert.XaBwdIdeal.main_arg2) = m ((c.tc : Thread Cert.XaBwdIdeal.nD Cert.XaBwdIdeal.τ).loc Cert.XaBwdIdeal.main_arg2)
          ∧ r.2.mem ((c.tc : Thread Cert.XaBwdIdeal.nD Cert.XaBwdIdeal.τ).loc Cert.XaBwdIdeal.main_arg3) = m ((c.tc : Thread Cert.XaBwdIdeal.nD Cert.XaBwdIdeal.τ).loc Cert.XaBwdIdeal.main_arg3)
          ∧ r.2.mem ((c.tc : Thread Cert.XaBwdIdeal.nD Cert.XaBwdIdeal.τ).loc Cert.XaBwdIdeal.main_arg4) = m ((c.tc : Thread Cert.XaBwdIdeal.nD Cert.XaBwdIdeal.τ).loc Cert.XaBwdIdeal.main_arg4))
      ∧ θ_run (Cert.XaBwdRefIdeal.defs (F := Ideal)) (onTc (τ := Cert.XaBwdRefIdeal.τ) (Cert.XaBwdRefIdeal.main (F := Ideal))) ⟨m', fun _ => 0, g'⟩ (fun r => ∀ c : Dev Cert.XaBwdRefIdeal.nD,
          r.2.mem ((c.tc : Thread Cert.XaBwdRefIdeal.nD Cert.XaBwdRefIdeal.τ).loc Cert.XaBwdRefIdeal.main_v131) = v0 c
          ∧ r.2.mem ((c.tc : Thread Cert.XaBwdRefIdeal.nD Cert.XaBwdRefIdeal.τ).loc Cert.XaBwdRefIdeal.main_v108) = v1 c
          ∧ r.2.mem ((c.tc : Thread Cert.XaBwdRefIdeal.nD Cert.XaBwdRefIdeal.τ).loc Cert.XaBwdRefIdeal.main_v115) = v2 c
          ∧ r.2.mem ((c.tc : Thread Cert.XaBwdRefIdeal.nD Cert.XaBwdRefIdeal.τ).loc Cert.XaBwdRefIdeal.main_v91) = v3 c
          ∧ r.2.mem ((c.tc : Thread Cert.XaBwdRefIdeal.nD Cert.XaBwdRefIdeal.τ).loc Cert.XaBwdRefIdeal.main_arg0) = m' ((c.tc : Thread Cert.XaBwdRefIdeal.nD Cert.XaBwdRefIdeal.τ).loc Cert.XaBwdRefIdeal.main_arg0)
          ∧ r.2.mem ((c.tc : Thread Cert.XaBwdRefIdeal.nD Cert.XaBwdRefIdeal.τ).loc Cert.XaBwdRefIdeal.main_arg1) = m' ((c.tc : Thread Cert.XaBwdRefIdeal.nD Cert.XaBwdRefIdeal.τ).loc Cert.XaBwdRefIdeal.main_arg1)
          ∧ r.2.mem ((c.tc : Thread Cert.XaBwdRefIdeal.nD Cert.XaBwdRefIdeal.τ).loc Cert.XaBwdRefIdeal.main_arg2) = m' ((c.tc : Thread Cert.XaBwdRefIdeal.nD Cert.XaBwdRefIdeal.τ).loc Cert.XaBwdRefIdeal.main_arg2)
          ∧ r.2.mem ((c.tc : Thread Cert.XaBwdRefIdeal.nD Cert.XaBwdRefIdeal.τ).loc Cert.XaBwdRefIdeal.main_arg3) = m' ((c.tc : Thread Cert.XaBwdRefIdeal.nD Cert.XaBwdRefIdeal.τ).loc Cert.XaBwdRefIdeal.main_arg3)
          ∧ r.2.mem ((c.tc : Thread Cert.XaBwdRefIdeal.nD Cert.XaBwdRefIdeal.τ).loc Cert.XaBwdRefIdeal.main_arg4) = m' ((c.tc : Thread Cert.XaBwdRefIdeal.nD Cert.XaBwdRefIdeal.τ).loc Cert.XaBwdRefIdeal.main_arg4))

def preserves_RmsSsm_RmsSsmIdeal : Prop :=
  True

def algebraic_RmsSsmIdeal_RmsSsmRefIdeal [hRmsSsmIdeal : Cert.RmsSsmIdeal.Facts] [hRmsSsmRefIdeal : Cert.RmsSsmRefIdeal.Facts] : Prop :=
  ∀ (m : (ℓ : Loc Cert.RmsSsmIdeal.nD Cert.RmsSsmIdeal.τ Cert.RmsSsmIdeal.sig) → Buf (Elt Ideal) ℓ) (g : Dev Cert.RmsSsmIdeal.nD → PrngReg)
    (m' : (ℓ : Loc Cert.RmsSsmRefIdeal.nD Cert.RmsSsmRefIdeal.τ Cert.RmsSsmRefIdeal.sig) → Buf (Elt Ideal) ℓ) (g' : Dev Cert.RmsSsmRefIdeal.nD → PrngReg), Pre_RmsSsmIdeal m →
    (∀ c : Dev Cert.RmsSsmIdeal.nD,
      m' ((c.tc : Thread Cert.RmsSsmRefIdeal.nD Cert.RmsSsmRefIdeal.τ).loc Cert.RmsSsmRefIdeal.main_arg0) = m ((c.tc : Thread Cert.RmsSsmIdeal.nD Cert.RmsSsmIdeal.τ).loc Cert.RmsSsmIdeal.main_arg0)
      ∧ m' ((c.tc : Thread Cert.RmsSsmRefIdeal.nD Cert.RmsSsmRefIdeal.τ).loc Cert.RmsSsmRefIdeal.main_arg1) = m ((c.tc : Thread Cert.RmsSsmIdeal.nD Cert.RmsSsmIdeal.τ).loc Cert.RmsSsmIdeal.main_arg1)
      ∧ m' ((c.tc : Thread Cert.RmsSsmRefIdeal.nD Cert.RmsSsmRefIdeal.τ).loc Cert.RmsSsmRefIdeal.main_arg2) = m ((c.tc : Thread Cert.RmsSsmIdeal.nD Cert.RmsSsmIdeal.τ).loc Cert.RmsSsmIdeal.main_arg2)) →
    ∃ (v0 : (c : Dev Cert.RmsSsmIdeal.nD) → Buf (Elt Ideal) ((c.tc : Thread Cert.RmsSsmIdeal.nD Cert.RmsSsmIdeal.τ).loc Cert.RmsSsmIdeal.main_v0_0)) (v1 : (c : Dev Cert.RmsSsmIdeal.nD) → Buf (Elt Ideal) ((c.tc : Thread Cert.RmsSsmIdeal.nD Cert.RmsSsmIdeal.τ).loc Cert.RmsSsmIdeal.main_v0_1)),
      θ_run (Cert.RmsSsmIdeal.defs (F := Ideal)) (onTc (τ := Cert.RmsSsmIdeal.τ) (Cert.RmsSsmIdeal.main (F := Ideal))) ⟨m, fun _ => 0, g⟩ (fun r => ∀ c : Dev Cert.RmsSsmIdeal.nD,
          r.2.mem ((c.tc : Thread Cert.RmsSsmIdeal.nD Cert.RmsSsmIdeal.τ).loc Cert.RmsSsmIdeal.main_v0_0) = v0 c
          ∧ r.2.mem ((c.tc : Thread Cert.RmsSsmIdeal.nD Cert.RmsSsmIdeal.τ).loc Cert.RmsSsmIdeal.main_v0_1) = v1 c
          ∧ r.2.mem ((c.tc : Thread Cert.RmsSsmIdeal.nD Cert.RmsSsmIdeal.τ).loc Cert.RmsSsmIdeal.main_arg0) = m ((c.tc : Thread Cert.RmsSsmIdeal.nD Cert.RmsSsmIdeal.τ).loc Cert.RmsSsmIdeal.main_arg0)
          ∧ r.2.mem ((c.tc : Thread Cert.RmsSsmIdeal.nD Cert.RmsSsmIdeal.τ).loc Cert.RmsSsmIdeal.main_arg1) = m ((c.tc : Thread Cert.RmsSsmIdeal.nD Cert.RmsSsmIdeal.τ).loc Cert.RmsSsmIdeal.main_arg1)
          ∧ r.2.mem ((c.tc : Thread Cert.RmsSsmIdeal.nD Cert.RmsSsmIdeal.τ).loc Cert.RmsSsmIdeal.main_arg2) = m ((c.tc : Thread Cert.RmsSsmIdeal.nD Cert.RmsSsmIdeal.τ).loc Cert.RmsSsmIdeal.main_arg2))
      ∧ θ_run (Cert.RmsSsmRefIdeal.defs (F := Ideal)) (onTc (τ := Cert.RmsSsmRefIdeal.τ) (Cert.RmsSsmRefIdeal.main (F := Ideal))) ⟨m', fun _ => 0, g'⟩ (fun r => ∀ c : Dev Cert.RmsSsmRefIdeal.nD,
          r.2.mem ((c.tc : Thread Cert.RmsSsmRefIdeal.nD Cert.RmsSsmRefIdeal.τ).loc Cert.RmsSsmRefIdeal.main_v33) = v0 c
          ∧ r.2.mem ((c.tc : Thread Cert.RmsSsmRefIdeal.nD Cert.RmsSsmRefIdeal.τ).loc Cert.RmsSsmRefIdeal.main_v17) = v1 c
          ∧ r.2.mem ((c.tc : Thread Cert.RmsSsmRefIdeal.nD Cert.RmsSsmRefIdeal.τ).loc Cert.RmsSsmRefIdeal.main_arg0) = m' ((c.tc : Thread Cert.RmsSsmRefIdeal.nD Cert.RmsSsmRefIdeal.τ).loc Cert.RmsSsmRefIdeal.main_arg0)
          ∧ r.2.mem ((c.tc : Thread Cert.RmsSsmRefIdeal.nD Cert.RmsSsmRefIdeal.τ).loc Cert.RmsSsmRefIdeal.main_arg1) = m' ((c.tc : Thread Cert.RmsSsmRefIdeal.nD Cert.RmsSsmRefIdeal.τ).loc Cert.RmsSsmRefIdeal.main_arg1)
          ∧ r.2.mem ((c.tc : Thread Cert.RmsSsmRefIdeal.nD Cert.RmsSsmRefIdeal.τ).loc Cert.RmsSsmRefIdeal.main_arg2) = m' ((c.tc : Thread Cert.RmsSsmRefIdeal.nD Cert.RmsSsmRefIdeal.τ).loc Cert.RmsSsmRefIdeal.main_arg2))

def preserves_RmsMem_RmsMemIdeal : Prop :=
  True

def algebraic_RmsMemIdeal_RmsMemRefIdeal [hRmsMemIdeal : Cert.RmsMemIdeal.Facts] [hRmsMemRefIdeal : Cert.RmsMemRefIdeal.Facts] : Prop :=
  ∀ (m : (ℓ : Loc Cert.RmsMemIdeal.nD Cert.RmsMemIdeal.τ Cert.RmsMemIdeal.sig) → Buf (Elt Ideal) ℓ) (g : Dev Cert.RmsMemIdeal.nD → PrngReg)
    (m' : (ℓ : Loc Cert.RmsMemRefIdeal.nD Cert.RmsMemRefIdeal.τ Cert.RmsMemRefIdeal.sig) → Buf (Elt Ideal) ℓ) (g' : Dev Cert.RmsMemRefIdeal.nD → PrngReg), Pre_RmsMemIdeal m →
    (∀ c : Dev Cert.RmsMemIdeal.nD,
      m' ((c.tc : Thread Cert.RmsMemRefIdeal.nD Cert.RmsMemRefIdeal.τ).loc Cert.RmsMemRefIdeal.main_arg0) = m ((c.tc : Thread Cert.RmsMemIdeal.nD Cert.RmsMemIdeal.τ).loc Cert.RmsMemIdeal.main_arg0)
      ∧ m' ((c.tc : Thread Cert.RmsMemRefIdeal.nD Cert.RmsMemRefIdeal.τ).loc Cert.RmsMemRefIdeal.main_arg1) = m ((c.tc : Thread Cert.RmsMemIdeal.nD Cert.RmsMemIdeal.τ).loc Cert.RmsMemIdeal.main_arg1)
      ∧ m' ((c.tc : Thread Cert.RmsMemRefIdeal.nD Cert.RmsMemRefIdeal.τ).loc Cert.RmsMemRefIdeal.main_arg2) = m ((c.tc : Thread Cert.RmsMemIdeal.nD Cert.RmsMemIdeal.τ).loc Cert.RmsMemIdeal.main_arg2)) →
    ∃ (v0 : (c : Dev Cert.RmsMemIdeal.nD) → Buf (Elt Ideal) ((c.tc : Thread Cert.RmsMemIdeal.nD Cert.RmsMemIdeal.τ).loc Cert.RmsMemIdeal.main_v0_0)) (v1 : (c : Dev Cert.RmsMemIdeal.nD) → Buf (Elt Ideal) ((c.tc : Thread Cert.RmsMemIdeal.nD Cert.RmsMemIdeal.τ).loc Cert.RmsMemIdeal.main_v0_1)),
      θ_run (Cert.RmsMemIdeal.defs (F := Ideal)) (onTc (τ := Cert.RmsMemIdeal.τ) (Cert.RmsMemIdeal.main (F := Ideal))) ⟨m, fun _ => 0, g⟩ (fun r => ∀ c : Dev Cert.RmsMemIdeal.nD,
          r.2.mem ((c.tc : Thread Cert.RmsMemIdeal.nD Cert.RmsMemIdeal.τ).loc Cert.RmsMemIdeal.main_v0_0) = v0 c
          ∧ r.2.mem ((c.tc : Thread Cert.RmsMemIdeal.nD Cert.RmsMemIdeal.τ).loc Cert.RmsMemIdeal.main_v0_1) = v1 c
          ∧ r.2.mem ((c.tc : Thread Cert.RmsMemIdeal.nD Cert.RmsMemIdeal.τ).loc Cert.RmsMemIdeal.main_arg0) = m ((c.tc : Thread Cert.RmsMemIdeal.nD Cert.RmsMemIdeal.τ).loc Cert.RmsMemIdeal.main_arg0)
          ∧ r.2.mem ((c.tc : Thread Cert.RmsMemIdeal.nD Cert.RmsMemIdeal.τ).loc Cert.RmsMemIdeal.main_arg1) = m ((c.tc : Thread Cert.RmsMemIdeal.nD Cert.RmsMemIdeal.τ).loc Cert.RmsMemIdeal.main_arg1)
          ∧ r.2.mem ((c.tc : Thread Cert.RmsMemIdeal.nD Cert.RmsMemIdeal.τ).loc Cert.RmsMemIdeal.main_arg2) = m ((c.tc : Thread Cert.RmsMemIdeal.nD Cert.RmsMemIdeal.τ).loc Cert.RmsMemIdeal.main_arg2))
      ∧ θ_run (Cert.RmsMemRefIdeal.defs (F := Ideal)) (onTc (τ := Cert.RmsMemRefIdeal.τ) (Cert.RmsMemRefIdeal.main (F := Ideal))) ⟨m', fun _ => 0, g'⟩ (fun r => ∀ c : Dev Cert.RmsMemRefIdeal.nD,
          r.2.mem ((c.tc : Thread Cert.RmsMemRefIdeal.nD Cert.RmsMemRefIdeal.τ).loc Cert.RmsMemRefIdeal.main_v33) = v0 c
          ∧ r.2.mem ((c.tc : Thread Cert.RmsMemRefIdeal.nD Cert.RmsMemRefIdeal.τ).loc Cert.RmsMemRefIdeal.main_v17) = v1 c
          ∧ r.2.mem ((c.tc : Thread Cert.RmsMemRefIdeal.nD Cert.RmsMemRefIdeal.τ).loc Cert.RmsMemRefIdeal.main_arg0) = m' ((c.tc : Thread Cert.RmsMemRefIdeal.nD Cert.RmsMemRefIdeal.τ).loc Cert.RmsMemRefIdeal.main_arg0)
          ∧ r.2.mem ((c.tc : Thread Cert.RmsMemRefIdeal.nD Cert.RmsMemRefIdeal.τ).loc Cert.RmsMemRefIdeal.main_arg1) = m' ((c.tc : Thread Cert.RmsMemRefIdeal.nD Cert.RmsMemRefIdeal.τ).loc Cert.RmsMemRefIdeal.main_arg1)
          ∧ r.2.mem ((c.tc : Thread Cert.RmsMemRefIdeal.nD Cert.RmsMemRefIdeal.τ).loc Cert.RmsMemRefIdeal.main_arg2) = m' ((c.tc : Thread Cert.RmsMemRefIdeal.nD Cert.RmsMemRefIdeal.τ).loc Cert.RmsMemRefIdeal.main_arg2))

def preserves_S5Prep_S5PrepIdeal : Prop :=
  True

def algebraic_S5PrepIdeal_S5PrepRefIdeal [hS5PrepIdeal : Cert.S5PrepIdeal.Facts] [hS5PrepRefIdeal : Cert.S5PrepRefIdeal.Facts] : Prop :=
  ∀ (m : (ℓ : Loc Cert.S5PrepIdeal.nD Cert.S5PrepIdeal.τ Cert.S5PrepIdeal.sig) → Buf (Elt Ideal) ℓ) (g : Dev Cert.S5PrepIdeal.nD → PrngReg)
    (m' : (ℓ : Loc Cert.S5PrepRefIdeal.nD Cert.S5PrepRefIdeal.τ Cert.S5PrepRefIdeal.sig) → Buf (Elt Ideal) ℓ) (g' : Dev Cert.S5PrepRefIdeal.nD → PrngReg), Pre_S5PrepIdeal m →
    (∀ c : Dev Cert.S5PrepIdeal.nD,
      m' ((c.tc : Thread Cert.S5PrepRefIdeal.nD Cert.S5PrepRefIdeal.τ).loc Cert.S5PrepRefIdeal.main_arg0) = m ((c.tc : Thread Cert.S5PrepIdeal.nD Cert.S5PrepIdeal.τ).loc Cert.S5PrepIdeal.main_arg0)
      ∧ m' ((c.tc : Thread Cert.S5PrepRefIdeal.nD Cert.S5PrepRefIdeal.τ).loc Cert.S5PrepRefIdeal.main_arg1) = m ((c.tc : Thread Cert.S5PrepIdeal.nD Cert.S5PrepIdeal.τ).loc Cert.S5PrepIdeal.main_arg1)
      ∧ m' ((c.tc : Thread Cert.S5PrepRefIdeal.nD Cert.S5PrepRefIdeal.τ).loc Cert.S5PrepRefIdeal.main_arg2) = m ((c.tc : Thread Cert.S5PrepIdeal.nD Cert.S5PrepIdeal.τ).loc Cert.S5PrepIdeal.main_arg2)
      ∧ m' ((c.tc : Thread Cert.S5PrepRefIdeal.nD Cert.S5PrepRefIdeal.τ).loc Cert.S5PrepRefIdeal.main_arg3) = m ((c.tc : Thread Cert.S5PrepIdeal.nD Cert.S5PrepIdeal.τ).loc Cert.S5PrepIdeal.main_arg3)
      ∧ m' ((c.tc : Thread Cert.S5PrepRefIdeal.nD Cert.S5PrepRefIdeal.τ).loc Cert.S5PrepRefIdeal.main_arg4) = m ((c.tc : Thread Cert.S5PrepIdeal.nD Cert.S5PrepIdeal.τ).loc Cert.S5PrepIdeal.main_arg4)
      ∧ m' ((c.tc : Thread Cert.S5PrepRefIdeal.nD Cert.S5PrepRefIdeal.τ).loc Cert.S5PrepRefIdeal.main_arg5) = m ((c.tc : Thread Cert.S5PrepIdeal.nD Cert.S5PrepIdeal.τ).loc Cert.S5PrepIdeal.main_arg5)
      ∧ m' ((c.tc : Thread Cert.S5PrepRefIdeal.nD Cert.S5PrepRefIdeal.τ).loc Cert.S5PrepRefIdeal.main_arg6) = m ((c.tc : Thread Cert.S5PrepIdeal.nD Cert.S5PrepIdeal.τ).loc Cert.S5PrepIdeal.main_arg6)
      ∧ m' ((c.tc : Thread Cert.S5PrepRefIdeal.nD Cert.S5PrepRefIdeal.τ).loc Cert.S5PrepRefIdeal.main_arg7) = m ((c.tc : Thread Cert.S5PrepIdeal.nD Cert.S5PrepIdeal.τ).loc Cert.S5PrepIdeal.main_arg7)
      ∧ m' ((c.tc : Thread Cert.S5PrepRefIdeal.nD Cert.S5PrepRefIdeal.τ).loc Cert.S5PrepRefIdeal.main_arg8) = m ((c.tc : Thread Cert.S5PrepIdeal.nD Cert.S5PrepIdeal.τ).loc Cert.S5PrepIdeal.main_arg8)
      ∧ m' ((c.tc : Thread Cert.S5PrepRefIdeal.nD Cert.S5PrepRefIdeal.τ).loc Cert.S5PrepRefIdeal.main_arg9) = m ((c.tc : Thread Cert.S5PrepIdeal.nD Cert.S5PrepIdeal.τ).loc Cert.S5PrepIdeal.main_arg9)
      ∧ m' ((c.tc : Thread Cert.S5PrepRefIdeal.nD Cert.S5PrepRefIdeal.τ).loc Cert.S5PrepRefIdeal.main_arg10) = m ((c.tc : Thread Cert.S5PrepIdeal.nD Cert.S5PrepIdeal.τ).loc Cert.S5PrepIdeal.main_arg10)) →
    ∃ (v0 : (c : Dev Cert.S5PrepIdeal.nD) → Buf (Elt Ideal) ((c.tc : Thread Cert.S5PrepIdeal.nD Cert.S5PrepIdeal.τ).loc Cert.S5PrepIdeal.main_v0_0)) (v1 : (c : Dev Cert.S5PrepIdeal.nD) → Buf (Elt Ideal) ((c.tc : Thread Cert.S5PrepIdeal.nD Cert.S5PrepIdeal.τ).loc Cert.S5PrepIdeal.main_v0_1)) (v2 : (c : Dev Cert.S5PrepIdeal.nD) → Buf (Elt Ideal) ((c.tc : Thread Cert.S5PrepIdeal.nD Cert.S5PrepIdeal.τ).loc Cert.S5PrepIdeal.main_v0_2)) (v3 : (c : Dev Cert.S5PrepIdeal.nD) → Buf (Elt Ideal) ((c.tc : Thread Cert.S5PrepIdeal.nD Cert.S5PrepIdeal.τ).loc Cert.S5PrepIdeal.main_v0_3)) (v4 : (c : Dev Cert.S5PrepIdeal.nD) → Buf (Elt Ideal) ((c.tc : Thread Cert.S5PrepIdeal.nD Cert.S5PrepIdeal.τ).loc Cert.S5PrepIdeal.main_v0_4)) (v5 : (c : Dev Cert.S5PrepIdeal.nD) → Buf (Elt Ideal) ((c.tc : Thread Cert.S5PrepIdeal.nD Cert.S5PrepIdeal.τ).loc Cert.S5PrepIdeal.main_v0_5)) (v6 : (c : Dev Cert.S5PrepIdeal.nD) → Buf (Elt Ideal) ((c.tc : Thread Cert.S5PrepIdeal.nD Cert.S5PrepIdeal.τ).loc Cert.S5PrepIdeal.main_v0_6)),
      θ_run (Cert.S5PrepIdeal.defs (F := Ideal)) (onTc (τ := Cert.S5PrepIdeal.τ) (Cert.S5PrepIdeal.main (F := Ideal))) ⟨m, fun _ => 0, g⟩ (fun r => ∀ c : Dev Cert.S5PrepIdeal.nD,
          r.2.mem ((c.tc : Thread Cert.S5PrepIdeal.nD Cert.S5PrepIdeal.τ).loc Cert.S5PrepIdeal.main_v0_0) = v0 c
          ∧ r.2.mem ((c.tc : Thread Cert.S5PrepIdeal.nD Cert.S5PrepIdeal.τ).loc Cert.S5PrepIdeal.main_v0_1) = v1 c
          ∧ r.2.mem ((c.tc : Thread Cert.S5PrepIdeal.nD Cert.S5PrepIdeal.τ).loc Cert.S5PrepIdeal.main_v0_2) = v2 c
          ∧ r.2.mem ((c.tc : Thread Cert.S5PrepIdeal.nD Cert.S5PrepIdeal.τ).loc Cert.S5PrepIdeal.main_v0_3) = v3 c
          ∧ r.2.mem ((c.tc : Thread Cert.S5PrepIdeal.nD Cert.S5PrepIdeal.τ).loc Cert.S5PrepIdeal.main_v0_4) = v4 c
          ∧ r.2.mem ((c.tc : Thread Cert.S5PrepIdeal.nD Cert.S5PrepIdeal.τ).loc Cert.S5PrepIdeal.main_v0_5) = v5 c
          ∧ r.2.mem ((c.tc : Thread Cert.S5PrepIdeal.nD Cert.S5PrepIdeal.τ).loc Cert.S5PrepIdeal.main_v0_6) = v6 c
          ∧ r.2.mem ((c.tc : Thread Cert.S5PrepIdeal.nD Cert.S5PrepIdeal.τ).loc Cert.S5PrepIdeal.main_arg0) = m ((c.tc : Thread Cert.S5PrepIdeal.nD Cert.S5PrepIdeal.τ).loc Cert.S5PrepIdeal.main_arg0)
          ∧ r.2.mem ((c.tc : Thread Cert.S5PrepIdeal.nD Cert.S5PrepIdeal.τ).loc Cert.S5PrepIdeal.main_arg1) = m ((c.tc : Thread Cert.S5PrepIdeal.nD Cert.S5PrepIdeal.τ).loc Cert.S5PrepIdeal.main_arg1)
          ∧ r.2.mem ((c.tc : Thread Cert.S5PrepIdeal.nD Cert.S5PrepIdeal.τ).loc Cert.S5PrepIdeal.main_arg2) = m ((c.tc : Thread Cert.S5PrepIdeal.nD Cert.S5PrepIdeal.τ).loc Cert.S5PrepIdeal.main_arg2)
          ∧ r.2.mem ((c.tc : Thread Cert.S5PrepIdeal.nD Cert.S5PrepIdeal.τ).loc Cert.S5PrepIdeal.main_arg3) = m ((c.tc : Thread Cert.S5PrepIdeal.nD Cert.S5PrepIdeal.τ).loc Cert.S5PrepIdeal.main_arg3)
          ∧ r.2.mem ((c.tc : Thread Cert.S5PrepIdeal.nD Cert.S5PrepIdeal.τ).loc Cert.S5PrepIdeal.main_arg4) = m ((c.tc : Thread Cert.S5PrepIdeal.nD Cert.S5PrepIdeal.τ).loc Cert.S5PrepIdeal.main_arg4)
          ∧ r.2.mem ((c.tc : Thread Cert.S5PrepIdeal.nD Cert.S5PrepIdeal.τ).loc Cert.S5PrepIdeal.main_arg5) = m ((c.tc : Thread Cert.S5PrepIdeal.nD Cert.S5PrepIdeal.τ).loc Cert.S5PrepIdeal.main_arg5)
          ∧ r.2.mem ((c.tc : Thread Cert.S5PrepIdeal.nD Cert.S5PrepIdeal.τ).loc Cert.S5PrepIdeal.main_arg6) = m ((c.tc : Thread Cert.S5PrepIdeal.nD Cert.S5PrepIdeal.τ).loc Cert.S5PrepIdeal.main_arg6)
          ∧ r.2.mem ((c.tc : Thread Cert.S5PrepIdeal.nD Cert.S5PrepIdeal.τ).loc Cert.S5PrepIdeal.main_arg7) = m ((c.tc : Thread Cert.S5PrepIdeal.nD Cert.S5PrepIdeal.τ).loc Cert.S5PrepIdeal.main_arg7)
          ∧ r.2.mem ((c.tc : Thread Cert.S5PrepIdeal.nD Cert.S5PrepIdeal.τ).loc Cert.S5PrepIdeal.main_arg8) = m ((c.tc : Thread Cert.S5PrepIdeal.nD Cert.S5PrepIdeal.τ).loc Cert.S5PrepIdeal.main_arg8)
          ∧ r.2.mem ((c.tc : Thread Cert.S5PrepIdeal.nD Cert.S5PrepIdeal.τ).loc Cert.S5PrepIdeal.main_arg9) = m ((c.tc : Thread Cert.S5PrepIdeal.nD Cert.S5PrepIdeal.τ).loc Cert.S5PrepIdeal.main_arg9)
          ∧ r.2.mem ((c.tc : Thread Cert.S5PrepIdeal.nD Cert.S5PrepIdeal.τ).loc Cert.S5PrepIdeal.main_arg10) = m ((c.tc : Thread Cert.S5PrepIdeal.nD Cert.S5PrepIdeal.τ).loc Cert.S5PrepIdeal.main_arg10))
      ∧ θ_run (Cert.S5PrepRefIdeal.defs (F := Ideal)) (onTc (τ := Cert.S5PrepRefIdeal.τ) (Cert.S5PrepRefIdeal.main (F := Ideal))) ⟨m', fun _ => 0, g'⟩ (fun r => ∀ c : Dev Cert.S5PrepRefIdeal.nD,
          r.2.mem ((c.tc : Thread Cert.S5PrepRefIdeal.nD Cert.S5PrepRefIdeal.τ).loc Cert.S5PrepRefIdeal.main_v163) = v0 c
          ∧ r.2.mem ((c.tc : Thread Cert.S5PrepRefIdeal.nD Cert.S5PrepRefIdeal.τ).loc Cert.S5PrepRefIdeal.main_v159) = v1 c
          ∧ r.2.mem ((c.tc : Thread Cert.S5PrepRefIdeal.nD Cert.S5PrepRefIdeal.τ).loc Cert.S5PrepRefIdeal.main_v168) = v2 c
          ∧ r.2.mem ((c.tc : Thread Cert.S5PrepRefIdeal.nD Cert.S5PrepRefIdeal.τ).loc Cert.S5PrepRefIdeal.main_v110) = v3 c
          ∧ r.2.mem ((c.tc : Thread Cert.S5PrepRefIdeal.nD Cert.S5PrepRefIdeal.τ).loc Cert.S5PrepRefIdeal.main_v103) = v4 c
          ∧ r.2.mem ((c.tc : Thread Cert.S5PrepRefIdeal.nD Cert.S5PrepRefIdeal.τ).loc Cert.S5PrepRefIdeal.main_v82) = v5 c
          ∧ r.2.mem ((c.tc : Thread Cert.S5PrepRefIdeal.nD Cert.S5PrepRefIdeal.τ).loc Cert.S5PrepRefIdeal.main_v89) = v6 c
          ∧ r.2.mem ((c.tc : Thread Cert.S5PrepRefIdeal.nD Cert.S5PrepRefIdeal.τ).loc Cert.S5PrepRefIdeal.main_arg0) = m' ((c.tc : Thread Cert.S5PrepRefIdeal.nD Cert.S5PrepRefIdeal.τ).loc Cert.S5PrepRefIdeal.main_arg0)
          ∧ r.2.mem ((c.tc : Thread Cert.S5PrepRefIdeal.nD Cert.S5PrepRefIdeal.τ).loc Cert.S5PrepRefIdeal.main_arg1) = m' ((c.tc : Thread Cert.S5PrepRefIdeal.nD Cert.S5PrepRefIdeal.τ).loc Cert.S5PrepRefIdeal.main_arg1)
          ∧ r.2.mem ((c.tc : Thread Cert.S5PrepRefIdeal.nD Cert.S5PrepRefIdeal.τ).loc Cert.S5PrepRefIdeal.main_arg2) = m' ((c.tc : Thread Cert.S5PrepRefIdeal.nD Cert.S5PrepRefIdeal.τ).loc Cert.S5PrepRefIdeal.main_arg2)
          ∧ r.2.mem ((c.tc : Thread Cert.S5PrepRefIdeal.nD Cert.S5PrepRefIdeal.τ).loc Cert.S5PrepRefIdeal.main_arg3) = m' ((c.tc : Thread Cert.S5PrepRefIdeal.nD Cert.S5PrepRefIdeal.τ).loc Cert.S5PrepRefIdeal.main_arg3)
          ∧ r.2.mem ((c.tc : Thread Cert.S5PrepRefIdeal.nD Cert.S5PrepRefIdeal.τ).loc Cert.S5PrepRefIdeal.main_arg4) = m' ((c.tc : Thread Cert.S5PrepRefIdeal.nD Cert.S5PrepRefIdeal.τ).loc Cert.S5PrepRefIdeal.main_arg4)
          ∧ r.2.mem ((c.tc : Thread Cert.S5PrepRefIdeal.nD Cert.S5PrepRefIdeal.τ).loc Cert.S5PrepRefIdeal.main_arg5) = m' ((c.tc : Thread Cert.S5PrepRefIdeal.nD Cert.S5PrepRefIdeal.τ).loc Cert.S5PrepRefIdeal.main_arg5)
          ∧ r.2.mem ((c.tc : Thread Cert.S5PrepRefIdeal.nD Cert.S5PrepRefIdeal.τ).loc Cert.S5PrepRefIdeal.main_arg6) = m' ((c.tc : Thread Cert.S5PrepRefIdeal.nD Cert.S5PrepRefIdeal.τ).loc Cert.S5PrepRefIdeal.main_arg6)
          ∧ r.2.mem ((c.tc : Thread Cert.S5PrepRefIdeal.nD Cert.S5PrepRefIdeal.τ).loc Cert.S5PrepRefIdeal.main_arg7) = m' ((c.tc : Thread Cert.S5PrepRefIdeal.nD Cert.S5PrepRefIdeal.τ).loc Cert.S5PrepRefIdeal.main_arg7)
          ∧ r.2.mem ((c.tc : Thread Cert.S5PrepRefIdeal.nD Cert.S5PrepRefIdeal.τ).loc Cert.S5PrepRefIdeal.main_arg8) = m' ((c.tc : Thread Cert.S5PrepRefIdeal.nD Cert.S5PrepRefIdeal.τ).loc Cert.S5PrepRefIdeal.main_arg8)
          ∧ r.2.mem ((c.tc : Thread Cert.S5PrepRefIdeal.nD Cert.S5PrepRefIdeal.τ).loc Cert.S5PrepRefIdeal.main_arg9) = m' ((c.tc : Thread Cert.S5PrepRefIdeal.nD Cert.S5PrepRefIdeal.τ).loc Cert.S5PrepRefIdeal.main_arg9)
          ∧ r.2.mem ((c.tc : Thread Cert.S5PrepRefIdeal.nD Cert.S5PrepRefIdeal.τ).loc Cert.S5PrepRefIdeal.main_arg10) = m' ((c.tc : Thread Cert.S5PrepRefIdeal.nD Cert.S5PrepRefIdeal.τ).loc Cert.S5PrepRefIdeal.main_arg10))

def Claim : Prop :=
  ∃ (hKernel : Cert.Kernel.Facts) (hKernelIdeal : Cert.KernelIdeal.Facts) (hReferenceIdeal : Cert.ReferenceIdeal.Facts) (hDAct : Cert.DAct.Facts) (hDActIdeal : Cert.DActIdeal.Facts) (hDActRefIdeal : Cert.DActRefIdeal.Facts) (hDwDown : Cert.DwDown.Facts) (hDwDownIdeal : Cert.DwDownIdeal.Facts) (hDwDownRefIdeal : Cert.DwDownRefIdeal.Facts) (hDwUp : Cert.DwUp.Facts) (hDwUpIdeal : Cert.DwUpIdeal.Facts) (hDwUpRefIdeal : Cert.DwUpRefIdeal.Facts) (hDH2 : Cert.DH2.Facts) (hDH2Ideal : Cert.DH2Ideal.Facts) (hDH2RefIdeal : Cert.DH2RefIdeal.Facts) (hMlpUp : Cert.MlpUp.Facts) (hMlpUpIdeal : Cert.MlpUpIdeal.Facts) (hMlpUpRefIdeal : Cert.MlpUpRefIdeal.Facts) (hMlpDown : Cert.MlpDown.Facts) (hMlpDownIdeal : Cert.MlpDownIdeal.Facts) (hMlpDownRefIdeal : Cert.MlpDownRefIdeal.Facts) (hDH1 : Cert.DH1.Facts) (hDH1Ideal : Cert.DH1Ideal.Facts) (hDH1RefIdeal : Cert.DH1RefIdeal.Facts) (hDOx : Cert.DOx.Facts) (hDOxIdeal : Cert.DOxIdeal.Facts) (hDOxRefIdeal : Cert.DOxRefIdeal.Facts) (hDwXo : Cert.DwXo.Facts) (hDwXoIdeal : Cert.DwXoIdeal.Facts) (hDwXoRefIdeal : Cert.DwXoRefIdeal.Facts) (hDwXq : Cert.DwXq.Facts) (hDwXqIdeal : Cert.DwXqIdeal.Facts) (hDwXqRefIdeal : Cert.DwXqRefIdeal.Facts) (hDwXkv : Cert.DwXkv.Facts) (hDwXkvIdeal : Cert.DwXkvIdeal.Facts) (hDwXkvRefIdeal : Cert.DwXkvRefIdeal.Facts) (hDMemn : Cert.DMemn.Facts) (hDMemnIdeal : Cert.DMemnIdeal.Facts) (hDMemnRefIdeal : Cert.DMemnRefIdeal.Facts) (hDYnSsm : Cert.DYnSsm.Facts) (hDYnSsmIdeal : Cert.DYnSsmIdeal.Facts) (hDYnSsmRefIdeal : Cert.DYnSsmRefIdeal.Facts) (hDwOutSsm : Cert.DwOutSsm.Facts) (hDwOutSsmIdeal : Cert.DwOutSsmIdeal.Facts) (hDwOutSsmRefIdeal : Cert.DwOutSsmRefIdeal.Facts) (hDwU : Cert.DwU.Facts) (hDwUIdeal : Cert.DwUIdeal.Facts) (hDwURefIdeal : Cert.DwURefIdeal.Facts) (hDH0U : Cert.DH0U.Facts) (hDH0UIdeal : Cert.DH0UIdeal.Facts) (hDH0URefIdeal : Cert.DH0URefIdeal.Facts) (hProjU : Cert.ProjU.Facts) (hProjUIdeal : Cert.ProjUIdeal.Facts) (hProjURefIdeal : Cert.ProjURefIdeal.Facts) (hXaQ : Cert.XaQ.Facts) (hXaQIdeal : Cert.XaQIdeal.Facts) (hXaQRefIdeal : Cert.XaQRefIdeal.Facts) (hXaKv : Cert.XaKv.Facts) (hXaKvIdeal : Cert.XaKvIdeal.Facts) (hXaKvRefIdeal : Cert.XaKvRefIdeal.Facts) (hOutSsm : Cert.OutSsm.Facts) (hOutSsmIdeal : Cert.OutSsmIdeal.Facts) (hOutSsmRefIdeal : Cert.OutSsmRefIdeal.Facts) (hXaO : Cert.XaO.Facts) (hXaOIdeal : Cert.XaOIdeal.Facts) (hXaORefIdeal : Cert.XaORefIdeal.Facts) (hOutSb : Cert.OutSb.Facts) (hOutSbIdeal : Cert.OutSbIdeal.Facts) (hOutSbRefIdeal : Cert.OutSbRefIdeal.Facts) (hDYnSb : Cert.DYnSb.Facts) (hDYnSbIdeal : Cert.DYnSbIdeal.Facts) (hDYnSbRefIdeal : Cert.DYnSbRefIdeal.Facts) (hDwOutSb : Cert.DwOutSb.Facts) (hDwOutSbIdeal : Cert.DwOutSbIdeal.Facts) (hDwOutSbRefIdeal : Cert.DwOutSbRefIdeal.Facts) (hDwQkv : Cert.DwQkv.Facts) (hDwQkvIdeal : Cert.DwQkvIdeal.Facts) (hDwQkvRefIdeal : Cert.DwQkvRefIdeal.Facts) (hGluFwd : Cert.GluFwd.Facts) (hGluFwdIdeal : Cert.GluFwdIdeal.Facts) (hGluFwdRefIdeal : Cert.GluFwdRefIdeal.Facts) (hXaFwd : Cert.XaFwd.Facts) (hXaFwdIdeal : Cert.XaFwdIdeal.Facts) (hXaFwdRefIdeal : Cert.XaFwdRefIdeal.Facts) (hXaBwd : Cert.XaBwd.Facts) (hXaBwdIdeal : Cert.XaBwdIdeal.Facts) (hXaBwdRefIdeal : Cert.XaBwdRefIdeal.Facts) (hRmsSsm : Cert.RmsSsm.Facts) (hRmsSsmIdeal : Cert.RmsSsmIdeal.Facts) (hRmsSsmRefIdeal : Cert.RmsSsmRefIdeal.Facts) (hRmsMem : Cert.RmsMem.Facts) (hRmsMemIdeal : Cert.RmsMemIdeal.Facts) (hRmsMemRefIdeal : Cert.RmsMemRefIdeal.Facts) (hS5Prep : Cert.S5Prep.Facts) (hS5PrepIdeal : Cert.S5PrepIdeal.Facts) (hS5PrepRefIdeal : Cert.S5PrepRefIdeal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_DAct (hDAct := hDAct)
    ∧ quiescent_DActIdeal (hDActIdeal := hDActIdeal)
    ∧ quiescent_DActRefIdeal (hDActRefIdeal := hDActRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_DH2 (hDH2 := hDH2)
    ∧ quiescent_DH2Ideal (hDH2Ideal := hDH2Ideal)
    ∧ quiescent_DH2RefIdeal (hDH2RefIdeal := hDH2RefIdeal)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_MlpDown (hMlpDown := hMlpDown)
    ∧ quiescent_MlpDownIdeal (hMlpDownIdeal := hMlpDownIdeal)
    ∧ quiescent_MlpDownRefIdeal (hMlpDownRefIdeal := hMlpDownRefIdeal)
    ∧ quiescent_DH1 (hDH1 := hDH1)
    ∧ quiescent_DH1Ideal (hDH1Ideal := hDH1Ideal)
    ∧ quiescent_DH1RefIdeal (hDH1RefIdeal := hDH1RefIdeal)
    ∧ quiescent_DOx (hDOx := hDOx)
    ∧ quiescent_DOxIdeal (hDOxIdeal := hDOxIdeal)
    ∧ quiescent_DOxRefIdeal (hDOxRefIdeal := hDOxRefIdeal)
    ∧ quiescent_DwXo (hDwXo := hDwXo)
    ∧ quiescent_DwXoIdeal (hDwXoIdeal := hDwXoIdeal)
    ∧ quiescent_DwXoRefIdeal (hDwXoRefIdeal := hDwXoRefIdeal)
    ∧ quiescent_DwXq (hDwXq := hDwXq)
    ∧ quiescent_DwXqIdeal (hDwXqIdeal := hDwXqIdeal)
    ∧ quiescent_DwXqRefIdeal (hDwXqRefIdeal := hDwXqRefIdeal)
    ∧ quiescent_DwXkv (hDwXkv := hDwXkv)
    ∧ quiescent_DwXkvIdeal (hDwXkvIdeal := hDwXkvIdeal)
    ∧ quiescent_DwXkvRefIdeal (hDwXkvRefIdeal := hDwXkvRefIdeal)
    ∧ quiescent_DMemn (hDMemn := hDMemn)
    ∧ quiescent_DMemnIdeal (hDMemnIdeal := hDMemnIdeal)
    ∧ quiescent_DMemnRefIdeal (hDMemnRefIdeal := hDMemnRefIdeal)
    ∧ quiescent_DYnSsm (hDYnSsm := hDYnSsm)
    ∧ quiescent_DYnSsmIdeal (hDYnSsmIdeal := hDYnSsmIdeal)
    ∧ quiescent_DYnSsmRefIdeal (hDYnSsmRefIdeal := hDYnSsmRefIdeal)
    ∧ quiescent_DwOutSsm (hDwOutSsm := hDwOutSsm)
    ∧ quiescent_DwOutSsmIdeal (hDwOutSsmIdeal := hDwOutSsmIdeal)
    ∧ quiescent_DwOutSsmRefIdeal (hDwOutSsmRefIdeal := hDwOutSsmRefIdeal)
    ∧ quiescent_DwU (hDwU := hDwU)
    ∧ quiescent_DwUIdeal (hDwUIdeal := hDwUIdeal)
    ∧ quiescent_DwURefIdeal (hDwURefIdeal := hDwURefIdeal)
    ∧ quiescent_DH0U (hDH0U := hDH0U)
    ∧ quiescent_DH0UIdeal (hDH0UIdeal := hDH0UIdeal)
    ∧ quiescent_DH0URefIdeal (hDH0URefIdeal := hDH0URefIdeal)
    ∧ quiescent_ProjU (hProjU := hProjU)
    ∧ quiescent_ProjUIdeal (hProjUIdeal := hProjUIdeal)
    ∧ quiescent_ProjURefIdeal (hProjURefIdeal := hProjURefIdeal)
    ∧ quiescent_XaQ (hXaQ := hXaQ)
    ∧ quiescent_XaQIdeal (hXaQIdeal := hXaQIdeal)
    ∧ quiescent_XaQRefIdeal (hXaQRefIdeal := hXaQRefIdeal)
    ∧ quiescent_XaKv (hXaKv := hXaKv)
    ∧ quiescent_XaKvIdeal (hXaKvIdeal := hXaKvIdeal)
    ∧ quiescent_XaKvRefIdeal (hXaKvRefIdeal := hXaKvRefIdeal)
    ∧ quiescent_OutSsm (hOutSsm := hOutSsm)
    ∧ quiescent_OutSsmIdeal (hOutSsmIdeal := hOutSsmIdeal)
    ∧ quiescent_OutSsmRefIdeal (hOutSsmRefIdeal := hOutSsmRefIdeal)
    ∧ quiescent_XaO (hXaO := hXaO)
    ∧ quiescent_XaOIdeal (hXaOIdeal := hXaOIdeal)
    ∧ quiescent_XaORefIdeal (hXaORefIdeal := hXaORefIdeal)
    ∧ quiescent_OutSb (hOutSb := hOutSb)
    ∧ quiescent_OutSbIdeal (hOutSbIdeal := hOutSbIdeal)
    ∧ quiescent_OutSbRefIdeal (hOutSbRefIdeal := hOutSbRefIdeal)
    ∧ quiescent_DYnSb (hDYnSb := hDYnSb)
    ∧ quiescent_DYnSbIdeal (hDYnSbIdeal := hDYnSbIdeal)
    ∧ quiescent_DYnSbRefIdeal (hDYnSbRefIdeal := hDYnSbRefIdeal)
    ∧ quiescent_DwOutSb (hDwOutSb := hDwOutSb)
    ∧ quiescent_DwOutSbIdeal (hDwOutSbIdeal := hDwOutSbIdeal)
    ∧ quiescent_DwOutSbRefIdeal (hDwOutSbRefIdeal := hDwOutSbRefIdeal)
    ∧ quiescent_DwQkv (hDwQkv := hDwQkv)
    ∧ quiescent_DwQkvIdeal (hDwQkvIdeal := hDwQkvIdeal)
    ∧ quiescent_DwQkvRefIdeal (hDwQkvRefIdeal := hDwQkvRefIdeal)
    ∧ quiescent_GluFwd (hGluFwd := hGluFwd)
    ∧ quiescent_GluFwdIdeal (hGluFwdIdeal := hGluFwdIdeal)
    ∧ quiescent_GluFwdRefIdeal (hGluFwdRefIdeal := hGluFwdRefIdeal)
    ∧ quiescent_XaFwd (hXaFwd := hXaFwd)
    ∧ quiescent_XaFwdIdeal (hXaFwdIdeal := hXaFwdIdeal)
    ∧ quiescent_XaFwdRefIdeal (hXaFwdRefIdeal := hXaFwdRefIdeal)
    ∧ quiescent_XaBwd (hXaBwd := hXaBwd)
    ∧ quiescent_XaBwdIdeal (hXaBwdIdeal := hXaBwdIdeal)
    ∧ quiescent_XaBwdIdeal_pre_finite (hXaBwdIdeal := hXaBwdIdeal) (hPre_finite := hPre_finite)
    ∧ quiescent_XaBwdRefIdeal (hXaBwdRefIdeal := hXaBwdRefIdeal)
    ∧ quiescent_XaBwdRefIdeal_pre_finite (hXaBwdRefIdeal := hXaBwdRefIdeal) (hPre_finite := hPre_finite)
    ∧ quiescent_RmsSsm (hRmsSsm := hRmsSsm)
    ∧ quiescent_RmsSsmIdeal (hRmsSsmIdeal := hRmsSsmIdeal)
    ∧ quiescent_RmsSsmRefIdeal (hRmsSsmRefIdeal := hRmsSsmRefIdeal)
    ∧ quiescent_RmsMem (hRmsMem := hRmsMem)
    ∧ quiescent_RmsMemIdeal (hRmsMemIdeal := hRmsMemIdeal)
    ∧ quiescent_RmsMemRefIdeal (hRmsMemRefIdeal := hRmsMemRefIdeal)
    ∧ quiescent_S5Prep (hS5Prep := hS5Prep)
    ∧ quiescent_S5PrepIdeal (hS5PrepIdeal := hS5PrepIdeal)
    ∧ quiescent_S5PrepRefIdeal (hS5PrepRefIdeal := hS5PrepRefIdeal)
    ∧ preserves_Kernel_KernelIdeal
    ∧ algebraic_KernelIdeal_ReferenceIdeal (hKernelIdeal := hKernelIdeal) (hReferenceIdeal := hReferenceIdeal)
    ∧ preserves_DAct_DActIdeal
    ∧ algebraic_DActIdeal_DActRefIdeal (hDActIdeal := hDActIdeal) (hDActRefIdeal := hDActRefIdeal)
    ∧ preserves_DwDown_DwDownIdeal
    ∧ algebraic_DwDownIdeal_DwDownRefIdeal (hDwDownIdeal := hDwDownIdeal) (hDwDownRefIdeal := hDwDownRefIdeal)
    ∧ preserves_DwUp_DwUpIdeal
    ∧ algebraic_DwUpIdeal_DwUpRefIdeal (hDwUpIdeal := hDwUpIdeal) (hDwUpRefIdeal := hDwUpRefIdeal)
    ∧ preserves_DH2_DH2Ideal
    ∧ algebraic_DH2Ideal_DH2RefIdeal (hDH2Ideal := hDH2Ideal) (hDH2RefIdeal := hDH2RefIdeal)
    ∧ preserves_MlpUp_MlpUpIdeal
    ∧ algebraic_MlpUpIdeal_MlpUpRefIdeal (hMlpUpIdeal := hMlpUpIdeal) (hMlpUpRefIdeal := hMlpUpRefIdeal)
    ∧ preserves_MlpDown_MlpDownIdeal
    ∧ algebraic_MlpDownIdeal_MlpDownRefIdeal (hMlpDownIdeal := hMlpDownIdeal) (hMlpDownRefIdeal := hMlpDownRefIdeal)
    ∧ preserves_DH1_DH1Ideal
    ∧ algebraic_DH1Ideal_DH1RefIdeal (hDH1Ideal := hDH1Ideal) (hDH1RefIdeal := hDH1RefIdeal)
    ∧ preserves_DOx_DOxIdeal
    ∧ algebraic_DOxIdeal_DOxRefIdeal (hDOxIdeal := hDOxIdeal) (hDOxRefIdeal := hDOxRefIdeal)
    ∧ preserves_DwXo_DwXoIdeal
    ∧ algebraic_DwXoIdeal_DwXoRefIdeal (hDwXoIdeal := hDwXoIdeal) (hDwXoRefIdeal := hDwXoRefIdeal)
    ∧ preserves_DwXq_DwXqIdeal
    ∧ algebraic_DwXqIdeal_DwXqRefIdeal (hDwXqIdeal := hDwXqIdeal) (hDwXqRefIdeal := hDwXqRefIdeal)
    ∧ preserves_DwXkv_DwXkvIdeal
    ∧ algebraic_DwXkvIdeal_DwXkvRefIdeal (hDwXkvIdeal := hDwXkvIdeal) (hDwXkvRefIdeal := hDwXkvRefIdeal)
    ∧ preserves_DMemn_DMemnIdeal
    ∧ algebraic_DMemnIdeal_DMemnRefIdeal (hDMemnIdeal := hDMemnIdeal) (hDMemnRefIdeal := hDMemnRefIdeal)
    ∧ preserves_DYnSsm_DYnSsmIdeal
    ∧ algebraic_DYnSsmIdeal_DYnSsmRefIdeal (hDYnSsmIdeal := hDYnSsmIdeal) (hDYnSsmRefIdeal := hDYnSsmRefIdeal)
    ∧ preserves_DwOutSsm_DwOutSsmIdeal
    ∧ algebraic_DwOutSsmIdeal_DwOutSsmRefIdeal (hDwOutSsmIdeal := hDwOutSsmIdeal) (hDwOutSsmRefIdeal := hDwOutSsmRefIdeal)
    ∧ preserves_DwU_DwUIdeal
    ∧ algebraic_DwUIdeal_DwURefIdeal (hDwUIdeal := hDwUIdeal) (hDwURefIdeal := hDwURefIdeal)
    ∧ preserves_DH0U_DH0UIdeal
    ∧ algebraic_DH0UIdeal_DH0URefIdeal (hDH0UIdeal := hDH0UIdeal) (hDH0URefIdeal := hDH0URefIdeal)
    ∧ preserves_ProjU_ProjUIdeal
    ∧ algebraic_ProjUIdeal_ProjURefIdeal (hProjUIdeal := hProjUIdeal) (hProjURefIdeal := hProjURefIdeal)
    ∧ preserves_XaQ_XaQIdeal
    ∧ algebraic_XaQIdeal_XaQRefIdeal (hXaQIdeal := hXaQIdeal) (hXaQRefIdeal := hXaQRefIdeal)
    ∧ preserves_XaKv_XaKvIdeal
    ∧ algebraic_XaKvIdeal_XaKvRefIdeal (hXaKvIdeal := hXaKvIdeal) (hXaKvRefIdeal := hXaKvRefIdeal)
    ∧ preserves_OutSsm_OutSsmIdeal
    ∧ algebraic_OutSsmIdeal_OutSsmRefIdeal (hOutSsmIdeal := hOutSsmIdeal) (hOutSsmRefIdeal := hOutSsmRefIdeal)
    ∧ preserves_XaO_XaOIdeal
    ∧ algebraic_XaOIdeal_XaORefIdeal (hXaOIdeal := hXaOIdeal) (hXaORefIdeal := hXaORefIdeal)
    ∧ preserves_OutSb_OutSbIdeal
    ∧ algebraic_OutSbIdeal_OutSbRefIdeal (hOutSbIdeal := hOutSbIdeal) (hOutSbRefIdeal := hOutSbRefIdeal)
    ∧ preserves_DYnSb_DYnSbIdeal
    ∧ algebraic_DYnSbIdeal_DYnSbRefIdeal (hDYnSbIdeal := hDYnSbIdeal) (hDYnSbRefIdeal := hDYnSbRefIdeal)
    ∧ preserves_DwOutSb_DwOutSbIdeal
    ∧ algebraic_DwOutSbIdeal_DwOutSbRefIdeal (hDwOutSbIdeal := hDwOutSbIdeal) (hDwOutSbRefIdeal := hDwOutSbRefIdeal)
    ∧ preserves_DwQkv_DwQkvIdeal
    ∧ algebraic_DwQkvIdeal_DwQkvRefIdeal (hDwQkvIdeal := hDwQkvIdeal) (hDwQkvRefIdeal := hDwQkvRefIdeal)
    ∧ preserves_GluFwd_GluFwdIdeal
    ∧ algebraic_GluFwdIdeal_GluFwdRefIdeal (hGluFwdIdeal := hGluFwdIdeal) (hGluFwdRefIdeal := hGluFwdRefIdeal)
    ∧ preserves_XaFwd_XaFwdIdeal
    ∧ algebraic_XaFwdIdeal_XaFwdRefIdeal (hXaFwdIdeal := hXaFwdIdeal) (hXaFwdRefIdeal := hXaFwdRefIdeal)
    ∧ preserves_XaBwd_XaBwdIdeal
    ∧ algebraic_XaBwdIdeal_XaBwdRefIdeal_pre_finite (hXaBwdIdeal := hXaBwdIdeal) (hXaBwdRefIdeal := hXaBwdRefIdeal) (hPre_finite := hPre_finite)
    ∧ preserves_RmsSsm_RmsSsmIdeal
    ∧ algebraic_RmsSsmIdeal_RmsSsmRefIdeal (hRmsSsmIdeal := hRmsSsmIdeal) (hRmsSsmRefIdeal := hRmsSsmRefIdeal)
    ∧ preserves_RmsMem_RmsMemIdeal
    ∧ algebraic_RmsMemIdeal_RmsMemRefIdeal (hRmsMemIdeal := hRmsMemIdeal) (hRmsMemRefIdeal := hRmsMemRefIdeal)
    ∧ preserves_S5Prep_S5PrepIdeal
    ∧ algebraic_S5PrepIdeal_S5PrepRefIdeal (hS5PrepIdeal := hS5PrepIdeal) (hS5PrepRefIdeal := hS5PrepRefIdeal)
-- ==== Pre_finite.lean ====
abbrev S8192x512 : Shape := ⟨2, ![8192, 512]⟩
abbrev S256x1024 : Shape := ⟨2, ![256, 1024]⟩
abbrev S1x128 : Shape := ⟨2, ![1, 128]⟩
abbrev S_ : Shape := ⟨0, ![]⟩

class Facts : Prop where
  bcast_S_S8192x512 : S_.BroadcastsInDim S8192x512 (![] : Fin 0 → Fin S8192x512.rank)
  bcast_S_S256x1024 : S_.BroadcastsInDim S256x1024 (![] : Fin 0 → Fin S256x1024.rank)
  bcast_S_S1x128 : S_.BroadcastsInDim S1x128 (![] : Fin 0 → Fin S1x128.rank)

variable [Facts]

def fn {F : FTy → Type} [FloatOps F] (main_arg0 : FVec F S8192x512 .f32) (main_arg1 : FVec F S256x1024 .f32) (main_arg2 : FVec F S1x128 .f32) (main_arg3 : FVec F S1x128 .f32) (main_arg4 : FVec F S8192x512 .f32) : IVec S8192x512 1 × IVec S256x1024 1 × IVec S1x128 1 × IVec S1x128 1 × IVec S8192x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S256x1024 .f32 := Host.absf main_arg1
  let main_cst_0 : FVec F S_ .f32 := constant S_ .f32 0x7F800000#32
  let main_v4 : FVec F S256x1024 .f32 := broadcastInDim S256x1024 ![] bcast_S_S256x1024 main_cst_0
  let main_v5 : IVec S256x1024 1 := cmpf .olt main_v3 main_v4
  let main_v6 : FVec F S1x128 .f32 := Host.absf main_arg2
  let main_cst_1 : FVec F S_ .f32 := constant S_ .f32 0x7F800000#32
  let main_v7 : FVec F S1x128 .f32 := broadcastInDim S1x128 ![] bcast_S_S1x128 main_cst_1
  let main_v8 : IVec S1x128 1 := cmpf .olt main_v6 main_v7
  let main_v9 : FVec F S1x128 .f32 := Host.absf main_arg3
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_v12 : FVec F S8192x512 .f32 := Host.absf main_arg4
  let main_cst_3 : FVec F S_ .f32 := constant S_ .f32 0x7F800000#32
  let main_v13 : FVec F S8192x512 .f32 := broadcastInDim S8192x512 ![] bcast_S_S8192x512 main_cst_3
  let main_v14 : IVec S8192x512 1 := cmpf .olt main_v12 main_v13
  (main_v2, main_v5, main_v8, main_v11, main_v14)
-- ==== Kernel.lean ====
abbrev S8192x512 : Shape := ⟨2, ![8192, 512]⟩
abbrev S1x512 : Shape := ⟨2, ![1, 512]⟩
abbrev S512x512 : Shape := ⟨2, ![512, 512]⟩
abbrev S512 : Shape := ⟨1, ![512]⟩

abbrev nBuf : Space → Nat
  | .hbm => 13
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x512, .f32⟩
  | .hbm, ⟨3, _⟩ => ⟨S512x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S512x512, .bf16⟩
  | .hbm, ⟨9, _⟩ => ⟨S8192x512, .f32⟩
  | .hbm, ⟨10, _⟩ => ⟨S8192x512, .f32⟩
  | .hbm, ⟨11, _⟩ => ⟨S512x512, .f32⟩
  | .hbm, ⟨12, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S8192x512 : Shape := ⟨2, ![8192, 512]⟩
abbrev S1x512 : Shape := ⟨2, ![1, 512]⟩
abbrev S512x512 : Shape := ⟨2, ![512, 512]⟩
abbrev S_ : Shape := ⟨0, ![]⟩
abbrev S512 : Shape := ⟨1, ![512]⟩

abbrev nBuf : Space → Nat
  | .hbm => 78
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x512, .f32⟩
  | .hbm, ⟨3, _⟩ => ⟨S512x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S_, .f32⟩
  | .hbm, ⟨12, _⟩ => ⟨S8192x512, .f32⟩
  | .hbm, ⟨13, _⟩ => ⟨S8192x512, .f32⟩
  | .hbm, ⟨14, _⟩ => ⟨S_, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S_, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192x512, .f32⟩
  | .hbm, ⟨24, _⟩ => ⟨S8192x512, .f32⟩
  | .hbm, ⟨25, _⟩ => ⟨S_, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S_, .f32⟩
  | .hbm, ⟨30, _⟩ => ⟨S8192x512, .f32⟩
  | .hbm, ⟨31, _⟩ => ⟨S8192x512, .f32⟩
  | .hbm, ⟨32, _⟩ => ⟨S_, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S_, .f32⟩
  | .hbm, ⟨40, _⟩ => ⟨S8192x512, .f32⟩
  | .hbm, ⟨41, _⟩ => ⟨S8192x512, .f32⟩
  | .hbm, ⟨42, _⟩ => ⟨S_, .f32⟩
  | .hbm, ⟨43, _⟩ => ⟨S8192x512, .f32⟩
  | .hbm, ⟨44, _⟩ => ⟨S8192x512, .f32⟩
  | .hbm, ⟨45, _⟩ => ⟨S_, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S512x512, .f32⟩
  | .hbm, ⟨54, _⟩ => ⟨S512x512, .f32⟩
  | .hbm, ⟨55, _⟩ => ⟨S8192x512, .f32⟩
  | .hbm, ⟨56, _⟩ => ⟨S8192x512, .f32⟩
  | .hbm, ⟨57, _⟩ => ⟨S8192x512, .f32⟩
  | .hbm, ⟨58, _⟩ => ⟨S8192x512, .f32⟩
  | .hbm, ⟨59, _⟩ => ⟨S_, .f32⟩
  | .hbm, ⟨60, _⟩ => ⟨S8192x512, .f32⟩
  | .hbm, ⟨61, _⟩ => ⟨S8192x512, .f32⟩
  | .hbm, ⟨62, _⟩ => ⟨S8192x512, .f32⟩
  | .hbm, ⟨63, _⟩ => ⟨S_, .f32⟩
  | .hbm, ⟨64, _⟩ => ⟨S8192x512, .f32⟩
  | .hbm, ⟨65, _⟩ => ⟨S8192x512, .f32⟩
  | .hbm, ⟨66, _⟩ => ⟨S8192x512, .f32⟩
  | .hbm, ⟨67, _⟩ => ⟨S_, .f32⟩
  | .hbm, ⟨68, _⟩ => ⟨S8192x512, .f32⟩
  | .hbm, ⟨69, _⟩ => ⟨S8192x512, .f32⟩
  | .hbm, ⟨70, _⟩ => ⟨S8192x512, .f32⟩
  | .hbm, ⟨71, _⟩ => ⟨S8192x512, .f32⟩
  | .hbm, ⟨72, _⟩ => ⟨S8192x512, .f32⟩
  | .hbm, ⟨73, _⟩ => ⟨S8192x512, .f32⟩
  | .hbm, ⟨74, _⟩ => ⟨S8192x512, .f32⟩
  | .hbm, ⟨75, _⟩ => ⟨S_, .f32⟩
  | .hbm, ⟨76, _⟩ => ⟨S512, .f32⟩
  | .hbm, ⟨77, _⟩ => ⟨S1x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_10 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_11 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_12 : Ref sig .tc := ⟨.hbm, 75, rfl⟩
abbrev main_v57 : Ref sig .tc := ⟨.hbm, 76, rfl⟩
abbrev main_v58 : Ref sig .tc := ⟨.hbm, 77, rfl⟩

abbrev nD : Nat := 1
abbrev τ : Topo := Topo.v7x

variable {F : FTy → Type} [FloatOps F]
-- ==== DAct.lean ====
abbrev S8192x4096 : Shape := ⟨2, ![8192, 4096]⟩
abbrev S4096x1024 : Shape := ⟨2, ![4096, 1024]⟩
abbrev S8192x1024 : Shape := ⟨2, ![8192, 1024]⟩
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 7
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S8192x1024, .bf16⟩
  | .hbm, ⟨4, _⟩ => ⟨S4096x1024, .bf16⟩
  | .hbm, ⟨5, _⟩ => ⟨S8192x4096, .bf16⟩
  | .hbm, ⟨6, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S1024x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DActRefIdeal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩
abbrev S1024x4096 : Shape := ⟨2, ![1024, 4096]⟩

abbrev nBuf : Space → Nat
  | .hbm => 24
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x1024, .f32⟩
  | .hbm, ⟨16, _⟩ => ⟨S1024x4096, .f32⟩
  | .hbm, ⟨17, _⟩ => ⟨S4096x1024, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== DwDown.lean ====
abbrev S8192x4096 : Shape := ⟨2, ![8192, 4096]⟩
abbrev S4096x1024 : Shape := ⟨2, ![4096, 1024]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S8192x4096, .bf16⟩
  | .hbm, ⟨4, _⟩ => ⟨S8192x1024, .bf16⟩
  | .hbm, ⟨5, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩
abbrev S1024x4096 : Shape := ⟨2, ![1024, 4096]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x1024, .f32⟩
  | .hbm, ⟨16, _⟩ => ⟨S1024x4096, .f32⟩
  | .hbm, ⟨17, _⟩ => ⟨S4096x1024, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== DwUp.lean ====
abbrev S8192x1024 : Shape := ⟨2, ![8192, 1024]⟩
abbrev S1x1024 : Shape := ⟨2, ![1, 1024]⟩
abbrev S1024x4096 : Shape := ⟨2, ![1024, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 22
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S8192x4096, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x4096, .bf16⟩
  | .hbm, ⟨21, _⟩ => ⟨S4x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpRefIdeal.lean ====
abbrev S8192x1024 : Shape := ⟨2, ![8192, 1024]⟩
abbrev S1x1024 : Shape := ⟨2, ![1, 1024]⟩
abbrev S1024x4096 : Shape := ⟨2, ![1024, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S4096x1024 : Shape := ⟨2, ![4096, 1024]⟩
abbrev S1024 : Shape := ⟨1, ![1024]⟩
abbrev S1024x4x1024 : Shape := ⟨3, ![1024, 4, 1024]⟩
abbrev S4x1024x1024 : Shape := ⟨3, ![4, 1024, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S8192x4096, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x4096, .f32⟩
  | .hbm, ⟨24, _⟩ => ⟨S4096x1024, .f32⟩
  | .hbm, ⟨25, _⟩ => ⟨S1024x4096, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S1024x4x1024, .f32⟩
  | .hbm, ⟨51, _⟩ => ⟨S4x1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== DH2.lean ====
abbrev S8192x1024 : Shape := ⟨2, ![8192, 1024]⟩
abbrev S1x1024 : Shape := ⟨2, ![1, 1024]⟩
abbrev S1024x4096 : Shape := ⟨2, ![1024, 4096]⟩
abbrev S8192x4096 : Shape := ⟨2, ![8192, 4096]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 10
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S8192x4096, .f32⟩
  | .hbm, ⟨4, _⟩ => ⟨S8192x1024, .f32⟩
  | .hbm, ⟨5, _⟩ => ⟨S8192x4096, .bf16⟩
  | .hbm, ⟨6, _⟩ => ⟨S1024x4096, .bf16⟩
  | .hbm, ⟨7, _⟩ => ⟨S8192x1024, .f32⟩
  | .hbm, ⟨8, _⟩ => ⟨S1x1024, .f32⟩
  | .hbm, ⟨9, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def k0_cond3 (i : grid0.Coords) : BitVec 1 :=
  let arg0 : BitVec 32 := BitVec.ofNat 32 (i 0).val
  let c0_i32_29 : BitVec 32 := 0#32
  let v57 : BitVec 1 := Scalar.cmpi .eq arg0 c0_i32_29
  let v58 : BitVec 32 := Scalar.extui v57
  let c0_i32_30 : BitVec 32 := 0#32
  let v59 : BitVec 1 := Scalar.cmpi .ne v58 c0_i32_30
  v59

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== DH2RefIdeal.lean ====
abbrev S8192x1024 : Shape := ⟨2, ![8192, 1024]⟩
abbrev S1x1024 : Shape := ⟨2, ![1, 1024]⟩
abbrev S1024x4096 : Shape := ⟨2, ![1024, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S4096x1024 : Shape := ⟨2, ![4096, 1024]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S8192x4096, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x4096, .f32⟩
  | .hbm, ⟨25, _⟩ => ⟨S4096x1024, .f32⟩
  | .hbm, ⟨26, _⟩ => ⟨S1024x4096, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== MlpUp.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩
abbrev S1024x2048 : Shape := ⟨2, ![1024, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x1024, .bf16⟩
  | .hbm, ⟨3, _⟩ => ⟨S1024x4096, .bf16⟩
  | .hbm, ⟨4, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpUpRefIdeal.lean ====
abbrev S8192x1024 : Shape := ⟨2, ![8192, 1024]⟩
abbrev S1024x4096 : Shape := ⟨2, ![1024, 4096]⟩
abbrev S8192x4096 : Shape := ⟨2, ![8192, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MlpDown.lean ====
abbrev S8192x1024 : Shape := ⟨2, ![8192, 1024]⟩
abbrev S8192x4096 : Shape := ⟨2, ![8192, 4096]⟩
abbrev S4096x1024 : Shape := ⟨2, ![4096, 1024]⟩
abbrev S1x1 : Shape := ⟨2, ![1, 1]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩

abbrev nBuf : Space → Nat
  | .hbm => 9
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S4096x1024, .f32⟩
  | .hbm, ⟨3, _⟩ => ⟨S8192x1024, .f32⟩
  | .hbm, ⟨4, _⟩ => ⟨S8192x4096, .bf16⟩
  | .hbm, ⟨5, _⟩ => ⟨S4096x1024, .bf16⟩
  | .hbm, ⟨6, _⟩ => ⟨S8192x1024, .f32⟩
  | .hbm, ⟨7, _⟩ => ⟨S1x1, .f32⟩
  | .hbm, ⟨8, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_9 : BitVec 32 := 0#32
  let v20 : BitVec 1 := Scalar.cmpi .ne v19 c0_i32_9
  v20

def k0_cond3 (i : grid0.Coords) : BitVec 1 :=
  let arg0 : BitVec 32 := BitVec.ofNat 32 (i 0).val
  let c0_i32_21 : BitVec 32 := 0#32
  let v31 : BitVec 1 := Scalar.cmpi .eq arg0 c0_i32_21
  let v32 : BitVec 32 := Scalar.extui v31
  let c0_i32_22 : BitVec 32 := 0#32
  let v33 : BitVec 1 := Scalar.cmpi .ne v32 c0_i32_22
  v33

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== MlpDownRefIdeal.lean ====
abbrev S8192x1024 : Shape := ⟨2, ![8192, 1024]⟩
abbrev S8192x4096 : Shape := ⟨2, ![8192, 4096]⟩
abbrev S4096x1024 : Shape := ⟨2, ![4096, 1024]⟩
abbrev S_ : Shape := ⟨0, ![]⟩
abbrev S8192 : Shape := ⟨1, ![8192]⟩
abbrev S1x1 : Shape := ⟨2, ![1, 1]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S4096x1024, .f32⟩
  | .hbm, ⟨3, _⟩ => ⟨S8192x1024, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S8192x1024, .f32⟩
  | .hbm, ⟨32, _⟩ => ⟨S8192x1024, .f32⟩
  | .hbm, ⟨33, _⟩ => ⟨S1x1, .f32⟩
  | .hbm, ⟨34, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_cst_4 : Ref sig .tc := ⟨.hbm, 24, rfl⟩
abbrev main_cst_5 : Ref sig .tc := ⟨.hbm, 25, rfl⟩
abbrev main_v13 : Ref sig .tc := ⟨.hbm, 26, rfl⟩
abbrev main_v14 : Ref sig .tc := ⟨.hbm, 27, rfl⟩
abbrev main_cst_6 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]
-- ==== DH1.lean ====
abbrev S8192x1024 : Shape := ⟨2, ![8192, 1024]⟩
abbrev S1x1024 : Shape := ⟨2, ![1, 1024]⟩
abbrev S1024x512 : Shape := ⟨2, ![1024, 512]⟩
abbrev S8192x512 : Shape := ⟨2, ![8192, 512]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 10
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x512, .f32⟩
  | .hbm, ⟨3, _⟩ => ⟨S8192x512, .f32⟩
  | .hbm, ⟨4, _⟩ => ⟨S8192x1024, .f32⟩
  | .hbm, ⟨5, _⟩ => ⟨S8192x512, .bf16⟩
  | .hbm, ⟨6, _⟩ => ⟨S1024x512, .bf16⟩
  | .hbm, ⟨7, _⟩ => ⟨S8192x1024, .f32⟩
  | .hbm, ⟨8, _⟩ => ⟨S1x1024, .f32⟩
  | .hbm, ⟨9, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def k0_cond3 (i : grid0.Coords) : BitVec 1 :=
  let arg0 : BitVec 32 := BitVec.ofNat 32 (i 0).val
  let c0_i32_30 : BitVec 32 := 0#32
  let v57 : BitVec 1 := Scalar.cmpi .eq arg0 c0_i32_30
  let v58 : BitVec 32 := Scalar.extui v57
  let c0_i32_31 : BitVec 32 := 0#32
  let v59 : BitVec 1 := Scalar.cmpi .ne v58 c0_i32_31
  v59

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== DH1RefIdeal.lean ====
abbrev S8192x1024 : Shape := ⟨2, ![8192, 1024]⟩
abbrev S1x1024 : Shape := ⟨2, ![1, 1024]⟩
abbrev S1024x512 : Shape := ⟨2, ![1024, 512]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S512x1024 : Shape := ⟨2, ![512, 1024]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x512, .f32⟩
  | .hbm, ⟨3, _⟩ => ⟨S8192x512, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x512, .f32⟩
  | .hbm, ⟨25, _⟩ => ⟨S512x1024, .f32⟩
  | .hbm, ⟨26, _⟩ => ⟨S1024x512, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== DOx.lean ====
abbrev S8192x512 : Shape := ⟨2, ![8192, 512]⟩
abbrev S512x1024 : Shape := ⟨2, ![512, 1024]⟩
abbrev S8192x1024 : Shape := ⟨2, ![8192, 1024]⟩
abbrev S1024x1024 : Shape := ⟨2, ![1024, 1024]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .bf16⟩
  | .hbm, ⟨4, _⟩ => ⟨S512x1024, .bf16⟩
  | .hbm, ⟨5, _⟩ => ⟨S8192x512, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DOxRefIdeal.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .f32⟩
  | .hbm, ⟨4, _⟩ => ⟨S1024x512, .f32⟩
  | .hbm, ⟨5, _⟩ => ⟨S512x1024, .f32⟩
  | .hbm, ⟨6, _⟩ => ⟨S8192x512, .f32⟩
  | .hbm, ⟨7, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwXo.lean ====
abbrev S8192x512 : Shape := ⟨2, ![8192, 512]⟩
abbrev S512x1024 : Shape := ⟨2, ![512, 1024]⟩
abbrev S8192x1024 : Shape := ⟨2, ![8192, 1024]⟩
abbrev S4x512x256 : Shape := ⟨3, ![4, 512, 256]⟩
abbrev S1024x512 : Shape := ⟨2, ![1024, 512]⟩
abbrev S1024x256 : Shape := ⟨2, ![1024, 256]⟩
abbrev S1x512x256 : Shape := ⟨3, ![1, 512, 256]⟩
abbrev S512x256 : Shape := ⟨2, ![512, 256]⟩

abbrev nBuf : Space → Nat
  | .hbm => 6
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x512, .bf16⟩
  | .hbm, ⟨4, _⟩ => ⟨S8192x1024, .bf16⟩
  | .hbm, ⟨5, _⟩ => ⟨S4x512x256, .f32⟩
  | .local _ .vmem, ⟨0, _⟩ => ⟨S1024x512, .bf16⟩
  | .local _ .vmem, ⟨1, _⟩ => ⟨S1024x512, .bf16⟩
  | .local _ .vmem, ⟨2, _⟩ => ⟨S1024x256, .bf16⟩
  | .local _ .vmem, ⟨3, _⟩ => ⟨S1024x256, .bf16⟩
  | .local _ .vmem, ⟨4, _⟩ => ⟨S1x512x256, .f32⟩
  | .local _ .vmem, ⟨5, _⟩ => ⟨S1x512x256, .f32⟩
  | .local _ .vmem, ⟨6, _⟩ => ⟨S512x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwXoRefIdeal.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S512x4x256 : Shape := ⟨3, ![512, 4, 256]⟩
abbrev S4x512x256 : Shape := ⟨3, ![4, 512, 256]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .f32⟩
  | .hbm, ⟨4, _⟩ => ⟨S1024x512, .f32⟩
  | .hbm, ⟨5, _⟩ => ⟨S512x1024, .f32⟩
  | .hbm, ⟨6, _⟩ => ⟨S8192x512, .f32⟩
  | .hbm, ⟨7, _⟩ => ⟨S512x4x256, .f32⟩
  | .hbm, ⟨8, _⟩ => ⟨S4x512x256, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwXq.lean ====
abbrev S8192x1024 : Shape := ⟨2, ![8192, 1024]⟩
abbrev S1024x512 : Shape := ⟨2, ![1024, 512]⟩
abbrev S8192x512 : Shape := ⟨2, ![8192, 512]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x512, .f32⟩
  | .hbm, ⟨3, _⟩ => ⟨S8192x1024, .bf16⟩
  | .hbm, ⟨4, _⟩ => ⟨S8192x512, .bf16⟩
  | .hbm, ⟨5, _⟩ => ⟨S1024x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwXqRefIdeal.lean ====
abbrev S8192x1024 : Shape := ⟨2, ![8192, 1024]⟩
abbrev S1024x512 : Shape := ⟨2, ![1024, 512]⟩
abbrev S8192x512 : Shape := ⟨2, ![8192, 512]⟩
abbrev S512x1024 : Shape := ⟨2, ![512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x512, .f32⟩
  | .hbm, ⟨3, _⟩ => ⟨S8192x512, .f32⟩
  | .hbm, ⟨4, _⟩ => ⟨S512x1024, .f32⟩
  | .hbm, ⟨5, _⟩ => ⟨S1024x512, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwXkv.lean ====
abbrev S256x1024 : Shape := ⟨2, ![256, 1024]⟩
abbrev S1024x1024 : Shape := ⟨2, ![1024, 1024]⟩

abbrev nBuf : Space → Nat
  | .hbm => 6
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S256x1024, .f32⟩
  | .hbm, ⟨3, _⟩ => ⟨S256x1024, .bf16⟩
  | .hbm, ⟨4, _⟩ => ⟨S256x1024, .bf16⟩
  | .hbm, ⟨5, _⟩ => ⟨S1024x1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .f32⟩
  | .local _ .vmem, ⟨3, _⟩ => ⟨S1024x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwXkvRefIdeal.lean ====
abbrev S256x1024 : Shape := ⟨2, ![256, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S256x1024, .f32⟩
  | .hbm, ⟨3, _⟩ => ⟨S256x1024, .f32⟩
  | .hbm, ⟨4, _⟩ => ⟨S1024x1024, .f32⟩
  | .hbm, ⟨5, _⟩ => ⟨S1024x1024, .f32⟩
  | .hbm, ⟨6, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DMemn.lean ====
abbrev S256x1024 : Shape := ⟨2, ![256, 1024]⟩
abbrev S1024x1024 : Shape := ⟨2, ![1024, 1024]⟩

abbrev nBuf : Space → Nat
  | .hbm => 6
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S256x1024, .f32⟩
  | .hbm, ⟨3, _⟩ => ⟨S256x1024, .bf16⟩
  | .hbm, ⟨4, _⟩ => ⟨S1024x1024, .bf16⟩
  | .hbm, ⟨5, _⟩ => ⟨S256x1024, .f32⟩
  | .local _ .vmem, ⟨0, _⟩ => ⟨S256x1024, .bf16⟩
  | .local _ .vmem, ⟨1, _⟩ => ⟨S1024x1024, .bf16⟩
  | .local _ .vmem, ⟨2, _⟩ => ⟨S256x1024, .f32⟩
  | .local _ .vmem, ⟨3, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DMemnRefIdeal.lean ====
abbrev S256x1024 : Shape := ⟨2, ![256, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S256x1024, .f32⟩
  | .hbm, ⟨3, _⟩ => ⟨S256x1024, .f32⟩
  | .hbm, ⟨4, _⟩ => ⟨S1024x1024, .f32⟩
  | .hbm, ⟨5, _⟩ => ⟨S1024x1024, .f32⟩
  | .hbm, ⟨6, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DYnSsm.lean ====
abbrev S8192x512 : Shape := ⟨2, ![8192, 512]⟩
abbrev S512x1024 : Shape := ⟨2, ![512, 1024]⟩
abbrev S8192x1024 : Shape := ⟨2, ![8192, 1024]⟩
abbrev S1024x1024 : Shape := ⟨2, ![1024, 1024]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .bf16⟩
  | .hbm, ⟨4, _⟩ => ⟨S512x1024, .bf16⟩
  | .hbm, ⟨5, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DYnSsmRefIdeal.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .f32⟩
  | .hbm, ⟨4, _⟩ => ⟨S1024x512, .f32⟩
  | .hbm, ⟨5, _⟩ => ⟨S512x1024, .f32⟩
  | .hbm, ⟨6, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwOutSsm.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x512, .bf16⟩
  | .hbm, ⟨4, _⟩ => ⟨S8192x1024, .bf16⟩
  | .hbm, ⟨5, _⟩ => ⟨S512x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwOutSsmRefIdeal.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .f32⟩
  | .hbm, ⟨4, _⟩ => ⟨S1024x512, .f32⟩
  | .hbm, ⟨5, _⟩ => ⟨S512x1024, .f32⟩
  | .hbm, ⟨6, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwU.lean ====
abbrev S8192x1024 : Shape := ⟨2, ![8192, 1024]⟩
abbrev S1024x512 : Shape := ⟨2, ![1024, 512]⟩
abbrev S8192x512 : Shape := ⟨2, ![8192, 512]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x512, .f32⟩
  | .hbm, ⟨3, _⟩ => ⟨S8192x1024, .bf16⟩
  | .hbm, ⟨4, _⟩ => ⟨S8192x512, .bf16⟩
  | .hbm, ⟨5, _⟩ => ⟨S1024x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwURefIdeal.lean ====
abbrev S8192x1024 : Shape := ⟨2, ![8192, 1024]⟩
abbrev S1024x512 : Shape := ⟨2, ![1024, 512]⟩
abbrev S8192x512 : Shape := ⟨2, ![8192, 512]⟩
abbrev S512x1024 : Shape := ⟨2, ![512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x512, .f32⟩
  | .hbm, ⟨3, _⟩ => ⟨S8192x512, .f32⟩
  | .hbm, ⟨4, _⟩ => ⟨S512x1024, .f32⟩
  | .hbm, ⟨5, _⟩ => ⟨S1024x512, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DH0U.lean ====
abbrev S8192x1024 : Shape := ⟨2, ![8192, 1024]⟩
abbrev S1024x512 : Shape := ⟨2, ![1024, 512]⟩
abbrev S8192x512 : Shape := ⟨2, ![8192, 512]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x512, .f32⟩
  | .hbm, ⟨3, _⟩ => ⟨S8192x512, .bf16⟩
  | .hbm, ⟨4, _⟩ => ⟨S1024x512, .bf16⟩
  | .hbm, ⟨5, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DH0URefIdeal.lean ====
abbrev S8192x1024 : Shape := ⟨2, ![8192, 1024]⟩
abbrev S1024x512 : Shape := ⟨2, ![1024, 512]⟩
abbrev S8192x512 : Shape := ⟨2, ![8192, 512]⟩
abbrev S512x1024 : Shape := ⟨2, ![512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x512, .f32⟩
  | .hbm, ⟨3, _⟩ => ⟨S8192x512, .f32⟩
  | .hbm, ⟨4, _⟩ => ⟨S512x1024, .f32⟩
  | .hbm, ⟨5, _⟩ => ⟨S1024x512, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ProjU.lean ====
abbrev S8192x1024 : Shape := ⟨2, ![8192, 1024]⟩
abbrev S1024x512 : Shape := ⟨2, ![1024, 512]⟩
abbrev S8192x512 : Shape := ⟨2, ![8192, 512]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x1024, .bf16⟩
  | .hbm, ⟨3, _⟩ => ⟨S1024x512, .bf16⟩
  | .hbm, ⟨4, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjURefIdeal.lean ====
abbrev S8192x1024 : Shape := ⟨2, ![8192, 1024]⟩
abbrev S1024x512 : Shape := ⟨2, ![1024, 512]⟩
abbrev S8192x512 : Shape := ⟨2, ![8192, 512]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== XaQ.lean ====
abbrev S8192x1024 : Shape := ⟨2, ![8192, 1024]⟩
abbrev S1024x512 : Shape := ⟨2, ![1024, 512]⟩
abbrev S8192x512 : Shape := ⟨2, ![8192, 512]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x1024, .bf16⟩
  | .hbm, ⟨3, _⟩ => ⟨S1024x512, .bf16⟩
  | .hbm, ⟨4, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XaQRefIdeal.lean ====
abbrev S8192x1024 : Shape := ⟨2, ![8192, 1024]⟩
abbrev S1024x512 : Shape := ⟨2, ![1024, 512]⟩
abbrev S8192x512 : Shape := ⟨2, ![8192, 512]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== XaKv.lean ====
abbrev S256x1024 : Shape := ⟨2, ![256, 1024]⟩
abbrev S1024x1024 : Shape := ⟨2, ![1024, 1024]⟩

abbrev nBuf : Space → Nat
  | .hbm => 5
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S256x1024, .bf16⟩
  | .hbm, ⟨3, _⟩ => ⟨S1024x1024, .bf16⟩
  | .hbm, ⟨4, _⟩ => ⟨S256x1024, .f32⟩
  | .local _ .vmem, ⟨0, _⟩ => ⟨S256x1024, .bf16⟩
  | .local _ .vmem, ⟨1, _⟩ => ⟨S1024x1024, .bf16⟩
  | .local _ .vmem, ⟨2, _⟩ => ⟨S256x1024, .f32⟩
  | .local _ .vmem, ⟨3, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== XaKvRefIdeal.lean ====
abbrev S256x1024 : Shape := ⟨2, ![256, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutSsm.lean ====
abbrev S8192x1024 : Shape := ⟨2, ![8192, 1024]⟩
abbrev S8192x512 : Shape := ⟨2, ![8192, 512]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S512x1024, .f32⟩
  | .hbm, ⟨3, _⟩ => ⟨S8192x512, .bf16⟩
  | .hbm, ⟨4, _⟩ => ⟨S512x1024, .bf16⟩
  | .hbm, ⟨5, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutSsmRefIdeal.lean ====
abbrev S8192x1024 : Shape := ⟨2, ![8192, 1024]⟩
abbrev S8192x512 : Shape := ⟨2, ![8192, 512]⟩
abbrev S512x1024 : Shape := ⟨2, ![512, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S512x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== XaO.lean ====
abbrev S8192x1024 : Shape := ⟨2, ![8192, 1024]⟩
abbrev S8192x512 : Shape := ⟨2, ![8192, 512]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S512x1024, .f32⟩
  | .hbm, ⟨3, _⟩ => ⟨S8192x512, .bf16⟩
  | .hbm, ⟨4, _⟩ => ⟨S512x1024, .bf16⟩
  | .hbm, ⟨5, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== XaORefIdeal.lean ====
abbrev S8192x1024 : Shape := ⟨2, ![8192, 1024]⟩
abbrev S8192x512 : Shape := ⟨2, ![8192, 512]⟩
abbrev S512x1024 : Shape := ⟨2, ![512, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S512x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== OutSb.lean ====
abbrev S8192x1024 : Shape := ⟨2, ![8192, 1024]⟩
abbrev S8192x512 : Shape := ⟨2, ![8192, 512]⟩
abbrev S512x1024 : Shape := ⟨2, ![512, 1024]⟩
abbrev S8192x8x64 : Shape := ⟨3, ![8192, 8, 64]⟩
abbrev S_ : Shape := ⟨0, ![]⟩
abbrev S8192x8x128 : Shape := ⟨3, ![8192, 8, 128]⟩
abbrev S8x64x1024 : Shape := ⟨3, ![8, 64, 1024]⟩
abbrev S8x128x1024 : Shape := ⟨3, ![8, 128, 1024]⟩
abbrev S1024x1024 : Shape := ⟨2, ![1024, 1024]⟩

abbrev nBuf : Space → Nat
  | .hbm => 16
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S512x1024, .f32⟩
  | .hbm, ⟨3, _⟩ => ⟨S8192x512, .bf16⟩
  | .hbm, ⟨4, _⟩ => ⟨S8192x8x64, .bf16⟩
  | .hbm, ⟨5, _⟩ => ⟨S_, .i32⟩
  | .hbm, ⟨6, _⟩ => ⟨S_, .bf16⟩
  | .hbm, ⟨7, _⟩ => ⟨S8192x8x128, .bf16⟩
  | .hbm, ⟨8, _⟩ => ⟨S8192x1024, .bf16⟩
  | .hbm, ⟨9, _⟩ => ⟨S512x1024, .bf16⟩
  | .hbm, ⟨10, _⟩ => ⟨S8x64x1024, .bf16⟩
  | .hbm, ⟨11, _⟩ => ⟨S_, .i32⟩
  | .hbm, ⟨12, _⟩ => ⟨S_, .bf16⟩
  | .hbm, ⟨13, _⟩ => ⟨S8x128x1024, .bf16⟩
  | .hbm, ⟨14, _⟩ => ⟨S1024x1024, .bf16⟩
  | .hbm, ⟨15, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutSbRefIdeal.lean ====
abbrev S8192x1024 : Shape := ⟨2, ![8192, 1024]⟩
abbrev S8192x512 : Shape := ⟨2, ![8192, 512]⟩
abbrev S512x1024 : Shape := ⟨2, ![512, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S512x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== DYnSb.lean ====
abbrev S8192x512 : Shape := ⟨2, ![8192, 512]⟩
abbrev S512x1024 : Shape := ⟨2, ![512, 1024]⟩
abbrev S8192x1024 : Shape := ⟨2, ![8192, 1024]⟩
abbrev S8x64x1024 : Shape := ⟨3, ![8, 64, 1024]⟩
abbrev S_ : Shape := ⟨0, ![]⟩
abbrev S8x128x1024 : Shape := ⟨3, ![8, 128, 1024]⟩
abbrev S1024x1024 : Shape := ⟨2, ![1024, 1024]⟩

abbrev nBuf : Space → Nat
  | .hbm => 11
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .bf16⟩
  | .hbm, ⟨4, _⟩ => ⟨S512x1024, .bf16⟩
  | .hbm, ⟨5, _⟩ => ⟨S8x64x1024, .bf16⟩
  | .hbm, ⟨6, _⟩ => ⟨S_, .i32⟩
  | .hbm, ⟨7, _⟩ => ⟨S_, .bf16⟩
  | .hbm, ⟨8, _⟩ => ⟨S8x128x1024, .bf16⟩
  | .hbm, ⟨9, _⟩ => ⟨S1024x1024, .bf16⟩
  | .hbm, ⟨10, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DYnSbRefIdeal.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S8192x8x64 : Shape := ⟨3, ![8192, 8, 64]⟩
abbrev S_ : Shape := ⟨0, ![]⟩
abbrev S8192x8x128 : Shape := ⟨3, ![8192, 8, 128]⟩

abbrev nBuf : Space → Nat
  | .hbm => 12
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .f32⟩
  | .hbm, ⟨4, _⟩ => ⟨S1024x512, .f32⟩
  | .hbm, ⟨5, _⟩ => ⟨S512x1024, .f32⟩
  | .hbm, ⟨6, _⟩ => ⟨S8192x512, .f32⟩
  | .hbm, ⟨7, _⟩ => ⟨S8192x8x64, .f32⟩
  | .hbm, ⟨8, _⟩ => ⟨S_, .i32⟩
  | .hbm, ⟨9, _⟩ => ⟨S_, .f32⟩
  | .hbm, ⟨10, _⟩ => ⟨S8192x8x128, .f32⟩
  | .hbm, ⟨11, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== DwOutSb.lean ====
abbrev S8192x512 : Shape := ⟨2, ![8192, 512]⟩
abbrev S512x1024 : Shape := ⟨2, ![512, 1024]⟩
abbrev S8192x1024 : Shape := ⟨2, ![8192, 1024]⟩
abbrev S8192x8x64 : Shape := ⟨3, ![8192, 8, 64]⟩
abbrev S_ : Shape := ⟨0, ![]⟩
abbrev S8192x8x128 : Shape := ⟨3, ![8192, 8, 128]⟩
abbrev S1024x1024 : Shape := ⟨2, ![1024, 1024]⟩

abbrev nBuf : Space → Nat
  | .hbm => 11
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x512, .bf16⟩
  | .hbm, ⟨4, _⟩ => ⟨S8192x8x64, .bf16⟩
  | .hbm, ⟨5, _⟩ => ⟨S_, .i32⟩
  | .hbm, ⟨6, _⟩ => ⟨S_, .bf16⟩
  | .hbm, ⟨7, _⟩ => ⟨S8192x8x128, .bf16⟩
  | .hbm, ⟨8, _⟩ => ⟨S8192x1024, .bf16⟩
  | .hbm, ⟨9, _⟩ => ⟨S8192x1024, .bf16⟩
  | .hbm, ⟨10, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwOutSbRefIdeal.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S8x64x1024 : Shape := ⟨3, ![8, 64, 1024]⟩
abbrev S_ : Shape := ⟨0, ![]⟩
abbrev S8x128x1024 : Shape := ⟨3, ![8, 128, 1024]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .f32⟩
  | .hbm, ⟨4, _⟩ => ⟨S1024x512, .f32⟩
  | .hbm, ⟨5, _⟩ => ⟨S512x1024, .f32⟩
  | .hbm, ⟨6, _⟩ => ⟨S8192x512, .f32⟩
  | .hbm, ⟨7, _⟩ => ⟨S8x64x1024, .f32⟩
  | .hbm, ⟨8, _⟩ => ⟨S_, .i32⟩
  | .hbm, ⟨9, _⟩ => ⟨S_, .f32⟩
  | .hbm, ⟨10, _⟩ => ⟨S8x128x1024, .f32⟩
  | .hbm, ⟨11, _⟩ => ⟨S1024x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== DwQkv.lean ====
abbrev S8192x1024 : Shape := ⟨2, ![8192, 1024]⟩
abbrev S1024x512 : Shape := ⟨2, ![1024, 512]⟩
abbrev S8192x512 : Shape := ⟨2, ![8192, 512]⟩
abbrev S8192x8x64 : Shape := ⟨3, ![8192, 8, 64]⟩
abbrev S_ : Shape := ⟨0, ![]⟩
abbrev S8192x8x128 : Shape := ⟨3, ![8192, 8, 128]⟩
abbrev S8192x3072 : Shape := ⟨2, ![8192, 3072]⟩
abbrev S1024x3072 : Shape := ⟨2, ![1024, 3072]⟩
abbrev S2048x1024 : Shape := ⟨2, ![2048, 1024]⟩
abbrev S1024x1024 : Shape := ⟨2, ![1024, 1024]⟩

abbrev nBuf : Space → Nat
  | .hbm => 28
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .bf16⟩
  | .hbm, ⟨8, _⟩ => ⟨S8192x8x64, .bf16⟩
  | .hbm, ⟨9, _⟩ => ⟨S_, .i32⟩
  | .hbm, ⟨10, _⟩ => ⟨S_, .bf16⟩
  | .hbm, ⟨11, _⟩ => ⟨S8192x8x128, .bf16⟩
  | .hbm, ⟨12, _⟩ => ⟨S8192x1024, .bf16⟩
  | .hbm, ⟨13, _⟩ => ⟨S8192x512, .bf16⟩
  | .hbm, ⟨14, _⟩ => ⟨S8192x8x64, .bf16⟩
  | .hbm, ⟨15, _⟩ => ⟨S_, .i32⟩
  | .hbm, ⟨16, _⟩ => ⟨S_, .bf16⟩
  | .hbm, ⟨17, _⟩ => ⟨S8192x8x128, .bf16⟩
  | .hbm, ⟨18, _⟩ => ⟨S8192x1024, .bf16⟩
  | .hbm, ⟨19, _⟩ => ⟨S8192x512, .bf16⟩
  | .hbm, ⟨20, _⟩ => ⟨S8192x8x64, .bf16⟩
  | .hbm, ⟨21, _⟩ => ⟨S_, .i32⟩
  | .hbm, ⟨22, _⟩ => ⟨S_, .bf16⟩
  | .hbm, ⟨23, _⟩ => ⟨S8192x8x128, .bf16⟩
  | .hbm, ⟨24, _⟩ => ⟨S8192x1024, .bf16⟩
  | .hbm, ⟨25, _⟩ => ⟨S8192x3072, .bf16⟩
  | .hbm, ⟨26, _⟩ => ⟨S8192x1024, .bf16⟩
  | .hbm, ⟨27, _⟩ => ⟨S1024x3072, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_call1_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_call2_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwQkvRefIdeal.lean ====
abbrev S8192x1024 : Shape := ⟨2, ![8192, 1024]⟩
abbrev S1024x512 : Shape := ⟨2, ![1024, 512]⟩
abbrev S8192x512 : Shape := ⟨2, ![8192, 512]⟩
abbrev S512x1024 : Shape := ⟨2, ![512, 1024]⟩
abbrev S1024x1536 : Shape := ⟨2, ![1024, 1536]⟩
abbrev S1024x24x64 : Shape := ⟨3, ![1024, 24, 64]⟩
abbrev S_ : Shape := ⟨0, ![]⟩
abbrev S1024x24x128 : Shape := ⟨3, ![1024, 24, 128]⟩
abbrev S1024x3072 : Shape := ⟨2, ![1024, 3072]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S512x1024, .f32⟩
  | .hbm, ⟨11, _⟩ => ⟨S1024x512, .f32⟩
  | .hbm, ⟨12, _⟩ => ⟨S8192x1024, .f32⟩
  | .hbm, ⟨13, _⟩ => ⟨S512x1024, .f32⟩
  | .hbm, ⟨14, _⟩ => ⟨S1024x512, .f32⟩
  | .hbm, ⟨15, _⟩ => ⟨S8192x1024, .f32⟩
  | .hbm, ⟨16, _⟩ => ⟨S8192x1024, .f32⟩
  | .hbm, ⟨17, _⟩ => ⟨S512x1024, .f32⟩
  | .hbm, ⟨18, _⟩ => ⟨S1024x512, .f32⟩
  | .hbm, ⟨19, _⟩ => ⟨S8192x1024, .f32⟩
  | .hbm, ⟨20, _⟩ => ⟨S8192x1024, .f32⟩
  | .hbm, ⟨21, _⟩ => ⟨S1024x1536, .f32⟩
  | .hbm, ⟨22, _⟩ => ⟨S1024x24x64, .f32⟩
  | .hbm, ⟨23, _⟩ => ⟨S_, .i32⟩
  | .hbm, ⟨24, _⟩ => ⟨S_, .f32⟩
  | .hbm, ⟨25, _⟩ => ⟨S1024x24x128, .f32⟩
  | .hbm, ⟨26, _⟩ => ⟨S1024x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_call0_v0 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== GluFwd.lean ====
abbrev S8192x512 : Shape := ⟨2, ![8192, 512]⟩
abbrev S1x512 : Shape := ⟨2, ![1, 512]⟩
abbrev S512x512 : Shape := ⟨2, ![512, 512]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x512, .f32⟩
  | .hbm, ⟨3, _⟩ => ⟨S512x512, .f32⟩
  | .hbm, ⟨4, _⟩ => ⟨S1x512, .f32⟩
  | .hbm, ⟨5, _⟩ => ⟨S512x512, .bf16⟩
  | .hbm, ⟨6, _⟩ => ⟨S8192x512, .f32⟩
  | .hbm, ⟨7, _⟩ => ⟨S8192x512, .f32⟩
  | .hbm, ⟨8, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S512x512, .bf16⟩
  | .local _ .vmem, ⟨6, _⟩ => ⟨S1x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .bf16⟩
  | .local _ .vmem, ⟨12, _⟩ => ⟨S512x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GluFwdRefIdeal.lean ====
abbrev S8192x512 : Shape := ⟨2, ![8192, 512]⟩
abbrev S1x512 : Shape := ⟨2, ![1, 512]⟩
abbrev S512x512 : Shape := ⟨2, ![512, 512]⟩
abbrev S_ : Shape := ⟨0, ![]⟩
abbrev S8192 : Shape := ⟨1, ![8192]⟩
abbrev S8192x1 : Shape := ⟨2, ![8192, 1]⟩

abbrev nBuf : Space → Nat
  | .hbm => 54
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x512, .f32⟩
  | .hbm, ⟨3, _⟩ => ⟨S512x512, .f32⟩
  | .hbm, ⟨4, _⟩ => ⟨S1x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S_, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S_, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S_, .f32⟩
  | .hbm, ⟨19, _⟩ => ⟨S8192x512, .f32⟩
  | .hbm, ⟨20, _⟩ => ⟨S8192x512, .f32⟩
  | .hbm, ⟨21, _⟩ => ⟨S_, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S_, .f32⟩
  | .hbm, ⟨29, _⟩ => ⟨S8192x512, .f32⟩
  | .hbm, ⟨30, _⟩ => ⟨S8192x512, .f32⟩
  | .hbm, ⟨31, _⟩ => ⟨S_, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x1, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== XaFwd.lean ====
abbrev S8192x512 : Shape := ⟨2, ![8192, 512]⟩
abbrev S256x1024 : Shape := ⟨2, ![256, 1024]⟩
abbrev S1x128 : Shape := ⟨2, ![1, 128]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S256x128 : Shape := ⟨2, ![256, 128]⟩
abbrev S256 : Shape := ⟨1, ![256]⟩
abbrev S256x1 : Shape := ⟨2, ![256, 1]⟩
abbrev S512x256 : Shape := ⟨2, ![512, 256]⟩

abbrev nBuf : Space → Nat
  | .hbm => 5
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S256x1024, .f32⟩
  | .hbm, ⟨2, _⟩ => ⟨S1x128, .f32⟩
  | .hbm, ⟨3, _⟩ => ⟨S1x128, .f32⟩
  | .hbm, ⟨4, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S256x1024, .f32⟩
  | .local _ .vmem, ⟨3, _⟩ => ⟨S1x128, .f32⟩
  | .local _ .vmem, ⟨4, _⟩ => ⟨S1x128, .f32⟩
  | .local _ .vmem, ⟨5, _⟩ => ⟨S512x512, .bf16⟩
  | .local _ .vmem, ⟨6, _⟩ => ⟨S512x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== XaFwdRefIdeal.lean ====
abbrev S8192x512 : Shape := ⟨2, ![8192, 512]⟩
abbrev S256x1024 : Shape := ⟨2, ![256, 1024]⟩
abbrev S1x128 : Shape := ⟨2, ![1, 128]⟩
abbrev S8192x4x128 : Shape := ⟨3, ![8192, 4, 128]⟩
abbrev S_ : Shape := ⟨0, ![]⟩
abbrev S8192x4 : Shape := ⟨2, ![8192, 4]⟩
abbrev S8192x4x1 : Shape := ⟨3, ![8192, 4, 1]⟩
abbrev S1x1x128 : Shape := ⟨3, ![1, 1, 128]⟩
abbrev S256x512 : Shape := ⟨2, ![256, 512]⟩
abbrev S256x4x128 : Shape := ⟨3, ![256, 4, 128]⟩
abbrev S256x4 : Shape := ⟨2, ![256, 4]⟩
abbrev S256x4x1 : Shape := ⟨3, ![256, 4, 1]⟩
abbrev S4x8192x256 : Shape := ⟨3, ![4, 8192, 256]⟩
abbrev S4x8192 : Shape := ⟨2, ![4, 8192]⟩
abbrev S4x8192x1 : Shape := ⟨3, ![4, 8192, 1]⟩
abbrev S4x128x8192 : Shape := ⟨3, ![4, 128, 8192]⟩

abbrev nBuf : Space → Nat
  | .hbm => 60
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S256x1024, .f32⟩
  | .hbm, ⟨2, _⟩ => ⟨S1x128, .f32⟩
  | .hbm, ⟨3, _⟩ => ⟨S1x128, .f32⟩
  | .hbm, ⟨4, _⟩ => ⟨S8192x4x128, .f32⟩
  | .hbm, ⟨5, _⟩ => ⟨S8192x4x128, .f32⟩
  | .hbm, ⟨6, _⟩ => ⟨S_, .f32⟩
  | .hbm, ⟨7, _⟩ => ⟨S8192x4, .f32⟩
  | .hbm, ⟨8, _⟩ => ⟨S8192x4x1, .f32⟩
  | .hbm, ⟨9, _⟩ => ⟨S_, .f32⟩
  | .hbm, ⟨10, _⟩ => ⟨S8192x4x1, .f32⟩
  | .hbm, ⟨11, _⟩ => ⟨S8192x4x1, .f32⟩
  | .hbm, ⟨12, _⟩ => ⟨S_, .f32⟩
  | .hbm, ⟨13, _⟩ => ⟨S8192x4x1, .f32⟩
  | .hbm, ⟨14, _⟩ => ⟨S8192x4x1, .f32⟩
  | .hbm, ⟨15, _⟩ => ⟨S8192x4x1, .f32⟩
  | .hbm, ⟨16, _⟩ => ⟨S8192x4x128, .f32⟩
  | .hbm, ⟨17, _⟩ => ⟨S8192x4x128, .f32⟩
  | .hbm, ⟨18, _⟩ => ⟨S1x1x128, .f32⟩
  | .hbm, ⟨19, _⟩ => ⟨S8192x4x128, .f32⟩
  | .hbm, ⟨20, _⟩ => ⟨S8192x4x128, .f32⟩
  | .hbm, ⟨21, _⟩ => ⟨S256x512, .f32⟩
  | .hbm, ⟨22, _⟩ => ⟨S256x4x128, .f32⟩
  | .hbm, ⟨23, _⟩ => ⟨S256x4x128, .f32⟩
  | .hbm, ⟨24, _⟩ => ⟨S_, .f32⟩
  | .hbm, ⟨25, _⟩ => ⟨S256x4, .f32⟩
  | .hbm, ⟨26, _⟩ => ⟨S256x4x1, .f32⟩
  | .hbm, ⟨27, _⟩ => ⟨S_, .f32⟩
  | .hbm, ⟨28, _⟩ => ⟨S256x4x1, .f32⟩
  | .hbm, ⟨29, _⟩ => ⟨S256x4x1, .f32⟩
  | .hbm, ⟨30, _⟩ => ⟨S_, .f32⟩
  | .hbm, ⟨31, _⟩ => ⟨S256x4x1, .f32⟩
  | .hbm, ⟨32, _⟩ => ⟨S256x4x1, .f32⟩
  | .hbm, ⟨33, _⟩ => ⟨S256x4x1, .f32⟩
  | .hbm, ⟨34, _⟩ => ⟨S256x4x128, .f32⟩
  | .hbm, ⟨35, _⟩ => ⟨S256x4x128, .f32⟩
  | .hbm, ⟨36, _⟩ => ⟨S1x1x128, .f32⟩
  | .hbm, ⟨37, _⟩ => ⟨S256x4x128, .f32⟩
  | .hbm, ⟨38, _⟩ => ⟨S256x4x128, .f32⟩
  | .hbm, ⟨39, _⟩ => ⟨S256x512, .f32⟩
  | .hbm, ⟨40, _⟩ => ⟨S256x4x128, .f32⟩
  | .hbm, ⟨41, _⟩ => ⟨S4x8192x256, .f32⟩
  | .hbm, ⟨42, _⟩ => ⟨S_, .f32⟩
  | .hbm, ⟨43, _⟩ => ⟨S4x8192x256, .f32⟩
  | .hbm, ⟨44, _⟩ => ⟨S4x8192x256, .f32⟩
  | .hbm, ⟨45, _⟩ => ⟨S_, .f32⟩
  | .hbm, ⟨46, _⟩ => ⟨S4x8192, .f32⟩
  | .hbm, ⟨47, _⟩ => ⟨S4x8192x1, .f32⟩
  | .hbm, ⟨48, _⟩ => ⟨S4x8192x256, .f32⟩
  | .hbm, ⟨49, _⟩ => ⟨S4x8192x256, .f32⟩
  | .hbm, ⟨50, _⟩ => ⟨S4x8192x256, .f32⟩
  | .hbm, ⟨51, _⟩ => ⟨S_, .f32⟩
  | .hbm, ⟨52, _⟩ => ⟨S4x8192, .f32⟩
  | .hbm, ⟨53, _⟩ => ⟨S4x8192x1, .f32⟩
  | .hbm, ⟨54, _⟩ => ⟨S4x8192x256, .f32⟩
  | .hbm, ⟨55, _⟩ => ⟨S4x8192x256, .f32⟩
  | .hbm, ⟨56, _⟩ => ⟨S4x128x8192, .f32⟩
  | .hbm, ⟨57, _⟩ => ⟨S8192x4x128, .f32⟩
  | .hbm, ⟨58, _⟩ => ⟨S8192x512, .f32⟩
  | .hbm, ⟨59, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩

abbrev nD : Nat := 1
abbrev τ : Topo := Topo.v7x

variable {F : FTy → Type} [FloatOps F]
-- ==== XaBwd.lean ====
abbrev S8192x512 : Shape := ⟨2, ![8192, 512]⟩
abbrev S256x1024 : Shape := ⟨2, ![256, 1024]⟩
abbrev S1x128 : Shape := ⟨2, ![1, 128]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S256x128 : Shape := ⟨2, ![256, 128]⟩
abbrev S256 : Shape := ⟨1, ![256]⟩
abbrev S256x1 : Shape := ⟨2, ![256, 1]⟩
abbrev S512x256 : Shape := ⟨2, ![512, 256]⟩
abbrev S256x896 : Shape := ⟨2, ![256, 896]⟩
abbrev S128 : Shape := ⟨1, ![128]⟩
abbrev S256x384 : Shape := ⟨2, ![256, 384]⟩
abbrev S256x512 : Shape := ⟨2, ![256, 512]⟩
abbrev S512x384 : Shape := ⟨2, ![512, 384]⟩
abbrev S256x768 : Shape := ⟨2, ![256, 768]⟩
abbrev S256x256 : Shape := ⟨2, ![256, 256]⟩
abbrev S256x640 : Shape := ⟨2, ![256, 640]⟩

abbrev nBuf : Space → Nat
  | .hbm => 10
  | .vmem => 12
  | .smem => 0
  | _ => 0

abbrev bufTy : (tb : Table) → Fin (tcTables nBuf tb) → BufTy
  | .hbm, ⟨0, _⟩ => ⟨S8192x512, .f32⟩
  | .hbm, ⟨1, _⟩ => ⟨S256x1024, .f32⟩
  | .hbm, ⟨2, _⟩ => ⟨S1x128, .f32⟩
  | .hbm, ⟨3, _⟩ => ⟨S1x128, .f32⟩
  | .hbm, ⟨4, _⟩ => ⟨S8192x512, .f32⟩
  | .hbm, ⟨5, _⟩ => ⟨S8192x512, .bf16⟩
  | .hbm, ⟨6, _⟩ => ⟨S8192x512, .bf16⟩
  | .hbm, ⟨7, _⟩ => ⟨S256x1024, .f32⟩
  | .hbm, ⟨8, _⟩ => ⟨S1x128, .f32⟩
  | .hbm, ⟨9, _⟩ => ⟨S1x128, .f32⟩
  | .local _ .vmem, ⟨0, _⟩ => ⟨S512x512, .f32⟩
  | .local _ .vmem, ⟨1, _⟩ => ⟨S512x512, .f32⟩
  | .local _ .vmem, ⟨2, _⟩ => ⟨S256x1024, .f32⟩
  | .local _ .vmem, ⟨3, _⟩ => ⟨S1x128, .f32⟩
  | .local _ .vmem, ⟨4, _⟩ => ⟨S1x128, .f32⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S256x1024, .f32⟩
  | .local _ .vmem, ⟨10, _⟩ => ⟨S1x128, .f32⟩
  | .local _ .vmem, ⟨11, _⟩ => ⟨S1x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== XaBwdRefIdeal.lean ====
abbrev S8192x512 : Shape := ⟨2, ![8192, 512]⟩
abbrev S256x1024 : Shape := ⟨2, ![256, 1024]⟩
abbrev S1x128 : Shape := ⟨2, ![1, 128]⟩
abbrev S8192x4x128 : Shape := ⟨3, ![8192, 4, 128]⟩
abbrev S_ : Shape := ⟨0, ![]⟩
abbrev S8192x4 : Shape := ⟨2, ![8192, 4]⟩
abbrev S8192x4x1 : Shape := ⟨3, ![8192, 4, 1]⟩
abbrev S1x1x128 : Shape := ⟨3, ![1, 1, 128]⟩
abbrev S256x512 : Shape := ⟨2, ![256, 512]⟩
abbrev S256x4x128 : Shape := ⟨3, ![256, 4, 128]⟩
abbrev S256x4 : Shape := ⟨2, ![256, 4]⟩
abbrev S256x4x1 : Shape := ⟨3, ![256, 4, 1]⟩
abbrev S4x8192x256 : Shape := ⟨3, ![4, 8192, 256]⟩
abbrev S4x8192 : Shape := ⟨2, ![4, 8192]⟩
abbrev S4x8192x1 : Shape := ⟨3, ![4, 8192, 1]⟩
abbrev S4x128x8192 : Shape := ⟨3, ![4, 128, 8192]⟩
abbrev S4x128x256 : Shape := ⟨3, ![4, 128, 256]⟩
abbrev S4x256x128 : Shape := ⟨3, ![4, 256, 128]⟩
abbrev S4x8192x128 : Shape := ⟨3, ![4, 8192, 128]⟩
abbrev S128 : Shape := ⟨1, ![128]⟩

abbrev nBuf : Space → Nat
  | .hbm => 165
  | .vmem => 0
  | .smem => 0
  | _ => 0

abbrev hbmTy0_0 (i : Nat) : BufTy := match i % 128 with
  | 0 => ⟨S8192x512, .f32⟩
  | 1 => ⟨S256x1024, .f32⟩
  | 2 => ⟨S1x128, .f32⟩
  | 3 => ⟨S1x128, .f32⟩
  | 4 => ⟨S8192x512, .f32⟩
  | 5 => ⟨S8192x4x128, .f32⟩
  | 6 => ⟨S8192x4x128, .f32⟩
  | 7 => ⟨S_, .f32⟩
  | 8 => ⟨S8192x4, .f32⟩
  | 9 => ⟨S8192x4x1, .f32⟩
  | 10 => ⟨S_, .f32⟩
  | 11 => ⟨S8192x4x1, .f32⟩
  | 12 => ⟨S8192x4x1, .f32⟩
  | 13 => ⟨S_, .f32⟩
  | 14 => ⟨S8192x4x1, .f32⟩
  | 15 => ⟨S8192x4x1, .f32⟩
  | 16 => ⟨S8192x4x1, .f32⟩
  | 17 => ⟨S8192x4x1, .f32⟩
  | 18 => ⟨S_, .f32⟩
  | 19 => ⟨S8192x4x1, .f32⟩
  | 20 => ⟨S8192x4x1, .f32⟩
  | 21 => ⟨S8192x4x128, .f32⟩
  | 22 => ⟨S8192x4x128, .f32⟩
  | 23 => ⟨S1x1x128, .f32⟩
  | 24 => ⟨S8192x4x128, .f32⟩
  | 25 => ⟨S8192x4x128, .f32⟩
  | 26 => ⟨S256x512, .f32⟩
  | 27 => ⟨S256x4x128, .f32⟩
  | 28 => ⟨S256x4x128, .f32⟩
  | 29 => ⟨S_, .f32⟩
  | 30 => ⟨S256x4, .f32⟩
  | 31 => ⟨S256x4x1, .f32⟩
  | 32 => ⟨S_, .f32⟩
  | 33 => ⟨S256x4x1, .f32⟩
  | 34 => ⟨S256x4x1, .f32⟩
  | 35 => ⟨S_, .f32⟩
  | 36 => ⟨S256x4x1, .f32⟩
  | 37 => ⟨S256x4x1, .f32⟩
  | 38 => ⟨S256x4x1, .f32⟩
  | 39 => ⟨S256x4x1, .f32⟩
  | 40 => ⟨S_, .f32⟩
  | 41 => ⟨S256x4x1, .f32⟩
  | 42 => ⟨S256x4x1, .f32⟩
  | 43 => ⟨S256x4x128, .f32⟩
  | 44 => ⟨S256x4x128, .f32⟩
  | 45 => ⟨S1x1x128, .f32⟩
  | 46 => ⟨S256x4x128, .f32⟩
  | 47 => ⟨S256x4x128, .f32⟩
  | 48 => ⟨S256x512, .f32⟩
  | 49 => ⟨S256x4x128, .f32⟩
  | 50 => ⟨S4x8192x256, .f32⟩
  | 51 => ⟨S_, .f32⟩
  | 52 => ⟨S4x8192x256, .f32⟩
  | 53 => ⟨S4x8192x256, .f32⟩
  | 54 => ⟨S_, .f32⟩
  | 55 => ⟨S4x8192, .f32⟩
  | 56 => ⟨S4x8192x1, .f32⟩
  | 57 => ⟨S4x8192x256, .f32⟩
  | 58 => ⟨S4x8192x256, .i1⟩
  | 59 => ⟨S4x8192x256, .f32⟩
  | 60 => ⟨S_, .f32⟩
  | 61 => ⟨S4x8192, .f32⟩
  | 62 => ⟨S4x8192x1, .f32⟩
  | 63 => ⟨S4x8192x256, .f32⟩
  | 64 => ⟨S4x8192x256, .f32⟩
  | 65 => ⟨S4x8192x256, .f32⟩
  | 66 => ⟨S_, .f32⟩
  | 67 => ⟨S4x8192, .f32⟩
  | 68 => ⟨S4x8192x1, .f32⟩
  | 69 => ⟨S4x8192x256, .f32⟩
  | 70 => ⟨S4x8192x256, .f32⟩
  | 71 => ⟨S4x8192x1, .f32⟩
  | 72 => ⟨S_, .f32⟩
  | 73 => ⟨S4x8192x1, .f32⟩
  | 74 => ⟨S4x8192x1, .f32⟩
  | 75 => ⟨S4x128x8192, .f32⟩
  | 76 => ⟨S8192x4x128, .f32⟩
  | 77 => ⟨S8192x512, .f32⟩
  | 78 => ⟨S8192x4x128, .f32⟩
  | 79 => ⟨S4x128x8192, .f32⟩
  | 80 => ⟨S4x8192x256, .f32⟩
  | 81 => ⟨S4x128x256, .f32⟩
  | 82 => ⟨S256x4x128, .f32⟩
  | 83 => ⟨S4x8192x256, .f32⟩
  | 84 => ⟨S4x8192x256, .f32⟩
  | 85 => ⟨S4x8192x256, .f32⟩
  | 86 => ⟨S_, .f32⟩
  | 87 => ⟨S4x8192, .f32⟩
  | 88 => ⟨S4x8192x1, .f32⟩
  | 89 => ⟨S4x8192x1, .f32⟩
  | 90 => ⟨S4x8192x256, .f32⟩
  | 91 => ⟨S4x8192x256, .f32⟩
  | 92 => ⟨S_, .f32⟩
  | 93 => ⟨S4x8192, .f32⟩
  | 94 => ⟨S4x8192x256, .f32⟩
  | 95 => ⟨S4x8192x256, .f32⟩
  | 96 => ⟨S4x8192x256, .f32⟩
  | 97 => ⟨S_, .f32⟩
  | 98 => ⟨S4x8192x256, .f32⟩
  | 99 => ⟨S4x8192x256, .f32⟩
  | 100 => ⟨S4x256x128, .f32⟩
  | 101 => ⟨S256x4x128, .f32⟩
  | 102 => ⟨S4x8192x128, .f32⟩
  | 103 => ⟨S8192x4x128, .f32⟩
  | 104 => ⟨S256x512, .f32⟩
  | 105 => ⟨S_, .f32⟩
  | 106 => ⟨S256x1024, .f32⟩
  | 107 => ⟨S256x4x128, .f32⟩
  | 108 => ⟨S_, .f32⟩
  | 109 => ⟨S128, .f32⟩
  | 110 => ⟨S1x1x128, .f32⟩
  | 111 => ⟨S256x4x128, .f32⟩
  | 112 => ⟨S256x4x128, .f32⟩
  | 113 => ⟨S_, .f32⟩
  | 114 => ⟨S128, .f32⟩
  | 115 => ⟨S1x128, .f32⟩
  | 116 => ⟨S256x4x128, .f32⟩
  | 117 => ⟨S_, .f32⟩
  | 118 => ⟨S256x4, .f32⟩
  | 119 => ⟨S256x4x1, .f32⟩
  | 120 => ⟨S256x4x128, .f32⟩
  | 121 => ⟨S256x4x128, .f32⟩
  | 122 => ⟨S256x4x1, .f32⟩
  | 123 => ⟨S_, .f32⟩
  | 124 => ⟨S256x4x1, .f32⟩
  | 125 => ⟨S256x4x1, .f32⟩
  | 126 => ⟨S_, .f32⟩
  | 127 => ⟨S256x4, .f32⟩
  | _ => ⟨S8192x512, .f32⟩

abbrev hbmTy0_1 (i : Nat) : BufTy := match i % 128 with
  | 0 => ⟨S256x4x128, .f32⟩
  | 1 => ⟨S256x4x128, .f32⟩
  | 2 => ⟨S256x4x128, .f32⟩
  | 3 => ⟨S256x4x128, .f32⟩
  | 4 => ⟨S256x4x128, .f32⟩
  | 5 => ⟨S256x512, .f32⟩
  | 6 => ⟨S_, .f32⟩
  | 7 => ⟨S256x1024, .f32⟩
  | 8 => ⟨S256x1024, .f32⟩
  | 9 => ⟨S8192x4x128, .f32⟩
  | 10 => ⟨S_, .f32⟩
  | 11 => ⟨S128, .f32⟩
  | 12 => ⟨S1x1x128, .f32⟩
  | 13 => ⟨S8192x4x128, .f32⟩
  | 14 => ⟨S8192x4x128, .f32⟩
  | 15 => ⟨S_, .f32⟩
  | 16 => ⟨S128, .f32⟩
  | 17 => ⟨S1x128, .f32⟩
  | 18 => ⟨S8192x4x128, .f32⟩
  | 19 => ⟨S_, .f32⟩
  | 20 => ⟨S8192x4, .f32⟩
  | 21 => ⟨S8192x4x1, .f32⟩
  | 22 => ⟨S8192x4x128, .f32⟩
  | 23 => ⟨S8192x4x128, .f32⟩
  | 24 => ⟨S8192x4x1, .f32⟩
  | 25 => ⟨S_, .f32⟩
  | 26 => ⟨S8192x4x1, .f32⟩
  | 27 => ⟨S8192x4x1, .f32⟩
  | 28 => ⟨S_, .f32⟩
  | 29 => ⟨S8192x4, .f32⟩
  | 30 => ⟨S8192x4x128, .f32⟩
  | 31 => ⟨S8192x4x128, .f32⟩
  | 32 => ⟨S8192x4x128, .f32⟩
  | 33 => ⟨S8192x4x128, .f32⟩
  | 34 => ⟨S8192x4x128, .f32⟩
  | 35 => ⟨S8192x512, .f32⟩
  | 36 => ⟨S8192x512, .bf16⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_9 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_10 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_11 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_12 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_13 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_14 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_cst_15 : Ref sig .tc := ⟨.hbm, 105, rfl⟩
abbrev main_v84 : Ref sig .tc := ⟨.hbm, 106, rfl⟩
abbrev main_v85 : Ref sig .tc := ⟨.hbm, 107, rfl⟩
abbrev main_cst_16 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_cst_17 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_cst_18 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_cst_19 : Ref sig .tc := ⟨.hbm, 123, rfl⟩
abbrev main_v98 : Ref sig .tc := ⟨.hbm, 124, rfl⟩
abbrev main_v99 : Ref sig .tc := ⟨.hbm, 125, rfl⟩
abbrev main_cst_20 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_cst_21 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_cst_22 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_cst_23 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_cst_24 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_cst_25 : Ref sig .tc := ⟨.hbm, 153, rfl⟩
abbrev main_v122 : Ref sig .tc := ⟨.hbm, 154, rfl⟩
abbrev main_v123 : Ref sig .tc := ⟨.hbm, 155, rfl⟩
abbrev main_cst_26 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩

abbrev nD : Nat := 1
abbrev τ : Topo := Topo.v7x

variable {F : FTy → Type} [FloatOps F]
-- ==== RmsSsm.lean ====
abbrev S8192x512 : Shape := ⟨2, ![8192, 512]⟩
abbrev S1x512 : Shape := ⟨2, ![1, 512]⟩
abbrev S512x512 : Shape := ⟨2, ![512, 512]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S1x512, .f32⟩
  | .hbm, ⟨2, _⟩ => ⟨S8192x512, .f32⟩
  | .hbm, ⟨3, _⟩ => ⟨S8192x512, .f32⟩
  | .hbm, ⟨4, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RmsSsmRefIdeal.lean ====
abbrev S8192x512 : Shape := ⟨2, ![8192, 512]⟩
abbrev S1x512 : Shape := ⟨2, ![1, 512]⟩
abbrev S_ : Shape := ⟨0, ![]⟩
abbrev S8192 : Shape := ⟨1, ![8192]⟩
abbrev S8192x1 : Shape := ⟨2, ![8192, 1]⟩
abbrev S512 : Shape := ⟨1, ![512]⟩

abbrev nBuf : Space → Nat
  | .hbm => 45
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S1x512, .f32⟩
  | .hbm, ⟨2, _⟩ => ⟨S8192x512, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S_, .f32⟩
  | .hbm, ⟨24, _⟩ => ⟨S512, .f32⟩
  | .hbm, ⟨25, _⟩ => ⟨S1x512, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S8192x512, .f32⟩
  | .hbm, ⟨33, _⟩ => ⟨S8192x512, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== RmsMem.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 5
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RmsMemRefIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 45
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256, .f32⟩
  | .hbm, ⟨31, _⟩ => ⟨S256x1, .f32⟩
  | .hbm, ⟨32, _⟩ => ⟨S256x1024, .f32⟩
  | .hbm, ⟨33, _⟩ => ⟨S256x1024, .f32⟩
  | .hbm, ⟨34, _⟩ => ⟨S256x1, .f32⟩
  | .hbm, ⟨35, _⟩ => ⟨S_, .f32⟩
  | .hbm, ⟨36, _⟩ => ⟨S256x1, .f32⟩
  | .hbm, ⟨37, _⟩ => ⟨S256x1, .f32⟩
  | .hbm, ⟨38, _⟩ => ⟨S_, .f32⟩
  | .hbm, ⟨39, _⟩ => ⟨S256, .f32⟩
  | .hbm, ⟨40, _⟩ => ⟨S256x1024, .f32⟩
  | .hbm, ⟨41, _⟩ => ⟨S256x1024, .f32⟩
  | .hbm, ⟨42, _⟩ => ⟨S256x1024, .f32⟩
  | .hbm, ⟨43, _⟩ => ⟨S256x1024, .f32⟩
  | .hbm, ⟨44, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== S5Prep.lean ====
abbrev S1x2048 : Shape := ⟨2, ![1, 2048]⟩
abbrev S1x32 : Shape := ⟨2, ![1, 32]⟩
abbrev S16x2048 : Shape := ⟨2, ![16, 2048]⟩
abbrev S2x512x2048 : Shape := ⟨3, ![2, 512, 2048]⟩
abbrev S32x2048 : Shape := ⟨2, ![32, 2048]⟩
abbrev S512x2048 : Shape := ⟨2, ![512, 2048]⟩
abbrev S1x512x2048 : Shape := ⟨3, ![1, 512, 2048]⟩
abbrev S32x16x2048 : Shape := ⟨3, ![32, 16, 2048]⟩
abbrev S1x16x2048 : Shape := ⟨3, ![1, 16, 2048]⟩
abbrev S2048 : Shape := ⟨1, ![2048]⟩

abbrev nBuf : Space → Nat
  | .hbm => 18
  | .vmem => 18
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x32, .f32⟩
  | .hbm, ⟨3, _⟩ => ⟨S16x2048, .f32⟩
  | .hbm, ⟨4, _⟩ => ⟨S16x2048, .f32⟩
  | .hbm, ⟨5, _⟩ => ⟨S16x2048, .f32⟩
  | .hbm, ⟨6, _⟩ => ⟨S16x2048, .f32⟩
  | .hbm, ⟨7, _⟩ => ⟨S1x2048, .f32⟩
  | .hbm, ⟨8, _⟩ => ⟨S1x2048, .f32⟩
  | .hbm, ⟨9, _⟩ => ⟨S2x512x2048, .f32⟩
  | .hbm, ⟨10, _⟩ => ⟨S2x512x2048, .f32⟩
  | .hbm, ⟨11, _⟩ => ⟨S1x2048, .f32⟩
  | .hbm, ⟨12, _⟩ => ⟨S1x2048, .f32⟩
  | .hbm, ⟨13, _⟩ => ⟨S1x32, .f32⟩
  | .hbm, ⟨14, _⟩ => ⟨S16x2048, .f32⟩
  | .hbm, ⟨15, _⟩ => ⟨S16x2048, .f32⟩
  | .hbm, ⟨16, _⟩ => ⟨S16x2048, .f32⟩
  | .hbm, ⟨17, _⟩ => ⟨S16x2048, .f32⟩
  | .local _ .vmem, ⟨0, _⟩ => ⟨S1x2048, .f32⟩
  | .local _ .vmem, ⟨1, _⟩ => ⟨S1x2048, .f32⟩
  | .local _ .vmem, ⟨2, _⟩ => ⟨S1x32, .f32⟩
  | .local _ .vmem, ⟨3, _⟩ => ⟨S16x2048, .f32⟩
  | .local _ .vmem, ⟨4, _⟩ => ⟨S16x2048, .f32⟩
  | .local _ .vmem, ⟨5, _⟩ => ⟨S16x2048, .f32⟩
  | .local _ .vmem, ⟨6, _⟩ => ⟨S16x2048, .f32⟩
  | .local _ .vmem, ⟨7, _⟩ => ⟨S1x2048, .f32⟩
  | .local _ .vmem, ⟨8, _⟩ => ⟨S1x2048, .f32⟩
  | .local _ .vmem, ⟨9, _⟩ => ⟨S2x512x2048, .f32⟩
  | .local _ .vmem, ⟨10, _⟩ => ⟨S2x512x2048, .f32⟩
  | .local _ .vmem, ⟨11, _⟩ => ⟨S1x2048, .f32⟩
  | .local _ .vmem, ⟨12, _⟩ => ⟨S1x2048, .f32⟩
  | .local _ .vmem, ⟨13, _⟩ => ⟨S1x32, .f32⟩
  | .local _ .vmem, ⟨14, _⟩ => ⟨S16x2048, .f32⟩
  | .local _ .vmem, ⟨15, _⟩ => ⟨S16x2048, .f32⟩
  | .local _ .vmem, ⟨16, _⟩ => ⟨S16x2048, .f32⟩
  | .local _ .vmem, ⟨17, _⟩ => ⟨S16x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev main_v0_6 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := .none

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x512x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x512x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S16x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S16x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S16x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S16x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== S5PrepRefIdeal.lean ====
abbrev S1x2048 : Shape := ⟨2, ![1, 2048]⟩
abbrev S1x32 : Shape := ⟨2, ![1, 32]⟩
abbrev S16x2048 : Shape := ⟨2, ![16, 2048]⟩
abbrev S2x512x2048 : Shape := ⟨3, ![2, 512, 2048]⟩
abbrev S32x1 : Shape := ⟨2, ![32, 1]⟩
abbrev S32x64 : Shape := ⟨2, ![32, 64]⟩
abbrev S_ : Shape := ⟨0, ![]⟩
abbrev S32x32 : Shape := ⟨2, ![32, 32]⟩
abbrev S32x32x1 : Shape := ⟨3, ![32, 32, 1]⟩
abbrev S32x32x64 : Shape := ⟨3, ![32, 32, 64]⟩
abbrev S32x1x2048 : Shape := ⟨3, ![32, 1, 2048]⟩
abbrev S1x16x2048 : Shape := ⟨3, ![1, 16, 2048]⟩
abbrev S32x16x2048 : Shape := ⟨3, ![32, 16, 2048]⟩
abbrev S512x2048 : Shape := ⟨2, ![512, 2048]⟩
abbrev S1x512x2048 : Shape := ⟨3, ![1, 512, 2048]⟩
abbrev S2048 : Shape := ⟨1, ![2048]⟩
abbrev S32 : Shape := ⟨1, ![32]⟩

abbrev nBuf : Space → Nat
  | .hbm => 241
  | .vmem => 0
  | .smem => 0
  | _ => 0

abbrev hbmTy0_0 (i : Nat) : BufTy := match i % 128 with
  | 0 => ⟨S1x2048, .f32⟩
  | 1 => ⟨S1x2048, .f32⟩
  | 2 => ⟨S1x32, .f32⟩
  | 3 => ⟨S16x2048, .f32⟩
  | 4 => ⟨S16x2048, .f32⟩
  | 5 => ⟨S16x2048, .f32⟩
  | 6 => ⟨S16x2048, .f32⟩
  | 7 => ⟨S1x2048, .f32⟩
  | 8 => ⟨S1x2048, .f32⟩
  | 9 => ⟨S2x512x2048, .f32⟩
  | 10 => ⟨S2x512x2048, .f32⟩
  | 11 => ⟨S1x32, .f32⟩
  | 12 => ⟨S32x1, .f32⟩
  | 13 => ⟨S32x64, .f32⟩
  | 14 => ⟨S1x2048, .f32⟩
  | 15 => ⟨S1x2048, .f32⟩
  | 16 => ⟨S1x2048, .f32⟩
  | 17 => ⟨S1x2048, .f32⟩
  | 18 => ⟨S1x2048, .f32⟩
  | 19 => ⟨S1x2048, .f32⟩
  | 20 => ⟨S1x2048, .f32⟩
  | 21 => ⟨S1x2048, .f32⟩
  | 22 => ⟨S1x2048, .f32⟩
  | 23 => ⟨S1x2048, .f32⟩
  | 24 => ⟨S_, .f32⟩
  | 25 => ⟨S1x2048, .f32⟩
  | 26 => ⟨S1x2048, .f32⟩
  | 27 => ⟨S1x2048, .f32⟩
  | 28 => ⟨S1x2048, .f32⟩
  | 29 => ⟨S1x2048, .f32⟩
  | 30 => ⟨S1x2048, .f32⟩
  | 31 => ⟨S1x2048, .f32⟩
  | 32 => ⟨S1x2048, .f32⟩
  | 33 => ⟨S1x2048, .f32⟩
  | 34 => ⟨S1x2048, .f32⟩
  | 35 => ⟨S_, .f32⟩
  | 36 => ⟨S1x2048, .f32⟩
  | 37 => ⟨S1x2048, .f32⟩
  | 38 => ⟨S1x2048, .f32⟩
  | 39 => ⟨S1x2048, .f32⟩
  | 40 => ⟨S1x2048, .f32⟩
  | 41 => ⟨S1x2048, .f32⟩
  | 42 => ⟨S1x2048, .f32⟩
  | 43 => ⟨S_, .f32⟩
  | 44 => ⟨S1x2048, .f32⟩
  | 45 => ⟨S1x2048, .f32⟩
  | 46 => ⟨S16x2048, .f32⟩
  | 47 => ⟨S16x2048, .f32⟩
  | 48 => ⟨S16x2048, .f32⟩
  | 49 => ⟨S16x2048, .f32⟩
  | 50 => ⟨S16x2048, .f32⟩
  | 51 => ⟨S16x2048, .f32⟩
  | 52 => ⟨S16x2048, .f32⟩
  | 53 => ⟨S16x2048, .f32⟩
  | 54 => ⟨S16x2048, .f32⟩
  | 55 => ⟨S16x2048, .f32⟩
  | 56 => ⟨S32x32, .i32⟩
  | 57 => ⟨S32x32, .i32⟩
  | 58 => ⟨S_, .i32⟩
  | 59 => ⟨S32x32, .i32⟩
  | 60 => ⟨S32x32, .i32⟩
  | 61 => ⟨S32x32, .i1⟩
  | 62 => ⟨S32x32x1, .i1⟩
  | 63 => ⟨S32x32x64, .i1⟩
  | 64 => ⟨S32x1x2048, .i1⟩
  | 65 => ⟨S16x2048, .f32⟩
  | 66 => ⟨S1x16x2048, .f32⟩
  | 67 => ⟨S_, .f32⟩
  | 68 => ⟨S_, .f32⟩
  | 69 => ⟨S32x16x2048, .i1⟩
  | 70 => ⟨S32x16x2048, .f32⟩
  | 71 => ⟨S32x16x2048, .f32⟩
  | 72 => ⟨S32x16x2048, .f32⟩
  | 73 => ⟨S_, .f32⟩
  | 74 => ⟨S32x16x2048, .f32⟩
  | 75 => ⟨S512x2048, .f32⟩
  | 76 => ⟨S1x16x2048, .f32⟩
  | 77 => ⟨S_, .f32⟩
  | 78 => ⟨S_, .f32⟩
  | 79 => ⟨S32x16x2048, .i1⟩
  | 80 => ⟨S32x16x2048, .f32⟩
  | 81 => ⟨S32x16x2048, .f32⟩
  | 82 => ⟨S32x16x2048, .f32⟩
  | 83 => ⟨S_, .f32⟩
  | 84 => ⟨S32x16x2048, .f32⟩
  | 85 => ⟨S512x2048, .f32⟩
  | 86 => ⟨S1x16x2048, .f32⟩
  | 87 => ⟨S_, .f32⟩
  | 88 => ⟨S_, .f32⟩
  | 89 => ⟨S32x16x2048, .i1⟩
  | 90 => ⟨S32x16x2048, .f32⟩
  | 91 => ⟨S32x16x2048, .f32⟩
  | 92 => ⟨S32x16x2048, .f32⟩
  | 93 => ⟨S_, .f32⟩
  | 94 => ⟨S32x16x2048, .f32⟩
  | 95 => ⟨S512x2048, .f32⟩
  | 96 => ⟨S1x16x2048, .f32⟩
  | 97 => ⟨S_, .f32⟩
  | 98 => ⟨S_, .f32⟩
  | 99 => ⟨S32x16x2048, .i1⟩
  | 100 => ⟨S32x16x2048, .f32⟩
  | 101 => ⟨S32x16x2048, .f32⟩
  | 102 => ⟨S32x16x2048, .f32⟩
  | 103 => ⟨S_, .f32⟩
  | 104 => ⟨S32x16x2048, .f32⟩
  | 105 => ⟨S512x2048, .f32⟩
  | 106 => ⟨S1x512x2048, .f32⟩
  | 107 => ⟨S1x512x2048, .f32⟩
  | 108 => ⟨S2x512x2048, .f32⟩
  | 109 => ⟨S1x512x2048, .f32⟩
  | 110 => ⟨S1x512x2048, .f32⟩
  | 111 => ⟨S2x512x2048, .f32⟩
  | 112 => ⟨S1x512x2048, .f32⟩
  | 113 => ⟨S512x2048, .f32⟩
  | 114 => ⟨S1x512x2048, .f32⟩
  | 115 => ⟨S512x2048, .f32⟩
  | 116 => ⟨S1x512x2048, .f32⟩
  | 117 => ⟨S512x2048, .f32⟩
  | 118 => ⟨S1x512x2048, .f32⟩
  | 119 => ⟨S512x2048, .f32⟩
  | 120 => ⟨S32x16x2048, .f32⟩
  | 121 => ⟨S_, .f32⟩
  | 122 => ⟨S32x16x2048, .f32⟩
  | 123 => ⟨S32x16x2048, .f32⟩
  | 124 => ⟨S_, .f32⟩
  | 125 => ⟨S16x2048, .f32⟩
  | 126 => ⟨S1x16x2048, .f32⟩
  | 127 => ⟨S_, .f32⟩
  | _ => ⟨S1x2048, .f32⟩

abbrev hbmTy0_1 (i : Nat) : BufTy := match i % 128 with
  | 0 => ⟨S16x2048, .f32⟩
  | 1 => ⟨S32x16x2048, .f32⟩
  | 2 => ⟨S_, .f32⟩
  | 3 => ⟨S32x16x2048, .f32⟩
  | 4 => ⟨S32x16x2048, .f32⟩
  | 5 => ⟨S_, .f32⟩
  | 6 => ⟨S16x2048, .f32⟩
  | 7 => ⟨S1x16x2048, .f32⟩
  | 8 => ⟨S_, .f32⟩
  | 9 => ⟨S16x2048, .f32⟩
  | 10 => ⟨S32x16x2048, .f32⟩
  | 11 => ⟨S_, .f32⟩
  | 12 => ⟨S32x16x2048, .f32⟩
  | 13 => ⟨S32x16x2048, .f32⟩
  | 14 => ⟨S_, .f32⟩
  | 15 => ⟨S16x2048, .f32⟩
  | 16 => ⟨S1x16x2048, .f32⟩
  | 17 => ⟨S_, .f32⟩
  | 18 => ⟨S16x2048, .f32⟩
  | 19 => ⟨S32x16x2048, .f32⟩
  | 20 => ⟨S_, .f32⟩
  | 21 => ⟨S32x16x2048, .f32⟩
  | 22 => ⟨S32x16x2048, .f32⟩
  | 23 => ⟨S_, .f32⟩
  | 24 => ⟨S16x2048, .f32⟩
  | 25 => ⟨S1x16x2048, .f32⟩
  | 26 => ⟨S_, .f32⟩
  | 27 => ⟨S16x2048, .f32⟩
  | 28 => ⟨S16x2048, .f32⟩
  | 29 => ⟨S16x2048, .f32⟩
  | 30 => ⟨S16x2048, .f32⟩
  | 31 => ⟨S16x2048, .f32⟩
  | 32 => ⟨S_, .f32⟩
  | 33 => ⟨S2048, .f32⟩
  | 34 => ⟨S1x2048, .f32⟩
  | 35 => ⟨S16x2048, .f32⟩
  | 36 => ⟨S16x2048, .f32⟩
  | 37 => ⟨S16x2048, .f32⟩
  | 38 => ⟨S_, .f32⟩
  | 39 => ⟨S2048, .f32⟩
  | 40 => ⟨S1x2048, .f32⟩
  | 41 => ⟨S16x2048, .f32⟩
  | 42 => ⟨S16x2048, .f32⟩
  | 43 => ⟨S16x2048, .f32⟩
  | 44 => ⟨S16x2048, .f32⟩
  | 45 => ⟨S16x2048, .f32⟩
  | 46 => ⟨S_, .f32⟩
  | 47 => ⟨S2048, .f32⟩
  | 48 => ⟨S1x2048, .f32⟩
  | 49 => ⟨S1x2048, .f32⟩
  | 50 => ⟨S16x2048, .f32⟩
  | 51 => ⟨S16x2048, .f32⟩
  | 52 => ⟨S16x2048, .f32⟩
  | 53 => ⟨S16x2048, .f32⟩
  | 54 => ⟨S_, .f32⟩
  | 55 => ⟨S2048, .f32⟩
  | 56 => ⟨S1x2048, .f32⟩
  | 57 => ⟨S1x2048, .f32⟩
  | 58 => ⟨S1x2048, .f32⟩
  | 59 => ⟨S1x2048, .f32⟩
  | 60 => ⟨S1x2048, .f32⟩
  | 61 => ⟨S1x2048, .f32⟩
  | 62 => ⟨S1x2048, .f32⟩
  | 63 => ⟨S1x2048, .f32⟩
  | 64 => ⟨S1x2048, .f32⟩
  | 65 => ⟨S1x2048, .f32⟩
  | 66 => ⟨S1x2048, .f32⟩
  | 67 => ⟨S1x2048, .f32⟩
  | 68 => ⟨S1x2048, .f32⟩
  | 69 => ⟨S1x2048, .f32⟩
  | 70 => ⟨S1x2048, .f32⟩
  | 71 => ⟨S1x2048, .f32⟩
  | 72 => ⟨S1x2048, .f32⟩
  | 73 => ⟨S1x2048, .f32⟩
  | 74 => ⟨S1x2048, .f32⟩
  | 75 => ⟨S1x2048, .f32⟩
  | 76 => ⟨S1x2048, .f32⟩
  | 77 => ⟨S1x2048, .f32⟩
  | 78 => ⟨S1x2048, .f32⟩
  | 79 => ⟨S1x2048, .f32⟩
  | 80 => ⟨S1x2048, .f32⟩
  | 81 => ⟨S1x2048, .f32⟩
  | 82 => ⟨S1x2048, .f32⟩
  | 83 => ⟨S1x2048, .f32⟩
  | 84 => ⟨S1x2048, .f32⟩
  | 85 => ⟨S1x2048, .f32⟩
  | 86 => ⟨S1x2048, .f32⟩
  | 87 => ⟨S1x2048, .f32⟩
  | 88 => ⟨S1x2048, .f32⟩
  | 89 => ⟨S1x2048, .f32⟩
  | 90 => ⟨S1x2048, .f32⟩
  | 91 => ⟨S1x2048, .f32⟩
  | 92 => ⟨S1x2048, .f32⟩
  | 93 => ⟨S1x2048, .f32⟩
  | 94 => ⟨S1x2048, .f32⟩
  | 95 => ⟨S1x2048, .f32⟩
  | 96 => ⟨S1x2048, .f32⟩
  | 97 => ⟨S1x2048, .f32⟩
  | 98 => ⟨S1x2048, .f32⟩
  | 99 => ⟨S1x2048, .f32⟩
  | 100 => ⟨S1x2048, .f32⟩
  | 101 => ⟨S1x2048, .f32⟩
  | 102 => ⟨S1x2048, .f32⟩
  | 103 => ⟨S1x2048, .f32⟩
  | 104 => ⟨S1x2048, .f32⟩
  | 105 => ⟨S1x2048, .f32⟩
  | 106 => ⟨S1x2048, .f32⟩
  | 107 => ⟨S32x64, .f32⟩
  | 108 => ⟨S_, .f32⟩
  | 109 => ⟨S32, .f32⟩
  | 110 => ⟨S32x1, .f32⟩
  | 111 => ⟨S1x32, .f32⟩
  | 112 => ⟨S1x32, .f32⟩
  | _ => ⟨S1x2048, .f32⟩

abbrev hbmTy (i : Nat) : BufTy := match i / 128 with
  | 0 => hbmTy0_0 i
  | 1 => hbmTy0_1 i
  | _ => ⟨S1x2048, .f32⟩

abbrev bufTy : (tb : Table) → Fin (tcTables nBuf tb) → BufTy
  | .hbm, ⟨i, _⟩ => hbmTy i
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_1 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_2 : Ref sig .tc := ⟨.hbm, 67, rfl⟩
abbrev main_call0_v0 : Ref sig .tc := ⟨.hbm, 68, rfl⟩
abbrev main_v52_1 : Ref sig .tc := ⟨.hbm, 69, rfl⟩
abbrev main_call0_v2 : Ref sig .tc := ⟨.hbm, 70, rfl⟩
abbrev main_call0_v3 : Ref sig .tc := ⟨.hbm, 71, rfl⟩
abbrev main_v52_0 : Ref sig .tc := ⟨.hbm, 72, rfl⟩
abbrev main_call0_cst : Ref sig .tc := ⟨.hbm, 73, rfl⟩
abbrev main_v52_2 : Ref sig .tc := ⟨.hbm, 74, rfl⟩
abbrev main_v53 : Ref sig .tc := ⟨.hbm, 75, rfl⟩
abbrev main_v54 : Ref sig .tc := ⟨.hbm, 76, rfl⟩
abbrev main_cst_3 : Ref sig .tc := ⟨.hbm, 77, rfl⟩
abbrev main_call1_v0 : Ref sig .tc := ⟨.hbm, 78, rfl⟩
abbrev main_v55_1 : Ref sig .tc := ⟨.hbm, 79, rfl⟩
abbrev main_call1_v2 : Ref sig .tc := ⟨.hbm, 80, rfl⟩
abbrev main_call1_v3 : Ref sig .tc := ⟨.hbm, 81, rfl⟩
abbrev main_v55_0 : Ref sig .tc := ⟨.hbm, 82, rfl⟩
abbrev main_call1_cst : Ref sig .tc := ⟨.hbm, 83, rfl⟩
abbrev main_v55_2 : Ref sig .tc := ⟨.hbm, 84, rfl⟩
abbrev main_v56 : Ref sig .tc := ⟨.hbm, 85, rfl⟩
abbrev main_v57 : Ref sig .tc := ⟨.hbm, 86, rfl⟩
abbrev main_cst_4 : Ref sig .tc := ⟨.hbm, 87, rfl⟩
abbrev main_call2_v0 : Ref sig .tc := ⟨.hbm, 88, rfl⟩
abbrev main_v58_1 : Ref sig .tc := ⟨.hbm, 89, rfl⟩
abbrev main_call2_v2 : Ref sig .tc := ⟨.hbm, 90, rfl⟩
abbrev main_call2_v3 : Ref sig .tc := ⟨.hbm, 91, rfl⟩
abbrev main_v58_0 : Ref sig .tc := ⟨.hbm, 92, rfl⟩
abbrev main_call2_cst : Ref sig .tc := ⟨.hbm, 93, rfl⟩
abbrev main_v58_2 : Ref sig .tc := ⟨.hbm, 94, rfl⟩
abbrev main_v59 : Ref sig .tc := ⟨.hbm, 95, rfl⟩
abbrev main_v60 : Ref sig .tc := ⟨.hbm, 96, rfl⟩
abbrev main_cst_5 : Ref sig .tc := ⟨.hbm, 97, rfl⟩
abbrev main_call3_v0 : Ref sig .tc := ⟨.hbm, 98, rfl⟩
abbrev main_v61_1 : Ref sig .tc := ⟨.hbm, 99, rfl⟩
abbrev main_call3_v2 : Ref sig .tc := ⟨.hbm, 100, rfl⟩
abbrev main_call3_v3 : Ref sig .tc := ⟨.hbm, 101, rfl⟩
abbrev main_v61_0 : Ref sig .tc := ⟨.hbm, 102, rfl⟩
abbrev main_call3_cst : Ref sig .tc := ⟨.hbm, 103, rfl⟩
abbrev main_v61_2 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_call4_cst : Ref sig .tc := ⟨.hbm, 121, rfl⟩
abbrev main_call4_v0 : Ref sig .tc := ⟨.hbm, 122, rfl⟩
abbrev main_call4_v1 : Ref sig .tc := ⟨.hbm, 123, rfl⟩
abbrev main_call4_cst_0 : Ref sig .tc := ⟨.hbm, 124, rfl⟩
abbrev main_call4_v2 : Ref sig .tc := ⟨.hbm, 125, rfl⟩
abbrev main_v78 : Ref sig .tc := ⟨.hbm, 126, rfl⟩
abbrev main_cst_6 : Ref sig .tc := ⟨.hbm, 127, rfl⟩
abbrev main_v79 : Ref sig .tc := ⟨.hbm, 128, rfl⟩
abbrev main_v80 : Ref sig .tc := ⟨.hbm, 129, rfl⟩
abbrev main_call5_cst : Ref sig .tc := ⟨.hbm, 130, rfl⟩
abbrev main_call5_v0 : Ref sig .tc := ⟨.hbm, 131, rfl⟩
abbrev main_call5_v1 : Ref sig .tc := ⟨.hbm, 132, rfl⟩
abbrev main_call5_cst_0 : Ref sig .tc := ⟨.hbm, 133, rfl⟩
abbrev main_call5_v2 : Ref sig .tc := ⟨.hbm, 134, rfl⟩
abbrev main_v81 : Ref sig .tc := ⟨.hbm, 135, rfl⟩
abbrev main_cst_7 : Ref sig .tc := ⟨.hbm, 136, rfl⟩
abbrev main_v82 : Ref sig .tc := ⟨.hbm, 137, rfl⟩
abbrev main_v83 : Ref sig .tc := ⟨.hbm, 138, rfl⟩
abbrev main_call6_cst : Ref sig .tc := ⟨.hbm, 139, rfl⟩
abbrev main_call6_v0 : Ref sig .tc := ⟨.hbm, 140, rfl⟩
abbrev main_call6_v1 : Ref sig .tc := ⟨.hbm, 141, rfl⟩
abbrev main_call6_cst_0 : Ref sig .tc := ⟨.hbm, 142, rfl⟩
abbrev main_call6_v2 : Ref sig .tc := ⟨.hbm, 143, rfl⟩
abbrev main_v84 : Ref sig .tc := ⟨.hbm, 144, rfl⟩
abbrev main_cst_8 : Ref sig .tc := ⟨.hbm, 145, rfl⟩
abbrev main_v85 : Ref sig .tc := ⟨.hbm, 146, rfl⟩
abbrev main_v86 : Ref sig .tc := ⟨.hbm, 147, rfl⟩
abbrev main_call7_cst : Ref sig .tc := ⟨.hbm, 148, rfl⟩
abbrev main_call7_v0 : Ref sig .tc := ⟨.hbm, 149, rfl⟩
abbrev main_call7_v1 : Ref sig .tc := ⟨.hbm, 150, rfl⟩
abbrev main_call7_cst_0 : Ref sig .tc := ⟨.hbm, 151, rfl⟩
abbrev main_call7_v2 : Ref sig .tc := ⟨.hbm, 152, rfl⟩
abbrev main_v87 : Ref sig .tc := ⟨.hbm, 153, rfl⟩
abbrev main_cst_9 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_cst_10 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_cst_11 : Ref sig .tc := ⟨.hbm, 166, rfl⟩
abbrev main_v98 : Ref sig .tc := ⟨.hbm, 167, rfl⟩
abbrev main_v99 : Ref sig .tc := ⟨.hbm, 168, rfl⟩
abbrev main_v100 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_cst_12 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_cst_13 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_cst_14 : Ref sig .tc := ⟨.hbm, 236, rfl⟩
abbrev main_v165 : Ref sig .tc := ⟨.hbm, 237, rfl⟩
abbrev main_v166 : Ref sig .tc := ⟨.hbm, 238, rfl⟩
abbrev main_v167 : Ref sig .tc := ⟨.hbm, 239, rfl⟩
abbrev main_v168 : Ref sig .tc := ⟨.hbm, 240, rfl⟩

abbrev nD : Nat := 1
abbrev τ : Topo := Topo.v7x

variable {F : FTy → Type} [FloatOps F]
-- ==== Proof.Glu.Rows.lean ====
/-
  THE GRADIENT OF THE GATED UNIT, ONE ROW AT A TIME.

  The gated unit of the step maps a row `z` (512 numbers) to `gelu z * sigmoid (gelu z @ w)`.  Every
  quantity of its backward pass but the two sums over all rows belongs to one row, so both the kernel (on
  blocks of 512 rows) and the reference (on all 8192 rows) are described by the functions below, applied to
  the row at hand.  They are stated over the extended reals, in the order of operations that automatic
  differentiation gives.
-/
module

public import Idealize.ShloMosaic.Lib.Pointwise

@[expose] public section

noncomputable section

namespace Cert.Glu

open Idealize.ShloMosaic

/-- A row of 512 extended reals. -/
abbrev Row := Fin 512 → EReal
/-- A 512 by 512 matrix. -/
abbrev Mat := Fin 512 → Fin 512 → EReal

/-- One half, as the programs write it. -/
abbrev half : EReal := Ideal.ofBits .f32 0x3F000000#32
/-- Three, as the programs write it. -/
abbrev three : EReal := Ideal.ofBits .f32 0x40400000#32
/-- The rounded `√(2/π)` of the tanh form of gelu. -/
abbrev cTanh : EReal := Ideal.ofBits .f32 0x3F4C422A#32
/-- The rounded coefficient of the cube. -/
abbrev cCube : EReal := Ideal.ofBits .f32 0x3D372713#32

/-- The inner tanh of gelu at entry `k`. -/
def th (z : Row) (k : Fin 512) : EReal :=
  Ideal.tanh (cTanh * (z k + cCube * (z k * (z k * z k))))

/-- Half of one plus the tanh: gelu's factor. -/
def fac (z : Row) (k : Fin 512) : EReal := half * (1 + th z k)

/-- gelu at entry `k`. -/
def gelu (z : Row) (k : Fin 512) : EReal := z k * fac z k

/-- The gate: the logistic function of entry `k` of `gelu z @ w`. -/
def gate (z : Row) (w : Mat) (k : Fin 512) : EReal := Ideal.logistic (∑ x, gelu z x * w x k)

/-- The cotangent of the gate's argument. -/
def dArg (z : Row) (w : Mat) (ct : Row) (k : Fin 512) : EReal :=
  gelu z k * ct k * (gate z w k * (1 - gate z w k))

/-- The cotangent of gelu's value: through the product and through the matrix. -/
def dGelu (z : Row) (w : Mat) (ct : Row) (k : Fin 512) : EReal :=
  ct k * gate z w k + ∑ x, dArg z w ct x * w k x

/-- What the tanh passes back to its argument, times the tanh's coefficient. -/
def dTh (z : Row) (w : Mat) (ct : Row) (k : Fin 512) : EReal :=
  cTanh * (half * (z k * dGelu z w ct k) * ((1 + th z k) * (1 - th z k)))

/-- The cotangent of the row `z` itself: the gradient `dy`. -/
def dZ (z : Row) (w : Mat) (ct : Row) (k : Fin 512) : EReal :=
  dGelu z w ct k * fac z k + dTh z w ct k + cCube * dTh z w ct k * (three * (z k * z k))

end Cert.Glu

end
-- ==== Proof.Glu.Results.lean ====
/-
  THE FOUR RESULTS AS FUNCTIONS OF THE ARGUMENTS.

  The arguments are the scan's output `y0`, its input `u`, the skip vector `d`, the gate's matrix `w` and the
  cotangent `ct` of the gated unit's value.  The unit's own input is the row `y0 + d * u`.
-/
module

public import proofs.«01_k».proof.Proof.Glu.Rows

@[expose] public section

noncomputable section

namespace Cert.Glu

open Idealize.ShloMosaic

/-- An `n` by 512 array of extended reals. -/
abbrev Arr (n : Nat) := (⟨2, ![n, 512]⟩ : Shape).Idx → EReal

/-- Row `R` of the unit's input. -/
def zRow (y0 u : Arr 8192) (d : Arr 1) (R : Fin 8192) : Row := fun k => y0 (ix2 R k) + d (ix2 0 k) * u (ix2 R k)

section
variable (y0 u : Arr 8192) (d : Arr 1) (w : Arr 512) (ct : Arr 8192)

/-- The gradient of the unit's input, row by row. -/
def dyAt (R : Fin 8192) (k : Fin 512) : EReal :=
  dZ (zRow y0 u d R) (fun i j => w (ix2 i j)) (fun j => ct (ix2 R j)) k

/-- Row `R`'s part of the gradient of `w`. -/
def dwPart (i j : Fin 512) (R : Fin 8192) : EReal :=
  gelu (zRow y0 u d R) i * dArg (zRow y0 u d R) (fun i j => w (ix2 i j)) (fun j => ct (ix2 R j)) j

/-- Row `R`'s part of the gradient of the skip vector. -/
def ddPart (k : Fin 512) (R : Fin 8192) : EReal := dyAt y0 u d w ct R k * u (ix2 R k)

/-- Result 1: the gradient of `y0`. -/
def dyArr : Arr 8192 := fun i => dyAt y0 u d w ct (i 0) (i 1)
/-- Result 2: the gradient of `u`. -/
def duArr : Arr 8192 := fun i => d (ix2 0 (i 1)) * dyAt y0 u d w ct (i 0) (i 1)
/-- Result 3: the gradient of `w`. -/
def dwArr : Arr 512 := fun i => ∑ R : Fin 8192, dwPart y0 u d w ct (i 0) (i 1) R
/-- Result 4: the gradient of the skip vector. -/
def ddArr : Arr 1 := fun i => ∑ R : Fin 8192, ddPart y0 u d w ct (i 1) R

end

/-! ### Running sums over blocks of 512 rows -/

/-- A term of a sum over the rows, at any number: zero beyond the last row. -/
def ext (f : Fin 8192 → EReal) (n : ℕ) : EReal := if h : n < 8192 then f ⟨n, h⟩ else 0

theorem ext_val (f : Fin 8192 → EReal) (n : ℕ) (h : n < 8192) : ext f n = f ⟨n, h⟩ := dif_pos h

/-- The sum of the first `n` blocks of 512 rows. -/
def blocksSum (f : Fin 8192 → EReal) (n : ℕ) : EReal :=
  ∑ s ∈ Finset.range n, ∑ r : Fin 512, ext f (s * 512 + r.val)

theorem blocksSum_zero (f : Fin 8192 → EReal) : blocksSum f 0 = 0 := Finset.sum_range_zero _

theorem blocksSum_succ (f : Fin 8192 → EReal) (n : ℕ) :
    blocksSum f (n + 1) = blocksSum f n + ∑ r : Fin 512, ext f (n * 512 + r.val) := Finset.sum_range_succ _ _

/-- All sixteen blocks are all the rows. -/
theorem blocksSum_all (f : Fin 8192 → EReal) : blocksSum f 16 = ∑ R : Fin 8192, f R := by
  rw [Fin.sum_univ_tiles 16 512 rfl f, blocksSum, Finset.sum_range]
  refine Finset.sum_congr rfl fun s _ => Finset.sum_congr rfl fun r _ => ?_
  exact ext_val f _ _

end Cert.Glu

end
-- ==== Proof.Glu.Payload.lean ====
/-
  WHAT ONE GRID POINT OF THE KERNEL COMPUTES.

  The named pure terms of the kernel's body, read at an index: each is the row function of the block's row.
-/
module

public import proofs.«01_k».proof.Proof.Gen.KernelIdeal.Skeleton
public import proofs.«01_k».proof.Proof.Glu.Rows

@[expose] public section

noncomputable section

namespace Cert.Glu

open Cert.KernelIdeal Cert.KernelIdeal.Gen Idealize.ShloMosaic Idealize.SL.Sem

/-- Row `r` of a block. -/
abbrev rowOf {n : Nat} (x : (⟨2, ![n, 512]⟩ : Shape).Idx → EReal) (r : Fin n) : Row := fun k => x (ix2 r k)
/-- A weight array as a matrix. -/
abbrev matOf (x : (⟨2, ![512, 512]⟩ : Shape).Idx → EReal) : Mat := fun i j => x (ix2 i j)

variable (z ct u : Vec Ideal S512x512 .f32) (w : Vec Ideal S512x512 .bf16) (d : Vec Ideal S1x512 .f32)

theorem tanh_at (r k : Fin 512) : k0_pay10 z (ix2 r k) = th (rowOf z r) k := by
  unfold k0_pay10 k0_pay7 th
  pointwise

theorem fac_at (r k : Fin 512) : k0_pay12 z (ix2 r k) = fac (rowOf z r) k := by
  unfold k0_pay12 fac
  pointwise [tanh_at z]

theorem gelu_at (r k : Fin 512) : k0_pay13 z (ix2 r k) = gelu (rowOf z r) k := by
  unfold k0_pay13 k0_pay7 gelu
  pointwise [fac_at z]

theorem gate_at (r k : Fin 512) : k0_pay14 z w (ix2 r k) = gate (rowOf z r) (matOf w) k := by
  unfold k0_pay14 k0_pay8 gate
  pointwise [dot_S512x512_S512x512_S512x512_1_0_0_1_n_n, gelu_at z]

theorem dArg_at (r k : Fin 512) : k0_pay15 z w ct (ix2 r k) = dArg (rowOf z r) (matOf w) (rowOf ct r) k := by
  unfold k0_pay15 dArg
  pointwise [gelu_at z, gate_at z w]

/-- The block's product of the transposed activations with the gate's cotangent: a sum over the block's rows. -/
theorem dW_at (i j : Fin 512) :
    k0_pay16 z w ct (ix2 i j) = ∑ r : Fin 512, gelu (rowOf z r) i * dArg (rowOf z r) (matOf w) (rowOf ct r) j := by
  unfold k0_pay16
  pointwise [dot_S512x512_S512x512_S512x512_0_0_1_1_n_n, gelu_at z, dArg_at z ct w]

theorem dGelu_at (r k : Fin 512) : k0_pay17 z w ct (ix2 r k) = dGelu (rowOf z r) (matOf w) (rowOf ct r) k := by
  unfold k0_pay17 k0_pay8 dGelu
  pointwise [dot_S512x512_S512x512_S512x512_1_1_0_0_n_n, gate_at z w, dArg_at z ct w]

/-- The block of `dy` that a grid point stores. -/
abbrev dyBlock : Vec Ideal S512x512 .f32 :=
  k0_pay1 (k0_pay9 z) (k0_pay11 z) (k0_pay12 z) (k0_pay17 z w ct) (k0_pay18 z w ct)

theorem dy_at (r k : Fin 512) : dyBlock z ct w (ix2 r k) = dZ (rowOf z r) (matOf w) (rowOf ct r) k := by
  unfold dyBlock k0_pay1 k0_pay9 k0_pay11 k0_pay18 k0_pay7 dZ dTh
  pointwise [dGelu_at z ct w, fac_at z, tanh_at z]

/-- The block of `du` that a grid point stores. -/
theorem du_at (r k : Fin 512) :
    k0_pay2 (k0_pay9 z) (k0_pay11 z) (k0_pay12 z) (k0_pay17 z w ct) (k0_pay18 z w ct) d (ix2 r k)
      = d (ix2 0 k) * dZ (rowOf z r) (matOf w) (rowOf ct r) k := by
  unfold k0_pay2
  rw [← dy_at z ct w]
  pointwise

/-- What a grid point adds to the running sum of the gradient of `w`. -/
theorem accW_at (a : Vec Ideal S512x512 .f32) (i j : Fin 512) :
    k0_pay5 (k0_pay16 z w ct) a (ix2 i j)
      = a (ix2 i j) + ∑ r : Fin 512, gelu (rowOf z r) i * dArg (rowOf z r) (matOf w) (rowOf ct r) j := by
  unfold k0_pay5
  pointwise [dW_at z ct w]

/-- What a grid point adds to the running sum of the gradient of the skip vector. -/
theorem accD_at (a : Vec Ideal S1x512 .f32) (k : Fin 512) :
    k0_pay6 (k0_pay9 z) (k0_pay11 z) (k0_pay12 z) (k0_pay17 z w ct) (k0_pay18 z w ct) a u (ix2 0 k)
      = a (ix2 0 k) + ∑ r : Fin 512, dZ (rowOf z r) (matOf w) (rowOf ct r) k * u (ix2 r k) := by
  have h : ∀ r k : Fin 512, k0_pay1 (k0_pay9 z) (k0_pay11 z) (k0_pay12 z) (k0_pay17 z w ct) (k0_pay18 z w ct) (ix2 r k)
      = dZ (rowOf z r) (matOf w) (rowOf ct r) k := dy_at z ct w
  unfold k0_pay6
  pointwise [h]

end Cert.Glu

end
-- ==== Proof.Glu.Stores.lean ====
/-
  THE KERNEL'S STORES, READ BACK.

  At the first grid point the two accumulators are reset and the point's contribution is added; at a later point
  the contribution is added to what the point before left.  Each output block is the covering store's value.
-/
module

public import proofs.«01_k».proof.Proof.Gen.KernelIdeal.Frame
public import proofs.«01_k».proof.Proof.Glu.Payload

@[expose] public section

noncomputable section

namespace Cert.Glu

open Cert.KernelIdeal Cert.KernelIdeal.Gen Idealize.ShloMosaic Idealize.ShloMosaic.TcCoe Idealize.SL.Sem

theorem origin2 : (![0, 0] : Fin 2 → Nat) = fun _ => 0 := funext fun a => by fin_cases a <;> rfl

variable (z ct u : Vec Ideal S512x512 .f32) (w : Vec Ideal S512x512 .bf16) (d : Vec Ideal S1x512 .f32)

theorem outA5 (c : Dev nD) (i : grid0.Coords) (a1 : Memref sig .tc .vmem S512x512 .f32) (h1 : a1.IsWhole) (a2 : Memref sig .tc .vmem S512x512 .f32) (h2 : a2.IsWhole) (a3 : Memref sig .tc .vmem S1x512 .f32) (h3 : a3.IsWhole) (a4 : Memref sig .tc .vmem S512x512 .bf16) (h4 : a4.IsWhole) (a5 : Memref sig .tc .vmem S512x512 .f32) (h5 : a5.IsWhole) (a6 : Memref sig .tc .vmem S512x512 .f32) (h6 : a6.IsWhole) (a7 : Memref sig .tc .vmem S512x512 .f32) (h7 : a7.IsWhole) (a8 : Memref sig .tc .vmem S512x512 .f32) (h8 : a8.IsWhole) (a9 : Memref sig .tc .vmem S1x512 .f32) (h9 : a9.IsWhole) (hc : cond0_0 i) :
    out0_A_5 c i a1 h1 a2 h2 a3 h3 a4 h4 a5 h5 a6 h6 a7 h7 a8 h8 a9 h9 hc z u d w ct = dyBlock z ct w := by
  unfold out0_A_5
  rw [View.read_writes_eq_canon _ _ _ (cover0_A_5 c i a1 h1 a2 h2 a3 h3 a4 h4 a5 h5 a6 h6 a7 h7 a8 h8 a9 h9 hc z u d w ct)]
  unfold kernelRun0_A
  dsimp only
  sl_unfold_words
  rw [View.canon_unit_zero origin2]
  simp only [View.readAt_eq_ld, h1.read_unread, h2.read_unread, h3.read_unread, h4.read_unread, h5.read_unread, h8.read_unread, h9.read_unread,
    View.ld_unit_zero (S := S512x512) origin2, View.ld_unit_zero (S := S1x512) origin2, shapeCast_self]

theorem outA6 (c : Dev nD) (i : grid0.Coords) (a1 : Memref sig .tc .vmem S512x512 .f32) (h1 : a1.IsWhole) (a2 : Memref sig .tc .vmem S512x512 .f32) (h2 : a2.IsWhole) (a3 : Memref sig .tc .vmem S1x512 .f32) (h3 : a3.IsWhole) (a4 : Memref sig .tc .vmem S512x512 .bf16) (h4 : a4.IsWhole) (a5 : Memref sig .tc .vmem S512x512 .f32) (h5 : a5.IsWhole) (a6 : Memref sig .tc .vmem S512x512 .f32) (h6 : a6.IsWhole) (a7 : Memref sig .tc .vmem S512x512 .f32) (h7 : a7.IsWhole) (a8 : Memref sig .tc .vmem S512x512 .f32) (h8 : a8.IsWhole) (a9 : Memref sig .tc .vmem S1x512 .f32) (h9 : a9.IsWhole) (hc : cond0_0 i) :
    out0_A_6 c i a1 h1 a2 h2 a3 h3 a4 h4 a5 h5 a6 h6 a7 h7 a8 h8 a9 h9 hc z u d w ct = k0_pay2 (k0_pay9 z) (k0_pay11 z) (k0_pay12 z) (k0_pay17 z w ct) (k0_pay18 z w ct) d := by
  unfold out0_A_6
  rw [View.read_writes_eq_canon _ _ _ (cover0_A_6 c i a1 h1 a2 h2 a3 h3 a4 h4 a5 h5 a6 h6 a7 h7 a8 h8 a9 h9 hc z u d w ct)]
  unfold kernelRun0_A
  dsimp only
  sl_unfold_words
  rw [View.canon_unit_zero origin2]
  simp only [View.readAt_eq_ld, h1.read_unread, h2.read_unread, h3.read_unread, h4.read_unread, h5.read_unread, h8.read_unread, h9.read_unread,
    View.ld_unit_zero (S := S512x512) origin2, View.ld_unit_zero (S := S1x512) origin2, shapeCast_self]

theorem outA7 (c : Dev nD) (i : grid0.Coords) (a1 : Memref sig .tc .vmem S512x512 .f32) (h1 : a1.IsWhole) (a2 : Memref sig .tc .vmem S512x512 .f32) (h2 : a2.IsWhole) (a3 : Memref sig .tc .vmem S1x512 .f32) (h3 : a3.IsWhole) (a4 : Memref sig .tc .vmem S512x512 .bf16) (h4 : a4.IsWhole) (a5 : Memref sig .tc .vmem S512x512 .f32) (h5 : a5.IsWhole) (a6 : Memref sig .tc .vmem S512x512 .f32) (h6 : a6.IsWhole) (a7 : Memref sig .tc .vmem S512x512 .f32) (h7 : a7.IsWhole) (a8 : Memref sig .tc .vmem S512x512 .f32) (h8 : a8.IsWhole) (a9 : Memref sig .tc .vmem S1x512 .f32) (h9 : a9.IsWhole) (hc : cond0_0 i) :
    out0_A_7 c i a1 h1 a2 h2 a3 h3 a4 h4 a5 h5 a6 h6 a7 h7 a8 h8 a9 h9 hc z u d w ct = k0_pay5 (k0_pay16 z w ct) (k0_pay3 (F := Ideal)) := by
  unfold out0_A_7
  rw [View.read_writes_eq_canon _ _ _ (cover0_A_7 c i a1 h1 a2 h2 a3 h3 a4 h4 a5 h5 a6 h6 a7 h7 a8 h8 a9 h9 hc z u d w ct)]
  unfold kernelRun0_A
  dsimp only
  sl_unfold_words
  rw [View.canon_cons_unit_zero (S := S512x512) origin2, View.readCov_unit_zero (S := S512x512) _ origin2]
  simp only [View.readAt_eq_ld, h1.read_unread, h2.read_unread, h3.read_unread, h4.read_unread, h5.read_unread, h8.read_unread, h9.read_unread,
    View.ld_unit_zero (S := S512x512) origin2, View.ld_unit_zero (S := S1x512) origin2, shapeCast_self]

theorem outA8 (c : Dev nD) (i : grid0.Coords) (a1 : Memref sig .tc .vmem S512x512 .f32) (h1 : a1.IsWhole) (a2 : Memref sig .tc .vmem S512x512 .f32) (h2 : a2.IsWhole) (a3 : Memref sig .tc .vmem S1x512 .f32) (h3 : a3.IsWhole) (a4 : Memref sig .tc .vmem S512x512 .bf16) (h4 : a4.IsWhole) (a5 : Memref sig .tc .vmem S512x512 .f32) (h5 : a5.IsWhole) (a6 : Memref sig .tc .vmem S512x512 .f32) (h6 : a6.IsWhole) (a7 : Memref sig .tc .vmem S512x512 .f32) (h7 : a7.IsWhole) (a8 : Memref sig .tc .vmem S512x512 .f32) (h8 : a8.IsWhole) (a9 : Memref sig .tc .vmem S1x512 .f32) (h9 : a9.IsWhole) (hc : cond0_0 i) :
    out0_A_8 c i a1 h1 a2 h2 a3 h3 a4 h4 a5 h5 a6 h6 a7 h7 a8 h8 a9 h9 hc z u d w ct = k0_pay6 (k0_pay9 z) (k0_pay11 z) (k0_pay12 z) (k0_pay17 z w ct) (k0_pay18 z w ct) (k0_pay4 (F := Ideal)) u := by
  unfold out0_A_8
  rw [View.read_writes_eq_canon _ _ _ (cover0_A_8 c i a1 h1 a2 h2 a3 h3 a4 h4 a5 h5 a6 h6 a7 h7 a8 h8 a9 h9 hc z u d w ct)]
  unfold kernelRun0_A
  dsimp only
  sl_unfold_words
  rw [View.canon_cons_unit_zero (S := S1x512) origin2, View.readCov_unit_zero (S := S1x512) _ origin2]
  simp only [View.readAt_eq_ld, h1.read_unread, h2.read_unread, h3.read_unread, h4.read_unread, h5.read_unread, h8.read_unread, h9.read_unread,
    View.ld_unit_zero (S := S512x512) origin2, View.ld_unit_zero (S := S1x512) origin2, shapeCast_self]

theorem outB5 (c : Dev nD) (i : grid0.Coords) (a1 : Memref sig .tc .vmem S512x512 .f32) (h1 : a1.IsWhole) (a2 : Memref sig .tc .vmem S512x512 .f32) (h2 : a2.IsWhole) (a3 : Memref sig .tc .vmem S1x512 .f32) (h3 : a3.IsWhole) (a4 : Memref sig .tc .vmem S512x512 .bf16) (h4 : a4.IsWhole) (a5 : Memref sig .tc .vmem S512x512 .f32) (h5 : a5.IsWhole) (a6 : Memref sig .tc .vmem S512x512 .f32) (h6 : a6.IsWhole) (a7 : Memref sig .tc .vmem S512x512 .f32) (h7 : a7.IsWhole) (a8 : Memref sig .tc .vmem S512x512 .f32) (h8 : a8.IsWhole) (a9 : Memref sig .tc .vmem S1x512 .f32) (h9 : a9.IsWhole) (hc : ¬cond0_0 i) (xo : Vec Ideal S512x512 .f32) (yo : Vec Ideal S1x512 .f32) :
    out0_B_5 c i a1 h1 a2 h2 a3 h3 a4 h4 a5 h5 a6 h6 a7 h7 a8 h8 a9 h9 hc z u d w ct xo yo = dyBlock z ct w := by
  unfold out0_B_5
  rw [View.read_writes_eq_canon _ _ _ (cover0_B_5 c i a1 h1 a2 h2 a3 h3 a4 h4 a5 h5 a6 h6 a7 h7 a8 h8 a9 h9 hc z u d w ct xo yo)]
  unfold kernelRun0_B
  dsimp only
  sl_unfold_words
  rw [View.canon_unit_zero origin2]
  simp only [View.readAt_eq_ld, h1.read_unread, h2.read_unread, h3.read_unread, h4.read_unread, h5.read_unread, h8.read_unread, h9.read_unread,
    View.ld_unit_zero (S := S512x512) origin2, View.ld_unit_zero (S := S1x512) origin2, shapeCast_self]

theorem outB6 (c : Dev nD) (i : grid0.Coords) (a1 : Memref sig .tc .vmem S512x512 .f32) (h1 : a1.IsWhole) (a2 : Memref sig .tc .vmem S512x512 .f32) (h2 : a2.IsWhole) (a3 : Memref sig .tc .vmem S1x512 .f32) (h3 : a3.IsWhole) (a4 : Memref sig .tc .vmem S512x512 .bf16) (h4 : a4.IsWhole) (a5 : Memref sig .tc .vmem S512x512 .f32) (h5 : a5.IsWhole) (a6 : Memref sig .tc .vmem S512x512 .f32) (h6 : a6.IsWhole) (a7 : Memref sig .tc .vmem S512x512 .f32) (h7 : a7.IsWhole) (a8 : Memref sig .tc .vmem S512x512 .f32) (h8 : a8.IsWhole) (a9 : Memref sig .tc .vmem S1x512 .f32) (h9 : a9.IsWhole) (hc : ¬cond0_0 i) (xo : Vec Ideal S512x512 .f32) (yo : Vec Ideal S1x512 .f32) :
    out0_B_6 c i a1 h1 a2 h2 a3 h3 a4 h4 a5 h5 a6 h6 a7 h7 a8 h8 a9 h9 hc z u d w ct xo yo = k0_pay2 (k0_pay9 z) (k0_pay11 z) (k0_pay12 z) (k0_pay17 z w ct) (k0_pay18 z w ct) d := by
  unfold out0_B_6
  rw [View.read_writes_eq_canon _ _ _ (cover0_B_6 c i a1 h1 a2 h2 a3 h3 a4 h4 a5 h5 a6 h6 a7 h7 a8 h8 a9 h9 hc z u d w ct xo yo)]
  unfold kernelRun0_B
  dsimp only
  sl_unfold_words
  rw [View.canon_unit_zero origin2]
  simp only [View.readAt_eq_ld, h1.read_unread, h2.read_unread, h3.read_unread, h4.read_unread, h5.read_unread, h8.read_unread, h9.read_unread,
    View.ld_unit_zero (S := S512x512) origin2, View.ld_unit_zero (S := S1x512) origin2, shapeCast_self]

theorem outB7 (c : Dev nD) (i : grid0.Coords) (a1 : Memref sig .tc .vmem S512x512 .f32) (h1 : a1.IsWhole) (a2 : Memref sig .tc .vmem S512x512 .f32) (h2 : a2.IsWhole) (a3 : Memref sig .tc .vmem S1x512 .f32) (h3 : a3.IsWhole) (a4 : Memref sig .tc .vmem S512x512 .bf16) (h4 : a4.IsWhole) (a5 : Memref sig .tc .vmem S512x512 .f32) (h5 : a5.IsWhole) (a6 : Memref sig .tc .vmem S512x512 .f32) (h6 : a6.IsWhole) (a7 : Memref sig .tc .vmem S512x512 .f32) (h7 : a7.IsWhole) (a8 : Memref sig .tc .vmem S512x512 .f32) (h8 : a8.IsWhole) (a9 : Memref sig .tc .vmem S1x512 .f32) (h9 : a9.IsWhole) (hc : ¬cond0_0 i) (xo : Vec Ideal S512x512 .f32) (yo : Vec Ideal S1x512 .f32) :
    out0_B_7 c i a1 h1 a2 h2 a3 h3 a4 h4 a5 h5 a6 h6 a7 h7 a8 h8 a9 h9 hc z u d w ct xo yo = k0_pay5 (k0_pay16 z w ct) xo := by
  unfold out0_B_7
  rw [View.read_writes_eq_canon _ _ _ (cover0_B_7 c i a1 h1 a2 h2 a3 h3 a4 h4 a5 h5 a6 h6 a7 h7 a8 h8 a9 h9 hc z u d w ct xo yo)]
  unfold kernelRun0_B
  dsimp only
  sl_unfold_words
  rw [View.canon_unit_zero origin2]
  simp only [View.readAt_eq_ld, h1.read_unread, h2.read_unread, h3.read_unread, h4.read_unread, h5.read_unread, h8.read_unread, h9.read_unread,
    View.ld_unit_zero (S := S512x512) origin2, View.ld_unit_zero (S := S1x512) origin2, shapeCast_self]

theorem outB8 (c : Dev nD) (i : grid0.Coords) (a1 : Memref sig .tc .vmem S512x512 .f32) (h1 : a1.IsWhole) (a2 : Memref sig .tc .vmem S512x512 .f32) (h2 : a2.IsWhole) (a3 : Memref sig .tc .vmem S1x512 .f32) (h3 : a3.IsWhole) (a4 : Memref sig .tc .vmem S512x512 .bf16) (h4 : a4.IsWhole) (a5 : Memref sig .tc .vmem S512x512 .f32) (h5 : a5.IsWhole) (a6 : Memref sig .tc .vmem S512x512 .f32) (h6 : a6.IsWhole) (a7 : Memref sig .tc .vmem S512x512 .f32) (h7 : a7.IsWhole) (a8 : Memref sig .tc .vmem S512x512 .f32) (h8 : a8.IsWhole) (a9 : Memref sig .tc .vmem S1x512 .f32) (h9 : a9.IsWhole) (hc : ¬cond0_0 i) (xo : Vec Ideal S512x512 .f32) (yo : Vec Ideal S1x512 .f32) :
    out0_B_8 c i a1 h1 a2 h2 a3 h3 a4 h4 a5 h5 a6 h6 a7 h7 a8 h8 a9 h9 hc z u d w ct xo yo = k0_pay6 (k0_pay9 z) (k0_pay11 z) (k0_pay12 z) (k0_pay17 z w ct) (k0_pay18 z w ct) yo u := by
  unfold out0_B_8
  rw [View.read_writes_eq_canon _ _ _ (cover0_B_8 c i a1 h1 a2 h2 a3 h3 a4 h4 a5 h5 a6 h6 a7 h7 a8 h8 a9 h9 hc z u d w ct xo yo)]
  unfold kernelRun0_B
  dsimp only
  sl_unfold_words
  rw [View.canon_unit_zero origin2]
  simp only [View.readAt_eq_ld, h1.read_unread, h2.read_unread, h3.read_unread, h4.read_unread, h5.read_unread, h8.read_unread, h9.read_unread,
    View.ld_unit_zero (S := S512x512) origin2, View.ld_unit_zero (S := S1x512) origin2, shapeCast_self]

end Cert.Glu

end
-- ==== Proof.Glu.Blocks.lean ====
/-
  THE KERNEL'S BLOCKS, AS PARTS OF THE ARGUMENTS.

  Grid point `t` reads rows `512 t … 512 t + 511` of the row arrays and the whole of the small ones.
-/
module

public import proofs.«01_k».proof.Proof.Gen.KernelIdeal.Value
public import proofs.«01_k».proof.Proof.Glu.Results
public import proofs.«01_k».proof.Proof.Glu.Stores

@[expose] public section

noncomputable section

namespace Cert.Glu

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (c : Dev nD)

/-- The arguments as launched. -/
abbrev aY0 : Arr 8192 := m (c.tc.loc main_arg0)
abbrev aU : Arr 8192 := m (c.tc.loc main_arg1)
abbrev aD : Arr 1 := m (c.tc.loc main_arg2)
abbrev aW : Arr 512 := m (c.tc.loc main_arg3)
abbrev aCt : Arr 8192 := m (c.tc.loc main_arg4)

/-- Row `r` of block `t`. -/
def rowIx (t : Fin cfg0.N) (r : Fin 512) : Fin 8192 :=
  ⟨t.val * 512 + r.val, by have hN : cfg0.N = 16 := N_0; omega⟩

theorem idx_facts : ∀ t : Fin cfg0.N,
    (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = 0 ∧ win0_7.index t 1 = 0)
    ∧ (win0_8.index t 0 = 0 ∧ win0_8.index t 1 = 0) :=
  (by decide +kernel : ∀ t : Fin grid0.N, _)

/-- The unit's input as the host prepares it. -/
theorem entry_z : (V m c main_v2 : Arr 8192)
    = fun i => aY0 m c i + aD m c (ix2 0 (i 1)) * aU m c i := by
  have h : (V m c main_v2 : Arr 8192) = addf (F := Ideal) (φ := .f32) (aY0 m c)
      (mulf (F := Ideal) (φ := .f32) (broadcastInDim S8192x512 ![0, 1] bcast_S1x512_S8192x512_0_1 (aD m c)) (aU m c)) := by
    show StableHlo.after hostOps0 _ main_v2 = _
    unfold hostOps0
    after_results
  rw [h]; funext i
  pointwise

/-- The gate's matrix as the host prepares it: a change of format only. -/
theorem entry_w : (V m c main_v3 : Arr 512) = aW m c := by
  have h : (V m c main_v3 : Arr 512) = truncf (F := Ideal) (φ := .f32) .bf16 (aW m c) bitsLt_bf16_f32 := by
    show StableHlo.after hostOps0 _ main_v3 = _
    unfold hostOps0
    after_results
  rw [h]; funext i
  pointwise

theorem blk_z (t : Fin cfg0.N) (r k : Fin 512) :
    (iblk m c 0 t : Arr 512) (ix2 r k) = zRow (aY0 m c) (aU m c) (aD m c) (rowIx t r) k := by
  have hi := (idx_facts t).1
  have h : (iblk m c 0 t : Arr 512) (ix2 r k) = (V m c main_v2 : Arr 8192) (ix2 (rowIx t r) k) := by
    unfold iblk
    rw [View.read_apply]
    show (V m c main_v2 : Arr 8192) _ = _
    congr 1
    funext a
    apply Fin.ext
    match a with
    | ⟨0, _⟩ => show win0_0.index t 0 * 512 + 1 * r.val = t.val * 512 + r.val; rw [hi.1]; omega
    | ⟨1, _⟩ => show win0_0.index t 1 * 512 + 1 * k.val = k.val; rw [hi.2]; omega
  rw [h, entry_z]; rfl

theorem blk_u (t : Fin cfg0.N) (r k : Fin 512) :
    (iblk m c 1 t : Arr 512) (ix2 r k) = aU m c (ix2 (rowIx t r) k) := by
  have hi := (idx_facts t).2.1
  unfold iblk
  rw [View.read_apply]
  show (V m c main_arg1 : Arr 8192) _ = _
  rw [V_main_arg1]
  show aU m c _ = _
  congr 1
  funext a
  apply Fin.ext
  match a with
  | ⟨0, _⟩ => show win0_1.index t 0 * 512 + 1 * r.val = t.val * 512 + r.val; rw [hi.1]; omega
  | ⟨1, _⟩ => show win0_1.index t 1 * 512 + 1 * k.val = k.val; rw [hi.2]; omega

theorem blk_d (t : Fin cfg0.N) (k : Fin 512) :
    (iblk m c 2 t : Arr 1) (ix2 0 k) = aD m c (ix2 0 k) := by
  have hi := (idx_facts t).2.2.1
  unfold iblk
  rw [View.read_apply]
  show (V m c main_arg2 : Arr 1) _ = _
  rw [V_main_arg2]
  show aD m c _ = _
  congr 1
  funext a
  apply Fin.ext
  match a with
  | ⟨0, _⟩ => show win0_2.index t 0 * 1 + 1 * 0 = 0; rw [hi.1]
  | ⟨1, _⟩ => show win0_2.index t 1 * 512 + 1 * k.val = k.val; rw [hi.2]; omega

theorem blk_w (t : Fin cfg0.N) (i j : Fin 512) :
    (iblk m c 3 t : Arr 512) (ix2 i j) = aW m c (ix2 i j) := by
  have hi := (idx_facts t).2.2.2.1
  have h : (iblk m c 3 t : Arr 512) (ix2 i j) = (V m c main_v3 : Arr 512) (ix2 i j) := by
    unfold iblk
    rw [View.read_apply]
    show (V m c main_v3 : Arr 512) _ = _
    congr 1
    funext a
    apply Fin.ext
    match a with
    | ⟨0, _⟩ => show win0_3.index t 0 * 512 + 1 * i.val = i.val; rw [hi.1]; omega
    | ⟨1, _⟩ => show win0_3.index t 1 * 512 + 1 * j.val = j.val; rw [hi.2]; omega
  rw [h, entry_w]

theorem blk_ct (t : Fin cfg0.N) (r k : Fin 512) :
    (iblk m c 4 t : Arr 512) (ix2 r k) = aCt m c (ix2 (rowIx t r) k) := by
  have hi := (idx_facts t).2.2.2.2.1
  unfold iblk
  rw [View.read_apply]
  show (V m c main_arg4 : Arr 8192) _ = _
  rw [V_main_arg4]
  show aCt m c _ = _
  congr 1
  funext a
  apply Fin.ext
  match a with
  | ⟨0, _⟩ => show win0_4.index t 0 * 512 + 1 * r.val = t.val * 512 + r.val; rw [hi.1]; omega
  | ⟨1, _⟩ => show win0_4.index t 1 * 512 + 1 * k.val = k.val; rw [hi.2]; omega

/-! ### Rows of the blocks -/

theorem row_z (t : Fin cfg0.N) (r : Fin 512) :
    rowOf (iblk m c 0 t : Arr 512) r = zRow (aY0 m c) (aU m c) (aD m c) (rowIx t r) :=
  funext fun k => blk_z m c t r k
theorem row_ct (t : Fin cfg0.N) (r : Fin 512) :
    rowOf (iblk m c 4 t : Arr 512) r = fun j => aCt m c (ix2 (rowIx t r) j) :=
  funext fun k => blk_ct m c t r k
theorem mat_w (t : Fin cfg0.N) : matOf (iblk m c 3 t : Arr 512) = fun i j => aW m c (ix2 i j) :=
  funext fun i => funext fun j => blk_w m c t i j

end Cert.Glu

end
-- ==== Proof.Glu.Arrays.lean ====
/-
  THE KERNEL'S RESULTS AS WHOLE ARRAYS.

  The two row results are written block by block.  The two sums stay in one block over the whole grid: after grid
  point `t` they hold the sum over the first `t + 1` blocks of rows.
-/
module

public import proofs.«01_k».proof.Proof.Glu.Blocks

@[expose] public section

noncomputable section

namespace Cert.Glu

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (c : Dev nD)

/-- Row `R`'s parts, of the launch's arguments. -/
abbrev partW (i j : Fin 512) : Fin 8192 → EReal := dwPart (aY0 m c) (aU m c) (aD m c) (aW m c) (aCt m c) i j
abbrev partD (k : Fin 512) : Fin 8192 → EReal := ddPart (aY0 m c) (aU m c) (aD m c) (aW m c) (aCt m c) k

/-- The row gradient a grid point computes, in terms of the arguments. -/
theorem block_dy (t : Fin cfg0.N) (r k : Fin 512) :
    dyBlock (iblk m c 0 t : Arr 512) (iblk m c 4 t) (iblk m c 3 t) (ix2 r k)
      = dyAt (aY0 m c) (aU m c) (aD m c) (aW m c) (aCt m c) (rowIx t r) k := by
  rw [dy_at, row_z, row_ct, mat_w]; rfl

theorem ext_row (f : Fin 8192 → EReal) (t : Fin cfg0.N) (r : Fin 512) :
    ext f (t.val * 512 + r.val) = f (rowIx t r) := ext_val f _ _

/-- Adding a block's part to the running sum of `w`'s gradient. -/
theorem step_w (t : Fin cfg0.N) (a : Arr 512) (i j : Fin 512)
    (ha : a (ix2 i j) = blocksSum (partW m c i j) t.val) :
    k0_pay5 (F := Ideal) (k0_pay16 (iblk m c 0 t) (iblk m c 3 t) (iblk m c 4 t)) a (ix2 i j)
      = blocksSum (partW m c i j) (t.val + 1) := by
  rw [accW_at, ha, blocksSum_succ]
  congr 1
  refine Finset.sum_congr rfl fun r _ => ?_
  rw [ext_row, row_z, row_ct, mat_w]; rfl

/-- Adding a block's part to the running sum of the skip vector's gradient. -/
theorem step_d (t : Fin cfg0.N) (a : Arr 1) (k : Fin 512) (ha : a (ix2 0 k) = blocksSum (partD m c k) t.val) :
    k0_pay6 (F := Ideal) (k0_pay9 (iblk m c 0 t)) (k0_pay11 (iblk m c 0 t)) (k0_pay12 (iblk m c 0 t))
        (k0_pay17 (iblk m c 0 t) (iblk m c 3 t) (iblk m c 4 t)) (k0_pay18 (iblk m c 0 t) (iblk m c 3 t) (iblk m c 4 t)) a (iblk m c 1 t)
        (ix2 0 k)
      = blocksSum (partD m c k) (t.val + 1) := by
  rw [accD_at, ha, blocksSum_succ]
  congr 1
  refine Finset.sum_congr rfl fun r _ => ?_
  rw [ext_row, row_z, row_ct, mat_w, blk_u]; rfl

theorem reset_w (i j : Fin 512) : k0_pay3 (F := Ideal) (ix2 i j) = 0 := by
  unfold k0_pay3; pointwise
theorem reset_d (k : Fin 512) : k0_pay4 (F := Ideal) (ix2 0 k) = 0 := by
  unfold k0_pay4; pointwise

/-! ### The row results -/

theorem out_dy (t : Fin cfg0.N) :
    (outsAt0 m c t.val t.isLt).1 = dyBlock (iblk m c 0 t : Arr 512) (iblk m c 4 t) (iblk m c 3 t) := by
  by_cases h : t.val % 16 = 0
  · rw [outsAt0_A m c t h]; dsimp only; exact outA5 ..
  · rw [outsAt0_B m c t h]; dsimp only; exact outB5 ..

theorem out_du (t : Fin cfg0.N) (r k : Fin 512) :
    ((outsAt0 m c t.val t.isLt).2.1 : Arr 512) (ix2 r k)
      = aD m c (ix2 0 k) * dyAt (aY0 m c) (aU m c) (aD m c) (aW m c) (aCt m c) (rowIx t r) k := by
  have h : (outsAt0 m c t.val t.isLt).2.1 = k0_pay2 (F := Ideal) (k0_pay9 (iblk m c 0 t)) (k0_pay11 (iblk m c 0 t)) (k0_pay12 (iblk m c 0 t))
        (k0_pay17 (iblk m c 0 t) (iblk m c 3 t) (iblk m c 4 t)) (k0_pay18 (iblk m c 0 t) (iblk m c 3 t) (iblk m c 4 t)) (iblk m c 2 t) := by
    by_cases h : t.val % 16 = 0
    · rw [outsAt0_A m c t h]; dsimp only; exact outA6 ..
    · rw [outsAt0_B m c t h]; dsimp only; exact outB6 ..
  rw [h, du_at, row_z, row_ct, mat_w, blk_d]; rfl

/-! ### The two sums, after each grid point -/

theorem out_sums : ∀ (n : ℕ) (hn : n < cfg0.N),
    (∀ i j : Fin 512, ((outsAt0 m c n hn).2.2.1 : Arr 512) (ix2 i j) = blocksSum (partW m c i j) (n + 1))
    ∧ (∀ k : Fin 512, ((outsAt0 m c n hn).2.2.2 : Arr 1) (ix2 0 k) = blocksSum (partD m c k) (n + 1))
  | 0, hn => by
    have h : (⟨0, hn⟩ : Fin cfg0.N).val % 16 = 0 := rfl
    have e := outsAt0_A m c ⟨0, hn⟩ h
    dsimp only at e
    rw [e]
    dsimp only
    refine ⟨fun i j => ?_, fun k => ?_⟩
    · rw [outA7]; exact step_w m c ⟨0, hn⟩ _ i j (by rw [reset_w]; exact (blocksSum_zero _).symm)
    · rw [outA8]; exact step_d m c ⟨0, hn⟩ _ k (by rw [reset_d]; exact (blocksSum_zero _).symm)
  | n + 1, hn => by
    have hN : cfg0.N = 16 := N_0
    have h : ¬ (⟨n + 1, hn⟩ : Fin cfg0.N).val % 16 = 0 := by dsimp only; omega
    have e := outsAt0_B m c ⟨n + 1, hn⟩ h
    dsimp only at e
    have ih := out_sums n (by omega)
    rw [e]
    dsimp only
    refine ⟨fun i j => ?_, fun k => ?_⟩
    · rw [outB7]; exact step_w m c ⟨n + 1, hn⟩ _ i j (ih.1 i j)
    · rw [outB8]; exact step_d m c ⟨n + 1, hn⟩ _ k (ih.2 k)

/-! ### Where an output block lies in its array -/

theorem read5 (t : Fin cfg0.N) (G : Arr 8192) (r k : Fin 512) :
    (((cfg0.win 5).blk t).view.read (Elt Ideal) G : Arr 512) (ix2 r k) = G (ix2 (rowIx t r) k) := by
  have hi := (idx_facts t).2.2.2.2.2.1
  rw [View.read_apply]
  show G _ = _
  congr 1
  funext a
  apply Fin.ext
  match a with
  | ⟨0, _⟩ => show win0_5.index t 0 * 512 + 1 * r.val = t.val * 512 + r.val; rw [hi.1]; omega
  | ⟨1, _⟩ => show win0_5.index t 1 * 512 + 1 * k.val = k.val; rw [hi.2]; omega

theorem read6 (t : Fin cfg0.N) (G : Arr 8192) (r k : Fin 512) :
    (((cfg0.win 6).blk t).view.read (Elt Ideal) G : Arr 512) (ix2 r k) = G (ix2 (rowIx t r) k) := by
  have hi := (idx_facts t).2.2.2.2.2.2.1
  rw [View.read_apply]
  show G _ = _
  congr 1
  funext a
  apply Fin.ext
  match a with
  | ⟨0, _⟩ => show win0_6.index t 0 * 512 + 1 * r.val = t.val * 512 + r.val; rw [hi.1]; omega
  | ⟨1, _⟩ => show win0_6.index t 1 * 512 + 1 * k.val = k.val; rw [hi.2]; omega

theorem read7 (t : Fin cfg0.N) (G : Arr 512) (i j : Fin 512) :
    (((cfg0.win 7).blk t).view.read (Elt Ideal) G : Arr 512) (ix2 i j) = G (ix2 i j) := by
  have hi := (idx_facts t).2.2.2.2.2.2.2.1
  rw [View.read_apply]
  show G _ = _
  congr 1
  funext a
  apply Fin.ext
  match a with
  | ⟨0, _⟩ => show win0_7.index t 0 * 512 + 1 * i.val = i.val; rw [hi.1]; omega
  | ⟨1, _⟩ => show win0_7.index t 1 * 512 + 1 * j.val = j.val; rw [hi.2]; omega

theorem read8 (t : Fin cfg0.N) (G : Arr 1) (k : Fin 512) :
    (((cfg0.win 8).blk t).view.read (Elt Ideal) G : Arr 1) (ix2 0 k) = G (ix2 0 k) := by
  have hi := (idx_facts t).2.2.2.2.2.2.2.2
  rw [View.read_apply]
  show G _ = _
  congr 1
  funext a
  apply Fin.ext
  match a with
  | ⟨0, _⟩ => show win0_8.index t 0 * 1 + 1 * 0 = 0; rw [hi.1]
  | ⟨1, _⟩ => show win0_8.index t 1 * 512 + 1 * k.val = k.val; rw [hi.2]; omega

/-- Two one-row arrays that agree along the row are equal. -/
theorem arr1_ext (f g : Arr 1) (h : ∀ k, f (ix2 0 k) = g (ix2 0 k)) : f = g := by
  funext i
  have e : i = ix2 0 (i 1) := (eq_ix2 i).trans (congrArg (fun a : Fin 1 => ix2 (n0 := 1) (n1 := 512) a (i 1)) (Subsingleton.elim (α := Fin 1) (i 0) 0))
  rw [e]; exact h _
/-- Two arrays that agree at every row and column are equal. -/
theorem arr_ext {n : Nat} (f g : Arr n) (h : ∀ r k, f (ix2 r k) = g (ix2 r k)) : f = g := by
  funext i
  rw [eq_ix2 i]; exact h _ _

/-! ### The final arrays -/

/-- The last grid point. -/
def tLast : Fin cfg0.N := ⟨15, by have hN : cfg0.N = 16 := N_0; omega⟩

/-- The grid point that handles row `R`. -/
def ptOf (R : Fin 8192) : Fin cfg0.N := ⟨R.val / 512, by have hN : cfg0.N = 16 := N_0; have := R.isLt; omega⟩

theorem final_dy : (dats m 0 c).arrAt 5 cfg0.N = dyArr (aY0 m c) (aU m c) (aD m c) (aW m c) (aCt m c) := by
  refine (dats m 0 c).arrAt_eq_of_cover 5 (dyArr (aY0 m c) (aU m c) (aD m c) (aW m c) (aCt m c)) ?_ ?_
  · intro t _
    rw [Value.flushed5, out_dy]
    exact arr_ext (n := 512) _ _ fun r k => (block_dy m c t r k).trans (read5 t (dyArr (aY0 m c) (aU m c) (aD m c) (aW m c) (aCt m c)) r k).symm
  · intro i
    have h0 : (i 0 : Nat) < 8192 := (i 0).isLt
    have h1 : (i 1 : Nat) < 512 := (i 1).isLt
    refine ⟨ptOf (i 0), flush0_5 _, ?_⟩
    have hi := (idx_facts (ptOf (i 0))).2.2.2.2.2.1
    show i ∈ ((View.whole main_v4_0).slice (win0_5.rect (ptOf (i 0)))).set
    rw [View.set_slice_whole, Rect.mem_set_unit]
    intro a
    match a with
    | ⟨0, _⟩ => show win0_5.index (ptOf (i 0)) 0 * 512 ≤ (i 0 : Nat) ∧ (i 0 : Nat) < win0_5.index (ptOf (i 0)) 0 * 512 + 512; rw [hi.1]; show (i 0).val / 512 * 512 ≤ _ ∧ _ < (i 0).val / 512 * 512 + 512; omega
    | ⟨1, _⟩ => show win0_5.index (ptOf (i 0)) 1 * 512 ≤ (i 1 : Nat) ∧ (i 1 : Nat) < win0_5.index (ptOf (i 0)) 1 * 512 + 512; rw [hi.2]; omega

theorem final_du : (dats m 0 c).arrAt 6 cfg0.N = duArr (aY0 m c) (aU m c) (aD m c) (aW m c) (aCt m c) := by
  refine (dats m 0 c).arrAt_eq_of_cover 6 (duArr (aY0 m c) (aU m c) (aD m c) (aW m c) (aCt m c)) ?_ ?_
  · intro t _
    rw [Value.flushed6]
    exact arr_ext (n := 512) _ _ fun r k => (out_du m c t r k).trans (read6 t (duArr (aY0 m c) (aU m c) (aD m c) (aW m c) (aCt m c)) r k).symm
  · intro i
    have h0 : (i 0 : Nat) < 8192 := (i 0).isLt
    have h1 : (i 1 : Nat) < 512 := (i 1).isLt
    refine ⟨ptOf (i 0), flush0_6 _, ?_⟩
    have hi := (idx_facts (ptOf (i 0))).2.2.2.2.2.2.1
    show i ∈ ((View.whole main_v4_1).slice (win0_6.rect (ptOf (i 0)))).set
    rw [View.set_slice_whole, Rect.mem_set_unit]
    intro a
    match a with
    | ⟨0, _⟩ => show win0_6.index (ptOf (i 0)) 0 * 512 ≤ (i 0 : Nat) ∧ (i 0 : Nat) < win0_6.index (ptOf (i 0)) 0 * 512 + 512; rw [hi.1]; show (i 0).val / 512 * 512 ≤ _ ∧ _ < (i 0).val / 512 * 512 + 512; omega
    | ⟨1, _⟩ => show win0_6.index (ptOf (i 0)) 1 * 512 ≤ (i 1 : Nat) ∧ (i 1 : Nat) < win0_6.index (ptOf (i 0)) 1 * 512 + 512; rw [hi.2]; omega

theorem final_dw : (dats m 0 c).arrAt 7 cfg0.N = dwArr (aY0 m c) (aU m c) (aD m c) (aW m c) (aCt m c) := by
  refine (dats m 0 c).arrAt_eq_of_cover 7 (dwArr (aY0 m c) (aU m c) (aD m c) (aW m c) (aCt m c)) ?_ ?_
  · intro t ht
    have h15 : t.val = 15 := by
      have := (flush0_7 t).mp ht; have hN : cfg0.N = 16 := N_0; have := t.isLt; omega
    rw [Value.flushed7]
    refine arr_ext (n := 512) _ _ fun i j => ((out_sums m c t.val t.isLt).1 i j).trans ?_
    rw [h15]
    exact (blocksSum_all (partW m c i j)).trans (read7 t (dwArr (aY0 m c) (aU m c) (aD m c) (aW m c) (aCt m c)) i j).symm
  · intro i
    have h0 : (i 0 : Nat) < 512 := (i 0).isLt
    have h1 : (i 1 : Nat) < 512 := (i 1).isLt
    refine ⟨tLast, (flush0_7 tLast).mpr rfl, ?_⟩
    have hi := (idx_facts tLast).2.2.2.2.2.2.2.1
    show i ∈ ((View.whole main_v4_2).slice (win0_7.rect tLast)).set
    rw [View.set_slice_whole, Rect.mem_set_unit]
    intro a
    match a with
    | ⟨0, _⟩ => show win0_7.index tLast 0 * 512 ≤ (i 0 : Nat) ∧ (i 0 : Nat) < win0_7.index tLast 0 * 512 + 512; rw [hi.1]; omega
    | ⟨1, _⟩ => show win0_7.index tLast 1 * 512 ≤ (i 1 : Nat) ∧ (i 1 : Nat) < win0_7.index tLast 1 * 512 + 512; rw [hi.2]; omega

theorem final_dd : (dats m 0 c).arrAt 8 cfg0.N = ddArr (aY0 m c) (aU m c) (aD m c) (aW m c) (aCt m c) := by
  refine (dats m 0 c).arrAt_eq_of_cover 8 (ddArr (aY0 m c) (aU m c) (aD m c) (aW m c) (aCt m c)) ?_ ?_
  · intro t ht
    have h15 : t.val = 15 := by
      have := (flush0_8 t).mp ht; have hN : cfg0.N = 16 := N_0; have := t.isLt; omega
    rw [Value.flushed8]
    refine arr1_ext _ _ fun k => ((out_sums m c t.val t.isLt).2 k).trans ?_
    rw [h15]
    exact (blocksSum_all (partD m c k)).trans (read8 t (ddArr (aY0 m c) (aU m c) (aD m c) (aW m c) (aCt m c)) k).symm
  · intro i
    have h0 : (i 0 : Nat) < 1 := (i 0).isLt
    have h1 : (i 1 : Nat) < 512 := (i 1).isLt
    refine ⟨tLast, (flush0_8 tLast).mpr rfl, ?_⟩
    have hi := (idx_facts tLast).2.2.2.2.2.2.2.2
    show i ∈ ((View.whole main_v4_3).slice (win0_8.rect tLast)).set
    rw [View.set_slice_whole, Rect.mem_set_unit]
    intro a
    match a with
    | ⟨0, _⟩ => show win0_8.index tLast 0 * 1 ≤ (i 0 : Nat) ∧ (i 0 : Nat) < win0_8.index tLast 0 * 1 + 1; rw [hi.1]; omega
    | ⟨1, _⟩ => show win0_8.index tLast 1 * 512 ≤ (i 1 : Nat) ∧ (i 1 : Nat) < win0_8.index tLast 1 * 512 + 512; rw [hi.2]; omega

end Cert.Glu

end
-- ==== Proof.Glu.Reference.lean ====
/-
  THE REFERENCE'S RESULTS, READ AT AN INDEX.

  The generated reading of each operation of the reference is chained into the row functions: the reference
  applies them to all 8192 rows and sums over all of them at once.
-/
module

public import proofs.«01_k».proof.Proof.Gen.ReferenceIdeal.Read
public import proofs.«01_k».proof.Proof.Glu.Results

@[expose] public section

noncomputable section

namespace Cert.Glu

open Cert.ReferenceIdeal Cert.ReferenceIdeal.Gen Cert.ReferenceIdeal.Read Idealize.ShloMosaic

variable (y0 u : Arr 8192) (d : Arr 1) (w : Arr 512) (ct : Arr 8192)

theorem ref_z (R : Fin 8192) (k : Fin 512) : val_main_v2 (F := Ideal) y0 u d (ix2 R k) = zRow y0 u d R k := by
  unfold val_main_v2 val_main_v1 val_main_v0 zRow
  pointwise

theorem ref_th (R : Fin 8192) (k : Fin 512) : val_main_v13 (F := Ideal) y0 u d (ix2 R k) = th (zRow y0 u d R) k := by
  unfold val_main_v13 val_main_v12 val_main_v11 val_main_v10 val_main_v9 val_main_v8 val_main_v4 val_main_v3 val_main_cst_0 val_main_cst_1 th
  pointwise [ref_z y0 u d]
  rw [mul_comm (zRow y0 u d R k * zRow y0 u d R k)]

theorem ref_fac (R : Fin 8192) (k : Fin 512) : val_main_v22 (F := Ideal) y0 u d (ix2 R k) = fac (zRow y0 u d R) k := by
  unfold val_main_v22 val_main_v21 val_main_v20 val_main_v19 val_main_cst_4 val_main_cst_5 fac
  pointwise [ref_th y0 u d]

theorem ref_gelu (R : Fin 8192) (k : Fin 512) : val_main_v23 (F := Ideal) y0 u d (ix2 R k) = gelu (zRow y0 u d R) k := by
  unfold val_main_v23 gelu
  pointwise [ref_z y0 u d, ref_fac y0 u d]

theorem ref_gate (R : Fin 8192) (k : Fin 512) :
    val_main_v30 (F := Ideal) y0 u d w (ix2 R k) = gate (zRow y0 u d R) (fun i j => w (ix2 i j)) k := by
  unfold val_main_v30 val_main_v29 val_main_v28 val_main_v27 val_main_v26 val_main_v25 val_main_v24 val_main_cst_6 val_main_cst_7 gate
    Ideal.logistic
  pointwise [dot_S8192x512_S512x512_S8192x512_1_0_0_1_n_n, ref_gelu y0 u d]

theorem ref_dArg (R : Fin 8192) (k : Fin 512) :
    val_main_v37 (F := Ideal) y0 u d w ct (ix2 R k)
      = dArg (zRow y0 u d R) (fun i j => w (ix2 i j)) (fun j => ct (ix2 R j)) k := by
  unfold val_main_v37 val_main_v35 val_main_v33 val_main_v32 val_main_v31 val_main_cst_8 dArg
  pointwise [ref_gelu y0 u d, ref_gate y0 u d w]

theorem ref_dGelu (R : Fin 8192) (k : Fin 512) :
    val_main_v41 (F := Ideal) y0 u d w ct (ix2 R k)
      = dGelu (zRow y0 u d R) (fun i j => w (ix2 i j)) (fun j => ct (ix2 R j)) k := by
  unfold val_main_v41 val_main_v40 val_main_v36 dGelu
  pointwise [dot_S8192x512_S512x512_S8192x512_1_1_0_0_n_n, ref_gate y0 u d w, ref_dArg y0 u d w ct]

theorem ref_dTh (R : Fin 8192) (k : Fin 512) :
    val_main_v48 (F := Ideal) y0 u d w ct (ix2 R k)
      = dTh (zRow y0 u d R) (fun i j => w (ix2 i j)) (fun j => ct (ix2 R j)) k := by
  unfold val_main_v48 val_main_v47 val_main_v46 val_main_v45 val_main_v44 val_main_v42 val_main_v18 val_main_v17 val_main_v16 val_main_v15
    val_main_v14 val_main_cst_2 val_main_cst_3 val_main_cst_9 val_main_cst_10 dTh
  pointwise [ref_z y0 u d, ref_th y0 u d, ref_dGelu y0 u d w ct]

theorem ref_dy (R : Fin 8192) (k : Fin 512) :
    val_main_v53 (F := Ideal) y0 u d w ct (ix2 R k) = dyAt y0 u d w ct R k := by
  unfold val_main_v53 val_main_v52 val_main_v51 val_main_v50 val_main_v49 val_main_v43 val_main_v7 val_main_v6 val_main_v5 val_main_cst
    val_main_cst_11 dyAt dZ
  pointwise [ref_z y0 u d, ref_fac y0 u d, ref_dGelu y0 u d w ct, ref_dTh y0 u d w ct]

/-- The reference's gradient of `y0`. -/
theorem ref_dyArr : val_main_v53 (F := Ideal) y0 u d w ct = dyArr y0 u d w ct := by
  funext i
  rw [eq_ix2 i]
  exact ref_dy y0 u d w ct (i 0) (i 1)

/-- The reference's gradient of `u`. -/
theorem ref_duArr : val_main_v55 (F := Ideal) y0 u d w ct = duArr y0 u d w ct := by
  funext i
  rw [eq_ix2 i]
  unfold val_main_v55 val_main_v54 duArr
  pointwise
  rw [ref_dyArr]
  rfl

/-- The reference's gradient of `w`: one sum over all rows, transposed. -/
theorem ref_dwArr : val_main_v39 (F := Ideal) y0 u d w ct = dwArr y0 u d w ct := by
  funext i
  rw [eq_ix2 i]
  unfold val_main_v39 val_main_v38 dwArr dwPart
  pointwise [dot_S8192x512_S8192x512_S512x512_0_0_1_1_n_n, ref_gelu y0 u d, ref_dArg y0 u d w ct]
  exact Finset.sum_congr rfl fun R _ => mul_comm _ _

/-- The reference's gradient of the skip vector: one sum over all rows. -/
theorem ref_ddArr : val_main_v58 (F := Ideal) y0 u d w ct = ddArr y0 u d w ct := by
  funext i
  rw [eq_ix2 i]
  unfold val_main_v58 val_main_v57 val_main_v56 val_main_cst_12 ddArr ddPart
  pointwise [ref_dy y0 u d w ct]

end Cert.Glu

end
-- ==== Proof.Glu.Claims.lean ====
/-
  THE KERNEL'S RUN AND THE REFERENCE'S RUN, AT THE SAME FOUR ARRAYS.
-/
module

public import proofs.«01_k».proof.Proof.Glu.Arrays
public import proofs.«01_k».proof.Proof.Glu.Reference

@[expose] public section

noncomputable section

namespace Cert.Glu

open Idealize.ShloMosaic Idealize.SL.Sem

section
open Cert.KernelIdeal Cert.KernelIdeal.Gen

/-- The kernel's run: the four results as functions of the arguments, the arguments unchanged. -/
theorem kernel_run (m : (ℓ : Loc nD τ sig) → Buf (Elt Ideal) ℓ) (ρ : Dev nD → PrngReg) :
    θ_run defs (onTc main) ⟨m, fun _ => 0, ρ⟩ fun r => ∀ c,
      r.2.mem (c.tc.loc main_v4_0) = dyArr (aY0 m c) (aU m c) (aD m c) (aW m c) (aCt m c)
      ∧ r.2.mem (c.tc.loc main_v4_1) = duArr (aY0 m c) (aU m c) (aD m c) (aW m c) (aCt m c)
      ∧ r.2.mem (c.tc.loc main_v4_2) = dwArr (aY0 m c) (aU m c) (aD m c) (aW m c) (aCt m c)
      ∧ r.2.mem (c.tc.loc main_v4_3) = ddArr (aY0 m c) (aU m c) (aD m c) (aW m c) (aCt m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) :=
  (θ_run defs _ _).mono (fun r h c => ⟨(h c).1.trans (final_dy m c), (h c).2.1.trans (final_du m c),
    (h c).2.2.1.trans (final_dw m c), (h c).2.2.2.1.trans (final_dd m c), (h c).2.2.2.2⟩) (Value.run_blocks m ρ)

end

/-- The reference's run, at the same functions. -/
theorem reference_run (m : (ℓ : Loc Cert.ReferenceIdeal.nD Cert.ReferenceIdeal.τ Cert.ReferenceIdeal.sig) → Buf (Elt Ideal) ℓ)
    (ρ : Dev Cert.ReferenceIdeal.nD → PrngReg) (y0 u : Dev Cert.ReferenceIdeal.nD → Arr 8192)
    (d : Dev Cert.ReferenceIdeal.nD → Arr 1) (w : Dev Cert.ReferenceIdeal.nD → Arr 512) (ct : Dev Cert.ReferenceIdeal.nD → Arr 8192)
    (hm : ∀ c : Dev Cert.ReferenceIdeal.nD,
      m ((c.tc : Thread Cert.ReferenceIdeal.nD Cert.ReferenceIdeal.τ).loc Cert.ReferenceIdeal.main_arg0) = y0 c
      ∧ m ((c.tc : Thread Cert.ReferenceIdeal.nD Cert.ReferenceIdeal.τ).loc Cert.ReferenceIdeal.main_arg1) = u c
      ∧ m ((c.tc : Thread Cert.ReferenceIdeal.nD Cert.ReferenceIdeal.τ).loc Cert.ReferenceIdeal.main_arg2) = d c
      ∧ m ((c.tc : Thread Cert.ReferenceIdeal.nD Cert.ReferenceIdeal.τ).loc Cert.ReferenceIdeal.main_arg3) = w c
      ∧ m ((c.tc : Thread Cert.ReferenceIdeal.nD Cert.ReferenceIdeal.τ).loc Cert.ReferenceIdeal.main_arg4) = ct c) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
      r.2.mem ((c.tc : Thread Cert.ReferenceIdeal.nD Cert.ReferenceIdeal.τ).loc Cert.ReferenceIdeal.main_v53) = dyArr (y0 c) (u c) (d c) (w c) (ct c)
      ∧ r.2.mem ((c.tc : Thread Cert.ReferenceIdeal.nD Cert.ReferenceIdeal.τ).loc Cert.ReferenceIdeal.main_v55) = duArr (y0 c) (u c) (d c) (w c) (ct c)
      ∧ r.2.mem ((c.tc : Thread Cert.ReferenceIdeal.nD Cert.ReferenceIdeal.τ).loc Cert.ReferenceIdeal.main_v39) = dwArr (y0 c) (u c) (d c) (w c) (ct c)
      ∧ r.2.mem ((c.tc : Thread Cert.ReferenceIdeal.nD Cert.ReferenceIdeal.τ).loc Cert.ReferenceIdeal.main_v58) = ddArr (y0 c) (u c) (d c) (w c) (ct c)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4) := by
  refine (θ_run _ _ _).mono (fun r h c => ?_) (Cert.ReferenceIdeal.Value.run m ρ)
  obtain ⟨h0, h1, h2, h3, h4⟩ := hm c
  obtain ⟨r0, r1, r2, r3, hr⟩ := h c
  refine ⟨r0.trans ?_, r1.trans ?_, r2.trans ?_, r3.trans ?_, hr⟩
  · rw [Cert.ReferenceIdeal.Read.val_main_v53_eq, h0, h1, h2, h3, h4]; exact ref_dyArr ..
  · rw [Cert.ReferenceIdeal.Read.val_main_v55_eq, h0, h1, h2, h3, h4]; exact ref_duArr ..
  · rw [Cert.ReferenceIdeal.Read.val_main_v39_eq, h0, h1, h2, h3, h4]; exact ref_dwArr ..
  · rw [Cert.ReferenceIdeal.Read.val_main_v58_eq, h0, h1, h2, h3, h4]; exact ref_ddArr ..

end Cert.Glu

end
-- ==== Proof.Mlp.Sums.lean ====
/-
  SUMS OF TILES.

  A tiled product adds, at step `s` of a run of `J` steps, the part of its long sum that runs over tile `s`.  The
  partial sums below are the values carried between the steps; after the last step they are the whole sum.
-/
module

public import Idealize.ShloMosaic.Lib.Pointwise
public import Idealize.ShloMosaic.Lib.Pipeline.Value

@[expose] public section

noncomputable section

namespace Cert.Mlp

open Idealize.ShloMosaic Idealize.SL.Sem

/-- The contents of every buffer on every device. -/
abbrev Memory (nD : Nat) (τ : Topo) (sig : RefSig) := (ℓ : Loc nD τ sig) → Buf (Elt Ideal) ℓ

/-- An array of `a` rows and `b` columns of extended reals. -/
abbrev A2 (a b : Nat) := (⟨2, ![a, b]⟩ : Shape).Idx → EReal
/-- A stack of `p` such arrays. -/
abbrev A3 (p a b : Nat) := (⟨3, ![p, a, b]⟩ : Shape).Idx → EReal

theorem origin2 : (![0, 0] : Fin 2 → Nat) = fun _ => 0 := funext fun a => by fin_cases a <;> rfl
theorem origin3 : (![0, 0, 0] : Fin 3 → Nat) = fun _ => 0 := funext fun a => by fin_cases a <;> rfl

/-- Two arrays that agree at every row and column are equal. -/
theorem ext2 {a b : Nat} (f g : A2 a b) (h : ∀ r k, f (ix2 r k) = g (ix2 r k)) : f = g := by
  funext i
  rw [eq_ix2 i]; exact h _ _

/-- Two one-row arrays that agree along the row are equal. -/
theorem ext1 {b : Nat} (f g : A2 1 b) (h : ∀ k, f (ix2 0 k) = g (ix2 0 k)) : f = g := by
  funext i
  have e : i = ix2 0 (i 1) := (eq_ix2 i).trans (congrArg (fun a : Fin 1 => ix2 (n0 := 1) (n1 := b) a (i 1)) (Subsingleton.elim (α := Fin 1) (i 0) 0))
  rw [e]; exact h _

/-- A function on `Fin n`, zero beyond. -/
def ext {n : Nat} (f : Fin n → EReal) (k : Nat) : EReal := if h : k < n then f ⟨k, h⟩ else 0

theorem ext_val {n : Nat} (f : Fin n → EReal) (k : Nat) (h : k < n) : ext f k = f ⟨k, h⟩ := dif_pos h

/-- The sum over the first `s` tiles of `T` terms. -/
def tiles {n : Nat} (T : Nat) (f : Fin n → EReal) (s : Nat) : EReal :=
  ∑ j ∈ Finset.range s, ∑ k : Fin T, ext f (j * T + k.val)

theorem tiles_zero {n : Nat} (T : Nat) (f : Fin n → EReal) : tiles T f 0 = 0 := Finset.sum_range_zero _

theorem tiles_succ {n : Nat} (T : Nat) (f : Fin n → EReal) (s : Nat) :
    tiles T f (s + 1) = tiles T f s + ∑ k : Fin T, ext f (s * T + k.val) := Finset.sum_range_succ _ _

/-- All the tiles together are the whole sum. -/
theorem tiles_all {n : Nat} (J T : Nat) (f : Fin n → EReal) (h : J * T = n) : tiles T f J = ∑ k, f k := by
  subst h
  rw [Fin.sum_univ_tiles J T rfl, tiles, Finset.sum_range]
  refine Finset.sum_congr rfl fun j _ => Finset.sum_congr rfl fun k _ => ?_
  exact ext_val f _ _

/-- One more step of a tiled product: what is carried, plus the products over tile `s`. -/
theorem tiles_step {n : Nat} (T : Nat) (f : Fin n → EReal) (s : Nat) (acc : EReal) (g : Fin T → EReal)
    (ha : acc = tiles T f s) (hg : ∀ k : Fin T, g k = ext f (s * T + k.val)) :
    acc + ∑ k, g k = tiles T f (s + 1) := by
  rw [tiles_succ, ha]
  exact congrArg _ (Finset.sum_congr rfl fun k _ => hg k)

/-- Reading a buffer back through the rectangle that the last store filled gives what that store wrote. -/
theorem readCov_last {S : Shape} {κ : Kind} {sp : Space} {e : EltTy} {sig : RefSig} (v : View sig κ sp S e)
    {off : Fin S.rank → Nat} (h : off = fun _ => 0) (inb : ∀ a, off a + S.size a ≤ S.size a) (w : S.Idx → Elt Ideal e)
    (L : List (View.Piece (Elt Ideal) S e)) :
    v.readCov ((⟨Rect.unit off S.size inb, w⟩ : View.Piece (Elt Ideal) S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- Dividing by 1024 is multiplying by the constant `2⁻¹⁰`. -/
theorem div_1024 (x : EReal) : Ideal.div x (Ideal.ofBits .f32 0x44800000#32) = x * Ideal.ofBits .f32 0x3A800000#32 := by
  have h1 : Ideal.ofBits .f32 0x44800000#32 = ((1024 : ℝ) : EReal) := by
    simp [Ideal.ofBits, Ideal.ieee, -EReal.coe_mul]; norm_num
  have h2 : Ideal.ofBits .f32 0x3A800000#32 = ((1 / 1024 : ℝ) : EReal) := by
    simp [Ideal.ofBits, Ideal.ieee, -EReal.coe_mul]; norm_num
  rw [h1, h2]; exact Ideal.div_coe (by norm_num) x

/-- The constant one half, as the programs write it. -/
abbrev half : EReal := Ideal.ofBits .f32 0x3F000000#32

theorem half_eq : half = ((1 / 2 : ℝ) : EReal) := by
  simp [half, Ideal.ofBits, Ideal.ieee, -EReal.coe_mul]; norm_num

/-- The derivative of half the mean square: half of `1 / 1024`, times twice the difference, is the difference times `2⁻¹⁰`. -/
theorem half_grad (e : EReal) :
    Ideal.div half (Ideal.ofBits .f32 0x44800000#32) * (Ideal.ofBits .f32 0x40000000#32 * e)
      = e * Ideal.ofBits .f32 0x3A800000#32 := by
  have h2 : Ideal.ofBits .f32 0x40000000#32 = ((2 : ℝ) : EReal) := by
    simp [Ideal.ofBits, Ideal.ieee, -EReal.coe_mul]; norm_num
  have h3 : half * (((2 : ℝ) : EReal)) = 1 := by
    rw [half_eq, ← EReal.coe_mul]; norm_num
  rw [div_1024, h2]
  calc half * Ideal.ofBits .f32 0x3A800000#32 * (((2 : ℝ) : EReal) * e)
      = (half * ((2 : ℝ) : EReal)) * (e * Ideal.ofBits .f32 0x3A800000#32) := by ac_rfl
    _ = _ := by rw [h3, one_mul]

/-- One half goes through a finite sum. -/
theorem half_sum {ι : Type} (s : Finset ι) (f : ι → EReal) : half * ∑ i ∈ s, f i = ∑ i ∈ s, half * f i := by
  classical
  have hn : (0 : EReal) ≤ half := by rw [half_eq]; exact_mod_cast (by norm_num : (0 : ℝ) ≤ 1 / 2)
  have ht : half ≠ ⊤ := by rw [half_eq]; exact EReal.coe_ne_top _
  induction s using Finset.induction_on with
  | empty => simp
  | insert a s ha ih => rw [Finset.sum_insert ha, Finset.sum_insert ha, EReal.left_distrib_of_nonneg_of_ne_top hn ht, ih]

end Cert.Mlp

end
-- ==== Proof.Mlp.DAct.lean ====
/-
  THE COTANGENT OF THE MLP'S PRE-ACTIVATIONS, AS THE KERNEL COMPUTES IT.

  Grid point `2 p + q` computes the block of rows `1024 p …` and columns `2048 q …`: the cotangent of the result times
  the second matrix transposed, times the derivative of the squared relu.
-/
module

public import proofs.«01_k».proof.Proof.Gen.DActIdeal.Value
public import proofs.«01_k».proof.Proof.Mlp.Sums

@[expose] public section

noncomputable section

namespace Cert.Mlp.DAct

open Cert.DActIdeal Cert.DActIdeal.Gen Idealize.ShloMosaic Idealize.ShloMosaic.TcCoe Idealize.SL.Sem
open Idealize.ShloMosaic.StableHlo

/-- The constant two, as the programs write it. -/
abbrev two : EReal := Ideal.ofBits .f32 0x40000000#32

theorem outA (c : Dev nD) (i : grid0.Coords) (a : Memref sig .tc .vmem S1024x1024 .bf16) (ha : a.IsWhole)
    (b : Memref sig .tc .vmem S2048x1024 .bf16) (hb : b.IsWhole) (u : Memref sig .tc .vmem S1024x2048 .bf16) (hu : u.IsWhole)
    (o : Memref sig .tc .vmem S1024x2048 .bf16) (ho : o.IsWhole) (s : Memref sig .tc .vmem S1024x2048 .f32) (hs : s.IsWhole)
    (x : Vec Ideal S1024x1024 .bf16) (y : Vec Ideal S2048x1024 .bf16) (act : Vec Ideal S1024x2048 .bf16)
    (h0 : cond0_0 i) (h1 : cond0_1 i) :
    out0_A_3 c i a ha b hb u hu o ho s hs h0 h1 x y act = k0_pay3 (k0_pay2 x (k0_pay1 (F := Ideal)) y) act := by
  unfold out0_A_3
  rw [View.read_writes_eq_canon _ _ _ (cover0_A_3 c i a ha b hb u hu o ho s hs h0 h1 x y act)]
  unfold kernelRun0_A
  dsimp only
  sl_unfold_words
  rw [View.canon_unit_zero (S := S1024x2048) origin2]
  simp only [readCov_last (S := S1024x2048) _ origin2, View.readCov_unit_zero (S := S1024x2048) _ origin2,
    View.readAt_eq_ld, ha.read_unread, hb.read_unread, hu.read_unread, View.ld_unit_zero (S := S1024x1024) origin2,
    View.ld_unit_zero (S := S2048x1024) origin2, View.ld_unit_zero (S := S1024x2048) origin2, shapeCast_self]

/-- One entry of a block. -/
theorem block_at (x : Vec Ideal S1024x1024 .bf16) (y : Vec Ideal S2048x1024 .bf16) (act : Vec Ideal S1024x2048 .bf16)
    (r : Fin 1024) (j : Fin 2048) :
    (k0_pay3 (k0_pay2 x (k0_pay1 (F := Ideal)) y) act : A2 1024 2048) (ix2 r j)
      = (∑ k : Fin 1024, (x : A2 1024 1024) (ix2 r k) * (y : A2 2048 1024) (ix2 j k)) * (two * max ((act : A2 1024 2048) (ix2 r j)) 0) := by
  unfold k0_pay3 k0_pay2 k0_pay1
  pointwise [dot_S1024x1024_S2048x1024_S1024x2048_1_1_0_0_n_n]

/-! ### The blocks -/

variable (m : (ℓ : Loc nD τ sig) → Buf (Elt Ideal) ℓ) (c : Dev nD)

/-- The arguments as launched: the pre-activations, the second matrix, the cotangent of the MLP's result. -/
abbrev aAct : A2 8192 4096 := m (c.tc.loc main_arg0)
abbrev aW : A2 4096 1024 := m (c.tc.loc main_arg1)
abbrev aCt : A2 8192 1024 := m (c.tc.loc main_arg2)

theorem idx_facts : ∀ t : Fin cfg0.N,
    (win0_0.index t 0 = t.val / 2 ∧ win0_0.index t 1 = 0) ∧ (win0_1.index t 0 = t.val % 2 ∧ win0_1.index t 1 = 0)
    ∧ (win0_2.index t 0 = t.val / 2 ∧ win0_2.index t 1 = t.val % 2) ∧ (win0_3.index t 0 = t.val / 2 ∧ win0_3.index t 1 = t.val % 2) :=
  (by decide +kernel : ∀ t : Fin grid0.N, _)

theorem entry_ct : (V m c main_v0 : A2 8192 1024) = aCt m c := by
  show StableHlo.after hostOps0 _ main_v0 = _
  unfold hostOps0
  after_results
  rfl

theorem entry_w : (V m c main_v1 : A2 4096 1024) = aW m c := by
  show StableHlo.after hostOps0 _ main_v1 = _
  unfold hostOps0
  after_results
  rfl

theorem entry_act : (V m c main_v2 : A2 8192 4096) = aAct m c := by
  show StableHlo.after hostOps0 _ main_v2 = _
  unfold hostOps0
  after_results
  rfl

/-- The result's row and column of entry `(r, j)` of block `t`. -/
def rowIx (t : Fin cfg0.N) (r : Fin 1024) : Fin 8192 :=
  ⟨t.val / 2 * 1024 + r.val, by have hN : cfg0.N = 16 := N_0; omega⟩
def colIx (t : Fin cfg0.N) (j : Fin 2048) : Fin 4096 :=
  ⟨t.val % 2 * 2048 + j.val, by omega⟩

theorem blk_ct (t : Fin cfg0.N) (r k : Fin 1024) :
    (iblk m c 0 t : A2 1024 1024) (ix2 r k) = aCt m c (ix2 (rowIx t r) k) := by
  have hi := (idx_facts t).1
  rw [← entry_ct]
  unfold iblk
  rw [View.read_apply]
  show (V m c main_v0 : A2 8192 1024) _ = _
  congr 1
  funext a
  apply Fin.ext
  match a with
  | ⟨0, _⟩ => show win0_0.index t 0 * 1024 + 1 * r.val = t.val / 2 * 1024 + r.val; rw [hi.1]; omega
  | ⟨1, _⟩ => show win0_0.index t 1 * 1024 + 1 * k.val = k.val; rw [hi.2]; omega

theorem blk_w (t : Fin cfg0.N) (j : Fin 2048) (k : Fin 1024) :
    (iblk m c 1 t : A2 2048 1024) (ix2 j k) = aW m c (ix2 (colIx t j) k) := by
  have hi := (idx_facts t).2.1
  rw [← entry_w]
  unfold iblk
  rw [View.read_apply]
  show (V m c main_v1 : A2 4096 1024) _ = _
  congr 1
  funext a
  apply Fin.ext
  match a with
  | ⟨0, _⟩ => show win0_1.index t 0 * 2048 + 1 * j.val = t.val % 2 * 2048 + j.val; rw [hi.1]; omega
  | ⟨1, _⟩ => show win0_1.index t 1 * 1024 + 1 * k.val = k.val; rw [hi.2]; omega

theorem blk_act (t : Fin cfg0.N) (r : Fin 1024) (j : Fin 2048) :
    (iblk m c 2 t : A2 1024 2048) (ix2 r j) = aAct m c (ix2 (rowIx t r) (colIx t j)) := by
  have hi := (idx_facts t).2.2.1
  rw [← entry_act]
  unfold iblk
  rw [View.read_apply]
  show (V m c main_v2 : A2 8192 4096) _ = _
  congr 1
  funext a
  apply Fin.ext
  match a with
  | ⟨0, _⟩ => show win0_2.index t 0 * 1024 + 1 * r.val = t.val / 2 * 1024 + r.val; rw [hi.1]; omega
  | ⟨1, _⟩ => show win0_2.index t 1 * 2048 + 1 * j.val = t.val % 2 * 2048 + j.val; rw [hi.2]; omega

/-! ### The final array -/

/-- The cotangent of the pre-activations. -/
def dactArr (act : A2 8192 4096) (w : A2 4096 1024) (ct : A2 8192 1024) : A2 8192 4096 := fun i =>
  (∑ k : Fin 1024, ct (ix2 (i 0) k) * w (ix2 (i 1) k)) * (two * max (act i) 0)

theorem read3 (t : Fin cfg0.N) (G : A2 8192 4096) (r : Fin 1024) (j : Fin 2048) :
    (((cfg0.win 3).blk t).view.read (Elt Ideal) G : A2 1024 2048) (ix2 r j) = G (ix2 (rowIx t r) (colIx t j)) := by
  have hi := (idx_facts t).2.2.2
  rw [View.read_apply]
  show G _ = _
  congr 1
  funext a
  apply Fin.ext
  match a with
  | ⟨0, _⟩ => show win0_3.index t 0 * 1024 + 1 * r.val = t.val / 2 * 1024 + r.val; rw [hi.1]; omega
  | ⟨1, _⟩ => show win0_3.index t 1 * 2048 + 1 * j.val = t.val % 2 * 2048 + j.val; rw [hi.2]; omega

theorem final : (dats m 0 c).arrAt 3 cfg0.N = dactArr (aAct m c) (aW m c) (aCt m c) := by
  refine (dats m 0 c).arrAt_eq_of_cover 3 (dactArr (aAct m c) (aW m c) (aCt m c)) ?_ ?_
  · intro t _
    rw [Value.flushed3_A, outA]
    refine ext2 (a := 1024) (b := 2048) _ _ fun r j => ?_
    refine (block_at _ _ _ r j).trans (Eq.trans ?_ (read3 t (dactArr (aAct m c) (aW m c) (aCt m c)) r j).symm)
    rw [blk_act]
    simp only [blk_ct, blk_w]
    rfl
  · intro i
    have h0 : (i 0 : Nat) < 8192 := (i 0).isLt
    have h1 : (i 1 : Nat) < 4096 := (i 1).isLt
    have hN : cfg0.N = 16 := N_0
    let t : Fin cfg0.N := ⟨2 * ((i 0 : Nat) / 1024) + (i 1 : Nat) / 2048, by omega⟩
    refine ⟨t, flush0_3 t, ?_⟩
    have hi := (idx_facts t).2.2.2
    have e0 : win0_3.index t 0 = (i 0 : Nat) / 1024 := hi.1.trans (by show (2 * ((i 0 : Nat) / 1024) + (i 1 : Nat) / 2048) / 2 = _; omega)
    have e1 : win0_3.index t 1 = (i 1 : Nat) / 2048 := hi.2.trans (by show (2 * ((i 0 : Nat) / 1024) + (i 1 : Nat) / 2048) % 2 = _; omega)
    show i ∈ ((View.whole main_v3).slice (win0_3.rect t)).set
    rw [View.set_slice_whole, Rect.mem_set_unit]
    intro a
    match a with
    | ⟨0, _⟩ => show win0_3.index t 0 * 1024 ≤ (i 0 : Nat) ∧ (i 0 : Nat) < win0_3.index t 0 * 1024 + 1024; rw [e0]; omega
    | ⟨1, _⟩ => show win0_3.index t 1 * 2048 ≤ (i 1 : Nat) ∧ (i 1 : Nat) < win0_3.index t 1 * 2048 + 2048; rw [e1]; omega

end Cert.Mlp.DAct

end
-- ==== Proof.Mlp.DActClaims.lean ====
/-
  THE COTANGENT OF THE MLP'S PRE-ACTIVATIONS: THE KERNEL'S RUN AND THE REFERENCE'S RUN, AT THE SAME ARRAYS.
-/
module

public import proofs.«01_k».proof.Proof.Mlp.DAct
public import proofs.«01_k».proof.Proof.Gen.DActRefIdeal.Read

@[expose] public section

noncomputable section

namespace Cert.Mlp.DAct

open Idealize.ShloMosaic Idealize.SL.Sem

section Reference
open Cert.DActRefIdeal Cert.DActRefIdeal.Gen Cert.DActRefIdeal.Read

/-- Where the pre-activation is not positive both sides are zero: the kernel's factor is, and the reference selects zero. -/
theorem ref_value (act : A2 8192 4096) (w : A2 4096 1024) (ct : A2 8192 1024) :
    (val_main_v14 (F := Ideal) act w ct : A2 8192 4096) = dactArr act w ct := by
  refine ext2 _ _ fun R J => ?_
  unfold val_main_v14 val_main_v13 val_main_v12 val_main_v11 val_main_v10 val_main_v6 val_main_v5 val_main_v2 val_main_v1 val_main_v0
    val_main_cst val_main_cst_1 val_main_cst_2 val_main_call0_v0 val_main_call0_cst dactArr
  pointwise [dot_S8192x1024_S4096x1024_S8192x4096_1_1_0_0_n_n]
  split
  · rfl
  · rw [max_eq_right (not_lt.mp ‹_›), mul_zero, mul_zero]

end Reference

section Kernel
open Cert.DActIdeal Cert.DActIdeal.Gen

/-- The kernel's run: its results; its arguments stay. -/
theorem kernel_run (m : (ℓ : Loc nD τ sig) → Buf (Elt Ideal) ℓ) (ρ : Dev nD → PrngReg) :
    θ_run defs (onTc main) ⟨m, fun _ => 0, ρ⟩ fun r => ∀ c,
      r.2.mem (c.tc.loc main_v3) = dactArr (aAct m c) (aW m c) (aCt m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨(h c).1.trans (final m c), (h c).2⟩) (Value.run_blocks m ρ)

end Kernel

section Reference
open Cert.DActRefIdeal Cert.DActRefIdeal.Gen

/-- The reference's run, at the same functions. -/
theorem reference_run (m : (ℓ : Loc nD τ sig) → Buf (Elt Ideal) ℓ) (ρ : Dev nD → PrngReg)
    (p0 : Dev nD → A2 8192 4096) (p1 : Dev nD → A2 4096 1024) (p2 : Dev nD → A2 8192 1024)
    (hm : ∀ c, m (c.tc.loc main_arg0) = p0 c
      ∧ m (c.tc.loc main_arg1) = p1 c
      ∧ m (c.tc.loc main_arg2) = p2 c) :
    θ_run defs (onTc main) ⟨m, fun _ => 0, ρ⟩ fun r => ∀ c,
      r.2.mem (c.tc.loc main_v14) = dactArr (p0 c) (p1 c) (p2 c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  refine (θ_run _ _ _).mono (fun r h c => ?_) (Value.run m ρ)
  obtain ⟨h0, h1, h2⟩ := hm c
  obtain ⟨r0, hr⟩ := h c
  refine ⟨r0.trans ?_, hr⟩
  · rw [Read.val_main_v14_eq, h0, h1, h2]; exact ref_value ..

end Reference

end Cert.Mlp.DAct

end
-- ==== Proof.Mlp.DwDown.lean ====
/-
  THE GRADIENT OF THE MLP'S SECOND MATRIX, AS THE KERNEL COMPUTES IT.

  Grid point `4 q + s` adds, to the block of rows `1024 q …` of the result, the products over rows
  `2048 s … 2048 s + 2047` of the batch.
-/
module

public import proofs.«01_k».proof.Proof.Gen.DwDownIdeal.Value
public import proofs.«01_k».proof.Proof.Mlp.Sums

@[expose] public section

noncomputable section

namespace Cert.Mlp.DwDown

open Cert.DwDownIdeal Cert.DwDownIdeal.Gen Idealize.ShloMosaic Idealize.ShloMosaic.TcCoe Idealize.SL.Sem
open Idealize.ShloMosaic.StableHlo

/-! ### The stores, read back -/

section Stores
variable (c : Dev nD) (i : grid0.Coords) (a : Memref sig .tc .vmem S2048x1024 .bf16) (ha : a.IsWhole)
  (b : Memref sig .tc .vmem S2048x1024 .bf16) (hb : b.IsWhole) (o : Memref sig .tc .vmem S1024x1024 .f32) (ho : o.IsWhole)
  (s : Memref sig .tc .vmem S1024x1024 .f32) (hs : s.IsWhole) (x y : Vec Ideal S2048x1024 .bf16) (acc : Vec Ideal S1024x1024 .f32)

theorem accA (h0 : cond0_0 i) (h1 : ¬cond0_1 i) :
    sout0_A_0 c i a ha b hb o ho s hs h0 h1 x y = k0_pay2 x (k0_pay1 (F := Ideal)) y := by
  unfold sout0_A_0
  rw [View.read_writes_eq_canon _ _ _ (scover0_A_0 c i a ha b hb o ho s hs h0 h1 x y)]
  unfold kernelRun0_A
  dsimp only
  sl_unfold_words
  rw [View.canon_cons_unit_zero (S := S1024x1024) origin2, View.readCov_unit_zero (S := S1024x1024) _ origin2]
  simp only [View.readAt_eq_ld, ha.read_unread, hb.read_unread, View.ld_unit_zero (S := S2048x1024) origin2, shapeCast_self]

theorem accB (h0 : ¬cond0_0 i) (h1 : ¬cond0_1 i) :
    sout0_B_0 c i a ha b hb o ho s hs h0 h1 x y acc = k0_pay2 x acc y := by
  unfold sout0_B_0
  rw [View.read_writes_eq_canon _ _ _ (scover0_B_0 c i a ha b hb o ho s hs h0 h1 x y acc)]
  unfold kernelRun0_B
  dsimp only
  sl_unfold_words
  rw [View.canon_unit_zero (S := S1024x1024) origin2]
  simp only [View.readAt_eq_ld, ha.read_unread, hb.read_unread, hs.read_unread, View.ld_unit_zero (S := S2048x1024) origin2,
    View.ld_unit_zero (S := S1024x1024) origin2, shapeCast_self]

theorem outC (h0 : ¬cond0_0 i) (h1 : cond0_1 i) :
    out0_C_2 c i a ha b hb o ho s hs h0 h1 x y acc = k0_pay2 x acc y := by
  unfold out0_C_2
  rw [View.read_writes_eq_canon _ _ _ (cover0_C_2 c i a ha b hb o ho s hs h0 h1 x y acc)]
  unfold kernelRun0_C
  dsimp only
  sl_unfold_words
  rw [View.canon_unit_zero (S := S1024x1024) origin2, View.readCov_unit_zero (S := S1024x1024) _ origin2]
  simp only [View.readAt_eq_ld, ha.read_unread, hb.read_unread, hs.read_unread, View.ld_unit_zero (S := S2048x1024) origin2,
    View.ld_unit_zero (S := S1024x1024) origin2, shapeCast_self]
end Stores

/-! ### One step's value -/

theorem zero_at (r j : Fin 1024) : k0_pay1 (F := Ideal) (ix2 r j) = 0 := by
  unfold k0_pay1; pointwise

theorem step_at (x y : Vec Ideal S2048x1024 .bf16) (acc : Vec Ideal S1024x1024 .f32) (r j : Fin 1024) :
    (k0_pay2 x acc y : A2 1024 1024) (ix2 r j)
      = acc (ix2 r j) + ∑ k : Fin 2048, max ((x : A2 2048 1024) (ix2 k r)) 0 * max ((x : A2 2048 1024) (ix2 k r)) 0 * (y : A2 2048 1024) (ix2 k j) := by
  unfold k0_pay2; pointwise [dot_S2048x1024_S2048x1024_S1024x1024_0_0_1_1_n_n]

/-! ### The blocks -/

variable (m : (ℓ : Loc nD τ sig) → Buf (Elt Ideal) ℓ) (c : Dev nD)

/-- The arguments as launched: the MLP's pre-activations and the cotangent of its result. -/
abbrev aAct : A2 8192 4096 := m (c.tc.loc main_arg0)
abbrev aCt : A2 8192 1024 := m (c.tc.loc main_arg2)

theorem idx_facts : ∀ t : Fin cfg0.N,
    (win0_0.index t 0 = t.val % 4 ∧ win0_0.index t 1 = t.val / 4) ∧ (win0_1.index t 0 = t.val % 4 ∧ win0_1.index t 1 = 0) :=
  (by decide +kernel : ∀ t : Fin grid0.N, _)

theorem entry_act : (V m c main_v0 : A2 8192 4096) = aAct m c := by
  show StableHlo.after hostOps0 _ main_v0 = _
  unfold hostOps0
  after_results
  rfl

theorem entry_ct : (V m c main_v1 : A2 8192 1024) = aCt m c := by
  show StableHlo.after hostOps0 _ main_v1 = _
  unfold hostOps0
  after_results
  rfl

theorem blk_act (t : Fin cfg0.N) (k : Fin 2048) (r : Fin 1024) (K : Fin 8192) (R : Fin 4096)
    (hK : K.val = t.val % 4 * 2048 + k.val) (hR : R.val = t.val / 4 * 1024 + r.val) :
    (iblk m c 0 t : A2 2048 1024) (ix2 k r) = aAct m c (ix2 K R) := by
  have hi := (idx_facts t).1
  rw [← entry_act]
  unfold iblk
  rw [View.read_apply]
  show (V m c main_v0 : A2 8192 4096) _ = _
  congr 1
  funext a
  apply Fin.ext
  match a with
  | ⟨0, _⟩ => show win0_0.index t 0 * 2048 + 1 * k.val = K.val; rw [hi.1]; omega
  | ⟨1, _⟩ => show win0_0.index t 1 * 1024 + 1 * r.val = R.val; rw [hi.2]; omega

theorem blk_ct (t : Fin cfg0.N) (k : Fin 2048) (j : Fin 1024) (K : Fin 8192)
    (hK : K.val = t.val % 4 * 2048 + k.val) :
    (iblk m c 1 t : A2 2048 1024) (ix2 k j) = aCt m c (ix2 K j) := by
  have hi := (idx_facts t).2
  rw [← entry_ct]
  unfold iblk
  rw [View.read_apply]
  show (V m c main_v1 : A2 8192 1024) _ = _
  congr 1
  funext a
  apply Fin.ext
  match a with
  | ⟨0, _⟩ => show win0_1.index t 0 * 2048 + 1 * k.val = K.val; rw [hi.1]; omega
  | ⟨1, _⟩ => show win0_1.index t 1 * 1024 + 1 * j.val = j.val; rw [hi.2]; omega

/-- The batch row's contribution to entry `(R, j)` of the gradient. -/
abbrev term (act : A2 8192 4096) (ct : A2 8192 1024) (R : Fin 4096) (j : Fin 1024) (K : Fin 8192) : EReal :=
  max (act (ix2 K R)) 0 * max (act (ix2 K R)) 0 * ct (ix2 K j)

/-- One grid point's addition. -/
theorem step_term (t : Fin cfg0.N) (s : Nat) (hs : t.val % 4 = s) (acc : Vec Ideal S1024x1024 .f32) (r j : Fin 1024) (R : Fin 4096)
    (hR : R.val = t.val / 4 * 1024 + r.val)
    (ha : (acc : A2 1024 1024) (ix2 r j) = tiles 2048 (term (aAct m c) (aCt m c) R j) s) :
    (k0_pay2 (F := Ideal) (iblk m c 0 t) acc (iblk m c 1 t) : A2 1024 1024) (ix2 r j)
      = tiles 2048 (term (aAct m c) (aCt m c) R j) (s + 1) := by
  rw [step_at]
  refine tiles_step 2048 _ s _ _ ha fun k => ?_
  have hk : s * 2048 + k.val < 8192 := by omega
  rw [ext_val _ _ hk, blk_act m c t k r ⟨_, hk⟩ R (by rw [hs]) hR, blk_ct m c t k j ⟨_, hk⟩ (by rw [hs])]

/-- What the accumulator holds after step `s` of the run of block `q`. -/
theorem acc_run (q : Fin 4) (r j : Fin 1024) (R : Fin 4096) (hR : R.val = q.val * 1024 + r.val) :
    ∀ (s : Nat) (hs : s < 3) (hn : 4 * q.val + s < cfg0.N),
      ((outsAt0 m c (4 * q.val + s) hn).2 : A2 1024 1024) (ix2 r j) = tiles 2048 (term (aAct m c) (aCt m c) R j) (s + 1)
  | 0, _, hn => by
    have e := outsAt0_A m c ⟨4 * q.val + 0, hn⟩ (by dsimp only; omega) (by dsimp only; omega)
    dsimp only at e
    rw [e]
    dsimp only
    rw [accA]
    exact step_term m c ⟨4 * q.val + 0, hn⟩ 0 (by dsimp only; omega) _ r j R (by dsimp only; omega)
      ((zero_at r j).trans (tiles_zero _ _).symm)
  | s + 1, hs, hn => by
    have e := outsAt0_B m c ⟨4 * q.val + (s + 1), hn⟩ (by dsimp only; omega) (by dsimp only; omega)
    dsimp only at e
    rw [e]
    dsimp only
    rw [accB]
    exact step_term m c ⟨4 * q.val + (s + 1), hn⟩ (s + 1) (by dsimp only; omega) _ r j R (by dsimp only; omega)
      (acc_run q r j R hR s (by omega) (by omega))

/-- What the run of block `q` writes back. -/
theorem out_run (q : Fin 4) (r j : Fin 1024) (R : Fin 4096) (hR : R.val = q.val * 1024 + r.val) (hn : 4 * q.val + 3 < cfg0.N) :
    ((outsAt0 m c (4 * q.val + 3) hn).1 : A2 1024 1024) (ix2 r j) = ∑ K, term (aAct m c) (aCt m c) R j K := by
  have e := outsAt0_C m c ⟨4 * q.val + 3, hn⟩ (by dsimp only; omega) (by dsimp only; omega)
  dsimp only at e
  rw [e]
  dsimp only
  rw [outC]
  exact (step_term m c ⟨4 * q.val + 3, hn⟩ 3 (by dsimp only; omega) _ r j R (by dsimp only; omega)
    (acc_run m c q r j R hR 2 (by omega) (by omega))).trans (tiles_all 4 2048 _ rfl)

/-- The gradient of the second matrix: `relu(act)²` transposed, times the cotangent. -/
def dwArr (act : A2 8192 4096) (ct : A2 8192 1024) : A2 4096 1024 := fun i =>
  ∑ K, term act ct (i 0) (i 1) K

theorem final : (Value.G2 m c : A2 4096 1024) = dwArr (aAct m c) (aCt m c) := by
  refine ext2 _ _ fun R j => ?_
  have hN : cfg0.N = 16 := N_0
  have hp : Value.pt2Of (ix2 R j) = 4 * (R.val / 1024) + 3 := by
    show 4 * (1 * (R.val / 1024 - 0) + 1 * (j.val / 1024 - 0)) + 3 = _
    omega
  have hlt : Value.pt2Of (ix2 R j) < cfg0.N := by rw [hp]; omega
  have hl : Value.loc2Of (ix2 R j) = ix2 (⟨R.val % 1024, by omega⟩ : Fin 1024) j := by
    funext a
    apply Fin.ext
    match a with
    | ⟨0, _⟩ => rfl
    | ⟨1, _⟩ => show j.val % 1024 = j.val; omega
  unfold Value.G2
  rw [dif_pos hlt, ← Value.outsAt0_sweep m c _ hlt, hl]
  have e := out_run m c ⟨R.val / 1024, by omega⟩ ⟨R.val % 1024, by omega⟩ j R (by dsimp only; omega) (by dsimp only; omega)
  dsimp only at e
  have same : ∀ (n n' : Nat) (h : n < cfg0.N) (h' : n' < cfg0.N), n = n' → outsAt0 m c n h = outsAt0 m c n' h' := by
    intro n n' h h' hnn; subst hnn; rfl
  rw [same _ (4 * (R.val / 1024) + 3) hlt (by omega) hp]
  exact e

end Cert.Mlp.DwDown

end
-- ==== Proof.Mlp.DwDownClaims.lean ====
/-
  THE GRADIENT OF THE MLP'S SECOND MATRIX: THE KERNEL'S RUN AND THE REFERENCE'S RUN, AT THE SAME ARRAYS.
-/
module

public import proofs.«01_k».proof.Proof.Mlp.DwDown
public import proofs.«01_k».proof.Proof.Gen.DwDownRefIdeal.Read

@[expose] public section

noncomputable section

namespace Cert.Mlp.DwDown

open Idealize.ShloMosaic Idealize.SL.Sem

section Reference
open Cert.DwDownRefIdeal Cert.DwDownRefIdeal.Gen Cert.DwDownRefIdeal.Read

theorem ref_value (act : A2 8192 4096) (ct : A2 8192 1024) : (val_main_v9 (F := Ideal) act ct : A2 4096 1024) = dwArr act ct := by
  refine ext2 _ _ fun R J => ?_
  unfold val_main_v9 val_main_v8 val_main_v4 val_main_v0 val_main_call0_v0 val_main_call0_cst dwArr
  pointwise [dot_S8192x1024_S8192x4096_S1024x4096_0_0_1_1_n_n]
  exact Finset.sum_congr rfl fun K _ => mul_comm _ _

end Reference

section Kernel
open Cert.DwDownIdeal Cert.DwDownIdeal.Gen

/-- The kernel's run: its results; its arguments stay. -/
theorem kernel_run (m : (ℓ : Loc nD τ sig) → Buf (Elt Ideal) ℓ) (ρ : Dev nD → PrngReg) :
    θ_run defs (onTc main) ⟨m, fun _ => 0, ρ⟩ fun r => ∀ c,
      r.2.mem (c.tc.loc main_v2) = dwArr (aAct m c) (aCt m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨(h c).1.trans (final m c), (h c).2⟩) (Value.run m ρ)

end Kernel

section Reference
open Cert.DwDownRefIdeal Cert.DwDownRefIdeal.Gen

/-- The reference's run, at the same functions. -/
theorem reference_run (m : (ℓ : Loc nD τ sig) → Buf (Elt Ideal) ℓ) (ρ : Dev nD → PrngReg)
    (p0 : Dev nD → A2 8192 4096) (p1 : Dev nD → A2 4096 1024) (p2 : Dev nD → A2 8192 1024)
    (hm : ∀ c, m (c.tc.loc main_arg0) = p0 c
      ∧ m (c.tc.loc main_arg1) = p1 c
      ∧ m (c.tc.loc main_arg2) = p2 c) :
    θ_run defs (onTc main) ⟨m, fun _ => 0, ρ⟩ fun r => ∀ c,
      r.2.mem (c.tc.loc main_v9) = dwArr (p0 c) (p2 c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  refine (θ_run _ _ _).mono (fun r h c => ?_) (Value.run m ρ)
  obtain ⟨h0, h1, h2⟩ := hm c
  obtain ⟨r0, hr⟩ := h c
  refine ⟨r0.trans ?_, hr⟩
  · rw [Read.val_main_v9_eq, h0, h2]; exact ref_value ..

end Reference

end Cert.Mlp.DwDown

end
-- ==== Proof.Mlp.Norm.lean ====
/-
  THE NORM AND ITS GRADIENT, ONE ROW AT A TIME.

  A row `x` of 1024 numbers is divided by the root of its mean square (plus a small constant) and scaled by `g`.  The
  functions below are that row, and what its cotangent `d` passes back to `x` and to `g`, over the extended reals and
  in the order of operations that automatic differentiation gives.
-/
module

public import proofs.«01_k».proof.Proof.Mlp.Sums

@[expose] public section

noncomputable section

namespace Cert.Mlp

open Idealize.ShloMosaic

/-- A row of 1024 extended reals. -/
abbrev Row := Fin 1024 → EReal

/-- The constant `2⁻¹⁰`, as the programs write it. -/
abbrev inv1024 : EReal := Ideal.ofBits .f32 0x3A800000#32
/-- The norm's small constant. -/
abbrev eps : EReal := Ideal.ofBits .f32 0x358637BD#32
/-- Minus one half. -/
abbrev negHalf : EReal := Ideal.ofBits .f32 0xBF000000#32

/-- The mean square of a row, plus the small constant. -/
def ms (x : Row) : EReal := (∑ k, x k * x k) * inv1024 + eps

/-- The normed row. -/
def normed (x g : Row) (k : Fin 1024) : EReal := x k * Ideal.rsqrt (ms x) * g k

/-- A row's part of the gradient of `g`. -/
def dgPart (x d : Row) (k : Fin 1024) : EReal := x k * Ideal.rsqrt (ms x) * d k

/-- What the mean square passes back to each entry, per unit of the entry. -/
def slope (x g d : Row) : EReal :=
  (∑ k, x k * (d k * g k)) * (negHalf * Ideal.div (Ideal.rsqrt (ms x)) (ms x)) * inv1024

/-- The cotangent of the row. -/
def dxRow (x g d : Row) (k : Fin 1024) : EReal :=
  d k * g k * Ideal.rsqrt (ms x) + x k * slope x g d + slope x g d * x k

end Cert.Mlp

end
-- ==== Proof.Mlp.DwUp.lean ====
/-
  THE GRADIENT OF THE MLP'S FIRST MATRIX, AS THE KERNEL COMPUTES IT.

  The result is a stack of four slabs of 1024 columns, one per chip.  Grid point `4 q + s` adds, to slab `q`, the
  products over rows `2048 s … 2048 s + 2047` of the batch.
-/
module

public import proofs.«01_k».proof.Proof.Gen.DwUpIdeal.Value
public import proofs.«01_k».proof.Proof.Mlp.Norm

@[expose] public section

noncomputable section

namespace Cert.Mlp.DwUp

open Cert.DwUpIdeal Cert.DwUpIdeal.Gen Idealize.ShloMosaic Idealize.ShloMosaic.TcCoe Idealize.SL.Sem
open Idealize.ShloMosaic.StableHlo

/-! ### The stores, read back -/

section Stores
variable (c : Dev nD) (i : grid0.Coords) (a : Memref sig .tc .vmem S2048x1024 .bf16) (ha : a.IsWhole)
  (b : Memref sig .tc .vmem S2048x1024 .bf16) (hb : b.IsWhole) (o : Memref sig .tc .vmem S1x1024x1024 .f32) (ho : o.IsWhole)
  (s : Memref sig .tc .vmem S1024x1024 .f32) (hs : s.IsWhole) (x y : Vec Ideal S2048x1024 .bf16) (acc : Vec Ideal S1024x1024 .f32)

theorem accA (h0 : cond0_0 i) (h1 : ¬cond0_1 i) :
    sout0_A_0 c i a ha b hb o ho s hs h0 h1 x y = k0_pay2 x (k0_pay1 (F := Ideal)) y := by
  unfold sout0_A_0
  rw [View.read_writes_eq_canon _ _ _ (scover0_A_0 c i a ha b hb o ho s hs h0 h1 x y)]
  unfold kernelRun0_A
  dsimp only
  sl_unfold_words
  rw [View.canon_cons_unit_zero (S := S1024x1024) origin2, View.readCov_unit_zero (S := S1024x1024) _ origin2]
  simp only [View.readAt_eq_ld, ha.read_unread, hb.read_unread, View.ld_unit_zero (S := S2048x1024) origin2, shapeCast_self]

theorem accB (h0 : ¬cond0_0 i) (h1 : ¬cond0_1 i) :
    sout0_B_0 c i a ha b hb o ho s hs h0 h1 x y acc = k0_pay2 x acc y := by
  unfold sout0_B_0
  rw [View.read_writes_eq_canon _ _ _ (scover0_B_0 c i a ha b hb o ho s hs h0 h1 x y acc)]
  unfold kernelRun0_B
  dsimp only
  sl_unfold_words
  rw [View.canon_unit_zero (S := S1024x1024) origin2]
  simp only [View.readAt_eq_ld, ha.read_unread, hb.read_unread, hs.read_unread, View.ld_unit_zero (S := S2048x1024) origin2,
    View.ld_unit_zero (S := S1024x1024) origin2, shapeCast_self]

theorem outC (h0 : ¬cond0_0 i) (h1 : cond0_1 i) :
    out0_C_2 c i a ha b hb o ho s hs h0 h1 x y acc = k0_pay3 (k0_pay2 x acc y) := by
  unfold out0_C_2
  rw [View.read_writes_eq_canon _ _ _ (cover0_C_2 c i a ha b hb o ho s hs h0 h1 x y acc)]
  unfold kernelRun0_C
  dsimp only
  sl_unfold_words
  rw [View.canon_unit_zero (S := S1x1024x1024) origin3, View.readCov_unit_zero (S := S1024x1024) _ origin2]
  simp only [View.readAt_eq_ld, ha.read_unread, hb.read_unread, hs.read_unread, View.ld_unit_zero (S := S2048x1024) origin2,
    View.ld_unit_zero (S := S1024x1024) origin2, shapeCast_self]
end Stores

/-! ### One step's value -/

theorem zero_at (r j : Fin 1024) : k0_pay1 (F := Ideal) (ix2 r j) = 0 := by
  unfold k0_pay1; pointwise

theorem step_at (x y : Vec Ideal S2048x1024 .bf16) (acc : Vec Ideal S1024x1024 .f32) (r j : Fin 1024) :
    (k0_pay2 x acc y : A2 1024 1024) (ix2 r j)
      = acc (ix2 r j) + ∑ k : Fin 2048, (x : A2 2048 1024) (ix2 k r) * (y : A2 2048 1024) (ix2 k j) := by
  unfold k0_pay2; pointwise [dot_S2048x1024_S2048x1024_S1024x1024_0_0_1_1_n_n]

theorem slab_at (v : Vec Ideal S1024x1024 .f32) (r j : Fin 1024) :
    (k0_pay3 v : A3 1 1024 1024) (ix3 0 r j) = (v : A2 1024 1024) (ix2 r j) := by
  unfold k0_pay3; pointwise

/-! ### The blocks -/

variable (m : (ℓ : Loc nD τ sig) → Buf (Elt Ideal) ℓ) (c : Dev nD)

/-- The arguments as launched: the MLP's input, the norm's scale and the cotangent of the product. -/
abbrev aX : A2 8192 1024 := m (c.tc.loc main_arg0)
abbrev aG : A2 1 1024 := m (c.tc.loc main_arg1)
abbrev aCt : A2 8192 4096 := m (c.tc.loc main_arg3)

theorem idx_facts : ∀ t : Fin cfg0.N,
    (win0_0.index t 0 = t.val % 4 ∧ win0_0.index t 1 = 0) ∧ (win0_1.index t 0 = t.val % 4 ∧ win0_1.index t 1 = t.val / 4) :=
  (by decide +kernel : ∀ t : Fin grid0.N, _)

/-- The normed rows of the input. -/
def hArr (x : A2 8192 1024) (g : A2 1 1024) : A2 8192 1024 := fun i =>
  normed (fun k => x (ix2 (i 0) k)) (fun k => g (ix2 0 k)) (i 1)

theorem entry_h : (V m c main_v12 : A2 8192 1024) = hArr (aX m c) (aG m c) := by
  have h : (V m c main_v12 : A2 8192 1024) = truncf (F := Ideal) (φ := .f32) .bf16
      (mulf (F := Ideal) (φ := .f32) (mulf (F := Ideal) (φ := .f32) (aX m c)
        (broadcastInDim S8192x1024 ![0, 1] bcast_S8192x1_S8192x1024_0_1 (Host.rsqrt (F := Ideal) (φ := .f32)
          (addf (F := Ideal) (φ := .f32) (Host.divf (F := Ideal) (φ := .f32)
            (broadcastInDim S8192x1 ![0] bcast_S8192_S8192x1_0
              (Host.reduceAdd (F := Ideal) (φ := .f32) (mulf (F := Ideal) (φ := .f32) (aX m c) (aX m c)) (constant S_ .f32 0x00000000#32) reducesTo_S8192x1024_S8192_d1 h_S_))
            (broadcastInDim S8192x1 ![] bcast_S_S8192x1 (constant (F := Ideal) S_ .f32 0x44800000#32)))
            (broadcastInDim S8192x1 ![] bcast_S_S8192x1 (constant (F := Ideal) S_ .f32 0x358637BD#32))))))
        (broadcastInDim S8192x1024 ![0, 1] bcast_S1x1024_S8192x1024_0_1 (aG m c))) bitsLt_bf16_f32 := by
    show StableHlo.after hostOps0 _ main_v12 = _
    unfold hostOps0
    after_results
  rw [h]
  refine ext2 _ _ fun R k => ?_
  unfold hArr normed ms
  pointwise
  rw [div_1024]

theorem entry_ct : (V m c main_v13 : A2 8192 4096) = aCt m c := by
  show StableHlo.after hostOps0 _ main_v13 = _
  unfold hostOps0
  after_results
  rfl

theorem blk_h (t : Fin cfg0.N) (k : Fin 2048) (r : Fin 1024) (K : Fin 8192)
    (hK : K.val = t.val % 4 * 2048 + k.val) :
    (iblk m c 0 t : A2 2048 1024) (ix2 k r) = hArr (aX m c) (aG m c) (ix2 K r) := by
  have hi := (idx_facts t).1
  rw [← entry_h]
  unfold iblk
  rw [View.read_apply]
  show (V m c main_v12 : A2 8192 1024) _ = _
  congr 1
  funext a
  apply Fin.ext
  match a with
  | ⟨0, _⟩ => show win0_0.index t 0 * 2048 + 1 * k.val = K.val; rw [hi.1]; omega
  | ⟨1, _⟩ => show win0_0.index t 1 * 1024 + 1 * r.val = r.val; rw [hi.2]; omega

theorem blk_ct (t : Fin cfg0.N) (k : Fin 2048) (j : Fin 1024) (K : Fin 8192) (J : Fin 4096)
    (hK : K.val = t.val % 4 * 2048 + k.val) (hJ : J.val = t.val / 4 * 1024 + j.val) :
    (iblk m c 1 t : A2 2048 1024) (ix2 k j) = aCt m c (ix2 K J) := by
  have hi := (idx_facts t).2
  rw [← entry_ct]
  unfold iblk
  rw [View.read_apply]
  show (V m c main_v13 : A2 8192 4096) _ = _
  congr 1
  funext a
  apply Fin.ext
  match a with
  | ⟨0, _⟩ => show win0_1.index t 0 * 2048 + 1 * k.val = K.val; rw [hi.1]; omega
  | ⟨1, _⟩ => show win0_1.index t 1 * 1024 + 1 * j.val = J.val; rw [hi.2]; omega

/-- The batch row's contribution to entry `(r, J)` of the gradient. -/
abbrev term (h : A2 8192 1024) (ct : A2 8192 4096) (r : Fin 1024) (J : Fin 4096) (K : Fin 8192) : EReal :=
  h (ix2 K r) * ct (ix2 K J)

/-- One grid point's addition. -/
theorem step_term (t : Fin cfg0.N) (s : Nat) (hs : t.val % 4 = s) (acc : Vec Ideal S1024x1024 .f32) (r j : Fin 1024) (J : Fin 4096)
    (hJ : J.val = t.val / 4 * 1024 + j.val)
    (ha : (acc : A2 1024 1024) (ix2 r j) = tiles 2048 (term (hArr (aX m c) (aG m c)) (aCt m c) r J) s) :
    (k0_pay2 (F := Ideal) (iblk m c 0 t) acc (iblk m c 1 t) : A2 1024 1024) (ix2 r j)
      = tiles 2048 (term (hArr (aX m c) (aG m c)) (aCt m c) r J) (s + 1) := by
  rw [step_at]
  refine tiles_step 2048 _ s _ _ ha fun k => ?_
  have hk : s * 2048 + k.val < 8192 := by omega
  rw [ext_val _ _ hk, blk_h m c t k r ⟨_, hk⟩ (by rw [hs]), blk_ct m c t k j ⟨_, hk⟩ J (by rw [hs]) hJ]

/-- What the accumulator holds after step `s` of the run of slab `q`. -/
theorem acc_run (q : Fin 4) (r j : Fin 1024) (J : Fin 4096) (hJ : J.val = q.val * 1024 + j.val) :
    ∀ (s : Nat) (hs : s < 3) (hn : 4 * q.val + s < cfg0.N),
      ((outsAt0 m c (4 * q.val + s) hn).2 : A2 1024 1024) (ix2 r j)
        = tiles 2048 (term (hArr (aX m c) (aG m c)) (aCt m c) r J) (s + 1)
  | 0, _, hn => by
    have e := outsAt0_A m c ⟨4 * q.val + 0, hn⟩ (by dsimp only; omega) (by dsimp only; omega)
    dsimp only at e
    rw [e]
    dsimp only
    rw [accA]
    exact step_term m c ⟨4 * q.val + 0, hn⟩ 0 (by dsimp only; omega) _ r j J (by dsimp only; omega)
      ((zero_at r j).trans (tiles_zero _ _).symm)
  | s + 1, hs, hn => by
    have e := outsAt0_B m c ⟨4 * q.val + (s + 1), hn⟩ (by dsimp only; omega) (by dsimp only; omega)
    dsimp only at e
    rw [e]
    dsimp only
    rw [accB]
    exact step_term m c ⟨4 * q.val + (s + 1), hn⟩ (s + 1) (by dsimp only; omega) _ r j J (by dsimp only; omega)
      (acc_run q r j J hJ s (by omega) (by omega))

/-- What the run of slab `q` writes back. -/
theorem out_run (q : Fin 4) (r j : Fin 1024) (J : Fin 4096) (hJ : J.val = q.val * 1024 + j.val) (hn : 4 * q.val + 3 < cfg0.N) :
    ((outsAt0 m c (4 * q.val + 3) hn).1 : A3 1 1024 1024) (ix3 0 r j) = ∑ K, term (hArr (aX m c) (aG m c)) (aCt m c) r J K := by
  have e := outsAt0_C m c ⟨4 * q.val + 3, hn⟩ (by dsimp only; omega) (by dsimp only; omega)
  dsimp only at e
  rw [e]
  dsimp only
  rw [outC, slab_at]
  exact (step_term m c ⟨4 * q.val + 3, hn⟩ 3 (by dsimp only; omega) _ r j J (by dsimp only; omega)
    (acc_run m c q r j J hJ 2 (by omega) (by omega))).trans (tiles_all 4 2048 _ rfl)

/-- The gradient of the first matrix, in four slabs of columns: the normed input transposed, times the cotangent. -/
def dwArr (x : A2 8192 1024) (g : A2 1 1024) (ct : A2 8192 4096) : A3 4 1024 1024 := fun i =>
  ∑ K, term (hArr x g) ct (i 1) ⟨(i 0).val * 1024 + (i 2).val, by
    have h0 : (i 0).val < 4 := (i 0).isLt
    have h2 : (i 2).val < 1024 := (i 2).isLt
    omega⟩ K

theorem final : (Value.G2 m c : A3 4 1024 1024) = dwArr (aX m c) (aG m c) (aCt m c) := by
  funext i
  have hN : cfg0.N = 16 := N_0
  have h0 : (i 0).val < 4 := (i 0).isLt
  have h1 : (i 1).val < 1024 := (i 1).isLt
  have h2 : (i 2).val < 1024 := (i 2).isLt
  have hp : Value.pt2Of i = 4 * (i 0).val + 3 := by
    show 4 * (1 * ((i 0).val / 1 - 0) + 1 * ((i 1).val / 1024 - 0) + 1 * ((i 2).val / 1024 - 0)) + 3 = _
    omega
  have hlt : Value.pt2Of i < cfg0.N := by rw [hp]; omega
  have hl : Value.loc2Of i = ix3 (0 : Fin 1) (⟨(i 1).val, h1⟩ : Fin 1024) (⟨(i 2).val, h2⟩ : Fin 1024) := by
    funext a
    apply Fin.ext
    match a with
    | ⟨0, _⟩ => show (i 0).val % 1 = 0; omega
    | ⟨1, _⟩ => show (i 1).val % 1024 = (i 1).val; omega
    | ⟨2, _⟩ => show (i 2).val % 1024 = (i 2).val; omega
  unfold Value.G2
  rw [dif_pos hlt, ← Value.outsAt0_sweep m c _ hlt, hl]
  have e := out_run m c ⟨(i 0).val, h0⟩ ⟨(i 1).val, h1⟩ ⟨(i 2).val, h2⟩ ⟨(i 0).val * 1024 + (i 2).val, by omega⟩ rfl (by dsimp only; omega)
  dsimp only at e
  have same : ∀ (n n' : Nat) (h : n < cfg0.N) (h' : n' < cfg0.N), n = n' → outsAt0 m c n h = outsAt0 m c n' h' := by
    intro n n' h h' hnn; subst hnn; rfl
  rw [same _ (4 * (i 0).val + 3) hlt (by omega) hp]
  exact e

end Cert.Mlp.DwUp

end
-- ==== Proof.Mlp.DwUpClaims.lean ====
/-
  THE GRADIENT OF THE MLP'S FIRST MATRIX: THE KERNEL'S RUN AND THE REFERENCE'S RUN, AT THE SAME ARRAYS.
-/
module

public import proofs.«01_k».proof.Proof.Mlp.DwUp
public import proofs.«01_k».proof.Proof.Gen.DwUpRefIdeal.Read

@[expose] public section

noncomputable section

namespace Cert.Mlp.DwUp

open Idealize.ShloMosaic Idealize.SL.Sem

section Reference
open Cert.DwUpRefIdeal Cert.DwUpRefIdeal.Gen Cert.DwUpRefIdeal.Read

theorem ref_h (x : A2 8192 1024) (g : A2 1 1024) (R : Fin 8192) (k : Fin 1024) :
    val_main_v14 (F := Ideal) x g (ix2 R k) = hArr x g (ix2 R k) := by
  unfold val_main_v14 val_main_v13 val_main_v12 val_main_v11 val_main_v7 val_main_v6 val_main_v5 val_main_v4 val_main_v3 val_main_v2
    val_main_v1 val_main_v0 val_main_cst val_main_cst_0 val_main_cst_1 hArr normed ms
  pointwise
  rw [div_1024]

theorem ref_value (x : A2 8192 1024) (g : A2 1 1024) (ct : A2 8192 4096) :
    (val_main_v39 (F := Ideal) x g ct : A3 4 1024 1024) = dwArr x g ct := by
  funext i
  obtain ⟨q, R, J, h⟩ : ∃ (q : Fin 4) (R J : Fin 1024), i = ix3 q R J := ⟨_, _, _, eq_ix3 i⟩
  rw [h]
  unfold val_main_v39 val_main_v38 val_main_v17 val_main_v16 dwArr
  pointwise [dot_S8192x4096_S8192x1024_S4096x1024_0_0_1_1_n_n]
  exact Finset.sum_congr rfl fun K _ => by rw [ref_h, mul_comm]

end Reference

section Kernel
open Cert.DwUpIdeal Cert.DwUpIdeal.Gen

/-- The kernel's run: its results; its arguments stay. -/
theorem kernel_run (m : (ℓ : Loc nD τ sig) → Buf (Elt Ideal) ℓ) (ρ : Dev nD → PrngReg) :
    θ_run defs (onTc main) ⟨m, fun _ => 0, ρ⟩ fun r => ∀ c,
      r.2.mem (c.tc.loc main_v14) = dwArr (aX m c) (aG m c) (aCt m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun r h c => ⟨(h c).1.trans (final m c), (h c).2⟩) (Value.run m ρ)

end Kernel

section Reference
open Cert.DwUpRefIdeal Cert.DwUpRefIdeal.Gen

/-- The reference's run, at the same functions. -/
theorem reference_run (m : (ℓ : Loc nD τ sig) → Buf (Elt Ideal) ℓ) (ρ : Dev nD → PrngReg)
    (p0 : Dev nD → A2 8192 1024) (p1 : Dev nD → A2 1 1024) (p2 : Dev nD → A2 1024 4096) (p3 : Dev nD → A2 8192 4096)
    (hm : ∀ c, m (c.tc.loc main_arg0) = p0 c
      ∧ m (c.tc.loc main_arg1) = p1 c
      ∧ m (c.tc.loc main_arg2) = p2 c
      ∧ m (c.tc.loc main_arg3) = p3 c) :
    θ_run defs (onTc main) ⟨m, fun _ => 0, ρ⟩ fun r => ∀ c,
      r.2.mem (c.tc.loc main_v39) = dwArr (p0 c) (p1 c) (p3 c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) := by
  refine (θ_run _ _ _).mono (fun r h c => ?_) (Value.run m ρ)
  obtain ⟨h0, h1, h2, h3⟩ := hm c
  obtain ⟨r0, hr⟩ := h c
  refine ⟨r0.trans ?_, hr⟩
  · rw [Read.val_main_v39_eq, h0, h1, h3]; exact ref_value ..

end Reference

end Cert.Mlp.DwUp

end
-- ==== Proof.Mlp.DH2Stores.lean ====
/-
  THE COTANGENT OF THE MLP'S INPUT: WHAT EACH GRID POINT STORES.

  A point adds one tile of the product to the accumulator.  The last point of a block row goes on from the whole
  product through the norm: it stores the block's cotangent twice (in both precisions) and adds the block's part of
  the scale's gradient to what the block rows before it left.
-/
module

public import proofs.«01_k».proof.Proof.Gen.DH2Ideal.Value
public import proofs.«01_k».proof.Proof.Mlp.Norm

@[expose] public section

noncomputable section

namespace Cert.Mlp.DH2

open Cert.DH2Ideal Cert.DH2Ideal.Gen Idealize.ShloMosaic Idealize.ShloMosaic.TcCoe Idealize.SL.Sem
open Idealize.ShloMosaic.StableHlo

section Stores
variable (c : Dev nD) (i : grid0.Coords) (a : Memref sig .tc .vmem S1024x1024 .bf16) (ha : a.IsWhole)
  (b : Memref sig .tc .vmem S1024x1024 .bf16) (hb : b.IsWhole) (xr : Memref sig .tc .vmem S1024x1024 .f32) (hx : xr.IsWhole)
  (gr : Memref sig .tc .vmem S1x1024 .f32) (hg : gr.IsWhole) (rr : Memref sig .tc .vmem S1024x1024 .f32) (hr : rr.IsWhole)
  (o : Memref sig .tc .vmem S1024x1024 .f32) (ho : o.IsWhole) (og : Memref sig .tc .vmem S1x1024 .f32) (hog : og.IsWhole)
  (ob : Memref sig .tc .vmem S1024x1024 .bf16) (hob : ob.IsWhole)
  (s : Memref sig .tc .vmem S1024x1024 .f32) (hs : s.IsWhole) (ct w : Vec Ideal S1024x1024 .bf16) (x : Vec Ideal S1024x1024 .f32)
  (g : Vec Ideal S1x1024 .f32) (res acc : Vec Ideal S1024x1024 .f32) (old : Vec Ideal S1x1024 .f32)

theorem accA (h0 : cond0_0 i) (h1 : ¬cond0_1 i) :
    sout0_A_0 c i a ha b hb xr hx gr hg rr hr o ho og hog ob hob s hs h0 h1 ct w x g res = k0_pay2 ct (k0_pay1 (F := Ideal)) w := by
  unfold sout0_A_0
  rw [View.read_writes_eq_canon _ _ _ (scover0_A_0 c i a ha b hb xr hx gr hg rr hr o ho og hog ob hob s hs h0 h1 ct w x g res)]
  unfold kernelRun0_A
  dsimp only
  sl_unfold_words
  rw [View.canon_cons_unit_zero (S := S1024x1024) origin2, View.readCov_unit_zero (S := S1024x1024) _ origin2]
  simp only [View.readAt_eq_ld, ha.read_unread, hb.read_unread, View.ld_unit_zero (S := S1024x1024) origin2, shapeCast_self]

theorem accB (h0 : ¬cond0_0 i) (h1 : ¬cond0_1 i) :
    sout0_B_0 c i a ha b hb xr hx gr hg rr hr o ho og hog ob hob s hs h0 h1 ct w x g res acc = k0_pay2 ct acc w := by
  unfold sout0_B_0
  rw [View.read_writes_eq_canon _ _ _ (scover0_B_0 c i a ha b hb xr hx gr hg rr hr o ho og hog ob hob s hs h0 h1 ct w x g res acc)]
  unfold kernelRun0_B
  dsimp only
  sl_unfold_words
  rw [View.canon_unit_zero (S := S1024x1024) origin2]
  simp only [View.readAt_eq_ld, ha.read_unread, hb.read_unread, hs.read_unread, View.ld_unit_zero (S := S1024x1024) origin2, shapeCast_self]

theorem dxC (h0 : ¬cond0_0 i) (h1 : cond0_1 i) (h2 : cond0_2 i) :
    out0_C_5 c i a ha b hb xr hx gr hg rr hr o ho og hog ob hob s hs h0 h1 h2 ct w x g res acc = k0_pay8 (k0_pay2 ct acc w) x g res := by
  unfold out0_C_5
  rw [View.read_writes_eq_canon _ _ _ (cover0_C_5 c i a ha b hb xr hx gr hg rr hr o ho og hog ob hob s hs h0 h1 h2 ct w x g res acc)]
  unfold kernelRun0_C
  dsimp only
  sl_unfold_words
  rw [View.canon_unit_zero (S := S1024x1024) origin2]
  simp only [readCov_last (S := S1024x1024) _ origin2, readCov_last (S := S1x1024) _ origin2, View.readAt_eq_ld, ha.read_unread,
    hb.read_unread, hx.read_unread, hg.read_unread, hr.read_unread, hs.read_unread, hog.read_unread,
    View.ld_unit_zero (S := S1024x1024) origin2, View.ld_unit_zero (S := S1x1024) origin2, shapeCast_self]

theorem twinC (h0 : ¬cond0_0 i) (h1 : cond0_1 i) (h2 : cond0_2 i) :
    out0_C_7 c i a ha b hb xr hx gr hg rr hr o ho og hog ob hob s hs h0 h1 h2 ct w x g res acc = k0_pay9 (k0_pay2 ct acc w) x g res := by
  unfold out0_C_7
  rw [View.read_writes_eq_canon _ _ _ (cover0_C_7 c i a ha b hb xr hx gr hg rr hr o ho og hog ob hob s hs h0 h1 h2 ct w x g res acc)]
  unfold kernelRun0_C
  dsimp only
  sl_unfold_words
  rw [View.canon_unit_zero (S := S1024x1024) origin2]
  simp only [readCov_last (S := S1024x1024) _ origin2, readCov_last (S := S1x1024) _ origin2, View.readAt_eq_ld, ha.read_unread,
    hb.read_unread, hx.read_unread, hg.read_unread, hr.read_unread, hs.read_unread, hog.read_unread,
    View.ld_unit_zero (S := S1024x1024) origin2, View.ld_unit_zero (S := S1x1024) origin2, shapeCast_self]

theorem dgC (h0 : ¬cond0_0 i) (h1 : cond0_1 i) (h2 : cond0_2 i) :
    out0_C_6 c i a ha b hb xr hx gr hg rr hr o ho og hog ob hob s hs h0 h1 h2 ct w x g res acc = k0_pay4 (k0_pay7 (k0_pay2 ct acc w) x) (k0_pay3 (F := Ideal)) := by
  unfold out0_C_6
  rw [View.read_writes_eq_canon _ _ _ (cover0_C_6 c i a ha b hb xr hx gr hg rr hr o ho og hog ob hob s hs h0 h1 h2 ct w x g res acc)]
  unfold kernelRun0_C
  dsimp only
  sl_unfold_words
  rw [View.canon_cons_unit_zero (S := S1x1024) origin2]
  simp only [readCov_last (S := S1024x1024) _ origin2, readCov_last (S := S1x1024) _ origin2, View.readAt_eq_ld, ha.read_unread,
    hb.read_unread, hx.read_unread, hg.read_unread, hr.read_unread, hs.read_unread, hog.read_unread,
    View.ld_unit_zero (S := S1024x1024) origin2, View.ld_unit_zero (S := S1x1024) origin2, shapeCast_self]

theorem dxD (h0 : ¬cond0_0 i) (h1 : cond0_1 i) (h2 : ¬cond0_2 i) :
    out0_D_5 c i a ha b hb xr hx gr hg rr hr o ho og hog ob hob s hs h0 h1 h2 ct w x g res old acc = k0_pay8 (k0_pay2 ct acc w) x g res := by
  unfold out0_D_5
  rw [View.read_writes_eq_canon _ _ _ (cover0_D_5 c i a ha b hb xr hx gr hg rr hr o ho og hog ob hob s hs h0 h1 h2 ct w x g res old acc)]
  unfold kernelRun0_D
  dsimp only
  sl_unfold_words
  rw [View.canon_unit_zero (S := S1024x1024) origin2]
  simp only [readCov_last (S := S1024x1024) _ origin2, readCov_last (S := S1x1024) _ origin2, View.readAt_eq_ld, ha.read_unread,
    hb.read_unread, hx.read_unread, hg.read_unread, hr.read_unread, hs.read_unread, hog.read_unread,
    View.ld_unit_zero (S := S1024x1024) origin2, View.ld_unit_zero (S := S1x1024) origin2, shapeCast_self]

theorem twinD (h0 : ¬cond0_0 i) (h1 : cond0_1 i) (h2 : ¬cond0_2 i) :
    out0_D_7 c i a ha b hb xr hx gr hg rr hr o ho og hog ob hob s hs h0 h1 h2 ct w x g res old acc = k0_pay9 (k0_pay2 ct acc w) x g res := by
  unfold out0_D_7
  rw [View.read_writes_eq_canon _ _ _ (cover0_D_7 c i a ha b hb xr hx gr hg rr hr o ho og hog ob hob s hs h0 h1 h2 ct w x g res old acc)]
  unfold kernelRun0_D
  dsimp only
  sl_unfold_words
  rw [View.canon_unit_zero (S := S1024x1024) origin2]
  simp only [readCov_last (S := S1024x1024) _ origin2, readCov_last (S := S1x1024) _ origin2, View.readAt_eq_ld, ha.read_unread,
    hb.read_unread, hx.read_unread, hg.read_unread, hr.read_unread, hs.read_unread, hog.read_unread,
    View.ld_unit_zero (S := S1024x1024) origin2, View.ld_unit_zero (S := S1x1024) origin2, shapeCast_self]

theorem dgD (h0 : ¬cond0_0 i) (h1 : cond0_1 i) (h2 : ¬cond0_2 i) :
    out0_D_6 c i a ha b hb xr hx gr hg rr hr o ho og hog ob hob s hs h0 h1 h2 ct w x g res old acc = k0_pay4 (k0_pay7 (k0_pay2 ct acc w) x) old := by
  unfold out0_D_6
  rw [View.read_writes_eq_canon _ _ _ (cover0_D_6 c i a ha b hb xr hx gr hg rr hr o ho og hog ob hob s hs h0 h1 h2 ct w x g res old acc)]
  unfold kernelRun0_D
  dsimp only
  sl_unfold_words
  rw [View.canon_unit_zero (S := S1x1024) origin2]
  simp only [readCov_last (S := S1024x1024) _ origin2, readCov_last (S := S1x1024) _ origin2, View.readAt_eq_ld, ha.read_unread,
    hb.read_unread, hx.read_unread, hg.read_unread, hr.read_unread, hs.read_unread, hog.read_unread,
    View.ld_unit_zero (S := S1024x1024) origin2, View.ld_unit_zero (S := S1x1024) origin2, shapeCast_self]

end Stores

/-! ### The stored values, entry by entry -/

theorem zero_at (r j : Fin 1024) : k0_pay1 (F := Ideal) (ix2 r j) = 0 := by
  unfold k0_pay1; pointwise

theorem step_at (x y : Vec Ideal S1024x1024 .bf16) (acc : Vec Ideal S1024x1024 .f32) (r j : Fin 1024) :
    (k0_pay2 x acc y : A2 1024 1024) (ix2 r j)
      = acc (ix2 r j) + ∑ k : Fin 1024, (x : A2 1024 1024) (ix2 r k) * (y : A2 1024 1024) (ix2 j k) := by
  unfold k0_pay2; pointwise [dot_S1024x1024_S1024x1024_S1024x1024_1_1_0_0_n_n]

theorem zero_dg_at (k : Fin 1024) : k0_pay3 (F := Ideal) (ix2 0 k) = 0 := by
  unfold k0_pay3; pointwise

theorem add_dg_at (p old : Vec Ideal S1x1024 .f32) (k : Fin 1024) :
    (k0_pay4 p old : A2 1 1024) (ix2 0 k) = (old : A2 1 1024) (ix2 0 k) + (p : A2 1 1024) (ix2 0 k) := by
  unfold k0_pay4; pointwise

theorem dg_at (d x : Vec Ideal S1024x1024 .f32) (k : Fin 1024) :
    (k0_pay7 d x : A2 1 1024) (ix2 0 k)
      = ∑ R : Fin 1024, dgPart (fun k => (x : A2 1024 1024) (ix2 R k)) (fun k => (d : A2 1024 1024) (ix2 R k)) k := by
  unfold k0_pay7 k0_pay6 k0_pay5 dgPart ms
  pointwise

theorem dx_at (d x : Vec Ideal S1024x1024 .f32) (g : Vec Ideal S1x1024 .f32) (res : Vec Ideal S1024x1024 .f32) (r k : Fin 1024) :
    (k0_pay8 d x g res : A2 1024 1024) (ix2 r k)
      = dxRow (fun k => (x : A2 1024 1024) (ix2 r k)) (fun k => (g : A2 1 1024) (ix2 0 k)) (fun k => (d : A2 1024 1024) (ix2 r k)) k
        + (res : A2 1024 1024) (ix2 r k) := by
  unfold k0_pay8 k0_pay6 k0_pay5 dxRow slope ms
  pointwise
  simp only [Finset.univ_unique, Finset.sum_singleton]

theorem twin_at (d x : Vec Ideal S1024x1024 .f32) (g : Vec Ideal S1x1024 .f32) (res : Vec Ideal S1024x1024 .f32) (r k : Fin 1024) :
    (k0_pay9 d x g res : A2 1024 1024) (ix2 r k) = (k0_pay8 d x g res : A2 1024 1024) (ix2 r k) := by
  unfold k0_pay9; pointwise

end Cert.Mlp.DH2

end
-- ==== Proof.Mlp.DH2.lean ====
/-
  THE COTANGENT OF THE MLP'S INPUT, AND THE GRADIENT OF ITS NORM'S SCALE, AS THE KERNEL COMPUTES THEM.

  Grid point `4 p + s` works on the block of rows `1024 p …` and adds the products over columns `1024 s …` of the
  cotangent.  After `s = 3` the block's rows go through the norm; the scale's gradient is carried from block to block.
-/
module

public import proofs.«01_k».proof.Proof.Mlp.DH2Stores

@[expose] public section

noncomputable section

namespace Cert.Mlp.DH2

open Cert.DH2Ideal Cert.DH2Ideal.Gen Idealize.ShloMosaic Idealize.ShloMosaic.TcCoe Idealize.SL.Sem
open Idealize.ShloMosaic.StableHlo

/-! ### The values -/

/-- The cotangent of the normed rows: the cotangent of the product times the matrix transposed. -/
def dRow (ct : A2 8192 4096) (w : A2 1024 4096) (R : Fin 8192) : Row := fun k => ∑ J, ct (ix2 R J) * w (ix2 k J)

/-- The cotangent of the input, with the residual's. -/
def dxArr (x : A2 8192 1024) (g : A2 1 1024) (w : A2 1024 4096) (ct : A2 8192 4096) (res : A2 8192 1024) : A2 8192 1024 := fun i =>
  dxRow (fun k => x (ix2 (i 0) k)) (fun k => g (ix2 0 k)) (dRow ct w (i 0)) (i 1) + res i

/-- Row `R`'s part of the scale's gradient. -/
def dgTerm (x : A2 8192 1024) (w : A2 1024 4096) (ct : A2 8192 4096) (k : Fin 1024) (R : Fin 8192) : EReal :=
  dgPart (fun k => x (ix2 R k)) (dRow ct w R) k

/-- The gradient of the scale. -/
def dgArr (x : A2 8192 1024) (w : A2 1024 4096) (ct : A2 8192 4096) : A2 1 1024 := fun i => ∑ R, dgTerm x w ct (i 1) R

/-! ### The blocks -/

variable (m : (ℓ : Loc nD τ sig) → Buf (Elt Ideal) ℓ) (c : Dev nD)

/-- The arguments as launched: the input, the scale, the matrix, the product's cotangent, the residual's cotangent. -/
abbrev aX : A2 8192 1024 := m (c.tc.loc main_arg0)
abbrev aG : A2 1 1024 := m (c.tc.loc main_arg1)
abbrev aW : A2 1024 4096 := m (c.tc.loc main_arg2)
abbrev aCt : A2 8192 4096 := m (c.tc.loc main_arg3)
abbrev aRes : A2 8192 1024 := m (c.tc.loc main_arg4)

theorem idx_facts : ∀ t : Fin cfg0.N,
    (win0_0.index t 0 = t.val / 4 ∧ win0_0.index t 1 = t.val % 4) ∧ (win0_1.index t 0 = 0 ∧ win0_1.index t 1 = t.val % 4)
    ∧ (win0_2.index t 0 = t.val / 4 ∧ win0_2.index t 1 = 0) ∧ (win0_3.index t 0 = 0 ∧ win0_3.index t 1 = 0)
    ∧ (win0_4.index t 0 = t.val / 4 ∧ win0_4.index t 1 = 0) :=
  (by decide +kernel : ∀ t : Fin grid0.N, _)

theorem entry_ct : (V m c main_v0 : A2 8192 4096) = aCt m c := by
  show StableHlo.after hostOps0 _ main_v0 = _
  unfold hostOps0
  after_results
  rfl

theorem entry_w : (V m c main_v1 : A2 1024 4096) = aW m c := by
  show StableHlo.after hostOps0 _ main_v1 = _
  unfold hostOps0
  after_results
  rfl

theorem entry_x : (V m c main_arg0 : A2 8192 1024) = aX m c := by
  show StableHlo.after hostOps0 _ main_arg0 = _
  unfold hostOps0
  after_results

theorem entry_g : (V m c main_arg1 : A2 1 1024) = aG m c := by
  show StableHlo.after hostOps0 _ main_arg1 = _
  unfold hostOps0
  after_results

theorem entry_res : (V m c main_arg4 : A2 8192 1024) = aRes m c := by
  show StableHlo.after hostOps0 _ main_arg4 = _
  unfold hostOps0
  after_results

theorem blk_ct (t : Fin cfg0.N) (r k : Fin 1024) (R : Fin 8192) (K : Fin 4096) (hR : R.val = t.val / 4 * 1024 + r.val) (hK : K.val = t.val % 4 * 1024 + k.val) :
    (iblk m c 0 t : A2 1024 1024) (ix2 r k) = aCt m c (ix2 R K) := by
  have hi := (idx_facts t).1
  rw [← entry_ct]
  unfold iblk
  rw [View.read_apply]
  show (V m c main_v0 : A2 8192 4096) _ = _
  congr 1
  funext a
  apply Fin.ext
  match a with
  | ⟨0, _⟩ => show win0_0.index t 0 * 1024 + 1 * r.val = R.val; rw [hi.1]; omega
  | ⟨1, _⟩ => show win0_0.index t 1 * 1024 + 1 * k.val = K.val; rw [hi.2]; omega

theorem blk_w (t : Fin cfg0.N) (j k : Fin 1024) (K : Fin 4096) (hK : K.val = t.val % 4 * 1024 + k.val) :
    (iblk m c 1 t : A2 1024 1024) (ix2 j k) = aW m c (ix2 j K) := by
  have hi := (idx_facts t).2.1
  rw [← entry_w]
  unfold iblk
  rw [View.read_apply]
  show (V m c main_v1 : A2 1024 4096) _ = _
  congr 1
  funext a
  apply Fin.ext
  match a with
  | ⟨0, _⟩ => show win0_1.index t 0 * 1024 + 1 * j.val = j.val; rw [hi.1]; omega
  | ⟨1, _⟩ => show win0_1.index t 1 * 1024 + 1 * k.val = K.val; rw [hi.2]; omega

theorem blk_x (t : Fin cfg0.N) (r k : Fin 1024) (R : Fin 8192) (hR : R.val = t.val / 4 * 1024 + r.val) :
    (iblk m c 2 t : A2 1024 1024) (ix2 r k) = aX m c (ix2 R k) := by
  have hi := (idx_facts t).2.2.1
  rw [← entry_x]
  unfold iblk
  rw [View.read_apply]
  show (V m c main_arg0 : A2 8192 1024) _ = _
  congr 1
  funext a
  apply Fin.ext
  match a with
  | ⟨0, _⟩ => show win0_2.index t 0 * 1024 + 1 * r.val = R.val; rw [hi.1]; omega
  | ⟨1, _⟩ => show win0_2.index t 1 * 1024 + 1 * k.val = k.val; rw [hi.2]; omega

theorem blk_g (t : Fin cfg0.N) (k : Fin 1024)  :
    (iblk m c 3 t : A2 1 1024) (ix2 0 k) = aG m c (ix2 0 k) := by
  have hi := (idx_facts t).2.2.2.1
  rw [← entry_g]
  unfold iblk
  rw [View.read_apply]
  show (V m c main_arg1 : A2 1 1024) _ = _
  congr 1
  funext a
  apply Fin.ext
  match a with
  | ⟨0, _⟩ => show win0_3.index t 0 * 1 + 1 * 0 = 0; rw [hi.1]
  | ⟨1, _⟩ => show win0_3.index t 1 * 1024 + 1 * k.val = k.val; rw [hi.2]; omega

theorem blk_res (t : Fin cfg0.N) (r k : Fin 1024) (R : Fin 8192) (hR : R.val = t.val / 4 * 1024 + r.val) :
    (iblk m c 4 t : A2 1024 1024) (ix2 r k) = aRes m c (ix2 R k) := by
  have hi := (idx_facts t).2.2.2.2
  rw [← entry_res]
  unfold iblk
  rw [View.read_apply]
  show (V m c main_arg4 : A2 8192 1024) _ = _
  congr 1
  funext a
  apply Fin.ext
  match a with
  | ⟨0, _⟩ => show win0_4.index t 0 * 1024 + 1 * r.val = R.val; rw [hi.1]; omega
  | ⟨1, _⟩ => show win0_4.index t 1 * 1024 + 1 * k.val = k.val; rw [hi.2]; omega

/-! ### The accumulator -/

/-- The contribution of column `J` of the cotangent to entry `(R, k)` of the product. -/
abbrev term (ct : A2 8192 4096) (w : A2 1024 4096) (R : Fin 8192) (k : Fin 1024) (J : Fin 4096) : EReal := ct (ix2 R J) * w (ix2 k J)

/-- One grid point's addition. -/
theorem step_term (t : Fin cfg0.N) (s : Nat) (hs : t.val % 4 = s) (acc : Vec Ideal S1024x1024 .f32) (r k : Fin 1024) (R : Fin 8192)
    (hR : R.val = t.val / 4 * 1024 + r.val) (ha : (acc : A2 1024 1024) (ix2 r k) = tiles 1024 (term (aCt m c) (aW m c) R k) s) :
    (k0_pay2 (F := Ideal) (iblk m c 0 t) acc (iblk m c 1 t) : A2 1024 1024) (ix2 r k)
      = tiles 1024 (term (aCt m c) (aW m c) R k) (s + 1) := by
  rw [step_at]
  refine tiles_step 1024 _ s _ _ ha fun j => ?_
  have hj : s * 1024 + j.val < 4096 := by omega
  rw [ext_val _ _ hj, blk_ct m c t r j R ⟨_, hj⟩ hR (by rw [hs]), blk_w m c t k j ⟨_, hj⟩ (by rw [hs])]

/-- What the accumulator holds after step `s` of the run of block row `p`. -/
theorem acc_run (p : Fin 8) (r k : Fin 1024) (R : Fin 8192) (hR : R.val = p.val * 1024 + r.val) :
    ∀ (s : Nat) (hs : s < 3) (hn : 4 * p.val + s < cfg0.N),
      ((outsAt0 m c (4 * p.val + s) hn).2.2.2 : A2 1024 1024) (ix2 r k) = tiles 1024 (term (aCt m c) (aW m c) R k) (s + 1)
  | 0, _, hn => by
    have e := outsAt0_A m c ⟨4 * p.val + 0, hn⟩ (by dsimp only; omega) (by dsimp only; omega)
    dsimp only at e
    rw [e]
    dsimp only
    rw [accA]
    exact step_term m c ⟨4 * p.val + 0, hn⟩ 0 (by dsimp only; omega) _ r k R (by dsimp only; omega)
      ((zero_at r k).trans (tiles_zero _ _).symm)
  | s + 1, hs, hn => by
    have e := outsAt0_B m c ⟨4 * p.val + (s + 1), hn⟩ (by dsimp only; omega) (by dsimp only; omega)
    dsimp only at e
    rw [e]
    dsimp only
    rw [accB]
    exact step_term m c ⟨4 * p.val + (s + 1), hn⟩ (s + 1) (by dsimp only; omega) _ r k R (by dsimp only; omega)
      (acc_run p r k R hR s (by omega) (by omega))

/-- The whole product's block, at the last point of the run of block row `p`. -/
theorem res_run (p : Fin 8) (hn : 4 * p.val + 3 < cfg0.N) (r k : Fin 1024) (R : Fin 8192) (hR : R.val = p.val * 1024 + r.val) :
    (k0_pay2 (F := Ideal) (iblk m c 0 ⟨4 * p.val + 3, hn⟩) (outsAt0 m c (4 * p.val + 2) (by omega)).2.2.2 (iblk m c 1 ⟨4 * p.val + 3, hn⟩) : A2 1024 1024) (ix2 r k)
      = dRow (aCt m c) (aW m c) R k :=
  (step_term m c ⟨4 * p.val + 3, hn⟩ 3 (by dsimp only; omega) _ r k R (by dsimp only; omega)
    (acc_run m c p r k R hR 2 (by omega) (by omega))).trans (tiles_all 4 1024 _ rfl)

/-! ### What the last point of a block row stores -/

/-- The last point's block of the input's cotangent. -/
theorem dx_run (p : Fin 8) (hn : 4 * p.val + 3 < cfg0.N) (r k : Fin 1024) (R : Fin 8192) (hR : R.val = p.val * 1024 + r.val) :
    (k0_pay8 (F := Ideal) (k0_pay2 (F := Ideal) (iblk m c 0 ⟨4 * p.val + 3, hn⟩) (outsAt0 m c (4 * p.val + 2) (by omega)).2.2.2 (iblk m c 1 ⟨4 * p.val + 3, hn⟩))
        (iblk m c 2 ⟨4 * p.val + 3, hn⟩) (iblk m c 3 ⟨4 * p.val + 3, hn⟩) (iblk m c 4 ⟨4 * p.val + 3, hn⟩) : A2 1024 1024) (ix2 r k)
      = dxArr (aX m c) (aG m c) (aW m c) (aCt m c) (aRes m c) (ix2 R k) := by
  have hR' : R.val = (⟨4 * p.val + 3, hn⟩ : Fin cfg0.N).val / 4 * 1024 + r.val := by dsimp only; omega
  rw [dx_at, blk_res m c _ r k R hR']
  simp only [res_run m c p hn r _ R hR, blk_x m c _ r _ R hR', blk_g]
  rfl

/-- The last point's part of the scale's gradient. -/
theorem dg_run (p : Fin 8) (hn : 4 * p.val + 3 < cfg0.N) (k : Fin 1024) (old : Vec Ideal S1x1024 .f32)
    (ho : (old : A2 1 1024) (ix2 0 k) = tiles 1024 (dgTerm (aX m c) (aW m c) (aCt m c) k) p.val) :
    (k0_pay4 (F := Ideal) (k0_pay7 (F := Ideal) (k0_pay2 (F := Ideal) (iblk m c 0 ⟨4 * p.val + 3, hn⟩) (outsAt0 m c (4 * p.val + 2) (by omega)).2.2.2 (iblk m c 1 ⟨4 * p.val + 3, hn⟩))
        (iblk m c 2 ⟨4 * p.val + 3, hn⟩)) old : A2 1 1024) (ix2 0 k)
      = tiles 1024 (dgTerm (aX m c) (aW m c) (aCt m c) k) (p.val + 1) := by
  rw [add_dg_at, dg_at]
  refine tiles_step 1024 _ p.val _ _ ho fun r => ?_
  have hr : p.val * 1024 + r.val < 8192 := by omega
  rw [ext_val _ _ hr]
  simp only [res_run m c p hn r _ ⟨_, hr⟩ rfl, blk_x m c ⟨4 * p.val + 3, hn⟩ r _ ⟨_, hr⟩ (by dsimp only; omega)]
  rfl

/-- The results' blocks after the run of block row `p`: the input's cotangent, and the bf16 copy. -/
theorem out_dx (p : Fin 8) (hn : 4 * p.val + 3 < cfg0.N) (r k : Fin 1024) (R : Fin 8192) (hR : R.val = p.val * 1024 + r.val) :
    ((outsAt0 m c (4 * p.val + 3) hn).1 : A2 1024 1024) (ix2 r k) = dxArr (aX m c) (aG m c) (aW m c) (aCt m c) (aRes m c) (ix2 R k)
    ∧ ((outsAt0 m c (4 * p.val + 3) hn).2.2.1 : A2 1024 1024) (ix2 r k) = dxArr (aX m c) (aG m c) (aW m c) (aCt m c) (aRes m c) (ix2 R k) := by
  by_cases hp : p.val = 0
  · have e := outsAt0_C m c ⟨4 * p.val + 3, hn⟩ (by dsimp only; omega) (by dsimp only; omega) (by dsimp only; omega)
    dsimp only at e
    rw [e]
    dsimp only
    rw [dxC, twinC]
    exact ⟨dx_run m c p hn r k R hR, (twin_at _ _ _ _ r k).trans (dx_run m c p hn r k R hR)⟩
  · have e := outsAt0_D m c ⟨4 * p.val + 3, hn⟩ (by dsimp only; omega) (by dsimp only; omega) (by dsimp only; omega)
    dsimp only at e
    rw [e]
    dsimp only
    rw [dxD, twinD]
    exact ⟨dx_run m c p hn r k R hR, (twin_at _ _ _ _ r k).trans (dx_run m c p hn r k R hR)⟩

/-- The points of a block row before its last one leave the scale's gradient alone. -/
theorem dg_idle (p : Fin 8) : ∀ (s : Nat) (hs : s < 3) (hn : 4 * p.val + s < cfg0.N),
    (outsAt0 m c (4 * p.val + s) hn).2.1 = (outsAt0 m c (4 * p.val - 1) (by omega)).2.1 ∨ p.val = 0
  | 0, _, hn => by
    by_cases hp : p.val = 0
    · exact .inr hp
    · refine .inl ?_
      have e := outsAt0_A m c ⟨4 * p.val + 0, hn⟩ (by dsimp only; omega) (by dsimp only; omega)
      dsimp only at e
      rw [e]
      rfl
  | s + 1, hs, hn => by
    have e := outsAt0_B m c ⟨4 * p.val + (s + 1), hn⟩ (by dsimp only; omega) (by dsimp only; omega)
    dsimp only at e
    rw [e]
    exact dg_idle p s (by omega) (by omega)

/-- The scale's gradient after the run of block row `p`. -/
theorem out_dg (k : Fin 1024) : ∀ (p : Nat) (hp : p < 8) (hn : 4 * p + 3 < cfg0.N),
    ((outsAt0 m c (4 * p + 3) hn).2.1 : A2 1 1024) (ix2 0 k) = tiles 1024 (dgTerm (aX m c) (aW m c) (aCt m c) k) (p + 1)
  | 0, hp, hn => by
    have e := outsAt0_C m c ⟨4 * 0 + 3, hn⟩ (by dsimp only; omega) (by dsimp only) (by dsimp only; omega)
    dsimp only at e
    rw [e]
    dsimp only
    rw [dgC]
    exact dg_run m c ⟨0, hp⟩ hn k _ ((zero_dg_at k).trans (tiles_zero _ _).symm)
  | p + 1, hp, hn => by
    have e := outsAt0_D m c ⟨4 * (p + 1) + 3, hn⟩ (by dsimp only; omega) (by dsimp only; omega) (by dsimp only; omega)
    dsimp only at e
    rw [e]
    dsimp only
    rw [dgD]
    have h := (dg_idle m c ⟨p + 1, hp⟩ 2 (by omega) (by dsimp only; omega)).resolve_right (by dsimp only; omega)
    refine dg_run m c ⟨p + 1, hp⟩ hn k _ ?_
    exact (congrArg (fun v : Vec Ideal S1x1024 .f32 => (v : A2 1 1024) (ix2 0 k)) h).trans (out_dg k p (by omega) (by omega))

/-! ### The final arrays -/

theorem same (n n' : Nat) (h : n < cfg0.N) (h' : n' < cfg0.N) (e : n = n') : outsAt0 m c n h = outsAt0 m c n' h' := by
  subst e; rfl

theorem final_dx : (Value.G5 m c : A2 8192 1024) = dxArr (aX m c) (aG m c) (aW m c) (aCt m c) (aRes m c) := by
  funext i
  have hN : cfg0.N = 32 := N_0
  have h0 : (i 0).val < 8192 := (i 0).isLt
  have h1 : (i 1).val < 1024 := (i 1).isLt
  have hp : Value.pt5Of i = 4 * ((i 0).val / 1024) + 3 := by
    show 4 * (1 * ((i 0).val / 1024 - 0) + 1 * ((i 1).val / 1024 - 0)) + 3 = _
    omega
  have hlt : Value.pt5Of i < cfg0.N := by rw [hp]; omega
  have hl : Value.loc5Of i = ix2 (⟨(i 0).val % 1024, by omega⟩ : Fin 1024) (⟨(i 1).val, h1⟩ : Fin 1024) := by
    funext a
    apply Fin.ext
    match a with
    | ⟨0, _⟩ => show (i 0).val % 1024 = (i 0).val % 1024; rfl
    | ⟨1, _⟩ => show (i 1).val % 1024 = (i 1).val; omega
  unfold Value.G5
  rw [dif_pos hlt, ← Value.outsAt0_sweep m c _ hlt, hl, same m c _ (4 * ((i 0).val / 1024) + 3) hlt (by omega) hp]
  refine (out_dx m c ⟨(i 0).val / 1024, by omega⟩ (by dsimp only; omega) ⟨(i 0).val % 1024, by omega⟩ ⟨(i 1).val, h1⟩ ⟨(i 0).val, h0⟩
    (by dsimp only; omega)).1.trans ?_
  congr 1
  funext a
  match a with
  | ⟨0, _⟩ => rfl
  | ⟨1, _⟩ => rfl

theorem final_twin : (Value.G7 m c : A2 8192 1024) = dxArr (aX m c) (aG m c) (aW m c) (aCt m c) (aRes m c) := by
  funext i
  have hN : cfg0.N = 32 := N_0
  have h0 : (i 0).val < 8192 := (i 0).isLt
  have h1 : (i 1).val < 1024 := (i 1).isLt
  have hp : Value.pt7Of i = 4 * ((i 0).val / 1024) + 3 := by
    show 4 * (1 * ((i 0).val / 1024 - 0) + 1 * ((i 1).val / 1024 - 0)) + 3 = _
    omega
  have hlt : Value.pt7Of i < cfg0.N := by rw [hp]; omega
  have hl : Value.loc7Of i = ix2 (⟨(i 0).val % 1024, by omega⟩ : Fin 1024) (⟨(i 1).val, h1⟩ : Fin 1024) := by
    funext a
    apply Fin.ext
    match a with
    | ⟨0, _⟩ => show (i 0).val % 1024 = (i 0).val % 1024; rfl
    | ⟨1, _⟩ => show (i 1).val % 1024 = (i 1).val; omega
  unfold Value.G7
  rw [dif_pos hlt, ← Value.outsAt0_sweep m c _ hlt, hl, same m c _ (4 * ((i 0).val / 1024) + 3) hlt (by omega) hp]
  refine (out_dx m c ⟨(i 0).val / 1024, by omega⟩ (by dsimp only; omega) ⟨(i 0).val % 1024, by omega⟩ ⟨(i 1).val, h1⟩ ⟨(i 0).val, h0⟩
    (by dsimp only; omega)).2.trans ?_
  congr 1
  funext a
  match a with
  | ⟨0, _⟩ => rfl
  | ⟨1, _⟩ => rfl

theorem final_dg : (Value.G6 m c : A2 1 1024) = dgArr (aX m c) (aW m c) (aCt m c) := by
  funext i
  have hN : cfg0.N = 32 := N_0
  have h0 : (i 0).val < 1 := (i 0).isLt
  have h1 : (i 1).val < 1024 := (i 1).isLt
  have hp : Value.pt6Of i = 4 * 7 + 3 := by
    show 32 * (1 * ((i 0).val / 1 - 0) + 1 * ((i 1).val / 1024 - 0)) + 31 = _
    omega
  have hlt : Value.pt6Of i < cfg0.N := by rw [hp]; omega
  have hl : Value.loc6Of i = ix2 (0 : Fin 1) (⟨(i 1).val, h1⟩ : Fin 1024) := by
    funext a
    apply Fin.ext
    match a with
    | ⟨0, _⟩ => show (i 0).val % 1 = 0; omega
    | ⟨1, _⟩ => show (i 1).val % 1024 = (i 1).val; omega
  unfold Value.G6
  rw [dif_pos hlt, ← Value.outsAt0_sweep m c _ hlt, hl, same m c _ (4 * 7 + 3) hlt (by omega) hp]
  exact (out_dg m c ⟨(i 1).val, h1⟩ 7 (by omega) (by omega)).trans (tiles_all 8 1024 _ rfl)

end Cert.Mlp.DH2

end
-- ==== Proof.Mlp.DH2Claims.lean ====
/-
  THE COTANGENT OF THE MLP'S INPUT AND ITS NORM'S GRADIENT: THE KERNEL'S RUN AND THE REFERENCE'S RUN, AT THE SAME ARRAYS.
-/
module

public import proofs.«01_k».proof.Proof.Mlp.DH2
public import proofs.«01_k».proof.Proof.Gen.DH2RefIdeal.Read

@[expose] public section

noncomputable section

namespace Cert.Mlp.DH2

open Idealize.ShloMosaic Idealize.SL.Sem

section Reference
open Cert.DH2RefIdeal Cert.DH2RefIdeal.Gen Cert.DH2RefIdeal.Read

variable (x : A2 8192 1024) (g : A2 1 1024) (w : A2 1024 4096) (ct : A2 8192 4096) (res : A2 8192 1024)

theorem ref_ms (R : Fin 8192) : val_main_v6 (F := Ideal) x (ix2 R 0) = ms (fun k => x (ix2 R k)) := by
  unfold val_main_v6 val_main_v5 val_main_v4 val_main_v3 val_main_v2 val_main_v1 val_main_v0 val_main_cst val_main_cst_0 val_main_cst_1 ms
  pointwise
  rw [div_1024]

theorem ref_d (R : Fin 8192) (k : Fin 1024) : val_main_v18 (F := Ideal) w ct (ix2 R k) = dRow ct w R k := by
  unfold val_main_v18 dRow
  pointwise [dot_S8192x4096_S1024x4096_S8192x1024_1_1_0_0_n_n]

theorem ref_dg : (val_main_v21 (F := Ideal) x w ct : A2 1 1024) = dgArr x w ct := by
  refine ext2 _ _ fun R k => ?_
  unfold val_main_v21 val_main_v20 val_main_v19 val_main_v12 val_main_v11 val_main_v7 val_main_cst_3 dgArr dgTerm dgPart
  pointwise [ref_ms x, ref_d w ct]

theorem ref_slope (R : Fin 8192) :
    val_main_v31 (F := Ideal) x g w ct (ix2 R 0) = slope (fun k => x (ix2 R k)) (fun k => g (ix2 0 k)) (dRow ct w R) := by
  unfold val_main_v31 val_main_v30 val_main_v29 val_main_v26 val_main_v25 val_main_v24 val_main_v23 val_main_v22 val_main_v10 val_main_v9
    val_main_v8 val_main_v7 val_main_cst_2 val_main_cst_4 val_main_cst_5 slope
  pointwise [ref_ms x, ref_d w ct]
  rw [div_1024]

theorem ref_dx : (val_main_v38 (F := Ideal) x g w ct res : A2 8192 1024) = dxArr x g w ct res := by
  refine ext2 _ _ fun R k => ?_
  unfold val_main_v38 val_main_v37 val_main_v36 val_main_v35 val_main_v34 val_main_v33 val_main_v32 val_main_v28 val_main_v27 val_main_v23
    val_main_v22 val_main_v7 val_main_cst_6 dxArr dxRow
  pointwise [ref_ms x, ref_d w ct]
  simp only [Finset.univ_unique, Finset.sum_singleton]
  have h : val_main_v31 (F := Ideal) x g w ct (ix2 R default) = slope (fun k => x (ix2 R k)) (fun k => g (ix2 0 k)) (dRow ct w R) :=
    ref_slope x g w ct R
  rw [h]

theorem ref_twin : (val_main_v39 (F := Ideal) x g w ct res : A2 8192 1024) = dxArr x g w ct res := by
  rw [← ref_dx]
  refine ext2 _ _ fun R k => ?_
  unfold val_main_v39
  pointwise

end Reference

section Kernel
open Cert.DH2Ideal Cert.DH2Ideal.Gen

/-- The kernel's run: its results; its arguments stay. -/
theorem kernel_run (m : (ℓ : Loc nD τ sig) → Buf (Elt Ideal) ℓ) (ρ : Dev nD → PrngReg) :
    θ_run defs (onTc main) ⟨m, fun _ => 0, ρ⟩ fun r => ∀ c,
      r.2.mem (c.tc.loc main_v2_0) = dxArr (aX m c) (aG m c) (aW m c) (aCt m c) (aRes m c)
      ∧ r.2.mem (c.tc.loc main_v2_1) = dgArr (aX m c) (aW m c) (aCt m c)
      ∧ r.2.mem (c.tc.loc main_v2_2) = dxArr (aX m c) (aG m c) (aW m c) (aCt m c) (aRes m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) :=
  (θ_run defs _ _).mono (fun r h c => ⟨(h c).1.trans (final_dx m c), (h c).2.1.trans (final_dg m c),
    (h c).2.2.1.trans (final_twin m c), (h c).2.2.2⟩) (Value.run m ρ)

end Kernel

section Reference
open Cert.DH2RefIdeal Cert.DH2RefIdeal.Gen

/-- The reference's run, at the same functions. -/
theorem reference_run (m : (ℓ : Loc nD τ sig) → Buf (Elt Ideal) ℓ) (ρ : Dev nD → PrngReg)
    (p0 : Dev nD → A2 8192 1024) (p1 : Dev nD → A2 1 1024) (p2 : Dev nD → A2 1024 4096) (p3 : Dev nD → A2 8192 4096) (p4 : Dev nD → A2 8192 1024)
    (hm : ∀ c, m (c.tc.loc main_arg0) = p0 c
      ∧ m (c.tc.loc main_arg1) = p1 c
      ∧ m (c.tc.loc main_arg2) = p2 c
      ∧ m (c.tc.loc main_arg3) = p3 c
      ∧ m (c.tc.loc main_arg4) = p4 c) :
    θ_run defs (onTc main) ⟨m, fun _ => 0, ρ⟩ fun r => ∀ c,
      r.2.mem (c.tc.loc main_v38) = dxArr (p0 c) (p1 c) (p2 c) (p3 c) (p4 c)
      ∧ r.2.mem (c.tc.loc main_v21) = dgArr (p0 c) (p2 c) (p3 c)
      ∧ r.2.mem (c.tc.loc main_v39) = dxArr (p0 c) (p1 c) (p2 c) (p3 c) (p4 c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) := by
  refine (θ_run _ _ _).mono (fun r h c => ?_) (Value.run m ρ)
  obtain ⟨h0, h1, h2, h3, h4⟩ := hm c
  obtain ⟨r0, r1, r2, hr⟩ := h c
  refine ⟨r0.trans ?_, r1.trans ?_, r2.trans ?_, hr⟩
  · rw [Read.val_main_v38_eq, h0, h1, h2, h3, h4]; exact ref_dx ..
  · rw [Read.val_main_v21_eq, h0, h2, h3]; exact ref_dg ..
  · rw [Read.val_main_v39_eq, h0, h1, h2, h3, h4]; exact ref_twin ..

end Reference

end Cert.Mlp.DH2

end
-- ==== Proof.Proj.Products.lean ====
/-
  THE MATRIX PRODUCTS OF THE STEP'S PROJECTIONS, ENTRY BY ENTRY.

  A forward projection multiplies rows by a matrix; the cotangent of its rows takes the matrix transposed; the gradient of
  its matrix takes the rows transposed.  These are the three forms, over the extended reals.
-/
module

public import proofs.«01_k».proof.Proof.Mlp.Sums

@[expose] public section

noncomputable section

namespace Cert.Proj

open Idealize.ShloMosaic Cert.Mlp

/-- Rows times a matrix. -/
def nn {M K N : Nat} (a : A2 M K) (b : A2 K N) : A2 M N := fun i => ∑ k : Fin K, a (ix2 (i 0) k) * b (ix2 k (i 1))

/-- Rows times a matrix transposed. -/
def nt {M K N : Nat} (a : A2 M K) (b : A2 N K) : A2 M N := fun i => ∑ k : Fin K, a (ix2 (i 0) k) * b (ix2 (i 1) k)

/-- Rows transposed, times rows. -/
def tn {M K N : Nat} (a : A2 K M) (b : A2 K N) : A2 M N := fun i => ∑ k : Fin K, a (ix2 k (i 0)) * b (ix2 k (i 1))

/-- Rows times a matrix, added to a residual. -/
def nnAdd {M K N : Nat} (x : A2 M N) (a : A2 M K) (b : A2 K N) : A2 M N := fun i => x i + nn a b i

end Cert.Proj

end
-- ==== Proof.Mlp.MlpUp.lean ====
/-
  THE MLP'S FIRST PRODUCT, AS THE KERNEL COMPUTES IT.

  Grid point `2 p + q` computes the block of rows `1024 p …` and columns `2048 q …`: rows times the matrix.
-/
module

public import proofs.«01_k».proof.Proof.Gen.MlpUpIdeal.Value
public import proofs.«01_k».proof.Proof.Proj.Products

@[expose] public section

noncomputable section

namespace Cert.Mlp.MlpUp

open Cert.MlpUpIdeal Cert.MlpUpIdeal.Gen Idealize.ShloMosaic Idealize.ShloMosaic.TcCoe Idealize.SL.Sem
open Idealize.ShloMosaic.StableHlo Cert.Mlp Cert.Proj

/-- What a grid point stores, from the blocks it reads. -/
theorem outA (c : Dev nD) (i : grid0.Coords) (a : Memref sig .tc .vmem S1024x1024 .bf16) (ha : a.IsWhole)
    (b : Memref sig .tc .vmem S1024x2048 .bf16) (hb : b.IsWhole)
    (o : Memref sig .tc .vmem S1024x2048 .bf16) (ho : o.IsWhole) (s : Memref sig .tc .vmem S1024x2048 .f32) (hs : s.IsWhole)
    (x : Vec Ideal S1024x1024 .bf16) (y : Vec Ideal S1024x2048 .bf16)
    (h0 : cond0_0 i) (h1 : cond0_1 i) :
    out0_A_2 c i a ha b hb o ho s hs h0 h1 x y = k0_pay3 (k0_pay2 x (k0_pay1 (F := Ideal)) y) := by
  unfold out0_A_2
  rw [View.read_writes_eq_canon _ _ _ (cover0_A_2 c i a ha b hb o ho s hs h0 h1 x y)]
  unfold kernelRun0_A
  dsimp only
  sl_unfold_words
  rw [View.canon_unit_zero (S := S1024x2048) origin2]
  simp only [readCov_last (S := S1024x2048) _ origin2, View.readCov_unit_zero (S := S1024x2048) _ origin2,
    View.readAt_eq_ld, ha.read_unread, hb.read_unread, View.ld_unit_zero (S := S1024x1024) origin2, View.ld_unit_zero (S := S1024x2048) origin2, shapeCast_self]

/-- One entry of a block. -/
theorem block_at (x : Vec Ideal S1024x1024 .bf16) (y : Vec Ideal S1024x2048 .bf16) (r : Fin 1024) (j : Fin 2048) :
    (k0_pay3 (k0_pay2 x (k0_pay1 (F := Ideal)) y) : A2 1024 2048) (ix2 r j)
      = ∑ k : Fin 1024, (x : A2 1024 1024) (ix2 r k) * (y : A2 1024 2048) (ix2 k j) := by
  unfold k0_pay3 k0_pay2 k0_pay1
  pointwise [dot_S1024x1024_S1024x2048_S1024x2048_1_0_0_1_n_n]

/-! ### The blocks -/

variable (m : Memory nD τ sig) (c : Dev nD)

/-- The arguments as launched: the two factors. -/
abbrev aA : A2 8192 1024 := m (c.tc.loc main_arg0)
abbrev aB : A2 1024 4096 := m (c.tc.loc main_arg1)

theorem idx_facts : ∀ t : Fin cfg0.N,
    (win0_0.index t 0 = t.val / 2 ∧ win0_0.index t 1 = 0) ∧ (win0_1.index t 0 = 0 ∧ win0_1.index t 1 = t.val % 2) ∧ (win0_2.index t 0 = t.val / 2 ∧ win0_2.index t 1 = t.val % 2) :=
  (by decide +kernel : ∀ t : Fin grid0.N, _)

theorem entry_a : (V m c main_v0 : A2 8192 1024) = aA m c := by
  show StableHlo.after hostOps0 _ main_v0 = _
  unfold hostOps0
  after_results
  rfl

theorem entry_b : (V m c main_v1 : A2 1024 4096) = aB m c := by
  show StableHlo.after hostOps0 _ main_v1 = _
  unfold hostOps0
  after_results
  rfl

/-- The result's row and column of entry `(r, j)` of block `t`. -/
def rowIx (t : Fin cfg0.N) (r : Fin 1024) : Fin 8192 :=
  ⟨t.val / 2 * 1024 + r.val, by have hN : cfg0.N = 16 := N_0; omega⟩
def colIx (t : Fin cfg0.N) (j : Fin 2048) : Fin 4096 :=
  ⟨t.val % 2 * 2048 + j.val, by omega⟩

theorem blk_a (t : Fin cfg0.N) (r : Fin 1024) (k : Fin 1024) :
    (iblk m c 0 t : A2 1024 1024) (ix2 r k) = aA m c (ix2 (rowIx t r) k) := by
  have hi := (idx_facts t).1
  rw [← entry_a]
  unfold iblk
  rw [View.read_apply]
  show (V m c main_v0 : A2 8192 1024) _ = _
  congr 1
  funext a
  apply Fin.ext
  match a with
  | ⟨0, _⟩ => show win0_0.index t 0 * 1024 + 1 * r.val = t.val / 2 * 1024 + r.val; rw [hi.1]; omega
  | ⟨1, _⟩ => show win0_0.index t 1 * 1024 + 1 * k.val = k.val; rw [hi.2]; omega

theorem blk_b (t : Fin cfg0.N) (k : Fin 1024) (j : Fin 2048) :
    (iblk m c 1 t : A2 1024 2048) (ix2 k j) = aB m c (ix2 k (colIx t j)) := by
  have hi := (idx_facts t).2.1
  rw [← entry_b]
  unfold iblk
  rw [View.read_apply]
  show (V m c main_v1 : A2 1024 4096) _ = _
  congr 1
  funext a
  apply Fin.ext
  match a with
  | ⟨0, _⟩ => show win0_1.index t 0 * 1024 + 1 * k.val = k.val; rw [hi.1]; omega
  | ⟨1, _⟩ => show win0_1.index t 1 * 2048 + 1 * j.val = t.val % 2 * 2048 + j.val; rw [hi.2]; omega

/-! ### The final array -/

theorem read_out (t : Fin cfg0.N) (G : A2 8192 4096) (r : Fin 1024) (j : Fin 2048) :
    (((cfg0.win 2).blk t).view.read (Elt Ideal) G : A2 1024 2048) (ix2 r j) = G (ix2 (rowIx t r) (colIx t j)) := by
  have hi := (idx_facts t).2.2
  rw [View.read_apply]
  show G _ = _
  congr 1
  funext a
  apply Fin.ext
  match a with
  | ⟨0, _⟩ => show win0_2.index t 0 * 1024 + 1 * r.val = t.val / 2 * 1024 + r.val; rw [hi.1]; omega
  | ⟨1, _⟩ => show win0_2.index t 1 * 2048 + 1 * j.val = t.val % 2 * 2048 + j.val; rw [hi.2]; omega

theorem final : ((dats m 0 c).arrAt 2 cfg0.N : A2 8192 4096) = nn (aA m c) (aB m c) := by
  refine (dats m 0 c).arrAt_eq_of_cover 2 (nn (aA m c) (aB m c)) ?_ ?_
  · intro t _
    rw [Value.flushed2_A, outA]
    refine ext2 (a := 1024) (b := 2048) _ _ fun r j => ?_
    refine (block_at _ _ r j).trans (Eq.trans ?_ (read_out t (nn (aA m c) (aB m c)) r j).symm)
    simp only [blk_a, blk_b]
    rfl
  · intro i
    have h0 : (i 0 : Nat) < 8192 := (i 0).isLt
    have h1 : (i 1 : Nat) < 4096 := (i 1).isLt
    have hN : cfg0.N = 16 := N_0
    let t : Fin cfg0.N := ⟨2 * ((i 0 : Nat) / 1024) + (i 1 : Nat) / 2048, by omega⟩
    refine ⟨t, flush0_2 t, ?_⟩
    have hi := (idx_facts t).2.2
    have e0 : win0_2.index t 0 = (i 0 : Nat) / 1024 := hi.1.trans (by show (2 * ((i 0 : Nat) / 1024) + (i 1 : Nat) / 2048) / 2 = _; omega)
    have e1 : win0_2.index t 1 = (i 1 : Nat) / 2048 := hi.2.trans (by show (2 * ((i 0 : Nat) / 1024) + (i 1 : Nat) / 2048) % 2 = _; omega)
    show i ∈ ((View.whole main_v2).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024; rw [e0]; omega
    | ⟨1, _⟩ => show win0_2.index t 1 * 2048 ≤ (i 1 : Nat) ∧ (i 1 : Nat) < win0_2.index t 1 * 2048 + 2048; rw [e1]; omega

end Cert.Mlp.MlpUp

end
-- ==== Proof.Mlp.MlpUpClaims.lean ====
/-
  THE MLP'S FIRST PRODUCT: THE KERNEL'S RUN AND THE REFERENCE'S RUN, AT THE SAME ARRAYS.
-/
module

public import proofs.«01_k».proof.Proof.Mlp.MlpUp
public import proofs.«01_k».proof.Proof.Gen.MlpUpRefIdeal.Read

@[expose] public section

noncomputable section

namespace Cert.Mlp.MlpUp

open Idealize.ShloMosaic Idealize.SL.Sem Cert.Mlp Cert.Proj

section Reference
open Cert.MlpUpRefIdeal Cert.MlpUpRefIdeal.Gen Cert.MlpUpRefIdeal.Read

theorem ref_value (a : A2 8192 1024) (b : A2 1024 4096) : (val_main_v1 (F := Ideal) a b : A2 8192 4096) = nn a b := by
  refine ext2 _ _ fun R J => ?_
  unfold val_main_v1 val_main_v0 nn
  pointwise [dot_S8192x1024_S1024x4096_S8192x4096_1_0_0_1_n_n]

end Reference

section Kernel
open Cert.MlpUpIdeal Cert.MlpUpIdeal.Gen

/-- The kernel's run: its results; its arguments stay. -/
theorem kernel_run (m : Memory nD τ sig) (ρ : Dev nD → PrngReg) :
    θ_run defs (onTc main) ⟨m, fun _ => 0, ρ⟩ fun r => ∀ c,
      r.2.mem (c.tc.loc main_v2) = nn (aA m c) (aB m c)
      ∧ r.2.mem (c.tc.loc main_arg0) = m (c.tc.loc main_arg0)
      ∧ r.2.mem (c.tc.loc main_arg1) = m (c.tc.loc main_arg1) :=
  (θ_run defs _ _).mono (fun r h c => ⟨(h c).1.trans (final m c), (h c).2⟩) (Value.run_blocks m ρ)

end Kernel

section Reference
open Cert.MlpUpRefIdeal Cert.MlpUpRefIdeal.Gen

/-- The reference's run, at the same functions. -/
theorem reference_run (m : Memory nD τ sig) (ρ : Dev nD → PrngReg)
    (p0 : Dev nD → A2 8192 1024) (p1 : Dev nD → A2 1024 4096)
    (hm : ∀ c, m (c.tc.loc main_arg0) = p0 c
      ∧ m (c.tc.loc main_arg1) = p1 c) :
    θ_run defs (onTc main) ⟨m, fun _ => 0, ρ⟩ fun r => ∀ c,
      r.2.mem (c.tc.loc main_v1) = nn (p0 c) (p1 c)
      ∧ r.2.mem (c.tc.loc main_arg0) = m (c.tc.loc main_arg0)
      ∧ r.2.mem (c.tc.loc main_arg1) = m (c.tc.loc main_arg1) := by
  refine (θ_run _ _ _).mono (fun r h c => ?_) (Value.run m ρ)
  obtain ⟨h0, h1⟩ := hm c
  obtain ⟨r0, hr⟩ := h c
  refine ⟨r0.trans ?_, hr⟩
  · rw [Read.val_main_v1_eq, h0, h1]; exact ref_value ..

end Reference

end Cert.Mlp.MlpUp

end
-- ==== Proof.Mlp.MlpDownStores.lean ====
/-
  THE MLP'S SECOND PRODUCT AND THE LOSS: WHAT EACH GRID POINT STORES.

  A point squares the relu of its tile of the pre-activations and adds one tile of the product to the accumulator.  The
  last point of a block row adds the residual, takes the difference from the target, stores the loss's cotangent twice
  (in both precisions) and adds the block's part of the loss to what the block rows before it left.
-/
module

public import proofs.«01_k».proof.Proof.Gen.MlpDownIdeal.Value
public import proofs.«01_k».proof.Proof.Mlp.Norm

@[expose] public section

noncomputable section

namespace Cert.Mlp.MlpDown

open Cert.MlpDownIdeal Cert.MlpDownIdeal.Gen Idealize.ShloMosaic Idealize.ShloMosaic.TcCoe Idealize.SL.Sem
open Idealize.ShloMosaic.StableHlo

section Stores
variable (c : Dev nD) (i : grid0.Coords) (a : Memref sig .tc .vmem S1024x1024 .bf16) (ha : a.IsWhole)
  (b : Memref sig .tc .vmem S1024x1024 .bf16) (hb : b.IsWhole) (xr : Memref sig .tc .vmem S1024x1024 .f32) (hx : xr.IsWhole)
  (tr : Memref sig .tc .vmem S1024x1024 .f32) (ht : tr.IsWhole)
  (o : Memref sig .tc .vmem S1024x1024 .f32) (ho : o.IsWhole) (ol : Memref sig .tc .vmem S1x1 .f32) (hol : ol.IsWhole)
  (ob : Memref sig .tc .vmem S1024x1024 .bf16) (hob : ob.IsWhole)
  (s : Memref sig .tc .vmem S1024x1024 .f32) (hs : s.IsWhole) (act w : Vec Ideal S1024x1024 .bf16) (x : Vec Ideal S1024x1024 .f32)
  (tgt acc : Vec Ideal S1024x1024 .f32) (old : Vec Ideal S1x1 .f32)

theorem accA (h0 : cond0_0 i) (h1 : ¬cond0_1 i) :
    sout0_A_0 c i a ha b hb xr hx tr ht o ho ol hol ob hob s hs h0 h1 act w x tgt = k0_pay2 act (k0_pay1 (F := Ideal)) w := by
  unfold sout0_A_0
  rw [View.read_writes_eq_canon _ _ _ (scover0_A_0 c i a ha b hb xr hx tr ht o ho ol hol ob hob s hs h0 h1 act w x tgt)]
  unfold kernelRun0_A
  dsimp only
  sl_unfold_words
  rw [View.canon_cons_unit_zero (S := S1024x1024) origin2, View.readCov_unit_zero (S := S1024x1024) _ origin2]
  simp only [View.readAt_eq_ld, ha.read_unread, hb.read_unread, hs.read_unread, View.ld_unit_zero (S := S1024x1024) origin2, shapeCast_self]

theorem accB (h0 : ¬cond0_0 i) (h1 : ¬cond0_1 i) :
    sout0_B_0 c i a ha b hb xr hx tr ht o ho ol hol ob hob s hs h0 h1 act w x tgt acc = k0_pay2 act acc w := by
  unfold sout0_B_0
  rw [View.read_writes_eq_canon _ _ _ (scover0_B_0 c i a ha b hb xr hx tr ht o ho ol hol ob hob s hs h0 h1 act w x tgt acc)]
  unfold kernelRun0_B
  dsimp only
  sl_unfold_words
  rw [View.canon_unit_zero (S := S1024x1024) origin2]
  simp only [View.readAt_eq_ld, ha.read_unread, hb.read_unread, hs.read_unread, View.ld_unit_zero (S := S1024x1024) origin2, shapeCast_self]

theorem dyC (h0 : ¬cond0_0 i) (h1 : cond0_1 i) (h2 : cond0_2 i) :
    out0_C_4 c i a ha b hb xr hx tr ht o ho ol hol ob hob s hs h0 h1 h2 act w x tgt acc = k0_pay4 (k0_pay2 act acc w) x tgt := by
  unfold out0_C_4
  rw [View.read_writes_eq_canon _ _ _ (cover0_C_4 c i a ha b hb xr hx tr ht o ho ol hol ob hob s hs h0 h1 h2 act w x tgt acc)]
  unfold kernelRun0_C
  dsimp only
  sl_unfold_words
  rw [View.canon_unit_zero (S := S1024x1024) origin2]
  simp only [readCov_last (S := S1024x1024) _ origin2, readCov_last (S := S1x1) _ origin2, View.readAt_eq_ld, ha.read_unread,
    hb.read_unread, hx.read_unread, ht.read_unread, hs.read_unread, hol.read_unread,
    View.ld_unit_zero (S := S1024x1024) origin2, View.ld_unit_zero (S := S1x1) origin2, shapeCast_self]

theorem twinC (h0 : ¬cond0_0 i) (h1 : cond0_1 i) (h2 : cond0_2 i) :
    out0_C_6 c i a ha b hb xr hx tr ht o ho ol hol ob hob s hs h0 h1 h2 act w x tgt acc = k0_pay5 (k0_pay2 act acc w) x tgt := by
  unfold out0_C_6
  rw [View.read_writes_eq_canon _ _ _ (cover0_C_6 c i a ha b hb xr hx tr ht o ho ol hol ob hob s hs h0 h1 h2 act w x tgt acc)]
  unfold kernelRun0_C
  dsimp only
  sl_unfold_words
  rw [View.canon_unit_zero (S := S1024x1024) origin2]
  simp only [readCov_last (S := S1024x1024) _ origin2, readCov_last (S := S1x1) _ origin2, View.readAt_eq_ld, ha.read_unread,
    hb.read_unread, hx.read_unread, ht.read_unread, hs.read_unread, hol.read_unread,
    View.ld_unit_zero (S := S1024x1024) origin2, View.ld_unit_zero (S := S1x1) origin2, shapeCast_self]

theorem lossC (h0 : ¬cond0_0 i) (h1 : cond0_1 i) (h2 : cond0_2 i) :
    out0_C_5 c i a ha b hb xr hx tr ht o ho ol hol ob hob s hs h0 h1 h2 act w x tgt acc = k0_pay7 (k0_pay2 act acc w) x tgt (k0_pay6 (F := Ideal)) := by
  unfold out0_C_5
  rw [View.read_writes_eq_canon _ _ _ (cover0_C_5 c i a ha b hb xr hx tr ht o ho ol hol ob hob s hs h0 h1 h2 act w x tgt acc)]
  unfold kernelRun0_C
  dsimp only
  sl_unfold_words
  rw [View.canon_cons_unit_zero (S := S1x1) origin2]
  simp only [readCov_last (S := S1024x1024) _ origin2, readCov_last (S := S1x1) _ origin2, View.readAt_eq_ld, ha.read_unread,
    hb.read_unread, hx.read_unread, ht.read_unread, hs.read_unread, hol.read_unread,
    View.ld_unit_zero (S := S1024x1024) origin2, View.ld_unit_zero (S := S1x1) origin2, shapeCast_self]

theorem dyD (h0 : ¬cond0_0 i) (h1 : cond0_1 i) (h2 : ¬cond0_2 i) :
    out0_D_4 c i a ha b hb xr hx tr ht o ho ol hol ob hob s hs h0 h1 h2 act w x tgt old acc = k0_pay4 (k0_pay2 act acc w) x tgt := by
  unfold out0_D_4
  rw [View.read_writes_eq_canon _ _ _ (cover0_D_4 c i a ha b hb xr hx tr ht o ho ol hol ob hob s hs h0 h1 h2 act w x tgt old acc)]
  unfold kernelRun0_D
  dsimp only
  sl_unfold_words
  rw [View.canon_unit_zero (S := S1024x1024) origin2]
  simp only [readCov_last (S := S1024x1024) _ origin2, readCov_last (S := S1x1) _ origin2, View.readAt_eq_ld, ha.read_unread,
    hb.read_unread, hx.read_unread, ht.read_unread, hs.read_unread, hol.read_unread,
    View.ld_unit_zero (S := S1024x1024) origin2, View.ld_unit_zero (S := S1x1) origin2, shapeCast_self]

theorem twinD (h0 : ¬cond0_0 i) (h1 : cond0_1 i) (h2 : ¬cond0_2 i) :
    out0_D_6 c i a ha b hb xr hx tr ht o ho ol hol ob hob s hs h0 h1 h2 act w x tgt old acc = k0_pay5 (k0_pay2 act acc w) x tgt := by
  unfold out0_D_6
  rw [View.read_writes_eq_canon _ _ _ (cover0_D_6 c i a ha b hb xr hx tr ht o ho ol hol ob hob s hs h0 h1 h2 act w x tgt old acc)]
  unfold kernelRun0_D
  dsimp only
  sl_unfold_words
  rw [View.canon_unit_zero (S := S1024x1024) origin2]
  simp only [readCov_last (S := S1024x1024) _ origin2, readCov_last (S := S1x1) _ origin2, View.readAt_eq_ld, ha.read_unread,
    hb.read_unread, hx.read_unread, ht.read_unread, hs.read_unread, hol.read_unread,
    View.ld_unit_zero (S := S1024x1024) origin2, View.ld_unit_zero (S := S1x1) origin2, shapeCast_self]

theorem lossD (h0 : ¬cond0_0 i) (h1 : cond0_1 i) (h2 : ¬cond0_2 i) :
    out0_D_5 c i a ha b hb xr hx tr ht o ho ol hol ob hob s hs h0 h1 h2 act w x tgt old acc = k0_pay7 (k0_pay2 act acc w) x tgt old := by
  unfold out0_D_5
  rw [View.read_writes_eq_canon _ _ _ (cover0_D_5 c i a ha b hb xr hx tr ht o ho ol hol ob hob s hs h0 h1 h2 act w x tgt old acc)]
  unfold kernelRun0_D
  dsimp only
  sl_unfold_words
  rw [View.canon_unit_zero (S := S1x1) origin2]
  simp only [readCov_last (S := S1024x1024) _ origin2, readCov_last (S := S1x1) _ origin2, View.readAt_eq_ld, ha.read_unread,
    hb.read_unread, hx.read_unread, ht.read_unread, hs.read_unread, hol.read_unread,
    View.ld_unit_zero (S := S1024x1024) origin2, View.ld_unit_zero (S := S1x1) origin2, shapeCast_self]

end Stores

/-! ### The stored values, entry by entry -/

theorem zero_at (r j : Fin 1024) : k0_pay1 (F := Ideal) (ix2 r j) = 0 := by
  unfold k0_pay1; pointwise

theorem step_at (x y : Vec Ideal S1024x1024 .bf16) (acc : Vec Ideal S1024x1024 .f32) (r j : Fin 1024) :
    (k0_pay2 x acc y : A2 1024 1024) (ix2 r j)
      = acc (ix2 r j) + ∑ k : Fin 1024, (max ((x : A2 1024 1024) (ix2 r k)) 0 * max ((x : A2 1024 1024) (ix2 r k)) 0) * (y : A2 1024 1024) (ix2 k j) := by
  unfold k0_pay2; pointwise [dot_S1024x1024_S1024x1024_S1024x1024_1_0_0_1_n_n]

theorem zero_loss_at : k0_pay6 (F := Ideal) (ix2 0 0) = 0 := by
  unfold k0_pay6; pointwise

theorem err_at (d x t : Vec Ideal S1024x1024 .f32) (r k : Fin 1024) :
    (k0_pay3 d x t : A2 1024 1024) (ix2 r k)
      = ((d : A2 1024 1024) (ix2 r k) + (x : A2 1024 1024) (ix2 r k)) - (t : A2 1024 1024) (ix2 r k) := by
  unfold k0_pay3; pointwise

theorem dy_at (d x t : Vec Ideal S1024x1024 .f32) (r k : Fin 1024) :
    (k0_pay4 d x t : A2 1024 1024) (ix2 r k)
      = (((d : A2 1024 1024) (ix2 r k) + (x : A2 1024 1024) (ix2 r k)) - (t : A2 1024 1024) (ix2 r k)) * inv1024 := by
  unfold k0_pay4; pointwise [err_at d x t]

theorem twin_at (d x t : Vec Ideal S1024x1024 .f32) (r k : Fin 1024) :
    (k0_pay5 d x t : A2 1024 1024) (ix2 r k) = (k0_pay4 d x t : A2 1024 1024) (ix2 r k) := by
  unfold k0_pay5; pointwise

theorem loss_at (d x t : Vec Ideal S1024x1024 .f32) (old : Vec Ideal S1x1 .f32) :
    (k0_pay7 d x t old : A2 1 1) (ix2 0 0)
      = (old : A2 1 1) (ix2 0 0) + half * ∑ r : Fin 1024, (∑ k : Fin 1024,
          ((k0_pay3 d x t : A2 1024 1024) (ix2 r k) * (k0_pay3 d x t : A2 1024 1024) (ix2 r k))) * inv1024 := by
  unfold k0_pay7
  pointwise

end Cert.Mlp.MlpDown

end
-- ==== Proof.Mlp.MlpDown.lean ====
/-
  THE MLP'S SECOND PRODUCT, THE LOSS AND THE LOSS'S COTANGENT, AS THE KERNEL COMPUTES THEM.

  Grid point `4 p + s` works on the block of rows `1024 p …` and adds the products over columns `1024 s …` of the
  squared relu.  After `s = 3` the block's rows meet the target; the loss is carried from block to block.
-/
module

public import proofs.«01_k».proof.Proof.Mlp.MlpDownStores

@[expose] public section

noncomputable section

namespace Cert.Mlp.MlpDown

open Cert.MlpDownIdeal Cert.MlpDownIdeal.Gen Idealize.ShloMosaic Idealize.ShloMosaic.TcCoe Idealize.SL.Sem
open Idealize.ShloMosaic.StableHlo

/-! ### The values -/

/-- The squared relu. -/
def relu2 (act : A2 8192 4096) : A2 8192 4096 := fun i => max (act i) 0 * max (act i) 0

/-- The difference of the block's result from the target: the product and the residual, less the target. -/
def errArr (x : A2 8192 1024) (act : A2 8192 4096) (w : A2 4096 1024) (tgt : A2 8192 1024) : A2 8192 1024 := fun i =>
  ((∑ J, relu2 act (ix2 (i 0) J) * w (ix2 J (i 1))) + x i) - tgt i

/-- The cotangent of the block's result. -/
def dyArr (x : A2 8192 1024) (act : A2 8192 4096) (w : A2 4096 1024) (tgt : A2 8192 1024) : A2 8192 1024 := fun i =>
  errArr x act w tgt i * inv1024

/-- Row `R`'s part of the loss. -/
def lossTerm (x : A2 8192 1024) (act : A2 8192 4096) (w : A2 4096 1024) (tgt : A2 8192 1024) (R : Fin 8192) : EReal :=
  half * ((∑ k, errArr x act w tgt (ix2 R k) * errArr x act w tgt (ix2 R k)) * inv1024)

/-- The loss: half the mean over the columns of the square of the difference, summed over the rows. -/
def lossArr (x : A2 8192 1024) (act : A2 8192 4096) (w : A2 4096 1024) (tgt : A2 8192 1024) : A2 1 1 := fun _ =>
  ∑ R, lossTerm x act w tgt R

/-! ### The blocks -/

variable (m : Memory nD τ sig) (c : Dev nD)

/-- The arguments as launched: the residual, the pre-activations, the matrix, the target. -/
abbrev aX : A2 8192 1024 := m (c.tc.loc main_arg0)
abbrev aAct : A2 8192 4096 := m (c.tc.loc main_arg1)
abbrev aW : A2 4096 1024 := m (c.tc.loc main_arg2)
abbrev aT : A2 8192 1024 := m (c.tc.loc main_arg3)

theorem idx_facts : ∀ t : Fin cfg0.N,
    (win0_0.index t 0 = t.val / 4 ∧ win0_0.index t 1 = t.val % 4) ∧ (win0_1.index t 0 = t.val % 4 ∧ win0_1.index t 1 = 0)
    ∧ (win0_2.index t 0 = t.val / 4 ∧ win0_2.index t 1 = 0) ∧ (win0_3.index t 0 = t.val / 4 ∧ win0_3.index t 1 = 0) :=
  (by decide +kernel : ∀ t : Fin grid0.N, _)

theorem entry_act : (V m c main_v0 : A2 8192 4096) = aAct m c := by
  show StableHlo.after hostOps0 _ main_v0 = _
  unfold hostOps0
  after_results
  rfl

theorem entry_w : (V m c main_v1 : A2 4096 1024) = aW m c := by
  show StableHlo.after hostOps0 _ main_v1 = _
  unfold hostOps0
  after_results
  rfl

theorem entry_x : (V m c main_arg0 : A2 8192 1024) = aX m c := by
  show StableHlo.after hostOps0 _ main_arg0 = _
  unfold hostOps0
  after_results

theorem entry_t : (V m c main_arg3 : A2 8192 1024) = aT m c := by
  show StableHlo.after hostOps0 _ main_arg3 = _
  unfold hostOps0
  after_results

theorem blk_act (t : Fin cfg0.N) (r k : Fin 1024) (R : Fin 8192) (hR : R.val = t.val / 4 * 1024 + r.val) (K : Fin 4096) (hK : K.val = t.val % 4 * 1024 + k.val) :
    (iblk m c 0 t : A2 1024 1024) (ix2 r k) = aAct m c (ix2 R K) := by
  have hi := (idx_facts t).1
  rw [← entry_act]
  unfold iblk
  rw [View.read_apply]
  show (V m c main_v0 : A2 8192 4096) _ = _
  congr 1
  funext a
  apply Fin.ext
  match a with
  | ⟨0, _⟩ => show win0_0.index t 0 * 1024 + 1 * r.val = R.val; rw [hi.1]; omega
  | ⟨1, _⟩ => show win0_0.index t 1 * 1024 + 1 * k.val = K.val; rw [hi.2]; omega

theorem blk_w (t : Fin cfg0.N) (k j : Fin 1024) (K : Fin 4096) (hK : K.val = t.val % 4 * 1024 + k.val) :
    (iblk m c 1 t : A2 1024 1024) (ix2 k j) = aW m c (ix2 K j) := by
  have hi := (idx_facts t).2.1
  rw [← entry_w]
  unfold iblk
  rw [View.read_apply]
  show (V m c main_v1 : A2 4096 1024) _ = _
  congr 1
  funext a
  apply Fin.ext
  match a with
  | ⟨0, _⟩ => show win0_1.index t 0 * 1024 + 1 * k.val = K.val; rw [hi.1]; omega
  | ⟨1, _⟩ => show win0_1.index t 1 * 1024 + 1 * j.val = j.val; rw [hi.2]; omega

theorem blk_x (t : Fin cfg0.N) (r k : Fin 1024) (R : Fin 8192) (hR : R.val = t.val / 4 * 1024 + r.val) :
    (iblk m c 2 t : A2 1024 1024) (ix2 r k) = aX m c (ix2 R k) := by
  have hi := (idx_facts t).2.2.1
  rw [← entry_x]
  unfold iblk
  rw [View.read_apply]
  show (V m c main_arg0 : A2 8192 1024) _ = _
  congr 1
  funext a
  apply Fin.ext
  match a with
  | ⟨0, _⟩ => show win0_2.index t 0 * 1024 + 1 * r.val = R.val; rw [hi.1]; omega
  | ⟨1, _⟩ => show win0_2.index t 1 * 1024 + 1 * k.val = k.val; rw [hi.2]; omega

theorem blk_t (t : Fin cfg0.N) (r k : Fin 1024) (R : Fin 8192) (hR : R.val = t.val / 4 * 1024 + r.val) :
    (iblk m c 3 t : A2 1024 1024) (ix2 r k) = aT m c (ix2 R k) := by
  have hi := (idx_facts t).2.2.2
  rw [← entry_t]
  unfold iblk
  rw [View.read_apply]
  show (V m c main_arg3 : A2 8192 1024) _ = _
  congr 1
  funext a
  apply Fin.ext
  match a with
  | ⟨0, _⟩ => show win0_3.index t 0 * 1024 + 1 * r.val = R.val; rw [hi.1]; omega
  | ⟨1, _⟩ => show win0_3.index t 1 * 1024 + 1 * k.val = k.val; rw [hi.2]; omega

/-! ### The accumulator -/

/-- The contribution of column `J` of the squared relu to entry `(R, k)` of the product. -/
abbrev term (act : A2 8192 4096) (w : A2 4096 1024) (R : Fin 8192) (k : Fin 1024) (J : Fin 4096) : EReal :=
  relu2 act (ix2 R J) * w (ix2 J k)

/-- One grid point's addition. -/
theorem step_term (t : Fin cfg0.N) (s : Nat) (hs : t.val % 4 = s) (acc : Vec Ideal S1024x1024 .f32) (r k : Fin 1024) (R : Fin 8192)
    (hR : R.val = t.val / 4 * 1024 + r.val) (ha : (acc : A2 1024 1024) (ix2 r k) = tiles 1024 (term (aAct m c) (aW m c) R k) s) :
    (k0_pay2 (F := Ideal) (iblk m c 0 t) acc (iblk m c 1 t) : A2 1024 1024) (ix2 r k)
      = tiles 1024 (term (aAct m c) (aW m c) R k) (s + 1) := by
  rw [step_at]
  refine tiles_step 1024 _ s _ _ ha fun j => ?_
  have hj : s * 1024 + j.val < 4096 := by omega
  rw [ext_val _ _ hj, blk_act m c t r j R hR ⟨_, hj⟩ (by rw [hs]), blk_w m c t j k ⟨_, hj⟩ (by rw [hs])]
  rfl

/-- What the accumulator holds after step `s` of the run of block row `p`. -/
theorem acc_run (p : Fin 8) (r k : Fin 1024) (R : Fin 8192) (hR : R.val = p.val * 1024 + r.val) :
    ∀ (s : Nat) (hs : s < 3) (hn : 4 * p.val + s < cfg0.N),
      ((outsAt0 m c (4 * p.val + s) hn).2.2.2 : A2 1024 1024) (ix2 r k) = tiles 1024 (term (aAct m c) (aW m c) R k) (s + 1)
  | 0, _, hn => by
    have e := outsAt0_A m c ⟨4 * p.val + 0, hn⟩ (by dsimp only; omega) (by dsimp only; omega)
    dsimp only at e
    rw [e]
    dsimp only
    rw [accA]
    exact step_term m c ⟨4 * p.val + 0, hn⟩ 0 (by dsimp only; omega) _ r k R (by dsimp only; omega)
      ((zero_at r k).trans (tiles_zero _ _).symm)
  | s + 1, hs, hn => by
    have e := outsAt0_B m c ⟨4 * p.val + (s + 1), hn⟩ (by dsimp only; omega) (by dsimp only; omega)
    dsimp only at e
    rw [e]
    dsimp only
    rw [accB]
    exact step_term m c ⟨4 * p.val + (s + 1), hn⟩ (s + 1) (by dsimp only; omega) _ r k R (by dsimp only; omega)
      (acc_run p r k R hR s (by omega) (by omega))

/-- The whole product's block, at the last point of the run of block row `p`. -/
theorem res_run (p : Fin 8) (hn : 4 * p.val + 3 < cfg0.N) (r k : Fin 1024) (R : Fin 8192) (hR : R.val = p.val * 1024 + r.val) :
    ((k0_pay2 (F := Ideal) (iblk m c 0 ⟨4 * p.val + 3, hn⟩) (outsAt0 m c (4 * p.val + 2) (by omega)).2.2.2 (iblk m c 1 ⟨4 * p.val + 3, hn⟩)) : A2 1024 1024) (ix2 r k)
      = ∑ J, relu2 (aAct m c) (ix2 R J) * aW m c (ix2 J k) :=
  (step_term m c ⟨4 * p.val + 3, hn⟩ 3 (by dsimp only; omega) _ r k R (by dsimp only; omega)
    (acc_run m c p r k R hR 2 (by omega) (by omega))).trans (tiles_all 4 1024 _ rfl)

/-! ### What the last point of a block row stores -/

/-- The difference from the target. -/
theorem err_run (p : Fin 8) (hn : 4 * p.val + 3 < cfg0.N) (r k : Fin 1024) (R : Fin 8192) (hR : R.val = p.val * 1024 + r.val) :
    (k0_pay3 (F := Ideal) (k0_pay2 (F := Ideal) (iblk m c 0 ⟨4 * p.val + 3, hn⟩) (outsAt0 m c (4 * p.val + 2) (by omega)).2.2.2 (iblk m c 1 ⟨4 * p.val + 3, hn⟩))
        (iblk m c 2 ⟨4 * p.val + 3, hn⟩) (iblk m c 3 ⟨4 * p.val + 3, hn⟩) : A2 1024 1024) (ix2 r k)
      = errArr (aX m c) (aAct m c) (aW m c) (aT m c) (ix2 R k) := by
  have hR' : R.val = (⟨4 * p.val + 3, hn⟩ : Fin cfg0.N).val / 4 * 1024 + r.val := by dsimp only; omega
  rw [err_at, res_run m c p hn r k R hR, blk_x m c _ r k R hR', blk_t m c _ r k R hR']
  rfl

/-- The last point's block of the cotangent. -/
theorem dy_run (p : Fin 8) (hn : 4 * p.val + 3 < cfg0.N) (r k : Fin 1024) (R : Fin 8192) (hR : R.val = p.val * 1024 + r.val) :
    (k0_pay4 (F := Ideal) (k0_pay2 (F := Ideal) (iblk m c 0 ⟨4 * p.val + 3, hn⟩) (outsAt0 m c (4 * p.val + 2) (by omega)).2.2.2 (iblk m c 1 ⟨4 * p.val + 3, hn⟩))
        (iblk m c 2 ⟨4 * p.val + 3, hn⟩) (iblk m c 3 ⟨4 * p.val + 3, hn⟩) : A2 1024 1024) (ix2 r k)
      = dyArr (aX m c) (aAct m c) (aW m c) (aT m c) (ix2 R k) := by
  rw [dy_at, ← err_at, err_run m c p hn r k R hR]
  rfl

/-- The last point's part of the loss. -/
theorem loss_run (p : Fin 8) (hn : 4 * p.val + 3 < cfg0.N) (old : Vec Ideal S1x1 .f32)
    (ho : (old : A2 1 1) (ix2 0 0) = tiles 1024 (lossTerm (aX m c) (aAct m c) (aW m c) (aT m c)) p.val) :
    (k0_pay7 (F := Ideal) (k0_pay2 (F := Ideal) (iblk m c 0 ⟨4 * p.val + 3, hn⟩) (outsAt0 m c (4 * p.val + 2) (by omega)).2.2.2 (iblk m c 1 ⟨4 * p.val + 3, hn⟩))
        (iblk m c 2 ⟨4 * p.val + 3, hn⟩) (iblk m c 3 ⟨4 * p.val + 3, hn⟩) old : A2 1 1) (ix2 0 0)
      = tiles 1024 (lossTerm (aX m c) (aAct m c) (aW m c) (aT m c)) (p.val + 1) := by
  rw [loss_at, half_sum]
  refine tiles_step 1024 _ p.val _ _ ho fun r => ?_
  have hr : p.val * 1024 + r.val < 8192 := by omega
  rw [ext_val _ _ hr]
  simp only [err_run m c p hn r _ ⟨_, hr⟩ rfl]
  rfl

/-- The results' blocks after the run of block row `p`: the cotangent, and the bf16 copy. -/
theorem out_dy (p : Fin 8) (hn : 4 * p.val + 3 < cfg0.N) (r k : Fin 1024) (R : Fin 8192) (hR : R.val = p.val * 1024 + r.val) :
    ((outsAt0 m c (4 * p.val + 3) hn).1 : A2 1024 1024) (ix2 r k) = dyArr (aX m c) (aAct m c) (aW m c) (aT m c) (ix2 R k)
    ∧ ((outsAt0 m c (4 * p.val + 3) hn).2.2.1 : A2 1024 1024) (ix2 r k) = dyArr (aX m c) (aAct m c) (aW m c) (aT m c) (ix2 R k) := by
  by_cases hp : p.val = 0
  · have e := outsAt0_C m c ⟨4 * p.val + 3, hn⟩ (by dsimp only; omega) (by dsimp only; omega) (by dsimp only; omega)
    dsimp only at e
    rw [e]
    dsimp only
    rw [dyC, twinC]
    exact ⟨dy_run m c p hn r k R hR, (twin_at _ _ _ r k).trans (dy_run m c p hn r k R hR)⟩
  · have e := outsAt0_D m c ⟨4 * p.val + 3, hn⟩ (by dsimp only; omega) (by dsimp only; omega) (by dsimp only; omega)
    dsimp only at e
    rw [e]
    dsimp only
    rw [dyD, twinD]
    exact ⟨dy_run m c p hn r k R hR, (twin_at _ _ _ r k).trans (dy_run m c p hn r k R hR)⟩

/-- The points of a block row before its last one leave the loss alone. -/
theorem loss_idle (p : Fin 8) : ∀ (s : Nat) (hs : s < 3) (hn : 4 * p.val + s < cfg0.N),
    (outsAt0 m c (4 * p.val + s) hn).2.1 = (outsAt0 m c (4 * p.val - 1) (by omega)).2.1 ∨ p.val = 0
  | 0, _, hn => by
    by_cases hp : p.val = 0
    · exact .inr hp
    · refine .inl ?_
      have e := outsAt0_A m c ⟨4 * p.val + 0, hn⟩ (by dsimp only; omega) (by dsimp only; omega)
      dsimp only at e
      rw [e]
      rfl
  | s + 1, hs, hn => by
    have e := outsAt0_B m c ⟨4 * p.val + (s + 1), hn⟩ (by dsimp only; omega) (by dsimp only; omega)
    dsimp only at e
    rw [e]
    exact loss_idle p s (by omega) (by omega)

/-- The loss after the run of block row `p`. -/
theorem out_loss : ∀ (p : Nat) (hp : p < 8) (hn : 4 * p + 3 < cfg0.N),
    ((outsAt0 m c (4 * p + 3) hn).2.1 : A2 1 1) (ix2 0 0) = tiles 1024 (lossTerm (aX m c) (aAct m c) (aW m c) (aT m c)) (p + 1)
  | 0, hp, hn => by
    have e := outsAt0_C m c ⟨4 * 0 + 3, hn⟩ (by dsimp only; omega) (by dsimp only) (by dsimp only; omega)
    dsimp only at e
    rw [e]
    dsimp only
    rw [lossC]
    exact loss_run m c ⟨0, hp⟩ hn _ (zero_loss_at.trans (tiles_zero _ _).symm)
  | p + 1, hp, hn => by
    have e := outsAt0_D m c ⟨4 * (p + 1) + 3, hn⟩ (by dsimp only; omega) (by dsimp only; omega) (by dsimp only; omega)
    dsimp only at e
    rw [e]
    dsimp only
    rw [lossD]
    have h := (loss_idle m c ⟨p + 1, hp⟩ 2 (by omega) (by dsimp only; omega)).resolve_right (by dsimp only; omega)
    refine loss_run m c ⟨p + 1, hp⟩ hn _ ?_
    exact (congrArg (fun v : Vec Ideal S1x1 .f32 => (v : A2 1 1) (ix2 0 0)) h).trans (out_loss p (by omega) (by omega))

/-! ### The final arrays -/

theorem same (n n' : Nat) (h : n < cfg0.N) (h' : n' < cfg0.N) (e : n = n') : outsAt0 m c n h = outsAt0 m c n' h' := by
  subst e; rfl

theorem final_dy : (Value.G4 m c : A2 8192 1024) = dyArr (aX m c) (aAct m c) (aW m c) (aT m c) := by
  funext i
  have hN : cfg0.N = 32 := N_0
  have h0 : (i 0).val < 8192 := (i 0).isLt
  have h1 : (i 1).val < 1024 := (i 1).isLt
  have hp : Value.pt4Of i = 4 * ((i 0).val / 1024) + 3 := by
    show 4 * (1 * ((i 0).val / 1024 - 0) + 1 * ((i 1).val / 1024 - 0)) + 3 = _
    omega
  have hlt : Value.pt4Of i < cfg0.N := by rw [hp]; omega
  have hl : Value.loc4Of i = ix2 (⟨(i 0).val % 1024, by omega⟩ : Fin 1024) (⟨(i 1).val, h1⟩ : Fin 1024) := by
    funext a
    apply Fin.ext
    match a with
    | ⟨0, _⟩ => show (i 0).val % 1024 = (i 0).val % 1024; rfl
    | ⟨1, _⟩ => show (i 1).val % 1024 = (i 1).val; omega
  unfold Value.G4
  rw [dif_pos hlt, ← Value.outsAt0_sweep m c _ hlt, hl, same m c _ (4 * ((i 0).val / 1024) + 3) hlt (by omega) hp]
  refine (out_dy m c ⟨(i 0).val / 1024, by omega⟩ (by dsimp only; omega) ⟨(i 0).val % 1024, by omega⟩ ⟨(i 1).val, h1⟩ ⟨(i 0).val, h0⟩
    (by dsimp only; omega)).1.trans ?_
  congr 1
  funext a
  match a with
  | ⟨0, _⟩ => rfl
  | ⟨1, _⟩ => rfl

theorem final_twin : (Value.G6 m c : A2 8192 1024) = dyArr (aX m c) (aAct m c) (aW m c) (aT m c) := by
  funext i
  have hN : cfg0.N = 32 := N_0
  have h0 : (i 0).val < 8192 := (i 0).isLt
  have h1 : (i 1).val < 1024 := (i 1).isLt
  have hp : Value.pt6Of i = 4 * ((i 0).val / 1024) + 3 := by
    show 4 * (1 * ((i 0).val / 1024 - 0) + 1 * ((i 1).val / 1024 - 0)) + 3 = _
    omega
  have hlt : Value.pt6Of i < cfg0.N := by rw [hp]; omega
  have hl : Value.loc6Of i = ix2 (⟨(i 0).val % 1024, by omega⟩ : Fin 1024) (⟨(i 1).val, h1⟩ : Fin 1024) := by
    funext a
    apply Fin.ext
    match a with
    | ⟨0, _⟩ => show (i 0).val % 1024 = (i 0).val % 1024; rfl
    | ⟨1, _⟩ => show (i 1).val % 1024 = (i 1).val; omega
  unfold Value.G6
  rw [dif_pos hlt, ← Value.outsAt0_sweep m c _ hlt, hl, same m c _ (4 * ((i 0).val / 1024) + 3) hlt (by omega) hp]
  refine (out_dy m c ⟨(i 0).val / 1024, by omega⟩ (by dsimp only; omega) ⟨(i 0).val % 1024, by omega⟩ ⟨(i 1).val, h1⟩ ⟨(i 0).val, h0⟩
    (by dsimp only; omega)).2.trans ?_
  congr 1
  funext a
  match a with
  | ⟨0, _⟩ => rfl
  | ⟨1, _⟩ => rfl

theorem final_loss : (Value.G5 m c : A2 1 1) = lossArr (aX m c) (aAct m c) (aW m c) (aT m c) := by
  funext i
  have hN : cfg0.N = 32 := N_0
  have h0 : (i 0).val < 1 := (i 0).isLt
  have h1 : (i 1).val < 1 := (i 1).isLt
  have hp : Value.pt5Of i = 4 * 7 + 3 := by
    show 32 * (1 * ((i 0).val / 1 - 0) + 1 * ((i 1).val / 1 - 0)) + 31 = _
    omega
  have hlt : Value.pt5Of i < cfg0.N := by rw [hp]; omega
  have hl : Value.loc5Of i = ix2 (0 : Fin 1) (0 : Fin 1) := by
    funext a
    apply Fin.ext
    match a with
    | ⟨0, _⟩ => show (i 0).val % 1 = 0; omega
    | ⟨1, _⟩ => show (i 1).val % 1 = 0; omega
  unfold Value.G5
  rw [dif_pos hlt, ← Value.outsAt0_sweep m c _ hlt, hl, same m c _ (4 * 7 + 3) hlt (by omega) hp]
  exact (out_loss m c 7 (by omega) (by omega)).trans (tiles_all 8 1024 _ rfl)

end Cert.Mlp.MlpDown

end
-- ==== Proof.Mlp.MlpDownClaims.lean ====
/-
  THE MLP'S SECOND PRODUCT, THE LOSS AND ITS COTANGENT: THE KERNEL'S RUN AND THE REFERENCE'S RUN, AT THE SAME ARRAYS.
-/
module

public import proofs.«01_k».proof.Proof.Mlp.MlpDown
public import proofs.«01_k».proof.Proof.Gen.MlpDownRefIdeal.Read

@[expose] public section

noncomputable section

namespace Cert.Mlp.MlpDown

open Idealize.ShloMosaic Idealize.SL.Sem

section Reference
open Cert.MlpDownRefIdeal Cert.MlpDownRefIdeal.Gen Cert.MlpDownRefIdeal.Read

variable (x : A2 8192 1024) (act : A2 8192 4096) (w : A2 4096 1024) (tgt : A2 8192 1024)

theorem ref_err (R : Fin 8192) (k : Fin 1024) : val_main_v4 (F := Ideal) x act w tgt (ix2 R k) = errArr x act w tgt (ix2 R k) := by
  unfold val_main_v4 val_main_v3 val_main_v2 val_main_v1 val_main_v0 val_main_call0_v0 val_main_call0_cst errArr relu2
  pointwise [dot_S8192x4096_S4096x1024_S8192x1024_1_0_0_1_n_n]
  rw [add_comm]

theorem ref_dy : (val_main_v18 (F := Ideal) x act w tgt : A2 8192 1024) = dyArr x act w tgt := by
  refine ext2 _ _ fun R k => ?_
  unfold val_main_v18 val_main_v17 val_main_v16 val_main_v15 val_main_v14 val_main_v13 val_main_v7 val_main_v6 val_main_cst val_main_cst_4
    val_main_cst_5 val_main_cst_6 dyArr
  pointwise [ref_err x act w tgt]
  exact half_grad _

theorem ref_loss : (val_main_v19 (F := Ideal) x act w tgt : A2 1 1) = lossArr x act w tgt := by
  refine ext2 _ _ fun R k => ?_
  unfold val_main_v19 val_main_v12 val_main_v11 val_main_v10 val_main_v9 val_main_v8 val_main_v5 val_main_cst_0 val_main_cst_1 val_main_cst_2
    val_main_cst_3 lossArr lossTerm
  pointwise [ref_err x act w tgt]
  rw [half_sum]
  simp only [div_1024]

theorem ref_twin : (val_main_v20 (F := Ideal) x act w tgt : A2 8192 1024) = dyArr x act w tgt := by
  rw [← ref_dy]
  refine ext2 _ _ fun R k => ?_
  unfold val_main_v20
  pointwise

end Reference

section Kernel
open Cert.MlpDownIdeal Cert.MlpDownIdeal.Gen

/-- The kernel's run: its results; its arguments stay. -/
theorem kernel_run (m : Memory nD τ sig) (ρ : Dev nD → PrngReg) :
    θ_run defs (onTc main) ⟨m, fun _ => 0, ρ⟩ fun r => ∀ c,
      r.2.mem (c.tc.loc main_v2_0) = dyArr (aX m c) (aAct m c) (aW m c) (aT m c)
      ∧ r.2.mem (c.tc.loc main_v2_1) = lossArr (aX m c) (aAct m c) (aW m c) (aT m c)
      ∧ r.2.mem (c.tc.loc main_v2_2) = dyArr (aX m c) (aAct m c) (aW m c) (aT m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun r h c => ⟨(h c).1.trans (final_dy m c), (h c).2.1.trans (final_loss m c),
    (h c).2.2.1.trans (final_twin m c), (h c).2.2.2⟩) (Value.run m ρ)

end Kernel

section Reference
open Cert.MlpDownRefIdeal Cert.MlpDownRefIdeal.Gen

/-- The reference's run, at the same functions. -/
theorem reference_run (m : Memory nD τ sig) (ρ : Dev nD → PrngReg)
    (p0 : Dev nD → A2 8192 1024) (p1 : Dev nD → A2 8192 4096) (p2 : Dev nD → A2 4096 1024) (p3 : Dev nD → A2 8192 1024)
    (hm : ∀ c, m (c.tc.loc main_arg0) = p0 c
      ∧ m (c.tc.loc main_arg1) = p1 c
      ∧ m (c.tc.loc main_arg2) = p2 c
      ∧ m (c.tc.loc main_arg3) = p3 c) :
    θ_run defs (onTc main) ⟨m, fun _ => 0, ρ⟩ fun r => ∀ c,
      r.2.mem (c.tc.loc main_v18) = dyArr (p0 c) (p1 c) (p2 c) (p3 c)
      ∧ r.2.mem (c.tc.loc main_v19) = lossArr (p0 c) (p1 c) (p2 c) (p3 c)
      ∧ r.2.mem (c.tc.loc main_v20) = dyArr (p0 c) (p1 c) (p2 c) (p3 c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) := by
  refine (θ_run _ _ _).mono (fun r h c => ?_) (Value.run m ρ)
  obtain ⟨h0, h1, h2, h3⟩ := hm c
  obtain ⟨r0, r1, r2, hr⟩ := h c
  refine ⟨r0.trans ?_, r1.trans ?_, r2.trans ?_, hr⟩
  · rw [Read.val_main_v18_eq, h0, h1, h2, h3]; exact ref_dy ..
  · rw [Read.val_main_v19_eq, h0, h1, h2, h3]; exact ref_loss ..
  · rw [Read.val_main_v20_eq, h0, h1, h2, h3]; exact ref_twin ..

end Reference

end Cert.Mlp.MlpDown

end
-- ==== Proof.Proj.DH1Stores.lean ====
/-
  THE COTANGENT OF THE CROSS-ATTENTION'S INPUT: WHAT EACH GRID POINT STORES.

  A point forms the whole product of its rows and goes on from it through the norm: it stores the block's cotangent
  twice (in both precisions) and adds the block's part of the scale's gradient to what the block rows before it left.
-/
module

public import proofs.«01_k».proof.Proof.Gen.DH1Ideal.Value
public import proofs.«01_k».proof.Proof.Mlp.Norm
public import proofs.«01_k».proof.Proof.Proj.Products

@[expose] public section

noncomputable section

namespace Cert.Proj.DH1

open Cert.DH1Ideal Cert.DH1Ideal.Gen Idealize.ShloMosaic Idealize.ShloMosaic.TcCoe Idealize.SL.Sem
open Idealize.ShloMosaic.StableHlo Cert.Mlp Cert.Proj

section Stores
variable (c : Dev nD) (i : grid0.Coords) (a : Memref sig .tc .vmem S1024x512 .bf16) (ha : a.IsWhole)
  (b : Memref sig .tc .vmem S1024x512 .bf16) (hb : b.IsWhole) (xr : Memref sig .tc .vmem S1024x1024 .f32) (hx : xr.IsWhole)
  (gr : Memref sig .tc .vmem S1x1024 .f32) (hg : gr.IsWhole) (rr : Memref sig .tc .vmem S1024x1024 .f32) (hr : rr.IsWhole)
  (o : Memref sig .tc .vmem S1024x1024 .f32) (ho : o.IsWhole) (og : Memref sig .tc .vmem S1x1024 .f32) (hog : og.IsWhole)
  (ob : Memref sig .tc .vmem S1024x1024 .bf16) (hob : ob.IsWhole)
  (s : Memref sig .tc .vmem S1024x1024 .f32) (hs : s.IsWhole) (ct w : Vec Ideal S1024x512 .bf16) (x : Vec Ideal S1024x1024 .f32)
  (g : Vec Ideal S1x1024 .f32) (res : Vec Ideal S1024x1024 .f32) (old : Vec Ideal S1x1024 .f32)

theorem dxA (h0 : cond0_0 i) (h1 : cond0_1 i) (h2 : cond0_2 i) :
    out0_A_5 c i a ha b hb xr hx gr hg rr hr o ho og hog ob hob s hs h0 h1 h2 ct w x g res = k0_pay8 (k0_pay2 ct (k0_pay1 (F := Ideal)) w) x g res := by
  unfold out0_A_5
  rw [View.read_writes_eq_canon _ _ _ (cover0_A_5 c i a ha b hb xr hx gr hg rr hr o ho og hog ob hob s hs h0 h1 h2 ct w x g res)]
  unfold kernelRun0_A
  dsimp only
  sl_unfold_words
  rw [View.canon_unit_zero (S := S1024x1024) origin2]
  simp only [readCov_last (S := S1024x1024) _ origin2, readCov_last (S := S1x1024) _ origin2,
    View.readCov_unit_zero (S := S1024x1024) _ origin2, View.readAt_eq_ld, ha.read_unread,
    hb.read_unread, hx.read_unread, hg.read_unread, hr.read_unread, hog.read_unread, View.ld_unit_zero (S := S1024x512) origin2,
    View.ld_unit_zero (S := S1024x1024) origin2, View.ld_unit_zero (S := S1x1024) origin2, shapeCast_self]

theorem twinA (h0 : cond0_0 i) (h1 : cond0_1 i) (h2 : cond0_2 i) :
    out0_A_7 c i a ha b hb xr hx gr hg rr hr o ho og hog ob hob s hs h0 h1 h2 ct w x g res = k0_pay9 (k0_pay2 ct (k0_pay1 (F := Ideal)) w) x g res := by
  unfold out0_A_7
  rw [View.read_writes_eq_canon _ _ _ (cover0_A_7 c i a ha b hb xr hx gr hg rr hr o ho og hog ob hob s hs h0 h1 h2 ct w x g res)]
  unfold kernelRun0_A
  dsimp only
  sl_unfold_words
  rw [View.canon_unit_zero (S := S1024x1024) origin2]
  simp only [readCov_last (S := S1024x1024) _ origin2, readCov_last (S := S1x1024) _ origin2,
    View.readCov_unit_zero (S := S1024x1024) _ origin2, View.readAt_eq_ld, ha.read_unread,
    hb.read_unread, hx.read_unread, hg.read_unread, hr.read_unread, hog.read_unread, View.ld_unit_zero (S := S1024x512) origin2,
    View.ld_unit_zero (S := S1024x1024) origin2, View.ld_unit_zero (S := S1x1024) origin2, shapeCast_self]

theorem dgA (h0 : cond0_0 i) (h1 : cond0_1 i) (h2 : cond0_2 i) :
    out0_A_6 c i a ha b hb xr hx gr hg rr hr o ho og hog ob hob s hs h0 h1 h2 ct w x g res = k0_pay4 (k0_pay7 (k0_pay2 ct (k0_pay1 (F := Ideal)) w) x) (k0_pay3 (F := Ideal)) := by
  unfold out0_A_6
  rw [View.read_writes_eq_canon _ _ _ (cover0_A_6 c i a ha b hb xr hx gr hg rr hr o ho og hog ob hob s hs h0 h1 h2 ct w x g res)]
  unfold kernelRun0_A
  dsimp only
  sl_unfold_words
  rw [View.canon_cons_unit_zero (S := S1x1024) origin2]
  simp only [readCov_last (S := S1024x1024) _ origin2, readCov_last (S := S1x1024) _ origin2,
    View.readCov_unit_zero (S := S1024x1024) _ origin2, View.readAt_eq_ld, ha.read_unread,
    hb.read_unread, hx.read_unread, hg.read_unread, hr.read_unread, hog.read_unread, View.ld_unit_zero (S := S1024x512) origin2,
    View.ld_unit_zero (S := S1024x1024) origin2, View.ld_unit_zero (S := S1x1024) origin2, shapeCast_self]

theorem dxB (h0 : cond0_0 i) (h1 : cond0_1 i) (h2 : ¬cond0_2 i) :
    out0_B_5 c i a ha b hb xr hx gr hg rr hr o ho og hog ob hob s hs h0 h1 h2 ct w x g res old = k0_pay8 (k0_pay2 ct (k0_pay1 (F := Ideal)) w) x g res := by
  unfold out0_B_5
  rw [View.read_writes_eq_canon _ _ _ (cover0_B_5 c i a ha b hb xr hx gr hg rr hr o ho og hog ob hob s hs h0 h1 h2 ct w x g res old)]
  unfold kernelRun0_B
  dsimp only
  sl_unfold_words
  rw [View.canon_unit_zero (S := S1024x1024) origin2]
  simp only [readCov_last (S := S1024x1024) _ origin2, readCov_last (S := S1x1024) _ origin2,
    View.readCov_unit_zero (S := S1024x1024) _ origin2, View.readAt_eq_ld, ha.read_unread,
    hb.read_unread, hx.read_unread, hg.read_unread, hr.read_unread, hog.read_unread, View.ld_unit_zero (S := S1024x512) origin2,
    View.ld_unit_zero (S := S1024x1024) origin2, View.ld_unit_zero (S := S1x1024) origin2, shapeCast_self]

theorem twinB (h0 : cond0_0 i) (h1 : cond0_1 i) (h2 : ¬cond0_2 i) :
    out0_B_7 c i a ha b hb xr hx gr hg rr hr o ho og hog ob hob s hs h0 h1 h2 ct w x g res old = k0_pay9 (k0_pay2 ct (k0_pay1 (F := Ideal)) w) x g res := by
  unfold out0_B_7
  rw [View.read_writes_eq_canon _ _ _ (cover0_B_7 c i a ha b hb xr hx gr hg rr hr o ho og hog ob hob s hs h0 h1 h2 ct w x g res old)]
  unfold kernelRun0_B
  dsimp only
  sl_unfold_words
  rw [View.canon_unit_zero (S := S1024x1024) origin2]
  simp only [readCov_last (S := S1024x1024) _ origin2, readCov_last (S := S1x1024) _ origin2,
    View.readCov_unit_zero (S := S1024x1024) _ origin2, View.readAt_eq_ld, ha.read_unread,
    hb.read_unread, hx.read_unread, hg.read_unread, hr.read_unread, hog.read_unread, View.ld_unit_zero (S := S1024x512) origin2,
    View.ld_unit_zero (S := S1024x1024) origin2, View.ld_unit_zero (S := S1x1024) origin2, shapeCast_self]

theorem dgB (h0 : cond0_0 i) (h1 : cond0_1 i) (h2 : ¬cond0_2 i) :
    out0_B_6 c i a ha b hb xr hx gr hg rr hr o ho og hog ob hob s hs h0 h1 h2 ct w x g res old = k0_pay4 (k0_pay7 (k0_pay2 ct (k0_pay1 (F := Ideal)) w) x) old := by
  unfold out0_B_6
  rw [View.read_writes_eq_canon _ _ _ (cover0_B_6 c i a ha b hb xr hx gr hg rr hr o ho og hog ob hob s hs h0 h1 h2 ct w x g res old)]
  unfold kernelRun0_B
  dsimp only
  sl_unfold_words
  rw [View.canon_unit_zero (S := S1x1024) origin2]
  simp only [readCov_last (S := S1024x1024) _ origin2, readCov_last (S := S1x1024) _ origin2,
    View.readCov_unit_zero (S := S1024x1024) _ origin2, View.readAt_eq_ld, ha.read_unread,
    hb.read_unread, hx.read_unread, hg.read_unread, hr.read_unread, hog.read_unread, View.ld_unit_zero (S := S1024x512) origin2,
    View.ld_unit_zero (S := S1024x1024) origin2, View.ld_unit_zero (S := S1x1024) origin2, shapeCast_self]

end Stores

/-! ### The stored values, entry by entry -/

theorem prod_at (x y : Vec Ideal S1024x512 .bf16) (r j : Fin 1024) :
    (k0_pay2 x (k0_pay1 (F := Ideal)) y : A2 1024 1024) (ix2 r j)
      = ∑ k : Fin 512, (x : A2 1024 512) (ix2 r k) * (y : A2 1024 512) (ix2 j k) := by
  unfold k0_pay2 k0_pay1; pointwise [dot_S1024x512_S1024x512_S1024x1024_1_1_0_0_n_n]

theorem zero_dg_at (k : Fin 1024) : k0_pay3 (F := Ideal) (ix2 0 k) = 0 := by
  unfold k0_pay3; pointwise

theorem add_dg_at (p old : Vec Ideal S1x1024 .f32) (k : Fin 1024) :
    (k0_pay4 p old : A2 1 1024) (ix2 0 k) = (old : A2 1 1024) (ix2 0 k) + (p : A2 1 1024) (ix2 0 k) := by
  unfold k0_pay4; pointwise

theorem dg_at (d x : Vec Ideal S1024x1024 .f32) (k : Fin 1024) :
    (k0_pay7 d x : A2 1 1024) (ix2 0 k)
      = ∑ R : Fin 1024, dgPart (fun k => (x : A2 1024 1024) (ix2 R k)) (fun k => (d : A2 1024 1024) (ix2 R k)) k := by
  unfold k0_pay7 k0_pay6 k0_pay5 dgPart ms
  pointwise

theorem dx_at (d x : Vec Ideal S1024x1024 .f32) (g : Vec Ideal S1x1024 .f32) (res : Vec Ideal S1024x1024 .f32) (r k : Fin 1024) :
    (k0_pay8 d x g res : A2 1024 1024) (ix2 r k)
      = dxRow (fun k => (x : A2 1024 1024) (ix2 r k)) (fun k => (g : A2 1 1024) (ix2 0 k)) (fun k => (d : A2 1024 1024) (ix2 r k)) k
        + (res : A2 1024 1024) (ix2 r k) := by
  unfold k0_pay8 k0_pay6 k0_pay5 dxRow Mlp.slope ms
  pointwise
  simp only [Finset.univ_unique, Finset.sum_singleton]

theorem twin_at (d x : Vec Ideal S1024x1024 .f32) (g : Vec Ideal S1x1024 .f32) (res : Vec Ideal S1024x1024 .f32) (r k : Fin 1024) :
    (k0_pay9 d x g res : A2 1024 1024) (ix2 r k) = (k0_pay8 d x g res : A2 1024 1024) (ix2 r k) := by
  unfold k0_pay9; pointwise

end Cert.Proj.DH1

end
-- ==== Proof.Proj.DH1.lean ====
/-
  THE COTANGENT OF THE CROSS-ATTENTION'S INPUT, AND THE GRADIENT OF ITS NORM'S SCALE, AS THE KERNEL COMPUTES THEM.

  Grid point `p` works on the block of rows `1024 p …`: the cotangent of the queries times the query matrix transposed,
  then the norm; the scale's gradient is carried from block to block.
-/
module

public import proofs.«01_k».proof.Proof.Proj.DH1Stores

@[expose] public section

noncomputable section

namespace Cert.Proj.DH1

open Cert.DH1Ideal Cert.DH1Ideal.Gen Idealize.ShloMosaic Idealize.ShloMosaic.TcCoe Idealize.SL.Sem
open Idealize.ShloMosaic.StableHlo Cert.Mlp Cert.Proj

/-! ### The values -/

/-- The cotangent of the normed rows: the cotangent of the product times the matrix transposed. -/
def dRow (ct : A2 8192 512) (w : A2 1024 512) (R : Fin 8192) : Row := fun k => ∑ J, ct (ix2 R J) * w (ix2 k J)

/-- The cotangent of the input, with the residual's. -/
def dxArr (x : A2 8192 1024) (g : A2 1 1024) (w : A2 1024 512) (ct : A2 8192 512) (res : A2 8192 1024) : A2 8192 1024 := fun i =>
  dxRow (fun k => x (ix2 (i 0) k)) (fun k => g (ix2 0 k)) (dRow ct w (i 0)) (i 1) + res i

/-- Row `R`'s part of the scale's gradient. -/
def dgTerm (x : A2 8192 1024) (w : A2 1024 512) (ct : A2 8192 512) (k : Fin 1024) (R : Fin 8192) : EReal :=
  dgPart (fun k => x (ix2 R k)) (dRow ct w R) k

/-- The gradient of the scale. -/
def dgArr (x : A2 8192 1024) (w : A2 1024 512) (ct : A2 8192 512) : A2 1 1024 := fun i => ∑ R, dgTerm x w ct (i 1) R

/-! ### The blocks -/

variable (m : Memory nD τ sig) (c : Dev nD)

/-- The arguments as launched: the input, the scale, the matrix, the product's cotangent, the residual's cotangent. -/
abbrev aX : A2 8192 1024 := m (c.tc.loc main_arg0)
abbrev aG : A2 1 1024 := m (c.tc.loc main_arg1)
abbrev aW : A2 1024 512 := m (c.tc.loc main_arg2)
abbrev aCt : A2 8192 512 := m (c.tc.loc main_arg3)
abbrev aRes : A2 8192 1024 := m (c.tc.loc main_arg4)

theorem idx_facts : ∀ t : Fin cfg0.N,
    (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0)
    ∧ (win0_6.index t 0 = 0 ∧ win0_6.index t 1 = 0) ∧ (win0_7.index t 0 = t.val ∧ win0_7.index t 1 = 0) :=
  (by decide +kernel : ∀ t : Fin grid0.N, _)

theorem entry_ct : (V m c main_v0 : A2 8192 512) = aCt m c := by
  show StableHlo.after hostOps0 _ main_v0 = _
  unfold hostOps0
  after_results
  rfl

theorem entry_w : (V m c main_v1 : A2 1024 512) = aW m c := by
  show StableHlo.after hostOps0 _ main_v1 = _
  unfold hostOps0
  after_results
  rfl

theorem entry_x : (V m c main_arg0 : A2 8192 1024) = aX m c := by
  show StableHlo.after hostOps0 _ main_arg0 = _
  unfold hostOps0
  after_results

theorem entry_g : (V m c main_arg1 : A2 1 1024) = aG m c := by
  show StableHlo.after hostOps0 _ main_arg1 = _
  unfold hostOps0
  after_results

theorem entry_res : (V m c main_arg4 : A2 8192 1024) = aRes m c := by
  show StableHlo.after hostOps0 _ main_arg4 = _
  unfold hostOps0
  after_results

theorem blk_ct (t : Fin cfg0.N) (r : Fin 1024) (k : Fin 512) (R : Fin 8192) (hR : R.val = t.val * 1024 + r.val) :
    (iblk m c 0 t : A2 1024 512) (ix2 r k) = aCt m c (ix2 R k) := by
  have hi := (idx_facts t).1
  rw [← entry_ct]
  unfold iblk
  rw [View.read_apply]
  show (V m c main_v0 : A2 8192 512) _ = _
  congr 1
  funext a
  apply Fin.ext
  match a with
  | ⟨0, _⟩ => show win0_0.index t 0 * 1024 + 1 * r.val = R.val; rw [hi.1]; omega
  | ⟨1, _⟩ => show win0_0.index t 1 * 512 + 1 * k.val = k.val; rw [hi.2]; omega

theorem blk_w (t : Fin cfg0.N) (j : Fin 1024) (k : Fin 512) :
    (iblk m c 1 t : A2 1024 512) (ix2 j k) = aW m c (ix2 j k) := by
  have hi := (idx_facts t).2.1
  rw [← entry_w]
  unfold iblk
  rw [View.read_apply]
  show (V m c main_v1 : A2 1024 512) _ = _
  congr 1
  funext a
  apply Fin.ext
  match a with
  | ⟨0, _⟩ => show win0_1.index t 0 * 1024 + 1 * j.val = j.val; rw [hi.1]; omega
  | ⟨1, _⟩ => show win0_1.index t 1 * 512 + 1 * k.val = k.val; rw [hi.2]; omega

theorem blk_x (t : Fin cfg0.N) (r k : Fin 1024) (R : Fin 8192) (hR : R.val = t.val * 1024 + r.val) :
    (iblk m c 2 t : A2 1024 1024) (ix2 r k) = aX m c (ix2 R k) := by
  have hi := (idx_facts t).2.2.1
  rw [← entry_x]
  unfold iblk
  rw [View.read_apply]
  show (V m c main_arg0 : A2 8192 1024) _ = _
  congr 1
  funext a
  apply Fin.ext
  match a with
  | ⟨0, _⟩ => show win0_2.index t 0 * 1024 + 1 * r.val = R.val; rw [hi.1]; omega
  | ⟨1, _⟩ => show win0_2.index t 1 * 1024 + 1 * k.val = k.val; rw [hi.2]; omega

theorem blk_g (t : Fin cfg0.N) (k : Fin 1024)  :
    (iblk m c 3 t : A2 1 1024) (ix2 0 k) = aG m c (ix2 0 k) := by
  have hi := (idx_facts t).2.2.2.1
  rw [← entry_g]
  unfold iblk
  rw [View.read_apply]
  show (V m c main_arg1 : A2 1 1024) _ = _
  congr 1
  funext a
  apply Fin.ext
  match a with
  | ⟨0, _⟩ => show win0_3.index t 0 * 1 + 1 * 0 = 0; rw [hi.1]
  | ⟨1, _⟩ => show win0_3.index t 1 * 1024 + 1 * k.val = k.val; rw [hi.2]; omega

theorem blk_res (t : Fin cfg0.N) (r k : Fin 1024) (R : Fin 8192) (hR : R.val = t.val * 1024 + r.val) :
    (iblk m c 4 t : A2 1024 1024) (ix2 r k) = aRes m c (ix2 R k) := by
  have hi := (idx_facts t).2.2.2.2.1
  rw [← entry_res]
  unfold iblk
  rw [View.read_apply]
  show (V m c main_arg4 : A2 8192 1024) _ = _
  congr 1
  funext a
  apply Fin.ext
  match a with
  | ⟨0, _⟩ => show win0_4.index t 0 * 1024 + 1 * r.val = R.val; rw [hi.1]; omega
  | ⟨1, _⟩ => show win0_4.index t 1 * 1024 + 1 * k.val = k.val; rw [hi.2]; omega

/-! ### What a point stores -/

/-- The whole product's block. -/
theorem res_run (t : Fin cfg0.N) (r k : Fin 1024) (R : Fin 8192) (hR : R.val = t.val * 1024 + r.val) :
    ((k0_pay2 (F := Ideal) (iblk m c 0 t) (k0_pay1 (F := Ideal)) (iblk m c 1 t)) : A2 1024 1024) (ix2 r k) = dRow (aCt m c) (aW m c) R k := by
  rw [prod_at]
  simp only [blk_ct m c t r _ R hR, blk_w]
  rfl

/-- The point's block of the input's cotangent. -/
theorem dx_run (t : Fin cfg0.N) (r k : Fin 1024) (R : Fin 8192) (hR : R.val = t.val * 1024 + r.val) :
    (k0_pay8 (F := Ideal) (k0_pay2 (F := Ideal) (iblk m c 0 t) (k0_pay1 (F := Ideal)) (iblk m c 1 t))
        (iblk m c 2 t) (iblk m c 3 t) (iblk m c 4 t) : A2 1024 1024) (ix2 r k)
      = dxArr (aX m c) (aG m c) (aW m c) (aCt m c) (aRes m c) (ix2 R k) := by
  rw [dx_at, blk_res m c _ r k R hR]
  simp only [res_run m c t r _ R hR, blk_x m c _ r _ R hR, blk_g]
  rfl

/-- The point's part of the scale's gradient. -/
theorem dg_run (t : Fin cfg0.N) (k : Fin 1024) (old : Vec Ideal S1x1024 .f32)
    (ho : (old : A2 1 1024) (ix2 0 k) = tiles 1024 (dgTerm (aX m c) (aW m c) (aCt m c) k) t.val) :
    (k0_pay4 (F := Ideal) (k0_pay7 (F := Ideal) (k0_pay2 (F := Ideal) (iblk m c 0 t) (k0_pay1 (F := Ideal)) (iblk m c 1 t)) (iblk m c 2 t)) old : A2 1 1024) (ix2 0 k)
      = tiles 1024 (dgTerm (aX m c) (aW m c) (aCt m c) k) (t.val + 1) := by
  rw [add_dg_at, dg_at]
  refine tiles_step 1024 _ t.val _ _ ho fun r => ?_
  have hr : t.val * 1024 + r.val < 8192 := by have := t.isLt; have hN : cfg0.N = 8 := N_0; have := r.isLt; omega
  rw [ext_val _ _ hr]
  simp only [res_run m c t r _ ⟨_, hr⟩ rfl, blk_x m c t r _ ⟨_, hr⟩ rfl]
  rfl

/-- The scale's gradient after point `p`. -/
theorem out_dg (k : Fin 1024) : ∀ (p : Nat) (hn : p < cfg0.N),
    ((outsAt0 m c p hn).2.1 : A2 1 1024) (ix2 0 k) = tiles 1024 (dgTerm (aX m c) (aW m c) (aCt m c) k) (p + 1)
  | 0, hn => by
    have e := outsAt0_A m c ⟨0, hn⟩ (by dsimp only)
    dsimp only at e
    rw [e]
    dsimp only
    rw [dgA]
    exact dg_run m c ⟨0, hn⟩ k _ ((zero_dg_at k).trans (tiles_zero _ _).symm)
  | p + 1, hn => by
    have hN : cfg0.N = 8 := N_0
    have e := outsAt0_B m c ⟨p + 1, hn⟩ (by dsimp only; omega)
    dsimp only at e
    rw [e]
    dsimp only
    rw [dgB]
    exact dg_run m c ⟨p + 1, hn⟩ k _ (out_dg k p (by omega))

/-! ### The final arrays -/

/-- The row of the result that row `r` of block `t` is. -/
def rowIx (t : Fin cfg0.N) (r : Fin 1024) : Fin 8192 :=
  ⟨t.val * 1024 + r.val, by have hN : cfg0.N = 8 := N_0; omega⟩

theorem read_dx (t : Fin cfg0.N) (G : A2 8192 1024) (r k : Fin 1024) :
    (((cfg0.win 5).blk t).view.read (Elt Ideal) G : A2 1024 1024) (ix2 r k) = G (ix2 (rowIx t r) k) := by
  have hi := (idx_facts t).2.2.2.2.2.1
  rw [View.read_apply]
  show G _ = _
  congr 1
  funext a
  apply Fin.ext
  match a with
  | ⟨0, _⟩ => show win0_5.index t 0 * 1024 + 1 * r.val = t.val * 1024 + r.val; rw [hi.1]; omega
  | ⟨1, _⟩ => show win0_5.index t 1 * 1024 + 1 * k.val = k.val; rw [hi.2]; omega

theorem final_dx : ((dats m 0 c).arrAt 5 cfg0.N : A2 8192 1024) = dxArr (aX m c) (aG m c) (aW m c) (aCt m c) (aRes m c) := by
  refine (dats m 0 c).arrAt_eq_of_cover 5 (dxArr (aX m c) (aG m c) (aW m c) (aCt m c) (aRes m c)) ?_ ?_
  · intro t _
    by_cases h : t.val % 8 = 0
    · rw [Value.flushed5_A m c t h, dxA]
      refine ext2 (a := 1024) (b := 1024) _ _ fun r k => ?_
      exact (dx_run m c t r k (rowIx t r) rfl).trans (read_dx t _ r k).symm
    · rw [Value.flushed5_B m c t h, dxB]
      refine ext2 (a := 1024) (b := 1024) _ _ fun r k => ?_
      exact (dx_run m c t r k (rowIx t r) rfl).trans (read_dx t _ r k).symm
  · intro i
    have h0 : (i 0 : Nat) < 8192 := (i 0).isLt
    have h1 : (i 1 : Nat) < 1024 := (i 1).isLt
    have hN : cfg0.N = 8 := N_0
    let t : Fin cfg0.N := ⟨(i 0 : Nat) / 1024, by omega⟩
    refine ⟨t, flush0_5 t, ?_⟩
    have hi := (idx_facts t).2.2.2.2.2.1
    have e0 : win0_5.index t 0 = (i 0 : Nat) / 1024 := hi.1
    show i ∈ ((View.whole main_v2_0).slice (win0_5.rect t)).set
    rw [View.set_slice_whole, Rect.mem_set_unit]
    intro a
    match a with
    | ⟨0, _⟩ => show win0_5.index t 0 * 1024 ≤ (i 0 : Nat) ∧ (i 0 : Nat) < win0_5.index t 0 * 1024 + 1024; rw [e0]; omega
    | ⟨1, _⟩ => show win0_5.index t 1 * 1024 ≤ (i 1 : Nat) ∧ (i 1 : Nat) < win0_5.index t 1 * 1024 + 1024; rw [hi.2]; omega

theorem read_twin (t : Fin cfg0.N) (G : A2 8192 1024) (r k : Fin 1024) :
    (((cfg0.win 7).blk t).view.read (Elt Ideal) G : A2 1024 1024) (ix2 r k) = G (ix2 (rowIx t r) k) := by
  have hi := (idx_facts t).2.2.2.2.2.2.2
  rw [View.read_apply]
  show G _ = _
  congr 1
  funext a
  apply Fin.ext
  match a with
  | ⟨0, _⟩ => show win0_7.index t 0 * 1024 + 1 * r.val = t.val * 1024 + r.val; rw [hi.1]; omega
  | ⟨1, _⟩ => show win0_7.index t 1 * 1024 + 1 * k.val = k.val; rw [hi.2]; omega

theorem final_twin : ((dats m 0 c).arrAt 7 cfg0.N : A2 8192 1024) = dxArr (aX m c) (aG m c) (aW m c) (aCt m c) (aRes m c) := by
  refine (dats m 0 c).arrAt_eq_of_cover 7 (dxArr (aX m c) (aG m c) (aW m c) (aCt m c) (aRes m c)) ?_ ?_
  · intro t _
    by_cases h : t.val % 8 = 0
    · rw [Value.flushed7_A m c t h, twinA]
      refine ext2 (a := 1024) (b := 1024) _ _ fun r k => ?_
      exact ((twin_at _ _ _ _ r k).trans (dx_run m c t r k (rowIx t r) rfl)).trans (read_twin t _ r k).symm
    · rw [Value.flushed7_B m c t h, twinB]
      refine ext2 (a := 1024) (b := 1024) _ _ fun r k => ?_
      exact ((twin_at _ _ _ _ r k).trans (dx_run m c t r k (rowIx t r) rfl)).trans (read_twin t _ r k).symm
  · intro i
    have h0 : (i 0 : Nat) < 8192 := (i 0).isLt
    have h1 : (i 1 : Nat) < 1024 := (i 1).isLt
    have hN : cfg0.N = 8 := N_0
    let t : Fin cfg0.N := ⟨(i 0 : Nat) / 1024, by omega⟩
    refine ⟨t, flush0_7 t, ?_⟩
    have hi := (idx_facts t).2.2.2.2.2.2.2
    have e0 : win0_7.index t 0 = (i 0 : Nat) / 1024 := hi.1
    show i ∈ ((View.whole main_v2_2).slice (win0_7.rect t)).set
    rw [View.set_slice_whole, Rect.mem_set_unit]
    intro a
    match a with
    | ⟨0, _⟩ => show win0_7.index t 0 * 1024 ≤ (i 0 : Nat) ∧ (i 0 : Nat) < win0_7.index t 0 * 1024 + 1024; rw [e0]; omega
    | ⟨1, _⟩ => show win0_7.index t 1 * 1024 ≤ (i 1 : Nat) ∧ (i 1 : Nat) < win0_7.index t 1 * 1024 + 1024; rw [hi.2]; omega

theorem read_dg (t : Fin cfg0.N) (G : A2 1 1024) (k : Fin 1024) :
    (((cfg0.win 6).blk t).view.read (Elt Ideal) G : A2 1 1024) (ix2 0 k) = G (ix2 0 k) := by
  have hi := (idx_facts t).2.2.2.2.2.2.1
  rw [View.read_apply]
  show G _ = _
  congr 1
  funext a
  apply Fin.ext
  match a with
  | ⟨0, _⟩ => show win0_6.index t 0 * 1 + 1 * 0 = 0; rw [hi.1]
  | ⟨1, _⟩ => show win0_6.index t 1 * 1024 + 1 * k.val = k.val; rw [hi.2]; omega

theorem final_dg : ((dats m 0 c).arrAt 6 cfg0.N : A2 1 1024) = dgArr (aX m c) (aW m c) (aCt m c) := by
  have hN : cfg0.N = 8 := N_0
  refine (dats m 0 c).arrAt_eq_of_cover 6 (dgArr (aX m c) (aW m c) (aCt m c)) ?_ ?_
  · intro t hf
    have h7 : t.val = 7 := by have h := (flush0_6 t).mp hf; have := t.isLt; omega
    rw [Value.flushed6]
    refine ext2 (a := 1) (b := 1024) _ _ fun z k => ?_
    obtain rfl : z = 0 := Subsingleton.elim _ _
    refine ((out_dg m c k t.val t.isLt).trans ?_).trans (read_dg t _ k).symm
    rw [h7]
    exact tiles_all 8 1024 _ rfl
  · intro i
    have h0 : (i 0 : Nat) < 1 := (i 0).isLt
    have h1 : (i 1 : Nat) < 1024 := (i 1).isLt
    let t : Fin cfg0.N := ⟨7, by omega⟩
    refine ⟨t, (flush0_6 t).mpr rfl, ?_⟩
    have hi := (idx_facts t).2.2.2.2.2.2.1
    show i ∈ ((View.whole main_v2_1).slice (win0_6.rect t)).set
    rw [View.set_slice_whole, Rect.mem_set_unit]
    intro a
    match a with
    | ⟨0, _⟩ => show win0_6.index t 0 * 1 ≤ (i 0 : Nat) ∧ (i 0 : Nat) < win0_6.index t 0 * 1 + 1; rw [hi.1]; omega
    | ⟨1, _⟩ => show win0_6.index t 1 * 1024 ≤ (i 1 : Nat) ∧ (i 1 : Nat) < win0_6.index t 1 * 1024 + 1024; rw [hi.2]; omega

end Cert.Proj.DH1

end
-- ==== Proof.Proj.DH1Claims.lean ====
/-
  THE COTANGENT OF THE CROSS-ATTENTION'S INPUT AND ITS NORM'S GRADIENT: THE KERNEL'S RUN AND THE REFERENCE'S RUN, AT THE SAME ARRAYS.
-/
module

public import proofs.«01_k».proof.Proof.Proj.DH1
public import proofs.«01_k».proof.Proof.Gen.DH1RefIdeal.Read

@[expose] public section

noncomputable section

namespace Cert.Proj.DH1

open Idealize.ShloMosaic Idealize.SL.Sem Cert.Mlp Cert.Proj

section Reference
open Cert.DH1RefIdeal Cert.DH1RefIdeal.Gen Cert.DH1RefIdeal.Read

variable (x : A2 8192 1024) (g : A2 1 1024) (w : A2 1024 512) (ct : A2 8192 512) (res : A2 8192 1024)

theorem ref_ms (R : Fin 8192) : val_main_v6 (F := Ideal) x (ix2 R 0) = ms (fun k => x (ix2 R k)) := by
  unfold val_main_v6 val_main_v5 val_main_v4 val_main_v3 val_main_v2 val_main_v1 val_main_v0 val_main_cst val_main_cst_0 val_main_cst_1 ms
  pointwise
  rw [div_1024]

theorem ref_d (R : Fin 8192) (k : Fin 1024) : val_main_v18 (F := Ideal) w ct (ix2 R k) = dRow ct w R k := by
  unfold val_main_v18 dRow
  pointwise [dot_S8192x512_S1024x512_S8192x1024_1_1_0_0_n_n]

theorem ref_dg : (val_main_v21 (F := Ideal) x w ct : A2 1 1024) = dgArr x w ct := by
  refine ext2 _ _ fun R k => ?_
  unfold val_main_v21 val_main_v20 val_main_v19 val_main_v12 val_main_v11 val_main_v7 val_main_cst_3 dgArr dgTerm dgPart
  pointwise [ref_ms x, ref_d w ct]

theorem ref_slope (R : Fin 8192) :
    val_main_v31 (F := Ideal) x g w ct (ix2 R 0) = Mlp.slope (fun k => x (ix2 R k)) (fun k => g (ix2 0 k)) (dRow ct w R) := by
  unfold val_main_v31 val_main_v30 val_main_v29 val_main_v26 val_main_v25 val_main_v24 val_main_v23 val_main_v22 val_main_v10 val_main_v9
    val_main_v8 val_main_v7 val_main_cst_2 val_main_cst_4 val_main_cst_5 Mlp.slope
  pointwise [ref_ms x, ref_d w ct]
  rw [div_1024]

theorem ref_dx : (val_main_v38 (F := Ideal) x g w ct res : A2 8192 1024) = dxArr x g w ct res := by
  refine ext2 _ _ fun R k => ?_
  unfold val_main_v38 val_main_v37 val_main_v36 val_main_v35 val_main_v34 val_main_v33 val_main_v32 val_main_v28 val_main_v27 val_main_v23
    val_main_v22 val_main_v7 val_main_cst_6 dxArr dxRow
  pointwise [ref_ms x, ref_d w ct]
  simp only [Finset.univ_unique, Finset.sum_singleton]
  have h : val_main_v31 (F := Ideal) x g w ct (ix2 R default) = Mlp.slope (fun k => x (ix2 R k)) (fun k => g (ix2 0 k)) (dRow ct w R) :=
    ref_slope x g w ct R
  rw [h]

theorem ref_twin : (val_main_v39 (F := Ideal) x g w ct res : A2 8192 1024) = dxArr x g w ct res := by
  rw [← ref_dx]
  refine ext2 _ _ fun R k => ?_
  unfold val_main_v39
  pointwise

end Reference

section Kernel
open Cert.DH1Ideal Cert.DH1Ideal.Gen

/-- The kernel's run: its results; its arguments stay. -/
theorem kernel_run (m : Memory nD τ sig) (ρ : Dev nD → PrngReg) :
    θ_run defs (onTc main) ⟨m, fun _ => 0, ρ⟩ fun r => ∀ c,
      r.2.mem (c.tc.loc main_v2_0) = dxArr (aX m c) (aG m c) (aW m c) (aCt m c) (aRes m c)
      ∧ r.2.mem (c.tc.loc main_v2_1) = dgArr (aX m c) (aW m c) (aCt m c)
      ∧ r.2.mem (c.tc.loc main_v2_2) = dxArr (aX m c) (aG m c) (aW m c) (aCt m c) (aRes m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) :=
  (θ_run defs _ _).mono (fun r h c => ⟨(h c).1.trans (final_dx m c), (h c).2.1.trans (final_dg m c),
    (h c).2.2.1.trans (final_twin m c), (h c).2.2.2⟩) (Value.run_blocks m ρ)

end Kernel

section Reference
open Cert.DH1RefIdeal Cert.DH1RefIdeal.Gen

/-- The reference's run, at the same functions. -/
theorem reference_run (m : Memory nD τ sig) (ρ : Dev nD → PrngReg)
    (p0 : Dev nD → A2 8192 1024) (p1 : Dev nD → A2 1 1024) (p2 : Dev nD → A2 1024 512) (p3 : Dev nD → A2 8192 512) (p4 : Dev nD → A2 8192 1024)
    (hm : ∀ c, m (c.tc.loc main_arg0) = p0 c
      ∧ m (c.tc.loc main_arg1) = p1 c
      ∧ m (c.tc.loc main_arg2) = p2 c
      ∧ m (c.tc.loc main_arg3) = p3 c
      ∧ m (c.tc.loc main_arg4) = p4 c) :
    θ_run defs (onTc main) ⟨m, fun _ => 0, ρ⟩ fun r => ∀ c,
      r.2.mem (c.tc.loc main_v38) = dxArr (p0 c) (p1 c) (p2 c) (p3 c) (p4 c)
      ∧ r.2.mem (c.tc.loc main_v21) = dgArr (p0 c) (p2 c) (p3 c)
      ∧ r.2.mem (c.tc.loc main_v39) = dxArr (p0 c) (p1 c) (p2 c) (p3 c) (p4 c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) := by
  refine (θ_run _ _ _).mono (fun r h c => ?_) (Value.run m ρ)
  obtain ⟨h0, h1, h2, h3, h4⟩ := hm c
  obtain ⟨r0, r1, r2, hr⟩ := h c
  refine ⟨r0.trans ?_, r1.trans ?_, r2.trans ?_, hr⟩
  · rw [Read.val_main_v38_eq, h0, h1, h2, h3, h4]; exact ref_dx ..
  · rw [Read.val_main_v21_eq, h0, h2, h3]; exact ref_dg ..
  · rw [Read.val_main_v39_eq, h0, h1, h2, h3, h4]; exact ref_twin ..

end Reference

end Cert.Proj.DH1

end
-- ==== Proof.Proj.DOx.lean ====
/-
  THE COTANGENT OF THE CROSS-ATTENTION'S RESULT, THROUGH ITS OUTPUT PROJECTION, AS THE KERNEL COMPUTES IT.

  Grid point `t` computes rows `1024 t …`: rows times the matrix transposed.
-/
module

public import proofs.«01_k».proof.Proof.Gen.DOxIdeal.Value
public import proofs.«01_k».proof.Proof.Proj.Products

@[expose] public section

noncomputable section

namespace Cert.Proj.DOx

open Cert.DOxIdeal Cert.DOxIdeal.Gen Idealize.ShloMosaic Idealize.ShloMosaic.TcCoe Idealize.SL.Sem
open Idealize.ShloMosaic.StableHlo Cert.Mlp Cert.Proj

/-- What a grid point stores, from the blocks it reads. -/
theorem outA (c : Dev nD) (i : grid0.Coords) (a : Memref sig .tc .vmem S1024x1024 .bf16) (ha : a.IsWhole)
    (b : Memref sig .tc .vmem S512x1024 .bf16) (hb : b.IsWhole)
    (o : Memref sig .tc .vmem S1024x512 .bf16) (ho : o.IsWhole) (s : Memref sig .tc .vmem S1024x512 .f32) (hs : s.IsWhole)
    (x : Vec Ideal S1024x1024 .bf16) (y : Vec Ideal S512x1024 .bf16)
    (h0 : cond0_0 i) (h1 : cond0_1 i) :
    out0_A_2 c i a ha b hb o ho s hs h0 h1 x y = k0_pay3 (k0_pay2 x (k0_pay1 (F := Ideal)) y) := by
  unfold out0_A_2
  rw [View.read_writes_eq_canon _ _ _ (cover0_A_2 c i a ha b hb o ho s hs h0 h1 x y)]
  unfold kernelRun0_A
  dsimp only
  sl_unfold_words
  rw [View.canon_unit_zero (S := S1024x512) origin2]
  simp only [readCov_last (S := S1024x512) _ origin2, View.readCov_unit_zero (S := S1024x512) _ origin2,
    View.readAt_eq_ld, ha.read_unread, hb.read_unread, View.ld_unit_zero (S := S1024x1024) origin2, View.ld_unit_zero (S := S512x1024) origin2, View.ld_unit_zero (S := S1024x512) origin2, shapeCast_self]

/-- One entry of a block. -/
theorem block_at (x : Vec Ideal S1024x1024 .bf16) (y : Vec Ideal S512x1024 .bf16) (r : Fin 1024) (j : Fin 512) :
    (k0_pay3 (k0_pay2 x (k0_pay1 (F := Ideal)) y) : A2 1024 512) (ix2 r j)
      = ∑ k : Fin 1024, (x : A2 1024 1024) (ix2 r k) * (y : A2 512 1024) (ix2 j k) := by
  unfold k0_pay3 k0_pay2 k0_pay1
  pointwise [dot_S1024x1024_S512x1024_S1024x512_1_1_0_0_n_n]

/-! ### The blocks -/

variable (m : Memory nD τ sig) (c : Dev nD)

/-- The arguments as launched: the two factors. -/
abbrev aA : A2 8192 1024 := m (c.tc.loc main_arg2)
abbrev aB : A2 512 1024 := m (c.tc.loc main_arg1)

theorem idx_facts : ∀ t : Fin cfg0.N,
    (win0_0.index t 0 = t.val ∧ win0_0.index t 1 = 0) ∧ (win0_1.index t 0 = 0 ∧ win0_1.index t 1 = 0) ∧ (win0_2.index t 0 = t.val ∧ win0_2.index t 1 = 0) :=
  (by decide +kernel : ∀ t : Fin grid0.N, _)

theorem entry_a : (V m c main_v0 : A2 8192 1024) = aA m c := by
  show StableHlo.after hostOps0 _ main_v0 = _
  unfold hostOps0
  after_results
  rfl

theorem entry_b : (V m c main_v1 : A2 512 1024) = aB m c := by
  show StableHlo.after hostOps0 _ main_v1 = _
  unfold hostOps0
  after_results
  rfl

/-- The result's row and column of entry `(r, j)` of block `t`. -/
def rowIx (t : Fin cfg0.N) (r : Fin 1024) : Fin 8192 :=
  ⟨t.val * 1024 + r.val, by have hN : cfg0.N = 8 := N_0; omega⟩
def colIx (t : Fin cfg0.N) (j : Fin 512) : Fin 512 :=
  j

theorem blk_a (t : Fin cfg0.N) (r : Fin 1024) (k : Fin 1024) :
    (iblk m c 0 t : A2 1024 1024) (ix2 r k) = aA m c (ix2 (rowIx t r) k) := by
  have hi := (idx_facts t).1
  rw [← entry_a]
  unfold iblk
  rw [View.read_apply]
  show (V m c main_v0 : A2 8192 1024) _ = _
  congr 1
  funext a
  apply Fin.ext
  match a with
  | ⟨0, _⟩ => show win0_0.index t 0 * 1024 + 1 * r.val = t.val * 1024 + r.val; rw [hi.1]; omega
  | ⟨1, _⟩ => show win0_0.index t 1 * 1024 + 1 * k.val = k.val; rw [hi.2]; omega

theorem blk_b (t : Fin cfg0.N) (j : Fin 512) (k : Fin 1024) :
    (iblk m c 1 t : A2 512 1024) (ix2 j k) = aB m c (ix2 (colIx t j) k) := by
  have hi := (idx_facts t).2.1
  rw [← entry_b]
  unfold iblk
  rw [View.read_apply]
  show (V m c main_v1 : A2 512 1024) _ = _
  congr 1
  funext a
  apply Fin.ext
  match a with
  | ⟨0, _⟩ => show win0_1.index t 0 * 512 + 1 * j.val = j.val; rw [hi.1]; omega
  | ⟨1, _⟩ => show win0_1.index t 1 * 1024 + 1 * k.val = k.val; rw [hi.2]; omega

/-! ### The final array -/

theorem read_out (t : Fin cfg0.N) (G : A2 8192 512) (r : Fin 1024) (j : Fin 512) :
    (((cfg0.win 2).blk t).view.read (Elt Ideal) G : A2 1024 512) (ix2 r j) = G (ix2 (rowIx t r) (colIx t j)) := by
  have hi := (idx_facts t).2.2
  rw [View.read_apply]
  show G _ = _
  congr 1
  funext a
  apply Fin.ext
  match a with
  | ⟨0, _⟩ => show win0_2.index t 0 * 1024 + 1 * r.val = t.val * 1024 + r.val; rw [hi.1]; omega
  | ⟨1, _⟩ => show win0_2.index t 1 * 512 + 1 * j.val = j.val; rw [hi.2]; omega

theorem final : ((dats m 0 c).arrAt 2 cfg0.N : A2 8192 512) = nt (aA m c) (aB m c) := by
  refine (dats m 0 c).arrAt_eq_of_cover 2 (nt (aA m c) (aB m c)) ?_ ?_
  · intro t _
    rw [Value.flushed2_A, outA]
    refine ext2 (a := 1024) (b := 512) _ _ fun r j => ?_
    refine (block_at _ _ r j).trans (Eq.trans ?_ (read_out t (nt (aA m c) (aB m c)) r j).symm)
    simp only [blk_a, blk_b]
    rfl
  · intro i
    have h0 : (i 0 : Nat) < 8192 := (i 0).isLt
    have h1 : (i 1 : Nat) < 512 := (i 1).isLt
    have hN : cfg0.N = 8 := N_0
    let t : Fin cfg0.N := ⟨(i 0 : Nat) / 1024, by omega⟩
    refine ⟨t, flush0_2 t, ?_⟩
    have hi := (idx_facts t).2.2
    have e0 : win0_2.index t 0 = (i 0 : Nat) / 1024 := hi.1
    have e1 : win0_2.index t 1 = 0 := hi.2
    show i ∈ ((View.whole main_v2).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024; rw [e0]; omega
    | ⟨1, _⟩ => show win0_2.index t 1 * 512 ≤ (i 1 : Nat) ∧ (i 1 : Nat) < win0_2.index t 1 * 512 + 512; rw [e1]; omega

end Cert.Proj.DOx

end
-- ==== Proof.Proj.DOxClaims.lean ====
/-
  THE COTANGENT OF THE CROSS-ATTENTION'S RESULT, THROUGH ITS OUTPUT PROJECTION: THE KERNEL'S RUN AND THE REFERENCE'S RUN, AT THE SAME ARRAYS.
-/
module

public import proofs.«01_k».proof.Proof.Proj.DOx
public import proofs.«01_k».proof.Proof.Gen.DOxRefIdeal.Read

@[expose] public section

noncomputable section

namespace Cert.Proj.DOx

open Idealize.ShloMosaic Idealize.SL.Sem Cert.Mlp Cert.Proj

section Reference
open Cert.DOxRefIdeal Cert.DOxRefIdeal.Gen Cert.DOxRefIdeal.Read

theorem ref_value (b : A2 512 1024) (a : A2 8192 1024) : (val_main_v4 (F := Ideal) b a : A2 8192 512) = nt a b := by
  refine ext2 _ _ fun R J => ?_
  unfold val_main_v4 val_main_v3 nt
  pointwise [dot_S8192x1024_S512x1024_S8192x512_1_1_0_0_n_n]

end Reference

section Kernel
open Cert.DOxIdeal Cert.DOxIdeal.Gen

/-- The kernel's run: its results; its arguments stay. -/
theorem kernel_run (m : Memory nD τ sig) (ρ : Dev nD → PrngReg) :
    θ_run defs (onTc main) ⟨m, fun _ => 0, ρ⟩ fun r => ∀ c,
      r.2.mem (c.tc.loc main_v2) = nt (aA m c) (aB m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨(h c).1.trans (final m c), (h c).2⟩) (Value.run_blocks m ρ)

end Kernel

section Reference
open Cert.DOxRefIdeal Cert.DOxRefIdeal.Gen

/-- The reference's run, at the same functions. -/
theorem reference_run (m : Memory nD τ sig) (ρ : Dev nD → PrngReg)
    (p0 : Dev nD → A2 8192 512) (p1 : Dev nD → A2 512 1024) (p2 : Dev nD → A2 8192 1024)
    (hm : ∀ c, m (c.tc.loc main_arg0) = p0 c
      ∧ m (c.tc.loc main_arg1) = p1 c
      ∧ m (c.tc.loc main_arg2) = p2 c) :
    θ_run defs (onTc main) ⟨m, fun _ => 0, ρ⟩ fun r => ∀ c,
      r.2.mem (c.tc.loc main_v4) = nt (p2 c) (p1 c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  refine (θ_run _ _ _).mono (fun r h c => ?_) (Value.run m ρ)
  obtain ⟨h0, h1, h2⟩ := hm c
  obtain ⟨r0, hr⟩ := h c
  refine ⟨r0.trans ?_, hr⟩
  · rw [Read.val_main_v4_eq, h2, h1]; exact ref_value ..

end Reference

end Cert.Proj.DOx

end
-- ==== Proof.Proj.DwXo.lean ====
/-
  THE GRADIENT OF THE CROSS-ATTENTION'S OUTPUT PROJECTION, AS THE KERNEL COMPUTES IT.

  The result is a stack of four slabs of 256 columns, one per chip. Grid point `8 q + s` adds,
  to slab `q`, the products over rows `1024 s … 1024 s + 1023` of the batch.
-/
module

public import proofs.«01_k».proof.Proof.Gen.DwXoIdeal.Value
public import proofs.«01_k».proof.Proof.Proj.Products

@[expose] public section

noncomputable section

namespace Cert.Proj.DwXo

open Cert.DwXoIdeal Cert.DwXoIdeal.Gen Idealize.ShloMosaic Idealize.ShloMosaic.TcCoe Idealize.SL.Sem
open Idealize.ShloMosaic.StableHlo Cert.Mlp Cert.Proj

/-! ### The stores, read back -/

section Stores
variable (c : Dev nD) (i : grid0.Coords) (a : Memref sig .tc .vmem S1024x512 .bf16) (ha : a.IsWhole)
  (b : Memref sig .tc .vmem S1024x256 .bf16) (hb : b.IsWhole) (o : Memref sig .tc .vmem S1x512x256 .f32) (ho : o.IsWhole)
  (s : Memref sig .tc .vmem S512x256 .f32) (hs : s.IsWhole) (x : Vec Ideal S1024x512 .bf16) (y : Vec Ideal S1024x256 .bf16) (acc : Vec Ideal S512x256 .f32)

theorem accA (h0 : cond0_0 i) (h1 : ¬cond0_1 i) :
    sout0_A_0 c i a ha b hb o ho s hs h0 h1 x y = k0_pay2 x (k0_pay1 (F := Ideal)) y := by
  unfold sout0_A_0
  rw [View.read_writes_eq_canon _ _ _ (scover0_A_0 c i a ha b hb o ho s hs h0 h1 x y)]
  unfold kernelRun0_A
  dsimp only
  sl_unfold_words
  rw [View.canon_cons_unit_zero (S := S512x256) origin2, View.readCov_unit_zero (S := S512x256) _ origin2]
  simp only [View.readAt_eq_ld, ha.read_unread, hb.read_unread, View.ld_unit_zero (S := S1024x512) origin2, View.ld_unit_zero (S := S1024x256) origin2, shapeCast_self]

theorem accB (h0 : ¬cond0_0 i) (h1 : ¬cond0_1 i) :
    sout0_B_0 c i a ha b hb o ho s hs h0 h1 x y acc = k0_pay2 x acc y := by
  unfold sout0_B_0
  rw [View.read_writes_eq_canon _ _ _ (scover0_B_0 c i a ha b hb o ho s hs h0 h1 x y acc)]
  unfold kernelRun0_B
  dsimp only
  sl_unfold_words
  rw [View.canon_unit_zero (S := S512x256) origin2]
  simp only [View.readAt_eq_ld, ha.read_unread, hb.read_unread, hs.read_unread, View.ld_unit_zero (S := S1024x512) origin2, View.ld_unit_zero (S := S1024x256) origin2, View.ld_unit_zero (S := S512x256) origin2, shapeCast_self]

theorem outC (h0 : ¬cond0_0 i) (h1 : cond0_1 i) :
    out0_C_2 c i a ha b hb o ho s hs h0 h1 x y acc = k0_pay3 (k0_pay2 x acc y) := by
  unfold out0_C_2
  rw [View.read_writes_eq_canon _ _ _ (cover0_C_2 c i a ha b hb o ho s hs h0 h1 x y acc)]
  unfold kernelRun0_C
  dsimp only
  sl_unfold_words
  rw [View.canon_unit_zero (S := S1x512x256) origin3, View.readCov_unit_zero (S := S512x256) _ origin2]
  simp only [View.readAt_eq_ld, ha.read_unread, hb.read_unread, hs.read_unread, View.ld_unit_zero (S := S1024x512) origin2, View.ld_unit_zero (S := S1024x256) origin2, View.ld_unit_zero (S := S512x256) origin2, shapeCast_self]
end Stores

/-! ### One step's value -/

theorem zero_at (r : Fin 512) (j : Fin 256) : k0_pay1 (F := Ideal) (ix2 r j) = 0 := by
  unfold k0_pay1; pointwise

theorem step_at (x : Vec Ideal S1024x512 .bf16) (y : Vec Ideal S1024x256 .bf16) (acc : Vec Ideal S512x256 .f32) (r : Fin 512) (j : Fin 256) :
    (k0_pay2 x acc y : A2 512 256) (ix2 r j)
      = acc (ix2 r j) + ∑ k : Fin 1024, (x : A2 1024 512) (ix2 k r) * (y : A2 1024 256) (ix2 k j) := by
  unfold k0_pay2; pointwise [dot_S1024x512_S1024x256_S512x256_0_0_1_1_n_n]

theorem slab_at (v : Vec Ideal S512x256 .f32) (r : Fin 512) (j : Fin 256) :
    (k0_pay3 v : A3 1 512 256) (ix3 0 r j) = (v : A2 512 256) (ix2 r j) := by
  unfold k0_pay3; pointwise

/-! ### The blocks -/

variable (m : Memory nD τ sig) (c : Dev nD)

/-- The arguments as launched: the rows and the cotangent of the product. -/
abbrev aA : A2 8192 512 := m (c.tc.loc main_arg0)
abbrev aB : A2 8192 1024 := m (c.tc.loc main_arg2)

theorem idx_facts : ∀ t : Fin cfg0.N,
    (win0_0.index t 0 = t.val % 8 ∧ win0_0.index t 1 = 0) ∧ (win0_1.index t 0 = t.val % 8 ∧ win0_1.index t 1 = t.val / 8) :=
  (by decide +kernel : ∀ t : Fin grid0.N, _)

theorem entry_a : (V m c main_v0 : A2 8192 512) = aA m c := by
  show StableHlo.after hostOps0 _ main_v0 = _
  unfold hostOps0
  after_results
  rfl

theorem entry_b : (V m c main_v1 : A2 8192 1024) = aB m c := by
  show StableHlo.after hostOps0 _ main_v1 = _
  unfold hostOps0
  after_results
  rfl

theorem blk_a (t : Fin cfg0.N) (k : Fin 1024) (r : Fin 512) (K : Fin 8192)
    (hK : K.val = t.val % 8 * 1024 + k.val) :
    (iblk m c 0 t : A2 1024 512) (ix2 k r) = aA m c (ix2 K r) := by
  have hi := (idx_facts t).1
  rw [← entry_a]
  unfold iblk
  rw [View.read_apply]
  show (V m c main_v0 : A2 8192 512) _ = _
  congr 1
  funext a
  apply Fin.ext
  match a with
  | ⟨0, _⟩ => show win0_0.index t 0 * 1024 + 1 * k.val = K.val; rw [hi.1]; omega
  | ⟨1, _⟩ => show win0_0.index t 1 * 512 + 1 * r.val = r.val; rw [hi.2]; omega

theorem blk_b (t : Fin cfg0.N) (k : Fin 1024) (j : Fin 256) (K : Fin 8192) (J : Fin 1024)
    (hK : K.val = t.val % 8 * 1024 + k.val) (hJ : J.val = t.val / 8 * 256 + j.val) :
    (iblk m c 1 t : A2 1024 256) (ix2 k j) = aB m c (ix2 K J) := by
  have hi := (idx_facts t).2
  rw [← entry_b]
  unfold iblk
  rw [View.read_apply]
  show (V m c main_v1 : A2 8192 1024) _ = _
  congr 1
  funext a
  apply Fin.ext
  match a with
  | ⟨0, _⟩ => show win0_1.index t 0 * 1024 + 1 * k.val = K.val; rw [hi.1]; omega
  | ⟨1, _⟩ => show win0_1.index t 1 * 256 + 1 * j.val = J.val; rw [hi.2]; omega

/-- The batch row's contribution to entry `(r, J)` of the gradient. -/
abbrev term (h : A2 8192 512) (ct : A2 8192 1024) (r : Fin 512) (J : Fin 1024) (K : Fin 8192) : EReal :=
  h (ix2 K r) * ct (ix2 K J)

/-- One grid point's addition. -/
theorem step_term (t : Fin cfg0.N) (s : Nat) (hs : t.val % 8 = s) (acc : Vec Ideal S512x256 .f32) (r : Fin 512) (j : Fin 256)
    (J : Fin 1024) (hJ : J.val = t.val / 8 * 256 + j.val)
    (ha : (acc : A2 512 256) (ix2 r j) = tiles 1024 (term (aA m c) (aB m c) r J) s) :
    (k0_pay2 (F := Ideal) (iblk m c 0 t) acc (iblk m c 1 t) : A2 512 256) (ix2 r j)
      = tiles 1024 (term (aA m c) (aB m c) r J) (s + 1) := by
  rw [step_at]
  refine tiles_step 1024 _ s _ _ ha fun k => ?_
  have hk : s * 1024 + k.val < 8192 := by omega
  rw [ext_val _ _ hk, blk_a m c t k r ⟨_, hk⟩ (by rw [hs]), blk_b m c t k j ⟨_, hk⟩ J (by rw [hs]) hJ]

/-- What the accumulator holds after step `s` of run `q`. -/
theorem acc_run (q : Fin 4) (r : Fin 512) (j : Fin 256) (J : Fin 1024) (hJ : J.val = q.val * 256 + j.val) :
    ∀ (s : Nat) (hs : s < 7) (hn : 8 * q.val + s < cfg0.N),
      ((outsAt0 m c (8 * q.val + s) hn).2 : A2 512 256) (ix2 r j)
        = tiles 1024 (term (aA m c) (aB m c) r J) (s + 1)
  | 0, _, hn => by
    have e := outsAt0_A m c ⟨8 * q.val + 0, hn⟩ (by dsimp only; omega) (by dsimp only; omega)
    dsimp only at e
    rw [e]
    dsimp only
    rw [accA]
    exact step_term m c ⟨8 * q.val + 0, hn⟩ 0 (by dsimp only; omega) _ r j J (by dsimp only; omega)
      ((zero_at r j).trans (tiles_zero _ _).symm)
  | s + 1, hs, hn => by
    have e := outsAt0_B m c ⟨8 * q.val + (s + 1), hn⟩ (by dsimp only; omega) (by dsimp only; omega)
    dsimp only at e
    rw [e]
    dsimp only
    rw [accB]
    exact step_term m c ⟨8 * q.val + (s + 1), hn⟩ (s + 1) (by dsimp only; omega) _ r j J (by dsimp only; omega)
      (acc_run q r j J hJ s (by omega) (by omega))

/-- What run `q` writes back. -/
theorem out_run (q : Fin 4) (r : Fin 512) (j : Fin 256) (J : Fin 1024) (hJ : J.val = q.val * 256 + j.val) (hn : 8 * q.val + 7 < cfg0.N) :
    ((outsAt0 m c (8 * q.val + 7) hn).1 : A3 1 512 256) (ix3 0 r j) = ∑ K, term (aA m c) (aB m c) r J K := by
  have e := outsAt0_C m c ⟨8 * q.val + 7, hn⟩ (by dsimp only; omega) (by dsimp only; omega)
  dsimp only at e
  rw [e]
  dsimp only
  rw [outC, slab_at]
  exact (step_term m c ⟨8 * q.val + 7, hn⟩ 7 (by dsimp only; omega) _ r j J (by dsimp only; omega)
    (acc_run m c q r j J hJ 6 (by omega) (by omega))).trans (tiles_all 8 1024 _ rfl)

/-- The gradient, in four slabs of columns. -/
def dwArr (x : A2 8192 512) (ct : A2 8192 1024) : A3 4 512 256 := fun i =>
  tn x ct (ix2 (i 1) ⟨(i 0).val * 256 + (i 2).val, by
    have h0 : (i 0).val < 4 := (i 0).isLt
    have h2 : (i 2).val < 256 := (i 2).isLt
    omega⟩)

theorem final : (Value.G2 m c : A3 4 512 256) = dwArr (aA m c) (aB m c) := by
  funext i
  have hN : cfg0.N = 32 := N_0
  have h0 : (i 0).val < 4 := (i 0).isLt
  have h1 : (i 1).val < 512 := (i 1).isLt
  have h2 : (i 2).val < 256 := (i 2).isLt
  have hp : Value.pt2Of i = 8 * (i 0).val + 7 := by
    show 8 * (1 * ((i 0).val / 1 - 0) + 1 * ((i 1).val / 512 - 0) + 1 * ((i 2).val / 256 - 0)) + 7 = _
    omega
  have hlt : Value.pt2Of i < cfg0.N := by rw [hp]; omega
  have hl : Value.loc2Of i = ix3 (0 : Fin 1) (⟨(i 1).val, h1⟩ : Fin 512) (⟨(i 2).val, h2⟩ : Fin 256) := by
    funext a
    apply Fin.ext
    match a with
    | ⟨0, _⟩ => show (i 0).val % 1 = 0; omega
    | ⟨1, _⟩ => show (i 1).val % 512 = (i 1).val; omega
    | ⟨2, _⟩ => show (i 2).val % 256 = (i 2).val; omega
  unfold Value.G2
  rw [dif_pos hlt, ← Value.outsAt0_sweep m c _ hlt, hl]
  have e := out_run m c ⟨(i 0).val, h0⟩ ⟨(i 1).val, h1⟩ ⟨(i 2).val, h2⟩ ⟨(i 0).val * 256 + (i 2).val, by omega⟩ rfl (by dsimp only; omega)
  dsimp only at e
  have same : ∀ (n n' : Nat) (h : n < cfg0.N) (h' : n' < cfg0.N), n = n' → outsAt0 m c n h = outsAt0 m c n' h' := by
    intro n n' h h' hnn; subst hnn; rfl
  rw [same _ (8 * (i 0).val + 7) hlt (by omega) hp]
  exact e

end Cert.Proj.DwXo

end
-- ==== Proof.Proj.DwXoClaims.lean ====
/-
  THE GRADIENT OF THE CROSS-ATTENTION'S OUTPUT PROJECTION: THE KERNEL'S RUN AND THE REFERENCE'S RUN, AT THE SAME ARRAYS.
-/
module

public import proofs.«01_k».proof.Proof.Proj.DwXo
public import proofs.«01_k».proof.Proof.Gen.DwXoRefIdeal.Read

@[expose] public section

noncomputable section

namespace Cert.Proj.DwXo

open Idealize.ShloMosaic Idealize.SL.Sem Cert.Mlp Cert.Proj

section Reference
open Cert.DwXoRefIdeal Cert.DwXoRefIdeal.Gen Cert.DwXoRefIdeal.Read

theorem ref_value (a : A2 8192 512) (b : A2 8192 1024) : (val_main_v5 (F := Ideal) a b : A3 4 512 256) = dwArr a b := by
  funext i
  obtain ⟨q, R, J, h⟩ : ∃ (q : Fin 4) (R : Fin 512) (J : Fin 256), i = ix3 q R J := ⟨_, _, _, eq_ix3 i⟩
  rw [h]
  unfold val_main_v5 val_main_v4 val_main_v2 val_main_v1 dwArr tn
  pointwise [dot_S8192x1024_S8192x512_S1024x512_0_0_1_1_n_n]
  exact Finset.sum_congr rfl fun k _ => mul_comm _ _

end Reference

section Kernel
open Cert.DwXoIdeal Cert.DwXoIdeal.Gen

/-- The kernel's run: its results; its arguments stay. -/
theorem kernel_run (m : Memory nD τ sig) (ρ : Dev nD → PrngReg) :
    θ_run defs (onTc main) ⟨m, fun _ => 0, ρ⟩ fun r => ∀ c,
      r.2.mem (c.tc.loc main_v2) = dwArr (aA m c) (aB m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨(h c).1.trans (final m c), (h c).2⟩) (Value.run m ρ)

end Kernel

section Reference
open Cert.DwXoRefIdeal Cert.DwXoRefIdeal.Gen

/-- The reference's run, at the same functions. -/
theorem reference_run (m : Memory nD τ sig) (ρ : Dev nD → PrngReg)
    (p0 : Dev nD → A2 8192 512) (p1 : Dev nD → A2 512 1024) (p2 : Dev nD → A2 8192 1024)
    (hm : ∀ c, m (c.tc.loc main_arg0) = p0 c
      ∧ m (c.tc.loc main_arg1) = p1 c
      ∧ m (c.tc.loc main_arg2) = p2 c) :
    θ_run defs (onTc main) ⟨m, fun _ => 0, ρ⟩ fun r => ∀ c,
      r.2.mem (c.tc.loc main_v5) = dwArr (p0 c) (p2 c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  refine (θ_run _ _ _).mono (fun r h c => ?_) (Value.run m ρ)
  obtain ⟨h0, h1, h2⟩ := hm c
  obtain ⟨r0, hr⟩ := h c
  refine ⟨r0.trans ?_, hr⟩
  · rw [Read.val_main_v5_eq, h0, h2]; exact ref_value ..

end Reference

end Cert.Proj.DwXo

end
-- ==== Proof.Proj.DwXq.lean ====
/-
  THE GRADIENT OF THE CROSS-ATTENTION'S QUERY PROJECTION, AS THE KERNEL COMPUTES IT.

  The rows transposed, times the cotangent of the result. Grid point `s` adds
  the products over rows `1024 s … 1024 s + 1023` of the batch.
-/
module

public import proofs.«01_k».proof.Proof.Gen.DwXqIdeal.Value
public import proofs.«01_k».proof.Proof.Proj.Products

@[expose] public section

noncomputable section

namespace Cert.Proj.DwXq

open Cert.DwXqIdeal Cert.DwXqIdeal.Gen Idealize.ShloMosaic Idealize.ShloMosaic.TcCoe Idealize.SL.Sem
open Idealize.ShloMosaic.StableHlo Cert.Mlp Cert.Proj

/-! ### The stores, read back -/

section Stores
variable (c : Dev nD) (i : grid0.Coords) (a : Memref sig .tc .vmem S1024x1024 .bf16) (ha : a.IsWhole)
  (b : Memref sig .tc .vmem S1024x512 .bf16) (hb : b.IsWhole) (o : Memref sig .tc .vmem S1024x512 .f32) (ho : o.IsWhole)
  (s : Memref sig .tc .vmem S1024x512 .f32) (hs : s.IsWhole) (x : Vec Ideal S1024x1024 .bf16) (y : Vec Ideal S1024x512 .bf16) (acc : Vec Ideal S1024x512 .f32)

theorem accA (h0 : cond0_0 i) (h1 : ¬cond0_1 i) :
    sout0_A_0 c i a ha b hb o ho s hs h0 h1 x y = k0_pay2 x (k0_pay1 (F := Ideal)) y := by
  unfold sout0_A_0
  rw [View.read_writes_eq_canon _ _ _ (scover0_A_0 c i a ha b hb o ho s hs h0 h1 x y)]
  unfold kernelRun0_A
  dsimp only
  sl_unfold_words
  rw [View.canon_cons_unit_zero (S := S1024x512) origin2, View.readCov_unit_zero (S := S1024x512) _ origin2]
  simp only [View.readAt_eq_ld, ha.read_unread, hb.read_unread, View.ld_unit_zero (S := S1024x1024) origin2, View.ld_unit_zero (S := S1024x512) origin2, shapeCast_self]

theorem accB (h0 : ¬cond0_0 i) (h1 : ¬cond0_1 i) :
    sout0_B_0 c i a ha b hb o ho s hs h0 h1 x y acc = k0_pay2 x acc y := by
  unfold sout0_B_0
  rw [View.read_writes_eq_canon _ _ _ (scover0_B_0 c i a ha b hb o ho s hs h0 h1 x y acc)]
  unfold kernelRun0_B
  dsimp only
  sl_unfold_words
  rw [View.canon_unit_zero (S := S1024x512) origin2]
  simp only [View.readAt_eq_ld, ha.read_unread, hb.read_unread, hs.read_unread, View.ld_unit_zero (S := S1024x1024) origin2, View.ld_unit_zero (S := S1024x512) origin2, shapeCast_self]

theorem outC (h0 : ¬cond0_0 i) (h1 : cond0_1 i) :
    out0_C_2 c i a ha b hb o ho s hs h0 h1 x y acc = k0_pay2 x acc y := by
  unfold out0_C_2
  rw [View.read_writes_eq_canon _ _ _ (cover0_C_2 c i a ha b hb o ho s hs h0 h1 x y acc)]
  unfold kernelRun0_C
  dsimp only
  sl_unfold_words
  rw [View.canon_unit_zero (S := S1024x512) origin2, View.readCov_unit_zero (S := S1024x512) _ origin2]
  simp only [View.readAt_eq_ld, ha.read_unread, hb.read_unread, hs.read_unread, View.ld_unit_zero (S := S1024x1024) origin2, View.ld_unit_zero (S := S1024x512) origin2, shapeCast_self]
end Stores

/-! ### One step's value -/

theorem zero_at (r : Fin 1024) (j : Fin 512) : k0_pay1 (F := Ideal) (ix2 r j) = 0 := by
  unfold k0_pay1; pointwise

theorem step_at (x : Vec Ideal S1024x1024 .bf16) (y : Vec Ideal S1024x512 .bf16) (acc : Vec Ideal S1024x512 .f32) (r : Fin 1024) (j : Fin 512) :
    (k0_pay2 x acc y : A2 1024 512) (ix2 r j)
      = acc (ix2 r j) + ∑ k : Fin 1024, (x : A2 1024 1024) (ix2 k r) * (y : A2 1024 512) (ix2 k j) := by
  unfold k0_pay2; pointwise [dot_S1024x1024_S1024x512_S1024x512_0_0_1_1_n_n]

/-! ### The blocks -/

variable (m : Memory nD τ sig) (c : Dev nD)

/-- The arguments as launched: the rows and the cotangent of the product. -/
abbrev aA : A2 8192 1024 := m (c.tc.loc main_arg0)
abbrev aB : A2 8192 512 := m (c.tc.loc main_arg2)

theorem idx_facts : ∀ t : Fin cfg0.N,
    (win0_0.index t 0 = t.val % 8 ∧ win0_0.index t 1 = 0) ∧ (win0_1.index t 0 = t.val % 8 ∧ win0_1.index t 1 = t.val / 8) :=
  (by decide +kernel : ∀ t : Fin grid0.N, _)

theorem entry_a : (V m c main_v0 : A2 8192 1024) = aA m c := by
  show StableHlo.after hostOps0 _ main_v0 = _
  unfold hostOps0
  after_results
  rfl

theorem entry_b : (V m c main_v1 : A2 8192 512) = aB m c := by
  show StableHlo.after hostOps0 _ main_v1 = _
  unfold hostOps0
  after_results
  rfl

theorem blk_a (t : Fin cfg0.N) (k : Fin 1024) (r : Fin 1024) (K : Fin 8192)
    (hK : K.val = t.val % 8 * 1024 + k.val) :
    (iblk m c 0 t : A2 1024 1024) (ix2 k r) = aA m c (ix2 K r) := by
  have hi := (idx_facts t).1
  rw [← entry_a]
  unfold iblk
  rw [View.read_apply]
  show (V m c main_v0 : A2 8192 1024) _ = _
  congr 1
  funext a
  apply Fin.ext
  match a with
  | ⟨0, _⟩ => show win0_0.index t 0 * 1024 + 1 * k.val = K.val; rw [hi.1]; omega
  | ⟨1, _⟩ => show win0_0.index t 1 * 1024 + 1 * r.val = r.val; rw [hi.2]; omega

theorem blk_b (t : Fin cfg0.N) (k : Fin 1024) (j : Fin 512) (K : Fin 8192) (J : Fin 512)
    (hK : K.val = t.val % 8 * 1024 + k.val) (hJ : J.val = t.val / 8 * 512 + j.val) :
    (iblk m c 1 t : A2 1024 512) (ix2 k j) = aB m c (ix2 K J) := by
  have hi := (idx_facts t).2
  rw [← entry_b]
  unfold iblk
  rw [View.read_apply]
  show (V m c main_v1 : A2 8192 512) _ = _
  congr 1
  funext a
  apply Fin.ext
  match a with
  | ⟨0, _⟩ => show win0_1.index t 0 * 1024 + 1 * k.val = K.val; rw [hi.1]; omega
  | ⟨1, _⟩ => show win0_1.index t 1 * 512 + 1 * j.val = J.val; rw [hi.2]; omega

/-- The batch row's contribution to entry `(r, J)` of the gradient. -/
abbrev term (h : A2 8192 1024) (ct : A2 8192 512) (r : Fin 1024) (J : Fin 512) (K : Fin 8192) : EReal :=
  h (ix2 K r) * ct (ix2 K J)

/-- One grid point's addition. -/
theorem step_term (t : Fin cfg0.N) (s : Nat) (hs : t.val % 8 = s) (acc : Vec Ideal S1024x512 .f32) (r : Fin 1024) (j : Fin 512)
    (J : Fin 512) (hJ : J.val = t.val / 8 * 512 + j.val)
    (ha : (acc : A2 1024 512) (ix2 r j) = tiles 1024 (term (aA m c) (aB m c) r J) s) :
    (k0_pay2 (F := Ideal) (iblk m c 0 t) acc (iblk m c 1 t) : A2 1024 512) (ix2 r j)
      = tiles 1024 (term (aA m c) (aB m c) r J) (s + 1) := by
  rw [step_at]
  refine tiles_step 1024 _ s _ _ ha fun k => ?_
  have hk : s * 1024 + k.val < 8192 := by omega
  rw [ext_val _ _ hk, blk_a m c t k r ⟨_, hk⟩ (by rw [hs]), blk_b m c t k j ⟨_, hk⟩ J (by rw [hs]) hJ]

/-- What the accumulator holds after step `s` of run `q`. -/
theorem acc_run (q : Fin 1) (r : Fin 1024) (j : Fin 512) (J : Fin 512) (hJ : J.val = q.val * 512 + j.val) :
    ∀ (s : Nat) (hs : s < 7) (hn : 8 * q.val + s < cfg0.N),
      ((outsAt0 m c (8 * q.val + s) hn).2 : A2 1024 512) (ix2 r j)
        = tiles 1024 (term (aA m c) (aB m c) r J) (s + 1)
  | 0, _, hn => by
    have e := outsAt0_A m c ⟨8 * q.val + 0, hn⟩ (by dsimp only; omega) (by dsimp only; omega)
    dsimp only at e
    rw [e]
    dsimp only
    rw [accA]
    exact step_term m c ⟨8 * q.val + 0, hn⟩ 0 (by dsimp only; omega) _ r j J (by dsimp only; omega)
      ((zero_at r j).trans (tiles_zero _ _).symm)
  | s + 1, hs, hn => by
    have e := outsAt0_B m c ⟨8 * q.val + (s + 1), hn⟩ (by dsimp only; omega) (by dsimp only; omega)
    dsimp only at e
    rw [e]
    dsimp only
    rw [accB]
    exact step_term m c ⟨8 * q.val + (s + 1), hn⟩ (s + 1) (by dsimp only; omega) _ r j J (by dsimp only; omega)
      (acc_run q r j J hJ s (by omega) (by omega))

/-- What run `q` writes back. -/
theorem out_run (q : Fin 1) (r : Fin 1024) (j : Fin 512) (J : Fin 512) (hJ : J.val = q.val * 512 + j.val) (hn : 8 * q.val + 7 < cfg0.N) :
    ((outsAt0 m c (8 * q.val + 7) hn).1 : A2 1024 512) (ix2 r j) = ∑ K, term (aA m c) (aB m c) r J K := by
  have e := outsAt0_C m c ⟨8 * q.val + 7, hn⟩ (by dsimp only; omega) (by dsimp only; omega)
  dsimp only at e
  rw [e]
  dsimp only
  rw [outC]
  exact (step_term m c ⟨8 * q.val + 7, hn⟩ 7 (by dsimp only; omega) _ r j J (by dsimp only; omega)
    (acc_run m c q r j J hJ 6 (by omega) (by omega))).trans (tiles_all 8 1024 _ rfl)

theorem final : (Value.G2 m c : A2 1024 512) = tn (aA m c) (aB m c) := by
  funext i
  have hN : cfg0.N = 8 := N_0
  have h1 : (i 0).val < 1024 := (i 0).isLt
  have h2 : (i 1).val < 512 := (i 1).isLt
  have hp : Value.pt2Of i = 8 * 0 + 7 := by
    show 8 * (1 * ((i 0).val / 1024 - 0) + 1 * ((i 1).val / 512 - 0)) + 7 = _
    omega
  have hlt : Value.pt2Of i < cfg0.N := by rw [hp]; omega
  have hl : Value.loc2Of i = ix2 (⟨(i 0).val, h1⟩ : Fin 1024) (⟨(i 1).val, h2⟩ : Fin 512) := by
    funext a
    apply Fin.ext
    match a with
    | ⟨0, _⟩ => show (i 0).val % 1024 = (i 0).val; omega
    | ⟨1, _⟩ => show (i 1).val % 512 = (i 1).val; omega
  unfold Value.G2
  rw [dif_pos hlt, ← Value.outsAt0_sweep m c _ hlt, hl]
  have e := out_run m c 0 ⟨(i 0).val, h1⟩ ⟨(i 1).val, h2⟩ ⟨(i 1).val, h2⟩ (by simp) (by omega)
  have same : ∀ (n n' : Nat) (h : n < cfg0.N) (h' : n' < cfg0.N), n = n' → outsAt0 m c n h = outsAt0 m c n' h' := by
    intro n n' h h' hnn; subst hnn; rfl
  rw [same _ (8 * 0 + 7) hlt (by omega) hp]
  exact e

end Cert.Proj.DwXq

end
-- ==== Proof.Proj.DwXqClaims.lean ====
/-
  THE GRADIENT OF THE CROSS-ATTENTION'S QUERY PROJECTION: THE KERNEL'S RUN AND THE REFERENCE'S RUN, AT THE SAME ARRAYS.
-/
module

public import proofs.«01_k».proof.Proof.Proj.DwXq
public import proofs.«01_k».proof.Proof.Gen.DwXqRefIdeal.Read

@[expose] public section

noncomputable section

namespace Cert.Proj.DwXq

open Idealize.ShloMosaic Idealize.SL.Sem Cert.Mlp Cert.Proj

section Reference
open Cert.DwXqRefIdeal Cert.DwXqRefIdeal.Gen Cert.DwXqRefIdeal.Read

theorem ref_value (a : A2 8192 1024) (b : A2 8192 512) : (val_main_v2 (F := Ideal) a b : A2 1024 512) = tn a b := by
  refine ext2 _ _ fun R J => ?_
  unfold val_main_v2 val_main_v1 tn
  pointwise [dot_S8192x512_S8192x1024_S512x1024_0_0_1_1_n_n]
  exact Finset.sum_congr rfl fun k _ => mul_comm _ _

end Reference

section Kernel
open Cert.DwXqIdeal Cert.DwXqIdeal.Gen

/-- The kernel's run: its results; its arguments stay. -/
theorem kernel_run (m : Memory nD τ sig) (ρ : Dev nD → PrngReg) :
    θ_run defs (onTc main) ⟨m, fun _ => 0, ρ⟩ fun r => ∀ c,
      r.2.mem (c.tc.loc main_v2) = tn (aA m c) (aB m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨(h c).1.trans (final m c), (h c).2⟩) (Value.run m ρ)

end Kernel

section Reference
open Cert.DwXqRefIdeal Cert.DwXqRefIdeal.Gen

/-- The reference's run, at the same functions. -/
theorem reference_run (m : Memory nD τ sig) (ρ : Dev nD → PrngReg)
    (p0 : Dev nD → A2 8192 1024) (p1 : Dev nD → A2 1024 512) (p2 : Dev nD → A2 8192 512)
    (hm : ∀ c, m (c.tc.loc main_arg0) = p0 c
      ∧ m (c.tc.loc main_arg1) = p1 c
      ∧ m (c.tc.loc main_arg2) = p2 c) :
    θ_run defs (onTc main) ⟨m, fun _ => 0, ρ⟩ fun r => ∀ c,
      r.2.mem (c.tc.loc main_v2) = tn (p0 c) (p2 c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  refine (θ_run _ _ _).mono (fun r h c => ?_) (Value.run m ρ)
  obtain ⟨h0, h1, h2⟩ := hm c
  obtain ⟨r0, hr⟩ := h c
  refine ⟨r0.trans ?_, hr⟩
  · rw [Read.val_main_v2_eq, h0, h2]; exact ref_value ..

end Reference

end Cert.Proj.DwXq

end
-- ==== Proof.Proj.DwXkv.lean ====
/-
  THE GRADIENT OF THE CROSS-ATTENTION'S KEY AND VALUE PROJECTION, AS THE KERNEL COMPUTES IT.

  One grid point computes the whole result: rows transposed, times rows.
-/
module

public import proofs.«01_k».proof.Proof.Gen.DwXkvIdeal.Value
public import proofs.«01_k».proof.Proof.Proj.Products

@[expose] public section

noncomputable section

namespace Cert.Proj.DwXkv

open Cert.DwXkvIdeal Cert.DwXkvIdeal.Gen Idealize.ShloMosaic Idealize.ShloMosaic.TcCoe Idealize.SL.Sem
open Idealize.ShloMosaic.StableHlo Cert.Mlp Cert.Proj

/-- What a grid point stores, from the blocks it reads. -/
theorem outA (c : Dev nD) (i : grid0.Coords) (a : Memref sig .tc .vmem S256x1024 .bf16) (ha : a.IsWhole)
    (b : Memref sig .tc .vmem S256x1024 .bf16) (hb : b.IsWhole)
    (o : Memref sig .tc .vmem S1024x1024 .f32) (ho : o.IsWhole) (s : Memref sig .tc .vmem S1024x1024 .f32) (hs : s.IsWhole)
    (x : Vec Ideal S256x1024 .bf16) (y : Vec Ideal S256x1024 .bf16)
    (h0 : cond0_0 i) (h1 : cond0_1 i) :
    out0_A_2 c i a ha b hb o ho s hs h0 h1 x y = k0_pay2 x (k0_pay1 (F := Ideal)) y := by
  unfold out0_A_2
  rw [View.read_writes_eq_canon _ _ _ (cover0_A_2 c i a ha b hb o ho s hs h0 h1 x y)]
  unfold kernelRun0_A
  dsimp only
  sl_unfold_words
  rw [View.canon_unit_zero (S := S1024x1024) origin2]
  simp only [readCov_last (S := S1024x1024) _ origin2, View.readCov_unit_zero (S := S1024x1024) _ origin2,
    View.readAt_eq_ld, ha.read_unread, hb.read_unread, View.ld_unit_zero (S := S256x1024) origin2, View.ld_unit_zero (S := S1024x1024) origin2, shapeCast_self]

/-- One entry of a block. -/
theorem block_at (x : Vec Ideal S256x1024 .bf16) (y : Vec Ideal S256x1024 .bf16) (r : Fin 1024) (j : Fin 1024) :
    (k0_pay2 x (k0_pay1 (F := Ideal)) y : A2 1024 1024) (ix2 r j)
      = ∑ k : Fin 256, (x : A2 256 1024) (ix2 k r) * (y : A2 256 1024) (ix2 k j) := by
  unfold k0_pay2 k0_pay1
  pointwise [dot_S256x1024_S256x1024_S1024x1024_0_0_1_1_n_n]

/-! ### The blocks -/

variable (m : Memory nD τ sig) (c : Dev nD)

/-- The arguments as launched: the two factors. -/
abbrev aA : A2 256 1024 := m (c.tc.loc main_arg0)
abbrev aB : A2 256 1024 := m (c.tc.loc main_arg2)

theorem idx_facts : ∀ t : Fin cfg0.N,
    (win0_0.index t 0 = 0 ∧ win0_0.index t 1 = t.val) ∧ (win0_1.index t 0 = 0 ∧ win0_1.index t 1 = 0) ∧ (win0_2.index t 0 = t.val ∧ win0_2.index t 1 = 0) :=
  (by decide +kernel : ∀ t : Fin grid0.N, _)

theorem entry_a : (V m c main_v0 : A2 256 1024) = aA m c := by
  show StableHlo.after hostOps0 _ main_v0 = _
  unfold hostOps0
  after_results
  rfl

theorem entry_b : (V m c main_v1 : A2 256 1024) = aB m c := by
  show StableHlo.after hostOps0 _ main_v1 = _
  unfold hostOps0
  after_results
  rfl

/-- The result's row and column of entry `(r, j)` of block `t`. -/
def rowIx (t : Fin cfg0.N) (r : Fin 1024) : Fin 1024 :=
  ⟨t.val * 1024 + r.val, by have hN : cfg0.N = 1 := N_0; omega⟩
def colIx (t : Fin cfg0.N) (j : Fin 1024) : Fin 1024 :=
  j

theorem blk_a (t : Fin cfg0.N) (k : Fin 256) (r : Fin 1024) :
    (iblk m c 0 t : A2 256 1024) (ix2 k r) = aA m c (ix2 k (rowIx t r)) := by
  have hi := (idx_facts t).1
  rw [← entry_a]
  unfold iblk
  rw [View.read_apply]
  show (V m c main_v0 : A2 256 1024) _ = _
  congr 1
  funext a
  apply Fin.ext
  match a with
  | ⟨0, _⟩ => show win0_0.index t 0 * 256 + 1 * k.val = k.val; rw [hi.1]; omega
  | ⟨1, _⟩ => show win0_0.index t 1 * 1024 + 1 * r.val = t.val * 1024 + r.val; rw [hi.2]; omega

theorem blk_b (t : Fin cfg0.N) (k : Fin 256) (j : Fin 1024) :
    (iblk m c 1 t : A2 256 1024) (ix2 k j) = aB m c (ix2 k (colIx t j)) := by
  have hi := (idx_facts t).2.1
  rw [← entry_b]
  unfold iblk
  rw [View.read_apply]
  show (V m c main_v1 : A2 256 1024) _ = _
  congr 1
  funext a
  apply Fin.ext
  match a with
  | ⟨0, _⟩ => show win0_1.index t 0 * 256 + 1 * k.val = k.val; rw [hi.1]; omega
  | ⟨1, _⟩ => show win0_1.index t 1 * 1024 + 1 * j.val = j.val; rw [hi.2]; omega

/-! ### The final array -/

theorem read_out (t : Fin cfg0.N) (G : A2 1024 1024) (r : Fin 1024) (j : Fin 1024) :
    (((cfg0.win 2).blk t).view.read (Elt Ideal) G : A2 1024 1024) (ix2 r j) = G (ix2 (rowIx t r) (colIx t j)) := by
  have hi := (idx_facts t).2.2
  rw [View.read_apply]
  show G _ = _
  congr 1
  funext a
  apply Fin.ext
  match a with
  | ⟨0, _⟩ => show win0_2.index t 0 * 1024 + 1 * r.val = t.val * 1024 + r.val; rw [hi.1]; omega
  | ⟨1, _⟩ => show win0_2.index t 1 * 1024 + 1 * j.val = j.val; rw [hi.2]; omega

theorem final : ((dats m 0 c).arrAt 2 cfg0.N : A2 1024 1024) = tn (aA m c) (aB m c) := by
  refine (dats m 0 c).arrAt_eq_of_cover 2 (tn (aA m c) (aB m c)) ?_ ?_
  · intro t _
    rw [Value.flushed2_A, outA]
    refine ext2 (a := 1024) (b := 1024) _ _ fun r j => ?_
    refine (block_at _ _ r j).trans (Eq.trans ?_ (read_out t (tn (aA m c) (aB m c)) r j).symm)
    simp only [blk_a, blk_b]
    rfl
  · intro i
    have h0 : (i 0 : Nat) < 1024 := (i 0).isLt
    have h1 : (i 1 : Nat) < 1024 := (i 1).isLt
    have hN : cfg0.N = 1 := N_0
    let t : Fin cfg0.N := ⟨(i 0 : Nat) / 1024, by omega⟩
    refine ⟨t, flush0_2 t, ?_⟩
    have hi := (idx_facts t).2.2
    have e0 : win0_2.index t 0 = (i 0 : Nat) / 1024 := hi.1
    have e1 : win0_2.index t 1 = 0 := hi.2
    show i ∈ ((View.whole main_v2).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024; rw [e0]; omega
    | ⟨1, _⟩ => show win0_2.index t 1 * 1024 ≤ (i 1 : Nat) ∧ (i 1 : Nat) < win0_2.index t 1 * 1024 + 1024; rw [e1]; omega

end Cert.Proj.DwXkv

end
-- ==== Proof.Proj.DwXkvClaims.lean ====
/-
  THE GRADIENT OF THE CROSS-ATTENTION'S KEY AND VALUE PROJECTION: THE KERNEL'S RUN AND THE REFERENCE'S RUN, AT THE SAME ARRAYS.
-/
module

public import proofs.«01_k».proof.Proof.Proj.DwXkv
public import proofs.«01_k».proof.Proof.Gen.DwXkvRefIdeal.Read

@[expose] public section

noncomputable section

namespace Cert.Proj.DwXkv

open Idealize.ShloMosaic Idealize.SL.Sem Cert.Mlp Cert.Proj

section Reference
open Cert.DwXkvRefIdeal Cert.DwXkvRefIdeal.Gen Cert.DwXkvRefIdeal.Read

theorem ref_value (a : A2 256 1024) (b : A2 256 1024) : (val_main_v2 (F := Ideal) a b : A2 1024 1024) = tn a b := by
  refine ext2 _ _ fun R J => ?_
  unfold val_main_v2 val_main_v1 tn
  pointwise [dot_S256x1024_S256x1024_S1024x1024_0_0_1_1_n_n]
  exact Finset.sum_congr rfl fun k _ => mul_comm _ _

end Reference

section Kernel
open Cert.DwXkvIdeal Cert.DwXkvIdeal.Gen

/-- The kernel's run: its results; its arguments stay. -/
theorem kernel_run (m : Memory nD τ sig) (ρ : Dev nD → PrngReg) :
    θ_run defs (onTc main) ⟨m, fun _ => 0, ρ⟩ fun r => ∀ c,
      r.2.mem (c.tc.loc main_v2) = tn (aA m c) (aB m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨(h c).1.trans (final m c), (h c).2⟩) (Value.run_blocks m ρ)

end Kernel

section Reference
open Cert.DwXkvRefIdeal Cert.DwXkvRefIdeal.Gen

/-- The reference's run, at the same functions. -/
theorem reference_run (m : Memory nD τ sig) (ρ : Dev nD → PrngReg)
    (p0 : Dev nD → A2 256 1024) (p1 : Dev nD → A2 1024 1024) (p2 : Dev nD → A2 256 1024)
    (hm : ∀ c, m (c.tc.loc main_arg0) = p0 c
      ∧ m (c.tc.loc main_arg1) = p1 c
      ∧ m (c.tc.loc main_arg2) = p2 c) :
    θ_run defs (onTc main) ⟨m, fun _ => 0, ρ⟩ fun r => ∀ c,
      r.2.mem (c.tc.loc main_v2) = tn (p0 c) (p2 c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  refine (θ_run _ _ _).mono (fun r h c => ?_) (Value.run m ρ)
  obtain ⟨h0, h1, h2⟩ := hm c
  obtain ⟨r0, hr⟩ := h c
  refine ⟨r0.trans ?_, hr⟩
  · rw [Read.val_main_v2_eq, h0, h2]; exact ref_value ..

end Reference

end Cert.Proj.DwXkv

end
-- ==== Proof.Proj.DMemn.lean ====
/-
  THE COTANGENT OF THE NORMED MEMORY, THROUGH THE KEY AND VALUE PROJECTION, AS THE KERNEL COMPUTES IT.

  One grid point computes the whole result: rows times the matrix transposed.
-/
module

public import proofs.«01_k».proof.Proof.Gen.DMemnIdeal.Value
public import proofs.«01_k».proof.Proof.Proj.Products

@[expose] public section

noncomputable section

namespace Cert.Proj.DMemn

open Cert.DMemnIdeal Cert.DMemnIdeal.Gen Idealize.ShloMosaic Idealize.ShloMosaic.TcCoe Idealize.SL.Sem
open Idealize.ShloMosaic.StableHlo Cert.Mlp Cert.Proj

/-- What a grid point stores, from the blocks it reads. -/
theorem outA (c : Dev nD) (i : grid0.Coords) (a : Memref sig .tc .vmem S256x1024 .bf16) (ha : a.IsWhole)
    (b : Memref sig .tc .vmem S1024x1024 .bf16) (hb : b.IsWhole)
    (o : Memref sig .tc .vmem S256x1024 .f32) (ho : o.IsWhole) (s : Memref sig .tc .vmem S256x1024 .f32) (hs : s.IsWhole)
    (x : Vec Ideal S256x1024 .bf16) (y : Vec Ideal S1024x1024 .bf16)
    (h0 : cond0_0 i) (h1 : cond0_1 i) :
    out0_A_2 c i a ha b hb o ho s hs h0 h1 x y = k0_pay2 x (k0_pay1 (F := Ideal)) y := by
  unfold out0_A_2
  rw [View.read_writes_eq_canon _ _ _ (cover0_A_2 c i a ha b hb o ho s hs h0 h1 x y)]
  unfold kernelRun0_A
  dsimp only
  sl_unfold_words
  rw [View.canon_unit_zero (S := S256x1024) origin2]
  simp only [readCov_last (S := S256x1024) _ origin2, View.readCov_unit_zero (S := S256x1024) _ origin2,
    View.readAt_eq_ld, ha.read_unread, hb.read_unread, View.ld_unit_zero (S := S256x1024) origin2, View.ld_unit_zero (S := S1024x1024) origin2, shapeCast_self]

/-- One entry of a block. -/
theorem block_at (x : Vec Ideal S256x1024 .bf16) (y : Vec Ideal S1024x1024 .bf16) (r : Fin 256) (j : Fin 1024) :
    (k0_pay2 x (k0_pay1 (F := Ideal)) y : A2 256 1024) (ix2 r j)
      = ∑ k : Fin 1024, (x : A2 256 1024) (ix2 r k) * (y : A2 1024 1024) (ix2 j k) := by
  unfold k0_pay2 k0_pay1
  pointwise [dot_S256x1024_S1024x1024_S256x1024_1_1_0_0_n_n]

/-! ### The blocks -/

variable (m : Memory nD τ sig) (c : Dev nD)

/-- The arguments as launched: the two factors. -/
abbrev aA : A2 256 1024 := m (c.tc.loc main_arg2)
abbrev aB : A2 1024 1024 := m (c.tc.loc main_arg1)

theorem idx_facts : ∀ t : Fin cfg0.N,
    (win0_0.index t 0 = t.val ∧ win0_0.index t 1 = 0) ∧ (win0_1.index t 0 = 0 ∧ win0_1.index t 1 = 0) ∧ (win0_2.index t 0 = t.val ∧ win0_2.index t 1 = 0) :=
  (by decide +kernel : ∀ t : Fin grid0.N, _)

theorem entry_a : (V m c main_v0 : A2 256 1024) = aA m c := by
  show StableHlo.after hostOps0 _ main_v0 = _
  unfold hostOps0
  after_results
  rfl

theorem entry_b : (V m c main_v1 : A2 1024 1024) = aB m c := by
  show StableHlo.after hostOps0 _ main_v1 = _
  unfold hostOps0
  after_results
  rfl

/-- The result's row and column of entry `(r, j)` of block `t`. -/
def rowIx (t : Fin cfg0.N) (r : Fin 256) : Fin 256 :=
  ⟨t.val * 256 + r.val, by have hN : cfg0.N = 1 := N_0; omega⟩
def colIx (t : Fin cfg0.N) (j : Fin 1024) : Fin 1024 :=
  j

theorem blk_a (t : Fin cfg0.N) (r : Fin 256) (k : Fin 1024) :
    (iblk m c 0 t : A2 256 1024) (ix2 r k) = aA m c (ix2 (rowIx t r) k) := by
  have hi := (idx_facts t).1
  rw [← entry_a]
  unfold iblk
  rw [View.read_apply]
  show (V m c main_v0 : A2 256 1024) _ = _
  congr 1
  funext a
  apply Fin.ext
  match a with
  | ⟨0, _⟩ => show win0_0.index t 0 * 256 + 1 * r.val = t.val * 256 + r.val; rw [hi.1]; omega
  | ⟨1, _⟩ => show win0_0.index t 1 * 1024 + 1 * k.val = k.val; rw [hi.2]; omega

theorem blk_b (t : Fin cfg0.N) (j : Fin 1024) (k : Fin 1024) :
    (iblk m c 1 t : A2 1024 1024) (ix2 j k) = aB m c (ix2 (colIx t j) k) := by
  have hi := (idx_facts t).2.1
  rw [← entry_b]
  unfold iblk
  rw [View.read_apply]
  show (V m c main_v1 : A2 1024 1024) _ = _
  congr 1
  funext a
  apply Fin.ext
  match a with
  | ⟨0, _⟩ => show win0_1.index t 0 * 1024 + 1 * j.val = j.val; rw [hi.1]; omega
  | ⟨1, _⟩ => show win0_1.index t 1 * 1024 + 1 * k.val = k.val; rw [hi.2]; omega

/-! ### The final array -/

theorem read_out (t : Fin cfg0.N) (G : A2 256 1024) (r : Fin 256) (j : Fin 1024) :
    (((cfg0.win 2).blk t).view.read (Elt Ideal) G : A2 256 1024) (ix2 r j) = G (ix2 (rowIx t r) (colIx t j)) := by
  have hi := (idx_facts t).2.2
  rw [View.read_apply]
  show G _ = _
  congr 1
  funext a
  apply Fin.ext
  match a with
  | ⟨0, _⟩ => show win0_2.index t 0 * 256 + 1 * r.val = t.val * 256 + r.val; rw [hi.1]; omega
  | ⟨1, _⟩ => show win0_2.index t 1 * 1024 + 1 * j.val = j.val; rw [hi.2]; omega

theorem final : ((dats m 0 c).arrAt 2 cfg0.N : A2 256 1024) = nt (aA m c) (aB m c) := by
  refine (dats m 0 c).arrAt_eq_of_cover 2 (nt (aA m c) (aB m c)) ?_ ?_
  · intro t _
    rw [Value.flushed2_A, outA]
    refine ext2 (a := 256) (b := 1024) _ _ fun r j => ?_
    refine (block_at _ _ r j).trans (Eq.trans ?_ (read_out t (nt (aA m c) (aB m c)) r j).symm)
    simp only [blk_a, blk_b]
    rfl
  · intro i
    have h0 : (i 0 : Nat) < 256 := (i 0).isLt
    have h1 : (i 1 : Nat) < 1024 := (i 1).isLt
    have hN : cfg0.N = 1 := N_0
    let t : Fin cfg0.N := ⟨(i 0 : Nat) / 256, by omega⟩
    refine ⟨t, flush0_2 t, ?_⟩
    have hi := (idx_facts t).2.2
    have e0 : win0_2.index t 0 = (i 0 : Nat) / 256 := hi.1
    have e1 : win0_2.index t 1 = 0 := hi.2
    show i ∈ ((View.whole main_v2).slice (win0_2.rect t)).set
    rw [View.set_slice_whole, Rect.mem_set_unit]
    intro a
    match a with
    | ⟨0, _⟩ => show win0_2.index t 0 * 256 ≤ (i 0 : Nat) ∧ (i 0 : Nat) < win0_2.index t 0 * 256 + 256; rw [e0]; omega
    | ⟨1, _⟩ => show win0_2.index t 1 * 1024 ≤ (i 1 : Nat) ∧ (i 1 : Nat) < win0_2.index t 1 * 1024 + 1024; rw [e1]; omega

end Cert.Proj.DMemn

end
-- ==== Proof.Proj.DMemnClaims.lean ====
/-
  THE COTANGENT OF THE NORMED MEMORY, THROUGH THE KEY AND VALUE PROJECTION: THE KERNEL'S RUN AND THE REFERENCE'S RUN, AT THE SAME ARRAYS.
-/
module

public import proofs.«01_k».proof.Proof.Proj.DMemn
public import proofs.«01_k».proof.Proof.Gen.DMemnRefIdeal.Read

@[expose] public section

noncomputable section

namespace Cert.Proj.DMemn

open Idealize.ShloMosaic Idealize.SL.Sem Cert.Mlp Cert.Proj

section Reference
open Cert.DMemnRefIdeal Cert.DMemnRefIdeal.Gen Cert.DMemnRefIdeal.Read

theorem ref_value (b : A2 1024 1024) (a : A2 256 1024) : (val_main_v3 (F := Ideal) b a : A2 256 1024) = nt a b := by
  refine ext2 _ _ fun R J => ?_
  unfold val_main_v3 nt
  pointwise [dot_S256x1024_S1024x1024_S256x1024_1_1_0_0_n_n]

end Reference

section Kernel
open Cert.DMemnIdeal Cert.DMemnIdeal.Gen

/-- The kernel's run: its results; its arguments stay. -/
theorem kernel_run (m : Memory nD τ sig) (ρ : Dev nD → PrngReg) :
    θ_run defs (onTc main) ⟨m, fun _ => 0, ρ⟩ fun r => ∀ c,
      r.2.mem (c.tc.loc main_v2) = nt (aA m c) (aB m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨(h c).1.trans (final m c), (h c).2⟩) (Value.run_blocks m ρ)

end Kernel

section Reference
open Cert.DMemnRefIdeal Cert.DMemnRefIdeal.Gen

/-- The reference's run, at the same functions. -/
theorem reference_run (m : Memory nD τ sig) (ρ : Dev nD → PrngReg)
    (p0 : Dev nD → A2 256 1024) (p1 : Dev nD → A2 1024 1024) (p2 : Dev nD → A2 256 1024)
    (hm : ∀ c, m (c.tc.loc main_arg0) = p0 c
      ∧ m (c.tc.loc main_arg1) = p1 c
      ∧ m (c.tc.loc main_arg2) = p2 c) :
    θ_run defs (onTc main) ⟨m, fun _ => 0, ρ⟩ fun r => ∀ c,
      r.2.mem (c.tc.loc main_v3) = nt (p2 c) (p1 c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  refine (θ_run _ _ _).mono (fun r h c => ?_) (Value.run m ρ)
  obtain ⟨h0, h1, h2⟩ := hm c
  obtain ⟨r0, hr⟩ := h c
  refine ⟨r0.trans ?_, hr⟩
  · rw [Read.val_main_v3_eq, h2, h1]; exact ref_value ..

end Reference

end Cert.Proj.DMemn

end
-- ==== Proof.Proj.DYnSsm.lean ====
/-
  THE COTANGENT OF THE STATE-SPACE BRANCH'S RESULT, THROUGH ITS OUTPUT PROJECTION, AS THE KERNEL COMPUTES IT.

  Grid point `t` computes rows `1024 t …`: rows times the matrix transposed.
-/
module

public import proofs.«01_k».proof.Proof.Gen.DYnSsmIdeal.Value
public import proofs.«01_k».proof.Proof.Proj.Products

@[expose] public section

noncomputable section

namespace Cert.Proj.DYnSsm

open Cert.DYnSsmIdeal Cert.DYnSsmIdeal.Gen Idealize.ShloMosaic Idealize.ShloMosaic.TcCoe Idealize.SL.Sem
open Idealize.ShloMosaic.StableHlo Cert.Mlp Cert.Proj

/-- What a grid point stores, from the blocks it reads. -/
theorem outA (c : Dev nD) (i : grid0.Coords) (a : Memref sig .tc .vmem S1024x1024 .bf16) (ha : a.IsWhole)
    (b : Memref sig .tc .vmem S512x1024 .bf16) (hb : b.IsWhole)
    (o : Memref sig .tc .vmem S1024x512 .f32) (ho : o.IsWhole) (s : Memref sig .tc .vmem S1024x512 .f32) (hs : s.IsWhole)
    (x : Vec Ideal S1024x1024 .bf16) (y : Vec Ideal S512x1024 .bf16)
    (h0 : cond0_0 i) (h1 : cond0_1 i) :
    out0_A_2 c i a ha b hb o ho s hs h0 h1 x y = k0_pay2 x (k0_pay1 (F := Ideal)) y := by
  unfold out0_A_2
  rw [View.read_writes_eq_canon _ _ _ (cover0_A_2 c i a ha b hb o ho s hs h0 h1 x y)]
  unfold kernelRun0_A
  dsimp only
  sl_unfold_words
  rw [View.canon_unit_zero (S := S1024x512) origin2]
  simp only [readCov_last (S := S1024x512) _ origin2, View.readCov_unit_zero (S := S1024x512) _ origin2,
    View.readAt_eq_ld, ha.read_unread, hb.read_unread, View.ld_unit_zero (S := S1024x1024) origin2, View.ld_unit_zero (S := S512x1024) origin2, View.ld_unit_zero (S := S1024x512) origin2, shapeCast_self]

/-- One entry of a block. -/
theorem block_at (x : Vec Ideal S1024x1024 .bf16) (y : Vec Ideal S512x1024 .bf16) (r : Fin 1024) (j : Fin 512) :
    (k0_pay2 x (k0_pay1 (F := Ideal)) y : A2 1024 512) (ix2 r j)
      = ∑ k : Fin 1024, (x : A2 1024 1024) (ix2 r k) * (y : A2 512 1024) (ix2 j k) := by
  unfold k0_pay2 k0_pay1
  pointwise [dot_S1024x1024_S512x1024_S1024x512_1_1_0_0_n_n]

/-! ### The blocks -/

variable (m : Memory nD τ sig) (c : Dev nD)

/-- The arguments as launched: the two factors. -/
abbrev aA : A2 8192 1024 := m (c.tc.loc main_arg2)
abbrev aB : A2 512 1024 := m (c.tc.loc main_arg1)

theorem idx_facts : ∀ t : Fin cfg0.N,
    (win0_0.index t 0 = t.val ∧ win0_0.index t 1 = 0) ∧ (win0_1.index t 0 = 0 ∧ win0_1.index t 1 = 0) ∧ (win0_2.index t 0 = t.val ∧ win0_2.index t 1 = 0) :=
  (by decide +kernel : ∀ t : Fin grid0.N, _)

theorem entry_a : (V m c main_v0 : A2 8192 1024) = aA m c := by
  show StableHlo.after hostOps0 _ main_v0 = _
  unfold hostOps0
  after_results
  rfl

theorem entry_b : (V m c main_v1 : A2 512 1024) = aB m c := by
  show StableHlo.after hostOps0 _ main_v1 = _
  unfold hostOps0
  after_results
  rfl

/-- The result's row and column of entry `(r, j)` of block `t`. -/
def rowIx (t : Fin cfg0.N) (r : Fin 1024) : Fin 8192 :=
  ⟨t.val * 1024 + r.val, by have hN : cfg0.N = 8 := N_0; omega⟩
def colIx (t : Fin cfg0.N) (j : Fin 512) : Fin 512 :=
  j

theorem blk_a (t : Fin cfg0.N) (r : Fin 1024) (k : Fin 1024) :
    (iblk m c 0 t : A2 1024 1024) (ix2 r k) = aA m c (ix2 (rowIx t r) k) := by
  have hi := (idx_facts t).1
  rw [← entry_a]
  unfold iblk
  rw [View.read_apply]
  show (V m c main_v0 : A2 8192 1024) _ = _
  congr 1
  funext a
  apply Fin.ext
  match a with
  | ⟨0, _⟩ => show win0_0.index t 0 * 1024 + 1 * r.val = t.val * 1024 + r.val; rw [hi.1]; omega
  | ⟨1, _⟩ => show win0_0.index t 1 * 1024 + 1 * k.val = k.val; rw [hi.2]; omega

theorem blk_b (t : Fin cfg0.N) (j : Fin 512) (k : Fin 1024) :
    (iblk m c 1 t : A2 512 1024) (ix2 j k) = aB m c (ix2 (colIx t j) k) := by
  have hi := (idx_facts t).2.1
  rw [← entry_b]
  unfold iblk
  rw [View.read_apply]
  show (V m c main_v1 : A2 512 1024) _ = _
  congr 1
  funext a
  apply Fin.ext
  match a with
  | ⟨0, _⟩ => show win0_1.index t 0 * 512 + 1 * j.val = j.val; rw [hi.1]; omega
  | ⟨1, _⟩ => show win0_1.index t 1 * 1024 + 1 * k.val = k.val; rw [hi.2]; omega

/-! ### The final array -/

theorem read_out (t : Fin cfg0.N) (G : A2 8192 512) (r : Fin 1024) (j : Fin 512) :
    (((cfg0.win 2).blk t).view.read (Elt Ideal) G : A2 1024 512) (ix2 r j) = G (ix2 (rowIx t r) (colIx t j)) := by
  have hi := (idx_facts t).2.2
  rw [View.read_apply]
  show G _ = _
  congr 1
  funext a
  apply Fin.ext
  match a with
  | ⟨0, _⟩ => show win0_2.index t 0 * 1024 + 1 * r.val = t.val * 1024 + r.val; rw [hi.1]; omega
  | ⟨1, _⟩ => show win0_2.index t 1 * 512 + 1 * j.val = j.val; rw [hi.2]; omega

theorem final : ((dats m 0 c).arrAt 2 cfg0.N : A2 8192 512) = nt (aA m c) (aB m c) := by
  refine (dats m 0 c).arrAt_eq_of_cover 2 (nt (aA m c) (aB m c)) ?_ ?_
  · intro t _
    rw [Value.flushed2_A, outA]
    refine ext2 (a := 1024) (b := 512) _ _ fun r j => ?_
    refine (block_at _ _ r j).trans (Eq.trans ?_ (read_out t (nt (aA m c) (aB m c)) r j).symm)
    simp only [blk_a, blk_b]
    rfl
  · intro i
    have h0 : (i 0 : Nat) < 8192 := (i 0).isLt
    have h1 : (i 1 : Nat) < 512 := (i 1).isLt
    have hN : cfg0.N = 8 := N_0
    let t : Fin cfg0.N := ⟨(i 0 : Nat) / 1024, by omega⟩
    refine ⟨t, flush0_2 t, ?_⟩
    have hi := (idx_facts t).2.2
    have e0 : win0_2.index t 0 = (i 0 : Nat) / 1024 := hi.1
    have e1 : win0_2.index t 1 = 0 := hi.2
    show i ∈ ((View.whole main_v2).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024; rw [e0]; omega
    | ⟨1, _⟩ => show win0_2.index t 1 * 512 ≤ (i 1 : Nat) ∧ (i 1 : Nat) < win0_2.index t 1 * 512 + 512; rw [e1]; omega

end Cert.Proj.DYnSsm

end
-- ==== Proof.Proj.DYnSsmClaims.lean ====
/-
  THE COTANGENT OF THE STATE-SPACE BRANCH'S RESULT, THROUGH ITS OUTPUT PROJECTION: THE KERNEL'S RUN AND THE REFERENCE'S RUN, AT THE SAME ARRAYS.
-/
module

public import proofs.«01_k».proof.Proof.Proj.DYnSsm
public import proofs.«01_k».proof.Proof.Gen.DYnSsmRefIdeal.Read

@[expose] public section

noncomputable section

namespace Cert.Proj.DYnSsm

open Idealize.ShloMosaic Idealize.SL.Sem Cert.Mlp Cert.Proj

section Reference
open Cert.DYnSsmRefIdeal Cert.DYnSsmRefIdeal.Gen Cert.DYnSsmRefIdeal.Read

theorem ref_value (b : A2 512 1024) (a : A2 8192 1024) : (val_main_v3 (F := Ideal) b a : A2 8192 512) = nt a b := by
  refine ext2 _ _ fun R J => ?_
  unfold val_main_v3 nt
  pointwise [dot_S8192x1024_S512x1024_S8192x512_1_1_0_0_n_n]

end Reference

section Kernel
open Cert.DYnSsmIdeal Cert.DYnSsmIdeal.Gen

/-- The kernel's run: its results; its arguments stay. -/
theorem kernel_run (m : Memory nD τ sig) (ρ : Dev nD → PrngReg) :
    θ_run defs (onTc main) ⟨m, fun _ => 0, ρ⟩ fun r => ∀ c,
      r.2.mem (c.tc.loc main_v2) = nt (aA m c) (aB m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨(h c).1.trans (final m c), (h c).2⟩) (Value.run_blocks m ρ)

end Kernel

section Reference
open Cert.DYnSsmRefIdeal Cert.DYnSsmRefIdeal.Gen

/-- The reference's run, at the same functions. -/
theorem reference_run (m : Memory nD τ sig) (ρ : Dev nD → PrngReg)
    (p0 : Dev nD → A2 8192 512) (p1 : Dev nD → A2 512 1024) (p2 : Dev nD → A2 8192 1024)
    (hm : ∀ c, m (c.tc.loc main_arg0) = p0 c
      ∧ m (c.tc.loc main_arg1) = p1 c
      ∧ m (c.tc.loc main_arg2) = p2 c) :
    θ_run defs (onTc main) ⟨m, fun _ => 0, ρ⟩ fun r => ∀ c,
      r.2.mem (c.tc.loc main_v3) = nt (p2 c) (p1 c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  refine (θ_run _ _ _).mono (fun r h c => ?_) (Value.run m ρ)
  obtain ⟨h0, h1, h2⟩ := hm c
  obtain ⟨r0, hr⟩ := h c
  refine ⟨r0.trans ?_, hr⟩
  · rw [Read.val_main_v3_eq, h2, h1]; exact ref_value ..

end Reference

end Cert.Proj.DYnSsm

end
-- ==== Proof.Proj.DwOutSsm.lean ====
/-
  THE GRADIENT OF THE STATE-SPACE BRANCH'S OUTPUT PROJECTION, AS THE KERNEL COMPUTES IT.

  The rows transposed, times the cotangent of the result. Grid point `s` adds
  the products over rows `1024 s … 1024 s + 1023` of the batch.
-/
module

public import proofs.«01_k».proof.Proof.Gen.DwOutSsmIdeal.Value
public import proofs.«01_k».proof.Proof.Proj.Products

@[expose] public section

noncomputable section

namespace Cert.Proj.DwOutSsm

open Cert.DwOutSsmIdeal Cert.DwOutSsmIdeal.Gen Idealize.ShloMosaic Idealize.ShloMosaic.TcCoe Idealize.SL.Sem
open Idealize.ShloMosaic.StableHlo Cert.Mlp Cert.Proj

/-! ### The stores, read back -/

section Stores
variable (c : Dev nD) (i : grid0.Coords) (a : Memref sig .tc .vmem S1024x512 .bf16) (ha : a.IsWhole)
  (b : Memref sig .tc .vmem S1024x1024 .bf16) (hb : b.IsWhole) (o : Memref sig .tc .vmem S512x1024 .f32) (ho : o.IsWhole)
  (s : Memref sig .tc .vmem S512x1024 .f32) (hs : s.IsWhole) (x : Vec Ideal S1024x512 .bf16) (y : Vec Ideal S1024x1024 .bf16) (acc : Vec Ideal S512x1024 .f32)

theorem accA (h0 : cond0_0 i) (h1 : ¬cond0_1 i) :
    sout0_A_0 c i a ha b hb o ho s hs h0 h1 x y = k0_pay2 x (k0_pay1 (F := Ideal)) y := by
  unfold sout0_A_0
  rw [View.read_writes_eq_canon _ _ _ (scover0_A_0 c i a ha b hb o ho s hs h0 h1 x y)]
  unfold kernelRun0_A
  dsimp only
  sl_unfold_words
  rw [View.canon_cons_unit_zero (S := S512x1024) origin2, View.readCov_unit_zero (S := S512x1024) _ origin2]
  simp only [View.readAt_eq_ld, ha.read_unread, hb.read_unread, View.ld_unit_zero (S := S1024x512) origin2, View.ld_unit_zero (S := S1024x1024) origin2, shapeCast_self]

theorem accB (h0 : ¬cond0_0 i) (h1 : ¬cond0_1 i) :
    sout0_B_0 c i a ha b hb o ho s hs h0 h1 x y acc = k0_pay2 x acc y := by
  unfold sout0_B_0
  rw [View.read_writes_eq_canon _ _ _ (scover0_B_0 c i a ha b hb o ho s hs h0 h1 x y acc)]
  unfold kernelRun0_B
  dsimp only
  sl_unfold_words
  rw [View.canon_unit_zero (S := S512x1024) origin2]
  simp only [View.readAt_eq_ld, ha.read_unread, hb.read_unread, hs.read_unread, View.ld_unit_zero (S := S1024x512) origin2, View.ld_unit_zero (S := S1024x1024) origin2, View.ld_unit_zero (S := S512x1024) origin2, shapeCast_self]

theorem outC (h0 : ¬cond0_0 i) (h1 : cond0_1 i) :
    out0_C_2 c i a ha b hb o ho s hs h0 h1 x y acc = k0_pay2 x acc y := by
  unfold out0_C_2
  rw [View.read_writes_eq_canon _ _ _ (cover0_C_2 c i a ha b hb o ho s hs h0 h1 x y acc)]
  unfold kernelRun0_C
  dsimp only
  sl_unfold_words
  rw [View.canon_unit_zero (S := S512x1024) origin2, View.readCov_unit_zero (S := S512x1024) _ origin2]
  simp only [View.readAt_eq_ld, ha.read_unread, hb.read_unread, hs.read_unread, View.ld_unit_zero (S := S1024x512) origin2, View.ld_unit_zero (S := S1024x1024) origin2, View.ld_unit_zero (S := S512x1024) origin2, shapeCast_self]
end Stores

/-! ### One step's value -/

theorem zero_at (r : Fin 512) (j : Fin 1024) : k0_pay1 (F := Ideal) (ix2 r j) = 0 := by
  unfold k0_pay1; pointwise

theorem step_at (x : Vec Ideal S1024x512 .bf16) (y : Vec Ideal S1024x1024 .bf16) (acc : Vec Ideal S512x1024 .f32) (r : Fin 512) (j : Fin 1024) :
    (k0_pay2 x acc y : A2 512 1024) (ix2 r j)
      = acc (ix2 r j) + ∑ k : Fin 1024, (x : A2 1024 512) (ix2 k r) * (y : A2 1024 1024) (ix2 k j) := by
  unfold k0_pay2; pointwise [dot_S1024x512_S1024x1024_S512x1024_0_0_1_1_n_n]

/-! ### The blocks -/

variable (m : Memory nD τ sig) (c : Dev nD)

/-- The arguments as launched: the rows and the cotangent of the product. -/
abbrev aA : A2 8192 512 := m (c.tc.loc main_arg0)
abbrev aB : A2 8192 1024 := m (c.tc.loc main_arg2)

theorem idx_facts : ∀ t : Fin cfg0.N,
    (win0_0.index t 0 = t.val % 8 ∧ win0_0.index t 1 = 0) ∧ (win0_1.index t 0 = t.val % 8 ∧ win0_1.index t 1 = t.val / 8) :=
  (by decide +kernel : ∀ t : Fin grid0.N, _)

theorem entry_a : (V m c main_v0 : A2 8192 512) = aA m c := by
  show StableHlo.after hostOps0 _ main_v0 = _
  unfold hostOps0
  after_results
  rfl

theorem entry_b : (V m c main_v1 : A2 8192 1024) = aB m c := by
  show StableHlo.after hostOps0 _ main_v1 = _
  unfold hostOps0
  after_results
  rfl

theorem blk_a (t : Fin cfg0.N) (k : Fin 1024) (r : Fin 512) (K : Fin 8192)
    (hK : K.val = t.val % 8 * 1024 + k.val) :
    (iblk m c 0 t : A2 1024 512) (ix2 k r) = aA m c (ix2 K r) := by
  have hi := (idx_facts t).1
  rw [← entry_a]
  unfold iblk
  rw [View.read_apply]
  show (V m c main_v0 : A2 8192 512) _ = _
  congr 1
  funext a
  apply Fin.ext
  match a with
  | ⟨0, _⟩ => show win0_0.index t 0 * 1024 + 1 * k.val = K.val; rw [hi.1]; omega
  | ⟨1, _⟩ => show win0_0.index t 1 * 512 + 1 * r.val = r.val; rw [hi.2]; omega

theorem blk_b (t : Fin cfg0.N) (k : Fin 1024) (j : Fin 1024) (K : Fin 8192) (J : Fin 1024)
    (hK : K.val = t.val % 8 * 1024 + k.val) (hJ : J.val = t.val / 8 * 1024 + j.val) :
    (iblk m c 1 t : A2 1024 1024) (ix2 k j) = aB m c (ix2 K J) := by
  have hi := (idx_facts t).2
  rw [← entry_b]
  unfold iblk
  rw [View.read_apply]
  show (V m c main_v1 : A2 8192 1024) _ = _
  congr 1
  funext a
  apply Fin.ext
  match a with
  | ⟨0, _⟩ => show win0_1.index t 0 * 1024 + 1 * k.val = K.val; rw [hi.1]; omega
  | ⟨1, _⟩ => show win0_1.index t 1 * 1024 + 1 * j.val = J.val; rw [hi.2]; omega

/-- The batch row's contribution to entry `(r, J)` of the gradient. -/
abbrev term (h : A2 8192 512) (ct : A2 8192 1024) (r : Fin 512) (J : Fin 1024) (K : Fin 8192) : EReal :=
  h (ix2 K r) * ct (ix2 K J)

/-- One grid point's addition. -/
theorem step_term (t : Fin cfg0.N) (s : Nat) (hs : t.val % 8 = s) (acc : Vec Ideal S512x1024 .f32) (r : Fin 512) (j : Fin 1024)
    (J : Fin 1024) (hJ : J.val = t.val / 8 * 1024 + j.val)
    (ha : (acc : A2 512 1024) (ix2 r j) = tiles 1024 (term (aA m c) (aB m c) r J) s) :
    (k0_pay2 (F := Ideal) (iblk m c 0 t) acc (iblk m c 1 t) : A2 512 1024) (ix2 r j)
      = tiles 1024 (term (aA m c) (aB m c) r J) (s + 1) := by
  rw [step_at]
  refine tiles_step 1024 _ s _ _ ha fun k => ?_
  have hk : s * 1024 + k.val < 8192 := by omega
  rw [ext_val _ _ hk, blk_a m c t k r ⟨_, hk⟩ (by rw [hs]), blk_b m c t k j ⟨_, hk⟩ J (by rw [hs]) hJ]

/-- What the accumulator holds after step `s` of run `q`. -/
theorem acc_run (q : Fin 1) (r : Fin 512) (j : Fin 1024) (J : Fin 1024) (hJ : J.val = q.val * 1024 + j.val) :
    ∀ (s : Nat) (hs : s < 7) (hn : 8 * q.val + s < cfg0.N),
      ((outsAt0 m c (8 * q.val + s) hn).2 : A2 512 1024) (ix2 r j)
        = tiles 1024 (term (aA m c) (aB m c) r J) (s + 1)
  | 0, _, hn => by
    have e := outsAt0_A m c ⟨8 * q.val + 0, hn⟩ (by dsimp only; omega) (by dsimp only; omega)
    dsimp only at e
    rw [e]
    dsimp only
    rw [accA]
    exact step_term m c ⟨8 * q.val + 0, hn⟩ 0 (by dsimp only; omega) _ r j J (by dsimp only; omega)
      ((zero_at r j).trans (tiles_zero _ _).symm)
  | s + 1, hs, hn => by
    have e := outsAt0_B m c ⟨8 * q.val + (s + 1), hn⟩ (by dsimp only; omega) (by dsimp only; omega)
    dsimp only at e
    rw [e]
    dsimp only
    rw [accB]
    exact step_term m c ⟨8 * q.val + (s + 1), hn⟩ (s + 1) (by dsimp only; omega) _ r j J (by dsimp only; omega)
      (acc_run q r j J hJ s (by omega) (by omega))

/-- What run `q` writes back. -/
theorem out_run (q : Fin 1) (r : Fin 512) (j : Fin 1024) (J : Fin 1024) (hJ : J.val = q.val * 1024 + j.val) (hn : 8 * q.val + 7 < cfg0.N) :
    ((outsAt0 m c (8 * q.val + 7) hn).1 : A2 512 1024) (ix2 r j) = ∑ K, term (aA m c) (aB m c) r J K := by
  have e := outsAt0_C m c ⟨8 * q.val + 7, hn⟩ (by dsimp only; omega) (by dsimp only; omega)
  dsimp only at e
  rw [e]
  dsimp only
  rw [outC]
  exact (step_term m c ⟨8 * q.val + 7, hn⟩ 7 (by dsimp only; omega) _ r j J (by dsimp only; omega)
    (acc_run m c q r j J hJ 6 (by omega) (by omega))).trans (tiles_all 8 1024 _ rfl)

theorem final : (Value.G2 m c : A2 512 1024) = tn (aA m c) (aB m c) := by
  funext i
  have hN : cfg0.N = 8 := N_0
  have h1 : (i 0).val < 512 := (i 0).isLt
  have h2 : (i 1).val < 1024 := (i 1).isLt
  have hp : Value.pt2Of i = 8 * 0 + 7 := by
    show 8 * (1 * ((i 0).val / 512 - 0) + 1 * ((i 1).val / 1024 - 0)) + 7 = _
    omega
  have hlt : Value.pt2Of i < cfg0.N := by rw [hp]; omega
  have hl : Value.loc2Of i = ix2 (⟨(i 0).val, h1⟩ : Fin 512) (⟨(i 1).val, h2⟩ : Fin 1024) := by
    funext a
    apply Fin.ext
    match a with
    | ⟨0, _⟩ => show (i 0).val % 512 = (i 0).val; omega
    | ⟨1, _⟩ => show (i 1).val % 1024 = (i 1).val; omega
  unfold Value.G2
  rw [dif_pos hlt, ← Value.outsAt0_sweep m c _ hlt, hl]
  have e := out_run m c 0 ⟨(i 0).val, h1⟩ ⟨(i 1).val, h2⟩ ⟨(i 1).val, h2⟩ (by simp) (by omega)
  have same : ∀ (n n' : Nat) (h : n < cfg0.N) (h' : n' < cfg0.N), n = n' → outsAt0 m c n h = outsAt0 m c n' h' := by
    intro n n' h h' hnn; subst hnn; rfl
  rw [same _ (8 * 0 + 7) hlt (by omega) hp]
  exact e

end Cert.Proj.DwOutSsm

end
-- ==== Proof.Proj.DwOutSsmClaims.lean ====
/-
  THE GRADIENT OF THE STATE-SPACE BRANCH'S OUTPUT PROJECTION: THE KERNEL'S RUN AND THE REFERENCE'S RUN, AT THE SAME ARRAYS.
-/
module

public import proofs.«01_k».proof.Proof.Proj.DwOutSsm
public import proofs.«01_k».proof.Proof.Gen.DwOutSsmRefIdeal.Read

@[expose] public section

noncomputable section

namespace Cert.Proj.DwOutSsm

open Idealize.ShloMosaic Idealize.SL.Sem Cert.Mlp Cert.Proj

section Reference
open Cert.DwOutSsmRefIdeal Cert.DwOutSsmRefIdeal.Gen Cert.DwOutSsmRefIdeal.Read

theorem ref_value (a : A2 8192 512) (b : A2 8192 1024) : (val_main_v2 (F := Ideal) a b : A2 512 1024) = tn a b := by
  refine ext2 _ _ fun R J => ?_
  unfold val_main_v2 val_main_v1 tn
  pointwise [dot_S8192x1024_S8192x512_S1024x512_0_0_1_1_n_n]
  exact Finset.sum_congr rfl fun k _ => mul_comm _ _

end Reference

section Kernel
open Cert.DwOutSsmIdeal Cert.DwOutSsmIdeal.Gen

/-- The kernel's run: its results; its arguments stay. -/
theorem kernel_run (m : Memory nD τ sig) (ρ : Dev nD → PrngReg) :
    θ_run defs (onTc main) ⟨m, fun _ => 0, ρ⟩ fun r => ∀ c,
      r.2.mem (c.tc.loc main_v2) = tn (aA m c) (aB m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨(h c).1.trans (final m c), (h c).2⟩) (Value.run m ρ)

end Kernel

section Reference
open Cert.DwOutSsmRefIdeal Cert.DwOutSsmRefIdeal.Gen

/-- The reference's run, at the same functions. -/
theorem reference_run (m : Memory nD τ sig) (ρ : Dev nD → PrngReg)
    (p0 : Dev nD → A2 8192 512) (p1 : Dev nD → A2 512 1024) (p2 : Dev nD → A2 8192 1024)
    (hm : ∀ c, m (c.tc.loc main_arg0) = p0 c
      ∧ m (c.tc.loc main_arg1) = p1 c
      ∧ m (c.tc.loc main_arg2) = p2 c) :
    θ_run defs (onTc main) ⟨m, fun _ => 0, ρ⟩ fun r => ∀ c,
      r.2.mem (c.tc.loc main_v2) = tn (p0 c) (p2 c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  refine (θ_run _ _ _).mono (fun r h c => ?_) (Value.run m ρ)
  obtain ⟨h0, h1, h2⟩ := hm c
  obtain ⟨r0, hr⟩ := h c
  refine ⟨r0.trans ?_, hr⟩
  · rw [Read.val_main_v2_eq, h0, h2]; exact ref_value ..

end Reference

end Cert.Proj.DwOutSsm

end
-- ==== Proof.Proj.DwU.lean ====
/-
  THE GRADIENT OF THE STATE-SPACE BRANCH'S INPUT PROJECTION, AS THE KERNEL COMPUTES IT.

  The rows transposed, times the cotangent of the result. Grid point `s` adds
  the products over rows `1024 s … 1024 s + 1023` of the batch.
-/
module

public import proofs.«01_k».proof.Proof.Gen.DwUIdeal.Value
public import proofs.«01_k».proof.Proof.Proj.Products

@[expose] public section

noncomputable section

namespace Cert.Proj.DwU

open Cert.DwUIdeal Cert.DwUIdeal.Gen Idealize.ShloMosaic Idealize.ShloMosaic.TcCoe Idealize.SL.Sem
open Idealize.ShloMosaic.StableHlo Cert.Mlp Cert.Proj

/-! ### The stores, read back -/

section Stores
variable (c : Dev nD) (i : grid0.Coords) (a : Memref sig .tc .vmem S1024x1024 .bf16) (ha : a.IsWhole)
  (b : Memref sig .tc .vmem S1024x512 .bf16) (hb : b.IsWhole) (o : Memref sig .tc .vmem S1024x512 .f32) (ho : o.IsWhole)
  (s : Memref sig .tc .vmem S1024x512 .f32) (hs : s.IsWhole) (x : Vec Ideal S1024x1024 .bf16) (y : Vec Ideal S1024x512 .bf16) (acc : Vec Ideal S1024x512 .f32)

theorem accA (h0 : cond0_0 i) (h1 : ¬cond0_1 i) :
    sout0_A_0 c i a ha b hb o ho s hs h0 h1 x y = k0_pay2 x (k0_pay1 (F := Ideal)) y := by
  unfold sout0_A_0
  rw [View.read_writes_eq_canon _ _ _ (scover0_A_0 c i a ha b hb o ho s hs h0 h1 x y)]
  unfold kernelRun0_A
  dsimp only
  sl_unfold_words
  rw [View.canon_cons_unit_zero (S := S1024x512) origin2, View.readCov_unit_zero (S := S1024x512) _ origin2]
  simp only [View.readAt_eq_ld, ha.read_unread, hb.read_unread, View.ld_unit_zero (S := S1024x1024) origin2, View.ld_unit_zero (S := S1024x512) origin2, shapeCast_self]

theorem accB (h0 : ¬cond0_0 i) (h1 : ¬cond0_1 i) :
    sout0_B_0 c i a ha b hb o ho s hs h0 h1 x y acc = k0_pay2 x acc y := by
  unfold sout0_B_0
  rw [View.read_writes_eq_canon _ _ _ (scover0_B_0 c i a ha b hb o ho s hs h0 h1 x y acc)]
  unfold kernelRun0_B
  dsimp only
  sl_unfold_words
  rw [View.canon_unit_zero (S := S1024x512) origin2]
  simp only [View.readAt_eq_ld, ha.read_unread, hb.read_unread, hs.read_unread, View.ld_unit_zero (S := S1024x1024) origin2, View.ld_unit_zero (S := S1024x512) origin2, shapeCast_self]

theorem outC (h0 : ¬cond0_0 i) (h1 : cond0_1 i) :
    out0_C_2 c i a ha b hb o ho s hs h0 h1 x y acc = k0_pay2 x acc y := by
  unfold out0_C_2
  rw [View.read_writes_eq_canon _ _ _ (cover0_C_2 c i a ha b hb o ho s hs h0 h1 x y acc)]
  unfold kernelRun0_C
  dsimp only
  sl_unfold_words
  rw [View.canon_unit_zero (S := S1024x512) origin2, View.readCov_unit_zero (S := S1024x512) _ origin2]
  simp only [View.readAt_eq_ld, ha.read_unread, hb.read_unread, hs.read_unread, View.ld_unit_zero (S := S1024x1024) origin2, View.ld_unit_zero (S := S1024x512) origin2, shapeCast_self]
end Stores

/-! ### One step's value -/

theorem zero_at (r : Fin 1024) (j : Fin 512) : k0_pay1 (F := Ideal) (ix2 r j) = 0 := by
  unfold k0_pay1; pointwise

theorem step_at (x : Vec Ideal S1024x1024 .bf16) (y : Vec Ideal S1024x512 .bf16) (acc : Vec Ideal S1024x512 .f32) (r : Fin 1024) (j : Fin 512) :
    (k0_pay2 x acc y : A2 1024 512) (ix2 r j)
      = acc (ix2 r j) + ∑ k : Fin 1024, (x : A2 1024 1024) (ix2 k r) * (y : A2 1024 512) (ix2 k j) := by
  unfold k0_pay2; pointwise [dot_S1024x1024_S1024x512_S1024x512_0_0_1_1_n_n]

/-! ### The blocks -/

variable (m : Memory nD τ sig) (c : Dev nD)

/-- The arguments as launched: the rows and the cotangent of the product. -/
abbrev aA : A2 8192 1024 := m (c.tc.loc main_arg0)
abbrev aB : A2 8192 512 := m (c.tc.loc main_arg2)

theorem idx_facts : ∀ t : Fin cfg0.N,
    (win0_0.index t 0 = t.val % 8 ∧ win0_0.index t 1 = 0) ∧ (win0_1.index t 0 = t.val % 8 ∧ win0_1.index t 1 = t.val / 8) :=
  (by decide +kernel : ∀ t : Fin grid0.N, _)

theorem entry_a : (V m c main_v0 : A2 8192 1024) = aA m c := by
  show StableHlo.after hostOps0 _ main_v0 = _
  unfold hostOps0
  after_results
  rfl

theorem entry_b : (V m c main_v1 : A2 8192 512) = aB m c := by
  show StableHlo.after hostOps0 _ main_v1 = _
  unfold hostOps0
  after_results
  rfl

theorem blk_a (t : Fin cfg0.N) (k : Fin 1024) (r : Fin 1024) (K : Fin 8192)
    (hK : K.val = t.val % 8 * 1024 + k.val) :
    (iblk m c 0 t : A2 1024 1024) (ix2 k r) = aA m c (ix2 K r) := by
  have hi := (idx_facts t).1
  rw [← entry_a]
  unfold iblk
  rw [View.read_apply]
  show (V m c main_v0 : A2 8192 1024) _ = _
  congr 1
  funext a
  apply Fin.ext
  match a with
  | ⟨0, _⟩ => show win0_0.index t 0 * 1024 + 1 * k.val = K.val; rw [hi.1]; omega
  | ⟨1, _⟩ => show win0_0.index t 1 * 1024 + 1 * r.val = r.val; rw [hi.2]; omega

theorem blk_b (t : Fin cfg0.N) (k : Fin 1024) (j : Fin 512) (K : Fin 8192) (J : Fin 512)
    (hK : K.val = t.val % 8 * 1024 + k.val) (hJ : J.val = t.val / 8 * 512 + j.val) :
    (iblk m c 1 t : A2 1024 512) (ix2 k j) = aB m c (ix2 K J) := by
  have hi := (idx_facts t).2
  rw [← entry_b]
  unfold iblk
  rw [View.read_apply]
  show (V m c main_v1 : A2 8192 512) _ = _
  congr 1
  funext a
  apply Fin.ext
  match a with
  | ⟨0, _⟩ => show win0_1.index t 0 * 1024 + 1 * k.val = K.val; rw [hi.1]; omega
  | ⟨1, _⟩ => show win0_1.index t 1 * 512 + 1 * j.val = J.val; rw [hi.2]; omega

/-- The batch row's contribution to entry `(r, J)` of the gradient. -/
abbrev term (h : A2 8192 1024) (ct : A2 8192 512) (r : Fin 1024) (J : Fin 512) (K : Fin 8192) : EReal :=
  h (ix2 K r) * ct (ix2 K J)

/-- One grid point's addition. -/
theorem step_term (t : Fin cfg0.N) (s : Nat) (hs : t.val % 8 = s) (acc : Vec Ideal S1024x512 .f32) (r : Fin 1024) (j : Fin 512)
    (J : Fin 512) (hJ : J.val = t.val / 8 * 512 + j.val)
    (ha : (acc : A2 1024 512) (ix2 r j) = tiles 1024 (term (aA m c) (aB m c) r J) s) :
    (k0_pay2 (F := Ideal) (iblk m c 0 t) acc (iblk m c 1 t) : A2 1024 512) (ix2 r j)
      = tiles 1024 (term (aA m c) (aB m c) r J) (s + 1) := by
  rw [step_at]
  refine tiles_step 1024 _ s _ _ ha fun k => ?_
  have hk : s * 1024 + k.val < 8192 := by omega
  rw [ext_val _ _ hk, blk_a m c t k r ⟨_, hk⟩ (by rw [hs]), blk_b m c t k j ⟨_, hk⟩ J (by rw [hs]) hJ]

/-- What the accumulator holds after step `s` of run `q`. -/
theorem acc_run (q : Fin 1) (r : Fin 1024) (j : Fin 512) (J : Fin 512) (hJ : J.val = q.val * 512 + j.val) :
    ∀ (s : Nat) (hs : s < 7) (hn : 8 * q.val + s < cfg0.N),
      ((outsAt0 m c (8 * q.val + s) hn).2 : A2 1024 512) (ix2 r j)
        = tiles 1024 (term (aA m c) (aB m c) r J) (s + 1)
  | 0, _, hn => by
    have e := outsAt0_A m c ⟨8 * q.val + 0, hn⟩ (by dsimp only; omega) (by dsimp only; omega)
    dsimp only at e
    rw [e]
    dsimp only
    rw [accA]
    exact step_term m c ⟨8 * q.val + 0, hn⟩ 0 (by dsimp only; omega) _ r j J (by dsimp only; omega)
      ((zero_at r j).trans (tiles_zero _ _).symm)
  | s + 1, hs, hn => by
    have e := outsAt0_B m c ⟨8 * q.val + (s + 1), hn⟩ (by dsimp only; omega) (by dsimp only; omega)
    dsimp only at e
    rw [e]
    dsimp only
    rw [accB]
    exact step_term m c ⟨8 * q.val + (s + 1), hn⟩ (s + 1) (by dsimp only; omega) _ r j J (by dsimp only; omega)
      (acc_run q r j J hJ s (by omega) (by omega))

/-- What run `q` writes back. -/
theorem out_run (q : Fin 1) (r : Fin 1024) (j : Fin 512) (J : Fin 512) (hJ : J.val = q.val * 512 + j.val) (hn : 8 * q.val + 7 < cfg0.N) :
    ((outsAt0 m c (8 * q.val + 7) hn).1 : A2 1024 512) (ix2 r j) = ∑ K, term (aA m c) (aB m c) r J K := by
  have e := outsAt0_C m c ⟨8 * q.val + 7, hn⟩ (by dsimp only; omega) (by dsimp only; omega)
  dsimp only at e
  rw [e]
  dsimp only
  rw [outC]
  exact (step_term m c ⟨8 * q.val + 7, hn⟩ 7 (by dsimp only; omega) _ r j J (by dsimp only; omega)
    (acc_run m c q r j J hJ 6 (by omega) (by omega))).trans (tiles_all 8 1024 _ rfl)

theorem final : (Value.G2 m c : A2 1024 512) = tn (aA m c) (aB m c) := by
  funext i
  have hN : cfg0.N = 8 := N_0
  have h1 : (i 0).val < 1024 := (i 0).isLt
  have h2 : (i 1).val < 512 := (i 1).isLt
  have hp : Value.pt2Of i = 8 * 0 + 7 := by
    show 8 * (1 * ((i 0).val / 1024 - 0) + 1 * ((i 1).val / 512 - 0)) + 7 = _
    omega
  have hlt : Value.pt2Of i < cfg0.N := by rw [hp]; omega
  have hl : Value.loc2Of i = ix2 (⟨(i 0).val, h1⟩ : Fin 1024) (⟨(i 1).val, h2⟩ : Fin 512) := by
    funext a
    apply Fin.ext
    match a with
    | ⟨0, _⟩ => show (i 0).val % 1024 = (i 0).val; omega
    | ⟨1, _⟩ => show (i 1).val % 512 = (i 1).val; omega
  unfold Value.G2
  rw [dif_pos hlt, ← Value.outsAt0_sweep m c _ hlt, hl]
  have e := out_run m c 0 ⟨(i 0).val, h1⟩ ⟨(i 1).val, h2⟩ ⟨(i 1).val, h2⟩ (by simp) (by omega)
  have same : ∀ (n n' : Nat) (h : n < cfg0.N) (h' : n' < cfg0.N), n = n' → outsAt0 m c n h = outsAt0 m c n' h' := by
    intro n n' h h' hnn; subst hnn; rfl
  rw [same _ (8 * 0 + 7) hlt (by omega) hp]
  exact e

end Cert.Proj.DwU

end
-- ==== Proof.Proj.DwUClaims.lean ====
/-
  THE GRADIENT OF THE STATE-SPACE BRANCH'S INPUT PROJECTION: THE KERNEL'S RUN AND THE REFERENCE'S RUN, AT THE SAME ARRAYS.
-/
module

public import proofs.«01_k».proof.Proof.Proj.DwU
public import proofs.«01_k».proof.Proof.Gen.DwURefIdeal.Read

@[expose] public section

noncomputable section

namespace Cert.Proj.DwU

open Idealize.ShloMosaic Idealize.SL.Sem Cert.Mlp Cert.Proj

section Reference
open Cert.DwURefIdeal Cert.DwURefIdeal.Gen Cert.DwURefIdeal.Read

theorem ref_value (a : A2 8192 1024) (b : A2 8192 512) : (val_main_v2 (F := Ideal) a b : A2 1024 512) = tn a b := by
  refine ext2 _ _ fun R J => ?_
  unfold val_main_v2 val_main_v1 tn
  pointwise [dot_S8192x512_S8192x1024_S512x1024_0_0_1_1_n_n]
  exact Finset.sum_congr rfl fun k _ => mul_comm _ _

end Reference

section Kernel
open Cert.DwUIdeal Cert.DwUIdeal.Gen

/-- The kernel's run: its results; its arguments stay. -/
theorem kernel_run (m : Memory nD τ sig) (ρ : Dev nD → PrngReg) :
    θ_run defs (onTc main) ⟨m, fun _ => 0, ρ⟩ fun r => ∀ c,
      r.2.mem (c.tc.loc main_v2) = tn (aA m c) (aB m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨(h c).1.trans (final m c), (h c).2⟩) (Value.run m ρ)

end Kernel

section Reference
open Cert.DwURefIdeal Cert.DwURefIdeal.Gen

/-- The reference's run, at the same functions. -/
theorem reference_run (m : Memory nD τ sig) (ρ : Dev nD → PrngReg)
    (p0 : Dev nD → A2 8192 1024) (p1 : Dev nD → A2 1024 512) (p2 : Dev nD → A2 8192 512)
    (hm : ∀ c, m (c.tc.loc main_arg0) = p0 c
      ∧ m (c.tc.loc main_arg1) = p1 c
      ∧ m (c.tc.loc main_arg2) = p2 c) :
    θ_run defs (onTc main) ⟨m, fun _ => 0, ρ⟩ fun r => ∀ c,
      r.2.mem (c.tc.loc main_v2) = tn (p0 c) (p2 c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  refine (θ_run _ _ _).mono (fun r h c => ?_) (Value.run m ρ)
  obtain ⟨h0, h1, h2⟩ := hm c
  obtain ⟨r0, hr⟩ := h c
  refine ⟨r0.trans ?_, hr⟩
  · rw [Read.val_main_v2_eq, h0, h2]; exact ref_value ..

end Reference

end Cert.Proj.DwU

end
-- ==== Proof.Proj.DH0U.lean ====
/-
  THE COTANGENT OF THE BLOCK'S NORMED INPUT, THROUGH THE STATE-SPACE BRANCH'S INPUT PROJECTION, AS THE KERNEL COMPUTES IT.

  Grid point `t` computes rows `1024 t …`: rows times the matrix transposed.
-/
module

public import proofs.«01_k».proof.Proof.Gen.DH0UIdeal.Value
public import proofs.«01_k».proof.Proof.Proj.Products

@[expose] public section

noncomputable section

namespace Cert.Proj.DH0U

open Cert.DH0UIdeal Cert.DH0UIdeal.Gen Idealize.ShloMosaic Idealize.ShloMosaic.TcCoe Idealize.SL.Sem
open Idealize.ShloMosaic.StableHlo Cert.Mlp Cert.Proj

/-- What a grid point stores, from the blocks it reads. -/
theorem outA (c : Dev nD) (i : grid0.Coords) (a : Memref sig .tc .vmem S1024x512 .bf16) (ha : a.IsWhole)
    (b : Memref sig .tc .vmem S1024x512 .bf16) (hb : b.IsWhole)
    (o : Memref sig .tc .vmem S1024x1024 .f32) (ho : o.IsWhole) (s : Memref sig .tc .vmem S1024x1024 .f32) (hs : s.IsWhole)
    (x : Vec Ideal S1024x512 .bf16) (y : Vec Ideal S1024x512 .bf16)
    (h0 : cond0_0 i) (h1 : cond0_1 i) :
    out0_A_2 c i a ha b hb o ho s hs h0 h1 x y = k0_pay2 x (k0_pay1 (F := Ideal)) y := by
  unfold out0_A_2
  rw [View.read_writes_eq_canon _ _ _ (cover0_A_2 c i a ha b hb o ho s hs h0 h1 x y)]
  unfold kernelRun0_A
  dsimp only
  sl_unfold_words
  rw [View.canon_unit_zero (S := S1024x1024) origin2]
  simp only [readCov_last (S := S1024x1024) _ origin2, View.readCov_unit_zero (S := S1024x1024) _ origin2,
    View.readAt_eq_ld, ha.read_unread, hb.read_unread, View.ld_unit_zero (S := S1024x512) origin2, View.ld_unit_zero (S := S1024x1024) origin2, shapeCast_self]

/-- One entry of a block. -/
theorem block_at (x : Vec Ideal S1024x512 .bf16) (y : Vec Ideal S1024x512 .bf16) (r : Fin 1024) (j : Fin 1024) :
    (k0_pay2 x (k0_pay1 (F := Ideal)) y : A2 1024 1024) (ix2 r j)
      = ∑ k : Fin 512, (x : A2 1024 512) (ix2 r k) * (y : A2 1024 512) (ix2 j k) := by
  unfold k0_pay2 k0_pay1
  pointwise [dot_S1024x512_S1024x512_S1024x1024_1_1_0_0_n_n]

/-! ### The blocks -/

variable (m : Memory nD τ sig) (c : Dev nD)

/-- The arguments as launched: the two factors. -/
abbrev aA : A2 8192 512 := m (c.tc.loc main_arg2)
abbrev aB : A2 1024 512 := m (c.tc.loc main_arg1)

theorem idx_facts : ∀ t : Fin cfg0.N,
    (win0_0.index t 0 = t.val ∧ win0_0.index t 1 = 0) ∧ (win0_1.index t 0 = 0 ∧ win0_1.index t 1 = 0) ∧ (win0_2.index t 0 = t.val ∧ win0_2.index t 1 = 0) :=
  (by decide +kernel : ∀ t : Fin grid0.N, _)

theorem entry_a : (V m c main_v0 : A2 8192 512) = aA m c := by
  show StableHlo.after hostOps0 _ main_v0 = _
  unfold hostOps0
  after_results
  rfl

theorem entry_b : (V m c main_v1 : A2 1024 512) = aB m c := by
  show StableHlo.after hostOps0 _ main_v1 = _
  unfold hostOps0
  after_results
  rfl

/-- The result's row and column of entry `(r, j)` of block `t`. -/
def rowIx (t : Fin cfg0.N) (r : Fin 1024) : Fin 8192 :=
  ⟨t.val * 1024 + r.val, by have hN : cfg0.N = 8 := N_0; omega⟩
def colIx (t : Fin cfg0.N) (j : Fin 1024) : Fin 1024 :=
  j

theorem blk_a (t : Fin cfg0.N) (r : Fin 1024) (k : Fin 512) :
    (iblk m c 0 t : A2 1024 512) (ix2 r k) = aA m c (ix2 (rowIx t r) k) := by
  have hi := (idx_facts t).1
  rw [← entry_a]
  unfold iblk
  rw [View.read_apply]
  show (V m c main_v0 : A2 8192 512) _ = _
  congr 1
  funext a
  apply Fin.ext
  match a with
  | ⟨0, _⟩ => show win0_0.index t 0 * 1024 + 1 * r.val = t.val * 1024 + r.val; rw [hi.1]; omega
  | ⟨1, _⟩ => show win0_0.index t 1 * 512 + 1 * k.val = k.val; rw [hi.2]; omega

theorem blk_b (t : Fin cfg0.N) (j : Fin 1024) (k : Fin 512) :
    (iblk m c 1 t : A2 1024 512) (ix2 j k) = aB m c (ix2 (colIx t j) k) := by
  have hi := (idx_facts t).2.1
  rw [← entry_b]
  unfold iblk
  rw [View.read_apply]
  show (V m c main_v1 : A2 1024 512) _ = _
  congr 1
  funext a
  apply Fin.ext
  match a with
  | ⟨0, _⟩ => show win0_1.index t 0 * 1024 + 1 * j.val = j.val; rw [hi.1]; omega
  | ⟨1, _⟩ => show win0_1.index t 1 * 512 + 1 * k.val = k.val; rw [hi.2]; omega

/-! ### The final array -/

theorem read_out (t : Fin cfg0.N) (G : A2 8192 1024) (r : Fin 1024) (j : Fin 1024) :
    (((cfg0.win 2).blk t).view.read (Elt Ideal) G : A2 1024 1024) (ix2 r j) = G (ix2 (rowIx t r) (colIx t j)) := by
  have hi := (idx_facts t).2.2
  rw [View.read_apply]
  show G _ = _
  congr 1
  funext a
  apply Fin.ext
  match a with
  | ⟨0, _⟩ => show win0_2.index t 0 * 1024 + 1 * r.val = t.val * 1024 + r.val; rw [hi.1]; omega
  | ⟨1, _⟩ => show win0_2.index t 1 * 1024 + 1 * j.val = j.val; rw [hi.2]; omega

theorem final : ((dats m 0 c).arrAt 2 cfg0.N : A2 8192 1024) = nt (aA m c) (aB m c) := by
  refine (dats m 0 c).arrAt_eq_of_cover 2 (nt (aA m c) (aB m c)) ?_ ?_
  · intro t _
    rw [Value.flushed2_A, outA]
    refine ext2 (a := 1024) (b := 1024) _ _ fun r j => ?_
    refine (block_at _ _ r j).trans (Eq.trans ?_ (read_out t (nt (aA m c) (aB m c)) r j).symm)
    simp only [blk_a, blk_b]
    rfl
  · intro i
    have h0 : (i 0 : Nat) < 8192 := (i 0).isLt
    have h1 : (i 1 : Nat) < 1024 := (i 1).isLt
    have hN : cfg0.N = 8 := N_0
    let t : Fin cfg0.N := ⟨(i 0 : Nat) / 1024, by omega⟩
    refine ⟨t, flush0_2 t, ?_⟩
    have hi := (idx_facts t).2.2
    have e0 : win0_2.index t 0 = (i 0 : Nat) / 1024 := hi.1
    have e1 : win0_2.index t 1 = 0 := hi.2
    show i ∈ ((View.whole main_v2).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024; rw [e0]; omega
    | ⟨1, _⟩ => show win0_2.index t 1 * 1024 ≤ (i 1 : Nat) ∧ (i 1 : Nat) < win0_2.index t 1 * 1024 + 1024; rw [e1]; omega

end Cert.Proj.DH0U

end
-- ==== Proof.Proj.DH0UClaims.lean ====
/-
  THE COTANGENT OF THE BLOCK'S NORMED INPUT, THROUGH THE STATE-SPACE BRANCH'S INPUT PROJECTION: THE KERNEL'S RUN AND THE REFERENCE'S RUN, AT THE SAME ARRAYS.
-/
module

public import proofs.«01_k».proof.Proof.Proj.DH0U
public import proofs.«01_k».proof.Proof.Gen.DH0URefIdeal.Read

@[expose] public section

noncomputable section

namespace Cert.Proj.DH0U

open Idealize.ShloMosaic Idealize.SL.Sem Cert.Mlp Cert.Proj

section Reference
open Cert.DH0URefIdeal Cert.DH0URefIdeal.Gen Cert.DH0URefIdeal.Read

theorem ref_value (b : A2 1024 512) (a : A2 8192 512) : (val_main_v3 (F := Ideal) b a : A2 8192 1024) = nt a b := by
  refine ext2 _ _ fun R J => ?_
  unfold val_main_v3 nt
  pointwise [dot_S8192x512_S1024x512_S8192x1024_1_1_0_0_n_n]

end Reference

section Kernel
open Cert.DH0UIdeal Cert.DH0UIdeal.Gen

/-- The kernel's run: its results; its arguments stay. -/
theorem kernel_run (m : Memory nD τ sig) (ρ : Dev nD → PrngReg) :
    θ_run defs (onTc main) ⟨m, fun _ => 0, ρ⟩ fun r => ∀ c,
      r.2.mem (c.tc.loc main_v2) = nt (aA m c) (aB m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨(h c).1.trans (final m c), (h c).2⟩) (Value.run_blocks m ρ)

end Kernel

section Reference
open Cert.DH0URefIdeal Cert.DH0URefIdeal.Gen

/-- The reference's run, at the same functions. -/
theorem reference_run (m : Memory nD τ sig) (ρ : Dev nD → PrngReg)
    (p0 : Dev nD → A2 8192 1024) (p1 : Dev nD → A2 1024 512) (p2 : Dev nD → A2 8192 512)
    (hm : ∀ c, m (c.tc.loc main_arg0) = p0 c
      ∧ m (c.tc.loc main_arg1) = p1 c
      ∧ m (c.tc.loc main_arg2) = p2 c) :
    θ_run defs (onTc main) ⟨m, fun _ => 0, ρ⟩ fun r => ∀ c,
      r.2.mem (c.tc.loc main_v3) = nt (p2 c) (p1 c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  refine (θ_run _ _ _).mono (fun r h c => ?_) (Value.run m ρ)
  obtain ⟨h0, h1, h2⟩ := hm c
  obtain ⟨r0, hr⟩ := h c
  refine ⟨r0.trans ?_, hr⟩
  · rw [Read.val_main_v3_eq, h2, h1]; exact ref_value ..

end Reference

end Cert.Proj.DH0U

end
-- ==== Proof.Proj.ProjU.lean ====
/-
  THE STATE-SPACE BRANCH'S INPUT PROJECTION, AS THE KERNEL COMPUTES IT.

  Grid point `t` computes rows `1024 t …`: rows times the matrix.
-/
module

public import proofs.«01_k».proof.Proof.Gen.ProjUIdeal.Value
public import proofs.«01_k».proof.Proof.Proj.Products

@[expose] public section

noncomputable section

namespace Cert.Proj.ProjU

open Cert.ProjUIdeal Cert.ProjUIdeal.Gen Idealize.ShloMosaic Idealize.ShloMosaic.TcCoe Idealize.SL.Sem
open Idealize.ShloMosaic.StableHlo Cert.Mlp Cert.Proj

/-- What a grid point stores, from the blocks it reads. -/
theorem outA (c : Dev nD) (i : grid0.Coords) (a : Memref sig .tc .vmem S1024x1024 .bf16) (ha : a.IsWhole)
    (b : Memref sig .tc .vmem S1024x512 .bf16) (hb : b.IsWhole)
    (o : Memref sig .tc .vmem S1024x512 .f32) (ho : o.IsWhole) (s : Memref sig .tc .vmem S1024x512 .f32) (hs : s.IsWhole)
    (x : Vec Ideal S1024x1024 .bf16) (y : Vec Ideal S1024x512 .bf16)
    (h0 : cond0_0 i) (h1 : cond0_1 i) :
    out0_A_2 c i a ha b hb o ho s hs h0 h1 x y = k0_pay2 x (k0_pay1 (F := Ideal)) y := by
  unfold out0_A_2
  rw [View.read_writes_eq_canon _ _ _ (cover0_A_2 c i a ha b hb o ho s hs h0 h1 x y)]
  unfold kernelRun0_A
  dsimp only
  sl_unfold_words
  rw [View.canon_unit_zero (S := S1024x512) origin2]
  simp only [readCov_last (S := S1024x512) _ origin2, View.readCov_unit_zero (S := S1024x512) _ origin2,
    View.readAt_eq_ld, ha.read_unread, hb.read_unread, View.ld_unit_zero (S := S1024x1024) origin2, View.ld_unit_zero (S := S1024x512) origin2, shapeCast_self]

/-- One entry of a block. -/
theorem block_at (x : Vec Ideal S1024x1024 .bf16) (y : Vec Ideal S1024x512 .bf16) (r : Fin 1024) (j : Fin 512) :
    (k0_pay2 x (k0_pay1 (F := Ideal)) y : A2 1024 512) (ix2 r j)
      = ∑ k : Fin 1024, (x : A2 1024 1024) (ix2 r k) * (y : A2 1024 512) (ix2 k j) := by
  unfold k0_pay2 k0_pay1
  pointwise [dot_S1024x1024_S1024x512_S1024x512_1_0_0_1_n_n]

/-! ### The blocks -/

variable (m : Memory nD τ sig) (c : Dev nD)

/-- The arguments as launched: the two factors. -/
abbrev aA : A2 8192 1024 := m (c.tc.loc main_arg0)
abbrev aB : A2 1024 512 := m (c.tc.loc main_arg1)

theorem idx_facts : ∀ t : Fin cfg0.N,
    (win0_0.index t 0 = t.val ∧ win0_0.index t 1 = 0) ∧ (win0_1.index t 0 = 0 ∧ win0_1.index t 1 = 0) ∧ (win0_2.index t 0 = t.val ∧ win0_2.index t 1 = 0) :=
  (by decide +kernel : ∀ t : Fin grid0.N, _)

theorem entry_a : (V m c main_v0 : A2 8192 1024) = aA m c := by
  show StableHlo.after hostOps0 _ main_v0 = _
  unfold hostOps0
  after_results
  rfl

theorem entry_b : (V m c main_v1 : A2 1024 512) = aB m c := by
  show StableHlo.after hostOps0 _ main_v1 = _
  unfold hostOps0
  after_results
  rfl

/-- The result's row and column of entry `(r, j)` of block `t`. -/
def rowIx (t : Fin cfg0.N) (r : Fin 1024) : Fin 8192 :=
  ⟨t.val * 1024 + r.val, by have hN : cfg0.N = 8 := N_0; omega⟩
def colIx (t : Fin cfg0.N) (j : Fin 512) : Fin 512 :=
  j

theorem blk_a (t : Fin cfg0.N) (r : Fin 1024) (k : Fin 1024) :
    (iblk m c 0 t : A2 1024 1024) (ix2 r k) = aA m c (ix2 (rowIx t r) k) := by
  have hi := (idx_facts t).1
  rw [← entry_a]
  unfold iblk
  rw [View.read_apply]
  show (V m c main_v0 : A2 8192 1024) _ = _
  congr 1
  funext a
  apply Fin.ext
  match a with
  | ⟨0, _⟩ => show win0_0.index t 0 * 1024 + 1 * r.val = t.val * 1024 + r.val; rw [hi.1]; omega
  | ⟨1, _⟩ => show win0_0.index t 1 * 1024 + 1 * k.val = k.val; rw [hi.2]; omega

theorem blk_b (t : Fin cfg0.N) (k : Fin 1024) (j : Fin 512) :
    (iblk m c 1 t : A2 1024 512) (ix2 k j) = aB m c (ix2 k (colIx t j)) := by
  have hi := (idx_facts t).2.1
  rw [← entry_b]
  unfold iblk
  rw [View.read_apply]
  show (V m c main_v1 : A2 1024 512) _ = _
  congr 1
  funext a
  apply Fin.ext
  match a with
  | ⟨0, _⟩ => show win0_1.index t 0 * 1024 + 1 * k.val = k.val; rw [hi.1]; omega
  | ⟨1, _⟩ => show win0_1.index t 1 * 512 + 1 * j.val = j.val; rw [hi.2]; omega

/-! ### The final array -/

theorem read_out (t : Fin cfg0.N) (G : A2 8192 512) (r : Fin 1024) (j : Fin 512) :
    (((cfg0.win 2).blk t).view.read (Elt Ideal) G : A2 1024 512) (ix2 r j) = G (ix2 (rowIx t r) (colIx t j)) := by
  have hi := (idx_facts t).2.2
  rw [View.read_apply]
  show G _ = _
  congr 1
  funext a
  apply Fin.ext
  match a with
  | ⟨0, _⟩ => show win0_2.index t 0 * 1024 + 1 * r.val = t.val * 1024 + r.val; rw [hi.1]; omega
  | ⟨1, _⟩ => show win0_2.index t 1 * 512 + 1 * j.val = j.val; rw [hi.2]; omega

theorem final : ((dats m 0 c).arrAt 2 cfg0.N : A2 8192 512) = nn (aA m c) (aB m c) := by
  refine (dats m 0 c).arrAt_eq_of_cover 2 (nn (aA m c) (aB m c)) ?_ ?_
  · intro t _
    rw [Value.flushed2_A, outA]
    refine ext2 (a := 1024) (b := 512) _ _ fun r j => ?_
    refine (block_at _ _ r j).trans (Eq.trans ?_ (read_out t (nn (aA m c) (aB m c)) r j).symm)
    simp only [blk_a, blk_b]
    rfl
  · intro i
    have h0 : (i 0 : Nat) < 8192 := (i 0).isLt
    have h1 : (i 1 : Nat) < 512 := (i 1).isLt
    have hN : cfg0.N = 8 := N_0
    let t : Fin cfg0.N := ⟨(i 0 : Nat) / 1024, by omega⟩
    refine ⟨t, flush0_2 t, ?_⟩
    have hi := (idx_facts t).2.2
    have e0 : win0_2.index t 0 = (i 0 : Nat) / 1024 := hi.1
    have e1 : win0_2.index t 1 = 0 := hi.2
    show i ∈ ((View.whole main_v2).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024; rw [e0]; omega
    | ⟨1, _⟩ => show win0_2.index t 1 * 512 ≤ (i 1 : Nat) ∧ (i 1 : Nat) < win0_2.index t 1 * 512 + 512; rw [e1]; omega

end Cert.Proj.ProjU

end
-- ==== Proof.Proj.ProjUClaims.lean ====
/-
  THE STATE-SPACE BRANCH'S INPUT PROJECTION: THE KERNEL'S RUN AND THE REFERENCE'S RUN, AT THE SAME ARRAYS.
-/
module

public import proofs.«01_k».proof.Proof.Proj.ProjU
public import proofs.«01_k».proof.Proof.Gen.ProjURefIdeal.Read

@[expose] public section

noncomputable section

namespace Cert.Proj.ProjU

open Idealize.ShloMosaic Idealize.SL.Sem Cert.Mlp Cert.Proj

section Reference
open Cert.ProjURefIdeal Cert.ProjURefIdeal.Gen Cert.ProjURefIdeal.Read

theorem ref_value (a : A2 8192 1024) (b : A2 1024 512) : (val_main_v0 (F := Ideal) a b : A2 8192 512) = nn a b := by
  refine ext2 _ _ fun R J => ?_
  unfold val_main_v0 nn
  pointwise [dot_S8192x1024_S1024x512_S8192x512_1_0_0_1_n_n]

end Reference

section Kernel
open Cert.ProjUIdeal Cert.ProjUIdeal.Gen

/-- The kernel's run: its results; its arguments stay. -/
theorem kernel_run (m : Memory nD τ sig) (ρ : Dev nD → PrngReg) :
    θ_run defs (onTc main) ⟨m, fun _ => 0, ρ⟩ fun r => ∀ c,
      r.2.mem (c.tc.loc main_v2) = nn (aA m c) (aB m c)
      ∧ r.2.mem (c.tc.loc main_arg0) = m (c.tc.loc main_arg0)
      ∧ r.2.mem (c.tc.loc main_arg1) = m (c.tc.loc main_arg1) :=
  (θ_run defs _ _).mono (fun r h c => ⟨(h c).1.trans (final m c), (h c).2⟩) (Value.run_blocks m ρ)

end Kernel

section Reference
open Cert.ProjURefIdeal Cert.ProjURefIdeal.Gen

/-- The reference's run, at the same functions. -/
theorem reference_run (m : Memory nD τ sig) (ρ : Dev nD → PrngReg)
    (p0 : Dev nD → A2 8192 1024) (p1 : Dev nD → A2 1024 512)
    (hm : ∀ c, m (c.tc.loc main_arg0) = p0 c
      ∧ m (c.tc.loc main_arg1) = p1 c) :
    θ_run defs (onTc main) ⟨m, fun _ => 0, ρ⟩ fun r => ∀ c,
      r.2.mem (c.tc.loc main_v0) = nn (p0 c) (p1 c)
      ∧ r.2.mem (c.tc.loc main_arg0) = m (c.tc.loc main_arg0)
      ∧ r.2.mem (c.tc.loc main_arg1) = m (c.tc.loc main_arg1) := by
  refine (θ_run _ _ _).mono (fun r h c => ?_) (Value.run m ρ)
  obtain ⟨h0, h1⟩ := hm c
  obtain ⟨r0, hr⟩ := h c
  refine ⟨r0.trans ?_, hr⟩
  · rw [Read.val_main_v0_eq, h0, h1]; exact ref_value ..

end Reference

end Cert.Proj.ProjU

end
-- ==== Proof.Proj.XaQ.lean ====
/-
  THE CROSS-ATTENTION'S QUERY PROJECTION, AS THE KERNEL COMPUTES IT.

  Grid point `t` computes rows `1024 t …`: rows times the matrix.
-/
module

public import proofs.«01_k».proof.Proof.Gen.XaQIdeal.Value
public import proofs.«01_k».proof.Proof.Proj.Products

@[expose] public section

noncomputable section

namespace Cert.Proj.XaQ

open Cert.XaQIdeal Cert.XaQIdeal.Gen Idealize.ShloMosaic Idealize.ShloMosaic.TcCoe Idealize.SL.Sem
open Idealize.ShloMosaic.StableHlo Cert.Mlp Cert.Proj

/-- What a grid point stores, from the blocks it reads. -/
theorem outA (c : Dev nD) (i : grid0.Coords) (a : Memref sig .tc .vmem S1024x1024 .bf16) (ha : a.IsWhole)
    (b : Memref sig .tc .vmem S1024x512 .bf16) (hb : b.IsWhole)
    (o : Memref sig .tc .vmem S1024x512 .f32) (ho : o.IsWhole) (s : Memref sig .tc .vmem S1024x512 .f32) (hs : s.IsWhole)
    (x : Vec Ideal S1024x1024 .bf16) (y : Vec Ideal S1024x512 .bf16)
    (h0 : cond0_0 i) (h1 : cond0_1 i) :
    out0_A_2 c i a ha b hb o ho s hs h0 h1 x y = k0_pay2 x (k0_pay1 (F := Ideal)) y := by
  unfold out0_A_2
  rw [View.read_writes_eq_canon _ _ _ (cover0_A_2 c i a ha b hb o ho s hs h0 h1 x y)]
  unfold kernelRun0_A
  dsimp only
  sl_unfold_words
  rw [View.canon_unit_zero (S := S1024x512) origin2]
  simp only [readCov_last (S := S1024x512) _ origin2, View.readCov_unit_zero (S := S1024x512) _ origin2,
    View.readAt_eq_ld, ha.read_unread, hb.read_unread, View.ld_unit_zero (S := S1024x1024) origin2, View.ld_unit_zero (S := S1024x512) origin2, shapeCast_self]

/-- One entry of a block. -/
theorem block_at (x : Vec Ideal S1024x1024 .bf16) (y : Vec Ideal S1024x512 .bf16) (r : Fin 1024) (j : Fin 512) :
    (k0_pay2 x (k0_pay1 (F := Ideal)) y : A2 1024 512) (ix2 r j)
      = ∑ k : Fin 1024, (x : A2 1024 1024) (ix2 r k) * (y : A2 1024 512) (ix2 k j) := by
  unfold k0_pay2 k0_pay1
  pointwise [dot_S1024x1024_S1024x512_S1024x512_1_0_0_1_n_n]

/-! ### The blocks -/

variable (m : Memory nD τ sig) (c : Dev nD)

/-- The arguments as launched: the two factors. -/
abbrev aA : A2 8192 1024 := m (c.tc.loc main_arg0)
abbrev aB : A2 1024 512 := m (c.tc.loc main_arg1)

theorem idx_facts : ∀ t : Fin cfg0.N,
    (win0_0.index t 0 = t.val ∧ win0_0.index t 1 = 0) ∧ (win0_1.index t 0 = 0 ∧ win0_1.index t 1 = 0) ∧ (win0_2.index t 0 = t.val ∧ win0_2.index t 1 = 0) :=
  (by decide +kernel : ∀ t : Fin grid0.N, _)

theorem entry_a : (V m c main_v0 : A2 8192 1024) = aA m c := by
  show StableHlo.after hostOps0 _ main_v0 = _
  unfold hostOps0
  after_results
  rfl

theorem entry_b : (V m c main_v1 : A2 1024 512) = aB m c := by
  show StableHlo.after hostOps0 _ main_v1 = _
  unfold hostOps0
  after_results
  rfl

/-- The result's row and column of entry `(r, j)` of block `t`. -/
def rowIx (t : Fin cfg0.N) (r : Fin 1024) : Fin 8192 :=
  ⟨t.val * 1024 + r.val, by have hN : cfg0.N = 8 := N_0; omega⟩
def colIx (t : Fin cfg0.N) (j : Fin 512) : Fin 512 :=
  j

theorem blk_a (t : Fin cfg0.N) (r : Fin 1024) (k : Fin 1024) :
    (iblk m c 0 t : A2 1024 1024) (ix2 r k) = aA m c (ix2 (rowIx t r) k) := by
  have hi := (idx_facts t).1
  rw [← entry_a]
  unfold iblk
  rw [View.read_apply]
  show (V m c main_v0 : A2 8192 1024) _ = _
  congr 1
  funext a
  apply Fin.ext
  match a with
  | ⟨0, _⟩ => show win0_0.index t 0 * 1024 + 1 * r.val = t.val * 1024 + r.val; rw [hi.1]; omega
  | ⟨1, _⟩ => show win0_0.index t 1 * 1024 + 1 * k.val = k.val; rw [hi.2]; omega

theorem blk_b (t : Fin cfg0.N) (k : Fin 1024) (j : Fin 512) :
    (iblk m c 1 t : A2 1024 512) (ix2 k j) = aB m c (ix2 k (colIx t j)) := by
  have hi := (idx_facts t).2.1
  rw [← entry_b]
  unfold iblk
  rw [View.read_apply]
  show (V m c main_v1 : A2 1024 512) _ = _
  congr 1
  funext a
  apply Fin.ext
  match a with
  | ⟨0, _⟩ => show win0_1.index t 0 * 1024 + 1 * k.val = k.val; rw [hi.1]; omega
  | ⟨1, _⟩ => show win0_1.index t 1 * 512 + 1 * j.val = j.val; rw [hi.2]; omega

/-! ### The final array -/

theorem read_out (t : Fin cfg0.N) (G : A2 8192 512) (r : Fin 1024) (j : Fin 512) :
    (((cfg0.win 2).blk t).view.read (Elt Ideal) G : A2 1024 512) (ix2 r j) = G (ix2 (rowIx t r) (colIx t j)) := by
  have hi := (idx_facts t).2.2
  rw [View.read_apply]
  show G _ = _
  congr 1
  funext a
  apply Fin.ext
  match a with
  | ⟨0, _⟩ => show win0_2.index t 0 * 1024 + 1 * r.val = t.val * 1024 + r.val; rw [hi.1]; omega
  | ⟨1, _⟩ => show win0_2.index t 1 * 512 + 1 * j.val = j.val; rw [hi.2]; omega

theorem final : ((dats m 0 c).arrAt 2 cfg0.N : A2 8192 512) = nn (aA m c) (aB m c) := by
  refine (dats m 0 c).arrAt_eq_of_cover 2 (nn (aA m c) (aB m c)) ?_ ?_
  · intro t _
    rw [Value.flushed2_A, outA]
    refine ext2 (a := 1024) (b := 512) _ _ fun r j => ?_
    refine (block_at _ _ r j).trans (Eq.trans ?_ (read_out t (nn (aA m c) (aB m c)) r j).symm)
    simp only [blk_a, blk_b]
    rfl
  · intro i
    have h0 : (i 0 : Nat) < 8192 := (i 0).isLt
    have h1 : (i 1 : Nat) < 512 := (i 1).isLt
    have hN : cfg0.N = 8 := N_0
    let t : Fin cfg0.N := ⟨(i 0 : Nat) / 1024, by omega⟩
    refine ⟨t, flush0_2 t, ?_⟩
    have hi := (idx_facts t).2.2
    have e0 : win0_2.index t 0 = (i 0 : Nat) / 1024 := hi.1
    have e1 : win0_2.index t 1 = 0 := hi.2
    show i ∈ ((View.whole main_v2).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024; rw [e0]; omega
    | ⟨1, _⟩ => show win0_2.index t 1 * 512 ≤ (i 1 : Nat) ∧ (i 1 : Nat) < win0_2.index t 1 * 512 + 512; rw [e1]; omega

end Cert.Proj.XaQ

end
-- ==== Proof.Proj.XaQClaims.lean ====
/-
  THE CROSS-ATTENTION'S QUERY PROJECTION: THE KERNEL'S RUN AND THE REFERENCE'S RUN, AT THE SAME ARRAYS.
-/
module

public import proofs.«01_k».proof.Proof.Proj.XaQ
public import proofs.«01_k».proof.Proof.Gen.XaQRefIdeal.Read

@[expose] public section

noncomputable section

namespace Cert.Proj.XaQ

open Idealize.ShloMosaic Idealize.SL.Sem Cert.Mlp Cert.Proj

section Reference
open Cert.XaQRefIdeal Cert.XaQRefIdeal.Gen Cert.XaQRefIdeal.Read

theorem ref_value (a : A2 8192 1024) (b : A2 1024 512) : (val_main_v0 (F := Ideal) a b : A2 8192 512) = nn a b := by
  refine ext2 _ _ fun R J => ?_
  unfold val_main_v0 nn
  pointwise [dot_S8192x1024_S1024x512_S8192x512_1_0_0_1_n_n]

end Reference

section Kernel
open Cert.XaQIdeal Cert.XaQIdeal.Gen

/-- The kernel's run: its results; its arguments stay. -/
theorem kernel_run (m : Memory nD τ sig) (ρ : Dev nD → PrngReg) :
    θ_run defs (onTc main) ⟨m, fun _ => 0, ρ⟩ fun r => ∀ c,
      r.2.mem (c.tc.loc main_v2) = nn (aA m c) (aB m c)
      ∧ r.2.mem (c.tc.loc main_arg0) = m (c.tc.loc main_arg0)
      ∧ r.2.mem (c.tc.loc main_arg1) = m (c.tc.loc main_arg1) :=
  (θ_run defs _ _).mono (fun r h c => ⟨(h c).1.trans (final m c), (h c).2⟩) (Value.run_blocks m ρ)

end Kernel

section Reference
open Cert.XaQRefIdeal Cert.XaQRefIdeal.Gen

/-- The reference's run, at the same functions. -/
theorem reference_run (m : Memory nD τ sig) (ρ : Dev nD → PrngReg)
    (p0 : Dev nD → A2 8192 1024) (p1 : Dev nD → A2 1024 512)
    (hm : ∀ c, m (c.tc.loc main_arg0) = p0 c
      ∧ m (c.tc.loc main_arg1) = p1 c) :
    θ_run defs (onTc main) ⟨m, fun _ => 0, ρ⟩ fun r => ∀ c,
      r.2.mem (c.tc.loc main_v0) = nn (p0 c) (p1 c)
      ∧ r.2.mem (c.tc.loc main_arg0) = m (c.tc.loc main_arg0)
      ∧ r.2.mem (c.tc.loc main_arg1) = m (c.tc.loc main_arg1) := by
  refine (θ_run _ _ _).mono (fun r h c => ?_) (Value.run m ρ)
  obtain ⟨h0, h1⟩ := hm c
  obtain ⟨r0, hr⟩ := h c
  refine ⟨r0.trans ?_, hr⟩
  · rw [Read.val_main_v0_eq, h0, h1]; exact ref_value ..

end Reference

end Cert.Proj.XaQ

end
-- ==== Proof.Proj.XaKv.lean ====
/-
  THE CROSS-ATTENTION'S KEY AND VALUE PROJECTION, AS THE KERNEL COMPUTES IT.

  One grid point computes the whole result: rows times the matrix.
-/
module

public import proofs.«01_k».proof.Proof.Gen.XaKvIdeal.Value
public import proofs.«01_k».proof.Proof.Proj.Products

@[expose] public section

noncomputable section

namespace Cert.Proj.XaKv

open Cert.XaKvIdeal Cert.XaKvIdeal.Gen Idealize.ShloMosaic Idealize.ShloMosaic.TcCoe Idealize.SL.Sem
open Idealize.ShloMosaic.StableHlo Cert.Mlp Cert.Proj

/-- What a grid point stores, from the blocks it reads. -/
theorem outA (c : Dev nD) (i : grid0.Coords) (a : Memref sig .tc .vmem S256x1024 .bf16) (ha : a.IsWhole)
    (b : Memref sig .tc .vmem S1024x1024 .bf16) (hb : b.IsWhole)
    (o : Memref sig .tc .vmem S256x1024 .f32) (ho : o.IsWhole) (s : Memref sig .tc .vmem S256x1024 .f32) (hs : s.IsWhole)
    (x : Vec Ideal S256x1024 .bf16) (y : Vec Ideal S1024x1024 .bf16)
    (h0 : cond0_0 i) (h1 : cond0_1 i) :
    out0_A_2 c i a ha b hb o ho s hs h0 h1 x y = k0_pay2 x (k0_pay1 (F := Ideal)) y := by
  unfold out0_A_2
  rw [View.read_writes_eq_canon _ _ _ (cover0_A_2 c i a ha b hb o ho s hs h0 h1 x y)]
  unfold kernelRun0_A
  dsimp only
  sl_unfold_words
  rw [View.canon_unit_zero (S := S256x1024) origin2]
  simp only [readCov_last (S := S256x1024) _ origin2, View.readCov_unit_zero (S := S256x1024) _ origin2,
    View.readAt_eq_ld, ha.read_unread, hb.read_unread, View.ld_unit_zero (S := S256x1024) origin2, View.ld_unit_zero (S := S1024x1024) origin2, shapeCast_self]

/-- One entry of a block. -/
theorem block_at (x : Vec Ideal S256x1024 .bf16) (y : Vec Ideal S1024x1024 .bf16) (r : Fin 256) (j : Fin 1024) :
    (k0_pay2 x (k0_pay1 (F := Ideal)) y : A2 256 1024) (ix2 r j)
      = ∑ k : Fin 1024, (x : A2 256 1024) (ix2 r k) * (y : A2 1024 1024) (ix2 k j) := by
  unfold k0_pay2 k0_pay1
  pointwise [dot_S256x1024_S1024x1024_S256x1024_1_0_0_1_n_n]

/-! ### The blocks -/

variable (m : Memory nD τ sig) (c : Dev nD)

/-- The arguments as launched: the two factors. -/
abbrev aA : A2 256 1024 := m (c.tc.loc main_arg0)
abbrev aB : A2 1024 1024 := m (c.tc.loc main_arg1)

theorem idx_facts : ∀ t : Fin cfg0.N,
    (win0_0.index t 0 = t.val ∧ win0_0.index t 1 = 0) ∧ (win0_1.index t 0 = 0 ∧ win0_1.index t 1 = 0) ∧ (win0_2.index t 0 = t.val ∧ win0_2.index t 1 = 0) :=
  (by decide +kernel : ∀ t : Fin grid0.N, _)

theorem entry_a : (V m c main_v0 : A2 256 1024) = aA m c := by
  show StableHlo.after hostOps0 _ main_v0 = _
  unfold hostOps0
  after_results
  rfl

theorem entry_b : (V m c main_v1 : A2 1024 1024) = aB m c := by
  show StableHlo.after hostOps0 _ main_v1 = _
  unfold hostOps0
  after_results
  rfl

/-- The result's row and column of entry `(r, j)` of block `t`. -/
def rowIx (t : Fin cfg0.N) (r : Fin 256) : Fin 256 :=
  ⟨t.val * 256 + r.val, by have hN : cfg0.N = 1 := N_0; omega⟩
def colIx (t : Fin cfg0.N) (j : Fin 1024) : Fin 1024 :=
  j

theorem blk_a (t : Fin cfg0.N) (r : Fin 256) (k : Fin 1024) :
    (iblk m c 0 t : A2 256 1024) (ix2 r k) = aA m c (ix2 (rowIx t r) k) := by
  have hi := (idx_facts t).1
  rw [← entry_a]
  unfold iblk
  rw [View.read_apply]
  show (V m c main_v0 : A2 256 1024) _ = _
  congr 1
  funext a
  apply Fin.ext
  match a with
  | ⟨0, _⟩ => show win0_0.index t 0 * 256 + 1 * r.val = t.val * 256 + r.val; rw [hi.1]; omega
  | ⟨1, _⟩ => show win0_0.index t 1 * 1024 + 1 * k.val = k.val; rw [hi.2]; omega

theorem blk_b (t : Fin cfg0.N) (k : Fin 1024) (j : Fin 1024) :
    (iblk m c 1 t : A2 1024 1024) (ix2 k j) = aB m c (ix2 k (colIx t j)) := by
  have hi := (idx_facts t).2.1
  rw [← entry_b]
  unfold iblk
  rw [View.read_apply]
  show (V m c main_v1 : A2 1024 1024) _ = _
  congr 1
  funext a
  apply Fin.ext
  match a with
  | ⟨0, _⟩ => show win0_1.index t 0 * 1024 + 1 * k.val = k.val; rw [hi.1]; omega
  | ⟨1, _⟩ => show win0_1.index t 1 * 1024 + 1 * j.val = j.val; rw [hi.2]; omega

/-! ### The final array -/

theorem read_out (t : Fin cfg0.N) (G : A2 256 1024) (r : Fin 256) (j : Fin 1024) :
    (((cfg0.win 2).blk t).view.read (Elt Ideal) G : A2 256 1024) (ix2 r j) = G (ix2 (rowIx t r) (colIx t j)) := by
  have hi := (idx_facts t).2.2
  rw [View.read_apply]
  show G _ = _
  congr 1
  funext a
  apply Fin.ext
  match a with
  | ⟨0, _⟩ => show win0_2.index t 0 * 256 + 1 * r.val = t.val * 256 + r.val; rw [hi.1]; omega
  | ⟨1, _⟩ => show win0_2.index t 1 * 1024 + 1 * j.val = j.val; rw [hi.2]; omega

theorem final : ((dats m 0 c).arrAt 2 cfg0.N : A2 256 1024) = nn (aA m c) (aB m c) := by
  refine (dats m 0 c).arrAt_eq_of_cover 2 (nn (aA m c) (aB m c)) ?_ ?_
  · intro t _
    rw [Value.flushed2_A, outA]
    refine ext2 (a := 256) (b := 1024) _ _ fun r j => ?_
    refine (block_at _ _ r j).trans (Eq.trans ?_ (read_out t (nn (aA m c) (aB m c)) r j).symm)
    simp only [blk_a, blk_b]
    rfl
  · intro i
    have h0 : (i 0 : Nat) < 256 := (i 0).isLt
    have h1 : (i 1 : Nat) < 1024 := (i 1).isLt
    have hN : cfg0.N = 1 := N_0
    let t : Fin cfg0.N := ⟨(i 0 : Nat) / 256, by omega⟩
    refine ⟨t, flush0_2 t, ?_⟩
    have hi := (idx_facts t).2.2
    have e0 : win0_2.index t 0 = (i 0 : Nat) / 256 := hi.1
    have e1 : win0_2.index t 1 = 0 := hi.2
    show i ∈ ((View.whole main_v2).slice (win0_2.rect t)).set
    rw [View.set_slice_whole, Rect.mem_set_unit]
    intro a
    match a with
    | ⟨0, _⟩ => show win0_2.index t 0 * 256 ≤ (i 0 : Nat) ∧ (i 0 : Nat) < win0_2.index t 0 * 256 + 256; rw [e0]; omega
    | ⟨1, _⟩ => show win0_2.index t 1 * 1024 ≤ (i 1 : Nat) ∧ (i 1 : Nat) < win0_2.index t 1 * 1024 + 1024; rw [e1]; omega

end Cert.Proj.XaKv

end
-- ==== Proof.Proj.XaKvClaims.lean ====
/-
  THE CROSS-ATTENTION'S KEY AND VALUE PROJECTION: THE KERNEL'S RUN AND THE REFERENCE'S RUN, AT THE SAME ARRAYS.
-/
module

public import proofs.«01_k».proof.Proof.Proj.XaKv
public import proofs.«01_k».proof.Proof.Gen.XaKvRefIdeal.Read

@[expose] public section

noncomputable section

namespace Cert.Proj.XaKv

open Idealize.ShloMosaic Idealize.SL.Sem Cert.Mlp Cert.Proj

section Reference
open Cert.XaKvRefIdeal Cert.XaKvRefIdeal.Gen Cert.XaKvRefIdeal.Read

theorem ref_value (a : A2 256 1024) (b : A2 1024 1024) : (val_main_v0 (F := Ideal) a b : A2 256 1024) = nn a b := by
  refine ext2 _ _ fun R J => ?_
  unfold val_main_v0 nn
  pointwise [dot_S256x1024_S1024x1024_S256x1024_1_0_0_1_n_n]

end Reference

section Kernel
open Cert.XaKvIdeal Cert.XaKvIdeal.Gen

/-- The kernel's run: its results; its arguments stay. -/
theorem kernel_run (m : Memory nD τ sig) (ρ : Dev nD → PrngReg) :
    θ_run defs (onTc main) ⟨m, fun _ => 0, ρ⟩ fun r => ∀ c,
      r.2.mem (c.tc.loc main_v2) = nn (aA m c) (aB m c)
      ∧ r.2.mem (c.tc.loc main_arg0) = m (c.tc.loc main_arg0)
      ∧ r.2.mem (c.tc.loc main_arg1) = m (c.tc.loc main_arg1) :=
  (θ_run defs _ _).mono (fun r h c => ⟨(h c).1.trans (final m c), (h c).2⟩) (Value.run_blocks m ρ)

end Kernel

section Reference
open Cert.XaKvRefIdeal Cert.XaKvRefIdeal.Gen

/-- The reference's run, at the same functions. -/
theorem reference_run (m : Memory nD τ sig) (ρ : Dev nD → PrngReg)
    (p0 : Dev nD → A2 256 1024) (p1 : Dev nD → A2 1024 1024)
    (hm : ∀ c, m (c.tc.loc main_arg0) = p0 c
      ∧ m (c.tc.loc main_arg1) = p1 c) :
    θ_run defs (onTc main) ⟨m, fun _ => 0, ρ⟩ fun r => ∀ c,
      r.2.mem (c.tc.loc main_v0) = nn (p0 c) (p1 c)
      ∧ r.2.mem (c.tc.loc main_arg0) = m (c.tc.loc main_arg0)
      ∧ r.2.mem (c.tc.loc main_arg1) = m (c.tc.loc main_arg1) := by
  refine (θ_run _ _ _).mono (fun r h c => ?_) (Value.run m ρ)
  obtain ⟨h0, h1⟩ := hm c
  obtain ⟨r0, hr⟩ := h c
  refine ⟨r0.trans ?_, hr⟩
  · rw [Read.val_main_v0_eq, h0, h1]; exact ref_value ..

end Reference

end Cert.Proj.XaKv

end
-- ==== Proof.Proj.OutSsm.lean ====
/-
  THE STATE-SPACE BRANCH'S OUTPUT PROJECTION, ADDED TO THE RESIDUAL, AS THE KERNEL COMPUTES IT.

  Grid point `t` computes rows `1024 t …`: rows times the matrix, added to the residual.
-/
module

public import proofs.«01_k».proof.Proof.Gen.OutSsmIdeal.Value
public import proofs.«01_k».proof.Proof.Proj.Products

@[expose] public section

noncomputable section

namespace Cert.Proj.OutSsm

open Cert.OutSsmIdeal Cert.OutSsmIdeal.Gen Idealize.ShloMosaic Idealize.ShloMosaic.TcCoe Idealize.SL.Sem
open Idealize.ShloMosaic.StableHlo Cert.Mlp Cert.Proj

/-- What a grid point stores, from the blocks it reads. -/
theorem outA (c : Dev nD) (i : grid0.Coords) (a : Memref sig .tc .vmem S1024x512 .bf16) (ha : a.IsWhole)
    (b : Memref sig .tc .vmem S512x1024 .bf16) (hb : b.IsWhole) (u : Memref sig .tc .vmem S1024x1024 .f32) (hu : u.IsWhole)
    (o : Memref sig .tc .vmem S1024x1024 .f32) (ho : o.IsWhole) (s : Memref sig .tc .vmem S1024x1024 .f32) (hs : s.IsWhole)
    (x : Vec Ideal S1024x512 .bf16) (y : Vec Ideal S512x1024 .bf16) (res : Vec Ideal S1024x1024 .f32)
    (h0 : cond0_0 i) (h1 : cond0_1 i) :
    out0_A_3 c i a ha b hb u hu o ho s hs h0 h1 x y res = k0_pay3 (k0_pay2 x (k0_pay1 (F := Ideal)) y) res := by
  unfold out0_A_3
  rw [View.read_writes_eq_canon _ _ _ (cover0_A_3 c i a ha b hb u hu o ho s hs h0 h1 x y res)]
  unfold kernelRun0_A
  dsimp only
  sl_unfold_words
  rw [View.canon_unit_zero (S := S1024x1024) origin2]
  simp only [readCov_last (S := S1024x1024) _ origin2, View.readCov_unit_zero (S := S1024x1024) _ origin2,
    View.readAt_eq_ld, ha.read_unread, hb.read_unread, hu.read_unread, View.ld_unit_zero (S := S1024x512) origin2, View.ld_unit_zero (S := S512x1024) origin2, View.ld_unit_zero (S := S1024x1024) origin2, shapeCast_self]

/-- One entry of a block. -/
theorem block_at (x : Vec Ideal S1024x512 .bf16) (y : Vec Ideal S512x1024 .bf16) (res : Vec Ideal S1024x1024 .f32) (r : Fin 1024) (j : Fin 1024) :
    (k0_pay3 (k0_pay2 x (k0_pay1 (F := Ideal)) y) res : A2 1024 1024) (ix2 r j)
      = (res : A2 1024 1024) (ix2 r j) + ∑ k : Fin 512, (x : A2 1024 512) (ix2 r k) * (y : A2 512 1024) (ix2 k j) := by
  unfold k0_pay3 k0_pay2 k0_pay1
  pointwise [dot_S1024x512_S512x1024_S1024x1024_1_0_0_1_n_n]
  exact add_comm _ _

/-! ### The blocks -/

variable (m : Memory nD τ sig) (c : Dev nD)

/-- The arguments as launched: the two factors and the residual. -/
abbrev aA : A2 8192 512 := m (c.tc.loc main_arg1)
abbrev aB : A2 512 1024 := m (c.tc.loc main_arg2)
abbrev aX : A2 8192 1024 := m (c.tc.loc main_arg0)

theorem idx_facts : ∀ t : Fin cfg0.N,
    (win0_0.index t 0 = t.val ∧ win0_0.index t 1 = 0) ∧ (win0_1.index t 0 = 0 ∧ win0_1.index t 1 = 0) ∧ (win0_2.index t 0 = t.val ∧ win0_2.index t 1 = 0) ∧ (win0_3.index t 0 = t.val ∧ win0_3.index t 1 = 0) :=
  (by decide +kernel : ∀ t : Fin grid0.N, _)

theorem entry_a : (V m c main_v0 : A2 8192 512) = aA m c := by
  show StableHlo.after hostOps0 _ main_v0 = _
  unfold hostOps0
  after_results
  rfl

theorem entry_b : (V m c main_v1 : A2 512 1024) = aB m c := by
  show StableHlo.after hostOps0 _ main_v1 = _
  unfold hostOps0
  after_results
  rfl

theorem entry_x : (V m c main_arg0 : A2 8192 1024) = aX m c := by
  show StableHlo.after hostOps0 _ main_arg0 = _
  unfold hostOps0
  after_results

/-- The result's row and column of entry `(r, j)` of block `t`. -/
def rowIx (t : Fin cfg0.N) (r : Fin 1024) : Fin 8192 :=
  ⟨t.val * 1024 + r.val, by have hN : cfg0.N = 8 := N_0; omega⟩
def colIx (t : Fin cfg0.N) (j : Fin 1024) : Fin 1024 :=
  j

theorem blk_a (t : Fin cfg0.N) (r : Fin 1024) (k : Fin 512) :
    (iblk m c 0 t : A2 1024 512) (ix2 r k) = aA m c (ix2 (rowIx t r) k) := by
  have hi := (idx_facts t).1
  rw [← entry_a]
  unfold iblk
  rw [View.read_apply]
  show (V m c main_v0 : A2 8192 512) _ = _
  congr 1
  funext a
  apply Fin.ext
  match a with
  | ⟨0, _⟩ => show win0_0.index t 0 * 1024 + 1 * r.val = t.val * 1024 + r.val; rw [hi.1]; omega
  | ⟨1, _⟩ => show win0_0.index t 1 * 512 + 1 * k.val = k.val; rw [hi.2]; omega

theorem blk_b (t : Fin cfg0.N) (k : Fin 512) (j : Fin 1024) :
    (iblk m c 1 t : A2 512 1024) (ix2 k j) = aB m c (ix2 k (colIx t j)) := by
  have hi := (idx_facts t).2.1
  rw [← entry_b]
  unfold iblk
  rw [View.read_apply]
  show (V m c main_v1 : A2 512 1024) _ = _
  congr 1
  funext a
  apply Fin.ext
  match a with
  | ⟨0, _⟩ => show win0_1.index t 0 * 512 + 1 * k.val = k.val; rw [hi.1]; omega
  | ⟨1, _⟩ => show win0_1.index t 1 * 1024 + 1 * j.val = j.val; rw [hi.2]; omega

theorem blk_x (t : Fin cfg0.N) (r : Fin 1024) (j : Fin 1024) :
    (iblk m c 2 t : A2 1024 1024) (ix2 r j) = aX m c (ix2 (rowIx t r) (colIx t j)) := by
  have hi := (idx_facts t).2.2.1
  rw [← entry_x]
  unfold iblk
  rw [View.read_apply]
  show (V m c main_arg0 : A2 8192 1024) _ = _
  congr 1
  funext a
  apply Fin.ext
  match a with
  | ⟨0, _⟩ => show win0_2.index t 0 * 1024 + 1 * r.val = t.val * 1024 + r.val; rw [hi.1]; omega
  | ⟨1, _⟩ => show win0_2.index t 1 * 1024 + 1 * j.val = j.val; rw [hi.2]; omega

/-! ### The final array -/

theorem read_out (t : Fin cfg0.N) (G : A2 8192 1024) (r : Fin 1024) (j : Fin 1024) :
    (((cfg0.win 3).blk t).view.read (Elt Ideal) G : A2 1024 1024) (ix2 r j) = G (ix2 (rowIx t r) (colIx t j)) := by
  have hi := (idx_facts t).2.2.2
  rw [View.read_apply]
  show G _ = _
  congr 1
  funext a
  apply Fin.ext
  match a with
  | ⟨0, _⟩ => show win0_3.index t 0 * 1024 + 1 * r.val = t.val * 1024 + r.val; rw [hi.1]; omega
  | ⟨1, _⟩ => show win0_3.index t 1 * 1024 + 1 * j.val = j.val; rw [hi.2]; omega

theorem final : ((dats m 0 c).arrAt 3 cfg0.N : A2 8192 1024) = nnAdd (aX m c) (aA m c) (aB m c) := by
  refine (dats m 0 c).arrAt_eq_of_cover 3 (nnAdd (aX m c) (aA m c) (aB m c)) ?_ ?_
  · intro t _
    rw [Value.flushed3_A, outA]
    refine ext2 (a := 1024) (b := 1024) _ _ fun r j => ?_
    refine (block_at _ _ _ r j).trans (Eq.trans ?_ (read_out t (nnAdd (aX m c) (aA m c) (aB m c)) r j).symm)
    simp only [blk_a, blk_b, blk_x]
    rfl
  · intro i
    have h0 : (i 0 : Nat) < 8192 := (i 0).isLt
    have h1 : (i 1 : Nat) < 1024 := (i 1).isLt
    have hN : cfg0.N = 8 := N_0
    let t : Fin cfg0.N := ⟨(i 0 : Nat) / 1024, by omega⟩
    refine ⟨t, flush0_3 t, ?_⟩
    have hi := (idx_facts t).2.2.2
    have e0 : win0_3.index t 0 = (i 0 : Nat) / 1024 := hi.1
    have e1 : win0_3.index t 1 = 0 := hi.2
    show i ∈ ((View.whole main_v2).slice (win0_3.rect t)).set
    rw [View.set_slice_whole, Rect.mem_set_unit]
    intro a
    match a with
    | ⟨0, _⟩ => show win0_3.index t 0 * 1024 ≤ (i 0 : Nat) ∧ (i 0 : Nat) < win0_3.index t 0 * 1024 + 1024; rw [e0]; omega
    | ⟨1, _⟩ => show win0_3.index t 1 * 1024 ≤ (i 1 : Nat) ∧ (i 1 : Nat) < win0_3.index t 1 * 1024 + 1024; rw [e1]; omega

end Cert.Proj.OutSsm

end
-- ==== Proof.Proj.OutSsmClaims.lean ====
/-
  THE STATE-SPACE BRANCH'S OUTPUT PROJECTION, ADDED TO THE RESIDUAL: THE KERNEL'S RUN AND THE REFERENCE'S RUN, AT THE SAME ARRAYS.
-/
module

public import proofs.«01_k».proof.Proof.Proj.OutSsm
public import proofs.«01_k».proof.Proof.Gen.OutSsmRefIdeal.Read

@[expose] public section

noncomputable section

namespace Cert.Proj.OutSsm

open Idealize.ShloMosaic Idealize.SL.Sem Cert.Mlp Cert.Proj

section Reference
open Cert.OutSsmRefIdeal Cert.OutSsmRefIdeal.Gen Cert.OutSsmRefIdeal.Read

theorem ref_value (x : A2 8192 1024) (a : A2 8192 512) (b : A2 512 1024) : (val_main_v1 (F := Ideal) x a b : A2 8192 1024) = nnAdd x a b := by
  refine ext2 _ _ fun R J => ?_
  unfold val_main_v1 val_main_v0 nnAdd nn
  pointwise [dot_S8192x512_S512x1024_S8192x1024_1_0_0_1_n_n]

end Reference

section Kernel
open Cert.OutSsmIdeal Cert.OutSsmIdeal.Gen

/-- The kernel's run: its results; its arguments stay. -/
theorem kernel_run (m : Memory nD τ sig) (ρ : Dev nD → PrngReg) :
    θ_run defs (onTc main) ⟨m, fun _ => 0, ρ⟩ fun r => ∀ c,
      r.2.mem (c.tc.loc main_v2) = nnAdd (aX m c) (aA m c) (aB m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨(h c).1.trans (final m c), (h c).2⟩) (Value.run_blocks m ρ)

end Kernel

section Reference
open Cert.OutSsmRefIdeal Cert.OutSsmRefIdeal.Gen

/-- The reference's run, at the same functions. -/
theorem reference_run (m : Memory nD τ sig) (ρ : Dev nD → PrngReg)
    (p0 : Dev nD → A2 8192 1024) (p1 : Dev nD → A2 8192 512) (p2 : Dev nD → A2 512 1024)
    (hm : ∀ c, m (c.tc.loc main_arg0) = p0 c
      ∧ m (c.tc.loc main_arg1) = p1 c
      ∧ m (c.tc.loc main_arg2) = p2 c) :
    θ_run defs (onTc main) ⟨m, fun _ => 0, ρ⟩ fun r => ∀ c,
      r.2.mem (c.tc.loc main_v1) = nnAdd (p0 c) (p1 c) (p2 c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  refine (θ_run _ _ _).mono (fun r h c => ?_) (Value.run m ρ)
  obtain ⟨h0, h1, h2⟩ := hm c
  obtain ⟨r0, hr⟩ := h c
  refine ⟨r0.trans ?_, hr⟩
  · rw [Read.val_main_v1_eq, h0, h1, h2]; exact ref_value ..

end Reference

end Cert.Proj.OutSsm

end
-- ==== Proof.Proj.XaO.lean ====
/-
  THE CROSS-ATTENTION'S OUTPUT PROJECTION, ADDED TO THE RESIDUAL, AS THE KERNEL COMPUTES IT.

  Grid point `t` computes rows `1024 t …`: rows times the matrix, added to the residual.
-/
module

public import proofs.«01_k».proof.Proof.Gen.XaOIdeal.Value
public import proofs.«01_k».proof.Proof.Proj.Products

@[expose] public section

noncomputable section

namespace Cert.Proj.XaO

open Cert.XaOIdeal Cert.XaOIdeal.Gen Idealize.ShloMosaic Idealize.ShloMosaic.TcCoe Idealize.SL.Sem
open Idealize.ShloMosaic.StableHlo Cert.Mlp Cert.Proj

/-- What a grid point stores, from the blocks it reads. -/
theorem outA (c : Dev nD) (i : grid0.Coords) (a : Memref sig .tc .vmem S1024x512 .bf16) (ha : a.IsWhole)
    (b : Memref sig .tc .vmem S512x1024 .bf16) (hb : b.IsWhole) (u : Memref sig .tc .vmem S1024x1024 .f32) (hu : u.IsWhole)
    (o : Memref sig .tc .vmem S1024x1024 .f32) (ho : o.IsWhole) (s : Memref sig .tc .vmem S1024x1024 .f32) (hs : s.IsWhole)
    (x : Vec Ideal S1024x512 .bf16) (y : Vec Ideal S512x1024 .bf16) (res : Vec Ideal S1024x1024 .f32)
    (h0 : cond0_0 i) (h1 : cond0_1 i) :
    out0_A_3 c i a ha b hb u hu o ho s hs h0 h1 x y res = k0_pay3 (k0_pay2 x (k0_pay1 (F := Ideal)) y) res := by
  unfold out0_A_3
  rw [View.read_writes_eq_canon _ _ _ (cover0_A_3 c i a ha b hb u hu o ho s hs h0 h1 x y res)]
  unfold kernelRun0_A
  dsimp only
  sl_unfold_words
  rw [View.canon_unit_zero (S := S1024x1024) origin2]
  simp only [readCov_last (S := S1024x1024) _ origin2, View.readCov_unit_zero (S := S1024x1024) _ origin2,
    View.readAt_eq_ld, ha.read_unread, hb.read_unread, hu.read_unread, View.ld_unit_zero (S := S1024x512) origin2, View.ld_unit_zero (S := S512x1024) origin2, View.ld_unit_zero (S := S1024x1024) origin2, shapeCast_self]

/-- One entry of a block. -/
theorem block_at (x : Vec Ideal S1024x512 .bf16) (y : Vec Ideal S512x1024 .bf16) (res : Vec Ideal S1024x1024 .f32) (r : Fin 1024) (j : Fin 1024) :
    (k0_pay3 (k0_pay2 x (k0_pay1 (F := Ideal)) y) res : A2 1024 1024) (ix2 r j)
      = (res : A2 1024 1024) (ix2 r j) + ∑ k : Fin 512, (x : A2 1024 512) (ix2 r k) * (y : A2 512 1024) (ix2 k j) := by
  unfold k0_pay3 k0_pay2 k0_pay1
  pointwise [dot_S1024x512_S512x1024_S1024x1024_1_0_0_1_n_n]
  exact add_comm _ _

/-! ### The blocks -/

variable (m : Memory nD τ sig) (c : Dev nD)

/-- The arguments as launched: the two factors and the residual. -/
abbrev aA : A2 8192 512 := m (c.tc.loc main_arg1)
abbrev aB : A2 512 1024 := m (c.tc.loc main_arg2)
abbrev aX : A2 8192 1024 := m (c.tc.loc main_arg0)

theorem idx_facts : ∀ t : Fin cfg0.N,
    (win0_0.index t 0 = t.val ∧ win0_0.index t 1 = 0) ∧ (win0_1.index t 0 = 0 ∧ win0_1.index t 1 = 0) ∧ (win0_2.index t 0 = t.val ∧ win0_2.index t 1 = 0) ∧ (win0_3.index t 0 = t.val ∧ win0_3.index t 1 = 0) :=
  (by decide +kernel : ∀ t : Fin grid0.N, _)

theorem entry_a : (V m c main_v0 : A2 8192 512) = aA m c := by
  show StableHlo.after hostOps0 _ main_v0 = _
  unfold hostOps0
  after_results
  rfl

theorem entry_b : (V m c main_v1 : A2 512 1024) = aB m c := by
  show StableHlo.after hostOps0 _ main_v1 = _
  unfold hostOps0
  after_results
  rfl

theorem entry_x : (V m c main_arg0 : A2 8192 1024) = aX m c := by
  show StableHlo.after hostOps0 _ main_arg0 = _
  unfold hostOps0
  after_results

/-- The result's row and column of entry `(r, j)` of block `t`. -/
def rowIx (t : Fin cfg0.N) (r : Fin 1024) : Fin 8192 :=
  ⟨t.val * 1024 + r.val, by have hN : cfg0.N = 8 := N_0; omega⟩
def colIx (t : Fin cfg0.N) (j : Fin 1024) : Fin 1024 :=
  j

theorem blk_a (t : Fin cfg0.N) (r : Fin 1024) (k : Fin 512) :
    (iblk m c 0 t : A2 1024 512) (ix2 r k) = aA m c (ix2 (rowIx t r) k) := by
  have hi := (idx_facts t).1
  rw [← entry_a]
  unfold iblk
  rw [View.read_apply]
  show (V m c main_v0 : A2 8192 512) _ = _
  congr 1
  funext a
  apply Fin.ext
  match a with
  | ⟨0, _⟩ => show win0_0.index t 0 * 1024 + 1 * r.val = t.val * 1024 + r.val; rw [hi.1]; omega
  | ⟨1, _⟩ => show win0_0.index t 1 * 512 + 1 * k.val = k.val; rw [hi.2]; omega

theorem blk_b (t : Fin cfg0.N) (k : Fin 512) (j : Fin 1024) :
    (iblk m c 1 t : A2 512 1024) (ix2 k j) = aB m c (ix2 k (colIx t j)) := by
  have hi := (idx_facts t).2.1
  rw [← entry_b]
  unfold iblk
  rw [View.read_apply]
  show (V m c main_v1 : A2 512 1024) _ = _
  congr 1
  funext a
  apply Fin.ext
  match a with
  | ⟨0, _⟩ => show win0_1.index t 0 * 512 + 1 * k.val = k.val; rw [hi.1]; omega
  | ⟨1, _⟩ => show win0_1.index t 1 * 1024 + 1 * j.val = j.val; rw [hi.2]; omega

theorem blk_x (t : Fin cfg0.N) (r : Fin 1024) (j : Fin 1024) :
    (iblk m c 2 t : A2 1024 1024) (ix2 r j) = aX m c (ix2 (rowIx t r) (colIx t j)) := by
  have hi := (idx_facts t).2.2.1
  rw [← entry_x]
  unfold iblk
  rw [View.read_apply]
  show (V m c main_arg0 : A2 8192 1024) _ = _
  congr 1
  funext a
  apply Fin.ext
  match a with
  | ⟨0, _⟩ => show win0_2.index t 0 * 1024 + 1 * r.val = t.val * 1024 + r.val; rw [hi.1]; omega
  | ⟨1, _⟩ => show win0_2.index t 1 * 1024 + 1 * j.val = j.val; rw [hi.2]; omega

/-! ### The final array -/

theorem read_out (t : Fin cfg0.N) (G : A2 8192 1024) (r : Fin 1024) (j : Fin 1024) :
    (((cfg0.win 3).blk t).view.read (Elt Ideal) G : A2 1024 1024) (ix2 r j) = G (ix2 (rowIx t r) (colIx t j)) := by
  have hi := (idx_facts t).2.2.2
  rw [View.read_apply]
  show G _ = _
  congr 1
  funext a
  apply Fin.ext
  match a with
  | ⟨0, _⟩ => show win0_3.index t 0 * 1024 + 1 * r.val = t.val * 1024 + r.val; rw [hi.1]; omega
  | ⟨1, _⟩ => show win0_3.index t 1 * 1024 + 1 * j.val = j.val; rw [hi.2]; omega

theorem final : ((dats m 0 c).arrAt 3 cfg0.N : A2 8192 1024) = nnAdd (aX m c) (aA m c) (aB m c) := by
  refine (dats m 0 c).arrAt_eq_of_cover 3 (nnAdd (aX m c) (aA m c) (aB m c)) ?_ ?_
  · intro t _
    rw [Value.flushed3_A, outA]
    refine ext2 (a := 1024) (b := 1024) _ _ fun r j => ?_
    refine (block_at _ _ _ r j).trans (Eq.trans ?_ (read_out t (nnAdd (aX m c) (aA m c) (aB m c)) r j).symm)
    simp only [blk_a, blk_b, blk_x]
    rfl
  · intro i
    have h0 : (i 0 : Nat) < 8192 := (i 0).isLt
    have h1 : (i 1 : Nat) < 1024 := (i 1).isLt
    have hN : cfg0.N = 8 := N_0
    let t : Fin cfg0.N := ⟨(i 0 : Nat) / 1024, by omega⟩
    refine ⟨t, flush0_3 t, ?_⟩
    have hi := (idx_facts t).2.2.2
    have e0 : win0_3.index t 0 = (i 0 : Nat) / 1024 := hi.1
    have e1 : win0_3.index t 1 = 0 := hi.2
    show i ∈ ((View.whole main_v2).slice (win0_3.rect t)).set
    rw [View.set_slice_whole, Rect.mem_set_unit]
    intro a
    match a with
    | ⟨0, _⟩ => show win0_3.index t 0 * 1024 ≤ (i 0 : Nat) ∧ (i 0 : Nat) < win0_3.index t 0 * 1024 + 1024; rw [e0]; omega
    | ⟨1, _⟩ => show win0_3.index t 1 * 1024 ≤ (i 1 : Nat) ∧ (i 1 : Nat) < win0_3.index t 1 * 1024 + 1024; rw [e1]; omega

end Cert.Proj.XaO

end
-- ==== Proof.Proj.XaOClaims.lean ====
/-
  THE CROSS-ATTENTION'S OUTPUT PROJECTION, ADDED TO THE RESIDUAL: THE KERNEL'S RUN AND THE REFERENCE'S RUN, AT THE SAME ARRAYS.
-/
module

public import proofs.«01_k».proof.Proof.Proj.XaO
public import proofs.«01_k».proof.Proof.Gen.XaORefIdeal.Read

@[expose] public section

noncomputable section

namespace Cert.Proj.XaO

open Idealize.ShloMosaic Idealize.SL.Sem Cert.Mlp Cert.Proj

section Reference
open Cert.XaORefIdeal Cert.XaORefIdeal.Gen Cert.XaORefIdeal.Read

theorem ref_value (x : A2 8192 1024) (a : A2 8192 512) (b : A2 512 1024) : (val_main_v1 (F := Ideal) x a b : A2 8192 1024) = nnAdd x a b := by
  refine ext2 _ _ fun R J => ?_
  unfold val_main_v1 val_main_v0 nnAdd nn
  pointwise [dot_S8192x512_S512x1024_S8192x1024_1_0_0_1_n_n]

end Reference

section Kernel
open Cert.XaOIdeal Cert.XaOIdeal.Gen

/-- The kernel's run: its results; its arguments stay. -/
theorem kernel_run (m : Memory nD τ sig) (ρ : Dev nD → PrngReg) :
    θ_run defs (onTc main) ⟨m, fun _ => 0, ρ⟩ fun r => ∀ c,
      r.2.mem (c.tc.loc main_v2) = nnAdd (aX m c) (aA m c) (aB m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨(h c).1.trans (final m c), (h c).2⟩) (Value.run_blocks m ρ)

end Kernel

section Reference
open Cert.XaORefIdeal Cert.XaORefIdeal.Gen

/-- The reference's run, at the same functions. -/
theorem reference_run (m : Memory nD τ sig) (ρ : Dev nD → PrngReg)
    (p0 : Dev nD → A2 8192 1024) (p1 : Dev nD → A2 8192 512) (p2 : Dev nD → A2 512 1024)
    (hm : ∀ c, m (c.tc.loc main_arg0) = p0 c
      ∧ m (c.tc.loc main_arg1) = p1 c
      ∧ m (c.tc.loc main_arg2) = p2 c) :
    θ_run defs (onTc main) ⟨m, fun _ => 0, ρ⟩ fun r => ∀ c,
      r.2.mem (c.tc.loc main_v1) = nnAdd (p0 c) (p1 c) (p2 c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  refine (θ_run _ _ _).mono (fun r h c => ?_) (Value.run m ρ)
  obtain ⟨h0, h1, h2⟩ := hm c
  obtain ⟨r0, hr⟩ := h c
  refine ⟨r0.trans ?_, hr⟩
  · rw [Read.val_main_v1_eq, h0, h1, h2]; exact ref_value ..

end Reference

end Cert.Proj.XaO

end
-- ==== Proof.Proj.HeadPad.lean ====
/-
  HEADS OF 64 COLUMNS, PADDED TO 128.

  The stick-breaking attention has eight heads of 64 columns.  The kernels around it keep each head in 128 columns, the
  last 64 of them zero, and pad the rows of the output matrix in the same way.  A product over the padded columns is the
  product over the plain ones, because the padding contributes zeros.
-/
module

public import proofs.«01_k».proof.Proof.Proj.Products

@[expose] public section

noncomputable section

namespace Cert.Proj

open Idealize.ShloMosaic Cert.Mlp

/-- The plain position of padded position `k`, if `k` is not padding. -/
def Held (N k : Nat) : Prop := k % 128 < 64 ∧ k / 128 * 64 + k % 128 < N

instance (N k : Nat) : Decidable (Held N k) := inferInstanceAs (Decidable (_ ∧ _))

/-- A plain row of numbers, padded. -/
def padded {N : Nat} (f : Fin N → EReal) (k : Nat) : EReal :=
  if h : Held N k then f ⟨k / 128 * 64 + k % 128, h.2⟩ else 0

/-- The padded row at the place of a plain position. -/
theorem padded_of {N : Nat} (f : Fin N → EReal) (k : Nat) (n : Fin N) (h : k % 128 < 64)
    (hn : k / 128 * 64 + k % 128 = n.val) : padded f k = f n := by
  have hh : Held N k := ⟨h, by rw [hn]; exact n.isLt⟩
  unfold padded
  rw [dif_pos hh]
  congr 1
  exact Fin.ext hn

/-- The padded row in the padding. -/
theorem padded_zero {N : Nat} (f : Fin N → EReal) (k : Nat) (h : ¬k % 128 < 64) : padded f k = 0 := by
  unfold padded
  exact dif_neg fun hh => h hh.1

/-- The padding value is the integer zero as a float. -/
theorem pad_value {φ : FTy} : FloatOps.sitofp (F := Ideal) φ (0#32) = 0 := by
  show ((((0#32 : BitVec 32).toInt : ℝ)) : EReal) = 0
  simp

/-- The padding as the host writes it: `H` heads. -/
theorem padded_host {N : Nat} (f : Fin N → EReal) (k H : Nat) (hN : H * 64 = N) (z : EReal) (hz : z = 0) :
    (if h : k / 128 < H ∧ k % 128 < 64 then f ⟨k / 128 * 64 + k % 128, by omega⟩ else z) = padded f k := by
  unfold padded
  by_cases h : k / 128 < H ∧ k % 128 < 64
  · have hh : Held N k := ⟨h.2, by omega⟩
    rw [dif_pos h, dif_pos hh]
  · have hh : ¬Held N k := fun hh => h ⟨by have := hh.2; have := hh.1; omega, hh.1⟩
    rw [dif_neg h, dif_neg hh, hz]

/-- Each head's columns, padded. -/
def padCols {M N : Nat} (N' : Nat) (a : A2 M N) : A2 M N' := fun i => padded (fun n => a (ix2 (i 0) n)) (i 1).val

/-- Each head's rows, padded. -/
def padRows {M N : Nat} (M' : Nat) (a : A2 M N) : A2 M' N := fun i => padded (fun n => a (ix2 n (i 1))) (i 0).val

/-- A sum over the padded positions is the sum over the plain ones. -/
theorem sum_padded (F : Fin 1024 → EReal) (f : Fin 512 → EReal)
    (h0 : ∀ k : Fin 1024, ¬k.val % 128 < 64 → F k = 0)
    (h1 : ∀ (k : Fin 1024) (n : Fin 512), k.val % 128 < 64 → k.val / 128 * 64 + k.val % 128 = n.val → F k = f n) :
    ∑ k, F k = ∑ n, f n := by
  let e : Fin 512 → Fin 1024 := fun n => ⟨n.val / 64 * 128 + n.val % 64, by omega⟩
  refine (Fintype.sum_of_injective e ?_ f F ?_ ?_).symm
  · intro n n' h
    have h' := congrArg Fin.val h
    change n.val / 64 * 128 + n.val % 64 = n'.val / 64 * 128 + n'.val % 64 at h'
    exact Fin.ext (by omega)
  · intro k hk
    refine h0 k fun hlt => hk ?_
    have hkk := k.isLt
    exact ⟨⟨k.val / 128 * 64 + k.val % 128, by omega⟩, Fin.ext (by
      show (k.val / 128 * 64 + k.val % 128) / 64 * 128 + (k.val / 128 * 64 + k.val % 128) % 64 = k.val
      omega)⟩
  · intro n
    refine (h1 (e n) n ?_ ?_).symm
    · show (n.val / 64 * 128 + n.val % 64) % 128 < 64
      omega
    · show (n.val / 64 * 128 + n.val % 64) / 128 * 64 + (n.val / 64 * 128 + n.val % 64) % 128 = n.val
      omega

/-- Padded columns times padded rows. -/
theorem nn_padded {M N : Nat} (a : A2 M 512) (b : A2 512 N) : nn (padCols 1024 a) (padRows 1024 b) = nn a b := by
  refine ext2 _ _ fun r j => ?_
  refine sum_padded _ _ (fun k hk => ?_) (fun k n hk hn => ?_)
  · show padded _ k.val * padded _ k.val = 0
    rw [padded_zero _ _ hk, zero_mul]
  · show padded _ k.val * padded _ k.val = _
    rw [padded_of _ _ n hk hn, padded_of _ _ n hk hn]
    rfl

theorem nnAdd_padded {M N : Nat} (x : A2 M N) (a : A2 M 512) (b : A2 512 N) :
    nnAdd x (padCols 1024 a) (padRows 1024 b) = nnAdd x a b := by
  unfold nnAdd
  rw [nn_padded]

/-- A product by a matrix transposed, its columns padded. -/
abbrev ntPad {M K : Nat} (a : A2 M K) (b : A2 512 K) : A2 M 1024 := padCols 1024 (nt a b)

/-- A product of rows transposed by rows, its rows padded. -/
abbrev tnPad {K N : Nat} (a : A2 K 512) (b : A2 K N) : A2 1024 N := padRows 1024 (tn a b)

/-- A product by padded rows transposed has padded columns. -/
theorem nt_padded {M K : Nat} (a : A2 M K) (b : A2 512 K) : nt a (padRows 1024 b) = padCols 1024 (nt a b) := by
  refine ext2 _ _ fun r j => ?_
  show ∑ k : Fin K, a (ix2 r k) * padded (fun n => b (ix2 n k)) j.val = padded _ j.val
  by_cases hj : Held 512 j.val
  · unfold padded
    simp only [dif_pos hj]
    rfl
  · unfold padded
    simp only [dif_neg hj, mul_zero, Finset.sum_const_zero]

/-- Padded columns transposed, times rows, has padded rows. -/
theorem tn_padded {K N : Nat} (a : A2 K 512) (b : A2 K N) : tn (padCols 1024 a) b = padRows 1024 (tn a b) := by
  refine ext2 _ _ fun r j => ?_
  show ∑ k : Fin K, padded (fun n => a (ix2 k n)) r.val * b (ix2 k j) = padded _ r.val
  by_cases hr : Held 512 r.val
  · unfold padded
    simp only [dif_pos hr]
    rfl
  · unfold padded
    simp only [dif_neg hr, zero_mul, Finset.sum_const_zero]

/-- Three arrays of 512 columns, side by side. -/
def cat3 {M : Nat} (a b c : A2 M 512) : A2 M 1536 := fun i =>
  if h : (i 1).val < 512 then a (ix2 (i 0) ⟨(i 1).val, h⟩)
  else if h' : (i 1).val < 1024 then b (ix2 (i 0) ⟨(i 1).val - 512, by omega⟩)
  else c (ix2 (i 0) ⟨(i 1).val - 1024, by have : (i 1).val < 1536 := (i 1).isLt; omega⟩)

/-- The array of three side by side, at an index of given coordinates. -/
theorem cat3_at {M : Nat} (a b c : A2 M 512) (r : Fin M) (n : Fin 1536) :
    cat3 a b c (ix2 r n) = if h : n.val < 512 then a (ix2 r ⟨n.val, h⟩)
      else if h' : n.val < 1024 then b (ix2 r ⟨n.val - 512, by omega⟩)
      else c (ix2 r ⟨n.val - 1024, by have := n.isLt; omega⟩) := rfl

/-- Three padded arrays side by side are the padded array of the three side by side. -/
theorem padCols_cat3 {M : Nat} (a b c : A2 M 512) (r : Fin M) (j : Fin 3072) :
    (if h : j.val < 1024 then padCols 1024 a (ix2 r (⟨j.val, h⟩ : Fin 1024))
      else if h' : j.val - 1024 < 1024 then padCols 1024 b (ix2 r (⟨j.val - 1024, h'⟩ : Fin 1024))
      else padCols 1024 c (ix2 r (⟨j.val - 1024 - 1024, by omega⟩ : Fin 1024)))
      = padCols 3072 (cat3 a b c) (ix2 r j) := by
  have hj := j.isLt
  show _ = padded (fun n => cat3 a b c (ix2 r n)) j.val
  by_cases hp : j.val % 128 < 64
  · have key : padded (fun n => cat3 a b c (ix2 r n)) j.val
        = cat3 a b c (ix2 r ⟨j.val / 128 * 64 + j.val % 128, by omega⟩) := padded_of _ _ _ hp rfl
    rw [key, cat3_at]
    dsimp only
    by_cases h1 : j.val < 1024
    · rw [dif_pos h1, dif_pos (show j.val / 128 * 64 + j.val % 128 < 512 by omega)]
      exact padded_of _ _ (⟨j.val / 128 * 64 + j.val % 128, by omega⟩ : Fin 512) hp rfl
    · rw [dif_neg h1, dif_neg (show ¬j.val / 128 * 64 + j.val % 128 < 512 by omega)]
      by_cases h2 : j.val - 1024 < 1024
      · rw [dif_pos h2, dif_pos (show j.val / 128 * 64 + j.val % 128 < 1024 by omega)]
        exact padded_of _ _ (⟨j.val / 128 * 64 + j.val % 128 - 512, by omega⟩ : Fin 512)
          (show (j.val - 1024) % 128 < 64 by omega)
          (show (j.val - 1024) / 128 * 64 + (j.val - 1024) % 128 = j.val / 128 * 64 + j.val % 128 - 512 by omega)
      · rw [dif_neg h2, dif_neg (show ¬j.val / 128 * 64 + j.val % 128 < 1024 by omega)]
        exact padded_of _ _ (⟨j.val / 128 * 64 + j.val % 128 - 1024, by omega⟩ : Fin 512)
          (show (j.val - 1024 - 1024) % 128 < 64 by omega)
          (show (j.val - 1024 - 1024) / 128 * 64 + (j.val - 1024 - 1024) % 128
            = j.val / 128 * 64 + j.val % 128 - 1024 by omega)
  · rw [padded_zero _ _ hp]
    by_cases h1 : j.val < 1024
    · rw [dif_pos h1]
      exact padded_zero _ _ hp
    · rw [dif_neg h1]
      by_cases h2 : j.val - 1024 < 1024
      · rw [dif_pos h2]
        exact padded_zero _ _ (show ¬(j.val - 1024) % 128 < 64 by omega)
      · rw [dif_neg h2]
        exact padded_zero _ _ (show ¬(j.val - 1024 - 1024) % 128 < 64 by omega)

/-- The array of three side by side as the host reads it. -/
theorem cat3_host {M : Nat} (a b c : A2 M 512) (r : Fin M) (n : Fin 1536) :
    cat3 a b c (ix2 r n) = if h : n.val < 512 then a (ix2 r ⟨n.val, h⟩)
      else if h' : n.val - 512 < 512 then b (ix2 r ⟨n.val - 512, h'⟩)
      else c (ix2 r ⟨n.val - 512 - 512, by have := n.isLt; omega⟩) := by
  rw [cat3_at]
  by_cases h1 : n.val < 512
  · rw [dif_pos h1, dif_pos h1]
  · rw [dif_neg h1, dif_neg h1]
    by_cases h2 : n.val < 1024
    · rw [dif_pos h2, dif_pos (show n.val - 512 < 512 by omega)]
    · rw [dif_neg h2, dif_neg (show ¬n.val - 512 < 512 by omega)]
      congr 2

/-- A product of rows transposed by rows, whose columns are padded. -/
theorem tn_padCols {K M N N' : Nat} (a : A2 K M) (b : A2 K N) : tn a (padCols N' b) = padCols N' (tn a b) := by
  refine ext2 _ _ fun r j => ?_
  show ∑ k : Fin K, a (ix2 k r) * padded (fun n => b (ix2 k n)) j.val = padded _ j.val
  by_cases hj : Held N j.val
  · unfold padded
    simp only [dif_pos hj]
    rfl
  · unfold padded
    simp only [dif_neg hj, mul_zero, Finset.sum_const_zero]

/-- A product by three arrays side by side is the three products side by side. -/
theorem tn_cat3 {K M : Nat} (h : A2 K M) (a b c : A2 K 512) : tn h (cat3 a b c) = cat3 (tn h a) (tn h b) (tn h c) := by
  refine ext2 _ _ fun r j => ?_
  show ∑ k : Fin K, h (ix2 k r) * cat3 a b c (ix2 k j) = cat3 _ _ _ (ix2 r j)
  unfold cat3
  by_cases h1 : j.val < 512
  · have e : ((ix2 r j : (⟨2, ![M, 1536]⟩ : Shape).Idx) 1).val < 512 := h1
    rw [dif_pos e]
    refine Finset.sum_congr rfl fun k _ => ?_
    have e' : ((ix2 k j : (⟨2, ![K, 1536]⟩ : Shape).Idx) 1).val < 512 := h1
    rw [dif_pos e']
    rfl
  · have e : ¬((ix2 r j : (⟨2, ![M, 1536]⟩ : Shape).Idx) 1).val < 512 := h1
    rw [dif_neg e]
    by_cases h2 : j.val < 1024
    · have f : ((ix2 r j : (⟨2, ![M, 1536]⟩ : Shape).Idx) 1).val < 1024 := h2
      rw [dif_pos f]
      refine Finset.sum_congr rfl fun k _ => ?_
      have e' : ¬((ix2 k j : (⟨2, ![K, 1536]⟩ : Shape).Idx) 1).val < 512 := h1
      have f' : ((ix2 k j : (⟨2, ![K, 1536]⟩ : Shape).Idx) 1).val < 1024 := h2
      rw [dif_neg e', dif_pos f']
      rfl
    · have f : ¬((ix2 r j : (⟨2, ![M, 1536]⟩ : Shape).Idx) 1).val < 1024 := h2
      rw [dif_neg f]
      refine Finset.sum_congr rfl fun k _ => ?_
      have e' : ¬((ix2 k j : (⟨2, ![K, 1536]⟩ : Shape).Idx) 1).val < 512 := h1
      have f' : ¬((ix2 k j : (⟨2, ![K, 1536]⟩ : Shape).Idx) 1).val < 1024 := h2
      rw [dif_neg e', dif_neg f']
      rfl

/-- The three gradients, side by side, their columns padded. -/
abbrev tnQkv {K M : Nat} (h : A2 K M) (a b c : A2 K 512) : A2 M 3072 := padCols 3072 (cat3 (tn h a) (tn h b) (tn h c))

/-- The three products side by side, each product's factors the other way round. -/
theorem cat3_sums {K M : Nat} (h : A2 K M) (a b c : A2 K 512) (r : Fin M) (n : Fin 1536) :
    (if h1 : n.val < 512 then ∑ k, a (ix2 k ⟨n.val, h1⟩) * h (ix2 k r)
      else if h2 : n.val - 512 < 512 then ∑ k, b (ix2 k ⟨n.val - 512, h2⟩) * h (ix2 k r)
      else ∑ k, c (ix2 k ⟨n.val - 512 - 512, by have := n.isLt; omega⟩) * h (ix2 k r))
      = cat3 (tn h a) (tn h b) (tn h c) (ix2 r n) := by
  rw [cat3_host]
  by_cases h1 : n.val < 512
  · rw [dif_pos h1, dif_pos h1]
    exact Finset.sum_congr rfl fun _ _ => mul_comm _ _
  · rw [dif_neg h1, dif_neg h1]
    by_cases h2 : n.val - 512 < 512
    · rw [dif_pos h2, dif_pos h2]
      exact Finset.sum_congr rfl fun _ _ => mul_comm _ _
    · rw [dif_neg h2, dif_neg h2]
      exact Finset.sum_congr rfl fun _ _ => mul_comm _ _

/-- The three products side by side and padded, as the host writes them. -/
theorem tnQkv_host {K M : Nat} (h : A2 K M) (a b c : A2 K 512) (r : Fin M) (j : Fin 3072) (z : EReal) (hz : z = 0) :
    (if hj : j.val / 128 < 24 ∧ j.val % 128 < 64 then
        (if h1 : j.val / 128 * 64 + j.val % 128 < 512 then
          ∑ k, a (ix2 k ⟨j.val / 128 * 64 + j.val % 128, h1⟩) * h (ix2 k r)
        else if h2 : j.val / 128 * 64 + j.val % 128 - 512 < 512 then
          ∑ k, b (ix2 k ⟨j.val / 128 * 64 + j.val % 128 - 512, h2⟩) * h (ix2 k r)
        else ∑ k, c (ix2 k ⟨j.val / 128 * 64 + j.val % 128 - 512 - 512, by omega⟩) * h (ix2 k r))
      else z) = tnQkv h a b c (ix2 r j) := by
  have key := padded_host (fun n => cat3 (tn h a) (tn h b) (tn h c) (ix2 r n)) j.val 24 rfl z hz
  refine Eq.trans ?_ key
  refine dite_congr rfl (fun hj => ?_) fun _ => rfl
  exact cat3_sums h a b c r ⟨j.val / 128 * 64 + j.val % 128, by omega⟩

end Cert.Proj

end
-- ==== Proof.Proj.OutSb.lean ====
/-
  THE ATTENTION'S OUTPUT PROJECTION, ADDED TO THE RESIDUAL, AS THE KERNEL COMPUTES IT.

  Grid point `t` computes rows `1024 t …`: rows times the matrix, added to the residual.
-/
module

public import proofs.«01_k».proof.Proof.Gen.OutSbIdeal.Value
public import proofs.«01_k».proof.Proof.Proj.HeadPad

@[expose] public section

noncomputable section

namespace Cert.Proj.OutSb

open Cert.OutSbIdeal Cert.OutSbIdeal.Gen Idealize.ShloMosaic Idealize.ShloMosaic.TcCoe Idealize.SL.Sem
open Idealize.ShloMosaic.StableHlo Cert.Mlp Cert.Proj

/-- What a grid point stores, from the blocks it reads. -/
theorem outA (c : Dev nD) (i : grid0.Coords) (a : Memref sig .tc .vmem S1024x1024 .bf16) (ha : a.IsWhole)
    (b : Memref sig .tc .vmem S1024x1024 .bf16) (hb : b.IsWhole) (u : Memref sig .tc .vmem S1024x1024 .f32) (hu : u.IsWhole)
    (o : Memref sig .tc .vmem S1024x1024 .f32) (ho : o.IsWhole) (s : Memref sig .tc .vmem S1024x1024 .f32) (hs : s.IsWhole)
    (x : Vec Ideal S1024x1024 .bf16) (y : Vec Ideal S1024x1024 .bf16) (res : Vec Ideal S1024x1024 .f32)
    (h0 : cond0_0 i) (h1 : cond0_1 i) :
    out0_A_3 c i a ha b hb u hu o ho s hs h0 h1 x y res = k0_pay3 (k0_pay2 x (k0_pay1 (F := Ideal)) y) res := by
  unfold out0_A_3
  rw [View.read_writes_eq_canon _ _ _ (cover0_A_3 c i a ha b hb u hu o ho s hs h0 h1 x y res)]
  unfold kernelRun0_A
  dsimp only
  sl_unfold_words
  rw [View.canon_unit_zero (S := S1024x1024) origin2]
  simp only [readCov_last (S := S1024x1024) _ origin2, View.readCov_unit_zero (S := S1024x1024) _ origin2,
    View.readAt_eq_ld, ha.read_unread, hb.read_unread, hu.read_unread, View.ld_unit_zero (S := S1024x1024) origin2, shapeCast_self]

/-- One entry of a block. -/
theorem block_at (x : Vec Ideal S1024x1024 .bf16) (y : Vec Ideal S1024x1024 .bf16) (res : Vec Ideal S1024x1024 .f32) (r : Fin 1024) (j : Fin 1024) :
    (k0_pay3 (k0_pay2 x (k0_pay1 (F := Ideal)) y) res : A2 1024 1024) (ix2 r j)
      = (res : A2 1024 1024) (ix2 r j) + ∑ k : Fin 1024, (x : A2 1024 1024) (ix2 r k) * (y : A2 1024 1024) (ix2 k j) := by
  unfold k0_pay3 k0_pay2 k0_pay1
  pointwise [dot_S1024x1024_S1024x1024_S1024x1024_1_0_0_1_n_n]
  exact add_comm _ _

/-! ### The blocks -/

variable (m : Memory nD τ sig) (c : Dev nD)

/-- The arguments as launched: the two factors and the residual. -/
abbrev aA : A2 8192 512 := m (c.tc.loc main_arg1)
abbrev aB : A2 512 1024 := m (c.tc.loc main_arg2)
abbrev aX : A2 8192 1024 := m (c.tc.loc main_arg0)

theorem idx_facts : ∀ t : Fin cfg0.N,
    (win0_0.index t 0 = t.val ∧ win0_0.index t 1 = 0) ∧ (win0_1.index t 0 = 0 ∧ win0_1.index t 1 = 0) ∧ (win0_2.index t 0 = t.val ∧ win0_2.index t 1 = 0) ∧ (win0_3.index t 0 = t.val ∧ win0_3.index t 1 = 0) :=
  (by decide +kernel : ∀ t : Fin grid0.N, _)

theorem entry_a : (V m c main_v3 : A2 8192 1024) = padCols 1024 (aA m c) := by
  show StableHlo.after (List.flatten [hostOps0, hostOps0_1, hostOps0_2, hostOps0_3, hostOps0_4]) _ main_v3 = _
  unfold hostOps0 hostOps0_1 hostOps0_2 hostOps0_3 hostOps0_4
  simp only [List.flatten_cons, List.flatten_nil, List.cons_append, List.nil_append]
  after_results
  refine ext2 _ _ fun r j => ?_
  pointwise
  simp only [TRef.toBuf, TRef.ofBuf, TRef.of, cast_eq]
  pointwise
  exact padded_host (fun n => aA m c (ix2 r n)) j.val 8 rfl _ pad_value

theorem entry_b : (V m c main_v7 : A2 1024 1024) = padRows 1024 (aB m c) := by
  show StableHlo.after (List.flatten [hostOps0, hostOps0_1, hostOps0_2, hostOps0_3, hostOps0_4]) _ main_v7 = _
  unfold hostOps0 hostOps0_1 hostOps0_2 hostOps0_3 hostOps0_4
  simp only [List.flatten_cons, List.flatten_nil, List.cons_append, List.nil_append]
  after_results
  refine ext2 _ _ fun r j => ?_
  pointwise
  simp only [TRef.toBuf, TRef.ofBuf, TRef.of, cast_eq]
  pointwise
  exact padded_host (fun n => aB m c (ix2 n j)) r.val 8 rfl _ pad_value

theorem entry_x : (V m c main_arg0 : A2 8192 1024) = aX m c := by
  show StableHlo.after (List.flatten [hostOps0, hostOps0_1, hostOps0_2, hostOps0_3, hostOps0_4]) _ main_arg0 = _
  unfold hostOps0 hostOps0_1 hostOps0_2 hostOps0_3 hostOps0_4
  simp only [List.flatten_cons, List.flatten_nil, List.cons_append, List.nil_append]
  after_results

/-- The result's row and column of entry `(r, j)` of block `t`. -/
def rowIx (t : Fin cfg0.N) (r : Fin 1024) : Fin 8192 :=
  ⟨t.val * 1024 + r.val, by have hN : cfg0.N = 8 := N_0; omega⟩
def colIx (t : Fin cfg0.N) (j : Fin 1024) : Fin 1024 :=
  j

theorem blk_a (t : Fin cfg0.N) (r : Fin 1024) (k : Fin 1024) :
    (iblk m c 0 t : A2 1024 1024) (ix2 r k) = (padCols 1024 (aA m c)) (ix2 (rowIx t r) k) := by
  have hi := (idx_facts t).1
  rw [← entry_a]
  unfold iblk
  rw [View.read_apply]
  show (V m c main_v3 : A2 8192 1024) _ = _
  congr 1
  funext a
  apply Fin.ext
  match a with
  | ⟨0, _⟩ => show win0_0.index t 0 * 1024 + 1 * r.val = t.val * 1024 + r.val; rw [hi.1]; omega
  | ⟨1, _⟩ => show win0_0.index t 1 * 1024 + 1 * k.val = k.val; rw [hi.2]; omega

theorem blk_b (t : Fin cfg0.N) (k : Fin 1024) (j : Fin 1024) :
    (iblk m c 1 t : A2 1024 1024) (ix2 k j) = (padRows 1024 (aB m c)) (ix2 k (colIx t j)) := by
  have hi := (idx_facts t).2.1
  rw [← entry_b]
  unfold iblk
  rw [View.read_apply]
  show (V m c main_v7 : A2 1024 1024) _ = _
  congr 1
  funext a
  apply Fin.ext
  match a with
  | ⟨0, _⟩ => show win0_1.index t 0 * 1024 + 1 * k.val = k.val; rw [hi.1]; omega
  | ⟨1, _⟩ => show win0_1.index t 1 * 1024 + 1 * j.val = j.val; rw [hi.2]; omega

theorem blk_x (t : Fin cfg0.N) (r : Fin 1024) (j : Fin 1024) :
    (iblk m c 2 t : A2 1024 1024) (ix2 r j) = (aX m c) (ix2 (rowIx t r) (colIx t j)) := by
  have hi := (idx_facts t).2.2.1
  rw [← entry_x]
  unfold iblk
  rw [View.read_apply]
  show (V m c main_arg0 : A2 8192 1024) _ = _
  congr 1
  funext a
  apply Fin.ext
  match a with
  | ⟨0, _⟩ => show win0_2.index t 0 * 1024 + 1 * r.val = t.val * 1024 + r.val; rw [hi.1]; omega
  | ⟨1, _⟩ => show win0_2.index t 1 * 1024 + 1 * j.val = j.val; rw [hi.2]; omega

/-! ### The final array -/

theorem read_out (t : Fin cfg0.N) (G : A2 8192 1024) (r : Fin 1024) (j : Fin 1024) :
    (((cfg0.win 3).blk t).view.read (Elt Ideal) G : A2 1024 1024) (ix2 r j) = G (ix2 (rowIx t r) (colIx t j)) := by
  have hi := (idx_facts t).2.2.2
  rw [View.read_apply]
  show G _ = _
  congr 1
  funext a
  apply Fin.ext
  match a with
  | ⟨0, _⟩ => show win0_3.index t 0 * 1024 + 1 * r.val = t.val * 1024 + r.val; rw [hi.1]; omega
  | ⟨1, _⟩ => show win0_3.index t 1 * 1024 + 1 * j.val = j.val; rw [hi.2]; omega

theorem final : ((dats m 0 c).arrAt 3 cfg0.N : A2 8192 1024) = nnAdd (aX m c) (padCols 1024 (aA m c)) (padRows 1024 (aB m c)) := by
  refine (dats m 0 c).arrAt_eq_of_cover 3 (nnAdd (aX m c) (padCols 1024 (aA m c)) (padRows 1024 (aB m c))) ?_ ?_
  · intro t _
    rw [Value.flushed3_A, outA]
    refine ext2 (a := 1024) (b := 1024) _ _ fun r j => ?_
    refine (block_at _ _ _ r j).trans (Eq.trans ?_ (read_out t (nnAdd (aX m c) (padCols 1024 (aA m c)) (padRows 1024 (aB m c))) r j).symm)
    simp only [blk_a, blk_b, blk_x]
    rfl
  · intro i
    have h0 : (i 0 : Nat) < 8192 := (i 0).isLt
    have h1 : (i 1 : Nat) < 1024 := (i 1).isLt
    have hN : cfg0.N = 8 := N_0
    let t : Fin cfg0.N := ⟨(i 0 : Nat) / 1024, by omega⟩
    refine ⟨t, flush0_3 t, ?_⟩
    have hi := (idx_facts t).2.2.2
    have e0 : win0_3.index t 0 = (i 0 : Nat) / 1024 := hi.1
    have e1 : win0_3.index t 1 = 0 := hi.2
    show i ∈ ((View.whole main_v8).slice (win0_3.rect t)).set
    rw [View.set_slice_whole, Rect.mem_set_unit]
    intro a
    match a with
    | ⟨0, _⟩ => show win0_3.index t 0 * 1024 ≤ (i 0 : Nat) ∧ (i 0 : Nat) < win0_3.index t 0 * 1024 + 1024; rw [e0]; omega
    | ⟨1, _⟩ => show win0_3.index t 1 * 1024 ≤ (i 1 : Nat) ∧ (i 1 : Nat) < win0_3.index t 1 * 1024 + 1024; rw [e1]; omega

/-- The same, without the padding. -/
theorem plain : ((dats m 0 c).arrAt 3 cfg0.N : A2 8192 1024) = nnAdd (aX m c) (aA m c) (aB m c) :=
  (final m c).trans (nnAdd_padded ..)

end Cert.Proj.OutSb

end
-- ==== Proof.Proj.OutSbClaims.lean ====
/-
  THE ATTENTION'S OUTPUT PROJECTION, ADDED TO THE RESIDUAL: THE KERNEL'S RUN AND THE REFERENCE'S RUN, AT THE SAME ARRAYS.
-/
module

public import proofs.«01_k».proof.Proof.Proj.OutSb
public import proofs.«01_k».proof.Proof.Gen.OutSbRefIdeal.Read

@[expose] public section

noncomputable section

namespace Cert.Proj.OutSb

open Idealize.ShloMosaic Idealize.SL.Sem Cert.Mlp Cert.Proj

section Reference
open Cert.OutSbRefIdeal Cert.OutSbRefIdeal.Gen Cert.OutSbRefIdeal.Read

theorem ref_value (x : A2 8192 1024) (a : A2 8192 512) (b : A2 512 1024) : (val_main_v1 (F := Ideal) x a b : A2 8192 1024) = nnAdd x a b := by
  refine ext2 _ _ fun R J => ?_
  unfold val_main_v1 val_main_v0 nnAdd nn
  pointwise [dot_S8192x512_S512x1024_S8192x1024_1_0_0_1_n_n]

end Reference

section Kernel
open Cert.OutSbIdeal Cert.OutSbIdeal.Gen

/-- The kernel's run: its results; its arguments stay. -/
theorem kernel_run (m : Memory nD τ sig) (ρ : Dev nD → PrngReg) :
    θ_run defs (onTc main) ⟨m, fun _ => 0, ρ⟩ fun r => ∀ c,
      r.2.mem (c.tc.loc main_v8) = nnAdd (aX m c) (aA m c) (aB m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨(h c).1.trans (plain m c), (h c).2⟩) (Value.run_blocks m ρ)

end Kernel

section Reference
open Cert.OutSbRefIdeal Cert.OutSbRefIdeal.Gen

/-- The reference's run, at the same functions. -/
theorem reference_run (m : Memory nD τ sig) (ρ : Dev nD → PrngReg)
    (p0 : Dev nD → A2 8192 1024) (p1 : Dev nD → A2 8192 512) (p2 : Dev nD → A2 512 1024)
    (hm : ∀ c, m (c.tc.loc main_arg0) = p0 c
      ∧ m (c.tc.loc main_arg1) = p1 c
      ∧ m (c.tc.loc main_arg2) = p2 c) :
    θ_run defs (onTc main) ⟨m, fun _ => 0, ρ⟩ fun r => ∀ c,
      r.2.mem (c.tc.loc main_v1) = nnAdd (p0 c) (p1 c) (p2 c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  refine (θ_run _ _ _).mono (fun r h c => ?_) (Value.run m ρ)
  obtain ⟨h0, h1, h2⟩ := hm c
  obtain ⟨r0, hr⟩ := h c
  refine ⟨r0.trans ?_, hr⟩
  · rw [Read.val_main_v1_eq, h0, h1, h2]; exact ref_value ..

end Reference

end Cert.Proj.OutSb

end
-- ==== Proof.Proj.DYnSb.lean ====
/-
  THE COTANGENT OF THE ATTENTION'S RESULT, THROUGH ITS OUTPUT PROJECTION, AS THE KERNEL COMPUTES IT.

  Grid point `t` computes rows `1024 t …`: rows times the matrix transposed.
-/
module

public import proofs.«01_k».proof.Proof.Gen.DYnSbIdeal.Value
public import proofs.«01_k».proof.Proof.Proj.HeadPad

@[expose] public section

noncomputable section

namespace Cert.Proj.DYnSb

open Cert.DYnSbIdeal Cert.DYnSbIdeal.Gen Idealize.ShloMosaic Idealize.ShloMosaic.TcCoe Idealize.SL.Sem
open Idealize.ShloMosaic.StableHlo Cert.Mlp Cert.Proj

/-- What a grid point stores, from the blocks it reads. -/
theorem outA (c : Dev nD) (i : grid0.Coords) (a : Memref sig .tc .vmem S1024x1024 .bf16) (ha : a.IsWhole)
    (b : Memref sig .tc .vmem S1024x1024 .bf16) (hb : b.IsWhole)
    (o : Memref sig .tc .vmem S1024x1024 .f32) (ho : o.IsWhole) (s : Memref sig .tc .vmem S1024x1024 .f32) (hs : s.IsWhole)
    (x : Vec Ideal S1024x1024 .bf16) (y : Vec Ideal S1024x1024 .bf16)
    (h0 : cond0_0 i) (h1 : cond0_1 i) :
    out0_A_2 c i a ha b hb o ho s hs h0 h1 x y = k0_pay2 x (k0_pay1 (F := Ideal)) y := by
  unfold out0_A_2
  rw [View.read_writes_eq_canon _ _ _ (cover0_A_2 c i a ha b hb o ho s hs h0 h1 x y)]
  unfold kernelRun0_A
  dsimp only
  sl_unfold_words
  rw [View.canon_unit_zero (S := S1024x1024) origin2]
  simp only [readCov_last (S := S1024x1024) _ origin2, View.readCov_unit_zero (S := S1024x1024) _ origin2,
    View.readAt_eq_ld, ha.read_unread, hb.read_unread, View.ld_unit_zero (S := S1024x1024) origin2, shapeCast_self]

/-- One entry of a block. -/
theorem block_at (x : Vec Ideal S1024x1024 .bf16) (y : Vec Ideal S1024x1024 .bf16) (r : Fin 1024) (j : Fin 1024) :
    (k0_pay2 x (k0_pay1 (F := Ideal)) y : A2 1024 1024) (ix2 r j)
      = ∑ k : Fin 1024, (x : A2 1024 1024) (ix2 r k) * (y : A2 1024 1024) (ix2 j k) := by
  unfold k0_pay2 k0_pay1
  pointwise [dot_S1024x1024_S1024x1024_S1024x1024_1_1_0_0_n_n]

/-! ### The blocks -/

variable (m : Memory nD τ sig) (c : Dev nD)

/-- The arguments as launched: the two factors. -/
abbrev aA : A2 8192 1024 := m (c.tc.loc main_arg2)
abbrev aB : A2 512 1024 := m (c.tc.loc main_arg1)

theorem idx_facts : ∀ t : Fin cfg0.N,
    (win0_0.index t 0 = t.val ∧ win0_0.index t 1 = 0) ∧ (win0_1.index t 0 = 0 ∧ win0_1.index t 1 = 0) ∧ (win0_2.index t 0 = t.val ∧ win0_2.index t 1 = 0) :=
  (by decide +kernel : ∀ t : Fin grid0.N, _)

theorem entry_a : (V m c main_v0 : A2 8192 1024) = aA m c := by
  have h : (V m c main_v0 : A2 8192 1024) = truncf (F := Ideal) (φ := .f32) .bf16 (aA m c) bitsLt_bf16_f32 := by
    show StableHlo.after (List.flatten [hostOps0, hostOps0_1, hostOps0_2]) _ main_v0 = _
    unfold hostOps0 hostOps0_1 hostOps0_2
    simp only [List.flatten_cons, List.flatten_nil, List.cons_append, List.nil_append]
    after_results
  rw [h]; funext i
  pointwise

theorem entry_b : (V m c main_v4 : A2 1024 1024) = padRows 1024 (aB m c) := by
  show StableHlo.after (List.flatten [hostOps0, hostOps0_1, hostOps0_2]) _ main_v4 = _
  unfold hostOps0 hostOps0_1 hostOps0_2
  simp only [List.flatten_cons, List.flatten_nil, List.cons_append, List.nil_append]
  after_results
  refine ext2 _ _ fun r j => ?_
  pointwise
  simp only [TRef.toBuf, TRef.ofBuf, TRef.of, cast_eq]
  pointwise
  exact padded_host (fun n => aB m c (ix2 n j)) r.val 8 rfl _ pad_value

/-- The result's row and column of entry `(r, j)` of block `t`. -/
def rowIx (t : Fin cfg0.N) (r : Fin 1024) : Fin 8192 :=
  ⟨t.val * 1024 + r.val, by have hN : cfg0.N = 8 := N_0; omega⟩
def colIx (t : Fin cfg0.N) (j : Fin 1024) : Fin 1024 :=
  j

theorem blk_a (t : Fin cfg0.N) (r : Fin 1024) (k : Fin 1024) :
    (iblk m c 0 t : A2 1024 1024) (ix2 r k) = (aA m c) (ix2 (rowIx t r) k) := by
  have hi := (idx_facts t).1
  rw [← entry_a]
  unfold iblk
  rw [View.read_apply]
  show (V m c main_v0 : A2 8192 1024) _ = _
  congr 1
  funext a
  apply Fin.ext
  match a with
  | ⟨0, _⟩ => show win0_0.index t 0 * 1024 + 1 * r.val = t.val * 1024 + r.val; rw [hi.1]; omega
  | ⟨1, _⟩ => show win0_0.index t 1 * 1024 + 1 * k.val = k.val; rw [hi.2]; omega

theorem blk_b (t : Fin cfg0.N) (j : Fin 1024) (k : Fin 1024) :
    (iblk m c 1 t : A2 1024 1024) (ix2 j k) = (padRows 1024 (aB m c)) (ix2 (colIx t j) k) := by
  have hi := (idx_facts t).2.1
  rw [← entry_b]
  unfold iblk
  rw [View.read_apply]
  show (V m c main_v4 : A2 1024 1024) _ = _
  congr 1
  funext a
  apply Fin.ext
  match a with
  | ⟨0, _⟩ => show win0_1.index t 0 * 1024 + 1 * j.val = j.val; rw [hi.1]; omega
  | ⟨1, _⟩ => show win0_1.index t 1 * 1024 + 1 * k.val = k.val; rw [hi.2]; omega

/-! ### The final array -/

theorem read_out (t : Fin cfg0.N) (G : A2 8192 1024) (r : Fin 1024) (j : Fin 1024) :
    (((cfg0.win 2).blk t).view.read (Elt Ideal) G : A2 1024 1024) (ix2 r j) = G (ix2 (rowIx t r) (colIx t j)) := by
  have hi := (idx_facts t).2.2
  rw [View.read_apply]
  show G _ = _
  congr 1
  funext a
  apply Fin.ext
  match a with
  | ⟨0, _⟩ => show win0_2.index t 0 * 1024 + 1 * r.val = t.val * 1024 + r.val; rw [hi.1]; omega
  | ⟨1, _⟩ => show win0_2.index t 1 * 1024 + 1 * j.val = j.val; rw [hi.2]; omega

theorem final : ((dats m 0 c).arrAt 2 cfg0.N : A2 8192 1024) = nt (aA m c) (padRows 1024 (aB m c)) := by
  refine (dats m 0 c).arrAt_eq_of_cover 2 (nt (aA m c) (padRows 1024 (aB m c))) ?_ ?_
  · intro t _
    rw [Value.flushed2_A, outA]
    refine ext2 (a := 1024) (b := 1024) _ _ fun r j => ?_
    refine (block_at _ _ r j).trans (Eq.trans ?_ (read_out t (nt (aA m c) (padRows 1024 (aB m c))) r j).symm)
    simp only [blk_a, blk_b]
    rfl
  · intro i
    have h0 : (i 0 : Nat) < 8192 := (i 0).isLt
    have h1 : (i 1 : Nat) < 1024 := (i 1).isLt
    have hN : cfg0.N = 8 := N_0
    let t : Fin cfg0.N := ⟨(i 0 : Nat) / 1024, by omega⟩
    refine ⟨t, flush0_2 t, ?_⟩
    have hi := (idx_facts t).2.2
    have e0 : win0_2.index t 0 = (i 0 : Nat) / 1024 := hi.1
    have e1 : win0_2.index t 1 = 0 := hi.2
    show i ∈ ((View.whole main_v5).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024; rw [e0]; omega
    | ⟨1, _⟩ => show win0_2.index t 1 * 1024 ≤ (i 1 : Nat) ∧ (i 1 : Nat) < win0_2.index t 1 * 1024 + 1024; rw [e1]; omega

/-- The same, without the padding. -/
theorem plain : ((dats m 0 c).arrAt 2 cfg0.N : A2 8192 1024) = ntPad (aA m c) (aB m c) :=
  (final m c).trans (nt_padded ..)

end Cert.Proj.DYnSb

end
-- ==== Proof.Proj.DYnSbClaims.lean ====
/-
  THE COTANGENT OF THE ATTENTION'S RESULT, THROUGH ITS OUTPUT PROJECTION: THE KERNEL'S RUN AND THE REFERENCE'S RUN, AT THE SAME ARRAYS.
-/
module

public import proofs.«01_k».proof.Proof.Proj.DYnSb
public import proofs.«01_k».proof.Proof.Gen.DYnSbRefIdeal.Read

@[expose] public section

noncomputable section

namespace Cert.Proj.DYnSb

open Idealize.ShloMosaic Idealize.SL.Sem Cert.Mlp Cert.Proj

section Reference
open Cert.DYnSbRefIdeal Cert.DYnSbRefIdeal.Gen Cert.DYnSbRefIdeal.Read

theorem ref_value (b : A2 512 1024) (a : A2 8192 1024) : (val_main_v6 (F := Ideal) b a : A2 8192 1024) = ntPad a b := by
  refine ext2 _ _ fun R J => ?_
  unfold val_main_v6 val_main_v5 val_main_v4 val_main_v3 val_main_call0_v0 val_main_c
  pointwise [dot_S8192x1024_S512x1024_S8192x512_1_1_0_0_n_n]
  exact padded_host (fun n => nt a b (ix2 R n)) J.val 8 rfl _ pad_value

end Reference

section Kernel
open Cert.DYnSbIdeal Cert.DYnSbIdeal.Gen

/-- The kernel's run: its results; its arguments stay. -/
theorem kernel_run (m : Memory nD τ sig) (ρ : Dev nD → PrngReg) :
    θ_run defs (onTc main) ⟨m, fun _ => 0, ρ⟩ fun r => ∀ c,
      r.2.mem (c.tc.loc main_v5) = ntPad (aA m c) (aB m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨(h c).1.trans (plain m c), (h c).2⟩) (Value.run_blocks m ρ)

end Kernel

section Reference
open Cert.DYnSbRefIdeal Cert.DYnSbRefIdeal.Gen

/-- The reference's run, at the same functions. -/
theorem reference_run (m : Memory nD τ sig) (ρ : Dev nD → PrngReg)
    (p0 : Dev nD → A2 8192 512) (p1 : Dev nD → A2 512 1024) (p2 : Dev nD → A2 8192 1024)
    (hm : ∀ c, m (c.tc.loc main_arg0) = p0 c
      ∧ m (c.tc.loc main_arg1) = p1 c
      ∧ m (c.tc.loc main_arg2) = p2 c) :
    θ_run defs (onTc main) ⟨m, fun _ => 0, ρ⟩ fun r => ∀ c,
      r.2.mem (c.tc.loc main_v6) = ntPad (p2 c) (p1 c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  refine (θ_run _ _ _).mono (fun r h c => ?_) (Value.run m ρ)
  obtain ⟨h0, h1, h2⟩ := hm c
  obtain ⟨r0, hr⟩ := h c
  refine ⟨r0.trans ?_, hr⟩
  · rw [Read.val_main_v6_eq, h2, h1]; exact ref_value ..

end Reference

end Cert.Proj.DYnSb

end
-- ==== Proof.Proj.DwOutSb.lean ====
/-
  THE GRADIENT OF THE ATTENTION'S OUTPUT PROJECTION, AS THE KERNEL COMPUTES IT.

  The rows transposed, times the cotangent of the result. Grid point `s` adds
  the products over rows `1024 s … 1024 s + 1023` of the batch.
-/
module

public import proofs.«01_k».proof.Proof.Gen.DwOutSbIdeal.Value
public import proofs.«01_k».proof.Proof.Proj.HeadPad

@[expose] public section

noncomputable section

namespace Cert.Proj.DwOutSb

open Cert.DwOutSbIdeal Cert.DwOutSbIdeal.Gen Idealize.ShloMosaic Idealize.ShloMosaic.TcCoe Idealize.SL.Sem
open Idealize.ShloMosaic.StableHlo Cert.Mlp Cert.Proj

/-! ### The stores, read back -/

section Stores
variable (c : Dev nD) (i : grid0.Coords) (a : Memref sig .tc .vmem S1024x1024 .bf16) (ha : a.IsWhole)
  (b : Memref sig .tc .vmem S1024x1024 .bf16) (hb : b.IsWhole) (o : Memref sig .tc .vmem S1024x1024 .f32) (ho : o.IsWhole)
  (s : Memref sig .tc .vmem S1024x1024 .f32) (hs : s.IsWhole) (x : Vec Ideal S1024x1024 .bf16) (y : Vec Ideal S1024x1024 .bf16) (acc : Vec Ideal S1024x1024 .f32)

theorem accA (h0 : cond0_0 i) (h1 : ¬cond0_1 i) :
    sout0_A_0 c i a ha b hb o ho s hs h0 h1 x y = k0_pay2 x (k0_pay1 (F := Ideal)) y := by
  unfold sout0_A_0
  rw [View.read_writes_eq_canon _ _ _ (scover0_A_0 c i a ha b hb o ho s hs h0 h1 x y)]
  unfold kernelRun0_A
  dsimp only
  sl_unfold_words
  rw [View.canon_cons_unit_zero (S := S1024x1024) origin2, View.readCov_unit_zero (S := S1024x1024) _ origin2]
  simp only [View.readAt_eq_ld, ha.read_unread, hb.read_unread, View.ld_unit_zero (S := S1024x1024) origin2, shapeCast_self]

theorem accB (h0 : ¬cond0_0 i) (h1 : ¬cond0_1 i) :
    sout0_B_0 c i a ha b hb o ho s hs h0 h1 x y acc = k0_pay2 x acc y := by
  unfold sout0_B_0
  rw [View.read_writes_eq_canon _ _ _ (scover0_B_0 c i a ha b hb o ho s hs h0 h1 x y acc)]
  unfold kernelRun0_B
  dsimp only
  sl_unfold_words
  rw [View.canon_unit_zero (S := S1024x1024) origin2]
  simp only [View.readAt_eq_ld, ha.read_unread, hb.read_unread, hs.read_unread, View.ld_unit_zero (S := S1024x1024) origin2, shapeCast_self]

theorem outC (h0 : ¬cond0_0 i) (h1 : cond0_1 i) :
    out0_C_2 c i a ha b hb o ho s hs h0 h1 x y acc = k0_pay2 x acc y := by
  unfold out0_C_2
  rw [View.read_writes_eq_canon _ _ _ (cover0_C_2 c i a ha b hb o ho s hs h0 h1 x y acc)]
  unfold kernelRun0_C
  dsimp only
  sl_unfold_words
  rw [View.canon_unit_zero (S := S1024x1024) origin2, View.readCov_unit_zero (S := S1024x1024) _ origin2]
  simp only [View.readAt_eq_ld, ha.read_unread, hb.read_unread, hs.read_unread, View.ld_unit_zero (S := S1024x1024) origin2, shapeCast_self]
end Stores

/-! ### One step's value -/

theorem zero_at (r : Fin 1024) (j : Fin 1024) : k0_pay1 (F := Ideal) (ix2 r j) = 0 := by
  unfold k0_pay1; pointwise

theorem step_at (x : Vec Ideal S1024x1024 .bf16) (y : Vec Ideal S1024x1024 .bf16) (acc : Vec Ideal S1024x1024 .f32) (r : Fin 1024) (j : Fin 1024) :
    (k0_pay2 x acc y : A2 1024 1024) (ix2 r j)
      = acc (ix2 r j) + ∑ k : Fin 1024, (x : A2 1024 1024) (ix2 k r) * (y : A2 1024 1024) (ix2 k j) := by
  unfold k0_pay2; pointwise [dot_S1024x1024_S1024x1024_S1024x1024_0_0_1_1_n_n]

/-! ### The blocks -/

variable (m : Memory nD τ sig) (c : Dev nD)

/-- The arguments as launched: the rows and the cotangent of the product. -/
abbrev aA : A2 8192 512 := m (c.tc.loc main_arg0)
abbrev aB : A2 8192 1024 := m (c.tc.loc main_arg2)

theorem idx_facts : ∀ t : Fin cfg0.N,
    (win0_0.index t 0 = t.val % 8 ∧ win0_0.index t 1 = 0) ∧ (win0_1.index t 0 = t.val % 8 ∧ win0_1.index t 1 = t.val / 8) :=
  (by decide +kernel : ∀ t : Fin grid0.N, _)

/-- The rows, padded. -/
abbrev pA : A2 8192 1024 := padCols 1024 (aA m c)

theorem entry_a : (V m c main_v3 : A2 8192 1024) = pA m c := by
  show StableHlo.after (List.flatten [hostOps0, hostOps0_1, hostOps0_2]) _ main_v3 = _
  unfold hostOps0 hostOps0_1 hostOps0_2
  simp only [List.flatten_cons, List.flatten_nil, List.cons_append, List.nil_append]
  after_results
  refine ext2 _ _ fun r j => ?_
  pointwise
  simp only [TRef.toBuf, TRef.ofBuf, TRef.of, cast_eq]
  pointwise
  exact padded_host (fun n => aA m c (ix2 r n)) j.val 8 rfl _ pad_value

theorem entry_b : (V m c main_v4 : A2 8192 1024) = aB m c := by
  have h : (V m c main_v4 : A2 8192 1024) = truncf (F := Ideal) (φ := .f32) .bf16 (aB m c) bitsLt_bf16_f32 := by
    show StableHlo.after (List.flatten [hostOps0, hostOps0_1, hostOps0_2]) _ main_v4 = _
    unfold hostOps0 hostOps0_1 hostOps0_2
    simp only [List.flatten_cons, List.flatten_nil, List.cons_append, List.nil_append]
    after_results
  rw [h]; funext i
  pointwise

theorem blk_a (t : Fin cfg0.N) (k : Fin 1024) (r : Fin 1024) (K : Fin 8192)
    (hK : K.val = t.val % 8 * 1024 + k.val) :
    (iblk m c 0 t : A2 1024 1024) (ix2 k r) = pA m c (ix2 K r) := by
  have hi := (idx_facts t).1
  rw [← entry_a]
  unfold iblk
  rw [View.read_apply]
  show (V m c main_v3 : A2 8192 1024) _ = _
  congr 1
  funext a
  apply Fin.ext
  match a with
  | ⟨0, _⟩ => show win0_0.index t 0 * 1024 + 1 * k.val = K.val; rw [hi.1]; omega
  | ⟨1, _⟩ => show win0_0.index t 1 * 1024 + 1 * r.val = r.val; rw [hi.2]; omega

theorem blk_b (t : Fin cfg0.N) (k : Fin 1024) (j : Fin 1024) (K : Fin 8192) (J : Fin 1024)
    (hK : K.val = t.val % 8 * 1024 + k.val) (hJ : J.val = t.val / 8 * 1024 + j.val) :
    (iblk m c 1 t : A2 1024 1024) (ix2 k j) = aB m c (ix2 K J) := by
  have hi := (idx_facts t).2
  rw [← entry_b]
  unfold iblk
  rw [View.read_apply]
  show (V m c main_v4 : A2 8192 1024) _ = _
  congr 1
  funext a
  apply Fin.ext
  match a with
  | ⟨0, _⟩ => show win0_1.index t 0 * 1024 + 1 * k.val = K.val; rw [hi.1]; omega
  | ⟨1, _⟩ => show win0_1.index t 1 * 1024 + 1 * j.val = J.val; rw [hi.2]; omega

/-- The batch row's contribution to entry `(r, J)` of the gradient. -/
abbrev term (h : A2 8192 1024) (ct : A2 8192 1024) (r : Fin 1024) (J : Fin 1024) (K : Fin 8192) : EReal :=
  h (ix2 K r) * ct (ix2 K J)

/-- One grid point's addition. -/
theorem step_term (t : Fin cfg0.N) (s : Nat) (hs : t.val % 8 = s) (acc : Vec Ideal S1024x1024 .f32) (r : Fin 1024) (j : Fin 1024)
    (J : Fin 1024) (hJ : J.val = t.val / 8 * 1024 + j.val)
    (ha : (acc : A2 1024 1024) (ix2 r j) = tiles 1024 (term (pA m c) (aB m c) r J) s) :
    (k0_pay2 (F := Ideal) (iblk m c 0 t) acc (iblk m c 1 t) : A2 1024 1024) (ix2 r j)
      = tiles 1024 (term (pA m c) (aB m c) r J) (s + 1) := by
  rw [step_at]
  refine tiles_step 1024 _ s _ _ ha fun k => ?_
  have hk : s * 1024 + k.val < 8192 := by omega
  rw [ext_val _ _ hk, blk_a m c t k r ⟨_, hk⟩ (by rw [hs]), blk_b m c t k j ⟨_, hk⟩ J (by rw [hs]) hJ]

/-- What the accumulator holds after step `s` of run `q`. -/
theorem acc_run (q : Fin 1) (r : Fin 1024) (j : Fin 1024) (J : Fin 1024) (hJ : J.val = q.val * 1024 + j.val) :
    ∀ (s : Nat) (hs : s < 7) (hn : 8 * q.val + s < cfg0.N),
      ((outsAt0 m c (8 * q.val + s) hn).2 : A2 1024 1024) (ix2 r j)
        = tiles 1024 (term (pA m c) (aB m c) r J) (s + 1)
  | 0, _, hn => by
    have e := outsAt0_A m c ⟨8 * q.val + 0, hn⟩ (by dsimp only; omega) (by dsimp only; omega)
    dsimp only at e
    rw [e]
    dsimp only
    rw [accA]
    exact step_term m c ⟨8 * q.val + 0, hn⟩ 0 (by dsimp only; omega) _ r j J (by dsimp only; omega)
      ((zero_at r j).trans (tiles_zero _ _).symm)
  | s + 1, hs, hn => by
    have e := outsAt0_B m c ⟨8 * q.val + (s + 1), hn⟩ (by dsimp only; omega) (by dsimp only; omega)
    dsimp only at e
    rw [e]
    dsimp only
    rw [accB]
    exact step_term m c ⟨8 * q.val + (s + 1), hn⟩ (s + 1) (by dsimp only; omega) _ r j J (by dsimp only; omega)
      (acc_run q r j J hJ s (by omega) (by omega))

/-- What run `q` writes back. -/
theorem out_run (q : Fin 1) (r : Fin 1024) (j : Fin 1024) (J : Fin 1024) (hJ : J.val = q.val * 1024 + j.val) (hn : 8 * q.val + 7 < cfg0.N) :
    ((outsAt0 m c (8 * q.val + 7) hn).1 : A2 1024 1024) (ix2 r j) = ∑ K, term (pA m c) (aB m c) r J K := by
  have e := outsAt0_C m c ⟨8 * q.val + 7, hn⟩ (by dsimp only; omega) (by dsimp only; omega)
  dsimp only at e
  rw [e]
  dsimp only
  rw [outC]
  exact (step_term m c ⟨8 * q.val + 7, hn⟩ 7 (by dsimp only; omega) _ r j J (by dsimp only; omega)
    (acc_run m c q r j J hJ 6 (by omega) (by omega))).trans (tiles_all 8 1024 _ rfl)

theorem final : (Value.G2 m c : A2 1024 1024) = tn (pA m c) (aB m c) := by
  funext i
  have hN : cfg0.N = 8 := N_0
  have h1 : (i 0).val < 1024 := (i 0).isLt
  have h2 : (i 1).val < 1024 := (i 1).isLt
  have hp : Value.pt2Of i = 8 * ((i 1).val / 1024) + 7 := by
    show 8 * (1 * ((i 0).val / 1024 - 0) + 1 * ((i 1).val / 1024 - 0)) + 7 = _
    omega
  have hlt : Value.pt2Of i < cfg0.N := by rw [hp]; omega
  have hl : Value.loc2Of i = ix2 (⟨(i 0).val, h1⟩ : Fin 1024) (⟨(i 1).val % 1024, Nat.mod_lt _ (by decide)⟩ : Fin 1024) := by
    funext a
    apply Fin.ext
    match a with
    | ⟨0, _⟩ => show (i 0).val % 1024 = (i 0).val; omega
    | ⟨1, _⟩ => rfl
  unfold Value.G2
  rw [dif_pos hlt, ← Value.outsAt0_sweep m c _ hlt, hl]
  have e := out_run m c ⟨(i 1).val / 1024, by omega⟩ ⟨(i 0).val, h1⟩ ⟨(i 1).val % 1024, Nat.mod_lt _ (by decide)⟩ ⟨(i 1).val, h2⟩ (by dsimp only; omega) (by dsimp only; omega)
  dsimp only at e
  have same : ∀ (n n' : Nat) (h : n < cfg0.N) (h' : n' < cfg0.N), n = n' → outsAt0 m c n h = outsAt0 m c n' h' := by
    intro n n' h h' hnn; subst hnn; rfl
  rw [same _ (8 * ((i 1).val / 1024) + 7) hlt (by omega) hp]
  exact e

/-- The same, from the plain rows. -/
theorem plain : (Value.G2 m c : A2 1024 1024) = tnPad (aA m c) (aB m c) := (final m c).trans (tn_padded ..)

end Cert.Proj.DwOutSb

end
-- ==== Proof.Proj.DwOutSbClaims.lean ====
/-
  THE GRADIENT OF THE ATTENTION'S OUTPUT PROJECTION: THE KERNEL'S RUN AND THE REFERENCE'S RUN, AT THE SAME ARRAYS.
-/
module

public import proofs.«01_k».proof.Proof.Proj.DwOutSb
public import proofs.«01_k».proof.Proof.Gen.DwOutSbRefIdeal.Read

@[expose] public section

noncomputable section

namespace Cert.Proj.DwOutSb

open Idealize.ShloMosaic Idealize.SL.Sem Cert.Mlp Cert.Proj

section Reference
open Cert.DwOutSbRefIdeal Cert.DwOutSbRefIdeal.Gen Cert.DwOutSbRefIdeal.Read

theorem ref_value (a : A2 8192 512) (b : A2 8192 1024) : (val_main_v6 (F := Ideal) a b : A2 1024 1024) = tnPad a b := by
  refine ext2 _ _ fun R J => ?_
  unfold val_main_v6 val_main_v5 val_main_v4 val_main_v2 val_main_v1 val_main_call0_v0 val_main_c
  pointwise [dot_S8192x1024_S8192x512_S1024x512_0_0_1_1_n_n]
  refine (padded_host (fun n => ∑ k : Fin 8192, b (ix2 k J) * a (ix2 k n)) R.val 8 rfl _ pad_value).trans ?_
  refine congrArg (fun f => padded f R.val) (funext fun n => ?_)
  exact Finset.sum_congr rfl fun k _ => mul_comm _ _

end Reference

section Kernel
open Cert.DwOutSbIdeal Cert.DwOutSbIdeal.Gen

/-- The kernel's run: its results; its arguments stay. -/
theorem kernel_run (m : Memory nD τ sig) (ρ : Dev nD → PrngReg) :
    θ_run defs (onTc main) ⟨m, fun _ => 0, ρ⟩ fun r => ∀ c,
      r.2.mem (c.tc.loc main_v5) = tnPad (aA m c) (aB m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨(h c).1.trans (plain m c), (h c).2⟩) (Value.run m ρ)

end Kernel

section Reference
open Cert.DwOutSbRefIdeal Cert.DwOutSbRefIdeal.Gen

/-- The reference's run, at the same functions. -/
theorem reference_run (m : Memory nD τ sig) (ρ : Dev nD → PrngReg)
    (p0 : Dev nD → A2 8192 512) (p1 : Dev nD → A2 512 1024) (p2 : Dev nD → A2 8192 1024)
    (hm : ∀ c, m (c.tc.loc main_arg0) = p0 c
      ∧ m (c.tc.loc main_arg1) = p1 c
      ∧ m (c.tc.loc main_arg2) = p2 c) :
    θ_run defs (onTc main) ⟨m, fun _ => 0, ρ⟩ fun r => ∀ c,
      r.2.mem (c.tc.loc main_v6) = tnPad (p0 c) (p2 c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  refine (θ_run _ _ _).mono (fun r h c => ?_) (Value.run m ρ)
  obtain ⟨h0, h1, h2⟩ := hm c
  obtain ⟨r0, hr⟩ := h c
  refine ⟨r0.trans ?_, hr⟩
  · rw [Read.val_main_v6_eq, h0, h2]; exact ref_value ..

end Reference

end Cert.Proj.DwOutSb

end
-- ==== Proof.Proj.DwQkv.lean ====
/-
  THE GRADIENTS OF THE ATTENTION'S QUERY, KEY AND VALUE PROJECTIONS, AS THE KERNEL COMPUTES IT.

  The rows transposed, times the cotangent of the result. Grid point `s` adds
  the products over rows `1024 s … 1024 s + 1023` of the batch.
-/
module

public import proofs.«01_k».proof.Proof.Gen.DwQkvIdeal.Value
public import proofs.«01_k».proof.Proof.Proj.HeadPad

@[expose] public section

noncomputable section

namespace Cert.Proj.DwQkv

open Cert.DwQkvIdeal Cert.DwQkvIdeal.Gen Idealize.ShloMosaic Idealize.ShloMosaic.TcCoe Idealize.SL.Sem
open Idealize.ShloMosaic.StableHlo Cert.Mlp Cert.Proj

/-! ### The stores, read back -/

section Stores
variable (c : Dev nD) (i : grid0.Coords) (a : Memref sig .tc .vmem S2048x1024 .bf16) (ha : a.IsWhole)
  (b : Memref sig .tc .vmem S2048x1024 .bf16) (hb : b.IsWhole) (o : Memref sig .tc .vmem S1024x1024 .f32) (ho : o.IsWhole)
  (s : Memref sig .tc .vmem S1024x1024 .f32) (hs : s.IsWhole) (x : Vec Ideal S2048x1024 .bf16) (y : Vec Ideal S2048x1024 .bf16) (acc : Vec Ideal S1024x1024 .f32)

theorem accA (h0 : cond0_0 i) (h1 : ¬cond0_1 i) :
    sout0_A_0 c i a ha b hb o ho s hs h0 h1 x y = k0_pay2 x (k0_pay1 (F := Ideal)) y := by
  unfold sout0_A_0
  rw [View.read_writes_eq_canon _ _ _ (scover0_A_0 c i a ha b hb o ho s hs h0 h1 x y)]
  unfold kernelRun0_A
  dsimp only
  sl_unfold_words
  rw [View.canon_cons_unit_zero (S := S1024x1024) origin2, View.readCov_unit_zero (S := S1024x1024) _ origin2]
  simp only [View.readAt_eq_ld, ha.read_unread, hb.read_unread, View.ld_unit_zero (S := S2048x1024) origin2, shapeCast_self]

theorem accB (h0 : ¬cond0_0 i) (h1 : ¬cond0_1 i) :
    sout0_B_0 c i a ha b hb o ho s hs h0 h1 x y acc = k0_pay2 x acc y := by
  unfold sout0_B_0
  rw [View.read_writes_eq_canon _ _ _ (scover0_B_0 c i a ha b hb o ho s hs h0 h1 x y acc)]
  unfold kernelRun0_B
  dsimp only
  sl_unfold_words
  rw [View.canon_unit_zero (S := S1024x1024) origin2]
  simp only [View.readAt_eq_ld, ha.read_unread, hb.read_unread, hs.read_unread, View.ld_unit_zero (S := S2048x1024) origin2, View.ld_unit_zero (S := S1024x1024) origin2, shapeCast_self]

theorem outC (h0 : ¬cond0_0 i) (h1 : cond0_1 i) :
    out0_C_2 c i a ha b hb o ho s hs h0 h1 x y acc = k0_pay2 x acc y := by
  unfold out0_C_2
  rw [View.read_writes_eq_canon _ _ _ (cover0_C_2 c i a ha b hb o ho s hs h0 h1 x y acc)]
  unfold kernelRun0_C
  dsimp only
  sl_unfold_words
  rw [View.canon_unit_zero (S := S1024x1024) origin2, View.readCov_unit_zero (S := S1024x1024) _ origin2]
  simp only [View.readAt_eq_ld, ha.read_unread, hb.read_unread, hs.read_unread, View.ld_unit_zero (S := S2048x1024) origin2, View.ld_unit_zero (S := S1024x1024) origin2, shapeCast_self]
end Stores

/-! ### One step's value -/

theorem zero_at (r : Fin 1024) (j : Fin 1024) : k0_pay1 (F := Ideal) (ix2 r j) = 0 := by
  unfold k0_pay1; pointwise

theorem step_at (x : Vec Ideal S2048x1024 .bf16) (y : Vec Ideal S2048x1024 .bf16) (acc : Vec Ideal S1024x1024 .f32) (r : Fin 1024) (j : Fin 1024) :
    (k0_pay2 x acc y : A2 1024 1024) (ix2 r j)
      = acc (ix2 r j) + ∑ k : Fin 2048, (x : A2 2048 1024) (ix2 k r) * (y : A2 2048 1024) (ix2 k j) := by
  unfold k0_pay2; pointwise [dot_S2048x1024_S2048x1024_S1024x1024_0_0_1_1_n_n]

/-! ### The blocks -/

variable (m : Memory nD τ sig) (c : Dev nD)

/-- The arguments as launched: the rows and the cotangent of the product. -/
abbrev aA : A2 8192 1024 := m (c.tc.loc main_arg0)
abbrev aQ : A2 8192 512 := m (c.tc.loc main_arg4)
abbrev aK : A2 8192 512 := m (c.tc.loc main_arg5)
abbrev aV : A2 8192 512 := m (c.tc.loc main_arg6)

theorem idx_facts : ∀ t : Fin cfg0.N,
    (win0_0.index t 0 = t.val % 4 ∧ win0_0.index t 1 = 0) ∧ (win0_1.index t 0 = t.val % 4 ∧ win0_1.index t 1 = t.val / 4) :=
  (by decide +kernel : ∀ t : Fin grid0.N, _)

theorem entry_a : (V m c main_v13 : A2 8192 1024) = aA m c := by
  have h : (V m c main_v13 : A2 8192 1024) = truncf (F := Ideal) (φ := .f32) .bf16 (aA m c) bitsLt_bf16_f32 := by
    show StableHlo.after (List.flatten [hostOps0, hostOps0_1, hostOps0_2, hostOps0_3, hostOps0_4, hostOps0_5, hostOps0_6]) _ main_v13 = _
    unfold hostOps0 hostOps0_1 hostOps0_2 hostOps0_3 hostOps0_4 hostOps0_5 hostOps0_6
    simp only [List.flatten_cons, List.flatten_nil, List.cons_append, List.nil_append]
    after_results
  rw [h]; funext i
  pointwise

/-- The three cotangents side by side, padded. -/
abbrev pB : A2 8192 3072 := padCols 3072 (cat3 (aQ m c) (aK m c) (aV m c))

theorem entry_q : (V m c main_v3 : A2 8192 1024) = padCols 1024 (aQ m c) := by
  show StableHlo.after (List.flatten [hostOps0, hostOps0_1, hostOps0_2, hostOps0_3, hostOps0_4, hostOps0_5, hostOps0_6]) _ main_v3 = _
  unfold hostOps0 hostOps0_1 hostOps0_2 hostOps0_3 hostOps0_4 hostOps0_5 hostOps0_6
  simp only [List.flatten_cons, List.flatten_nil, List.cons_append, List.nil_append]
  after_results
  refine ext2 _ _ fun r j => ?_
  pointwise
  simp only [TRef.toBuf, TRef.ofBuf, TRef.of, cast_eq]
  pointwise
  exact padded_host (fun n => aQ m c (ix2 r n)) j.val 8 rfl _ pad_value

theorem entry_k : (V m c main_v7 : A2 8192 1024) = padCols 1024 (aK m c) := by
  show StableHlo.after (List.flatten [hostOps0, hostOps0_1, hostOps0_2, hostOps0_3, hostOps0_4, hostOps0_5, hostOps0_6]) _ main_v7 = _
  unfold hostOps0 hostOps0_1 hostOps0_2 hostOps0_3 hostOps0_4 hostOps0_5 hostOps0_6
  simp only [List.flatten_cons, List.flatten_nil, List.cons_append, List.nil_append]
  after_results
  refine ext2 _ _ fun r j => ?_
  pointwise
  simp only [TRef.toBuf, TRef.ofBuf, TRef.of, cast_eq]
  pointwise
  exact padded_host (fun n => aK m c (ix2 r n)) j.val 8 rfl _ pad_value

theorem entry_v : (V m c main_v11 : A2 8192 1024) = padCols 1024 (aV m c) := by
  show StableHlo.after (List.flatten [hostOps0, hostOps0_1, hostOps0_2, hostOps0_3, hostOps0_4, hostOps0_5, hostOps0_6]) _ main_v11 = _
  unfold hostOps0 hostOps0_1 hostOps0_2 hostOps0_3 hostOps0_4 hostOps0_5 hostOps0_6
  simp only [List.flatten_cons, List.flatten_nil, List.cons_append, List.nil_append]
  after_results
  refine ext2 _ _ fun r j => ?_
  pointwise
  simp only [TRef.toBuf, TRef.ofBuf, TRef.of, cast_eq]
  pointwise
  exact padded_host (fun n => aV m c (ix2 r n)) j.val 8 rfl _ pad_value

theorem cat_b : (V m c main_v12 : S8192x3072.Idx → EReal) = concatenate S8192x3072 1
    [⟨S8192x1024, (V m c main_v3 : S8192x1024.Idx → EReal)⟩, ⟨S8192x1024, (V m c main_v7 : S8192x1024.Idx → EReal)⟩,
      ⟨S8192x1024, (V m c main_v11 : S8192x1024.Idx → EReal)⟩]
    concatenates_S8192x1024_S8192x1024_S8192x1024_S8192x3072_d1 := rfl

theorem entry_b : (V m c main_v12 : A2 8192 3072) = pB m c := by
  rw [cat_b, entry_q, entry_k, entry_v]
  refine ext2 _ _ fun r j => ?_
  pointwise
  exact padCols_cat3 _ _ _ r j

theorem blk_a (t : Fin cfg0.N) (k : Fin 2048) (r : Fin 1024) (K : Fin 8192)
    (hK : K.val = t.val % 4 * 2048 + k.val) :
    (iblk m c 0 t : A2 2048 1024) (ix2 k r) = aA m c (ix2 K r) := by
  have hi := (idx_facts t).1
  rw [← entry_a]
  unfold iblk
  rw [View.read_apply]
  show (V m c main_v13 : A2 8192 1024) _ = _
  congr 1
  funext a
  apply Fin.ext
  match a with
  | ⟨0, _⟩ => show win0_0.index t 0 * 2048 + 1 * k.val = K.val; rw [hi.1]; omega
  | ⟨1, _⟩ => show win0_0.index t 1 * 1024 + 1 * r.val = r.val; rw [hi.2]; omega

theorem blk_b (t : Fin cfg0.N) (k : Fin 2048) (j : Fin 1024) (K : Fin 8192) (J : Fin 3072)
    (hK : K.val = t.val % 4 * 2048 + k.val) (hJ : J.val = t.val / 4 * 1024 + j.val) :
    (iblk m c 1 t : A2 2048 1024) (ix2 k j) = pB m c (ix2 K J) := by
  have hi := (idx_facts t).2
  rw [← entry_b]
  unfold iblk
  rw [View.read_apply]
  show (V m c main_v12 : A2 8192 3072) _ = _
  congr 1
  funext a
  apply Fin.ext
  match a with
  | ⟨0, _⟩ => show win0_1.index t 0 * 2048 + 1 * k.val = K.val; rw [hi.1]; omega
  | ⟨1, _⟩ => show win0_1.index t 1 * 1024 + 1 * j.val = J.val; rw [hi.2]; omega

/-- The batch row's contribution to entry `(r, J)` of the gradient. -/
abbrev term (h : A2 8192 1024) (ct : A2 8192 3072) (r : Fin 1024) (J : Fin 3072) (K : Fin 8192) : EReal :=
  h (ix2 K r) * ct (ix2 K J)

/-- One grid point's addition. -/
theorem step_term (t : Fin cfg0.N) (s : Nat) (hs : t.val % 4 = s) (acc : Vec Ideal S1024x1024 .f32) (r : Fin 1024) (j : Fin 1024)
    (J : Fin 3072) (hJ : J.val = t.val / 4 * 1024 + j.val)
    (ha : (acc : A2 1024 1024) (ix2 r j) = tiles 2048 (term (aA m c) (pB m c) r J) s) :
    (k0_pay2 (F := Ideal) (iblk m c 0 t) acc (iblk m c 1 t) : A2 1024 1024) (ix2 r j)
      = tiles 2048 (term (aA m c) (pB m c) r J) (s + 1) := by
  rw [step_at]
  refine tiles_step 2048 _ s _ _ ha fun k => ?_
  have hk : s * 2048 + k.val < 8192 := by omega
  rw [ext_val _ _ hk, blk_a m c t k r ⟨_, hk⟩ (by rw [hs]), blk_b m c t k j ⟨_, hk⟩ J (by rw [hs]) hJ]

/-- What the accumulator holds after step `s` of run `q`. -/
theorem acc_run (q : Fin 3) (r : Fin 1024) (j : Fin 1024) (J : Fin 3072) (hJ : J.val = q.val * 1024 + j.val) :
    ∀ (s : Nat) (hs : s < 3) (hn : 4 * q.val + s < cfg0.N),
      ((outsAt0 m c (4 * q.val + s) hn).2 : A2 1024 1024) (ix2 r j)
        = tiles 2048 (term (aA m c) (pB m c) r J) (s + 1)
  | 0, _, hn => by
    have e := outsAt0_A m c ⟨4 * q.val + 0, hn⟩ (by dsimp only; omega) (by dsimp only; omega)
    dsimp only at e
    rw [e]
    dsimp only
    rw [accA]
    exact step_term m c ⟨4 * q.val + 0, hn⟩ 0 (by dsimp only; omega) _ r j J (by dsimp only; omega)
      ((zero_at r j).trans (tiles_zero _ _).symm)
  | s + 1, hs, hn => by
    have e := outsAt0_B m c ⟨4 * q.val + (s + 1), hn⟩ (by dsimp only; omega) (by dsimp only; omega)
    dsimp only at e
    rw [e]
    dsimp only
    rw [accB]
    exact step_term m c ⟨4 * q.val + (s + 1), hn⟩ (s + 1) (by dsimp only; omega) _ r j J (by dsimp only; omega)
      (acc_run q r j J hJ s (by omega) (by omega))

/-- What run `q` writes back. -/
theorem out_run (q : Fin 3) (r : Fin 1024) (j : Fin 1024) (J : Fin 3072) (hJ : J.val = q.val * 1024 + j.val) (hn : 4 * q.val + 3 < cfg0.N) :
    ((outsAt0 m c (4 * q.val + 3) hn).1 : A2 1024 1024) (ix2 r j) = ∑ K, term (aA m c) (pB m c) r J K := by
  have e := outsAt0_C m c ⟨4 * q.val + 3, hn⟩ (by dsimp only; omega) (by dsimp only; omega)
  dsimp only at e
  rw [e]
  dsimp only
  rw [outC]
  exact (step_term m c ⟨4 * q.val + 3, hn⟩ 3 (by dsimp only; omega) _ r j J (by dsimp only; omega)
    (acc_run m c q r j J hJ 2 (by omega) (by omega))).trans (tiles_all 4 2048 _ rfl)

theorem final : (Value.G2 m c : A2 1024 3072) = tn (aA m c) (pB m c) := by
  funext i
  have hN : cfg0.N = 12 := N_0
  have h1 : (i 0).val < 1024 := (i 0).isLt
  have h2 : (i 1).val < 3072 := (i 1).isLt
  have hp : Value.pt2Of i = 4 * ((i 1).val / 1024) + 3 := by
    unfold Value.pt2Of Value.run2Of
    omega
  have hlt : Value.pt2Of i < cfg0.N := by rw [hp]; omega
  have hl : Value.loc2Of i = ix2 (⟨(i 0).val, h1⟩ : Fin 1024) (⟨(i 1).val % 1024, Nat.mod_lt _ (by decide)⟩ : Fin 1024) := by
    funext a
    apply Fin.ext
    match a with
    | ⟨0, _⟩ => show (i 0).val % 1024 = (i 0).val; omega
    | ⟨1, _⟩ => rfl
  unfold Value.G2
  rw [dif_pos hlt, ← Value.outsAt0_sweep m c _ hlt, hl]
  have e := out_run m c ⟨(i 1).val / 1024, by omega⟩ ⟨(i 0).val, h1⟩ ⟨(i 1).val % 1024, Nat.mod_lt _ (by decide)⟩ ⟨(i 1).val, h2⟩ (by dsimp only; omega) (by dsimp only; omega)
  dsimp only at e
  have same : ∀ (n n' : Nat) (h : n < cfg0.N) (h' : n' < cfg0.N), n = n' → outsAt0 m c n h = outsAt0 m c n' h' := by
    intro n n' h h' hnn; subst hnn; rfl
  rw [same _ (4 * ((i 1).val / 1024) + 3) hlt (by omega) hp]
  exact e

/-- The same, from the plain cotangents. -/
theorem plain : (Value.G2 m c : A2 1024 3072) = tnQkv (aA m c) (aQ m c) (aK m c) (aV m c) := by
  rw [final m c, tn_padCols, tn_cat3]

end Cert.Proj.DwQkv

end
-- ==== Proof.Proj.DwQkvClaims.lean ====
/-
  THE GRADIENTS OF THE ATTENTION'S QUERY, KEY AND VALUE PROJECTIONS: THE KERNEL'S RUN AND THE REFERENCE'S RUN, AT THE SAME ARRAYS.
-/
module

public import proofs.«01_k».proof.Proof.Proj.DwQkv
public import proofs.«01_k».proof.Proof.Gen.DwQkvRefIdeal.Read

@[expose] public section

noncomputable section

namespace Cert.Proj.DwQkv

open Idealize.ShloMosaic Idealize.SL.Sem Cert.Mlp Cert.Proj

section Reference
open Cert.DwQkvRefIdeal Cert.DwQkvRefIdeal.Gen Cert.DwQkvRefIdeal.Read

theorem ref_value (h : A2 8192 1024) (a b c : A2 8192 512) : (val_main_v17 (F := Ideal) h a b c : A2 1024 3072) = tnQkv h a b c := by
  refine ext2 _ _ fun R J => ?_
  unfold val_main_v17 val_main_v16 val_main_v15 val_main_v14 val_main_v11 val_main_v10 val_main_v7 val_main_v6 val_main_v4 val_main_v3 val_main_call0_v0 val_main_c
  pointwise [dot_S8192x512_S8192x1024_S512x1024_0_0_1_1_n_n]
  exact tnQkv_host h a b c R J _ (pad_value (φ := .f32))

end Reference

section Kernel
open Cert.DwQkvIdeal Cert.DwQkvIdeal.Gen

/-- The kernel's run: its results; its arguments stay. -/
theorem kernel_run (m : Memory nD τ sig) (ρ : Dev nD → PrngReg) :
    θ_run defs (onTc main) ⟨m, fun _ => 0, ρ⟩ fun r => ∀ c,
      r.2.mem (c.tc.loc main_v14) = tnQkv (aA m c) (aQ m c) (aK m c) (aV m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6) :=
  (θ_run defs _ _).mono (fun r h c => ⟨(h c).1.trans (plain m c), (h c).2⟩) (Value.run m ρ)

end Kernel

section Reference
open Cert.DwQkvRefIdeal Cert.DwQkvRefIdeal.Gen

/-- The reference's run, at the same functions. -/
theorem reference_run (m : Memory nD τ sig) (ρ : Dev nD → PrngReg)
    (p0 : Dev nD → A2 8192 1024) (p1 : Dev nD → A2 1024 512) (p2 : Dev nD → A2 1024 512) (p3 : Dev nD → A2 1024 512) (p4 : Dev nD → A2 8192 512) (p5 : Dev nD → A2 8192 512) (p6 : Dev nD → A2 8192 512)
    (hm : ∀ c, m (c.tc.loc main_arg0) = p0 c
      ∧ m (c.tc.loc main_arg1) = p1 c
      ∧ m (c.tc.loc main_arg2) = p2 c
      ∧ m (c.tc.loc main_arg3) = p3 c
      ∧ m (c.tc.loc main_arg4) = p4 c
      ∧ m (c.tc.loc main_arg5) = p5 c
      ∧ m (c.tc.loc main_arg6) = p6 c) :
    θ_run defs (onTc main) ⟨m, fun _ => 0, ρ⟩ fun r => ∀ c,
      r.2.mem (c.tc.loc main_v17) = tnQkv (p0 c) (p4 c) (p5 c) (p6 c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6) := by
  refine (θ_run _ _ _).mono (fun r h c => ?_) (Value.run m ρ)
  obtain ⟨h0, h1, h2, h3, h4, h5, h6⟩ := hm c
  obtain ⟨r0, hr⟩ := h c
  refine ⟨r0.trans ?_, hr⟩
  · rw [Read.val_main_v17_eq, h0, h4, h5, h6]; exact ref_value ..

end Reference

end Cert.Proj.DwQkv

end
-- ==== Proof.Norm.Rows.lean ====
/-
  THE BACKWARD PASS OF A NORM, ONE ROW AT A TIME.

  A row `x` of `n` numbers is divided by the root of its mean square (plus a small constant) and scaled by `g`.  The
  functions below are what the cotangent `d` of that row passes back to `x` and to `g`; `inv` is the constant `1 / n`.
-/
module

public import proofs.«01_k».proof.Proof.Mlp.Norm

@[expose] public section

noncomputable section

namespace Cert.Norm

open Idealize.ShloMosaic Cert.Mlp

/-- The constant `2⁻⁹`, as the programs write it. -/
abbrev inv512 : EReal := Ideal.ofBits .f32 0x3B000000#32

/-- Dividing by 512 is multiplying by the constant `2⁻⁹`. -/
theorem div_512 (x : EReal) : Ideal.div x (Ideal.ofBits .f32 0x44000000#32) = x * inv512 := by
  have h1 : Ideal.ofBits .f32 0x44000000#32 = ((512 : ℝ) : EReal) := by
    simp [Ideal.ofBits, Ideal.ieee, -EReal.coe_mul]; norm_num
  have h2 : inv512 = ((1 / 512 : ℝ) : EReal) := by
    simp [inv512, Ideal.ofBits, Ideal.ieee, -EReal.coe_mul]; norm_num
  rw [h1, h2]; exact Ideal.div_coe (by norm_num) x

variable {n : Nat} (inv : EReal)

/-- The mean square of a row, plus the small constant. -/
def ms (x : Fin n → EReal) : EReal := (∑ k, x k * x k) * inv + eps

/-- A row's part of the gradient of `g`. -/
def dgPart (x d : Fin n → EReal) (k : Fin n) : EReal := x k * Ideal.rsqrt (ms inv x) * d k

/-- What the mean square passes back to each entry, per unit of the entry. -/
def slope (x g d : Fin n → EReal) : EReal :=
  (∑ k, x k * (d k * g k)) * (negHalf * Ideal.div (Ideal.rsqrt (ms inv x)) (ms inv x)) * inv

/-- The cotangent of the row. -/
def dxRow (x g d : Fin n → EReal) (k : Fin n) : EReal :=
  d k * g k * Ideal.rsqrt (ms inv x) + x k * slope inv x g d + slope inv x g d * x k

section
variable {R : Nat} (x : A2 R n) (g : A2 1 n) (d : A2 R n)

/-- Row `r` of a matrix. -/
abbrev row (r : Fin R) : Fin n → EReal := fun k => x (ix2 r k)

/-- The cotangent of a matrix's rows. -/
def dxArr : A2 R n := fun i => dxRow inv (row x (i 0)) (row g 0) (row d (i 0)) (i 1)

/-- Row `r`'s part of the scale's gradient. -/
def dgTerm (k : Fin n) (r : Fin R) : EReal := dgPart inv (row x r) (row d r) k

/-- The gradient of the scale. -/
def dgArr : A2 1 n := fun i => ∑ r, dgTerm inv x d (i 1) r
end

end Cert.Norm

end
-- ==== Proof.Glu.Fwd.lean ====
/-
  THE GATED UNIT'S FORWARD PASS: ITS THREE RESULTS, AND THE KERNEL'S BLOCK AND THE REFERENCE READ AT AN INDEX.

  The unit's input is the row `y0 + d * u`; its value is then normed over the row's 512 entries and scaled by `g`.
-/
module

public import proofs.«01_k».proof.Proof.Gen.GluFwdIdeal.Skeleton
public import proofs.«01_k».proof.Proof.Gen.GluFwdRefIdeal.Read
public import proofs.«01_k».proof.Proof.Glu.Results
public import proofs.«01_k».proof.Proof.Norm.Rows

@[expose] public section

noncomputable section

namespace Cert.Glu.GluFwd

open Idealize.ShloMosaic Idealize.SL.Sem
open Cert.Norm (inv512 div_512)

/-- The norm's small constant. -/
abbrev eps : EReal := Ideal.ofBits .f32 0x358637BD#32

/-- The unit's value at entry `k`. -/
def unit (z : Row) (w : Mat) (k : Fin 512) : EReal := gelu z k * gate z w k

/-- The mean square of a row, plus the small constant. -/
def ms (x : Row) : EReal := (∑ k, x k * x k) * inv512 + eps

/-- The normed value at entry `k`. -/
def normed (x g : Row) (k : Fin 512) : EReal := x k * Ideal.rsqrt (ms x) * g k

section
variable (y0 u : Mlp.A2 8192 512) (d : Mlp.A2 1 512) (w : Mlp.A2 512 512) (g : Mlp.A2 1 512)

/-- Result 1: the unit's input. -/
def inputArr : Mlp.A2 8192 512 := fun i => zRow y0 u d (i 0) (i 1)
/-- Result 2: the unit's value. -/
def unitArr : Mlp.A2 8192 512 := fun i => unit (zRow y0 u d (i 0)) (fun a b => w (ix2 a b)) (i 1)
/-- Result 3: the normed value. -/
def normedArr : Mlp.A2 8192 512 := fun i =>
  normed (unit (zRow y0 u d (i 0)) (fun a b => w (ix2 a b))) (fun k => g (ix2 0 k)) (i 1)
end

section Kernel
open Cert.GluFwdIdeal Cert.GluFwdIdeal.Gen
variable (y0 u : Vec Ideal S512x512 .f32) (d : Vec Ideal S1x512 .f32) (w : Vec Ideal S512x512 .bf16) (g : Vec Ideal S1x512 .f32)

/-- Row `r` of the input of a block's units. -/
abbrev zBlock (r : Fin 512) : Row := fun k => y0 (ix2 r k) + d (ix2 0 k) * u (ix2 r k)

theorem input_at (r k : Fin 512) : k0_pay2 y0 d u (ix2 r k) = zBlock y0 u d r k := by
  unfold k0_pay2
  pointwise

theorem unit_at (r k : Fin 512) :
    k0_pay3 y0 d u w (ix2 r k) = unit (zBlock y0 u d r) (fun a b => w (ix2 a b)) k := by
  unfold k0_pay3 unit gate gelu fac th
  pointwise [dot_S512x512_S512x512_S512x512_1_0_0_1_n_n, input_at y0 u d]

theorem normed_at (r k : Fin 512) :
    k0_pay1 (k0_pay3 y0 d u w) g (k0_pay4 y0 d u w) (ix2 r k)
      = normed (unit (zBlock y0 u d r) (fun a b => w (ix2 a b))) (fun k => g (ix2 0 k)) k := by
  unfold k0_pay1 k0_pay4 normed ms
  pointwise [unit_at y0 u d w]

end Kernel

section Reference
open Cert.GluFwdRefIdeal Cert.GluFwdRefIdeal.Gen Cert.GluFwdRefIdeal.Read
variable (y0 u : Mlp.A2 8192 512) (d : Mlp.A2 1 512) (w : Mlp.A2 512 512) (g : Mlp.A2 1 512)

theorem ref_z (R : Fin 8192) (k : Fin 512) : val_main_v2 (F := Ideal) y0 u d (ix2 R k) = zRow y0 u d R k := by
  unfold val_main_v2 val_main_v1 val_main_v0 zRow
  pointwise

theorem ref_gelu (R : Fin 8192) (k : Fin 512) : val_main_v15 (F := Ideal) y0 u d (ix2 R k) = gelu (zRow y0 u d R) k := by
  unfold val_main_v15 val_main_v14 val_main_v13 val_main_v12 val_main_v11 val_main_v10 val_main_v9 val_main_v8 val_main_v7 val_main_v6
    val_main_v5 val_main_v4 val_main_v3 val_main_cst val_main_cst_0 val_main_cst_1 val_main_cst_2 gelu fac th
  pointwise [ref_z y0 u d]
  rw [mul_comm (zRow y0 u d R k * zRow y0 u d R k)]

theorem ref_unit (R : Fin 8192) (k : Fin 512) :
    val_main_v23 (F := Ideal) y0 u d w (ix2 R k) = unit (zRow y0 u d R) (fun a b => w (ix2 a b)) k := by
  unfold val_main_v23 val_main_v22 val_main_v21 val_main_v20 val_main_v19 val_main_v18 val_main_v17 val_main_v16 val_main_cst_3
    val_main_cst_4 unit gate Ideal.logistic
  pointwise [dot_S8192x512_S512x512_S8192x512_1_0_0_1_n_n, ref_gelu y0 u d]

theorem ref_inputArr : val_main_v26 (F := Ideal) y0 u d = inputArr y0 u d := by
  refine Mlp.ext2 _ _ fun r k => ?_
  unfold val_main_v26 val_main_v25 val_main_v24 inputArr zRow
  pointwise

theorem ref_unitArr : val_main_v23 (F := Ideal) y0 u d w = unitArr y0 u d w :=
  Mlp.ext2 _ _ fun r k => ref_unit y0 u d w r k

theorem ref_normedArr : val_main_v39 (F := Ideal) y0 u d w g = normedArr y0 u d w g := by
  refine Mlp.ext2 _ _ fun r k => ?_
  unfold val_main_v39 val_main_v38 val_main_v37 val_main_v36 val_main_v35 val_main_v34 val_main_v33 val_main_v32 val_main_v31
    val_main_v30 val_main_v29 val_main_v28 val_main_v27 val_main_cst_5 val_main_cst_6 val_main_cst_7 normedArr normed ms
  pointwise [ref_unit y0 u d w, div_512]

end Reference

end Cert.Glu.GluFwd

end
-- ==== Proof.Glu.FwdArrays.lean ====
/-
  THE GATED UNIT'S FORWARD KERNEL: ITS RESULTS AS WHOLE ARRAYS.

  Grid point `t` reads rows `512 t … 512 t + 511` of the row arrays and the whole of the small ones, and writes the same
  rows of the results.
-/
module

public import proofs.«01_k».proof.Proof.Gen.GluFwdIdeal.Value
public import proofs.«01_k».proof.Proof.Glu.Fwd

@[expose] public section

noncomputable section

namespace Cert.Glu.GluFwd

open Cert.GluFwdIdeal Cert.GluFwdIdeal.Gen Idealize.ShloMosaic Idealize.ShloMosaic.TcCoe Idealize.SL.Sem
open Idealize.ShloMosaic.StableHlo

theorem stored5 (x0 x1 : Vec Ideal S512x512 .f32) (x2 : Vec Ideal S1x512 .f32) (x3 : Vec Ideal S512x512 .bf16) (x4 : Vec Ideal S1x512 .f32) :
    out0_5 (F := Ideal) x0 x1 x2 x3 x4 = k0_pay2 x0 x2 x1 := by
  unfold out0_5
  rw [View.canon_unit_zero (S := S512x512) Mlp.origin2]
  simp only [View.ld_unit_zero (S := S512x512) Mlp.origin2, View.ld_unit_zero (S := S1x512) Mlp.origin2]

theorem stored6 (x0 x1 : Vec Ideal S512x512 .f32) (x2 : Vec Ideal S1x512 .f32) (x3 : Vec Ideal S512x512 .bf16) (x4 : Vec Ideal S1x512 .f32) :
    out0_6 (F := Ideal) x0 x1 x2 x3 x4 = k0_pay3 x0 x2 x1 x3 := by
  unfold out0_6
  rw [View.canon_unit_zero (S := S512x512) Mlp.origin2]
  simp only [View.ld_unit_zero (S := S512x512) Mlp.origin2, View.ld_unit_zero (S := S1x512) Mlp.origin2]

theorem stored7 (x0 x1 : Vec Ideal S512x512 .f32) (x2 : Vec Ideal S1x512 .f32) (x3 : Vec Ideal S512x512 .bf16) (x4 : Vec Ideal S1x512 .f32) :
    out0_7 (F := Ideal) x0 x1 x2 x3 x4 = k0_pay1 (k0_pay3 x0 x2 x1 x3) x4 (k0_pay4 x0 x2 x1 x3) := by
  unfold out0_7
  rw [View.canon_unit_zero (S := S512x512) Mlp.origin2]
  simp only [View.ld_unit_zero (S := S512x512) Mlp.origin2, View.ld_unit_zero (S := S1x512) Mlp.origin2]

variable (m : (ℓ : Loc nD τ sig) → Buf (Elt Ideal) ℓ) (c : Dev nD)

/-- The arguments as launched: the scan's output, its input, the skip vector, the gate's matrix and the norm's scale. -/
abbrev arg0 : Mlp.A2 8192 512 := m (c.tc.loc main_arg0)
abbrev arg1 : Mlp.A2 8192 512 := m (c.tc.loc main_arg1)
abbrev arg2 : Mlp.A2 1 512 := m (c.tc.loc main_arg2)
abbrev arg3 : Mlp.A2 512 512 := m (c.tc.loc main_arg3)
abbrev arg4 : Mlp.A2 1 512 := m (c.tc.loc main_arg4)

/-- Row `r` of block `t`. -/
def rowIx (t : Fin cfg0.N) (r : Fin 512) : Fin 8192 :=
  ⟨t.val * 512 + r.val, by have hN : cfg0.N = 16 := N_0; omega⟩

/-- The grid point that handles row `R`. -/
def ptOf (R : Fin 8192) : Fin cfg0.N := ⟨R.val / 512, by have hN : cfg0.N = 16 := N_0; have := R.isLt; omega⟩

theorem idx_facts : ∀ t : Fin cfg0.N,
    (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0) :=
  (by decide +kernel : ∀ t : Fin grid0.N, _)

/-- The gate's matrix as the host prepares it: a change of format only. -/
theorem entry_w : (V m c main_v0 : Mlp.A2 512 512) = arg3 m c := by
  have h : (V m c main_v0 : Mlp.A2 512 512) = truncf (F := Ideal) (φ := .f32) .bf16 (arg3 m c) bitsLt_bf16_f32 := by
    show StableHlo.after hostOps0 _ main_v0 = _
    unfold hostOps0
    after_results
  rw [h]; funext i
  pointwise

theorem blk_y0 (t : Fin cfg0.N) (r : Fin 512) (k : Fin 512) :
    (iblk m c 0 t : Mlp.A2 512 512) (ix2 r k) = arg0 m c (ix2 (rowIx t r) k) := by
  have hi := (idx_facts t).1
  unfold iblk
  rw [View.read_apply]
  show (V m c main_arg0 : Mlp.A2 8192 512) _ = _
  rw [V_main_arg0]
  show arg0 m c _ = _
  congr 1
  funext a
  apply Fin.ext
  match a with
  | ⟨0, _⟩ => show win0_0.index t 0 * 512 + 1 * r.val = t.val * 512 + r.val; rw [hi.1]; omega
  | ⟨1, _⟩ => show win0_0.index t 1 * 512 + 1 * k.val = k.val; rw [hi.2]; omega

theorem blk_u (t : Fin cfg0.N) (r : Fin 512) (k : Fin 512) :
    (iblk m c 1 t : Mlp.A2 512 512) (ix2 r k) = arg1 m c (ix2 (rowIx t r) k) := by
  have hi := (idx_facts t).2.1
  unfold iblk
  rw [View.read_apply]
  show (V m c main_arg1 : Mlp.A2 8192 512) _ = _
  rw [V_main_arg1]
  show arg1 m c _ = _
  congr 1
  funext a
  apply Fin.ext
  match a with
  | ⟨0, _⟩ => show win0_1.index t 0 * 512 + 1 * r.val = t.val * 512 + r.val; rw [hi.1]; omega
  | ⟨1, _⟩ => show win0_1.index t 1 * 512 + 1 * k.val = k.val; rw [hi.2]; omega

theorem blk_d (t : Fin cfg0.N) (k : Fin 512) :
    (iblk m c 2 t : Mlp.A2 1 512) (ix2 0 k) = arg2 m c (ix2 0 k) := by
  have hi := (idx_facts t).2.2.1
  unfold iblk
  rw [View.read_apply]
  show (V m c main_arg2 : Mlp.A2 1 512) _ = _
  rw [V_main_arg2]
  show arg2 m c _ = _
  congr 1
  funext a
  apply Fin.ext
  match a with
  | ⟨0, _⟩ => show win0_2.index t 0 * 1 + 1 * 0 = 0; rw [hi.1]
  | ⟨1, _⟩ => show win0_2.index t 1 * 512 + 1 * k.val = k.val; rw [hi.2]; omega

theorem blk_w (t : Fin cfg0.N) (r : Fin 512) (k : Fin 512) :
    (iblk m c 3 t : Mlp.A2 512 512) (ix2 r k) = arg3 m c (ix2 r k) := by
  have hi := (idx_facts t).2.2.2.1
  rw [← entry_w]
  unfold iblk
  rw [View.read_apply]
  show (V m c main_v0 : Mlp.A2 512 512) _ = _
  congr 1
  funext a
  apply Fin.ext
  match a with
  | ⟨0, _⟩ => show win0_3.index t 0 * 512 + 1 * r.val = r.val; rw [hi.1]; omega
  | ⟨1, _⟩ => show win0_3.index t 1 * 512 + 1 * k.val = k.val; rw [hi.2]; omega

theorem blk_g (t : Fin cfg0.N) (k : Fin 512) :
    (iblk m c 4 t : Mlp.A2 1 512) (ix2 0 k) = arg4 m c (ix2 0 k) := by
  have hi := (idx_facts t).2.2.2.2.1
  unfold iblk
  rw [View.read_apply]
  show (V m c main_arg4 : Mlp.A2 1 512) _ = _
  rw [V_main_arg4]
  show arg4 m c _ = _
  congr 1
  funext a
  apply Fin.ext
  match a with
  | ⟨0, _⟩ => show win0_4.index t 0 * 1 + 1 * 0 = 0; rw [hi.1]
  | ⟨1, _⟩ => show win0_4.index t 1 * 512 + 1 * k.val = k.val; rw [hi.2]; omega

/-- The input of a block's units, in terms of the arguments. -/
theorem block_z (t : Fin cfg0.N) (r : Fin 512) :
    zBlock (iblk m c 0 t) (iblk m c 1 t) (iblk m c 2 t) r = zRow (arg0 m c) (arg1 m c) (arg2 m c) (rowIx t r) := by
  funext k
  have h : ∀ a b e a' b' e' : EReal, a = a' → b = b' → e = e' → a + b * e = a' + b' * e' := by
    rintro _ _ _ _ _ _ rfl rfl rfl; rfl
  exact h _ _ _ _ _ _ (blk_y0 m c t r k) (blk_d m c t k) (blk_u m c t r k)
theorem whole_w (t : Fin cfg0.N) : (iblk m c 3 t : Mlp.A2 512 512) = arg3 m c := Mlp.ext2 _ _ (blk_w m c t)
theorem whole_g (t : Fin cfg0.N) : (iblk m c 4 t : Mlp.A2 1 512) = arg4 m c := Mlp.ext1 _ _ (blk_g m c t)

theorem read5 (t : Fin cfg0.N) (G : Mlp.A2 8192 512) (r : Fin 512) (k : Fin 512) :
    (((cfg0.win 5).blk t).view.read (Elt Ideal) G : Mlp.A2 512 512) (ix2 r k) = G (ix2 (rowIx t r) k) := by
  have hi := (idx_facts t).2.2.2.2.2.1
  rw [View.read_apply]
  show G _ = _
  congr 1
  funext a
  apply Fin.ext
  match a with
  | ⟨0, _⟩ => show win0_5.index t 0 * 512 + 1 * r.val = t.val * 512 + r.val; rw [hi.1]; omega
  | ⟨1, _⟩ => show win0_5.index t 1 * 512 + 1 * k.val = k.val; rw [hi.2]; omega

theorem read6 (t : Fin cfg0.N) (G : Mlp.A2 8192 512) (r : Fin 512) (k : Fin 512) :
    (((cfg0.win 6).blk t).view.read (Elt Ideal) G : Mlp.A2 512 512) (ix2 r k) = G (ix2 (rowIx t r) k) := by
  have hi := (idx_facts t).2.2.2.2.2.2.1
  rw [View.read_apply]
  show G _ = _
  congr 1
  funext a
  apply Fin.ext
  match a with
  | ⟨0, _⟩ => show win0_6.index t 0 * 512 + 1 * r.val = t.val * 512 + r.val; rw [hi.1]; omega
  | ⟨1, _⟩ => show win0_6.index t 1 * 512 + 1 * k.val = k.val; rw [hi.2]; omega

theorem read7 (t : Fin cfg0.N) (G : Mlp.A2 8192 512) (r : Fin 512) (k : Fin 512) :
    (((cfg0.win 7).blk t).view.read (Elt Ideal) G : Mlp.A2 512 512) (ix2 r k) = G (ix2 (rowIx t r) k) := by
  have hi := (idx_facts t).2.2.2.2.2.2.2
  rw [View.read_apply]
  show G _ = _
  congr 1
  funext a
  apply Fin.ext
  match a with
  | ⟨0, _⟩ => show win0_7.index t 0 * 512 + 1 * r.val = t.val * 512 + r.val; rw [hi.1]; omega
  | ⟨1, _⟩ => show win0_7.index t 1 * 512 + 1 * k.val = k.val; rw [hi.2]; omega

theorem final_inputArr : (dats m 0 c).arrAt 5 cfg0.N = inputArr (arg0 m c) (arg1 m c) (arg2 m c) := by
  refine (dats m 0 c).arrAt_eq_of_cover 5 (inputArr (arg0 m c) (arg1 m c) (arg2 m c)) ?_ ?_
  · intro t _
    rw [Value.flushed5]
    refine Mlp.ext2 (a := 512) (b := 512) _ _ fun r k => ?_
    refine Eq.trans ?_ (read5 t (inputArr (arg0 m c) (arg1 m c) (arg2 m c)) r k).symm
    show out0_5 (F := Ideal) (iblk m c 0 t) (iblk m c 1 t) (iblk m c 2 t) (iblk m c 3 t) (iblk m c 4 t) (ix2 r k) = _
    rw [stored5, input_at, block_z]
    rfl
  · intro i
    have h0 : (i 0 : Nat) < 8192 := (i 0).isLt
    have h1 : (i 1 : Nat) < 512 := (i 1).isLt
    refine ⟨ptOf (i 0), flush0_5 _, ?_⟩
    have hi := (idx_facts (ptOf (i 0))).2.2.2.2.2.1
    show i ∈ ((View.whole main_v1_0).slice (win0_5.rect (ptOf (i 0)))).set
    rw [View.set_slice_whole, Rect.mem_set_unit]
    intro a
    match a with
    | ⟨0, _⟩ => show win0_5.index (ptOf (i 0)) 0 * 512 ≤ (i 0 : Nat) ∧ (i 0 : Nat) < win0_5.index (ptOf (i 0)) 0 * 512 + 512; rw [hi.1]; show (i 0).val / 512 * 512 ≤ _ ∧ _ < (i 0).val / 512 * 512 + 512; omega
    | ⟨1, _⟩ => show win0_5.index (ptOf (i 0)) 1 * 512 ≤ (i 1 : Nat) ∧ (i 1 : Nat) < win0_5.index (ptOf (i 0)) 1 * 512 + 512; rw [hi.2]; omega

theorem final_unitArr : (dats m 0 c).arrAt 6 cfg0.N = unitArr (arg0 m c) (arg1 m c) (arg2 m c) (arg3 m c) := by
  refine (dats m 0 c).arrAt_eq_of_cover 6 (unitArr (arg0 m c) (arg1 m c) (arg2 m c) (arg3 m c)) ?_ ?_
  · intro t _
    rw [Value.flushed6]
    refine Mlp.ext2 (a := 512) (b := 512) _ _ fun r k => ?_
    refine Eq.trans ?_ (read6 t (unitArr (arg0 m c) (arg1 m c) (arg2 m c) (arg3 m c)) r k).symm
    show out0_6 (F := Ideal) (iblk m c 0 t) (iblk m c 1 t) (iblk m c 2 t) (iblk m c 3 t) (iblk m c 4 t) (ix2 r k) = _
    rw [stored6, unit_at, block_z, whole_w]
    rfl
  · intro i
    have h0 : (i 0 : Nat) < 8192 := (i 0).isLt
    have h1 : (i 1 : Nat) < 512 := (i 1).isLt
    refine ⟨ptOf (i 0), flush0_6 _, ?_⟩
    have hi := (idx_facts (ptOf (i 0))).2.2.2.2.2.2.1
    show i ∈ ((View.whole main_v1_1).slice (win0_6.rect (ptOf (i 0)))).set
    rw [View.set_slice_whole, Rect.mem_set_unit]
    intro a
    match a with
    | ⟨0, _⟩ => show win0_6.index (ptOf (i 0)) 0 * 512 ≤ (i 0 : Nat) ∧ (i 0 : Nat) < win0_6.index (ptOf (i 0)) 0 * 512 + 512; rw [hi.1]; show (i 0).val / 512 * 512 ≤ _ ∧ _ < (i 0).val / 512 * 512 + 512; omega
    | ⟨1, _⟩ => show win0_6.index (ptOf (i 0)) 1 * 512 ≤ (i 1 : Nat) ∧ (i 1 : Nat) < win0_6.index (ptOf (i 0)) 1 * 512 + 512; rw [hi.2]; omega

theorem final_normedArr : (dats m 0 c).arrAt 7 cfg0.N = normedArr (arg0 m c) (arg1 m c) (arg2 m c) (arg3 m c) (arg4 m c) := by
  refine (dats m 0 c).arrAt_eq_of_cover 7 (normedArr (arg0 m c) (arg1 m c) (arg2 m c) (arg3 m c) (arg4 m c)) ?_ ?_
  · intro t _
    rw [Value.flushed7]
    refine Mlp.ext2 (a := 512) (b := 512) _ _ fun r k => ?_
    refine Eq.trans ?_ (read7 t (normedArr (arg0 m c) (arg1 m c) (arg2 m c) (arg3 m c) (arg4 m c)) r k).symm
    show out0_7 (F := Ideal) (iblk m c 0 t) (iblk m c 1 t) (iblk m c 2 t) (iblk m c 3 t) (iblk m c 4 t) (ix2 r k) = _
    rw [stored7, normed_at, block_z, whole_w, whole_g]
    rfl
  · intro i
    have h0 : (i 0 : Nat) < 8192 := (i 0).isLt
    have h1 : (i 1 : Nat) < 512 := (i 1).isLt
    refine ⟨ptOf (i 0), flush0_7 _, ?_⟩
    have hi := (idx_facts (ptOf (i 0))).2.2.2.2.2.2.2
    show i ∈ ((View.whole main_v1_2).slice (win0_7.rect (ptOf (i 0)))).set
    rw [View.set_slice_whole, Rect.mem_set_unit]
    intro a
    match a with
    | ⟨0, _⟩ => show win0_7.index (ptOf (i 0)) 0 * 512 ≤ (i 0 : Nat) ∧ (i 0 : Nat) < win0_7.index (ptOf (i 0)) 0 * 512 + 512; rw [hi.1]; show (i 0).val / 512 * 512 ≤ _ ∧ _ < (i 0).val / 512 * 512 + 512; omega
    | ⟨1, _⟩ => show win0_7.index (ptOf (i 0)) 1 * 512 ≤ (i 1 : Nat) ∧ (i 1 : Nat) < win0_7.index (ptOf (i 0)) 1 * 512 + 512; rw [hi.2]; omega

end Cert.Glu.GluFwd

end
-- ==== Proof.Glu.GluFwdClaims.lean ====
/-
  THE GATED UNIT'S FORWARD PASS: THE KERNEL'S RUN AND THE REFERENCE'S RUN, AT THE SAME ARRAYS.
-/
module

public import proofs.«01_k».proof.Proof.Glu.FwdArrays
public import proofs.«01_k».proof.Proof.Gen.GluFwdRefIdeal.Run

@[expose] public section

noncomputable section

namespace Cert.Glu.GluFwd

open Idealize.ShloMosaic Idealize.SL.Sem

section Kernel
open Cert.GluFwdIdeal Cert.GluFwdIdeal.Gen

/-- The kernel's run: its results; its arguments stay. -/
theorem kernel_run (m : (ℓ : Loc nD τ sig) → Buf (Elt Ideal) ℓ) (ρ : Dev nD → PrngReg) :
    θ_run defs (onTc main) ⟨m, fun _ => 0, ρ⟩ fun r => ∀ c,
      r.2.mem (c.tc.loc main_v1_0) = inputArr (arg0 m c) (arg1 m c) (arg2 m c)
      ∧ r.2.mem (c.tc.loc main_v1_1) = unitArr (arg0 m c) (arg1 m c) (arg2 m c) (arg3 m c)
      ∧ r.2.mem (c.tc.loc main_v1_2) = normedArr (arg0 m c) (arg1 m c) (arg2 m c) (arg3 m c) (arg4 m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) :=
  (θ_run defs _ _).mono (fun r h c => ⟨(h c).1.trans (final_inputArr m c), (h c).2.1.trans (final_unitArr m c), (h c).2.2.1.trans (final_normedArr m c), (h c).2.2.2⟩) (Value.run_blocks m ρ)

end Kernel

section Reference
open Cert.GluFwdRefIdeal Cert.GluFwdRefIdeal.Gen

/-- The reference's run, at the same functions. -/
theorem reference_run (m : (ℓ : Loc nD τ sig) → Buf (Elt Ideal) ℓ) (ρ : Dev nD → PrngReg)
    (p0 : Dev nD → Mlp.A2 8192 512) (p1 : Dev nD → Mlp.A2 8192 512) (p2 : Dev nD → Mlp.A2 1 512) (p3 : Dev nD → Mlp.A2 512 512) (p4 : Dev nD → Mlp.A2 1 512)
    (hm : ∀ c, m (c.tc.loc main_arg0) = p0 c
      ∧ m (c.tc.loc main_arg1) = p1 c
      ∧ m (c.tc.loc main_arg2) = p2 c
      ∧ m (c.tc.loc main_arg3) = p3 c
      ∧ m (c.tc.loc main_arg4) = p4 c) :
    θ_run defs (onTc main) ⟨m, fun _ => 0, ρ⟩ fun r => ∀ c,
      r.2.mem (c.tc.loc main_v26) = inputArr (p0 c) (p1 c) (p2 c)
      ∧ r.2.mem (c.tc.loc main_v23) = unitArr (p0 c) (p1 c) (p2 c) (p3 c)
      ∧ r.2.mem (c.tc.loc main_v39) = normedArr (p0 c) (p1 c) (p2 c) (p3 c) (p4 c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) := by
  refine (θ_run _ _ _).mono (fun r h c => ?_) (Value.run m ρ)
  obtain ⟨h0, h1, h2, h3, h4⟩ := hm c
  obtain ⟨r0, r1, r2, hr⟩ := h c
  refine ⟨r0.trans ?_, r1.trans ?_, r2.trans ?_, hr⟩
  · rw [Read.val_main_v26_eq, h0, h1, h2]; exact ref_inputArr ..
  · rw [Read.val_main_v23_eq, h0, h1, h2, h3]; exact ref_unitArr ..
  · rw [Read.val_main_v39_eq, h0, h1, h2, h3, h4]; exact ref_normedArr ..

end Reference

end Cert.Glu.GluFwd

end
-- ==== Proof.Xa.Head.lean ====
/-
  THE CROSS-ATTENTION OF ONE HEAD, ONE QUERY ROW AT A TIME.

  A query row `q` and the 256 key rows `k` of a head are normed and scaled by `gq` and by `gk`; the softmax of their
  products weighs the 256 value rows `v`.  The functions below are the head's output, and what a cotangent `c` of that
  output passes back, over the extended reals and in the order of operations that automatic differentiation gives.
-/
module

public import proofs.«01_k».proof.Proof.Mlp.Sums

@[expose] public section

noncomputable section

namespace Cert.Xa

open Idealize.ShloMosaic

/-- A row of 128 extended reals. -/
abbrev Row := Fin 128 → EReal
/-- The 256 rows of the memory. -/
abbrev Mem := Fin 256 → Row

/-- The constant `2⁻⁷`, as the programs write it. -/
abbrev inv128 : EReal := Ideal.ofBits .f32 0x3C000000#32
/-- The norm's small constant. -/
abbrev eps : EReal := Ideal.ofBits .f32 0x358637BD#32
/-- Minus one half. -/
abbrev negHalf : EReal := Ideal.ofBits .f32 0xBF000000#32
/-- The scale of the scores, `128 ^ (-1/2)` as the programs write it. -/
abbrev scale : EReal := Ideal.ofBits .f32 0x3DB504F3#32
/-- The programs' start of a maximum. -/
abbrev low : EReal := Ideal.ofBits .f32 0xFF800000#32
/-- One. -/
abbrev one : EReal := Ideal.ofBits .f32 0x3F800000#32

/-- The columns of a head of the queries. -/
def col : Fin 4 → Fin 128 → Fin 512
  | 0, d => ⟨d.val, by omega⟩
  | 1, d => ⟨128 + d.val, by omega⟩
  | 2, d => ⟨256 + d.val, by omega⟩
  | 3, d => ⟨384 + d.val, by omega⟩

/-- The columns of a head of the keys. -/
def kCol : Fin 4 → Fin 128 → Fin 1024
  | 0, d => ⟨d.val, by omega⟩
  | 1, d => ⟨128 + d.val, by omega⟩
  | 2, d => ⟨256 + d.val, by omega⟩
  | 3, d => ⟨384 + d.val, by omega⟩

/-- The columns of a head of the values. -/
def vCol : Fin 4 → Fin 128 → Fin 1024
  | 0, d => ⟨512 + d.val, by omega⟩
  | 1, d => ⟨640 + d.val, by omega⟩
  | 2, d => ⟨768 + d.val, by omega⟩
  | 3, d => ⟨896 + d.val, by omega⟩

theorem col_val (h : Fin 4) (d : Fin 128) : (col h d).val = h.val * 128 + d.val := by
  fin_cases h <;> simp [col]
theorem kCol_val (h : Fin 4) (d : Fin 128) : (kCol h d).val = h.val * 128 + d.val := by
  fin_cases h <;> simp [kCol]
theorem vCol_val (h : Fin 4) (d : Fin 128) : (vCol h d).val = 512 + h.val * 128 + d.val := by
  fin_cases h <;> simp [vCol]

/-- The head of a column. -/
def headOf (j : Fin 512) : Fin 4 := ⟨j.val / 128, by omega⟩
/-- A column's place within its head. -/
def place (j : Fin 512) : Fin 128 := ⟨j.val % 128, by omega⟩

theorem col_head (j : Fin 512) : col (headOf j) (place j) = j :=
  Fin.ext (by rw [col_val]; exact Nat.div_add_mod' j.val 128)

/-- Row `r` of the queries of a head. -/
abbrev qRow {n : Nat} (q : Mlp.A2 n 512) (h : Fin 4) (r : Fin n) : Row := fun d => q (ix2 r (col h d))
/-- The keys of a head. -/
abbrev kMem (kv : Mlp.A2 256 1024) (h : Fin 4) : Mem := fun t d => kv (ix2 t (kCol h d))
/-- The values of a head. -/
abbrev vMem (kv : Mlp.A2 256 1024) (h : Fin 4) : Mem := fun t d => kv (ix2 t (vCol h d))
/-- A one-row array as a row. -/
abbrev gRow (g : Mlp.A2 1 128) : Row := fun d => g (ix2 0 d)

/-- Dividing by 128 is multiplying by the constant `2⁻⁷`. -/
theorem div_128 (x : EReal) : Ideal.div x (Ideal.ofBits .f32 0x43000000#32) = x * inv128 := by
  have h1 : Ideal.ofBits .f32 0x43000000#32 = ((128 : ℝ) : EReal) := by
    simp [Ideal.ofBits, Ideal.ieee, -EReal.coe_mul]; norm_num
  have h2 : inv128 = ((1 / 128 : ℝ) : EReal) := by
    simp [inv128, Ideal.ofBits, Ideal.ieee, -EReal.coe_mul]; norm_num
  rw [h1, h2]; exact Ideal.div_coe (by norm_num) x

/-- Column `j` of an array whose columns are given head by head. -/
def byHead (f : Fin 4 → Fin 128 → EReal) (j : Fin 512) : EReal := f (headOf j) (place j)

/-- Four arrays of 128 columns put side by side. -/
theorem byHead_cat (f : Fin 4 → Fin 128 → EReal) (j : Fin 512) :
    (if h : j.val < 128 then f 0 ⟨j.val, h⟩
      else if h : j.val - 128 < 128 then f 1 ⟨j.val - 128, h⟩
      else if h : j.val - 128 - 128 < 128 then f 2 ⟨j.val - 128 - 128, h⟩
      else f 3 ⟨j.val - 128 - 128 - 128, by omega⟩) = byHead f j := by
  unfold byHead
  have key : ∀ (h : Fin 4) (d : Fin 128), j.val = h.val * 128 + d.val → f h d = f (headOf j) (place j) := by
    intro h d e
    rw [show headOf j = h from Fin.ext (by simp only [headOf]; omega), show place j = d from Fin.ext (by simp only [place]; omega)]
  split
  · exact key 0 _ (by simp)
  split
  · exact key 1 _ (by simp; omega)
  split
  · exact key 2 _ (by simp; omega)
  · exact key 3 _ (by simp; omega)

/-! ### The norm of a row of 128 -/

/-- The mean square of a row, plus the small constant. -/
def ms (x : Row) : EReal := (∑ d, x d * x d) * inv128 + eps

/-- A row over the root of its mean square. -/
def unit (x : Row) (d : Fin 128) : EReal := x d * Ideal.rsqrt (ms x)

/-- The normed row. -/
def normed (x g : Row) (d : Fin 128) : EReal := unit x d * g d

/-- The root's derivative. -/
def bend (x : Row) : EReal := negHalf * Ideal.div (Ideal.rsqrt (ms x)) (ms x)

/-- What the mean square passes back to each entry, per unit of the entry, from the cotangent `e` of the normed row. -/
def slope (x g e : Row) : EReal := (∑ d, x d * (e d * g d)) * bend x * inv128

/-- The cotangent of the row, from the cotangent `e` of the normed row. -/
def unnorm (x g e : Row) (d : Fin 128) : EReal :=
  e d * g d * Ideal.rsqrt (ms x) + x d * slope x g e + slope x g e * x d

/-! ### The forward pass -/

section
variable (q : Row) (k v : Mem) (gq gk c : Row)

/-- The scores of a query row. -/
def score (t : Fin 256) : EReal := (∑ d, normed q gq d * normed (k t) gk d) * scale

/-- The largest score. -/
def top : EReal := Finset.univ.fold max low fun t => score q k gq gk t

/-- The weights before they are divided by their sum. -/
def expo (t : Fin 256) : EReal := Ideal.exp (score q k gq gk t - top q k gq gk)

/-- The weights' sum. -/
def total : EReal := ∑ t, expo q k gq gk t

/-- The weights. -/
def weight (t : Fin 256) : EReal := Ideal.div (expo q k gq gk t) (total q k gq gk)

/-- The head's output. -/
def out (d : Fin 128) : EReal := ∑ t, weight q k gq gk t * v t d

/-! ### The backward pass -/

/-- The cotangent of a weight. -/
def dWeight (t : Fin 256) : EReal := ∑ d, c d * v t d

/-- The cotangent of the weights' sum. -/
def dTotal : EReal :=
  -∑ t, dWeight v c t * Ideal.div one (total q k gq gk * total q k gq gk) * expo q k gq gk t

/-- The cotangent of a product of query and key. -/
def dScore (t : Fin 256) : EReal :=
  (Ideal.div (dWeight v c t) (total q k gq gk) + dTotal q k v gq gk c) * expo q k gq gk t * scale

/-- The cotangent of the normed query row. -/
def dQn (d : Fin 128) : EReal := ∑ t, dScore q k v gq gk c t * normed (k t) gk d

/-- The cotangent of the query row. -/
def dQ (d : Fin 128) : EReal := unnorm q gq (dQn q k v gq gk c) d

/-- The query row's part of the gradient of `gq`. -/
def dGqPart (d : Fin 128) : EReal := unit q d * dQn q k v gq gk c d

/-- The query row's part of the cotangent of a normed key row. -/
def dKnPart (t : Fin 256) (d : Fin 128) : EReal := dScore q k v gq gk c t * normed q gq d

/-- The query row's part of the cotangent of a value row. -/
def dVPart (t : Fin 256) (d : Fin 128) : EReal := weight q k gq gk t * c d

end

end Cert.Xa

end
-- ==== Proof.Xa.FwdPayload.lean ====
/-
  THE FORWARD KERNEL'S BLOCK, READ AT AN INDEX.

  The named pure terms of the body, head by head: each is the row function of the block's row.
-/
module

public import proofs.«01_k».proof.Proof.Gen.XaFwdIdeal.Skeleton
public import proofs.«01_k».proof.Proof.Xa.Head

@[expose] public section

noncomputable section

namespace Cert.Xa.XaFwd

open Cert.XaFwdIdeal Cert.XaFwdIdeal.Gen Idealize.ShloMosaic Idealize.SL.Sem

variable (z : Vec Ideal S512x512 .f32) (kv : Vec Ideal S256x1024 .f32) (gq gk : Vec Ideal S1x128 .f32)

theorem value0_at (t : Fin 256) (d : Fin 128) : k0_pay1 kv (ix2 t d) = vMem kv 0 t d := by
  unfold k0_pay1
  pointwise
  rfl

theorem value1_at (t : Fin 256) (d : Fin 128) : k0_pay4 kv (ix2 t d) = vMem kv 1 t d := by
  unfold k0_pay4
  pointwise
  rfl

theorem expo0_at (r : Fin 512) (t : Fin 256) :
    k0_pay2 z kv gq gk (ix2 r t) = expo (qRow z 0 r) (kMem kv 0) (gRow gq) (gRow gk) t := by
  unfold k0_pay2 expo top score normed unit ms
  pointwise [dot_S512x128_S256x128_S512x256_1_1_0_0_n_n]
  rfl

theorem weight1_at (r : Fin 512) (t : Fin 256) :
    k0_pay5 z kv gq gk (ix2 r t) = weight (qRow z 1 r) (kMem kv 1) (gRow gq) (gRow gk) t := by
  unfold k0_pay5 weight total expo top score normed unit ms
  pointwise [dot_S512x128_S256x128_S512x256_1_1_0_0_n_n]
  rfl

theorem out0_at (r : Fin 512) (d : Fin 128) :
    k0_pay3 (k0_pay1 kv) (k0_pay2 z kv gq gk) (ix2 r d)
      = out (qRow z 0 r) (kMem kv 0) (vMem kv 0) (gRow gq) (gRow gk) d := by
  unfold k0_pay3 out weight total
  pointwise [dot_S512x256_S256x128_S512x128_1_0_0_1_n_n, value0_at kv, expo0_at z kv gq gk]

theorem out1_at (r : Fin 512) (d : Fin 128) :
    k0_pay6 (k0_pay4 kv) (k0_pay5 z kv gq gk) (ix2 r d)
      = out (qRow z 1 r) (kMem kv 1) (vMem kv 1) (gRow gq) (gRow gk) d := by
  unfold k0_pay6 out
  pointwise [dot_S512x256_S256x128_S512x128_1_0_0_1_n_n, value1_at kv, weight1_at z kv gq gk]

theorem out2_at (r : Fin 512) (d : Fin 128) :
    k0_pay7 z kv gq gk (ix2 r d) = out (qRow z 2 r) (kMem kv 2) (vMem kv 2) (gRow gq) (gRow gk) d := by
  unfold k0_pay7 out weight total expo top score normed unit ms
  pointwise [dot_S512x128_S256x128_S512x256_1_1_0_0_n_n, dot_S512x256_S256x128_S512x128_1_0_0_1_n_n]
  rfl

theorem query3_at (r : Fin 512) (d : Fin 128) : k0_pay8 z (ix2 r d) = qRow z 3 r d := by
  unfold k0_pay8
  pointwise
  rfl

theorem square3_at (r : Fin 512) (d : Fin 128) : k0_pay9 z (ix2 r d) = qRow z 3 r d * qRow z 3 r d := by
  unfold k0_pay9
  pointwise [query3_at z]

/-- The block that a grid point stores. -/
abbrev block : Vec Ideal S512x512 .bf16 :=
  k0_pay10 kv gq gk (k0_pay3 (k0_pay1 kv) (k0_pay2 z kv gq gk)) (k0_pay6 (k0_pay4 kv) (k0_pay5 z kv gq gk))
    (k0_pay7 z kv gq gk) (k0_pay8 z) (k0_pay9 z)

theorem block_at (r j : Fin 512) :
    block z kv gq gk (ix2 r j)
      = byHead (fun h => out (qRow z h r) (kMem kv h) (vMem kv h) (gRow gq) (gRow gk)) j := by
  rw [← byHead_cat]
  unfold block k0_pay10
  pointwise [dot_S512x128_S256x128_S512x256_1_1_0_0_n_n, dot_S512x256_S256x128_S512x128_1_0_0_1_n_n,
    out0_at z kv gq gk, out1_at z kv gq gk, out2_at z kv gq gk, query3_at z, square3_at z]
  rfl

end Cert.Xa.XaFwd

end
-- ==== Proof.Xa.FwdReference.lean ====
/-
  THE FORWARD REFERENCE, READ AT AN INDEX.

  The generated reading of each operation is chained into the row functions of a head.
-/
module

public import proofs.«01_k».proof.Proof.Gen.XaFwdRefIdeal.Read
public import proofs.«01_k».proof.Proof.Xa.Head

@[expose] public section

noncomputable section

namespace Cert.Xa.XaFwd

open Cert.XaFwdRefIdeal Cert.XaFwdRefIdeal.Gen Cert.XaFwdRefIdeal.Read Idealize.ShloMosaic Idealize.SL.Sem

variable (q : Mlp.A2 8192 512) (kv : Mlp.A2 256 1024) (gq gk : Mlp.A2 1 128)

theorem ref_q (r : Fin 8192) (h : Fin 4) (d : Fin 128) : val_main_v0 (F := Ideal) q (ix3 r h d) = qRow q h r d := by
  unfold val_main_v0
  pointwise
  exact congrArg (fun j => q (ix2 r j)) (Fin.ext (col_val h d).symm)

theorem ref_k (t : Fin 256) (h : Fin 4) (d : Fin 128) : val_main_v15 (F := Ideal) kv (ix3 t h d) = kMem kv h t d := by
  unfold val_main_v15 val_main_v14
  pointwise
  exact congrArg (fun j => kv (ix2 t j)) (Fin.ext (kCol_val h d).symm)

theorem ref_v (t : Fin 256) (h : Fin 4) (d : Fin 128) : val_main_v30 (F := Ideal) kv (ix3 t h d) = vMem kv h t d := by
  unfold val_main_v30 val_main_v29
  pointwise
  exact congrArg (fun j => kv (ix2 t j)) (Fin.ext ((vCol_val h d).trans (Nat.add_assoc _ _ _)).symm)

theorem ref_qn (r : Fin 8192) (h : Fin 4) (d : Fin 128) :
    val_main_v13 (F := Ideal) q gq (ix3 r h d) = normed (qRow q h r) (gRow gq) d := by
  unfold val_main_v13 val_main_v12 val_main_v11 val_main_v10 val_main_v9 val_main_v8 val_main_v7 val_main_v6 val_main_v5 val_main_v4
    val_main_v3 val_main_v2 val_main_v1 val_main_cst val_main_cst_0 val_main_cst_1 normed unit ms
  pointwise [ref_q q, div_128]

theorem ref_kn (t : Fin 256) (h : Fin 4) (d : Fin 128) :
    val_main_v28 (F := Ideal) kv gk (ix3 t h d) = normed (kMem kv h t) (gRow gk) d := by
  unfold val_main_v28 val_main_v27 val_main_v26 val_main_v25 val_main_v24 val_main_v23 val_main_v22 val_main_v21 val_main_v20
    val_main_v19 val_main_v18 val_main_v17 val_main_v16 val_main_cst_2 val_main_cst_3 val_main_cst_4 normed unit ms
  pointwise [ref_k kv, div_128]

theorem ref_score (h : Fin 4) (r : Fin 8192) (t : Fin 256) :
    val_main_v33 (F := Ideal) q kv gq gk (ix3 h r t) = score (qRow q h r) (kMem kv h) (gRow gq) (gRow gk) t := by
  unfold val_main_v33 val_main_v32 val_main_v31 val_main_cst_5 score
  pointwise [dot_S8192x4x128_S256x4x128_S4x8192x256_2_2_0_0_1_1, ref_qn q gq, ref_kn kv gk]

theorem ref_expo (h : Fin 4) (r : Fin 8192) (t : Fin 256) :
    val_main_v38 (F := Ideal) q kv gq gk (ix3 h r t) = expo (qRow q h r) (kMem kv h) (gRow gq) (gRow gk) t := by
  unfold val_main_v38 val_main_v37 val_main_v36 val_main_v35 val_main_v34 val_main_cst_6 expo top
  pointwise [ref_score q kv gq gk]

theorem ref_weight (h : Fin 4) (r : Fin 8192) (t : Fin 256) :
    val_main_v42 (F := Ideal) q kv gq gk (ix3 h r t) = weight (qRow q h r) (kMem kv h) (gRow gq) (gRow gk) t := by
  unfold val_main_v42 val_main_v41 val_main_v40 val_main_v39 val_main_cst_7 weight total
  pointwise [ref_expo q kv gq gk]

theorem ref_out (r : Fin 8192) (h : Fin 4) (d : Fin 128) :
    val_main_v44 (F := Ideal) q kv gq gk (ix3 r h d)
      = out (qRow q h r) (kMem kv h) (vMem kv h) (gRow gq) (gRow gk) d := by
  unfold val_main_v44 val_main_v43 out
  pointwise [dot_S256x4x128_S4x8192x256_S4x128x8192_0_2_2_1_1_0, ref_v kv, ref_weight q kv gq gk]
  exact Finset.sum_congr rfl fun t _ => mul_comm _ _

/-- The cross-attention of all 8192 rows. -/
def result : Mlp.A2 8192 512 := fun i =>
  byHead (fun h => out (qRow q h (i 0)) (kMem kv h) (vMem kv h) (gRow gq) (gRow gk)) (i 1)

/-- The reference's result. -/
theorem ref_result : val_main_v46 (F := Ideal) q kv gq gk = result q kv gq gk := by
  refine Mlp.ext2 _ _ fun r j => ?_
  unfold val_main_v46 val_main_v45 result byHead
  pointwise
  exact ref_out q kv gq gk r (headOf j) (place j)

end Cert.Xa.XaFwd

end
-- ==== Proof.Xa.FwdArrays.lean ====
/-
  THE FORWARD KERNEL'S RESULT AS A WHOLE ARRAY.

  Grid point `t` reads rows `512 t … 512 t + 511` of the queries and the whole of the other arguments, and writes the same
  rows of the result.
-/
module

public import proofs.«01_k».proof.Proof.Gen.XaFwdIdeal.Value
public import proofs.«01_k».proof.Proof.Xa.FwdPayload
public import proofs.«01_k».proof.Proof.Xa.FwdReference

@[expose] public section

noncomputable section

namespace Cert.Xa.XaFwd

open Cert.XaFwdIdeal Cert.XaFwdIdeal.Gen Idealize.ShloMosaic Idealize.ShloMosaic.TcCoe Idealize.SL.Sem
open Idealize.ShloMosaic.StableHlo

theorem out_block (x0 : Vec Ideal S512x512 .f32) (x1 : Vec Ideal S256x1024 .f32) (x2 x3 : Vec Ideal S1x128 .f32) :
    out0_4 (F := Ideal) x0 x1 x2 x3 = block x0 x1 x2 x3 := by
  unfold out0_4 block
  rw [View.canon_unit_zero (S := S512x512) Mlp.origin2]
  simp only [View.ld_unit_zero (S := S512x512) Mlp.origin2, View.ld_unit_zero (S := S256x1024) Mlp.origin2,
    View.ld_unit_zero (S := S1x128) Mlp.origin2]

variable (m : (ℓ : Loc nD τ sig) → Buf (Elt Ideal) ℓ) (c : Dev nD)

/-- The arguments as launched: the queries, keys and values side by side, the two scales. -/
abbrev arg0 : Mlp.A2 8192 512 := m (c.tc.loc main_arg0)
abbrev arg1 : Mlp.A2 256 1024 := m (c.tc.loc main_arg1)
abbrev arg2 : Mlp.A2 1 128 := m (c.tc.loc main_arg2)
abbrev arg3 : Mlp.A2 1 128 := m (c.tc.loc main_arg3)

/-- Row `r` of block `t`. -/
def rowIx (t : Fin cfg0.N) (r : Fin 512) : Fin 8192 :=
  ⟨t.val * 512 + r.val, by have hN : cfg0.N = 16 := N_0; omega⟩

/-- The grid point that handles row `R`. -/
def ptOf (R : Fin 8192) : Fin cfg0.N := ⟨R.val / 512, by have hN : cfg0.N = 16 := N_0; have := R.isLt; omega⟩

theorem idx_facts : ∀ t : Fin cfg0.N,
    (win0_0.index t 0 = t.val ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = t.val ∧ win0_4.index t 1 = 0) :=
  (by decide +kernel : ∀ t : Fin grid0.N, _)

theorem blk_q (t : Fin cfg0.N) (r : Fin 512) (k : Fin 512) :
    (iblk m c 0 t : Mlp.A2 512 512) (ix2 r k) = arg0 m c (ix2 (rowIx t r) k) := by
  have hi := (idx_facts t).1
  unfold iblk
  rw [View.read_apply]
  show (V m c main_arg0 : Mlp.A2 8192 512) _ = _
  rw [V_main_arg0]
  show arg0 m c _ = _
  congr 1
  funext a
  apply Fin.ext
  match a with
  | ⟨0, _⟩ => show win0_0.index t 0 * 512 + 1 * r.val = t.val * 512 + r.val; rw [hi.1]; omega
  | ⟨1, _⟩ => show win0_0.index t 1 * 512 + 1 * k.val = k.val; rw [hi.2]; omega

theorem blk_kv (t : Fin cfg0.N) (r : Fin 256) (k : Fin 1024) :
    (iblk m c 1 t : Mlp.A2 256 1024) (ix2 r k) = arg1 m c (ix2 r k) := by
  have hi := (idx_facts t).2.1
  unfold iblk
  rw [View.read_apply]
  show (V m c main_arg1 : Mlp.A2 256 1024) _ = _
  rw [V_main_arg1]
  show arg1 m c _ = _
  congr 1
  funext a
  apply Fin.ext
  match a with
  | ⟨0, _⟩ => show win0_1.index t 0 * 256 + 1 * r.val = r.val; rw [hi.1]; omega
  | ⟨1, _⟩ => show win0_1.index t 1 * 1024 + 1 * k.val = k.val; rw [hi.2]; omega

theorem blk_gq (t : Fin cfg0.N) (k : Fin 128) :
    (iblk m c 2 t : Mlp.A2 1 128) (ix2 0 k) = arg2 m c (ix2 0 k) := by
  have hi := (idx_facts t).2.2.1
  unfold iblk
  rw [View.read_apply]
  show (V m c main_arg2 : Mlp.A2 1 128) _ = _
  rw [V_main_arg2]
  show arg2 m c _ = _
  congr 1
  funext a
  apply Fin.ext
  match a with
  | ⟨0, _⟩ => show win0_2.index t 0 * 1 + 1 * 0 = 0; rw [hi.1]
  | ⟨1, _⟩ => show win0_2.index t 1 * 128 + 1 * k.val = k.val; rw [hi.2]; omega

theorem blk_gk (t : Fin cfg0.N) (k : Fin 128) :
    (iblk m c 3 t : Mlp.A2 1 128) (ix2 0 k) = arg3 m c (ix2 0 k) := by
  have hi := (idx_facts t).2.2.2.1
  unfold iblk
  rw [View.read_apply]
  show (V m c main_arg3 : Mlp.A2 1 128) _ = _
  rw [V_main_arg3]
  show arg3 m c _ = _
  congr 1
  funext a
  apply Fin.ext
  match a with
  | ⟨0, _⟩ => show win0_3.index t 0 * 1 + 1 * 0 = 0; rw [hi.1]
  | ⟨1, _⟩ => show win0_3.index t 1 * 128 + 1 * k.val = k.val; rw [hi.2]; omega

theorem whole_kv (t : Fin cfg0.N) : (iblk m c 1 t : Mlp.A2 256 1024) = arg1 m c := Mlp.ext2 _ _ (blk_kv m c t)
theorem whole_gq (t : Fin cfg0.N) : (iblk m c 2 t : Mlp.A2 1 128) = arg2 m c := Mlp.ext1 _ _ (blk_gq m c t)
theorem whole_gk (t : Fin cfg0.N) : (iblk m c 3 t : Mlp.A2 1 128) = arg3 m c := Mlp.ext1 _ _ (blk_gk m c t)
theorem row_q (t : Fin cfg0.N) (h : Fin 4) (r : Fin 512) :
    qRow (iblk m c 0 t : Mlp.A2 512 512) h r = qRow (arg0 m c) h (rowIx t r) := funext fun d => blk_q m c t r (col h d)

theorem read4 (t : Fin cfg0.N) (G : Mlp.A2 8192 512) (r : Fin 512) (k : Fin 512) :
    (((cfg0.win 4).blk t).view.read (Elt Ideal) G : Mlp.A2 512 512) (ix2 r k) = G (ix2 (rowIx t r) k) := by
  have hi := (idx_facts t).2.2.2.2
  rw [View.read_apply]
  show G _ = _
  congr 1
  funext a
  apply Fin.ext
  match a with
  | ⟨0, _⟩ => show win0_4.index t 0 * 512 + 1 * r.val = t.val * 512 + r.val; rw [hi.1]; omega
  | ⟨1, _⟩ => show win0_4.index t 1 * 512 + 1 * k.val = k.val; rw [hi.2]; omega

/-- The result, from the launch's arguments. -/
theorem final_result : (dats m 0 c).arrAt 4 cfg0.N = result (arg0 m c) (arg1 m c) (arg2 m c) (arg3 m c) := by
  refine (dats m 0 c).arrAt_eq_of_cover 4 (result (arg0 m c) (arg1 m c) (arg2 m c) (arg3 m c)) ?_ ?_
  · intro t _
    rw [Value.flushed4]
    refine Mlp.ext2 (a := 512) (b := 512) _ _ fun r k => ?_
    refine Eq.trans ?_ (read4 t (result (arg0 m c) (arg1 m c) (arg2 m c) (arg3 m c)) r k).symm
    show out0_4 (F := Ideal) (iblk m c 0 t) (iblk m c 1 t) (iblk m c 2 t) (iblk m c 3 t) (ix2 r k) = _
    rw [out_block, block_at, whole_kv, whole_gq, whole_gk]
    simp only [row_q]
    rfl
  · intro i
    have h0 : (i 0 : Nat) < 8192 := (i 0).isLt
    have h1 : (i 1 : Nat) < 512 := (i 1).isLt
    refine ⟨ptOf (i 0), flush0_4 _, ?_⟩
    have hi := (idx_facts (ptOf (i 0))).2.2.2.2
    show i ∈ ((View.whole main_v0).slice (win0_4.rect (ptOf (i 0)))).set
    rw [View.set_slice_whole, Rect.mem_set_unit]
    intro a
    match a with
    | ⟨0, _⟩ => show win0_4.index (ptOf (i 0)) 0 * 512 ≤ (i 0 : Nat) ∧ (i 0 : Nat) < win0_4.index (ptOf (i 0)) 0 * 512 + 512; rw [hi.1]; show (i 0).val / 512 * 512 ≤ _ ∧ _ < (i 0).val / 512 * 512 + 512; omega
    | ⟨1, _⟩ => show win0_4.index (ptOf (i 0)) 1 * 512 ≤ (i 1 : Nat) ∧ (i 1 : Nat) < win0_4.index (ptOf (i 0)) 1 * 512 + 512; rw [hi.2]; omega

end Cert.Xa.XaFwd

end
-- ==== Proof.Xa.XaFwdClaims.lean ====
/-
  THE CROSS-ATTENTION: THE KERNEL'S RUN AND THE REFERENCE'S RUN, AT THE SAME ARRAYS.
-/
module

public import proofs.«01_k».proof.Proof.Xa.FwdArrays
public import proofs.«01_k».proof.Proof.Gen.XaFwdRefIdeal.Run

@[expose] public section

noncomputable section

namespace Cert.Xa.XaFwd

open Idealize.ShloMosaic Idealize.SL.Sem

section Kernel
open Cert.XaFwdIdeal Cert.XaFwdIdeal.Gen

/-- The kernel's run: its results; its arguments stay. -/
theorem kernel_run (m : (ℓ : Loc nD τ sig) → Buf (Elt Ideal) ℓ) (ρ : Dev nD → PrngReg) :
    θ_run defs (onTc main) ⟨m, fun _ => 0, ρ⟩ fun r => ∀ c,
      r.2.mem (c.tc.loc main_v0) = result (arg0 m c) (arg1 m c) (arg2 m c) (arg3 m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun r h c => ⟨(h c).1.trans (final_result m c), (h c).2⟩) (Value.run_blocks m ρ)

end Kernel

section Reference
open Cert.XaFwdRefIdeal Cert.XaFwdRefIdeal.Gen

/-- The reference's run, at the same functions. -/
theorem reference_run (m : (ℓ : Loc nD τ sig) → Buf (Elt Ideal) ℓ) (ρ : Dev nD → PrngReg)
    (p0 : Dev nD → Mlp.A2 8192 512) (p1 : Dev nD → Mlp.A2 256 1024) (p2 : Dev nD → Mlp.A2 1 128) (p3 : Dev nD → Mlp.A2 1 128)
    (hm : ∀ c, m (c.tc.loc main_arg0) = p0 c
      ∧ m (c.tc.loc main_arg1) = p1 c
      ∧ m (c.tc.loc main_arg2) = p2 c
      ∧ m (c.tc.loc main_arg3) = p3 c) :
    θ_run defs (onTc main) ⟨m, fun _ => 0, ρ⟩ fun r => ∀ c,
      r.2.mem (c.tc.loc main_v46) = result (p0 c) (p1 c) (p2 c) (p3 c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) := by
  refine (θ_run _ _ _).mono (fun r h c => ?_) (Value.run m ρ)
  obtain ⟨h0, h1, h2, h3⟩ := hm c
  obtain ⟨r0, hr⟩ := h c
  refine ⟨r0.trans ?_, hr⟩
  · rw [Read.val_main_v46_eq, h0, h1, h2, h3]; exact ref_result ..

end Reference

end Cert.Xa.XaFwd

end
-- ==== Proof.Xa.Parts.lean ====
/-
  WHAT A BLOCK OF QUERY ROWS ADDS TO THE GRADIENTS, AND HOW THE HEADS' COLUMNS ARE PUT TOGETHER.

  The kernel builds an array of all heads' columns by adding arrays that are zero outside one head's columns.
-/
module

public import proofs.«01_k».proof.Proof.Xa.Head

@[expose] public section

noncomputable section

namespace Cert.Xa

open Idealize.ShloMosaic

section
variable {n : Nat} (z ct : Mlp.A2 n 512) (kv : Mlp.A2 256 1024) (gq gk : Mlp.A2 1 128)

/-- The cotangent of a head's values, from the rows of `z` with the cotangents `ct`. -/
def dVAt (h : Fin 4) : Mem := fun t d =>
  ∑ r, dVPart (qRow z h r) (kMem kv h) (gRow gq) (gRow gk) (qRow ct h r) t d

/-- The cotangent of a head's normed keys, from the same rows. -/
def dKnAt (h : Fin 4) : Mem := fun t d =>
  ∑ r, dKnPart (qRow z h r) (kMem kv h) (vMem kv h) (gRow gq) (gRow gk) (qRow ct h r) t d

/-- A head's part of the gradient of `gq`, from the same rows. -/
def gqAt (h : Fin 4) : Row := fun d =>
  ∑ r, dGqPart (qRow z h r) (kMem kv h) (vMem kv h) (gRow gq) (gRow gk) (qRow ct h r) d

end

/-- A head's part of the gradient of `gk`, from the cotangents `e` of its normed keys. -/
def gkOf (k e : Mem) : Row := fun d => ∑ t, unit (k t) d * e t d

/-- The cotangent of a head's keys, from the cotangents `e` of its normed keys. -/
def dKOf (k : Mem) (g : Row) (e : Mem) : Mem := fun t d => unnorm (k t) g (e t) d

/-! ### Columns -/

/-- A row of 128 from column `a` on, zero elsewhere. -/
def pl (a : Nat) (f : Row) (j : Nat) : EReal :=
  if h : a ≤ j ∧ j < a + 128 then f ⟨j - a, by omega⟩ else 0

theorem pl_in {a : Nat} {f : Row} {j : Nat} (h : a ≤ j ∧ j < a + 128) : pl a f j = f ⟨j - a, by omega⟩ := dif_pos h
theorem pl_out {a : Nat} {f : Row} {j : Nat} (h : ¬(a ≤ j ∧ j < a + 128)) : pl a f j = 0 := dif_neg h

/-- The eight pieces of the keys' and the values' cotangent, in the kernel's order of additions. -/
def sides (K V : Fin 4 → Row) (j : Nat) : EReal :=
  pl 896 (V 3) j + pl 384 (K 3) j + pl 768 (V 2) j + pl 256 (K 2) j + pl 640 (V 1) j + pl 128 (K 1) j
    + pl 512 (V 0) j + pl 0 (K 0) j

/-- The keys' four heads are the left half, the values' the right. -/
theorem sides_eq (K V : Fin 4 → Row) (j : Fin 1024) :
    sides K V j.val = if h : j.val < 512 then byHead K ⟨j.val, h⟩ else byHead V ⟨j.val - 512, by omega⟩ := by
  have key : ∀ (F : Fin 4 → Row) (h : Fin 4) (a : Nat) (i : Fin 512) (ha : a = h.val * 128)
      (hi : a ≤ i.val ∧ i.val < a + 128), byHead F i = F h ⟨i.val - a, by omega⟩ := by
    intro F h a i ha hi
    unfold byHead
    rw [show headOf i = h from Fin.ext (by simp only [headOf]; omega),
      show place i = ⟨i.val - a, by omega⟩ from Fin.ext (by simp only [place]; omega)]
  obtain ⟨j, hj⟩ := j
  unfold sides
  dsimp only
  by_cases c : j < 512
  · rw [dif_pos c, pl_out (a := 896) (by omega), pl_out (a := 768) (by omega), pl_out (a := 640) (by omega),
      pl_out (a := 512) (by omega)]
    rcases (by omega : (0 ≤ j ∧ j < 0 + 128) ∨ (128 ≤ j ∧ j < 128 + 128) ∨ (256 ≤ j ∧ j < 256 + 128) ∨ (384 ≤ j ∧ j < 384 + 128)) with h | h | h | h
    · rw [key K 0 0 ⟨j, c⟩ rfl h, pl_in h, pl_out (a := 128) (by omega), pl_out (a := 256) (by omega), pl_out (a := 384) (by omega)]
      simp
    · rw [key K 1 128 ⟨j, c⟩ rfl h, pl_in h, pl_out (a := 0) (by omega), pl_out (a := 256) (by omega), pl_out (a := 384) (by omega)]
      simp
    · rw [key K 2 256 ⟨j, c⟩ rfl h, pl_in h, pl_out (a := 0) (by omega), pl_out (a := 128) (by omega), pl_out (a := 384) (by omega)]
      simp
    · rw [key K 3 384 ⟨j, c⟩ rfl h, pl_in h, pl_out (a := 0) (by omega), pl_out (a := 128) (by omega), pl_out (a := 256) (by omega)]
      simp
  · have vkey : ∀ (h : Fin 4) (a : Nat) (ha : a = 512 + h.val * 128) (hi : a ≤ j ∧ j < a + 128),
        byHead V ⟨j - 512, by omega⟩ = V h ⟨j - a, by omega⟩ := by
      intro h a ha hi
      rw [key V h (a - 512) ⟨j - 512, by omega⟩ (by omega) (by dsimp only; omega)]
      exact congrArg (V h) (Fin.ext (by dsimp only; omega))
    rw [dif_neg c, pl_out (a := 0) (by omega), pl_out (a := 128) (by omega), pl_out (a := 256) (by omega),
      pl_out (a := 384) (by omega)]
    rcases (by omega : (512 ≤ j ∧ j < 512 + 128) ∨ (640 ≤ j ∧ j < 640 + 128) ∨ (768 ≤ j ∧ j < 768 + 128) ∨ (896 ≤ j ∧ j < 896 + 128)) with h | h | h | h
    · rw [vkey 0 512 rfl h, pl_in h, pl_out (a := 640) (by omega), pl_out (a := 768) (by omega), pl_out (a := 896) (by omega)]
      simp
    · rw [vkey 1 640 rfl h, pl_in h, pl_out (a := 512) (by omega), pl_out (a := 768) (by omega), pl_out (a := 896) (by omega)]
      simp
    · rw [vkey 2 768 rfl h, pl_in h, pl_out (a := 512) (by omega), pl_out (a := 640) (by omega), pl_out (a := 896) (by omega)]
      simp
    · rw [vkey 3 896 rfl h, pl_in h, pl_out (a := 512) (by omega), pl_out (a := 640) (by omega), pl_out (a := 768) (by omega)]
      simp

/-- Four heads' columns, in the kernel's order of additions. -/
theorem heads_eq (Q : Fin 4 → Row) (j : Fin 512) :
    pl 384 (Q 3) j.val + pl 256 (Q 2) j.val + pl 128 (Q 1) j.val + pl 0 (Q 0) j.val = byHead Q j := by
  have h := sides_eq Q (fun _ _ => 0) ⟨j.val, by omega⟩
  have z0 : ∀ a, pl a (fun _ => 0) j.val = 0 := fun a => by unfold pl; split <;> rfl
  unfold sides at h
  simp only [z0, zero_add, add_zero, j.isLt, dite_true] at h
  exact h

/-- A row placed between two stretches of zeros. -/
theorem pl_mid (a b : Nat) (hb : b = a + 128) (f : Row) (j : Nat) :
    (if h1 : j < b then (if h2 : j < a then (0 : EReal) else f ⟨j - a, by omega⟩) else 0) = pl a f j := by
  unfold pl
  split_ifs <;> first | rfl | omega

/-- A row placed first. -/
theorem pl_first (f : Row) (j : Nat) : (if h : j < 128 then f ⟨j, h⟩ else (0 : EReal)) = pl 0 f j := by
  unfold pl
  split_ifs <;> first | rfl | omega

/-- A row placed last. -/
theorem pl_last (a : Nat) (f : Row) (j : Nat) (hj : j < a + 128) :
    (if h : j < a then (0 : EReal) else f ⟨j - a, by omega⟩) = pl a f j := by
  unfold pl
  split_ifs <;> first | rfl | omega

end Cert.Xa

end
-- ==== Proof.Xa.BwdHead0.lean ====
/-
  THE BACKWARD KERNEL'S BLOCK: THE FORWARD VALUES OF HEAD 0.

  The body computes the norms, the scores and the weights again; each named pure term is read at an index.
-/
module

public import proofs.«01_k».proof.Proof.Gen.XaBwdIdeal.Skeleton
public import proofs.«01_k».proof.Proof.Xa.Head

@[expose] public section

noncomputable section

namespace Cert.Xa.XaBwd

open Cert.XaBwdIdeal Cert.XaBwdIdeal.Gen Idealize.ShloMosaic Idealize.SL.Sem

variable (z : Vec Ideal S512x512 .f32) (kv : Vec Ideal S256x1024 .f32) (gq gk : Vec Ideal S1x128 .f32)

/-- Value `v4` of the body. -/
abbrev w4 : FVec Ideal S512x128 .f32 := k0_pay2 z

/-- Value `v11` of the body. -/
abbrev w11 : FVec Ideal S512x1 .f32 := k0_pay3 z

/-- Value `v12` of the body. -/
abbrev w12 : FVec Ideal S512x1 .f32 := k0_pay4 z

/-- Value `v15` of the body. -/
abbrev w15 : FVec Ideal S512x1 .f32 := k0_pay5 z

/-- Value `v17` of the body. -/
abbrev w17 : FVec Ideal S512x128 .f32 := k0_pay6 z

/-- Value `v19` of the body. -/
abbrev w19 : FVec Ideal S512x128 .f32 := k0_pay7 z gq

theorem w4_at (r : Fin 512) (d : Fin 128) :
    w4 z (ix2 r d) = qRow z 0 r d := by
  unfold w4 k0_pay2
  pointwise  <;> rfl

theorem w11_at (r : Fin 512) :
    w11 z (ix2 r 0) = ms (qRow z 0 r) := by
  unfold w11 k0_pay3 ms
  pointwise [w4_at z] <;> rfl

theorem w12_at (r : Fin 512) :
    w12 z (ix2 r 0) = Ideal.rsqrt (ms (qRow z 0 r)) := by
  unfold w12 k0_pay4
  pointwise [w11_at z] <;> rfl

theorem w15_at (r : Fin 512) :
    w15 z (ix2 r 0) = bend (qRow z 0 r) := by
  unfold w15 k0_pay5 bend
  pointwise [w12_at z, w11_at z] <;> rfl

theorem w17_at (r : Fin 512) (d : Fin 128) :
    w17 z (ix2 r d) = unit (qRow z 0 r) d := by
  unfold w17 k0_pay6 unit
  pointwise [w4_at z, w12_at z] <;> rfl

theorem w19_at (r : Fin 512) (d : Fin 128) :
    w19 z gq (ix2 r d) = normed (qRow z 0 r) (gRow gq) d := by
  unfold w19 k0_pay7 normed
  pointwise [w17_at z] <;> rfl

/-- Value `v20` of the body. -/
abbrev w20 : FVec Ideal S256x128 .f32 := k0_pay8 kv

/-- Value `v27` of the body. -/
abbrev w27 : FVec Ideal S256x1 .f32 := k0_pay9 kv

/-- Value `v28` of the body. -/
abbrev w28 : FVec Ideal S256x1 .f32 := k0_pay10 kv

/-- Value `v31` of the body. -/
abbrev w31 : FVec Ideal S256x1 .f32 := k0_pay11 kv

/-- Value `v33` of the body. -/
abbrev w33 : FVec Ideal S256x128 .f32 := k0_pay12 kv

/-- Value `v35` of the body. -/
abbrev w35 : FVec Ideal S256x128 .f32 := k0_pay13 kv gk

theorem w20_at (t : Fin 256) (d : Fin 128) :
    w20 kv (ix2 t d) = kMem kv 0 t d := by
  unfold w20 k0_pay8
  pointwise  <;> rfl

theorem w27_at (t : Fin 256) :
    w27 kv (ix2 t 0) = ms (kMem kv 0 t) := by
  unfold w27 k0_pay9 ms
  pointwise [w20_at kv] <;> rfl

theorem w28_at (t : Fin 256) :
    w28 kv (ix2 t 0) = Ideal.rsqrt (ms (kMem kv 0 t)) := by
  unfold w28 k0_pay10
  pointwise [w27_at kv] <;> rfl

theorem w31_at (t : Fin 256) :
    w31 kv (ix2 t 0) = bend (kMem kv 0 t) := by
  unfold w31 k0_pay11 bend
  pointwise [w28_at kv, w27_at kv] <;> rfl

theorem w33_at (t : Fin 256) (d : Fin 128) :
    w33 kv (ix2 t d) = unit (kMem kv 0 t) d := by
  unfold w33 k0_pay12 unit
  pointwise [w20_at kv, w28_at kv] <;> rfl

theorem w35_at (t : Fin 256) (d : Fin 128) :
    w35 kv gk (ix2 t d) = normed (kMem kv 0 t) (gRow gk) d := by
  unfold w35 k0_pay13 normed
  pointwise [w33_at kv] <;> rfl

/-- Value `v36` of the body. -/
abbrev w36 : FVec Ideal S256x128 .f32 := k0_pay14 kv

theorem w36_at (t : Fin 256) (d : Fin 128) :
    w36 kv (ix2 t d) = vMem kv 0 t d := by
  unfold w36 k0_pay14
  pointwise  <;> rfl

/-- Value `v39` of the body. -/
abbrev w39 : FVec Ideal S512x256 .f32 := k0_pay15 z kv gq gk

/-- Value `v40` of the body. -/
abbrev w40 : FVec Ideal S512x256 .f32 := k0_pay16

/-- Value `v46` of the body. -/
abbrev w46 : FVec Ideal S512x256 .f32 := k0_pay17 (w39 z kv gq gk) (w40)

/-- Value `v48` of the body. -/
abbrev w48 : FVec Ideal S512x1 .f32 := k0_pay18 (w39 z kv gq gk) (w40)

/-- Value `v50` of the body. -/
abbrev w50 : FVec Ideal S512x256 .f32 := k0_pay19 (w39 z kv gq gk) (w40)

/-- Value `v53` of the body. -/
abbrev w53 : FVec Ideal S512x1 .f32 := k0_pay20 (w39 z kv gq gk) (w40)

theorem w39_at (r : Fin 512) (t : Fin 256) :
    w39 z kv gq gk (ix2 r t) = ∑ d, normed (qRow z 0 r) (gRow gq) d * normed (kMem kv 0 t) (gRow gk) d := by
  unfold w39 k0_pay15
  pointwise [dot_S512x128_S256x128_S512x256_1_1_0_0_n_n, w19_at z gq, w35_at kv gk] <;> rfl

theorem w40_at (r : Fin 512) (t : Fin 256) :
    w40 (ix2 r t) = scale := by
  unfold w40 k0_pay16
  pointwise  <;> rfl

theorem w46_at (r : Fin 512) (t : Fin 256) :
    w46 z kv gq gk (ix2 r t) = expo (qRow z 0 r) (kMem kv 0) (gRow gq) (gRow gk) t := by
  unfold w46 k0_pay17 expo top score
  pointwise [w39_at z kv gq gk, w40_at] <;> rfl

theorem w48_at (r : Fin 512) :
    w48 z kv gq gk (ix2 r 0) = total (qRow z 0 r) (kMem kv 0) (gRow gq) (gRow gk) := by
  unfold w48 k0_pay18 total
  pointwise [w46_at z kv gq gk] <;> rfl

theorem w50_at (r : Fin 512) (t : Fin 256) :
    w50 z kv gq gk (ix2 r t) = weight (qRow z 0 r) (kMem kv 0) (gRow gq) (gRow gk) t := by
  unfold w50 k0_pay19 weight
  pointwise [w48_at z kv gq gk, w46_at z kv gq gk] <;> rfl

theorem w53_at (r : Fin 512) :
    w53 z kv gq gk (ix2 r 0) = Ideal.div one (total (qRow z 0 r) (kMem kv 0) (gRow gq) (gRow gk) * total (qRow z 0 r) (kMem kv 0) (gRow gq) (gRow gk)) := by
  unfold w53 k0_pay20
  pointwise [w48_at z kv gq gk] <;> rfl

end Cert.Xa.XaBwd

end
-- ==== Proof.Xa.BwdHead1.lean ====
/-
  THE BACKWARD KERNEL'S BLOCK: THE FORWARD VALUES OF HEAD 1.

  The body computes the norms, the scores and the weights again; each named pure term is read at an index.
-/
module

public import proofs.«01_k».proof.Proof.Gen.XaBwdIdeal.Skeleton
public import proofs.«01_k».proof.Proof.Xa.Head

@[expose] public section

noncomputable section

namespace Cert.Xa.XaBwd

open Cert.XaBwdIdeal Cert.XaBwdIdeal.Gen Idealize.ShloMosaic Idealize.SL.Sem

variable (z : Vec Ideal S512x512 .f32) (kv : Vec Ideal S256x1024 .f32) (gq gk : Vec Ideal S1x128 .f32)

/-- Value `v54` of the body. -/
abbrev w54 : FVec Ideal S512x128 .f32 := k0_pay21 z

/-- Value `v61` of the body. -/
abbrev w61 : FVec Ideal S512x1 .f32 := k0_pay22 z

/-- Value `v62` of the body. -/
abbrev w62 : FVec Ideal S512x1 .f32 := k0_pay23 z

/-- Value `v65` of the body. -/
abbrev w65 : FVec Ideal S512x1 .f32 := k0_pay24 z

/-- Value `v67` of the body. -/
abbrev w67 : FVec Ideal S512x128 .f32 := k0_pay25 z

/-- Value `v69` of the body. -/
abbrev w69 : FVec Ideal S512x128 .f32 := k0_pay26 z gq

theorem w54_at (r : Fin 512) (d : Fin 128) :
    w54 z (ix2 r d) = qRow z 1 r d := by
  unfold w54 k0_pay21
  pointwise  <;> rfl

theorem w61_at (r : Fin 512) :
    w61 z (ix2 r 0) = ms (qRow z 1 r) := by
  unfold w61 k0_pay22 ms
  pointwise [w54_at z] <;> rfl

theorem w62_at (r : Fin 512) :
    w62 z (ix2 r 0) = Ideal.rsqrt (ms (qRow z 1 r)) := by
  unfold w62 k0_pay23
  pointwise [w61_at z] <;> rfl

theorem w65_at (r : Fin 512) :
    w65 z (ix2 r 0) = bend (qRow z 1 r) := by
  unfold w65 k0_pay24 bend
  pointwise [w62_at z, w61_at z] <;> rfl

theorem w67_at (r : Fin 512) (d : Fin 128) :
    w67 z (ix2 r d) = unit (qRow z 1 r) d := by
  unfold w67 k0_pay25 unit
  pointwise [w54_at z, w62_at z] <;> rfl

theorem w69_at (r : Fin 512) (d : Fin 128) :
    w69 z gq (ix2 r d) = normed (qRow z 1 r) (gRow gq) d := by
  unfold w69 k0_pay26 normed
  pointwise [w67_at z] <;> rfl

/-- Value `v70` of the body. -/
abbrev w70 : FVec Ideal S256x128 .f32 := k0_pay27 kv

/-- Value `v77` of the body. -/
abbrev w77 : FVec Ideal S256x1 .f32 := k0_pay28 kv

/-- Value `v78` of the body. -/
abbrev w78 : FVec Ideal S256x1 .f32 := k0_pay29 kv

/-- Value `v81` of the body. -/
abbrev w81 : FVec Ideal S256x1 .f32 := k0_pay30 kv

/-- Value `v83` of the body. -/
abbrev w83 : FVec Ideal S256x128 .f32 := k0_pay31 kv

/-- Value `v85` of the body. -/
abbrev w85 : FVec Ideal S256x128 .f32 := k0_pay32 kv gk

theorem w70_at (t : Fin 256) (d : Fin 128) :
    w70 kv (ix2 t d) = kMem kv 1 t d := by
  unfold w70 k0_pay27
  pointwise  <;> rfl

theorem w77_at (t : Fin 256) :
    w77 kv (ix2 t 0) = ms (kMem kv 1 t) := by
  unfold w77 k0_pay28 ms
  pointwise [w70_at kv] <;> rfl

theorem w78_at (t : Fin 256) :
    w78 kv (ix2 t 0) = Ideal.rsqrt (ms (kMem kv 1 t)) := by
  unfold w78 k0_pay29
  pointwise [w77_at kv] <;> rfl

theorem w81_at (t : Fin 256) :
    w81 kv (ix2 t 0) = bend (kMem kv 1 t) := by
  unfold w81 k0_pay30 bend
  pointwise [w78_at kv, w77_at kv] <;> rfl

theorem w83_at (t : Fin 256) (d : Fin 128) :
    w83 kv (ix2 t d) = unit (kMem kv 1 t) d := by
  unfold w83 k0_pay31 unit
  pointwise [w70_at kv, w78_at kv] <;> rfl

theorem w85_at (t : Fin 256) (d : Fin 128) :
    w85 kv gk (ix2 t d) = normed (kMem kv 1 t) (gRow gk) d := by
  unfold w85 k0_pay32 normed
  pointwise [w83_at kv] <;> rfl

/-- Value `v86` of the body. -/
abbrev w86 : FVec Ideal S256x128 .f32 := k0_pay33 kv

theorem w86_at (t : Fin 256) (d : Fin 128) :
    w86 kv (ix2 t d) = vMem kv 1 t d := by
  unfold w86 k0_pay33
  pointwise  <;> rfl

/-- Value `v87` of the body. -/
abbrev w87 : FVec Ideal S512x128 .bf16 := k0_pay34 z gq

/-- Value `v88` of the body. -/
abbrev w88 : FVec Ideal S256x128 .bf16 := k0_pay35 kv gk

/-- Value `v96` of the body. -/
abbrev w96 : FVec Ideal S512x256 .f32 := k0_pay36 (w87 z gq) (w88 kv gk) (constant S512x256 .f32 0x00000000#32)

/-- Value `v98` of the body. -/
abbrev w98 : FVec Ideal S512x1 .f32 := k0_pay37 (w87 z gq) (w88 kv gk) (constant S512x256 .f32 0x00000000#32)

/-- Value `v100` of the body. -/
abbrev w100 : FVec Ideal S512x256 .f32 := k0_pay38 (w87 z gq) (w88 kv gk) (constant S512x256 .f32 0x00000000#32)

/-- Value `v103` of the body. -/
abbrev w103 : FVec Ideal S512x1 .f32 := k0_pay39 (w87 z gq) (w88 kv gk) (constant S512x256 .f32 0x00000000#32)

theorem w87_at (r : Fin 512) (d : Fin 128) :
    w87 z gq (ix2 r d) = normed (qRow z 1 r) (gRow gq) d := by
  unfold w87 k0_pay34
  pointwise [w69_at z gq] <;> rfl

theorem w88_at (t : Fin 256) (d : Fin 128) :
    w88 kv gk (ix2 t d) = normed (kMem kv 1 t) (gRow gk) d := by
  unfold w88 k0_pay35
  pointwise [w85_at kv gk] <;> rfl

theorem w96_at (r : Fin 512) (t : Fin 256) :
    w96 z kv gq gk (ix2 r t) = expo (qRow z 1 r) (kMem kv 1) (gRow gq) (gRow gk) t := by
  unfold w96 k0_pay36 expo top score
  pointwise [dot_S512x128_S256x128_S512x256_1_1_0_0_n_n, w87_at z gq, w88_at kv gk] <;> rfl

theorem w98_at (r : Fin 512) :
    w98 z kv gq gk (ix2 r 0) = total (qRow z 1 r) (kMem kv 1) (gRow gq) (gRow gk) := by
  unfold w98 k0_pay37 total
  pointwise [w96_at z kv gq gk] <;> rfl

theorem w100_at (r : Fin 512) (t : Fin 256) :
    w100 z kv gq gk (ix2 r t) = weight (qRow z 1 r) (kMem kv 1) (gRow gq) (gRow gk) t := by
  unfold w100 k0_pay38 weight
  pointwise [w98_at z kv gq gk, w96_at z kv gq gk] <;> rfl

theorem w103_at (r : Fin 512) :
    w103 z kv gq gk (ix2 r 0) = Ideal.div one (total (qRow z 1 r) (kMem kv 1) (gRow gq) (gRow gk) * total (qRow z 1 r) (kMem kv 1) (gRow gq) (gRow gk)) := by
  unfold w103 k0_pay39
  pointwise [w98_at z kv gq gk] <;> rfl

end Cert.Xa.XaBwd

end
-- ==== Proof.Xa.BwdHead2.lean ====
/-
  THE BACKWARD KERNEL'S BLOCK: THE FORWARD VALUES OF HEAD 2.

  The body computes the norms, the scores and the weights again; each named pure term is read at an index.
-/
module

public import proofs.«01_k».proof.Proof.Gen.XaBwdIdeal.Skeleton
public import proofs.«01_k».proof.Proof.Xa.Head

@[expose] public section

noncomputable section

namespace Cert.Xa.XaBwd

open Cert.XaBwdIdeal Cert.XaBwdIdeal.Gen Idealize.ShloMosaic Idealize.SL.Sem

variable (z : Vec Ideal S512x512 .f32) (kv : Vec Ideal S256x1024 .f32) (gq gk : Vec Ideal S1x128 .f32)

/-- Value `v104` of the body. -/
abbrev w104 : FVec Ideal S512x128 .f32 := k0_pay40 z

/-- Value `v111` of the body. -/
abbrev w111 : FVec Ideal S512x1 .f32 := k0_pay41 z

/-- Value `v112` of the body. -/
abbrev w112 : FVec Ideal S512x1 .f32 := k0_pay42 z

/-- Value `v115` of the body. -/
abbrev w115 : FVec Ideal S512x1 .f32 := k0_pay43 z

/-- Value `v117` of the body. -/
abbrev w117 : FVec Ideal S512x128 .f32 := k0_pay44 z

/-- Value `v119` of the body. -/
abbrev w119 : FVec Ideal S512x128 .f32 := k0_pay45 z gq

theorem w104_at (r : Fin 512) (d : Fin 128) :
    w104 z (ix2 r d) = qRow z 2 r d := by
  unfold w104 k0_pay40
  pointwise  <;> rfl

theorem w111_at (r : Fin 512) :
    w111 z (ix2 r 0) = ms (qRow z 2 r) := by
  unfold w111 k0_pay41 ms
  pointwise [w104_at z] <;> rfl

theorem w112_at (r : Fin 512) :
    w112 z (ix2 r 0) = Ideal.rsqrt (ms (qRow z 2 r)) := by
  unfold w112 k0_pay42
  pointwise [w111_at z] <;> rfl

theorem w115_at (r : Fin 512) :
    w115 z (ix2 r 0) = bend (qRow z 2 r) := by
  unfold w115 k0_pay43 bend
  pointwise [w112_at z, w111_at z] <;> rfl

theorem w117_at (r : Fin 512) (d : Fin 128) :
    w117 z (ix2 r d) = unit (qRow z 2 r) d := by
  unfold w117 k0_pay44 unit
  pointwise [w104_at z, w112_at z] <;> rfl

theorem w119_at (r : Fin 512) (d : Fin 128) :
    w119 z gq (ix2 r d) = normed (qRow z 2 r) (gRow gq) d := by
  unfold w119 k0_pay45 normed
  pointwise [w117_at z] <;> rfl

/-- Value `v120` of the body. -/
abbrev w120 : FVec Ideal S256x128 .f32 := k0_pay46 kv

/-- Value `v127` of the body. -/
abbrev w127 : FVec Ideal S256x1 .f32 := k0_pay47 kv

/-- Value `v128` of the body. -/
abbrev w128 : FVec Ideal S256x1 .f32 := k0_pay48 kv

/-- Value `v131` of the body. -/
abbrev w131 : FVec Ideal S256x1 .f32 := k0_pay49 kv

/-- Value `v133` of the body. -/
abbrev w133 : FVec Ideal S256x128 .f32 := k0_pay50 kv

/-- Value `v135` of the body. -/
abbrev w135 : FVec Ideal S256x128 .f32 := k0_pay51 kv gk

theorem w120_at (t : Fin 256) (d : Fin 128) :
    w120 kv (ix2 t d) = kMem kv 2 t d := by
  unfold w120 k0_pay46
  pointwise  <;> rfl

theorem w127_at (t : Fin 256) :
    w127 kv (ix2 t 0) = ms (kMem kv 2 t) := by
  unfold w127 k0_pay47 ms
  pointwise [w120_at kv] <;> rfl

theorem w128_at (t : Fin 256) :
    w128 kv (ix2 t 0) = Ideal.rsqrt (ms (kMem kv 2 t)) := by
  unfold w128 k0_pay48
  pointwise [w127_at kv] <;> rfl

theorem w131_at (t : Fin 256) :
    w131 kv (ix2 t 0) = bend (kMem kv 2 t) := by
  unfold w131 k0_pay49 bend
  pointwise [w128_at kv, w127_at kv] <;> rfl

theorem w133_at (t : Fin 256) (d : Fin 128) :
    w133 kv (ix2 t d) = unit (kMem kv 2 t) d := by
  unfold w133 k0_pay50 unit
  pointwise [w120_at kv, w128_at kv] <;> rfl

theorem w135_at (t : Fin 256) (d : Fin 128) :
    w135 kv gk (ix2 t d) = normed (kMem kv 2 t) (gRow gk) d := by
  unfold w135 k0_pay51 normed
  pointwise [w133_at kv] <;> rfl

/-- Value `v136` of the body. -/
abbrev w136 : FVec Ideal S256x128 .f32 := k0_pay52 kv

theorem w136_at (t : Fin 256) (d : Fin 128) :
    w136 kv (ix2 t d) = vMem kv 2 t d := by
  unfold w136 k0_pay52
  pointwise  <;> rfl

/-- Value `v146` of the body. -/
abbrev w146 : FVec Ideal S512x256 .f32 := k0_pay53 (w119 z gq) (w135 kv gk)

/-- Value `v148` of the body. -/
abbrev w148 : FVec Ideal S512x1 .f32 := k0_pay54 (w119 z gq) (w135 kv gk)

/-- Value `v150` of the body. -/
abbrev w150 : FVec Ideal S512x256 .f32 := k0_pay55 (w119 z gq) (w135 kv gk)

/-- Value `v153` of the body. -/
abbrev w153 : FVec Ideal S512x1 .f32 := k0_pay56 (w119 z gq) (w135 kv gk)

theorem w146_at (r : Fin 512) (t : Fin 256) :
    w146 z kv gq gk (ix2 r t) = expo (qRow z 2 r) (kMem kv 2) (gRow gq) (gRow gk) t := by
  unfold w146 k0_pay53 expo top score
  pointwise [dot_S512x128_S256x128_S512x256_1_1_0_0_n_n, w119_at z gq, w135_at kv gk] <;> rfl

theorem w148_at (r : Fin 512) :
    w148 z kv gq gk (ix2 r 0) = total (qRow z 2 r) (kMem kv 2) (gRow gq) (gRow gk) := by
  unfold w148 k0_pay54 total
  pointwise [w146_at z kv gq gk] <;> rfl

theorem w150_at (r : Fin 512) (t : Fin 256) :
    w150 z kv gq gk (ix2 r t) = weight (qRow z 2 r) (kMem kv 2) (gRow gq) (gRow gk) t := by
  unfold w150 k0_pay55 weight
  pointwise [w148_at z kv gq gk, w146_at z kv gq gk] <;> rfl

theorem w153_at (r : Fin 512) :
    w153 z kv gq gk (ix2 r 0) = Ideal.div one (total (qRow z 2 r) (kMem kv 2) (gRow gq) (gRow gk) * total (qRow z 2 r) (kMem kv 2) (gRow gq) (gRow gk)) := by
  unfold w153 k0_pay56
  pointwise [w148_at z kv gq gk] <;> rfl

end Cert.Xa.XaBwd

end
-- ==== Proof.Xa.BwdHead3.lean ====
/-
  THE BACKWARD KERNEL'S BLOCK: THE FORWARD VALUES OF HEAD 3.

  The body computes the norms, the scores and the weights again; each named pure term is read at an index.
-/
module

public import proofs.«01_k».proof.Proof.Gen.XaBwdIdeal.Skeleton
public import proofs.«01_k».proof.Proof.Xa.Head

@[expose] public section

noncomputable section

namespace Cert.Xa.XaBwd

open Cert.XaBwdIdeal Cert.XaBwdIdeal.Gen Idealize.ShloMosaic Idealize.SL.Sem

variable (z : Vec Ideal S512x512 .f32) (kv : Vec Ideal S256x1024 .f32) (gq gk : Vec Ideal S1x128 .f32)

/-- Value `v154` of the body. -/
abbrev w154 : FVec Ideal S512x128 .f32 := k0_pay57 z

/-- Value `v161` of the body. -/
abbrev w161 : FVec Ideal S512x1 .f32 := k0_pay58 z

/-- Value `v162` of the body. -/
abbrev w162 : FVec Ideal S512x1 .f32 := k0_pay59 z

/-- Value `v165` of the body. -/
abbrev w165 : FVec Ideal S512x1 .f32 := k0_pay60 z

/-- Value `v167` of the body. -/
abbrev w167 : FVec Ideal S512x128 .f32 := k0_pay61 z

/-- Value `v169` of the body. -/
abbrev w169 : FVec Ideal S512x128 .f32 := k0_pay62 z gq

theorem w154_at (r : Fin 512) (d : Fin 128) :
    w154 z (ix2 r d) = qRow z 3 r d := by
  unfold w154 k0_pay57
  pointwise  <;> rfl

theorem w161_at (r : Fin 512) :
    w161 z (ix2 r 0) = ms (qRow z 3 r) := by
  unfold w161 k0_pay58 ms
  pointwise [w154_at z] <;> rfl

theorem w162_at (r : Fin 512) :
    w162 z (ix2 r 0) = Ideal.rsqrt (ms (qRow z 3 r)) := by
  unfold w162 k0_pay59
  pointwise [w161_at z] <;> rfl

theorem w165_at (r : Fin 512) :
    w165 z (ix2 r 0) = bend (qRow z 3 r) := by
  unfold w165 k0_pay60 bend
  pointwise [w162_at z, w161_at z] <;> rfl

theorem w167_at (r : Fin 512) (d : Fin 128) :
    w167 z (ix2 r d) = unit (qRow z 3 r) d := by
  unfold w167 k0_pay61 unit
  pointwise [w154_at z, w162_at z] <;> rfl

theorem w169_at (r : Fin 512) (d : Fin 128) :
    w169 z gq (ix2 r d) = normed (qRow z 3 r) (gRow gq) d := by
  unfold w169 k0_pay62 normed
  pointwise [w167_at z] <;> rfl

/-- Value `v170` of the body. -/
abbrev w170 : FVec Ideal S256x128 .f32 := k0_pay63 kv

/-- Value `v177` of the body. -/
abbrev w177 : FVec Ideal S256x1 .f32 := k0_pay64 kv

/-- Value `v178` of the body. -/
abbrev w178 : FVec Ideal S256x1 .f32 := k0_pay65 kv

/-- Value `v181` of the body. -/
abbrev w181 : FVec Ideal S256x1 .f32 := k0_pay66 kv

/-- Value `v183` of the body. -/
abbrev w183 : FVec Ideal S256x128 .f32 := k0_pay67 kv

/-- Value `v185` of the body. -/
abbrev w185 : FVec Ideal S256x128 .f32 := k0_pay68 gk (w183 kv)

theorem w170_at (t : Fin 256) (d : Fin 128) :
    w170 kv (ix2 t d) = kMem kv 3 t d := by
  unfold w170 k0_pay63
  pointwise  <;> rfl

theorem w177_at (t : Fin 256) :
    w177 kv (ix2 t 0) = ms (kMem kv 3 t) := by
  unfold w177 k0_pay64 ms
  pointwise [w170_at kv] <;> rfl

theorem w178_at (t : Fin 256) :
    w178 kv (ix2 t 0) = Ideal.rsqrt (ms (kMem kv 3 t)) := by
  unfold w178 k0_pay65
  pointwise [w177_at kv] <;> rfl

theorem w181_at (t : Fin 256) :
    w181 kv (ix2 t 0) = bend (kMem kv 3 t) := by
  unfold w181 k0_pay66 bend
  pointwise [w178_at kv, w177_at kv] <;> rfl

theorem w183_at (t : Fin 256) (d : Fin 128) :
    w183 kv (ix2 t d) = unit (kMem kv 3 t) d := by
  unfold w183 k0_pay67 unit
  pointwise [w170_at kv, w178_at kv] <;> rfl

theorem w185_at (t : Fin 256) (d : Fin 128) :
    w185 kv gk (ix2 t d) = normed (kMem kv 3 t) (gRow gk) d := by
  unfold w185 k0_pay68 normed
  pointwise [w183_at kv] <;> rfl

/-- Value `v196` of the body. -/
abbrev w196 : FVec Ideal S512x256 .f32 := k0_pay69 gk (w169 z gq) (w183 kv)

/-- Value `v198` of the body. -/
abbrev w198 : FVec Ideal S512x1 .f32 := k0_pay70 gk (w169 z gq) (w183 kv)

theorem w196_at (r : Fin 512) (t : Fin 256) :
    w196 z kv gq gk (ix2 r t) = expo (qRow z 3 r) (kMem kv 3) (gRow gq) (gRow gk) t := by
  unfold w196 k0_pay69 expo top score
  pointwise [dot_S512x128_S256x128_S512x256_1_1_0_0_n_n, w169_at z gq, w185_at kv gk] <;> rfl

theorem w198_at (r : Fin 512) :
    w198 z kv gq gk (ix2 r 0) = total (qRow z 3 r) (kMem kv 3) (gRow gq) (gRow gk) := by
  unfold w198 k0_pay70 total
  pointwise [w196_at z kv gq gk] <;> rfl

end Cert.Xa.XaBwd

end
-- ==== Proof.Xa.BwdPart3.lean ====
/-
  THE BACKWARD KERNEL'S BLOCK: WHAT HEAD 3 PASSES BACK.

  The body goes through the heads from the last to the first; each adds its part to what the heads before it gave.
-/
module

public import proofs.«01_k».proof.Proof.Xa.Parts
public import proofs.«01_k».proof.Proof.Xa.BwdHead3

@[expose] public section

noncomputable section

namespace Cert.Xa.XaBwd

open Cert.XaBwdIdeal Cert.XaBwdIdeal.Gen Idealize.ShloMosaic Idealize.SL.Sem

variable (z : Vec Ideal S512x512 .f32) (kv : Vec Ideal S256x1024 .f32) (gq gk : Vec Ideal S1x128 .f32)
variable (ct : Vec Ideal S512x512 .bf16)

/-- Value `v206` of the body. -/
abbrev w206 : FVec Ideal S512x512 .f32 := k0_pay71 ct

/-- Value `v207` of the body. -/
abbrev w207 : FVec Ideal S512x128 .f32 := k0_pay72 ct

/-- Value `v208` of the body. -/
abbrev w208 : FVec Ideal S512x128 .f32 := k0_pay73 ct

/-- Value `v209` of the body. -/
abbrev w209 : FVec Ideal S512x128 .f32 := k0_pay74 ct

/-- Value `v210` of the body. -/
abbrev w210 : FVec Ideal S512x128 .f32 := k0_pay75 ct

theorem w206_at (r d : Fin 512) :
    w206 ct (ix2 r d) = ct (ix2 r d) := by
  unfold w206 k0_pay71
  pointwise  <;> rfl

theorem w207_at (r : Fin 512) (d : Fin 128) :
    w207 ct (ix2 r d) = qRow ct 0 r d := by
  unfold w207 k0_pay72
  pointwise [w206_at ct] <;> rfl

theorem w208_at (r : Fin 512) (d : Fin 128) :
    w208 ct (ix2 r d) = qRow ct 1 r d := by
  unfold w208 k0_pay73
  pointwise [w206_at ct] <;> rfl

theorem w209_at (r : Fin 512) (d : Fin 128) :
    w209 ct (ix2 r d) = qRow ct 2 r d := by
  unfold w209 k0_pay74
  pointwise [w206_at ct] <;> rfl

theorem w210_at (r : Fin 512) (d : Fin 128) :
    w210 ct (ix2 r d) = qRow ct 3 r d := by
  unfold w210 k0_pay75
  pointwise [w206_at ct] <;> rfl

/-- Value `v216` of the body. -/
abbrev w216 : FVec Ideal S256x128 .f32 := k0_pay76 gk (w169 z gq) (w183 kv) ct

/-- Value `v230` of the body. -/
abbrev w230 : FVec Ideal S512x256 .f32 := k0_pay77 kv gk (w169 z gq) (w183 kv) ct

/-- Value `v232` of the body. -/
abbrev w232 : FVec Ideal S512x256 .f32 := k0_pay78 (w230 z kv gq gk ct) (Ideal.ofBits .f32 0x3DB504F3#32)

/-- Value `v235` of the body. -/
abbrev w235 : FVec Ideal S512x128 .f32 := k0_pay79 (w185 kv gk) (w230 z kv gq gk ct) (Ideal.ofBits .f32 0x3DB504F3#32)

/-- Value `v238` of the body. -/
abbrev w238 : FVec Ideal S256x128 .f32 := k0_pay80 (w169 z gq) (w230 z kv gq gk ct) (Ideal.ofBits .f32 0x3DB504F3#32)

/-- Value `v243` of the body. -/
abbrev w243 : FVec Ideal S1x128 .f32 := k0_pay81 (w169 z gq) (w183 kv) (w230 z kv gq gk ct) (Ideal.ofBits .f32 0x3DB504F3#32)

/-- Value `v265` of the body. -/
abbrev w265 : FVec Ideal S256x1024 .f32 := k0_pay82 gk (w169 z gq) (w170 kv) (w178 kv) (w181 kv) (w216 z kv gq gk ct) (w230 z kv gq gk ct) (Ideal.ofBits .f32 0x3DB504F3#32)

/-- Value `v268` of the body. -/
abbrev w268 : FVec Ideal S1x128 .f32 := k0_pay83 (w167 z) (w185 kv gk) (w230 z kv gq gk ct) (Ideal.ofBits .f32 0x3DB504F3#32)

/-- Value `v270` of the body. -/
abbrev w270 : FVec Ideal S512x128 .f32 := k0_pay84 gq (w185 kv gk) (w230 z kv gq gk ct) (Ideal.ofBits .f32 0x3DB504F3#32)

/-- Value `v275` of the body. -/
abbrev w275 : FVec Ideal S512x128 .f32 := k0_pay85 gq (w162 z) (w185 kv gk) (w230 z kv gq gk ct) (Ideal.ofBits .f32 0x3DB504F3#32)

/-- Value `v278` of the body. -/
abbrev w278 : FVec Ideal S512x1 .f32 := k0_pay86 gq (w154 z) (w165 z) (w185 kv gk) (w230 z kv gq gk ct) (Ideal.ofBits .f32 0x3DB504F3#32)

/-- Value `v287` of the body. -/
abbrev w287 : FVec Ideal S512x512 .f32 := k0_pay87 (w154 z) (w275 z kv gq gk ct) (w278 z kv gq gk ct)

theorem w216_at (t : Fin 256) (d : Fin 128) :
    w216 z kv gq gk ct (ix2 t d) = dVAt z ct kv gq gk 3 t d := by
  unfold w216 k0_pay76 dVAt dVPart weight
  pointwise [dot_S512x256_S512x128_S256x128_0_0_1_1_n_n, w210_at ct, w196_at z kv gq gk, w198_at z kv gq gk] <;> rfl

theorem w230_at (r : Fin 512) (t : Fin 256) :
    w230 z kv gq gk ct (ix2 r t) = (Ideal.div (dWeight (vMem kv 3) (qRow ct 3 r) t) (total (qRow z 3 r) (kMem kv 3) (gRow gq) (gRow gk)) + dTotal (qRow z 3 r) (kMem kv 3) (vMem kv 3) (gRow gq) (gRow gk) (qRow ct 3 r)) * expo (qRow z 3 r) (kMem kv 3) (gRow gq) (gRow gk) t := by
  unfold w230 k0_pay77 dTotal dWeight
  pointwise [dot_S512x128_S256x128_S512x256_1_1_0_0_n_n, w210_at ct, w196_at z kv gq gk, w198_at z kv gq gk, zero_sub, Fin.sum_univ_one] <;> rfl

theorem w232_at (r : Fin 512) (t : Fin 256) :
    w232 z kv gq gk ct (ix2 r t) = dScore (qRow z 3 r) (kMem kv 3) (vMem kv 3) (gRow gq) (gRow gk) (qRow ct 3 r) t := by
  unfold w232 k0_pay78 dScore
  pointwise [w230_at z kv gq gk ct, Fin.sum_univ_one] <;> rfl

theorem w235_at (r : Fin 512) (d : Fin 128) :
    w235 z kv gq gk ct (ix2 r d) = dQn (qRow z 3 r) (kMem kv 3) (vMem kv 3) (gRow gq) (gRow gk) (qRow ct 3 r) d := by
  unfold w235 k0_pay79 dQn
  pointwise [dot_S512x256_S256x128_S512x128_1_0_0_1_n_n, w232_at z kv gq gk ct, w185_at kv gk, Fin.sum_univ_one] <;> rfl

theorem w238_at (t : Fin 256) (d : Fin 128) :
    w238 z kv gq gk ct (ix2 t d) = dKnAt z ct kv gq gk 3 t d := by
  unfold w238 k0_pay80 dKnAt dKnPart
  pointwise [dot_S512x256_S512x128_S256x128_0_0_1_1_n_n, w232_at z kv gq gk ct, w169_at z gq, Fin.sum_univ_one] <;> rfl

theorem w243_at (d : Fin 128) :
    w243 z kv gq gk ct (ix2 0 d) = gkOf (kMem kv 3) (dKnAt z ct kv gq gk 3) d := by
  unfold w243 k0_pay81 gkOf
  pointwise [w238_at z kv gq gk ct, w183_at kv, Fin.sum_univ_one] <;> rfl

theorem w265_at (t : Fin 256) (j : Fin 1024) :
    w265 z kv gq gk ct (ix2 t j) = pl 896 (dVAt z ct kv gq gk 3 t) j.val + pl 384 (dKOf (kMem kv 3) (gRow gk) (dKnAt z ct kv gq gk 3) t) j.val := by
  unfold w265 k0_pay82
  rw [← pl_last 896 _ j.val (by omega), ← pl_mid 384 512 rfl]
  unfold dKOf unnorm slope
  pointwise [w216_at z kv gq gk ct, w238_at z kv gq gk ct, w170_at kv, w178_at kv, w181_at kv, Fin.sum_univ_one] <;> rfl

theorem w268_at (d : Fin 128) :
    w268 z kv gq gk ct (ix2 0 d) = gqAt z ct kv gq gk 3 d := by
  unfold w268 k0_pay83 gqAt dGqPart
  pointwise [w235_at z kv gq gk ct, w167_at z, Fin.sum_univ_one] <;> rfl

theorem w270_at (r : Fin 512) (d : Fin 128) :
    w270 z kv gq gk ct (ix2 r d) = dQn (qRow z 3 r) (kMem kv 3) (vMem kv 3) (gRow gq) (gRow gk) (qRow ct 3 r) d * gRow gq d := by
  unfold w270 k0_pay84
  pointwise [w235_at z kv gq gk ct, Fin.sum_univ_one] <;> rfl

theorem w275_at (r : Fin 512) (d : Fin 128) :
    w275 z kv gq gk ct (ix2 r d) = dQn (qRow z 3 r) (kMem kv 3) (vMem kv 3) (gRow gq) (gRow gk) (qRow ct 3 r) d * gRow gq d * Ideal.rsqrt (ms (qRow z 3 r)) := by
  unfold w275 k0_pay85
  pointwise [w270_at z kv gq gk ct, w162_at z, Fin.sum_univ_one] <;> rfl

theorem w278_at (r : Fin 512) :
    w278 z kv gq gk ct (ix2 r 0) = slope (qRow z 3 r) (gRow gq) (dQn (qRow z 3 r) (kMem kv 3) (vMem kv 3) (gRow gq) (gRow gk) (qRow ct 3 r)) := by
  unfold w278 k0_pay86 slope
  pointwise [w270_at z kv gq gk ct, w154_at z, w165_at z, Fin.sum_univ_one] <;> rfl

theorem w287_at (r : Fin 512) (j : Fin 512) :
    w287 z kv gq gk ct (ix2 r j) = pl 384 (fun d => dQ (qRow z 3 r) (kMem kv 3) (vMem kv 3) (gRow gq) (gRow gk) (qRow ct 3 r) d) j.val := by
  unfold w287 k0_pay87
  rw [← pl_last 384 _ j.val (by omega)]
  unfold dQ unnorm
  pointwise [w275_at z kv gq gk ct, w278_at z kv gq gk ct, w154_at z, Fin.sum_univ_one] <;> rfl

end Cert.Xa.XaBwd

end
-- ==== Proof.Xa.BwdPart2.lean ====
/-
  THE BACKWARD KERNEL'S BLOCK: WHAT HEAD 2 PASSES BACK.

  The body goes through the heads from the last to the first; each adds its part to what the heads before it gave.
-/
module

public import proofs.«01_k».proof.Proof.Xa.Parts
public import proofs.«01_k».proof.Proof.Xa.BwdHead2
public import proofs.«01_k».proof.Proof.Xa.BwdPart3

@[expose] public section

noncomputable section

namespace Cert.Xa.XaBwd

open Cert.XaBwdIdeal Cert.XaBwdIdeal.Gen Idealize.ShloMosaic Idealize.SL.Sem

variable (z : Vec Ideal S512x512 .f32) (kv : Vec Ideal S256x1024 .f32) (gq gk : Vec Ideal S1x128 .f32)
variable (ct : Vec Ideal S512x512 .bf16)

/-- Value `v309` of the body. -/
abbrev w309 : FVec Ideal S512x256 .f32 := k0_pay88 (w136 kv) (w146 z kv gq gk) (w148 z kv gq gk) (w153 z kv gq gk) (w209 ct)

/-- Value `v312` of the body. -/
abbrev w312 : FVec Ideal S512x128 .f32 := k0_pay89 (w135 kv gk) (w136 kv) (w146 z kv gq gk) (w148 z kv gq gk) (w153 z kv gq gk) (w209 ct)

/-- Value `v315` of the body. -/
abbrev w315 : FVec Ideal S256x128 .f32 := k0_pay90 (w119 z gq) (w136 kv) (w146 z kv gq gk) (w148 z kv gq gk) (w153 z kv gq gk) (w209 ct)

/-- Value `v320` of the body. -/
abbrev w320 : FVec Ideal S256x1024 .f32 := k0_pay91 (w150 z kv gq gk) (w209 ct) (w265 z kv gq gk ct)

/-- Value `v324` of the body. -/
abbrev w324 : FVec Ideal S1x128 .f32 := k0_pay92 (w119 z gq) (w133 kv) (w136 kv) (w146 z kv gq gk) (w148 z kv gq gk) (w153 z kv gq gk) (w209 ct) (w243 z kv gq gk ct)

/-- Value `v326` of the body. -/
abbrev w326 : FVec Ideal S256x128 .f32 := k0_pay93 gk (w119 z gq) (w136 kv) (w146 z kv gq gk) (w148 z kv gq gk) (w153 z kv gq gk) (w209 ct)

/-- Value `v327` of the body. -/
abbrev w327 : FVec Ideal S256x128 .f32 := k0_pay94 gk (w119 z gq) (w120 kv) (w136 kv) (w146 z kv gq gk) (w148 z kv gq gk) (w153 z kv gq gk) (w209 ct)

/-- Value `v346` of the body. -/
abbrev w346 : FVec Ideal S256x1024 .f32 := k0_pay95 (w120 kv) (w128 kv) (w131 kv) (w320 z kv gq gk ct) (w326 z kv gq gk ct) (w327 z kv gq gk ct)

/-- Value `v350` of the body. -/
abbrev w350 : FVec Ideal S1x128 .f32 := k0_pay96 (w117 z) (w268 z kv gq gk ct) (w312 z kv gq gk ct)

/-- Value `v372` of the body. -/
abbrev w372 : FVec Ideal S512x512 .f32 := k0_pay97 gq (w104 z) (w112 z) (w115 z) (w287 z kv gq gk ct) (w312 z kv gq gk ct)

theorem w309_at (r : Fin 512) (t : Fin 256) :
    w309 z kv gq gk ct (ix2 r t) = dScore (qRow z 2 r) (kMem kv 2) (vMem kv 2) (gRow gq) (gRow gk) (qRow ct 2 r) t := by
  unfold w309 k0_pay88 dScore dTotal dWeight
  pointwise [dot_S512x128_S256x128_S512x256_1_1_0_0_n_n, w209_at ct, w146_at z kv gq gk, w148_at z kv gq gk, w153_at z kv gq gk, w136_at kv, zero_sub, Fin.sum_univ_one] <;> rfl

theorem w312_at (r : Fin 512) (d : Fin 128) :
    w312 z kv gq gk ct (ix2 r d) = dQn (qRow z 2 r) (kMem kv 2) (vMem kv 2) (gRow gq) (gRow gk) (qRow ct 2 r) d := by
  unfold w312 k0_pay89 dQn
  pointwise [dot_S512x256_S256x128_S512x128_1_0_0_1_n_n, w309_at z kv gq gk ct, w135_at kv gk, Fin.sum_univ_one] <;> rfl

theorem w315_at (t : Fin 256) (d : Fin 128) :
    w315 z kv gq gk ct (ix2 t d) = dKnAt z ct kv gq gk 2 t d := by
  unfold w315 k0_pay90 dKnAt dKnPart
  pointwise [dot_S512x256_S512x128_S256x128_0_0_1_1_n_n, w309_at z kv gq gk ct, w119_at z gq, Fin.sum_univ_one] <;> rfl

theorem w320_at (t : Fin 256) (j : Fin 1024) :
    w320 z kv gq gk ct (ix2 t j) = w265 z kv gq gk ct (ix2 t j) + pl 768 (dVAt z ct kv gq gk 2 t) j.val := by
  unfold w320 k0_pay91
  rw [← pl_mid 768 896 rfl]
  unfold dVAt dVPart
  pointwise [dot_S512x256_S512x128_S256x128_0_0_1_1_n_n, w209_at ct, w150_at z kv gq gk, Fin.sum_univ_one] <;> rfl

theorem w324_at (d : Fin 128) :
    w324 z kv gq gk ct (ix2 0 d) = gkOf (kMem kv 3) (dKnAt z ct kv gq gk 3) d + gkOf (kMem kv 2) (dKnAt z ct kv gq gk 2) d := by
  unfold w324 k0_pay92
  unfold gkOf
  pointwise [w243_at z kv gq gk ct, w315_at z kv gq gk ct, w133_at kv, Fin.sum_univ_one] <;> rfl

theorem w326_at (t : Fin 256) (d : Fin 128) :
    w326 z kv gq gk ct (ix2 t d) = dKnAt z ct kv gq gk 2 t d * gRow gk d := by
  unfold w326 k0_pay93
  pointwise [w315_at z kv gq gk ct, Fin.sum_univ_one] <;> rfl

theorem w327_at (t : Fin 256) (d : Fin 128) :
    w327 z kv gq gk ct (ix2 t d) = kMem kv 2 t d * (dKnAt z ct kv gq gk 2 t d * gRow gk d) := by
  unfold w327 k0_pay94
  pointwise [w326_at z kv gq gk ct, w120_at kv, Fin.sum_univ_one] <;> rfl

theorem w346_at (t : Fin 256) (j : Fin 1024) :
    w346 z kv gq gk ct (ix2 t j) = w320 z kv gq gk ct (ix2 t j) + pl 256 (dKOf (kMem kv 2) (gRow gk) (dKnAt z ct kv gq gk 2) t) j.val := by
  unfold w346 k0_pay95
  rw [← pl_mid 256 384 rfl]
  unfold dKOf unnorm slope
  pointwise [w326_at z kv gq gk ct, w327_at z kv gq gk ct, w120_at kv, w128_at kv, w131_at kv, Fin.sum_univ_one] <;> rfl

theorem w350_at (d : Fin 128) :
    w350 z kv gq gk ct (ix2 0 d) = gqAt z ct kv gq gk 3 d + gqAt z ct kv gq gk 2 d := by
  unfold w350 k0_pay96
  unfold gqAt dGqPart
  pointwise [w268_at z kv gq gk ct, w312_at z kv gq gk ct, w117_at z, Fin.sum_univ_one] <;> rfl

theorem w372_at (r : Fin 512) (j : Fin 512) :
    w372 z kv gq gk ct (ix2 r j) = w287 z kv gq gk ct (ix2 r j) + pl 256 (fun d => dQ (qRow z 2 r) (kMem kv 2) (vMem kv 2) (gRow gq) (gRow gk) (qRow ct 2 r) d) j.val := by
  unfold w372 k0_pay97
  rw [← pl_mid 256 384 rfl]
  unfold dQ unnorm slope
  pointwise [w312_at z kv gq gk ct, w104_at z, w112_at z, w115_at z, Fin.sum_univ_one] <;> rfl

end Cert.Xa.XaBwd

end
-- ==== Proof.Xa.BwdPart1.lean ====
/-
  THE BACKWARD KERNEL'S BLOCK: WHAT HEAD 1 PASSES BACK.

  The body goes through the heads from the last to the first; each adds its part to what the heads before it gave.
-/
module

public import proofs.«01_k».proof.Proof.Xa.Parts
public import proofs.«01_k».proof.Proof.Xa.BwdHead1
public import proofs.«01_k».proof.Proof.Xa.BwdPart2

@[expose] public section

noncomputable section

namespace Cert.Xa.XaBwd

open Cert.XaBwdIdeal Cert.XaBwdIdeal.Gen Idealize.ShloMosaic Idealize.SL.Sem

variable (z : Vec Ideal S512x512 .f32) (kv : Vec Ideal S256x1024 .f32) (gq gk : Vec Ideal S1x128 .f32)
variable (ct : Vec Ideal S512x512 .bf16)

/-- Value `v375` of the body. -/
abbrev w375 : FVec Ideal S512x256 .f32 := k0_pay98 (w86 kv) (w208 ct)

/-- Value `v376` of the body. -/
abbrev w376 : FVec Ideal S512x256 .bf16 := k0_pay99 (w100 z kv gq gk)

/-- Value `v377` of the body. -/
abbrev w377 : FVec Ideal S512x128 .bf16 := k0_pay100 (w208 ct)

/-- Value `v394` of the body. -/
abbrev w394 : FVec Ideal S512x256 .f32 := k0_pay101 (w96 z kv gq gk) (w98 z kv gq gk) (w103 z kv gq gk) (w375 kv ct)

/-- Value `v397` of the body. -/
abbrev w397 : FVec Ideal S512x128 .f32 := k0_pay102 (w85 kv gk) (w96 z kv gq gk) (w98 z kv gq gk) (w103 z kv gq gk) (w375 kv ct)

/-- Value `v400` of the body. -/
abbrev w400 : FVec Ideal S256x128 .f32 := k0_pay103 (w69 z gq) (w96 z kv gq gk) (w98 z kv gq gk) (w103 z kv gq gk) (w375 kv ct)

/-- Value `v405` of the body. -/
abbrev w405 : FVec Ideal S256x1024 .f32 := k0_pay104 (w346 z kv gq gk ct) (w376 z kv gq gk) (w377 ct)

/-- Value `v409` of the body. -/
abbrev w409 : FVec Ideal S1x128 .f32 := k0_pay105 (w69 z gq) (w83 kv) (w96 z kv gq gk) (w98 z kv gq gk) (w103 z kv gq gk) (w324 z kv gq gk ct) (w375 kv ct)

/-- Value `v411` of the body. -/
abbrev w411 : FVec Ideal S256x128 .f32 := k0_pay106 gk (w69 z gq) (w96 z kv gq gk) (w98 z kv gq gk) (w103 z kv gq gk) (w375 kv ct)

/-- Value `v422` of the body. -/
abbrev w422 : FVec Ideal S256x128 .f32 := k0_pay107 gk (w69 z gq) (w70 kv) (w81 kv) (w96 z kv gq gk) (w98 z kv gq gk) (w103 z kv gq gk) (w375 kv ct)

/-- Value `v424` of the body. -/
abbrev w424 : FVec Ideal S256x128 .f32 := k0_pay108 gk (w69 z gq) (w70 kv) (w78 kv) (w81 kv) (w96 z kv gq gk) (w98 z kv gq gk) (w103 z kv gq gk) (w375 kv ct)

/-- Value `v425` of the body. -/
abbrev w425 : FVec Ideal S256x128 .f32 := k0_pay109 gk (w69 z gq) (w70 kv) (w81 kv) (w96 z kv gq gk) (w98 z kv gq gk) (w103 z kv gq gk) (w375 kv ct)

/-- Value `v431` of the body. -/
abbrev w431 : FVec Ideal S256x1024 .f32 := k0_pay110 (w405 z kv gq gk ct) (w424 z kv gq gk ct) (w425 z kv gq gk ct)

/-- Value `v435` of the body. -/
abbrev w435 : FVec Ideal S1x128 .f32 := k0_pay111 (w67 z) (w350 z kv gq gk ct) (w397 z kv gq gk ct)

/-- Value `v457` of the body. -/
abbrev w457 : FVec Ideal S512x512 .f32 := k0_pay112 gq (w54 z) (w62 z) (w65 z) (w372 z kv gq gk ct) (w397 z kv gq gk ct)

theorem w375_at (r : Fin 512) (t : Fin 256) :
    w375 kv ct (ix2 r t) = dWeight (vMem kv 1) (qRow ct 1 r) t := by
  unfold w375 k0_pay98 dWeight
  pointwise [dot_S512x128_S256x128_S512x256_1_1_0_0_n_n, w208_at ct, w86_at kv, Fin.sum_univ_one] <;> rfl

theorem w376_at (r : Fin 512) (t : Fin 256) :
    w376 z kv gq gk (ix2 r t) = weight (qRow z 1 r) (kMem kv 1) (gRow gq) (gRow gk) t := by
  unfold w376 k0_pay99
  pointwise [w100_at z kv gq gk, Fin.sum_univ_one] <;> rfl

theorem w377_at (r : Fin 512) (d : Fin 128) :
    w377 ct (ix2 r d) = qRow ct 1 r d := by
  unfold w377 k0_pay100
  pointwise [w208_at ct, Fin.sum_univ_one] <;> rfl

theorem w394_at (r : Fin 512) (t : Fin 256) :
    w394 z kv gq gk ct (ix2 r t) = dScore (qRow z 1 r) (kMem kv 1) (vMem kv 1) (gRow gq) (gRow gk) (qRow ct 1 r) t := by
  unfold w394 k0_pay101 dScore dTotal
  pointwise [w96_at z kv gq gk, w98_at z kv gq gk, w103_at z kv gq gk, w375_at kv ct, zero_sub, Fin.sum_univ_one] <;> rfl

theorem w397_at (r : Fin 512) (d : Fin 128) :
    w397 z kv gq gk ct (ix2 r d) = dQn (qRow z 1 r) (kMem kv 1) (vMem kv 1) (gRow gq) (gRow gk) (qRow ct 1 r) d := by
  unfold w397 k0_pay102 dQn
  pointwise [dot_S512x256_S256x128_S512x128_1_0_0_1_n_n, w394_at z kv gq gk ct, w85_at kv gk, Fin.sum_univ_one] <;> rfl

theorem w400_at (t : Fin 256) (d : Fin 128) :
    w400 z kv gq gk ct (ix2 t d) = dKnAt z ct kv gq gk 1 t d := by
  unfold w400 k0_pay103 dKnAt dKnPart
  pointwise [dot_S512x256_S512x128_S256x128_0_0_1_1_n_n, w394_at z kv gq gk ct, w69_at z gq, Fin.sum_univ_one] <;> rfl

theorem w405_at (t : Fin 256) (j : Fin 1024) :
    w405 z kv gq gk ct (ix2 t j) = w346 z kv gq gk ct (ix2 t j) + pl 640 (dVAt z ct kv gq gk 1 t) j.val := by
  unfold w405 k0_pay104
  rw [← pl_mid 640 768 rfl]
  unfold dVAt dVPart
  pointwise [dot_S512x256_S512x128_S256x128_0_0_1_1_n_n, w376_at z kv gq gk, w377_at ct, Fin.sum_univ_one] <;> rfl

theorem w409_at (d : Fin 128) :
    w409 z kv gq gk ct (ix2 0 d) = gkOf (kMem kv 3) (dKnAt z ct kv gq gk 3) d + gkOf (kMem kv 2) (dKnAt z ct kv gq gk 2) d + gkOf (kMem kv 1) (dKnAt z ct kv gq gk 1) d := by
  unfold w409 k0_pay105
  unfold gkOf
  pointwise [w324_at z kv gq gk ct, w400_at z kv gq gk ct, w83_at kv, Fin.sum_univ_one] <;> rfl

theorem w411_at (t : Fin 256) (d : Fin 128) :
    w411 z kv gq gk ct (ix2 t d) = dKnAt z ct kv gq gk 1 t d * gRow gk d := by
  unfold w411 k0_pay106
  pointwise [w400_at z kv gq gk ct, Fin.sum_univ_one] <;> rfl

theorem w422_at (t : Fin 256) (d : Fin 128) :
    w422 z kv gq gk ct (ix2 t d) = slope (kMem kv 1 t) (gRow gk) (dKnAt z ct kv gq gk 1 t) := by
  unfold w422 k0_pay107 slope
  pointwise [w411_at z kv gq gk ct, w70_at kv, w81_at kv, Fin.sum_univ_one] <;> rfl

theorem w424_at (t : Fin 256) (d : Fin 128) :
    w424 z kv gq gk ct (ix2 t d) = dKnAt z ct kv gq gk 1 t d * gRow gk d * Ideal.rsqrt (ms (kMem kv 1 t)) + kMem kv 1 t d * slope (kMem kv 1 t) (gRow gk) (dKnAt z ct kv gq gk 1 t) := by
  unfold w424 k0_pay108
  pointwise [w411_at z kv gq gk ct, w422_at z kv gq gk ct, w70_at kv, w78_at kv, Fin.sum_univ_one] <;> rfl

theorem w425_at (t : Fin 256) (d : Fin 128) :
    w425 z kv gq gk ct (ix2 t d) = slope (kMem kv 1 t) (gRow gk) (dKnAt z ct kv gq gk 1 t) * kMem kv 1 t d := by
  unfold w425 k0_pay109
  pointwise [w422_at z kv gq gk ct, w70_at kv, Fin.sum_univ_one] <;> rfl

theorem w431_at (t : Fin 256) (j : Fin 1024) :
    w431 z kv gq gk ct (ix2 t j) = w405 z kv gq gk ct (ix2 t j) + pl 128 (dKOf (kMem kv 1) (gRow gk) (dKnAt z ct kv gq gk 1) t) j.val := by
  unfold w431 k0_pay110
  rw [← pl_mid 128 256 rfl]
  unfold dKOf unnorm
  pointwise [w424_at z kv gq gk ct, w425_at z kv gq gk ct, Fin.sum_univ_one] <;> rfl

theorem w435_at (d : Fin 128) :
    w435 z kv gq gk ct (ix2 0 d) = gqAt z ct kv gq gk 3 d + gqAt z ct kv gq gk 2 d + gqAt z ct kv gq gk 1 d := by
  unfold w435 k0_pay111
  unfold gqAt dGqPart
  pointwise [w350_at z kv gq gk ct, w397_at z kv gq gk ct, w67_at z, Fin.sum_univ_one] <;> rfl

theorem w457_at (r : Fin 512) (j : Fin 512) :
    w457 z kv gq gk ct (ix2 r j) = w372 z kv gq gk ct (ix2 r j) + pl 128 (fun d => dQ (qRow z 1 r) (kMem kv 1) (vMem kv 1) (gRow gq) (gRow gk) (qRow ct 1 r) d) j.val := by
  unfold w457 k0_pay112
  rw [← pl_mid 128 256 rfl]
  unfold dQ unnorm slope
  pointwise [w397_at z kv gq gk ct, w54_at z, w62_at z, w65_at z, Fin.sum_univ_one] <;> rfl

end Cert.Xa.XaBwd

end
-- ==== Proof.Xa.BwdPart0.lean ====
/-
  THE BACKWARD KERNEL'S BLOCK: WHAT HEAD 0 PASSES BACK.

  The body goes through the heads from the last to the first; each adds its part to what the heads before it gave.
-/
module

public import proofs.«01_k».proof.Proof.Xa.Parts
public import proofs.«01_k».proof.Proof.Xa.BwdHead0
public import proofs.«01_k».proof.Proof.Xa.BwdPart1

@[expose] public section

noncomputable section

namespace Cert.Xa.XaBwd

open Cert.XaBwdIdeal Cert.XaBwdIdeal.Gen Idealize.ShloMosaic Idealize.SL.Sem

variable (z : Vec Ideal S512x512 .f32) (kv : Vec Ideal S256x1024 .f32) (gq gk : Vec Ideal S1x128 .f32)
variable (ct : Vec Ideal S512x512 .bf16)

/-- Value `v460` of the body. -/
abbrev w460 : FVec Ideal S512x256 .f32 := k0_pay113 (w36 kv) (w207 ct)

/-- Value `v463` of the body. -/
abbrev w463 : FVec Ideal S256x128 .f32 := k0_pay114 (w50 z kv gq gk) (w207 ct)

/-- Value `v472` of the body. -/
abbrev w472 : FVec Ideal S512x256 .f32 := k0_pay115 (w36 kv) (w48 z kv gq gk) (w207 ct)

/-- Value `v474` of the body. -/
abbrev w474 : FVec Ideal S512x1 .f32 := k0_pay116 (w36 kv) (w46 z kv gq gk) (w53 z kv gq gk) (w207 ct)

/-- Value `v479` of the body. -/
abbrev w479 : FVec Ideal S512x256 .f32 := k0_pay117 (w46 z kv gq gk) (w472 z kv gq gk ct) (w474 z kv gq gk ct)

/-- Value `v482` of the body. -/
abbrev w482 : FVec Ideal S512x128 .f32 := k0_pay118 (w35 kv gk) (w46 z kv gq gk) (w472 z kv gq gk ct) (w474 z kv gq gk ct)

/-- Value `v485` of the body. -/
abbrev w485 : FVec Ideal S256x128 .f32 := k0_pay119 (w19 z gq) (w46 z kv gq gk) (w472 z kv gq gk ct) (w474 z kv gq gk ct)

/-- Value `v494` of the body. -/
abbrev w494 : FVec Ideal S1x128 .f32 := k0_pay120 (w19 z gq) (w33 kv) (w46 z kv gq gk) (w409 z kv gq gk ct) (w472 z kv gq gk ct) (w474 z kv gq gk ct)

/-- Value `v514` of the body. -/
abbrev w514 : FVec Ideal S256x1024 .f32 := k0_pay121 gk (w19 z gq) (w20 kv) (w28 kv) (w31 kv) (w46 z kv gq gk) (w431 z kv gq gk ct) (w463 z kv gq gk ct) (w472 z kv gq gk ct) (w474 z kv gq gk ct)

/-- Value `v518` of the body. -/
abbrev w518 : FVec Ideal S1x128 .f32 := k0_pay122 (w17 z) (w35 kv gk) (w46 z kv gq gk) (w435 z kv gq gk ct) (w472 z kv gq gk ct) (w474 z kv gq gk ct)

/-- Value `v520` of the body. -/
abbrev w520 : FVec Ideal S512x128 .f32 := k0_pay123 gq (w35 kv gk) (w46 z kv gq gk) (w472 z kv gq gk ct) (w474 z kv gq gk ct)

/-- Value `v523` of the body. -/
abbrev w523 : FVec Ideal S512x1 .f32 := k0_pay124 gq (w4 z) (w35 kv gk) (w46 z kv gq gk) (w472 z kv gq gk ct) (w474 z kv gq gk ct)

/-- Value `v539` of the body. -/
abbrev w539 : FVec Ideal S512x512 .bf16 := k0_pay125 (w4 z) (w12 z) (w15 z) (w457 z kv gq gk ct) (w520 z kv gq gk ct) (w523 z kv gq gk ct)

theorem w460_at (r : Fin 512) (t : Fin 256) :
    w460 kv ct (ix2 r t) = dWeight (vMem kv 0) (qRow ct 0 r) t := by
  unfold w460 k0_pay113 dWeight
  pointwise [dot_S512x128_S256x128_S512x256_1_1_0_0_n_n, w207_at ct, w36_at kv, Fin.sum_univ_one] <;> rfl

theorem w463_at (t : Fin 256) (d : Fin 128) :
    w463 z kv gq gk ct (ix2 t d) = dVAt z ct kv gq gk 0 t d := by
  unfold w463 k0_pay114 dVAt dVPart
  pointwise [dot_S512x256_S512x128_S256x128_0_0_1_1_n_n, w207_at ct, w50_at z kv gq gk, Fin.sum_univ_one] <;> rfl

theorem w472_at (r : Fin 512) (t : Fin 256) :
    w472 z kv gq gk ct (ix2 r t) = Ideal.div (dWeight (vMem kv 0) (qRow ct 0 r) t) (total (qRow z 0 r) (kMem kv 0) (gRow gq) (gRow gk)) := by
  unfold w472 k0_pay115
  pointwise [w460_at kv ct, w48_at z kv gq gk, Fin.sum_univ_one] <;> rfl

theorem w474_at (r : Fin 512) :
    w474 z kv gq gk ct (ix2 r 0) = dTotal (qRow z 0 r) (kMem kv 0) (vMem kv 0) (gRow gq) (gRow gk) (qRow ct 0 r) := by
  unfold w474 k0_pay116 dTotal
  pointwise [w460_at kv ct, w46_at z kv gq gk, w53_at z kv gq gk, zero_sub, Fin.sum_univ_one] <;> rfl

theorem w479_at (r : Fin 512) (t : Fin 256) :
    w479 z kv gq gk ct (ix2 r t) = dScore (qRow z 0 r) (kMem kv 0) (vMem kv 0) (gRow gq) (gRow gk) (qRow ct 0 r) t := by
  unfold w479 k0_pay117 dScore
  pointwise [w46_at z kv gq gk, w472_at z kv gq gk ct, w474_at z kv gq gk ct, Fin.sum_univ_one] <;> rfl

theorem w482_at (r : Fin 512) (d : Fin 128) :
    w482 z kv gq gk ct (ix2 r d) = dQn (qRow z 0 r) (kMem kv 0) (vMem kv 0) (gRow gq) (gRow gk) (qRow ct 0 r) d := by
  unfold w482 k0_pay118 dQn
  pointwise [dot_S512x256_S256x128_S512x128_1_0_0_1_n_n, w479_at z kv gq gk ct, w35_at kv gk, Fin.sum_univ_one] <;> rfl

theorem w485_at (t : Fin 256) (d : Fin 128) :
    w485 z kv gq gk ct (ix2 t d) = dKnAt z ct kv gq gk 0 t d := by
  unfold w485 k0_pay119 dKnAt dKnPart
  pointwise [dot_S512x256_S512x128_S256x128_0_0_1_1_n_n, w479_at z kv gq gk ct, w19_at z gq, Fin.sum_univ_one] <;> rfl

theorem w494_at (d : Fin 128) :
    w494 z kv gq gk ct (ix2 0 d) = gkOf (kMem kv 3) (dKnAt z ct kv gq gk 3) d + gkOf (kMem kv 2) (dKnAt z ct kv gq gk 2) d + gkOf (kMem kv 1) (dKnAt z ct kv gq gk 1) d + gkOf (kMem kv 0) (dKnAt z ct kv gq gk 0) d := by
  unfold w494 k0_pay120
  unfold gkOf
  pointwise [w409_at z kv gq gk ct, w485_at z kv gq gk ct, w33_at kv, Fin.sum_univ_one] <;> rfl

theorem w514_at (t : Fin 256) (j : Fin 1024) :
    w514 z kv gq gk ct (ix2 t j) = w431 z kv gq gk ct (ix2 t j) + pl 512 (dVAt z ct kv gq gk 0 t) j.val + pl 0 (dKOf (kMem kv 0) (gRow gk) (dKnAt z ct kv gq gk 0) t) j.val := by
  unfold w514 k0_pay121
  rw [← pl_mid 512 640 rfl, ← pl_first]
  unfold dKOf unnorm slope
  pointwise [w485_at z kv gq gk ct, w463_at z kv gq gk ct, w20_at kv, w28_at kv, w31_at kv, Fin.sum_univ_one] <;> rfl

theorem w518_at (d : Fin 128) :
    w518 z kv gq gk ct (ix2 0 d) = gqAt z ct kv gq gk 3 d + gqAt z ct kv gq gk 2 d + gqAt z ct kv gq gk 1 d + gqAt z ct kv gq gk 0 d := by
  unfold w518 k0_pay122
  unfold gqAt dGqPart
  pointwise [w435_at z kv gq gk ct, w482_at z kv gq gk ct, w17_at z, Fin.sum_univ_one] <;> rfl

theorem w520_at (r : Fin 512) (d : Fin 128) :
    w520 z kv gq gk ct (ix2 r d) = dQn (qRow z 0 r) (kMem kv 0) (vMem kv 0) (gRow gq) (gRow gk) (qRow ct 0 r) d * gRow gq d := by
  unfold w520 k0_pay123
  pointwise [w482_at z kv gq gk ct, Fin.sum_univ_one] <;> rfl

theorem w523_at (r : Fin 512) :
    w523 z kv gq gk ct (ix2 r 0) = ∑ d, qRow z 0 r d * (dQn (qRow z 0 r) (kMem kv 0) (vMem kv 0) (gRow gq) (gRow gk) (qRow ct 0 r) d * gRow gq d) := by
  unfold w523 k0_pay124
  pointwise [w520_at z kv gq gk ct, w4_at z, Fin.sum_univ_one] <;> rfl

theorem w539_at (r : Fin 512) (j : Fin 512) :
    w539 z kv gq gk ct (ix2 r j) = w457 z kv gq gk ct (ix2 r j) + pl 0 (fun d => dQ (qRow z 0 r) (kMem kv 0) (vMem kv 0) (gRow gq) (gRow gk) (qRow ct 0 r) d) j.val := by
  unfold w539 k0_pay125
  rw [← pl_first]
  unfold dQ unnorm slope
  pointwise [w520_at z kv gq gk ct, w523_at z kv gq gk ct, w4_at z, w12_at z, w15_at z, Fin.sum_univ_one] <;> rfl

end Cert.Xa.XaBwd

end
-- ==== Proof.Xa.BwdBlock.lean ====
/-
  WHAT ONE GRID POINT OF THE BACKWARD KERNEL COMPUTES.
-/
module

public import proofs.«01_k».proof.Proof.Xa.BwdPart0

@[expose] public section

noncomputable section

namespace Cert.Xa.XaBwd

open Cert.XaBwdIdeal Cert.XaBwdIdeal.Gen Idealize.ShloMosaic

variable (z : Mlp.A2 512 512) (kv : Mlp.A2 256 1024) (gq gk : Mlp.A2 1 128) (ct : Mlp.A2 512 512)

/-- The queries' cotangent, head by head. -/
theorem block_dq (r j : Fin 512) :
    w539 z kv gq gk ct (ix2 r j)
      = byHead (fun h => dQ (qRow z h r) (kMem kv h) (vMem kv h) (gRow gq) (gRow gk) (qRow ct h r)) j := by
  rw [w539_at, w457_at, w372_at, w287_at]
  exact heads_eq (fun h => dQ (qRow z h r) (kMem kv h) (vMem kv h) (gRow gq) (gRow gk) (qRow ct h r)) j

/-- The block's part of the keys' and the values' cotangents. -/
theorem block_dkv (t : Fin 256) (j : Fin 1024) :
    w514 z kv gq gk ct (ix2 t j)
      = sides (fun h => dKOf (kMem kv h) (gRow gk) (dKnAt z ct kv gq gk h) t) (fun h => dVAt z ct kv gq gk h t) j.val := by
  rw [w514_at, w431_at, w405_at, w346_at, w320_at, w265_at]
  rfl

/-! ### The running sums -/

theorem add_dkv (x a : Mlp.A2 256 1024) (t : Fin 256) (j : Fin 1024) :
    k0_pay129 (F := Ideal) x a (ix2 t j) = a (ix2 t j) + x (ix2 t j) := by
  unfold k0_pay129; pointwise
theorem add_dgq (x a : Mlp.A2 1 128) (d : Fin 128) : k0_pay130 (F := Ideal) x a (ix2 0 d) = a (ix2 0 d) + x (ix2 0 d) := by
  unfold k0_pay130; pointwise
theorem add_dgk (x a : Mlp.A2 1 128) (d : Fin 128) : k0_pay1 (F := Ideal) x a (ix2 0 d) = a (ix2 0 d) + x (ix2 0 d) := by
  unfold k0_pay1; pointwise
theorem reset_dkv (t : Fin 256) (j : Fin 1024) : k0_pay126 (F := Ideal) (ix2 t j) = 0 := by
  unfold k0_pay126; pointwise
theorem reset_dgq (d : Fin 128) : k0_pay127 (F := Ideal) (ix2 0 d) = 0 := by
  unfold k0_pay127; pointwise
theorem reset_dgk (d : Fin 128) : k0_pay128 (F := Ideal) (ix2 0 d) = 0 := by
  unfold k0_pay128; pointwise

end Cert.Xa.XaBwd

end
-- ==== Proof.Xa.BwdStores.lean ====
/-
  WHAT THE BACKWARD KERNEL STORES.

  At the first grid point the three running sums are reset and the point's part is added; at a later point the part is
  added to what the point before left.  The queries' cotangent is stored as computed.
-/
module

public import proofs.«01_k».proof.Proof.Gen.XaBwdIdeal.Frame
public import proofs.«01_k».proof.Proof.Xa.BwdPart0

@[expose] public section

noncomputable section

namespace Cert.Xa.XaBwd

open Cert.XaBwdIdeal Cert.XaBwdIdeal.Gen Idealize.ShloMosaic Idealize.ShloMosaic.TcCoe Idealize.SL.Sem

variable (z : Vec Ideal S512x512 .f32) (kv : Vec Ideal S256x1024 .f32) (gq gk : Vec Ideal S1x128 .f32) (ct : Vec Ideal S512x512 .bf16)

theorem outA5 (c : Dev nD) (i : grid0.Coords) (a1 : Memref sig .tc .vmem S512x512 .f32) (h1 : a1.IsWhole) (a2 : Memref sig .tc .vmem S256x1024 .f32) (h2 : a2.IsWhole) (a3 : Memref sig .tc .vmem S1x128 .f32) (h3 : a3.IsWhole) (a4 : Memref sig .tc .vmem S1x128 .f32) (h4 : a4.IsWhole) (a5 : Memref sig .tc .vmem S512x512 .bf16) (h5 : a5.IsWhole) (a6 : Memref sig .tc .vmem S512x512 .bf16) (h6 : a6.IsWhole) (a7 : Memref sig .tc .vmem S256x1024 .f32) (h7 : a7.IsWhole) (a8 : Memref sig .tc .vmem S1x128 .f32) (h8 : a8.IsWhole) (a9 : Memref sig .tc .vmem S1x128 .f32) (h9 : a9.IsWhole) (hc : cond0_0 i) :
    out0_A_5 c i a1 h1 a2 h2 a3 h3 a4 h4 a5 h5 a6 h6 a7 h7 a8 h8 a9 h9 hc z kv gq gk ct = w539 z kv gq gk ct := by
  unfold out0_A_5
  rw [View.read_writes_eq_canon _ _ _ (cover0_A_5 c i a1 h1 a2 h2 a3 h3 a4 h4 a5 h5 a6 h6 a7 h7 a8 h8 a9 h9 hc z kv gq gk ct)]
  unfold kernelRun0_A
  dsimp only
  sl_unfold_words
  rw [View.canon_unit_zero Mlp.origin2]
  simp only [View.readAt_eq_ld, h1.read_unread, h2.read_unread, h3.read_unread, h4.read_unread, h5.read_unread, h7.read_unread, h8.read_unread, h9.read_unread,
    View.ld_unit_zero (S := S512x512) Mlp.origin2, View.ld_unit_zero (S := S256x1024) Mlp.origin2, View.ld_unit_zero (S := S1x128) Mlp.origin2, shapeCast_self]
  rfl

theorem outA6 (c : Dev nD) (i : grid0.Coords) (a1 : Memref sig .tc .vmem S512x512 .f32) (h1 : a1.IsWhole) (a2 : Memref sig .tc .vmem S256x1024 .f32) (h2 : a2.IsWhole) (a3 : Memref sig .tc .vmem S1x128 .f32) (h3 : a3.IsWhole) (a4 : Memref sig .tc .vmem S1x128 .f32) (h4 : a4.IsWhole) (a5 : Memref sig .tc .vmem S512x512 .bf16) (h5 : a5.IsWhole) (a6 : Memref sig .tc .vmem S512x512 .bf16) (h6 : a6.IsWhole) (a7 : Memref sig .tc .vmem S256x1024 .f32) (h7 : a7.IsWhole) (a8 : Memref sig .tc .vmem S1x128 .f32) (h8 : a8.IsWhole) (a9 : Memref sig .tc .vmem S1x128 .f32) (h9 : a9.IsWhole) (hc : cond0_0 i) :
    out0_A_6 c i a1 h1 a2 h2 a3 h3 a4 h4 a5 h5 a6 h6 a7 h7 a8 h8 a9 h9 hc z kv gq gk ct = k0_pay129 (F := Ideal) (w514 z kv gq gk ct) (k0_pay126 (F := Ideal)) := by
  unfold out0_A_6
  rw [View.read_writes_eq_canon _ _ _ (cover0_A_6 c i a1 h1 a2 h2 a3 h3 a4 h4 a5 h5 a6 h6 a7 h7 a8 h8 a9 h9 hc z kv gq gk ct)]
  unfold kernelRun0_A
  dsimp only
  sl_unfold_words
  rw [View.canon_cons_unit_zero (S := S256x1024) Mlp.origin2, View.readCov_unit_zero (S := S256x1024) _ Mlp.origin2]
  simp only [View.readAt_eq_ld, h1.read_unread, h2.read_unread, h3.read_unread, h4.read_unread, h5.read_unread, h7.read_unread, h8.read_unread, h9.read_unread,
    View.ld_unit_zero (S := S512x512) Mlp.origin2, View.ld_unit_zero (S := S256x1024) Mlp.origin2, View.ld_unit_zero (S := S1x128) Mlp.origin2, shapeCast_self]
  rfl

theorem outA7 (c : Dev nD) (i : grid0.Coords) (a1 : Memref sig .tc .vmem S512x512 .f32) (h1 : a1.IsWhole) (a2 : Memref sig .tc .vmem S256x1024 .f32) (h2 : a2.IsWhole) (a3 : Memref sig .tc .vmem S1x128 .f32) (h3 : a3.IsWhole) (a4 : Memref sig .tc .vmem S1x128 .f32) (h4 : a4.IsWhole) (a5 : Memref sig .tc .vmem S512x512 .bf16) (h5 : a5.IsWhole) (a6 : Memref sig .tc .vmem S512x512 .bf16) (h6 : a6.IsWhole) (a7 : Memref sig .tc .vmem S256x1024 .f32) (h7 : a7.IsWhole) (a8 : Memref sig .tc .vmem S1x128 .f32) (h8 : a8.IsWhole) (a9 : Memref sig .tc .vmem S1x128 .f32) (h9 : a9.IsWhole) (hc : cond0_0 i) :
    out0_A_7 c i a1 h1 a2 h2 a3 h3 a4 h4 a5 h5 a6 h6 a7 h7 a8 h8 a9 h9 hc z kv gq gk ct = k0_pay130 (F := Ideal) (w518 z kv gq gk ct) (k0_pay127 (F := Ideal)) := by
  unfold out0_A_7
  rw [View.read_writes_eq_canon _ _ _ (cover0_A_7 c i a1 h1 a2 h2 a3 h3 a4 h4 a5 h5 a6 h6 a7 h7 a8 h8 a9 h9 hc z kv gq gk ct)]
  unfold kernelRun0_A
  dsimp only
  sl_unfold_words
  rw [View.canon_cons_unit_zero (S := S1x128) Mlp.origin2, View.readCov_unit_zero (S := S1x128) _ Mlp.origin2]
  simp only [View.readAt_eq_ld, h1.read_unread, h2.read_unread, h3.read_unread, h4.read_unread, h5.read_unread, h7.read_unread, h8.read_unread, h9.read_unread,
    View.ld_unit_zero (S := S512x512) Mlp.origin2, View.ld_unit_zero (S := S256x1024) Mlp.origin2, View.ld_unit_zero (S := S1x128) Mlp.origin2, shapeCast_self]
  rfl

theorem outA8 (c : Dev nD) (i : grid0.Coords) (a1 : Memref sig .tc .vmem S512x512 .f32) (h1 : a1.IsWhole) (a2 : Memref sig .tc .vmem S256x1024 .f32) (h2 : a2.IsWhole) (a3 : Memref sig .tc .vmem S1x128 .f32) (h3 : a3.IsWhole) (a4 : Memref sig .tc .vmem S1x128 .f32) (h4 : a4.IsWhole) (a5 : Memref sig .tc .vmem S512x512 .bf16) (h5 : a5.IsWhole) (a6 : Memref sig .tc .vmem S512x512 .bf16) (h6 : a6.IsWhole) (a7 : Memref sig .tc .vmem S256x1024 .f32) (h7 : a7.IsWhole) (a8 : Memref sig .tc .vmem S1x128 .f32) (h8 : a8.IsWhole) (a9 : Memref sig .tc .vmem S1x128 .f32) (h9 : a9.IsWhole) (hc : cond0_0 i) :
    out0_A_8 c i a1 h1 a2 h2 a3 h3 a4 h4 a5 h5 a6 h6 a7 h7 a8 h8 a9 h9 hc z kv gq gk ct = k0_pay1 (F := Ideal) (w494 z kv gq gk ct) (k0_pay128 (F := Ideal)) := by
  unfold out0_A_8
  rw [View.read_writes_eq_canon _ _ _ (cover0_A_8 c i a1 h1 a2 h2 a3 h3 a4 h4 a5 h5 a6 h6 a7 h7 a8 h8 a9 h9 hc z kv gq gk ct)]
  unfold kernelRun0_A
  dsimp only
  sl_unfold_words
  rw [View.canon_cons_unit_zero (S := S1x128) Mlp.origin2, View.readCov_unit_zero (S := S1x128) _ Mlp.origin2]
  simp only [View.readAt_eq_ld, h1.read_unread, h2.read_unread, h3.read_unread, h4.read_unread, h5.read_unread, h7.read_unread, h8.read_unread, h9.read_unread,
    View.ld_unit_zero (S := S512x512) Mlp.origin2, View.ld_unit_zero (S := S256x1024) Mlp.origin2, View.ld_unit_zero (S := S1x128) Mlp.origin2, shapeCast_self]
  rfl

theorem outB5 (c : Dev nD) (i : grid0.Coords) (a1 : Memref sig .tc .vmem S512x512 .f32) (h1 : a1.IsWhole) (a2 : Memref sig .tc .vmem S256x1024 .f32) (h2 : a2.IsWhole) (a3 : Memref sig .tc .vmem S1x128 .f32) (h3 : a3.IsWhole) (a4 : Memref sig .tc .vmem S1x128 .f32) (h4 : a4.IsWhole) (a5 : Memref sig .tc .vmem S512x512 .bf16) (h5 : a5.IsWhole) (a6 : Memref sig .tc .vmem S512x512 .bf16) (h6 : a6.IsWhole) (a7 : Memref sig .tc .vmem S256x1024 .f32) (h7 : a7.IsWhole) (a8 : Memref sig .tc .vmem S1x128 .f32) (h8 : a8.IsWhole) (a9 : Memref sig .tc .vmem S1x128 .f32) (h9 : a9.IsWhole) (hc : ¬cond0_0 i) (x6 : Vec Ideal S256x1024 .f32) (x7 x8 : Vec Ideal S1x128 .f32) :
    out0_B_5 c i a1 h1 a2 h2 a3 h3 a4 h4 a5 h5 a6 h6 a7 h7 a8 h8 a9 h9 hc z kv gq gk ct x6 x7 x8 = w539 z kv gq gk ct := by
  unfold out0_B_5
  rw [View.read_writes_eq_canon _ _ _ (cover0_B_5 c i a1 h1 a2 h2 a3 h3 a4 h4 a5 h5 a6 h6 a7 h7 a8 h8 a9 h9 hc z kv gq gk ct x6 x7 x8)]
  unfold kernelRun0_B
  dsimp only
  sl_unfold_words
  rw [View.canon_unit_zero Mlp.origin2]
  simp only [View.readAt_eq_ld, h1.read_unread, h2.read_unread, h3.read_unread, h4.read_unread, h5.read_unread, h7.read_unread, h8.read_unread, h9.read_unread,
    View.ld_unit_zero (S := S512x512) Mlp.origin2, View.ld_unit_zero (S := S256x1024) Mlp.origin2, View.ld_unit_zero (S := S1x128) Mlp.origin2, shapeCast_self]
  rfl

theorem outB6 (c : Dev nD) (i : grid0.Coords) (a1 : Memref sig .tc .vmem S512x512 .f32) (h1 : a1.IsWhole) (a2 : Memref sig .tc .vmem S256x1024 .f32) (h2 : a2.IsWhole) (a3 : Memref sig .tc .vmem S1x128 .f32) (h3 : a3.IsWhole) (a4 : Memref sig .tc .vmem S1x128 .f32) (h4 : a4.IsWhole) (a5 : Memref sig .tc .vmem S512x512 .bf16) (h5 : a5.IsWhole) (a6 : Memref sig .tc .vmem S512x512 .bf16) (h6 : a6.IsWhole) (a7 : Memref sig .tc .vmem S256x1024 .f32) (h7 : a7.IsWhole) (a8 : Memref sig .tc .vmem S1x128 .f32) (h8 : a8.IsWhole) (a9 : Memref sig .tc .vmem S1x128 .f32) (h9 : a9.IsWhole) (hc : ¬cond0_0 i) (x6 : Vec Ideal S256x1024 .f32) (x7 x8 : Vec Ideal S1x128 .f32) :
    out0_B_6 c i a1 h1 a2 h2 a3 h3 a4 h4 a5 h5 a6 h6 a7 h7 a8 h8 a9 h9 hc z kv gq gk ct x6 x7 x8 = k0_pay129 (F := Ideal) (w514 z kv gq gk ct) x6 := by
  unfold out0_B_6
  rw [View.read_writes_eq_canon _ _ _ (cover0_B_6 c i a1 h1 a2 h2 a3 h3 a4 h4 a5 h5 a6 h6 a7 h7 a8 h8 a9 h9 hc z kv gq gk ct x6 x7 x8)]
  unfold kernelRun0_B
  dsimp only
  sl_unfold_words
  rw [View.canon_unit_zero Mlp.origin2]
  simp only [View.readAt_eq_ld, h1.read_unread, h2.read_unread, h3.read_unread, h4.read_unread, h5.read_unread, h7.read_unread, h8.read_unread, h9.read_unread,
    View.ld_unit_zero (S := S512x512) Mlp.origin2, View.ld_unit_zero (S := S256x1024) Mlp.origin2, View.ld_unit_zero (S := S1x128) Mlp.origin2, shapeCast_self]
  rfl

theorem outB7 (c : Dev nD) (i : grid0.Coords) (a1 : Memref sig .tc .vmem S512x512 .f32) (h1 : a1.IsWhole) (a2 : Memref sig .tc .vmem S256x1024 .f32) (h2 : a2.IsWhole) (a3 : Memref sig .tc .vmem S1x128 .f32) (h3 : a3.IsWhole) (a4 : Memref sig .tc .vmem S1x128 .f32) (h4 : a4.IsWhole) (a5 : Memref sig .tc .vmem S512x512 .bf16) (h5 : a5.IsWhole) (a6 : Memref sig .tc .vmem S512x512 .bf16) (h6 : a6.IsWhole) (a7 : Memref sig .tc .vmem S256x1024 .f32) (h7 : a7.IsWhole) (a8 : Memref sig .tc .vmem S1x128 .f32) (h8 : a8.IsWhole) (a9 : Memref sig .tc .vmem S1x128 .f32) (h9 : a9.IsWhole) (hc : ¬cond0_0 i) (x6 : Vec Ideal S256x1024 .f32) (x7 x8 : Vec Ideal S1x128 .f32) :
    out0_B_7 c i a1 h1 a2 h2 a3 h3 a4 h4 a5 h5 a6 h6 a7 h7 a8 h8 a9 h9 hc z kv gq gk ct x6 x7 x8 = k0_pay130 (F := Ideal) (w518 z kv gq gk ct) x7 := by
  unfold out0_B_7
  rw [View.read_writes_eq_canon _ _ _ (cover0_B_7 c i a1 h1 a2 h2 a3 h3 a4 h4 a5 h5 a6 h6 a7 h7 a8 h8 a9 h9 hc z kv gq gk ct x6 x7 x8)]
  unfold kernelRun0_B
  dsimp only
  sl_unfold_words
  rw [View.canon_unit_zero Mlp.origin2]
  simp only [View.readAt_eq_ld, h1.read_unread, h2.read_unread, h3.read_unread, h4.read_unread, h5.read_unread, h7.read_unread, h8.read_unread, h9.read_unread,
    View.ld_unit_zero (S := S512x512) Mlp.origin2, View.ld_unit_zero (S := S256x1024) Mlp.origin2, View.ld_unit_zero (S := S1x128) Mlp.origin2, shapeCast_self]
  rfl

theorem outB8 (c : Dev nD) (i : grid0.Coords) (a1 : Memref sig .tc .vmem S512x512 .f32) (h1 : a1.IsWhole) (a2 : Memref sig .tc .vmem S256x1024 .f32) (h2 : a2.IsWhole) (a3 : Memref sig .tc .vmem S1x128 .f32) (h3 : a3.IsWhole) (a4 : Memref sig .tc .vmem S1x128 .f32) (h4 : a4.IsWhole) (a5 : Memref sig .tc .vmem S512x512 .bf16) (h5 : a5.IsWhole) (a6 : Memref sig .tc .vmem S512x512 .bf16) (h6 : a6.IsWhole) (a7 : Memref sig .tc .vmem S256x1024 .f32) (h7 : a7.IsWhole) (a8 : Memref sig .tc .vmem S1x128 .f32) (h8 : a8.IsWhole) (a9 : Memref sig .tc .vmem S1x128 .f32) (h9 : a9.IsWhole) (hc : ¬cond0_0 i) (x6 : Vec Ideal S256x1024 .f32) (x7 x8 : Vec Ideal S1x128 .f32) :
    out0_B_8 c i a1 h1 a2 h2 a3 h3 a4 h4 a5 h5 a6 h6 a7 h7 a8 h8 a9 h9 hc z kv gq gk ct x6 x7 x8 = k0_pay1 (F := Ideal) (w494 z kv gq gk ct) x8 := by
  unfold out0_B_8
  rw [View.read_writes_eq_canon _ _ _ (cover0_B_8 c i a1 h1 a2 h2 a3 h3 a4 h4 a5 h5 a6 h6 a7 h7 a8 h8 a9 h9 hc z kv gq gk ct x6 x7 x8)]
  unfold kernelRun0_B
  dsimp only
  sl_unfold_words
  rw [View.canon_unit_zero Mlp.origin2]
  simp only [View.readAt_eq_ld, h1.read_unread, h2.read_unread, h3.read_unread, h4.read_unread, h5.read_unread, h7.read_unread, h8.read_unread, h9.read_unread,
    View.ld_unit_zero (S := S512x512) Mlp.origin2, View.ld_unit_zero (S := S256x1024) Mlp.origin2, View.ld_unit_zero (S := S1x128) Mlp.origin2, shapeCast_self]
  rfl

end Cert.Xa.XaBwd

end
-- ==== Proof.Xa.BwdReference.lean ====
/-
  THE BACKWARD REFERENCE, READ AT AN INDEX.

  The generated reading of each operation is chained into the row functions of a head.
-/
module

public import proofs.«01_k».proof.Proof.Gen.XaBwdRefIdeal.Read
public import proofs.«01_k».proof.Proof.Xa.Parts

@[expose] public section

noncomputable section

namespace Cert.Xa.XaBwd

open Cert.XaBwdRefIdeal Cert.XaBwdRefIdeal.Gen Cert.XaBwdRefIdeal.Read Idealize.ShloMosaic Idealize.SL.Sem

variable (q : Mlp.A2 8192 512) (kv : Mlp.A2 256 1024) (gq gk : Mlp.A2 1 128) (ct : Mlp.A2 8192 512)

theorem ref_q (r : Fin 8192) (h : Fin 4) (d : Fin 128) :
    val_main_v0 (F := Ideal) q (ix3 r h d) = qRow q h r d := by
  unfold val_main_v0
  pointwise
  exact congrArg (fun j => q (ix2 r j)) (Fin.ext (col_val h d).symm)

theorem ref_qms (r : Fin 8192) (h : Fin 4)  :
    val_main_v7 (F := Ideal) q (ix3 r h 0) = ms (qRow q h r) := by
  unfold val_main_v7 val_main_v6 val_main_v5 val_main_v4 val_main_v3 val_main_v2 val_main_v1 val_main_cst val_main_cst_0 val_main_cst_1 ms
  pointwise [ref_q q, div_128] <;> rfl

theorem ref_qrs (r : Fin 8192) (h : Fin 4)  :
    val_main_v8 (F := Ideal) q (ix3 r h 0) = Ideal.rsqrt (ms (qRow q h r)) := by
  unfold val_main_v8
  pointwise [ref_qms q] <;> rfl

theorem ref_qbend (r : Fin 8192) (h : Fin 4)  :
    val_main_v11 (F := Ideal) q (ix3 r h 0) = bend (qRow q h r) := by
  unfold val_main_v11 val_main_v10 val_main_v9 val_main_cst_2 bend
  pointwise [ref_qms q, ref_qrs q] <;> rfl

theorem ref_qunit (r : Fin 8192) (h : Fin 4) (d : Fin 128) :
    val_main_v13 (F := Ideal) q (ix3 r h d) = unit (qRow q h r) d := by
  unfold val_main_v13 val_main_v12 unit
  pointwise [ref_q q, ref_qrs q] <;> rfl

theorem ref_qn (r : Fin 8192) (h : Fin 4) (d : Fin 128) :
    val_main_v16 (F := Ideal) q gq (ix3 r h d) = normed (qRow q h r) (gRow gq) d := by
  unfold val_main_v16 val_main_v15 val_main_v14 normed
  pointwise [ref_qunit q] <;> rfl

theorem ref_k (t : Fin 256) (h : Fin 4) (d : Fin 128) :
    val_main_v18 (F := Ideal) kv (ix3 t h d) = kMem kv h t d := by
  unfold val_main_v18 val_main_v17
  pointwise
  exact congrArg (fun j => kv (ix2 t j)) (Fin.ext (kCol_val h d).symm)

theorem ref_kms (t : Fin 256) (h : Fin 4) :
    val_main_v25 (F := Ideal) kv (ix3 t h 0) = ms (kMem kv h t) := by
  unfold val_main_v25 val_main_v24 val_main_v23 val_main_v22 val_main_v21 val_main_v20 val_main_v19 val_main_cst_3 val_main_cst_4 val_main_cst_5 ms
  pointwise [ref_k kv, div_128] <;> rfl

theorem ref_krs (t : Fin 256) (h : Fin 4) :
    val_main_v26 (F := Ideal) kv (ix3 t h 0) = Ideal.rsqrt (ms (kMem kv h t)) := by
  unfold val_main_v26
  pointwise [ref_kms kv] <;> rfl

theorem ref_kbend (t : Fin 256) (h : Fin 4) :
    val_main_v29 (F := Ideal) kv (ix3 t h 0) = bend (kMem kv h t) := by
  unfold val_main_v29 val_main_v28 val_main_v27 val_main_cst_6 bend
  pointwise [ref_kms kv, ref_krs kv] <;> rfl

theorem ref_kunit (t : Fin 256) (h : Fin 4) (d : Fin 128) :
    val_main_v31 (F := Ideal) kv (ix3 t h d) = unit (kMem kv h t) d := by
  unfold val_main_v31 val_main_v30 unit
  pointwise [ref_k kv, ref_krs kv] <;> rfl

theorem ref_kn (t : Fin 256) (h : Fin 4) (d : Fin 128) :
    val_main_v34 (F := Ideal) kv gk (ix3 t h d) = normed (kMem kv h t) (gRow gk) d := by
  unfold val_main_v34 val_main_v33 val_main_v32 normed
  pointwise [ref_kunit kv] <;> rfl

theorem ref_v (t : Fin 256) (h : Fin 4) (d : Fin 128) :
    val_main_v36 (F := Ideal) kv (ix3 t h d) = vMem kv h t d := by
  unfold val_main_v36 val_main_v35
  pointwise
  exact congrArg (fun j => kv (ix2 t j)) (Fin.ext ((vCol_val h d).trans (Nat.add_assoc _ _ _)).symm)

theorem ref_score (h : Fin 4) (r : Fin 8192) (t : Fin 256) :
    val_main_v39 (F := Ideal) q kv gq gk (ix3 h r t) = score (qRow q h r) (kMem kv h) (gRow gq) (gRow gk) t := by
  unfold val_main_v39 val_main_v38 val_main_v37 val_main_cst_7 score
  pointwise [dot_S8192x4x128_S256x4x128_S4x8192x256_2_2_0_0_1_1, ref_qn q gq, ref_kn kv gk] <;> rfl

theorem ref_expo (h : Fin 4) (r : Fin 8192) (t : Fin 256) :
    val_main_v49 (F := Ideal) q kv gq gk (ix3 h r t) = expo (qRow q h r) (kMem kv h) (gRow gq) (gRow gk) t := by
  unfold val_main_v49 val_main_v48 val_main_v47 val_main_v46 val_main_v40 val_main_cst_8 expo top
  pointwise [ref_score q kv gq gk] <;> rfl

theorem ref_total (h : Fin 4) (r : Fin 8192) :
    val_main_v51 (F := Ideal) q kv gq gk (ix3 h r 0) = total (qRow q h r) (kMem kv h) (gRow gq) (gRow gk) := by
  unfold val_main_v51 val_main_v50 val_main_cst_10 total
  pointwise [ref_expo q kv gq gk] <;> rfl

theorem ref_weight (h : Fin 4) (r : Fin 8192) (t : Fin 256) :
    val_main_v53 (F := Ideal) q kv gq gk (ix3 h r t) = weight (qRow q h r) (kMem kv h) (gRow gq) (gRow gk) t := by
  unfold val_main_v53 val_main_v52 weight
  pointwise [ref_expo q kv gq gk, ref_total q kv gq gk] <;> rfl

theorem ref_inv (h : Fin 4) (r : Fin 8192) :
    val_main_v56 (F := Ideal) q kv gq gk (ix3 h r 0) = Ideal.div one (total (qRow q h r) (kMem kv h) (gRow gq) (gRow gk) * total (qRow q h r) (kMem kv h) (gRow gq) (gRow gk)) := by
  unfold val_main_v56 val_main_v55 val_main_v54 val_main_cst_11
  pointwise [ref_total q kv gq gk] <;> rfl

theorem ref_ct (r : Fin 8192) (h : Fin 4) (d : Fin 128) :
    val_main_v60 (F := Ideal) ct (ix3 r h d) = qRow ct h r d := by
  unfold val_main_v60
  pointwise
  exact congrArg (fun j => ct (ix2 r j)) (Fin.ext (col_val h d).symm)

theorem ref_dw (h : Fin 4) (r : Fin 8192) (t : Fin 256) :
    val_main_v62 (F := Ideal) kv ct (ix3 h r t) = dWeight (vMem kv h) (qRow ct h r) t := by
  unfold val_main_v62 val_main_v61 dWeight
  pointwise [dot_S4x128x8192_S256x4x128_S4x8192x256_1_2_2_0_0_1, ref_ct ct, ref_v kv] <;> rfl

theorem ref_dv (t : Fin 256) (h : Fin 4) (d : Fin 128) :
    val_main_v64 (F := Ideal) q kv gq gk ct (ix3 t h d) = dVAt q ct kv gq gk h t d := by
  unfold val_main_v64 val_main_v63 val_main_v61 dVAt dVPart
  pointwise [dot_S4x128x8192_S4x8192x256_S4x128x256_2_1_1_2_0_0, ref_ct ct, ref_weight q kv gq gk]
  exact Finset.sum_congr rfl fun r _ => mul_comm _ _

theorem ref_dtotal (h : Fin 4) (r : Fin 8192) :
    val_main_v73 (F := Ideal) q kv gq gk ct (ix2 h r) = dTotal (qRow q h r) (kMem kv h) (vMem kv h) (gRow gq) (gRow gk) (qRow ct h r) := by
  unfold val_main_v73 val_main_v70 val_main_v69 val_main_v68 val_main_v67 val_main_v66 val_main_v65 val_main_cst_12 val_main_cst_13 dTotal
  pointwise [ref_dw kv ct, ref_inv q kv gq gk, ref_expo q kv gq gk, Fin.sum_univ_one] <;> rfl

theorem ref_dscore (h : Fin 4) (r : Fin 8192) (t : Fin 256) :
    val_main_v78 (F := Ideal) q kv gq gk ct (ix3 h r t) = dScore (qRow q h r) (kMem kv h) (vMem kv h) (gRow gq) (gRow gk) (qRow ct h r) t := by
  unfold val_main_v78 val_main_v77 val_main_v76 val_main_v75 val_main_v74 val_main_v72 val_main_v71 val_main_cst_14 dScore
  pointwise [ref_dw kv ct, ref_total q kv gq gk, ref_dtotal q kv gq gk ct, ref_expo q kv gq gk] <;> rfl

theorem ref_dkn (t : Fin 256) (h : Fin 4) (d : Fin 128) :
    val_main_v80 (F := Ideal) q kv gq gk ct (ix3 t h d) = dKnAt q ct kv gq gk h t d := by
  unfold val_main_v80 val_main_v79 dKnAt dKnPart
  pointwise [dot_S4x8192x256_S8192x4x128_S4x256x128_1_0_2_2_0_1, ref_dscore q kv gq gk ct, ref_qn q gq] <;> rfl

theorem ref_dqn (r : Fin 8192) (h : Fin 4) (d : Fin 128) :
    val_main_v82 (F := Ideal) q kv gq gk ct (ix3 r h d) = dQn (qRow q h r) (kMem kv h) (vMem kv h) (gRow gq) (gRow gk) (qRow ct h r) d := by
  unfold val_main_v82 val_main_v81 dQn
  pointwise [dot_S4x8192x256_S256x4x128_S4x8192x128_2_0_1_2_0_1, ref_dscore q kv gq gk ct, ref_kn kv gk] <;> rfl

theorem ref_keg (t : Fin 256) (h : Fin 4) (d : Fin 128) :
    val_main_v89 (F := Ideal) q kv gq gk ct (ix3 t h d) = dKnAt q ct kv gq gk h t d * gRow gk d := by
  unfold val_main_v89 val_main_v88 val_main_v32
  pointwise [ref_dkn q kv gq gk ct] <;> rfl

theorem ref_kslope (t : Fin 256) (h : Fin 4) :
    val_main_v100 (F := Ideal) q kv gq gk ct (ix2 t h) = slope (kMem kv h t) (gRow gk) (dKnAt q ct kv gq gk h t) := by
  unfold val_main_v100 val_main_v99 val_main_v98 val_main_v97 val_main_v94 val_main_v93 val_main_v92 val_main_cst_18 val_main_cst_19 val_main_cst_20 slope
  pointwise [ref_k kv, ref_keg q kv gq gk ct, ref_kbend kv, div_128, Fin.sum_univ_one] <;> rfl

theorem ref_dk (t : Fin 256) (h : Fin 4) (d : Fin 128) :
    val_main_v105 (F := Ideal) q kv gq gk ct (ix3 t h d) = dKOf (kMem kv h) (gRow gk) (dKnAt q ct kv gq gk h) t d := by
  unfold val_main_v105 val_main_v104 val_main_v103 val_main_v102 val_main_v101 val_main_v96 val_main_v95 dKOf unnorm
  pointwise [ref_k kv, ref_keg q kv gq gk ct, ref_krs kv, ref_kslope q kv gq gk ct] <;> rfl

theorem ref_qeg (r : Fin 8192) (h : Fin 4) (d : Fin 128) :
    val_main_v113 (F := Ideal) q kv gq gk ct (ix3 r h d) = dQn (qRow q h r) (kMem kv h) (vMem kv h) (gRow gq) (gRow gk) (qRow ct h r) d * gRow gq d := by
  unfold val_main_v113 val_main_v112 val_main_v14
  pointwise [ref_dqn q kv gq gk ct] <;> rfl

theorem ref_qslope (r : Fin 8192) (h : Fin 4) :
    val_main_v124 (F := Ideal) q kv gq gk ct (ix2 r h) = slope (qRow q h r) (gRow gq) (dQn (qRow q h r) (kMem kv h) (vMem kv h) (gRow gq) (gRow gk) (qRow ct h r)) := by
  unfold val_main_v124 val_main_v123 val_main_v122 val_main_v121 val_main_v118 val_main_v117 val_main_v116 val_main_cst_24 val_main_cst_25 val_main_cst_26 slope
  pointwise [ref_q q, ref_qeg q kv gq gk ct, ref_qbend q, div_128, Fin.sum_univ_one] <;> rfl

theorem ref_dq (r : Fin 8192) (h : Fin 4) (d : Fin 128) :
    val_main_v129 (F := Ideal) q kv gq gk ct (ix3 r h d) = dQ (qRow q h r) (kMem kv h) (vMem kv h) (gRow gq) (gRow gk) (qRow ct h r) d := by
  unfold val_main_v129 val_main_v128 val_main_v127 val_main_v126 val_main_v125 val_main_v120 val_main_v119 dQ unnorm
  pointwise [ref_q q, ref_qeg q kv gq gk ct, ref_qrs q, ref_qslope q kv gq gk ct] <;> rfl

/-! ### The four results -/

/-- The host's sum over the first two of three axes. -/
theorem two_axes {a b e : Nat} (h : (⟨3, ![a, b, e]⟩ : Shape).ReducesTo [0, 1] ⟨1, ![e]⟩)
    (v : (⟨3, ![a, b, e]⟩ : Shape).Idx → EReal) (init : EReal) (d : Fin e) :
    Ideal.hostReduceAdd h v init (ix1 d) = init + ∑ r, ∑ k, v (ix3 r k d) := by
  unfold Ideal.hostReduceAdd
  congr 1
  refine (Finset.sum_filter_eq_sum_of_fiber _ (fun k : Fin a × Fin b => ix3 k.1 k.2 d)
    (fun _ _ w => Prod.ext (congrFun w 0) (congrFun w 1)) (fun i => ⟨fun w => ⟨(i 0, i 1), ?_⟩, ?_⟩) v).trans
      (by simp only [Fintype.sum_prod_type])
  · funext x
    apply Fin.ext
    match x with
    | ⟨0, _⟩ => rfl
    | ⟨1, _⟩ => rfl
    | ⟨2, _⟩ => exact (congrArg Fin.val (congrFun w 0)).symm
  · rintro ⟨k, rfl⟩
    funext x
    apply Fin.ext
    match x with
    | ⟨0, _⟩ => rfl

/-- The cotangent of the queries. -/
def dqArr : Mlp.A2 8192 512 := fun i =>
  byHead (fun h => dQ (qRow q h (i 0)) (kMem kv h) (vMem kv h) (gRow gq) (gRow gk) (qRow ct h (i 0))) (i 1)

/-- The cotangent of the keys and the values, side by side. -/
def dkvArr : Mlp.A2 256 1024 := fun i =>
  if h : (i 1).val < 512 then byHead (fun h => dKOf (kMem kv h) (gRow gk) (dKnAt q ct kv gq gk h) (i 0)) ⟨(i 1).val, h⟩
  else byHead (fun h => dVAt q ct kv gq gk h (i 0)) ⟨(i 1).val - 512, by have : (i 1).val < 1024 := (i 1).isLt; omega⟩

/-- The gradient of `gq`. -/
def dgqArr : Mlp.A2 1 128 := fun i =>
  gqAt q ct kv gq gk 3 (i 1) + gqAt q ct kv gq gk 2 (i 1) + gqAt q ct kv gq gk 1 (i 1) + gqAt q ct kv gq gk 0 (i 1)

/-- A head's part of the gradient of `gk`. -/
def gkHead (h : Fin 4) : Row := gkOf (kMem kv h) (dKnAt q ct kv gq gk h)

/-- The gradient of `gk`. -/
def dgkArr : Mlp.A2 1 128 := fun i =>
  gkHead q kv gq gk ct 3 (i 1) + gkHead q kv gq gk ct 2 (i 1) + gkHead q kv gq gk ct 1 (i 1) + gkHead q kv gq gk ct 0 (i 1)

theorem ref_dqArr : val_main_v131 (F := Ideal) q kv gq gk ct = dqArr q kv gq gk ct := by
  refine Mlp.ext2 _ _ fun r j => ?_
  unfold val_main_v131 val_main_v130 dqArr byHead
  pointwise
  exact ref_dq q kv gq gk ct r (headOf j) (place j)

theorem ref_dkvArr : val_main_v108 (F := Ideal) q kv gq gk ct = dkvArr q kv gq gk ct := by
  refine Mlp.ext2 _ _ fun t j => ?_
  unfold val_main_v108 val_main_v107 val_main_v106 val_main_v84 val_main_v83 val_main_cst_15 val_main_cst_21 dkvArr byHead
  pointwise
  by_cases c : j.val < 512
  · rw [dif_neg (by omega), dif_pos c, dif_pos c, zero_add]
    exact ref_dk q kv gq gk ct t _ _
  · rw [dif_pos (by omega), dif_neg c, dif_neg c, add_zero]
    exact ref_dv q kv gq gk ct t _ _

/-- A sum over rows and heads, head by head. -/
theorem four {n : Nat} (f : Fin n → Fin 4 → EReal) :
    ∑ r, ∑ h, f r h = ∑ r, f r 3 + ∑ r, f r 2 + ∑ r, f r 1 + ∑ r, f r 0 := by
  simp only [Fin.sum_univ_four, Finset.sum_add_distrib]
  ac_rfl

theorem ref_dgqArr : val_main_v115 (F := Ideal) q kv gq gk ct = dgqArr q kv gq gk ct := by
  refine Mlp.ext1 _ _ fun d => ?_
  unfold val_main_v115 val_main_v114 val_main_v111 val_main_v110 val_main_v109 val_main_cst_22 val_main_cst_23
  pointwise [two_axes, ref_qunit q, ref_dqn q kv gq gk ct, Fin.sum_univ_one]
  exact four _

theorem ref_dgkArr : val_main_v91 (F := Ideal) q kv gq gk ct = dgkArr q kv gq gk ct := by
  refine Mlp.ext1 _ _ fun d => ?_
  unfold val_main_v91 val_main_v90 val_main_v87 val_main_v86 val_main_v85 val_main_cst_16 val_main_cst_17
  pointwise [two_axes, ref_kunit kv, ref_dkn q kv gq gk ct, Fin.sum_univ_one]
  exact four _

end Cert.Xa.XaBwd

end
-- ==== Proof.Xa.Finite.lean ====
/-
  FINITE ARGUMENTS GIVE FINITE VALUES, AND ON FINITE VALUES THE NORM'S DERIVATIVE IS LINEAR.

  The kernel sends each block's cotangents of the normed keys through the norm and adds the results; automatic
  differentiation adds the cotangents first.  On real numbers the two agree; between infinities they do not.
-/
module

public import proofs.«01_k».proof.Proof.Xa.Parts

@[expose] public section

noncomputable section

namespace Cert.Xa

open Idealize.ShloMosaic

/-- A real number. -/
def Fini (x : EReal) : Prop := ∃ r : ℝ, x = r
/-- A positive real number. -/
def Posi (x : EReal) : Prop := ∃ r : ℝ, 0 < r ∧ x = r

theorem Posi.fini {x : EReal} (h : Posi x) : Fini x := let ⟨r, _, e⟩ := h; ⟨r, e⟩
theorem fini_zero : Fini 0 := ⟨0, rfl⟩
theorem Fini.add {x y : EReal} : Fini x → Fini y → Fini (x + y) := by
  rintro ⟨a, rfl⟩ ⟨b, rfl⟩; exact ⟨a + b, (EReal.coe_add a b).symm⟩
theorem Fini.mul {x y : EReal} : Fini x → Fini y → Fini (x * y) := by
  rintro ⟨a, rfl⟩ ⟨b, rfl⟩; exact ⟨a * b, (EReal.coe_mul a b).symm⟩
theorem Fini.neg {x : EReal} : Fini x → Fini (-x) := by
  rintro ⟨a, rfl⟩; exact ⟨-a, (EReal.coe_neg a).symm⟩
theorem Fini.sub {x y : EReal} : Fini x → Fini y → Fini (x - y) := by
  rintro ⟨a, rfl⟩ ⟨b, rfl⟩; exact ⟨a - b, (EReal.coe_sub a b).symm⟩
theorem Fini.max {x y : EReal} (hx : Fini x) (hy : Fini y) : Fini (max x y) := by
  rcases max_choice x y with h | h <;> rw [h] <;> assumption

/-- A sum of reals, in the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem Fini.sum {ι : Type} {s : Finset ι} {f : ι → EReal} (h : ∀ i, Fini (f i)) : Fini (∑ i ∈ s, f i) := by
  choose r hr using h
  exact ⟨∑ i ∈ s, r i, by rw [← coe_sum]; exact Finset.sum_congr rfl fun i _ => hr i⟩

theorem Fini.exp {x : EReal} : Fini x → Posi (Ideal.exp x) := by
  rintro ⟨a, rfl⟩; exact ⟨Real.exp a, Real.exp_pos a, Ideal.exp_coe a⟩
theorem Fini.div {x y : EReal} (hx : Fini x) (hy : Posi y) : Fini (Ideal.div x y) := by
  obtain ⟨b, hb, rfl⟩ := hy
  rw [Ideal.div_coe hb.ne']
  exact hx.mul ⟨_, rfl⟩
theorem Posi.mul {x y : EReal} : Posi x → Posi y → Posi (x * y) := by
  rintro ⟨a, ha, rfl⟩ ⟨b, hb, rfl⟩; exact ⟨a * b, mul_pos ha hb, (EReal.coe_mul a b).symm⟩
theorem Posi.rsqrt {x : EReal} : Posi x → Posi (Ideal.rsqrt x) := by
  rintro ⟨a, ha, rfl⟩
  refine ⟨(Real.sqrt a)⁻¹, inv_pos.mpr (Real.sqrt_pos.mpr ha), ?_⟩
  rw [Ideal.rsqrt_coe, if_neg (not_lt.mpr ha.le), if_neg ha.ne']

/-! ### The constants -/

theorem low_eq : low = ⊥ := by simp [low, Ideal.ofBits, Ideal.ieee]
theorem inv128_eq : inv128 = ((1 / 128 : ℝ) : EReal) := by
  simp [inv128, Ideal.ofBits, Ideal.ieee, -EReal.coe_mul]; norm_num
theorem fini_negHalf : Fini negHalf := ⟨-(1 / 2), by
  simp [negHalf, Ideal.ofBits, Ideal.ieee, -EReal.coe_mul]; norm_num⟩
theorem fini_scale : Fini scale := ⟨11863283 / 2 ^ 27, by
  simp [scale, Ideal.ofBits, Ideal.ieee, -EReal.coe_mul]; norm_num⟩
theorem fini_one : Fini one := ⟨1, by
  simp [one, Ideal.ofBits, Ideal.ieee, -EReal.coe_mul]; norm_num⟩
theorem eps_eq : eps = ((8796093 / 2 ^ 43 : ℝ) : EReal) := by
  simp [eps, Ideal.ofBits, Ideal.ieee, -EReal.coe_mul]; norm_num

/-! ### The norm -/

/-- Every entry of a row is a real number. -/
def FiniRow (x : Row) : Prop := ∀ d, Fini (x d)

theorem posi_ms {x : Row} (hx : FiniRow x) : Posi (ms x) := by
  choose r hr using hx
  refine ⟨(∑ d, r d * r d) * (1 / 128) + 8796093 / 2 ^ 43, ?_, ?_⟩
  · have := Finset.sum_nonneg (s := Finset.univ) fun d (_ : d ∈ Finset.univ) => mul_self_nonneg (r d)
    positivity
  · unfold ms
    rw [inv128_eq, eps_eq, EReal.coe_add, EReal.coe_mul, ← coe_sum]
    simp only [hr, EReal.coe_mul]

theorem fini_unit {x : Row} (hx : FiniRow x) : FiniRow (unit x) := fun d => (hx d).mul (posi_ms hx).rsqrt.fini
theorem fini_normed {x g : Row} (hx : FiniRow x) (hg : FiniRow g) : FiniRow (normed x g) := fun d => (fini_unit hx d).mul (hg d)
theorem fini_bend {x : Row} (hx : FiniRow x) : Fini (bend x) :=
  fini_negHalf.mul ((posi_ms hx).rsqrt.fini.div (posi_ms hx))

/-- The norm's derivative, on real numbers. -/
theorem unnorm_coe {x g e : Row} {xr gr er : Fin 128 → ℝ} {s b : ℝ} (hx : ∀ d, x d = xr d) (hg : ∀ d, g d = gr d)
    (he : ∀ d, e d = er d) (hs : Ideal.rsqrt (ms x) = s) (hb : bend x = b) (d : Fin 128) :
    unnorm x g e d = ((er d * gr d * s + xr d * ((∑ j, xr j * (er j * gr j)) * b * (1 / 128))
      + (∑ j, xr j * (er j * gr j)) * b * (1 / 128) * xr d : ℝ) : EReal) := by
  unfold unnorm slope
  rw [hs, hb, inv128_eq]
  simp only [hx, hg, he, EReal.coe_add, EReal.coe_mul, ← coe_sum]

/-- The norm's derivative of a sum of cotangents is the sum of the derivatives. -/
theorem unnorm_add {x g e e' : Row} (hx : FiniRow x) (hg : FiniRow g) (he : FiniRow e) (he' : FiniRow e') (d : Fin 128) :
    unnorm x g e d + unnorm x g e' d = unnorm x g (fun j => e j + e' j) d := by
  obtain ⟨s, hs⟩ := (posi_ms hx).rsqrt.fini
  obtain ⟨b, hb⟩ := fini_bend hx
  choose xr hxr using hx
  choose gr hgr using hg
  choose er her using he
  choose er' her' using he'
  have h3 : ∀ j, (fun j => e j + e' j) j = ((er j + er' j : ℝ) : EReal) := fun j => by
    show e j + e' j = _; rw [her, her', EReal.coe_add]
  rw [unnorm_coe hxr hgr her hs hb, unnorm_coe hxr hgr her' hs hb, unnorm_coe hxr hgr h3 hs hb, ← EReal.coe_add]
  congr 1
  have h4 : ∑ j, xr j * ((er j + er' j) * gr j) = ∑ j, xr j * (er j * gr j) + ∑ j, xr j * (er' j * gr j) := by
    rw [← Finset.sum_add_distrib]
    exact Finset.sum_congr rfl fun j _ => by ring
  rw [h4]
  ring

theorem unnorm_zero (x g : Row) (d : Fin 128) : unnorm x g (fun _ => 0) d = 0 := by
  unfold unnorm slope
  simp

/-- The scale's gradient of a sum of cotangents is the sum of the gradients. -/
theorem gkOf_add {k e e' : Mem} (hk : ∀ t, FiniRow (k t)) (he : ∀ t, FiniRow (e t)) (he' : ∀ t, FiniRow (e' t)) (d : Fin 128) :
    gkOf k e d + gkOf k e' d = gkOf k (fun t j => e t j + e' t j) d := by
  unfold gkOf
  rw [← Finset.sum_add_distrib]
  refine Finset.sum_congr rfl fun t _ => ?_
  obtain ⟨a, ha⟩ := fini_unit (hk t) d
  obtain ⟨b, hb⟩ := he t d
  obtain ⟨b', hb'⟩ := he' t d
  show _ = unit (k t) d * (e t d + e' t d)
  rw [ha, hb, hb', ← EReal.coe_add, ← EReal.coe_mul, ← EReal.coe_mul, ← EReal.coe_mul, ← EReal.coe_add, mul_add]

theorem gkOf_zero (k : Mem) (d : Fin 128) : gkOf k (fun _ _ => 0) d = 0 := by
  unfold gkOf
  simp

/-! ### The attention -/

theorem fini_fold {ι : Type} {s : Finset ι} (hs : s.Nonempty) {f : ι → EReal} (h : ∀ i, Fini (f i)) :
    Fini (s.fold max low f) := by
  rw [low_eq]
  induction hs using Finset.Nonempty.cons_induction with
  | singleton a => rw [Finset.fold_singleton, max_bot_right]; exact h a
  | cons a s ha hs ih => rw [Finset.fold_cons]; exact (h a).max ih

section
variable {q : Row} {k v : Mem} {gq gk c : Row} (hq : FiniRow q) (hk : ∀ t, FiniRow (k t)) (hv : ∀ t, FiniRow (v t))
  (hgq : FiniRow gq) (hgk : FiniRow gk) (hc : FiniRow c)
include hq hk hgq hgk

theorem fini_score (t : Fin 256) : Fini (score q k gq gk t) :=
  (Fini.sum fun d => (fini_normed hq hgq d).mul (fini_normed (hk t) hgk d)).mul fini_scale

theorem posi_expo (t : Fin 256) : Posi (expo q k gq gk t) :=
  ((fini_score hq hk hgq hgk t).sub (fini_fold Finset.univ_nonempty fun t => fini_score hq hk hgq hgk t)).exp

theorem posi_total : Posi (total q k gq gk) := by
  choose r hr he using posi_expo hq hk hgq hgk
  refine ⟨∑ t, r t, Finset.sum_pos (fun t _ => hr t) Finset.univ_nonempty, ?_⟩
  unfold total
  simp only [he, coe_sum]

include hv hc

omit hq hk hgq hgk in
theorem fini_dWeight (t : Fin 256) : Fini (dWeight v c t) := Fini.sum fun d => (hc d).mul (hv t d)

theorem fini_dTotal : Fini (dTotal q k v gq gk c) :=
  (Fini.sum fun t => ((fini_dWeight hv hc t).mul (fini_one.div
    ((posi_total hq hk hgq hgk).mul (posi_total hq hk hgq hgk)))).mul (posi_expo hq hk hgq hgk t).fini).neg

theorem fini_dScore (t : Fin 256) : Fini (dScore q k v gq gk c t) :=
  ((((fini_dWeight hv hc t).div (posi_total hq hk hgq hgk)).add (fini_dTotal hq hk hv hgq hgk hc)).mul
    (posi_expo hq hk hgq hgk t).fini).mul fini_scale

/-- A query row's part of the cotangent of a normed key is a real number. -/
theorem fini_dKnPart (t : Fin 256) (d : Fin 128) : Fini (dKnPart q k v gq gk c t d) :=
  (fini_dScore hq hk hv hgq hgk hc t).mul (fini_normed hq hgq d)

end

/-- Sums of tiles of real numbers are real numbers. -/
theorem fini_tiles {n : Nat} (T : Nat) {f : Fin n → EReal} (h : ∀ i, Fini (f i)) (s : Nat) : Fini (Mlp.tiles T f s) :=
  Fini.sum fun _ => Fini.sum fun _ => by
    unfold Mlp.ext
    split
    · exact h _
    · exact fini_zero

/-! ### Pieces side by side -/

theorem pl_add (a : Nat) (f g : Row) (j : Nat) : pl a f j + pl a g j = pl a (fun d => f d + g d) j := by
  unfold pl
  split
  · rfl
  · exact add_zero 0

theorem sides_add (K V K' V' : Fin 4 → Row) (j : Nat) :
    sides K V j + sides K' V' j = sides (fun h d => K h d + K' h d) (fun h d => V h d + V' h d) j := by
  unfold sides
  simp only [← pl_add]
  ac_rfl

theorem sides_zero (j : Nat) : sides (fun _ _ => 0) (fun _ _ => 0) j = 0 := by
  have z0 : ∀ a, pl a (fun _ => 0) j = 0 := fun a => by unfold pl; split <;> rfl
  unfold sides
  simp only [z0, add_zero]

end Cert.Xa

end
-- ==== Proof.Xa.Running.lean ====
/-
  THE SUMS OVER THE ROWS, BLOCK BY BLOCK.

  The kernel visits 16 blocks of 512 rows.  Here is what its three running sums hold after the first `s` blocks, and
  that adding the next block's part gives the sum after `s + 1`.  For the keys' cotangent and the gradient of `gk`
  that needs finite arguments, since a sum of derivatives is turned into the derivative of a sum.
-/
module

public import proofs.«01_k».proof.Proof.Xa.Finite

@[expose] public section

noncomputable section

namespace Cert.Xa

open Idealize.ShloMosaic

variable (z ct : Mlp.A2 8192 512) (kv : Mlp.A2 256 1024) (gq gk : Mlp.A2 1 128)

/-- Every argument's every entry is a real number. -/
structure Finites : Prop where
  z : ∀ i, Fini (z i)
  kv : ∀ i, Fini (kv i)
  gq : ∀ i, Fini (gq i)
  gk : ∀ i, Fini (gk i)
  ct : ∀ i, Fini (ct i)

/-- The cotangent of a head's normed keys, over the first `s` blocks. -/
def knSum (h : Fin 4) (s : Nat) : Mem := fun t d =>
  Mlp.tiles 512 (fun R : Fin 8192 => dKnPart (qRow z h R) (kMem kv h) (vMem kv h) (gRow gq) (gRow gk) (qRow ct h R) t d) s
/-- The cotangent of a head's values, over the first `s` blocks. -/
def vSum (h : Fin 4) (s : Nat) : Mem := fun t d =>
  Mlp.tiles 512 (fun R : Fin 8192 => dVPart (qRow z h R) (kMem kv h) (gRow gq) (gRow gk) (qRow ct h R) t d) s
/-- A head's part of the gradient of `gq`, over the first `s` blocks. -/
def gqSum (h : Fin 4) (s : Nat) : Row := fun d =>
  Mlp.tiles 512 (fun R : Fin 8192 => dGqPart (qRow z h R) (kMem kv h) (vMem kv h) (gRow gq) (gRow gk) (qRow ct h R) d) s

/-- The three running sums after `s` blocks. -/
def kvState (s : Nat) (t : Fin 256) (j : Nat) : EReal :=
  sides (fun h => dKOf (kMem kv h) (gRow gk) (knSum z ct kv gq gk h s) t) (fun h => vSum z ct kv gq gk h s t) j
def gqState (s : Nat) (d : Fin 128) : EReal :=
  gqSum z ct kv gq gk 3 s d + gqSum z ct kv gq gk 2 s d + gqSum z ct kv gq gk 1 s d + gqSum z ct kv gq gk 0 s d
def gkState (s : Nat) (d : Fin 128) : EReal :=
  gkOf (kMem kv 3) (knSum z ct kv gq gk 3 s) d + gkOf (kMem kv 2) (knSum z ct kv gq gk 2 s) d
    + gkOf (kMem kv 1) (knSum z ct kv gq gk 1 s) d + gkOf (kMem kv 0) (knSum z ct kv gq gk 0 s) d

/-! ### Before the first block, and after the last -/

theorem knSum_zero (h : Fin 4) : knSum z ct kv gq gk h 0 = fun _ _ => 0 :=
  funext fun _ => funext fun _ => Mlp.tiles_zero _ _
theorem knSum_all (h : Fin 4) : knSum z ct kv gq gk h 16 = dKnAt z ct kv gq gk h :=
  funext fun _ => funext fun _ => Mlp.tiles_all 16 512 _ rfl
theorem vSum_zero (h : Fin 4) : vSum z ct kv gq gk h 0 = fun _ _ => 0 :=
  funext fun _ => funext fun _ => Mlp.tiles_zero _ _
theorem vSum_all (h : Fin 4) : vSum z ct kv gq gk h 16 = dVAt z ct kv gq gk h :=
  funext fun _ => funext fun _ => Mlp.tiles_all 16 512 _ rfl
theorem gqSum_zero (h : Fin 4) : gqSum z ct kv gq gk h 0 = fun _ => 0 := funext fun _ => Mlp.tiles_zero _ _
theorem gqSum_all (h : Fin 4) : gqSum z ct kv gq gk h 16 = gqAt z ct kv gq gk h :=
  funext fun _ => Mlp.tiles_all 16 512 _ rfl

theorem kvState_zero (t : Fin 256) (j : Nat) : kvState z ct kv gq gk 0 t j = 0 := by
  unfold kvState dKOf
  simp only [knSum_zero, vSum_zero, unnorm_zero]
  exact sides_zero j
theorem gqState_zero (d : Fin 128) : gqState z ct kv gq gk 0 d = 0 := by
  unfold gqState
  simp only [gqSum_zero, add_zero]
theorem gkState_zero (d : Fin 128) : gkState z ct kv gq gk 0 d = 0 := by
  unfold gkState
  simp only [knSum_zero, gkOf_zero, add_zero]

/-! ### One more block -/

theorem swap4 (a b c d a' b' c' d' : EReal) :
    (a + b + c + d) + (a' + b' + c' + d') = (a + a') + (b + b') + (c + c') + (d + d') := by ac_rfl

/-- Row `r` of block `n`. -/
def rowAt {n : Nat} (hn : n < 16) (r : Fin 512) : Fin 8192 := ⟨n * 512 + r.val, by omega⟩

section Step
variable {zb cb : Mlp.A2 512 512} {n : Nat} (hn : n < 16)
  (hz : ∀ h (r : Fin 512), qRow zb h r = qRow z h (rowAt hn r))
  (hc : ∀ h (r : Fin 512), qRow cb h r = qRow ct h (rowAt hn r))
include hn hz hc

theorem knSum_step (h : Fin 4) (t : Fin 256) (d : Fin 128) :
    knSum z ct kv gq gk h n t d + dKnAt zb cb kv gq gk h t d = knSum z ct kv gq gk h (n + 1) t d :=
  Mlp.tiles_step 512 _ n _ _ rfl fun r => by
    rw [hz, hc, Mlp.ext_val _ (n * 512 + r.val) (rowAt hn r).isLt]; rfl
theorem vSum_step (h : Fin 4) (t : Fin 256) (d : Fin 128) :
    vSum z ct kv gq gk h n t d + dVAt zb cb kv gq gk h t d = vSum z ct kv gq gk h (n + 1) t d :=
  Mlp.tiles_step 512 _ n _ _ rfl fun r => by
    rw [hz, hc, Mlp.ext_val _ (n * 512 + r.val) (rowAt hn r).isLt]; rfl
theorem gqSum_step (h : Fin 4) (d : Fin 128) :
    gqSum z ct kv gq gk h n d + gqAt zb cb kv gq gk h d = gqSum z ct kv gq gk h (n + 1) d :=
  Mlp.tiles_step 512 _ n _ _ rfl fun r => by
    rw [hz, hc, Mlp.ext_val _ (n * 512 + r.val) (rowAt hn r).isLt]; rfl

theorem gqState_step (d : Fin 128) :
    gqState z ct kv gq gk n d
        + (gqAt zb cb kv gq gk 3 d + gqAt zb cb kv gq gk 2 d + gqAt zb cb kv gq gk 1 d + gqAt zb cb kv gq gk 0 d)
      = gqState z ct kv gq gk (n + 1) d := by
  unfold gqState
  rw [swap4]
  simp only [gqSum_step z ct kv gq gk hn hz hc]

variable {z ct kv gq gk} (hf : Finites z ct kv gq gk)
include hf

omit hn hz hc in
theorem fini_part (h : Fin 4) (R : Fin 8192) (t : Fin 256) (d : Fin 128) :
    Fini (dKnPart (qRow z h R) (kMem kv h) (vMem kv h) (gRow gq) (gRow gk) (qRow ct h R) t d) :=
  fini_dKnPart (fun _ => hf.z _) (fun _ _ => hf.kv _) (fun _ _ => hf.kv _) (fun _ => hf.gq _) (fun _ => hf.gk _)
    (fun _ => hf.ct _) t d

omit hn hz hc in
theorem fini_knSum (h : Fin 4) (s : Nat) (t : Fin 256) : FiniRow (knSum z ct kv gq gk h s t) :=
  fun d => fini_tiles 512 (fun R => fini_part hf h R t d) s

theorem fini_dKnAt (h : Fin 4) (t : Fin 256) : FiniRow (dKnAt zb cb kv gq gk h t) :=
  fun d => Fini.sum fun r => by rw [hz, hc]; exact fini_part hf h _ t d

theorem kvState_step (t : Fin 256) (j : Nat) :
    kvState z ct kv gq gk n t j
        + sides (fun h => dKOf (kMem kv h) (gRow gk) (dKnAt zb cb kv gq gk h) t) (fun h => dVAt zb cb kv gq gk h t) j
      = kvState z ct kv gq gk (n + 1) t j := by
  unfold kvState
  rw [sides_add]
  unfold dKOf
  simp only [vSum_step z ct kv gq gk hn hz hc,
    fun h d => unnorm_add (x := kMem kv h t) (g := gRow gk) (fun _ => hf.kv _) (fun _ => hf.gk _) (fini_knSum hf h n t)
      (fini_dKnAt hn hz hc hf h t) d,
    knSum_step z ct kv gq gk hn hz hc]

theorem gkState_step (d : Fin 128) :
    gkState z ct kv gq gk n d
        + (gkOf (kMem kv 3) (dKnAt zb cb kv gq gk 3) d + gkOf (kMem kv 2) (dKnAt zb cb kv gq gk 2) d
          + gkOf (kMem kv 1) (dKnAt zb cb kv gq gk 1) d + gkOf (kMem kv 0) (dKnAt zb cb kv gq gk 0) d)
      = gkState z ct kv gq gk (n + 1) d := by
  have e : ∀ h : Fin 4, gkOf (kMem kv h) (knSum z ct kv gq gk h n) d + gkOf (kMem kv h) (dKnAt zb cb kv gq gk h) d
      = gkOf (kMem kv h) (knSum z ct kv gq gk h (n + 1)) d := fun h => by
    rw [gkOf_add (k := kMem kv h) (fun _ _ => hf.kv _) (fini_knSum hf h n) (fini_dKnAt hn hz hc hf h)]
    simp only [knSum_step z ct kv gq gk hn hz hc]
  unfold gkState
  rw [swap4]
  simp only [e]

end Step

end Cert.Xa

end
-- ==== Proof.Xa.BwdArrays.lean ====
/-
  THE BACKWARD KERNEL'S RESULTS AS WHOLE ARRAYS.

  Grid point `t` reads rows `512 t … 512 t + 511` of the queries and of the cotangent and the whole of the other arguments.
  After it the running sums hold the sums over the first `t + 1` blocks.
-/
module

public import proofs.«01_k».proof.Proof.Gen.XaBwdIdeal.Value
public import proofs.«01_k».proof.Proof.Xa.BwdBlock
public import proofs.«01_k».proof.Proof.Xa.BwdStores
public import proofs.«01_k».proof.Proof.Xa.BwdReference
public import proofs.«01_k».proof.Proof.Xa.Running

@[expose] public section

noncomputable section

namespace Cert.Xa.XaBwd

open Cert.XaBwdIdeal Cert.XaBwdIdeal.Gen Idealize.ShloMosaic Idealize.ShloMosaic.TcCoe Idealize.SL.Sem
open Idealize.ShloMosaic.StableHlo

variable (m : (ℓ : Loc nD τ sig) → Buf (Elt Ideal) ℓ) (c : Dev nD)

/-- The arguments as launched: the queries, keys and values side by side, the two scales, the cotangent. -/
abbrev arg0 : Mlp.A2 8192 512 := m (c.tc.loc main_arg0)
abbrev arg1 : Mlp.A2 256 1024 := m (c.tc.loc main_arg1)
abbrev arg2 : Mlp.A2 1 128 := m (c.tc.loc main_arg2)
abbrev arg3 : Mlp.A2 1 128 := m (c.tc.loc main_arg3)
abbrev arg4 : Mlp.A2 8192 512 := m (c.tc.loc main_arg4)

/-- The cotangent as the host prepares it: a change of format only. -/
theorem entry_ct : (V m c main_v0 : Mlp.A2 8192 512) = arg4 m c := by
  have h : (V m c main_v0 : Mlp.A2 8192 512) = truncf (F := Ideal) (φ := .f32) .bf16 (arg4 m c) bitsLt_bf16_f32 := by
    show StableHlo.after hostOps0 _ main_v0 = _
    unfold hostOps0
    after_results
  rw [h]; funext i
  pointwise

/-- Row `r` of block `t`. -/
def rowIx (t : Fin cfg0.N) (r : Fin 512) : Fin 8192 :=
  ⟨t.val * 512 + r.val, by have hN : cfg0.N = 16 := N_0; omega⟩

/-- The grid point that handles row `R`. -/
def ptOf (R : Fin 8192) : Fin cfg0.N := ⟨R.val / 512, by have hN : cfg0.N = 16 := N_0; have := R.isLt; omega⟩

theorem idx_facts : ∀ t : Fin cfg0.N,
    (win0_0.index t 0 = t.val ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = t.val ∧ win0_4.index t 1 = 0)
    ∧ (win0_5.index t 0 = t.val ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0) :=
  (by decide +kernel : ∀ t : Fin grid0.N, _)

theorem blk_q (t : Fin cfg0.N) (r : Fin 512) (k : Fin 512) :
    (iblk m c 0 t : Mlp.A2 512 512) (ix2 r k) = arg0 m c (ix2 (rowIx t r) k) := by
  have hi := (idx_facts t).1
  unfold iblk
  rw [View.read_apply]
  show (V m c main_arg0 : Mlp.A2 8192 512) _ = _
  rw [V_main_arg0]
  show arg0 m c _ = _
  congr 1
  funext a
  apply Fin.ext
  match a with
  | ⟨0, _⟩ => show win0_0.index t 0 * 512 + 1 * r.val = t.val * 512 + r.val; rw [hi.1]; omega
  | ⟨1, _⟩ => show win0_0.index t 1 * 512 + 1 * k.val = k.val; rw [hi.2]; omega

theorem blk_kv (t : Fin cfg0.N) (r : Fin 256) (k : Fin 1024) :
    (iblk m c 1 t : Mlp.A2 256 1024) (ix2 r k) = arg1 m c (ix2 r k) := by
  have hi := (idx_facts t).2.1
  unfold iblk
  rw [View.read_apply]
  show (V m c main_arg1 : Mlp.A2 256 1024) _ = _
  rw [V_main_arg1]
  show arg1 m c _ = _
  congr 1
  funext a
  apply Fin.ext
  match a with
  | ⟨0, _⟩ => show win0_1.index t 0 * 256 + 1 * r.val = r.val; rw [hi.1]; omega
  | ⟨1, _⟩ => show win0_1.index t 1 * 1024 + 1 * k.val = k.val; rw [hi.2]; omega

theorem blk_gq (t : Fin cfg0.N) (k : Fin 128) :
    (iblk m c 2 t : Mlp.A2 1 128) (ix2 0 k) = arg2 m c (ix2 0 k) := by
  have hi := (idx_facts t).2.2.1
  unfold iblk
  rw [View.read_apply]
  show (V m c main_arg2 : Mlp.A2 1 128) _ = _
  rw [V_main_arg2]
  show arg2 m c _ = _
  congr 1
  funext a
  apply Fin.ext
  match a with
  | ⟨0, _⟩ => show win0_2.index t 0 * 1 + 1 * 0 = 0; rw [hi.1]
  | ⟨1, _⟩ => show win0_2.index t 1 * 128 + 1 * k.val = k.val; rw [hi.2]; omega

theorem blk_gk (t : Fin cfg0.N) (k : Fin 128) :
    (iblk m c 3 t : Mlp.A2 1 128) (ix2 0 k) = arg3 m c (ix2 0 k) := by
  have hi := (idx_facts t).2.2.2.1
  unfold iblk
  rw [View.read_apply]
  show (V m c main_arg3 : Mlp.A2 1 128) _ = _
  rw [V_main_arg3]
  show arg3 m c _ = _
  congr 1
  funext a
  apply Fin.ext
  match a with
  | ⟨0, _⟩ => show win0_3.index t 0 * 1 + 1 * 0 = 0; rw [hi.1]
  | ⟨1, _⟩ => show win0_3.index t 1 * 128 + 1 * k.val = k.val; rw [hi.2]; omega

theorem blk_ct (t : Fin cfg0.N) (r : Fin 512) (k : Fin 512) :
    (iblk m c 4 t : Mlp.A2 512 512) (ix2 r k) = arg4 m c (ix2 (rowIx t r) k) := by
  have hi := (idx_facts t).2.2.2.2.1
  rw [← entry_ct]
  unfold iblk
  rw [View.read_apply]
  show (V m c main_v0 : Mlp.A2 8192 512) _ = _
  congr 1
  funext a
  apply Fin.ext
  match a with
  | ⟨0, _⟩ => show win0_4.index t 0 * 512 + 1 * r.val = t.val * 512 + r.val; rw [hi.1]; omega
  | ⟨1, _⟩ => show win0_4.index t 1 * 512 + 1 * k.val = k.val; rw [hi.2]; omega

theorem whole_kv (t : Fin cfg0.N) : (iblk m c 1 t : Mlp.A2 256 1024) = arg1 m c := Mlp.ext2 _ _ (blk_kv m c t)
theorem whole_gq (t : Fin cfg0.N) : (iblk m c 2 t : Mlp.A2 1 128) = arg2 m c := Mlp.ext1 _ _ (blk_gq m c t)
theorem whole_gk (t : Fin cfg0.N) : (iblk m c 3 t : Mlp.A2 1 128) = arg3 m c := Mlp.ext1 _ _ (blk_gk m c t)
theorem row_q (t : Fin cfg0.N) (h : Fin 4) (r : Fin 512) :
    qRow (iblk m c 0 t : Mlp.A2 512 512) h r = qRow (arg0 m c) h (rowIx t r) := funext fun d => blk_q m c t r (col h d)
theorem row_ct (t : Fin cfg0.N) (h : Fin 4) (r : Fin 512) :
    qRow (iblk m c 4 t : Mlp.A2 512 512) h r = qRow (arg4 m c) h (rowIx t r) := funext fun d => blk_ct m c t r (col h d)

/-- A grid point's values, of the blocks it reads. -/
abbrev ptDq (t : Fin cfg0.N) : Mlp.A2 512 512 := w539 (iblk m c 0 t) (iblk m c 1 t) (iblk m c 2 t) (iblk m c 3 t) (iblk m c 4 t)
abbrev ptDkv (t : Fin cfg0.N) : Mlp.A2 256 1024 := w514 (iblk m c 0 t) (iblk m c 1 t) (iblk m c 2 t) (iblk m c 3 t) (iblk m c 4 t)
abbrev ptDgq (t : Fin cfg0.N) : Mlp.A2 1 128 := w518 (iblk m c 0 t) (iblk m c 1 t) (iblk m c 2 t) (iblk m c 3 t) (iblk m c 4 t)
abbrev ptDgk (t : Fin cfg0.N) : Mlp.A2 1 128 := w494 (iblk m c 0 t) (iblk m c 1 t) (iblk m c 2 t) (iblk m c 3 t) (iblk m c 4 t)

theorem lt16 (t : Fin cfg0.N) : t.val < 16 := by have := t.isLt; have hN : cfg0.N = 16 := N_0; omega

/-- The last grid point. -/
def tLast : Fin cfg0.N := ⟨15, by have hN : cfg0.N = 16 := N_0; omega⟩

/-! ### The queries' cotangent -/

theorem out_dq (t : Fin cfg0.N) : (outsAt0 m c t.val t.isLt).1 = ptDq m c t := by
  by_cases h : t.val % 16 = 0
  · rw [outsAt0_A m c t h]; dsimp only; exact outA5 ..
  · rw [outsAt0_B m c t h]; dsimp only; exact outB5 ..

/-! ### One more block in the running sums -/

theorem step_dgq (t : Fin cfg0.N) (a : Mlp.A2 1 128) (d : Fin 128)
    (ha : a (ix2 0 d) = gqState (arg0 m c) (arg4 m c) (arg1 m c) (arg2 m c) (arg3 m c) t.val d) :
    k0_pay130 (F := Ideal) (ptDgq m c t) a (ix2 0 d)
      = gqState (arg0 m c) (arg4 m c) (arg1 m c) (arg2 m c) (arg3 m c) (t.val + 1) d := by
  unfold ptDgq
  rw [add_dgq, ha, w518_at, whole_kv, whole_gq, whole_gk]
  exact gqState_step _ _ _ _ _ (lt16 t) (row_q m c t) (row_ct m c t) d

variable (hf : Finites (arg0 m c) (arg4 m c) (arg1 m c) (arg2 m c) (arg3 m c))
include hf

theorem step_dkv (t : Fin cfg0.N) (a : Mlp.A2 256 1024) (i : Fin 256) (j : Fin 1024)
    (ha : a (ix2 i j) = kvState (arg0 m c) (arg4 m c) (arg1 m c) (arg2 m c) (arg3 m c) t.val i j.val) :
    k0_pay129 (F := Ideal) (ptDkv m c t) a (ix2 i j)
      = kvState (arg0 m c) (arg4 m c) (arg1 m c) (arg2 m c) (arg3 m c) (t.val + 1) i j.val := by
  unfold ptDkv
  rw [add_dkv, ha, block_dkv, whole_kv, whole_gq, whole_gk]
  exact kvState_step (lt16 t) (row_q m c t) (row_ct m c t) hf i j.val

theorem step_dgk (t : Fin cfg0.N) (a : Mlp.A2 1 128) (d : Fin 128)
    (ha : a (ix2 0 d) = gkState (arg0 m c) (arg4 m c) (arg1 m c) (arg2 m c) (arg3 m c) t.val d) :
    k0_pay1 (F := Ideal) (ptDgk m c t) a (ix2 0 d)
      = gkState (arg0 m c) (arg4 m c) (arg1 m c) (arg2 m c) (arg3 m c) (t.val + 1) d := by
  unfold ptDgk
  rw [add_dgk, ha, w494_at, whole_kv, whole_gq, whole_gk]
  exact gkState_step (lt16 t) (row_q m c t) (row_ct m c t) hf d

/-! ### The running sums after each grid point -/

theorem out_sums : ∀ (n : ℕ) (hn : n < cfg0.N),
    (∀ (i : Fin 256) (j : Fin 1024), ((outsAt0 m c n hn).2.1 : Mlp.A2 256 1024) (ix2 i j)
      = kvState (arg0 m c) (arg4 m c) (arg1 m c) (arg2 m c) (arg3 m c) (n + 1) i j.val)
    ∧ (∀ d : Fin 128, ((outsAt0 m c n hn).2.2.1 : Mlp.A2 1 128) (ix2 0 d)
      = gqState (arg0 m c) (arg4 m c) (arg1 m c) (arg2 m c) (arg3 m c) (n + 1) d)
    ∧ (∀ d : Fin 128, ((outsAt0 m c n hn).2.2.2 : Mlp.A2 1 128) (ix2 0 d)
      = gkState (arg0 m c) (arg4 m c) (arg1 m c) (arg2 m c) (arg3 m c) (n + 1) d)
  | 0, hn => by
    have h : (⟨0, hn⟩ : Fin cfg0.N).val % 16 = 0 := rfl
    have e := outsAt0_A m c ⟨0, hn⟩ h
    dsimp only at e
    rw [e]
    dsimp only
    refine ⟨fun i j => ?_, fun d => ?_, fun d => ?_⟩
    · rw [outA6]; exact step_dkv m c hf ⟨0, hn⟩ _ i j (by rw [reset_dkv]; exact (kvState_zero ..).symm)
    · rw [outA7]; exact step_dgq m c ⟨0, hn⟩ _ d (by rw [reset_dgq]; exact (gqState_zero ..).symm)
    · rw [outA8]; exact step_dgk m c hf ⟨0, hn⟩ _ d (by rw [reset_dgk]; exact (gkState_zero ..).symm)
  | n + 1, hn => by
    have hN : cfg0.N = 16 := N_0
    have h : ¬ (⟨n + 1, hn⟩ : Fin cfg0.N).val % 16 = 0 := by dsimp only; omega
    have e := outsAt0_B m c ⟨n + 1, hn⟩ h
    dsimp only at e
    have ih := out_sums n (by omega)
    rw [e]
    dsimp only
    refine ⟨fun i j => ?_, fun d => ?_, fun d => ?_⟩
    · rw [outB6]; exact step_dkv m c hf ⟨n + 1, hn⟩ _ i j (ih.1 i j)
    · rw [outB7]; exact step_dgq m c ⟨n + 1, hn⟩ _ d (ih.2.1 d)
    · rw [outB8]; exact step_dgk m c hf ⟨n + 1, hn⟩ _ d (ih.2.2 d)

omit hf

/-! ### Where an output block lies in its array -/

theorem read5 (t : Fin cfg0.N) (G : Mlp.A2 8192 512) (r : Fin 512) (k : Fin 512) :
    (((cfg0.win 5).blk t).view.read (Elt Ideal) G : Mlp.A2 512 512) (ix2 r k) = G (ix2 (rowIx t r) k) := by
  have hi := (idx_facts t).2.2.2.2.2.1
  rw [View.read_apply]
  show G _ = _
  congr 1
  funext a
  apply Fin.ext
  match a with
  | ⟨0, _⟩ => show win0_5.index t 0 * 512 + 1 * r.val = t.val * 512 + r.val; rw [hi.1]; omega
  | ⟨1, _⟩ => show win0_5.index t 1 * 512 + 1 * k.val = k.val; rw [hi.2]; omega

theorem read6 (t : Fin cfg0.N) (G : Mlp.A2 256 1024) (r : Fin 256) (k : Fin 1024) :
    (((cfg0.win 6).blk t).view.read (Elt Ideal) G : Mlp.A2 256 1024) (ix2 r k) = G (ix2 r k) := by
  have hi := (idx_facts t).2.2.2.2.2.2.1
  rw [View.read_apply]
  show G _ = _
  congr 1
  funext a
  apply Fin.ext
  match a with
  | ⟨0, _⟩ => show win0_6.index t 0 * 256 + 1 * r.val = r.val; rw [hi.1]; omega
  | ⟨1, _⟩ => show win0_6.index t 1 * 1024 + 1 * k.val = k.val; rw [hi.2]; omega

theorem read7 (t : Fin cfg0.N) (G : Mlp.A2 1 128) (k : Fin 128) :
    (((cfg0.win 7).blk t).view.read (Elt Ideal) G : Mlp.A2 1 128) (ix2 0 k) = G (ix2 0 k) := by
  have hi := (idx_facts t).2.2.2.2.2.2.2.1
  rw [View.read_apply]
  show G _ = _
  congr 1
  funext a
  apply Fin.ext
  match a with
  | ⟨0, _⟩ => show win0_7.index t 0 * 1 + 1 * 0 = 0; rw [hi.1]
  | ⟨1, _⟩ => show win0_7.index t 1 * 128 + 1 * k.val = k.val; rw [hi.2]; omega

theorem read8 (t : Fin cfg0.N) (G : Mlp.A2 1 128) (k : Fin 128) :
    (((cfg0.win 8).blk t).view.read (Elt Ideal) G : Mlp.A2 1 128) (ix2 0 k) = G (ix2 0 k) := by
  have hi := (idx_facts t).2.2.2.2.2.2.2.2
  rw [View.read_apply]
  show G _ = _
  congr 1
  funext a
  apply Fin.ext
  match a with
  | ⟨0, _⟩ => show win0_8.index t 0 * 1 + 1 * 0 = 0; rw [hi.1]
  | ⟨1, _⟩ => show win0_8.index t 1 * 128 + 1 * k.val = k.val; rw [hi.2]; omega

/-! ### The final arrays -/

theorem final_dqArr : (dats m 0 c).arrAt 5 cfg0.N = dqArr (arg0 m c) (arg1 m c) (arg2 m c) (arg3 m c) (arg4 m c) := by
  refine (dats m 0 c).arrAt_eq_of_cover 5 (dqArr (arg0 m c) (arg1 m c) (arg2 m c) (arg3 m c) (arg4 m c)) ?_ ?_
  · intro t _
    rw [Value.flushed5, out_dq]
    refine Mlp.ext2 (a := 512) (b := 512) _ _ fun r k => ?_
    refine Eq.trans ?_ (read5 t (dqArr (arg0 m c) (arg1 m c) (arg2 m c) (arg3 m c) (arg4 m c)) r k).symm
    show ptDq m c t (ix2 r k) = _
    unfold ptDq
    rw [block_dq, whole_kv, whole_gq, whole_gk]
    simp only [row_q, row_ct]
    rfl
  · intro i
    have h0 : (i 0 : Nat) < 8192 := (i 0).isLt
    have h1 : (i 1 : Nat) < 512 := (i 1).isLt
    refine ⟨ptOf (i 0), flush0_5 _, ?_⟩
    have hi := (idx_facts (ptOf (i 0))).2.2.2.2.2.1
    show i ∈ ((View.whole main_v1_0).slice (win0_5.rect (ptOf (i 0)))).set
    rw [View.set_slice_whole, Rect.mem_set_unit]
    intro a
    match a with
    | ⟨0, _⟩ => show win0_5.index (ptOf (i 0)) 0 * 512 ≤ (i 0 : Nat) ∧ (i 0 : Nat) < win0_5.index (ptOf (i 0)) 0 * 512 + 512; rw [hi.1]; show (i 0).val / 512 * 512 ≤ _ ∧ _ < (i 0).val / 512 * 512 + 512; omega
    | ⟨1, _⟩ => show win0_5.index (ptOf (i 0)) 1 * 512 ≤ (i 1 : Nat) ∧ (i 1 : Nat) < win0_5.index (ptOf (i 0)) 1 * 512 + 512; rw [hi.2]; omega

include hf

theorem final_dkvArr : (dats m 0 c).arrAt 6 cfg0.N = dkvArr (arg0 m c) (arg1 m c) (arg2 m c) (arg3 m c) (arg4 m c) := by
  refine (dats m 0 c).arrAt_eq_of_cover 6 (dkvArr (arg0 m c) (arg1 m c) (arg2 m c) (arg3 m c) (arg4 m c)) ?_ ?_
  · intro t ht
    have h15 : t.val = 15 := by
      have := (flush0_6 t).mp ht; have := lt16 t; omega
    rw [Value.flushed6]
    refine Mlp.ext2 (a := 256) (b := 1024) _ _ fun i j => ((out_sums m c hf t.val t.isLt).1 i j).trans ?_
    refine Eq.trans ?_ (read6 t (dkvArr (arg0 m c) (arg1 m c) (arg2 m c) (arg3 m c) (arg4 m c)) i j).symm
    rw [h15, show 15 + 1 = 16 from rfl]
    unfold kvState; rw [sides_eq]; simp only [knSum_all, vSum_all]; rfl
  · intro i
    have h0 : (i 0 : Nat) < 256 := (i 0).isLt
    have h1 : (i 1 : Nat) < 1024 := (i 1).isLt
    refine ⟨tLast, (flush0_6 tLast).mpr rfl, ?_⟩
    have hi := (idx_facts tLast).2.2.2.2.2.2.1
    show i ∈ ((View.whole main_v1_1).slice (win0_6.rect tLast)).set
    rw [View.set_slice_whole, Rect.mem_set_unit]
    intro a
    match a with
    | ⟨0, _⟩ => show win0_6.index tLast 0 * 256 ≤ (i 0 : Nat) ∧ (i 0 : Nat) < win0_6.index tLast 0 * 256 + 256; rw [hi.1]; omega
    | ⟨1, _⟩ => show win0_6.index tLast 1 * 1024 ≤ (i 1 : Nat) ∧ (i 1 : Nat) < win0_6.index tLast 1 * 1024 + 1024; rw [hi.2]; omega

theorem final_dgqArr : (dats m 0 c).arrAt 7 cfg0.N = dgqArr (arg0 m c) (arg1 m c) (arg2 m c) (arg3 m c) (arg4 m c) := by
  refine (dats m 0 c).arrAt_eq_of_cover 7 (dgqArr (arg0 m c) (arg1 m c) (arg2 m c) (arg3 m c) (arg4 m c)) ?_ ?_
  · intro t ht
    have h15 : t.val = 15 := by
      have := (flush0_7 t).mp ht; have := lt16 t; omega
    rw [Value.flushed7]
    refine Mlp.ext1 (b := 128) _ _ fun d => ((out_sums m c hf t.val t.isLt).2.1 d).trans ?_
    refine Eq.trans ?_ (read7 t (dgqArr (arg0 m c) (arg1 m c) (arg2 m c) (arg3 m c) (arg4 m c)) d).symm
    rw [h15, show 15 + 1 = 16 from rfl]
    unfold gqState; simp only [gqSum_all]; rfl
  · intro i
    have h0 : (i 0 : Nat) < 1 := (i 0).isLt
    have h1 : (i 1 : Nat) < 128 := (i 1).isLt
    refine ⟨tLast, (flush0_7 tLast).mpr rfl, ?_⟩
    have hi := (idx_facts tLast).2.2.2.2.2.2.2.1
    show i ∈ ((View.whole main_v1_2).slice (win0_7.rect tLast)).set
    rw [View.set_slice_whole, Rect.mem_set_unit]
    intro a
    match a with
    | ⟨0, _⟩ => show win0_7.index tLast 0 * 1 ≤ (i 0 : Nat) ∧ (i 0 : Nat) < win0_7.index tLast 0 * 1 + 1; rw [hi.1]; omega
    | ⟨1, _⟩ => show win0_7.index tLast 1 * 128 ≤ (i 1 : Nat) ∧ (i 1 : Nat) < win0_7.index tLast 1 * 128 + 128; rw [hi.2]; omega

theorem final_dgkArr : (dats m 0 c).arrAt 8 cfg0.N = dgkArr (arg0 m c) (arg1 m c) (arg2 m c) (arg3 m c) (arg4 m c) := by
  refine (dats m 0 c).arrAt_eq_of_cover 8 (dgkArr (arg0 m c) (arg1 m c) (arg2 m c) (arg3 m c) (arg4 m c)) ?_ ?_
  · intro t ht
    have h15 : t.val = 15 := by
      have := (flush0_8 t).mp ht; have := lt16 t; omega
    rw [Value.flushed8]
    refine Mlp.ext1 (b := 128) _ _ fun d => ((out_sums m c hf t.val t.isLt).2.2 d).trans ?_
    refine Eq.trans ?_ (read8 t (dgkArr (arg0 m c) (arg1 m c) (arg2 m c) (arg3 m c) (arg4 m c)) d).symm
    rw [h15, show 15 + 1 = 16 from rfl]
    unfold gkState; simp only [knSum_all]; rfl
  · intro i
    have h0 : (i 0 : Nat) < 1 := (i 0).isLt
    have h1 : (i 1 : Nat) < 128 := (i 1).isLt
    refine ⟨tLast, (flush0_8 tLast).mpr rfl, ?_⟩
    have hi := (idx_facts tLast).2.2.2.2.2.2.2.2
    show i ∈ ((View.whole main_v1_3).slice (win0_8.rect tLast)).set
    rw [View.set_slice_whole, Rect.mem_set_unit]
    intro a
    match a with
    | ⟨0, _⟩ => show win0_8.index tLast 0 * 1 ≤ (i 0 : Nat) ∧ (i 0 : Nat) < win0_8.index tLast 0 * 1 + 1; rw [hi.1]; omega
    | ⟨1, _⟩ => show win0_8.index tLast 1 * 128 ≤ (i 1 : Nat) ∧ (i 1 : Nat) < win0_8.index tLast 1 * 128 + 128; rw [hi.2]; omega

end Cert.Xa.XaBwd

end
-- ==== Proof.Xa.XaBwdClaims.lean ====
/-
  THE CROSS-ATTENTION'S GRADIENT: THE KERNEL'S RUN AND THE REFERENCE'S RUN, AT THE SAME ARRAYS.
-/
module

public import proofs.«01_k».proof.Proof.Xa.BwdArrays
public import proofs.«01_k».proof.Proof.Gen.XaBwdRefIdeal.Run
public import proofs.«01_k».proof.Proof.Gen.Pre_finite

@[expose] public section

noncomputable section

namespace Cert.Xa.XaBwd

open Idealize.ShloMosaic Idealize.SL.Sem

section Finite
open Cert.XaBwdIdeal

/-- A value whose magnitude is below infinity is a real number. -/
theorem fini_of_lt {x : EReal} (h : Ideal.cmp .olt (max x (-x)) (Ideal.ofBits .f32 0x7F800000#32) = 1#1) : Fini x := by
  have top : Ideal.ofBits .f32 0x7F800000#32 = ⊤ := by simp [Ideal.ofBits, Ideal.ieee]
  rw [top] at h
  have lt : max x (-x) < ⊤ := by
    by_contra c
    simp [Ideal.cmp, c] at h
  have h1 := (max_lt_iff.mp lt).1
  have h2 := (max_lt_iff.mp lt).2
  induction x using EReal.rec with
  | bot => simp at h2
  | coe r => exact ⟨r, rfl⟩
  | top => simp at h1

attribute [local instance] Cert.Pre_finite.Gen.facts

/-- The stated condition says that every entry is a real number. -/
theorem finites_of (q ct : Mlp.A2 8192 512) (kv : Mlp.A2 256 1024) (gq gk : Mlp.A2 1 128)
    (h : (Cert.Pre_finite.fn (F := Ideal) q kv gq gk ct).1 = (fun _ => 1#1)
      ∧ (Cert.Pre_finite.fn (F := Ideal) q kv gq gk ct).2.1 = (fun _ => 1#1)
      ∧ (Cert.Pre_finite.fn (F := Ideal) q kv gq gk ct).2.2.1 = (fun _ => 1#1)
      ∧ (Cert.Pre_finite.fn (F := Ideal) q kv gq gk ct).2.2.2.1 = (fun _ => 1#1)
      ∧ (Cert.Pre_finite.fn (F := Ideal) q kv gq gk ct).2.2.2.2 = (fun _ => 1#1)) :
    Finites q ct kv gq gk :=
  ⟨fun i => fini_of_lt (congrFun h.1 i), fun i => fini_of_lt (congrFun h.2.1 i), fun i => fini_of_lt (congrFun h.2.2.1 i),
    fun i => fini_of_lt (congrFun h.2.2.2.1 i), fun i => fini_of_lt (congrFun h.2.2.2.2 i)⟩

end Finite

section Kernel
open Cert.XaBwdIdeal Cert.XaBwdIdeal.Gen

/-- The kernel's run on finite arguments: its results as functions of the arguments, the arguments unchanged. -/
theorem kernel_run (m : (ℓ : Loc nD τ sig) → Buf (Elt Ideal) ℓ) (ρ : Dev nD → PrngReg)
    (hf : ∀ c : Dev nD, Finites (arg0 m c) (arg4 m c) (arg1 m c) (arg2 m c) (arg3 m c)) :
    θ_run defs (onTc main) ⟨m, fun _ => 0, ρ⟩ fun r => ∀ c,
      r.2.mem (c.tc.loc main_v1_0) = dqArr (arg0 m c) (arg1 m c) (arg2 m c) (arg3 m c) (arg4 m c)
      ∧ r.2.mem (c.tc.loc main_v1_1) = dkvArr (arg0 m c) (arg1 m c) (arg2 m c) (arg3 m c) (arg4 m c)
      ∧ r.2.mem (c.tc.loc main_v1_2) = dgqArr (arg0 m c) (arg1 m c) (arg2 m c) (arg3 m c) (arg4 m c)
      ∧ r.2.mem (c.tc.loc main_v1_3) = dgkArr (arg0 m c) (arg1 m c) (arg2 m c) (arg3 m c) (arg4 m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) :=
  (θ_run defs _ _).mono (fun r h c => ⟨(h c).1.trans (final_dqArr m c), (h c).2.1.trans (final_dkvArr m c (hf c)), (h c).2.2.1.trans (final_dgqArr m c (hf c)), (h c).2.2.2.1.trans (final_dgkArr m c (hf c)), (h c).2.2.2.2⟩) (Value.run_blocks m ρ)

end Kernel

section Reference
open Cert.XaBwdRefIdeal Cert.XaBwdRefIdeal.Gen

/-- The reference's run, at the same functions. -/
theorem reference_run (m : (ℓ : Loc nD τ sig) → Buf (Elt Ideal) ℓ) (ρ : Dev nD → PrngReg)
    (p0 : Dev nD → Mlp.A2 8192 512) (p1 : Dev nD → Mlp.A2 256 1024) (p2 : Dev nD → Mlp.A2 1 128) (p3 : Dev nD → Mlp.A2 1 128) (p4 : Dev nD → Mlp.A2 8192 512)
    (hm : ∀ c, m (c.tc.loc main_arg0) = p0 c
      ∧ m (c.tc.loc main_arg1) = p1 c
      ∧ m (c.tc.loc main_arg2) = p2 c
      ∧ m (c.tc.loc main_arg3) = p3 c
      ∧ m (c.tc.loc main_arg4) = p4 c) :
    θ_run defs (onTc main) ⟨m, fun _ => 0, ρ⟩ fun r => ∀ c,
      r.2.mem (c.tc.loc main_v131) = dqArr (p0 c) (p1 c) (p2 c) (p3 c) (p4 c)
      ∧ r.2.mem (c.tc.loc main_v108) = dkvArr (p0 c) (p1 c) (p2 c) (p3 c) (p4 c)
      ∧ r.2.mem (c.tc.loc main_v115) = dgqArr (p0 c) (p1 c) (p2 c) (p3 c) (p4 c)
      ∧ r.2.mem (c.tc.loc main_v91) = dgkArr (p0 c) (p1 c) (p2 c) (p3 c) (p4 c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) := by
  refine (θ_run _ _ _).mono (fun r h c => ?_) (Value.run m ρ)
  obtain ⟨h0, h1, h2, h3, h4⟩ := hm c
  obtain ⟨r0, r1, r2, r3, hr⟩ := h c
  refine ⟨r0.trans ?_, r1.trans ?_, r2.trans ?_, r3.trans ?_, hr⟩
  · rw [Read.val_main_v131_eq, h0, h1, h2, h3, h4]; exact ref_dqArr ..
  · rw [Read.val_main_v108_eq, h0, h1, h2, h3, h4]; exact ref_dkvArr ..
  · rw [Read.val_main_v115_eq, h0, h1, h2, h3, h4]; exact ref_dgqArr ..
  · rw [Read.val_main_v91_eq, h0, h1, h2, h3, h4]; exact ref_dgkArr ..

end Reference

end Cert.Xa.XaBwd

end
-- ==== Proof.Norm.RmsSsm.lean ====
/-
  THE BACKWARD PASS OF THE RECURRENCE'S OUTPUT NORM: WHAT THE KERNEL STORES.

  Grid point `p` works on the rows `512 p …`: it stores their cotangent, and adds their part of the scale's gradient to
  what the points before it left.
-/
module

public import proofs.«01_k».proof.Proof.Gen.RmsSsmIdeal.Value
public import proofs.«01_k».proof.Proof.Norm.Rows
public import proofs.«01_k».proof.Proof.Proj.Products

@[expose] public section

noncomputable section

namespace Cert.Norm.RmsSsm

open Cert.RmsSsmIdeal Cert.RmsSsmIdeal.Gen Idealize.ShloMosaic Idealize.ShloMosaic.TcCoe Idealize.SL.Sem
open Idealize.ShloMosaic.StableHlo Cert.Mlp Cert.Proj

section Stores
variable (c : Dev nD) (i : grid0.Coords) (a : Memref sig .tc .vmem S512x512 .f32) (ha : a.IsWhole)
  (b : Memref sig .tc .vmem S1x512 .f32) (hb : b.IsWhole) (e : Memref sig .tc .vmem S512x512 .f32) (he : e.IsWhole)
  (o : Memref sig .tc .vmem S512x512 .f32) (ho : o.IsWhole) (og : Memref sig .tc .vmem S1x512 .f32) (hog : og.IsWhole)
  (x : Vec Ideal S512x512 .f32) (g : Vec Ideal S1x512 .f32) (d : Vec Ideal S512x512 .f32) (old : Vec Ideal S1x512 .f32)

theorem dxA (h : cond0_0 i) : out0_A_3 c i a ha b hb e he o ho og hog h x g d = k0_pay6 x g d := by
  unfold out0_A_3
  rw [View.read_writes_eq_canon _ _ _ (cover0_A_3 c i a ha b hb e he o ho og hog h x g d)]
  unfold kernelRun0_A
  dsimp only
  sl_unfold_words
  rw [View.canon_unit_zero (S := S512x512) origin2]
  simp only [readCov_last (S := S1x512) _ origin2, View.readCov_unit_zero (S := S1x512) _ origin2, View.readAt_eq_ld, ha.read_unread,
    hb.read_unread, he.read_unread, hog.read_unread, View.ld_unit_zero (S := S512x512) origin2, View.ld_unit_zero (S := S1x512) origin2,
    shapeCast_self]

theorem dgA (h : cond0_0 i) : out0_A_4 c i a ha b hb e he o ho og hog h x g d = k0_pay2 (k0_pay5 x d) (k0_pay1 (F := Ideal)) := by
  unfold out0_A_4
  rw [View.read_writes_eq_canon _ _ _ (cover0_A_4 c i a ha b hb e he o ho og hog h x g d)]
  unfold kernelRun0_A
  dsimp only
  sl_unfold_words
  rw [View.canon_cons_unit_zero (S := S1x512) origin2]
  simp only [readCov_last (S := S1x512) _ origin2, View.readCov_unit_zero (S := S1x512) _ origin2, View.readAt_eq_ld, ha.read_unread,
    hb.read_unread, he.read_unread, hog.read_unread, View.ld_unit_zero (S := S512x512) origin2, View.ld_unit_zero (S := S1x512) origin2,
    shapeCast_self]

theorem dxB (h : ¬cond0_0 i) : out0_B_3 c i a ha b hb e he o ho og hog h x g d old = k0_pay6 x g d := by
  unfold out0_B_3
  rw [View.read_writes_eq_canon _ _ _ (cover0_B_3 c i a ha b hb e he o ho og hog h x g d old)]
  unfold kernelRun0_B
  dsimp only
  sl_unfold_words
  rw [View.canon_unit_zero (S := S512x512) origin2]
  simp only [readCov_last (S := S1x512) _ origin2, View.readCov_unit_zero (S := S1x512) _ origin2, View.readAt_eq_ld, ha.read_unread,
    hb.read_unread, he.read_unread, hog.read_unread, View.ld_unit_zero (S := S512x512) origin2, View.ld_unit_zero (S := S1x512) origin2,
    shapeCast_self]

theorem dgB (h : ¬cond0_0 i) : out0_B_4 c i a ha b hb e he o ho og hog h x g d old = k0_pay2 (k0_pay5 x d) old := by
  unfold out0_B_4
  rw [View.read_writes_eq_canon _ _ _ (cover0_B_4 c i a ha b hb e he o ho og hog h x g d old)]
  unfold kernelRun0_B
  dsimp only
  sl_unfold_words
  rw [View.canon_unit_zero (S := S1x512) origin2]
  simp only [readCov_last (S := S1x512) _ origin2, View.readCov_unit_zero (S := S1x512) _ origin2, View.readAt_eq_ld, ha.read_unread,
    hb.read_unread, he.read_unread, hog.read_unread, View.ld_unit_zero (S := S512x512) origin2, View.ld_unit_zero (S := S1x512) origin2,
    shapeCast_self]

end Stores

theorem zero_at (k : Fin 512) : k0_pay1 (F := Ideal) (ix2 0 k) = 0 := by
  unfold k0_pay1; pointwise

theorem add_at (p old : Vec Ideal S1x512 .f32) (k : Fin 512) :
    (k0_pay2 p old : A2 1 512) (ix2 0 k) = (old : A2 1 512) (ix2 0 k) + (p : A2 1 512) (ix2 0 k) := by
  unfold k0_pay2; pointwise

theorem dg_at (x d : Vec Ideal S512x512 .f32) (k : Fin 512) :
    (k0_pay5 x d : A2 1 512) (ix2 0 k) = ∑ r, dgTerm inv512 (x : A2 512 512) d k r := by
  unfold k0_pay5 k0_pay4 k0_pay3 dgTerm dgPart ms
  pointwise

theorem dx_at (x d : Vec Ideal S512x512 .f32) (g : Vec Ideal S1x512 .f32) (r : Fin 512) (k : Fin 512) :
    (k0_pay6 x g d : A2 512 512) (ix2 r k) = dxArr inv512 (x : A2 512 512) g d (ix2 r k) := by
  unfold k0_pay6 k0_pay4 k0_pay3 dxArr dxRow slope ms
  pointwise
  simp only [Finset.univ_unique, Finset.sum_singleton]

/-! ### The blocks -/

variable (m : Memory nD τ sig) (c : Dev nD)

/-- The arguments as launched: the input, the scale, the result's cotangent. -/
abbrev aX : A2 8192 512 := m (c.tc.loc main_arg0)
abbrev aG : A2 1 512 := m (c.tc.loc main_arg1)
abbrev aD : A2 8192 512 := m (c.tc.loc main_arg2)

theorem idx_facts : ∀ t : Fin cfg0.N,
    (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) :=
  (by decide +kernel : ∀ t : Fin grid0.N, _)

/-- The row of the arrays that row `r` of block `t` is. -/
def rowIx (t : Fin cfg0.N) (r : Fin 512) : Fin 8192 :=
  ⟨t.val * 512 + r.val, by have hN : cfg0.N = 16 := N_0; omega⟩

theorem blk_x (t : Fin cfg0.N) (r : Fin 512) (k : Fin 512) :
    (iblk m c 0 t : A2 512 512) (ix2 r k) = aX m c (ix2 (rowIx t r) k) := by
  have hi := (idx_facts t).1
  unfold iblk
  rw [View.read_apply]
  show aX m c _ = _
  congr 1
  funext a
  apply Fin.ext
  match a with
  | ⟨0, _⟩ => show win0_0.index t 0 * 512 + 1 * r.val = t.val * 512 + r.val; rw [hi.1]; omega
  | ⟨1, _⟩ => show win0_0.index t 1 * 512 + 1 * k.val = k.val; rw [hi.2]; omega

theorem blk_g (t : Fin cfg0.N) (k : Fin 512) :
    (iblk m c 1 t : A2 1 512) (ix2 0 k) = aG m c (ix2 0 k) := by
  have hi := (idx_facts t).2.1
  unfold iblk
  rw [View.read_apply]
  show aG m c _ = _
  congr 1
  funext a
  apply Fin.ext
  match a with
  | ⟨0, _⟩ => show win0_1.index t 0 * 1 + 1 * 0 = 0; rw [hi.1]
  | ⟨1, _⟩ => show win0_1.index t 1 * 512 + 1 * k.val = k.val; rw [hi.2]; omega

theorem blk_d (t : Fin cfg0.N) (r : Fin 512) (k : Fin 512) :
    (iblk m c 2 t : A2 512 512) (ix2 r k) = aD m c (ix2 (rowIx t r) k) := by
  have hi := (idx_facts t).2.2.1
  unfold iblk
  rw [View.read_apply]
  show aD m c _ = _
  congr 1
  funext a
  apply Fin.ext
  match a with
  | ⟨0, _⟩ => show win0_2.index t 0 * 512 + 1 * r.val = t.val * 512 + r.val; rw [hi.1]; omega
  | ⟨1, _⟩ => show win0_2.index t 1 * 512 + 1 * k.val = k.val; rw [hi.2]; omega

theorem read_dx (t : Fin cfg0.N) (G : A2 8192 512) (r : Fin 512) (k : Fin 512) :
    (((cfg0.win 3).blk t).view.read (Elt Ideal) G : A2 512 512) (ix2 r k) = G (ix2 (rowIx t r) k) := by
  have hi := (idx_facts t).2.2.2.1
  rw [View.read_apply]
  show G _ = _
  congr 1
  funext a
  apply Fin.ext
  match a with
  | ⟨0, _⟩ => show win0_3.index t 0 * 512 + 1 * r.val = t.val * 512 + r.val; rw [hi.1]; omega
  | ⟨1, _⟩ => show win0_3.index t 1 * 512 + 1 * k.val = k.val; rw [hi.2]; omega

theorem read_dg (t : Fin cfg0.N) (G : A2 1 512) (k : Fin 512) :
    (((cfg0.win 4).blk t).view.read (Elt Ideal) G : A2 1 512) (ix2 0 k) = G (ix2 0 k) := by
  have hi := (idx_facts t).2.2.2.2
  rw [View.read_apply]
  show G _ = _
  congr 1
  funext a
  apply Fin.ext
  match a with
  | ⟨0, _⟩ => show win0_4.index t 0 * 1 + 1 * 0 = 0; rw [hi.1]
  | ⟨1, _⟩ => show win0_4.index t 1 * 512 + 1 * k.val = k.val; rw [hi.2]; omega

/-! ### What a point stores -/

/-- The point's block of the input's cotangent. -/
theorem dx_run (t : Fin cfg0.N) (r : Fin 512) (k : Fin 512) :
    (k0_pay6 (F := Ideal) (iblk m c 0 t) (iblk m c 1 t) (iblk m c 2 t) : A2 512 512) (ix2 r k)
      = dxArr inv512 (aX m c) (aG m c) (aD m c) (ix2 (rowIx t r) k) := by
  rw [dx_at]
  unfold dxArr
  have e0 : row (iblk m c 0 t : A2 512 512) r = row (aX m c) (rowIx t r) := funext fun k => blk_x m c t r k
  have e1 : row (iblk m c 1 t : A2 1 512) 0 = row (aG m c) 0 := funext fun k => blk_g m c t k
  have e2 : row (iblk m c 2 t : A2 512 512) r = row (aD m c) (rowIx t r) := funext fun k => blk_d m c t r k
  show dxRow inv512 (row (iblk m c 0 t : A2 512 512) r) (row (iblk m c 1 t : A2 1 512) 0) (row (iblk m c 2 t : A2 512 512) r) k = _
  rw [e0, e1, e2]
  rfl

/-- Row `r` of block `t` adds its row's part of the scale's gradient. -/
theorem term_run (t : Fin cfg0.N) (r : Fin 512) (k : Fin 512) :
    dgTerm inv512 (iblk m c 0 t : A2 512 512) (iblk m c 2 t) k r = dgTerm inv512 (aX m c) (aD m c) k (rowIx t r) := by
  unfold dgTerm
  have e0 : row (iblk m c 0 t : A2 512 512) r = row (aX m c) (rowIx t r) := funext fun k => blk_x m c t r k
  have e2 : row (iblk m c 2 t : A2 512 512) r = row (aD m c) (rowIx t r) := funext fun k => blk_d m c t r k
  rw [e0, e2]

/-- The scale's gradient, one point further. -/
theorem dg_run (t : Fin cfg0.N) (k : Fin 512) (old : Vec Ideal S1x512 .f32)
    (ho : (old : A2 1 512) (ix2 0 k) = tiles 512 (dgTerm inv512 (aX m c) (aD m c) k) t.val) :
    (k0_pay2 (F := Ideal) (k0_pay5 (iblk m c 0 t) (iblk m c 2 t)) old : A2 1 512) (ix2 0 k)
      = tiles 512 (dgTerm inv512 (aX m c) (aD m c) k) (t.val + 1) := by
  rw [add_at, dg_at]
  refine tiles_step 512 _ t.val _ _ ho fun r => ?_
  rw [term_run]
  exact (ext_val _ _ (rowIx t r).isLt).symm

/-- The scale's gradient after point `p`. -/
theorem out_dg (k : Fin 512) : ∀ (p : Nat) (hn : p < cfg0.N),
    ((outsAt0 m c p hn).2 : A2 1 512) (ix2 0 k) = tiles 512 (dgTerm inv512 (aX m c) (aD m c) k) (p + 1)
  | 0, hn => by
    have e := outsAt0_A m c ⟨0, hn⟩ (by dsimp only)
    dsimp only at e
    rw [e]
    dsimp only
    rw [dgA]
    exact dg_run m c ⟨0, hn⟩ k _ ((zero_at k).trans (tiles_zero _ _).symm)
  | p + 1, hn => by
    have hN : cfg0.N = 16 := N_0
    have e := outsAt0_B m c ⟨p + 1, hn⟩ (by dsimp only; omega)
    dsimp only at e
    rw [e]
    dsimp only
    rw [dgB]
    exact dg_run m c ⟨p + 1, hn⟩ k _ (out_dg k p (by omega))

/-! ### The final arrays -/

theorem final_dx : ((dats m 0 c).arrAt 3 cfg0.N : A2 8192 512) = dxArr inv512 (aX m c) (aG m c) (aD m c) := by
  refine (dats m 0 c).arrAt_eq_of_cover 3 (dxArr inv512 (aX m c) (aG m c) (aD m c)) ?_ ?_
  · intro t _
    by_cases h : t.val % 16 = 0
    · rw [Value.flushed3_A m c t h, dxA]
      refine ext2 (a := 512) (b := 512) _ _ fun r k => ?_
      exact (dx_run m c t r k).trans (read_dx t _ r k).symm
    · rw [Value.flushed3_B m c t h, dxB]
      refine ext2 (a := 512) (b := 512) _ _ fun r k => ?_
      exact (dx_run m c t r k).trans (read_dx t _ r k).symm
  · intro i
    have h0 : (i 0 : Nat) < 8192 := (i 0).isLt
    have h1 : (i 1 : Nat) < 512 := (i 1).isLt
    have hN : cfg0.N = 16 := N_0
    let t : Fin cfg0.N := ⟨(i 0 : Nat) / 512, by omega⟩
    refine ⟨t, flush0_3 t, ?_⟩
    have hi := (idx_facts t).2.2.2.1
    have e0 : win0_3.index t 0 = (i 0 : Nat) / 512 := hi.1
    show i ∈ ((View.whole main_v0_0).slice (win0_3.rect t)).set
    rw [View.set_slice_whole, Rect.mem_set_unit]
    intro a
    match a with
    | ⟨0, _⟩ => show win0_3.index t 0 * 512 ≤ (i 0 : Nat) ∧ (i 0 : Nat) < win0_3.index t 0 * 512 + 512; rw [e0]; omega
    | ⟨1, _⟩ => show win0_3.index t 1 * 512 ≤ (i 1 : Nat) ∧ (i 1 : Nat) < win0_3.index t 1 * 512 + 512; rw [hi.2]; omega

theorem final_dg : ((dats m 0 c).arrAt 4 cfg0.N : A2 1 512) = dgArr inv512 (aX m c) (aD m c) := by
  have hN : cfg0.N = 16 := N_0
  refine (dats m 0 c).arrAt_eq_of_cover 4 (dgArr inv512 (aX m c) (aD m c)) ?_ ?_
  · intro t hf
    have h7 : t.val = 15 := by have h := (flush0_4 t).mp hf; have hl : t.val < cfg0.N := t.isLt; omega
    rw [Value.flushed4]
    refine ext2 (a := 1) (b := 512) _ _ fun z k => ?_
    obtain rfl : z = 0 := Subsingleton.elim _ _
    refine ((out_dg m c k t.val t.isLt).trans ?_).trans (read_dg t _ k).symm
    rw [h7]
    exact tiles_all 16 512 _ rfl
  · intro i
    have h0 : (i 0 : Nat) < 1 := (i 0).isLt
    have h1 : (i 1 : Nat) < 512 := (i 1).isLt
    let t : Fin cfg0.N := ⟨15, by omega⟩
    refine ⟨t, (flush0_4 t).mpr rfl, ?_⟩
    have hi := (idx_facts t).2.2.2.2
    show i ∈ ((View.whole main_v0_1).slice (win0_4.rect t)).set
    rw [View.set_slice_whole, Rect.mem_set_unit]
    intro a
    match a with
    | ⟨0, _⟩ => show win0_4.index t 0 * 1 ≤ (i 0 : Nat) ∧ (i 0 : Nat) < win0_4.index t 0 * 1 + 1; rw [hi.1]; omega
    | ⟨1, _⟩ => show win0_4.index t 1 * 512 ≤ (i 1 : Nat) ∧ (i 1 : Nat) < win0_4.index t 1 * 512 + 512; rw [hi.2]; omega

end Cert.Norm.RmsSsm

end
-- ==== Proof.Norm.RmsSsmClaims.lean ====
/-
  THE BACKWARD PASS OF THE RECURRENCE'S OUTPUT NORM: THE KERNEL'S RUN AND THE REFERENCE'S RUN, AT THE SAME ARRAYS.
-/
module

public import proofs.«01_k».proof.Proof.Norm.RmsSsm
public import proofs.«01_k».proof.Proof.Gen.RmsSsmRefIdeal.Read

@[expose] public section

noncomputable section

namespace Cert.Norm.RmsSsm

open Idealize.ShloMosaic Idealize.SL.Sem Cert.Mlp

section Reference
open Cert.RmsSsmRefIdeal Cert.RmsSsmRefIdeal.Gen Cert.RmsSsmRefIdeal.Read

variable (x : A2 8192 512) (g : A2 1 512) (d : A2 8192 512)

theorem ref_ms (R : Fin 8192) : val_main_v6 (F := Ideal) x (ix2 R 0) = ms inv512 (row x R) := by
  unfold val_main_v6 val_main_v5 val_main_v4 val_main_v3 val_main_v2 val_main_v1 val_main_v0 val_main_cst val_main_cst_0 val_main_cst_1 ms
  pointwise
  rw [div_512]

theorem ref_dg : (val_main_v17 (F := Ideal) x d : A2 1 512) = dgArr inv512 x d := by
  refine ext2 _ _ fun R k => ?_
  unfold val_main_v17 val_main_v16 val_main_v15 val_main_v12 val_main_v11 val_main_v7 val_main_cst_3 dgArr dgTerm dgPart
  pointwise [ref_ms x]

theorem ref_slope (R : Fin 8192) : val_main_v27 (F := Ideal) x g d (ix2 R 0) = slope inv512 (row x R) (row g 0) (row d R) := by
  unfold val_main_v27 val_main_v26 val_main_v25 val_main_v22 val_main_v21 val_main_v20 val_main_v19 val_main_v18 val_main_v10 val_main_v9
    val_main_v8 val_main_v7 val_main_cst_2 val_main_cst_4 val_main_cst_5 slope
  pointwise [ref_ms x]
  rw [div_512]

theorem ref_dx : (val_main_v33 (F := Ideal) x g d : A2 8192 512) = dxArr inv512 x g d := by
  refine ext2 _ _ fun R k => ?_
  unfold val_main_v33 val_main_v32 val_main_v31 val_main_v30 val_main_v29 val_main_v28 val_main_v24 val_main_v23 val_main_v19
    val_main_v18 val_main_v7 val_main_cst_6 dxArr dxRow
  pointwise [ref_ms x]
  simp only [Finset.univ_unique, Finset.sum_singleton]
  have h : val_main_v27 (F := Ideal) x g d (ix2 R default) = slope inv512 (row x R) (row g 0) (row d R) := ref_slope x g d R
  rw [h]

end Reference

section Kernel
open Cert.RmsSsmIdeal Cert.RmsSsmIdeal.Gen

/-- The kernel's run: its results; its arguments stay. -/
theorem kernel_run (m : Memory nD τ sig) (ρ : Dev nD → PrngReg) :
    θ_run defs (onTc main) ⟨m, fun _ => 0, ρ⟩ fun r => ∀ c,
      r.2.mem (c.tc.loc main_v0_0) = dxArr inv512 (aX m c) (aG m c) (aD m c)
      ∧ r.2.mem (c.tc.loc main_v0_1) = dgArr inv512 (aX m c) (aD m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨(h c).1.trans (final_dx m c), (h c).2.1.trans (final_dg m c), (h c).2.2⟩)
    (Value.run_blocks m ρ)

end Kernel

section Reference
open Cert.RmsSsmRefIdeal Cert.RmsSsmRefIdeal.Gen

/-- The reference's run, at the same functions. -/
theorem reference_run (m : Memory nD τ sig) (ρ : Dev nD → PrngReg)
    (p0 : Dev nD → A2 8192 512) (p1 : Dev nD → A2 1 512) (p2 : Dev nD → A2 8192 512)
    (hm : ∀ c, m (c.tc.loc main_arg0) = p0 c
      ∧ m (c.tc.loc main_arg1) = p1 c ∧ m (c.tc.loc main_arg2) = p2 c) :
    θ_run defs (onTc main) ⟨m, fun _ => 0, ρ⟩ fun r => ∀ c,
      r.2.mem (c.tc.loc main_v33) = dxArr inv512 (p0 c) (p1 c) (p2 c)
      ∧ r.2.mem (c.tc.loc main_v17) = dgArr inv512 (p0 c) (p2 c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  refine (θ_run _ _ _).mono (fun r h c => ?_) (Value.run m ρ)
  obtain ⟨h0, h1, h2⟩ := hm c
  obtain ⟨r0, r1, hr⟩ := h c
  refine ⟨r0.trans ?_, r1.trans ?_, hr⟩
  · rw [Read.val_main_v33_eq, h0, h1, h2]; exact ref_dx ..
  · rw [Read.val_main_v17_eq, h0, h2]; exact ref_dg ..

end Reference

end Cert.Norm.RmsSsm

end
-- ==== Proof.Norm.RmsMem.lean ====
/-
  THE BACKWARD PASS OF THE MEMORY'S NORM: WHAT THE KERNEL STORES.

  One grid point works on all rows: it stores their cotangent and the gradient of the scale.
-/
module

public import proofs.«01_k».proof.Proof.Gen.RmsMemIdeal.Value
public import proofs.«01_k».proof.Proof.Norm.Rows
public import proofs.«01_k».proof.Proof.Proj.Products

@[expose] public section

noncomputable section

namespace Cert.Norm.RmsMem

open Cert.RmsMemIdeal Cert.RmsMemIdeal.Gen Idealize.ShloMosaic Idealize.ShloMosaic.TcCoe Idealize.SL.Sem
open Idealize.ShloMosaic.StableHlo Cert.Mlp Cert.Proj

section Stores
variable (c : Dev nD) (i : grid0.Coords) (a : Memref sig .tc .vmem S256x1024 .f32) (ha : a.IsWhole)
  (b : Memref sig .tc .vmem S1x1024 .f32) (hb : b.IsWhole) (e : Memref sig .tc .vmem S256x1024 .f32) (he : e.IsWhole)
  (o : Memref sig .tc .vmem S256x1024 .f32) (ho : o.IsWhole) (og : Memref sig .tc .vmem S1x1024 .f32) (hog : og.IsWhole)
  (x : Vec Ideal S256x1024 .f32) (g : Vec Ideal S1x1024 .f32) (d : Vec Ideal S256x1024 .f32) (old : Vec Ideal S1x1024 .f32)

theorem dxA (h : cond0_0 i) : out0_A_3 c i a ha b hb e he o ho og hog h x g d = k0_pay6 x g d := by
  unfold out0_A_3
  rw [View.read_writes_eq_canon _ _ _ (cover0_A_3 c i a ha b hb e he o ho og hog h x g d)]
  unfold kernelRun0_A
  dsimp only
  sl_unfold_words
  rw [View.canon_unit_zero (S := S256x1024) origin2]
  simp only [readCov_last (S := S1x1024) _ origin2, View.readCov_unit_zero (S := S1x1024) _ origin2, View.readAt_eq_ld, ha.read_unread,
    hb.read_unread, he.read_unread, hog.read_unread, View.ld_unit_zero (S := S256x1024) origin2, View.ld_unit_zero (S := S1x1024) origin2,
    shapeCast_self]

theorem dgA (h : cond0_0 i) : out0_A_4 c i a ha b hb e he o ho og hog h x g d = k0_pay2 (k0_pay5 x d) (k0_pay1 (F := Ideal)) := by
  unfold out0_A_4
  rw [View.read_writes_eq_canon _ _ _ (cover0_A_4 c i a ha b hb e he o ho og hog h x g d)]
  unfold kernelRun0_A
  dsimp only
  sl_unfold_words
  rw [View.canon_cons_unit_zero (S := S1x1024) origin2]
  simp only [readCov_last (S := S1x1024) _ origin2, View.readCov_unit_zero (S := S1x1024) _ origin2, View.readAt_eq_ld, ha.read_unread,
    hb.read_unread, he.read_unread, hog.read_unread, View.ld_unit_zero (S := S256x1024) origin2, View.ld_unit_zero (S := S1x1024) origin2,
    shapeCast_self]

end Stores

theorem zero_at (k : Fin 1024) : k0_pay1 (F := Ideal) (ix2 0 k) = 0 := by
  unfold k0_pay1; pointwise

theorem add_at (p old : Vec Ideal S1x1024 .f32) (k : Fin 1024) :
    (k0_pay2 p old : A2 1 1024) (ix2 0 k) = (old : A2 1 1024) (ix2 0 k) + (p : A2 1 1024) (ix2 0 k) := by
  unfold k0_pay2; pointwise

theorem dg_at (x d : Vec Ideal S256x1024 .f32) (k : Fin 1024) :
    (k0_pay5 x d : A2 1 1024) (ix2 0 k) = ∑ r, dgTerm inv1024 (x : A2 256 1024) d k r := by
  unfold k0_pay5 k0_pay4 k0_pay3 dgTerm dgPart ms
  pointwise

theorem dx_at (x d : Vec Ideal S256x1024 .f32) (g : Vec Ideal S1x1024 .f32) (r : Fin 256) (k : Fin 1024) :
    (k0_pay6 x g d : A2 256 1024) (ix2 r k) = dxArr inv1024 (x : A2 256 1024) g d (ix2 r k) := by
  unfold k0_pay6 k0_pay4 k0_pay3 dxArr dxRow slope ms
  pointwise
  simp only [Finset.univ_unique, Finset.sum_singleton]

/-! ### The blocks -/

variable (m : Memory nD τ sig) (c : Dev nD)

/-- The arguments as launched: the input, the scale, the result's cotangent. -/
abbrev aX : A2 256 1024 := m (c.tc.loc main_arg0)
abbrev aG : A2 1 1024 := m (c.tc.loc main_arg1)
abbrev aD : A2 256 1024 := m (c.tc.loc main_arg2)

theorem idx_facts : ∀ t : Fin cfg0.N,
    (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) :=
  (by decide +kernel : ∀ t : Fin grid0.N, _)

/-- The row of the arrays that row `r` of block `t` is. -/
def rowIx (t : Fin cfg0.N) (r : Fin 256) : Fin 256 :=
  ⟨t.val * 256 + r.val, by have hN : cfg0.N = 1 := N_0; omega⟩

theorem blk_x (t : Fin cfg0.N) (r : Fin 256) (k : Fin 1024) :
    (iblk m c 0 t : A2 256 1024) (ix2 r k) = aX m c (ix2 (rowIx t r) k) := by
  have hi := (idx_facts t).1
  unfold iblk
  rw [View.read_apply]
  show aX m c _ = _
  congr 1
  funext a
  apply Fin.ext
  match a with
  | ⟨0, _⟩ => show win0_0.index t 0 * 256 + 1 * r.val = t.val * 256 + r.val; rw [hi.1]; omega
  | ⟨1, _⟩ => show win0_0.index t 1 * 1024 + 1 * k.val = k.val; rw [hi.2]; omega

theorem blk_g (t : Fin cfg0.N) (k : Fin 1024) :
    (iblk m c 1 t : A2 1 1024) (ix2 0 k) = aG m c (ix2 0 k) := by
  have hi := (idx_facts t).2.1
  unfold iblk
  rw [View.read_apply]
  show aG m c _ = _
  congr 1
  funext a
  apply Fin.ext
  match a with
  | ⟨0, _⟩ => show win0_1.index t 0 * 1 + 1 * 0 = 0; rw [hi.1]
  | ⟨1, _⟩ => show win0_1.index t 1 * 1024 + 1 * k.val = k.val; rw [hi.2]; omega

theorem blk_d (t : Fin cfg0.N) (r : Fin 256) (k : Fin 1024) :
    (iblk m c 2 t : A2 256 1024) (ix2 r k) = aD m c (ix2 (rowIx t r) k) := by
  have hi := (idx_facts t).2.2.1
  unfold iblk
  rw [View.read_apply]
  show aD m c _ = _
  congr 1
  funext a
  apply Fin.ext
  match a with
  | ⟨0, _⟩ => show win0_2.index t 0 * 256 + 1 * r.val = t.val * 256 + r.val; rw [hi.1]; omega
  | ⟨1, _⟩ => show win0_2.index t 1 * 1024 + 1 * k.val = k.val; rw [hi.2]; omega

theorem read_dx (t : Fin cfg0.N) (G : A2 256 1024) (r : Fin 256) (k : Fin 1024) :
    (((cfg0.win 3).blk t).view.read (Elt Ideal) G : A2 256 1024) (ix2 r k) = G (ix2 (rowIx t r) k) := by
  have hi := (idx_facts t).2.2.2.1
  rw [View.read_apply]
  show G _ = _
  congr 1
  funext a
  apply Fin.ext
  match a with
  | ⟨0, _⟩ => show win0_3.index t 0 * 256 + 1 * r.val = t.val * 256 + r.val; rw [hi.1]; omega
  | ⟨1, _⟩ => show win0_3.index t 1 * 1024 + 1 * k.val = k.val; rw [hi.2]; omega

theorem read_dg (t : Fin cfg0.N) (G : A2 1 1024) (k : Fin 1024) :
    (((cfg0.win 4).blk t).view.read (Elt Ideal) G : A2 1 1024) (ix2 0 k) = G (ix2 0 k) := by
  have hi := (idx_facts t).2.2.2.2
  rw [View.read_apply]
  show G _ = _
  congr 1
  funext a
  apply Fin.ext
  match a with
  | ⟨0, _⟩ => show win0_4.index t 0 * 1 + 1 * 0 = 0; rw [hi.1]
  | ⟨1, _⟩ => show win0_4.index t 1 * 1024 + 1 * k.val = k.val; rw [hi.2]; omega

/-! ### What a point stores -/

/-- The point's block of the input's cotangent. -/
theorem dx_run (t : Fin cfg0.N) (r : Fin 256) (k : Fin 1024) :
    (k0_pay6 (F := Ideal) (iblk m c 0 t) (iblk m c 1 t) (iblk m c 2 t) : A2 256 1024) (ix2 r k)
      = dxArr inv1024 (aX m c) (aG m c) (aD m c) (ix2 (rowIx t r) k) := by
  rw [dx_at]
  unfold dxArr
  have e0 : row (iblk m c 0 t : A2 256 1024) r = row (aX m c) (rowIx t r) := funext fun k => blk_x m c t r k
  have e1 : row (iblk m c 1 t : A2 1 1024) 0 = row (aG m c) 0 := funext fun k => blk_g m c t k
  have e2 : row (iblk m c 2 t : A2 256 1024) r = row (aD m c) (rowIx t r) := funext fun k => blk_d m c t r k
  show dxRow inv1024 (row (iblk m c 0 t : A2 256 1024) r) (row (iblk m c 1 t : A2 1 1024) 0) (row (iblk m c 2 t : A2 256 1024) r) k = _
  rw [e0, e1, e2]
  rfl

/-- Row `r` of block `t` adds its row's part of the scale's gradient. -/
theorem term_run (t : Fin cfg0.N) (r : Fin 256) (k : Fin 1024) :
    dgTerm inv1024 (iblk m c 0 t : A2 256 1024) (iblk m c 2 t) k r = dgTerm inv1024 (aX m c) (aD m c) k (rowIx t r) := by
  unfold dgTerm
  have e0 : row (iblk m c 0 t : A2 256 1024) r = row (aX m c) (rowIx t r) := funext fun k => blk_x m c t r k
  have e2 : row (iblk m c 2 t : A2 256 1024) r = row (aD m c) (rowIx t r) := funext fun k => blk_d m c t r k
  rw [e0, e2]

/-- The scale's gradient, one point further. -/
theorem dg_run (t : Fin cfg0.N) (k : Fin 1024) (old : Vec Ideal S1x1024 .f32)
    (ho : (old : A2 1 1024) (ix2 0 k) = tiles 256 (dgTerm inv1024 (aX m c) (aD m c) k) t.val) :
    (k0_pay2 (F := Ideal) (k0_pay5 (iblk m c 0 t) (iblk m c 2 t)) old : A2 1 1024) (ix2 0 k)
      = tiles 256 (dgTerm inv1024 (aX m c) (aD m c) k) (t.val + 1) := by
  rw [add_at, dg_at]
  refine tiles_step 256 _ t.val _ _ ho fun r => ?_
  rw [term_run]
  exact (ext_val _ _ (rowIx t r).isLt).symm

/-! ### The final arrays -/

theorem final_dx : ((dats m 0 c).arrAt 3 cfg0.N : A2 256 1024) = dxArr inv1024 (aX m c) (aG m c) (aD m c) := by
  refine (dats m 0 c).arrAt_eq_of_cover 3 (dxArr inv1024 (aX m c) (aG m c) (aD m c)) ?_ ?_
  · intro t _
    rw [Value.flushed3_A m c t, dxA]
    refine ext2 (a := 256) (b := 1024) _ _ fun r k => ?_
    exact (dx_run m c t r k).trans (read_dx t _ r k).symm
  · intro i
    have h0 : (i 0 : Nat) < 256 := (i 0).isLt
    have h1 : (i 1 : Nat) < 1024 := (i 1).isLt
    have hN : cfg0.N = 1 := N_0
    let t : Fin cfg0.N := ⟨(i 0 : Nat) / 256, by omega⟩
    refine ⟨t, flush0_3 t, ?_⟩
    have hi := (idx_facts t).2.2.2.1
    have e0 : win0_3.index t 0 = (i 0 : Nat) / 256 := hi.1
    show i ∈ ((View.whole main_v0_0).slice (win0_3.rect t)).set
    rw [View.set_slice_whole, Rect.mem_set_unit]
    intro a
    match a with
    | ⟨0, _⟩ => show win0_3.index t 0 * 256 ≤ (i 0 : Nat) ∧ (i 0 : Nat) < win0_3.index t 0 * 256 + 256; rw [e0]; omega
    | ⟨1, _⟩ => show win0_3.index t 1 * 1024 ≤ (i 1 : Nat) ∧ (i 1 : Nat) < win0_3.index t 1 * 1024 + 1024; rw [hi.2]; omega

theorem final_dg : ((dats m 0 c).arrAt 4 cfg0.N : A2 1 1024) = dgArr inv1024 (aX m c) (aD m c) := by
  have hN : cfg0.N = 1 := N_0
  refine (dats m 0 c).arrAt_eq_of_cover 4 (dgArr inv1024 (aX m c) (aD m c)) ?_ ?_
  · intro t hf
    have h7 : t.val = 0 := by have hl : t.val < cfg0.N := t.isLt; omega
    rw [Value.flushed4_A m c t, dgA]
    refine ext2 (a := 1) (b := 1024) _ _ fun z k => ?_
    obtain rfl : z = 0 := Subsingleton.elim _ _
    refine ((dg_run m c t k _ ((zero_at k).trans (by rw [h7]; exact (tiles_zero _ _).symm))).trans ?_).trans (read_dg t _ k).symm
    rw [h7]
    exact tiles_all 1 256 _ rfl
  · intro i
    have h0 : (i 0 : Nat) < 1 := (i 0).isLt
    have h1 : (i 1 : Nat) < 1024 := (i 1).isLt
    let t : Fin cfg0.N := ⟨0, by omega⟩
    refine ⟨t, flush0_4 t, ?_⟩
    have hi := (idx_facts t).2.2.2.2
    show i ∈ ((View.whole main_v0_1).slice (win0_4.rect t)).set
    rw [View.set_slice_whole, Rect.mem_set_unit]
    intro a
    match a with
    | ⟨0, _⟩ => show win0_4.index t 0 * 1 ≤ (i 0 : Nat) ∧ (i 0 : Nat) < win0_4.index t 0 * 1 + 1; rw [hi.1]; omega
    | ⟨1, _⟩ => show win0_4.index t 1 * 1024 ≤ (i 1 : Nat) ∧ (i 1 : Nat) < win0_4.index t 1 * 1024 + 1024; rw [hi.2]; omega

end Cert.Norm.RmsMem

end
-- ==== Proof.Norm.RmsMemClaims.lean ====
/-
  THE BACKWARD PASS OF THE MEMORY'S NORM: THE KERNEL'S RUN AND THE REFERENCE'S RUN, AT THE SAME ARRAYS.
-/
module

public import proofs.«01_k».proof.Proof.Norm.RmsMem
public import proofs.«01_k».proof.Proof.Gen.RmsMemRefIdeal.Read

@[expose] public section

noncomputable section

namespace Cert.Norm.RmsMem

open Idealize.ShloMosaic Idealize.SL.Sem Cert.Mlp

section Reference
open Cert.RmsMemRefIdeal Cert.RmsMemRefIdeal.Gen Cert.RmsMemRefIdeal.Read

variable (x : A2 256 1024) (g : A2 1 1024) (d : A2 256 1024)

theorem ref_ms (R : Fin 256) : val_main_v6 (F := Ideal) x (ix2 R 0) = ms inv1024 (row x R) := by
  unfold val_main_v6 val_main_v5 val_main_v4 val_main_v3 val_main_v2 val_main_v1 val_main_v0 val_main_cst val_main_cst_0 val_main_cst_1 ms
  pointwise
  rw [div_1024]

theorem ref_dg : (val_main_v17 (F := Ideal) x d : A2 1 1024) = dgArr inv1024 x d := by
  refine ext2 _ _ fun R k => ?_
  unfold val_main_v17 val_main_v16 val_main_v15 val_main_v12 val_main_v11 val_main_v7 val_main_cst_3 dgArr dgTerm dgPart
  pointwise [ref_ms x]

theorem ref_slope (R : Fin 256) : val_main_v27 (F := Ideal) x g d (ix2 R 0) = slope inv1024 (row x R) (row g 0) (row d R) := by
  unfold val_main_v27 val_main_v26 val_main_v25 val_main_v22 val_main_v21 val_main_v20 val_main_v19 val_main_v18 val_main_v10 val_main_v9
    val_main_v8 val_main_v7 val_main_cst_2 val_main_cst_4 val_main_cst_5 slope
  pointwise [ref_ms x]
  rw [div_1024]

theorem ref_dx : (val_main_v33 (F := Ideal) x g d : A2 256 1024) = dxArr inv1024 x g d := by
  refine ext2 _ _ fun R k => ?_
  unfold val_main_v33 val_main_v32 val_main_v31 val_main_v30 val_main_v29 val_main_v28 val_main_v24 val_main_v23 val_main_v19
    val_main_v18 val_main_v7 val_main_cst_6 dxArr dxRow
  pointwise [ref_ms x]
  simp only [Finset.univ_unique, Finset.sum_singleton]
  have h : val_main_v27 (F := Ideal) x g d (ix2 R default) = slope inv1024 (row x R) (row g 0) (row d R) := ref_slope x g d R
  rw [h]

end Reference

section Kernel
open Cert.RmsMemIdeal Cert.RmsMemIdeal.Gen

/-- The kernel's run: its results; its arguments stay. -/
theorem kernel_run (m : Memory nD τ sig) (ρ : Dev nD → PrngReg) :
    θ_run defs (onTc main) ⟨m, fun _ => 0, ρ⟩ fun r => ∀ c,
      r.2.mem (c.tc.loc main_v0_0) = dxArr inv1024 (aX m c) (aG m c) (aD m c)
      ∧ r.2.mem (c.tc.loc main_v0_1) = dgArr inv1024 (aX m c) (aD m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨(h c).1.trans (final_dx m c), (h c).2.1.trans (final_dg m c), (h c).2.2⟩)
    (Value.run_blocks m ρ)

end Kernel

section Reference
open Cert.RmsMemRefIdeal Cert.RmsMemRefIdeal.Gen

/-- The reference's run, at the same functions. -/
theorem reference_run (m : Memory nD τ sig) (ρ : Dev nD → PrngReg)
    (p0 : Dev nD → A2 256 1024) (p1 : Dev nD → A2 1 1024) (p2 : Dev nD → A2 256 1024)
    (hm : ∀ c, m (c.tc.loc main_arg0) = p0 c
      ∧ m (c.tc.loc main_arg1) = p1 c ∧ m (c.tc.loc main_arg2) = p2 c) :
    θ_run defs (onTc main) ⟨m, fun _ => 0, ρ⟩ fun r => ∀ c,
      r.2.mem (c.tc.loc main_v33) = dxArr inv1024 (p0 c) (p1 c) (p2 c)
      ∧ r.2.mem (c.tc.loc main_v17) = dgArr inv1024 (p0 c) (p2 c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  refine (θ_run _ _ _).mono (fun r h c => ?_) (Value.run m ρ)
  obtain ⟨h0, h1, h2⟩ := hm c
  obtain ⟨r0, r1, hr⟩ := h c
  refine ⟨r0.trans ?_, r1.trans ?_, hr⟩
  · rw [Read.val_main_v33_eq, h0, h1, h2]; exact ref_dx ..
  · rw [Read.val_main_v17_eq, h0, h2]; exact ref_dg ..

end Reference

end Cert.Norm.RmsMem

end
-- ==== Proof.S5.Groups.lean ====
/-
  THE GROUPS OF STATES: 2048 states lie in 32 groups of 64, state `k` in group `k / 64`; a dense matrix has 16 rows for each
  group, and only a group's own states are nonzero in them.  The kernel spells the membership with iotas, shifts and a product
  with a 0-1 mask.
-/
module

public import proofs.«01_k».proof.Proof.Mlp.Norm

@[expose] public section

noncomputable section

namespace Cert.S5

open Idealize.ShloMosaic Cert.Mlp

/-- The group of a state. -/
def grp (k : Fin 2048) : Fin 32 := ⟨k.val / 64, by omega⟩

/-- Shifting a state's number right by six places gives its group's. -/
theorem shr_state : ∀ k : Fin 2048, IntOp.shrsi .vector (BitVec.ofNat 32 k.val) 6#32 = BitVec.ofNat 32 (grp k).val := by decide +kernel

/-- Shifting a dense row's number right by four places gives its group's. -/
theorem shr_row (g : Fin 32) (c : Fin 16) :
    IntOp.shrsi .vector (BitVec.ofNat 32 (g.val * 16 + c.val)) 4#32 = BitVec.ofNat 32 g.val :=
  (by decide +kernel : ∀ (g : Fin 32) (c : Fin 16),
    IntOp.shrsi .vector (BitVec.ofNat 32 (g.val * 16 + c.val)) 4#32 = BitVec.ofNat 32 g.val) g c

/-- Comparing two groups' numbers. -/
theorem cmp_grp : ∀ g h : Fin 32, IntOp.cmpi .eq (BitVec.ofNat 32 g.val) (BitVec.ofNat 32 h.val) = if g = h then 1#1 else 0#1 := by
  decide +kernel

/-- The mask's entry as a number. -/
theorem bit_grp (g h : Fin 32) :
    (FloatOps.sitofp (F := Ideal) FTy.f32 (BitVec.setWidth 32 (if g = h then 1#1 else 0#1)) : EReal) = if g = h then 1 else 0 := by
  by_cases e : g = h
  · rw [if_pos e, if_pos e]; show ((BitVec.toInt (BitVec.setWidth 32 1#1) : ℝ) : EReal) = 1; norm_num
  · rw [if_neg e, if_neg e]; show ((BitVec.toInt (BitVec.setWidth 32 0#1) : ℝ) : EReal) = 0; norm_num

/-- The part of a dense matrix that belongs to the groups' own states. -/
def own (t : A2 512 2048) : A2 16 2048 := fun i =>
  ∑ g : Fin 32, Scalar.select (if g = grp (i 1) then 1#1 else 0#1) (t (ix2 ⟨g.val * 16 + (i 0).val, by have := (i 0).isLt; have : (i 0).val < 16 := this; omega⟩ (i 1))) 0

/-- A sum over all states of the entries of one group. -/
theorem sum_grp (f : Fin 2048 → EReal) (g : Fin 32) :
    ∑ k, f k * (if g = grp k then 1 else 0) = ∑ p : Fin 64, f ⟨g.val * 64 + p.val, by omega⟩ := by
  simp only [mul_ite, mul_one, mul_zero]
  rw [← Finset.sum_filter]
  refine Finset.sum_bij' (fun k _ => (⟨k.val % 64, by omega⟩ : Fin 64)) (fun p _ => (⟨g.val * 64 + p.val, by omega⟩ : Fin 2048)) ?_ ?_ ?_ ?_ ?_
  · intro k _; exact Finset.mem_univ _
  · intro p _; simp only [Finset.mem_filter, Finset.mem_univ, true_and, grp, Fin.ext_iff]; omega
  · intro k hk; simp only [Finset.mem_filter, Finset.mem_univ, true_and, grp, Fin.ext_iff] at hk ⊢; omega
  · intro p _; simp only [Fin.ext_iff]; omega
  · intro k hk
    simp only [Finset.mem_filter, Finset.mem_univ, true_and, grp, Fin.ext_iff] at hk
    congr 1; simp only [Fin.ext_iff]; omega

end Cert.S5

end
-- ==== Proof.S5.S5Prep.lean ====
/-
  THE BACKWARD PASS OF THE RECURRENCE'S DISCRETIZATION: THE KERNEL'S VALUES ARE THE REFERENCE'S.

  Both are the chain rule through the same formulas, so value by value they agree once three differences are settled: the
  step size of a state is read from its group by a product with a mask or by a broadcast; a group's own part of a dense
  cotangent is found by shifts of row and column numbers or by an identity matrix; and a negation is written `0 - x` or `-x`.
-/
module

public import proofs.«01_k».proof.Proof.S5.Groups
public import proofs.«01_k».proof.Proof.Gen.S5PrepIdeal.Value
public import proofs.«01_k».proof.Proof.Gen.S5PrepRefIdeal.Read

@[expose] public section

noncomputable section

namespace Cert.S5.S5Prep

open Idealize.ShloMosaic Idealize.SL.Sem Cert.Mlp Cert.S5PrepIdeal Cert.S5PrepIdeal.Gen Cert.S5PrepRefIdeal.Read

/-- Subtracting from zero is negating. -/
theorem zero_sub_eq {s : Shape} (v : FVec Ideal s .f32) :
    subf (broadcast s (Scalar.ofBits (F := Ideal) .f32 0x00000000#32)) v = Host.negf v := by
  funext i
  show Ideal.ofBits .f32 0x00000000#32 - v i = -(v i)
  have h : Ideal.ofBits .f32 0x00000000#32 = 0 := by simp [Ideal.ofBits, Ideal.ieee]
  rw [h, zero_sub]

/-- The mask of groups, as numbers. -/
theorem mask_at (g : Fin 32) (k : Fin 2048) : (k0_pay1 (F := Ideal) : A2 32 2048) (ix2 g k) = if g = grp k then 1 else 0 := by
  unfold k0_pay1
  pointwise
  rw [shr_state, cmp_grp]; exact bit_grp _ _

/-- Every state's step size. -/
theorem p3 (x2 : A2 1 32) : (k0_pay3 (F := Ideal) x2 : A2 1 2048) = val_main_v3 (F := Ideal) x2 := by
  refine ext2 _ _ fun z k => ?_
  unfold val_main_v3 val_main_v2 val_main_v1 val_main_v0 k0_pay3 k0_pay2
  pointwise [mask_at]
  rw [Finset.sum_eq_single (grp k) (fun g _ h => by rw [if_neg h, mul_zero]) (fun h => absurd (Finset.mem_univ _) h), if_pos rfl, mul_one]
  rw [Subsingleton.elim z 0]; rfl

/-- The reference's membership of a state in a group. -/
theorem own_ref (g : Fin 32) (c : Fin 16) (k : Fin 2048) :
    val_main_v52_1 (F := Ideal) (ix3 g c k) = if g = grp k then 1#1 else 0#1 := by
  unfold val_main_v52_1 val_main_v49 val_main_v48 val_main_v47 val_main_v46 val_main_v45 val_main_v44 val_main_v43 val_main_v42 val_main_c
  pointwise
  rw [← cmp_grp]; congr 1; exact BitVec.add_zero _

/-- The kernel's membership of a row and a state. -/
abbrev same : IVec S512x2048 1 := k0_pay20 (iota .tc S512x2048 32 [0] iota_S512x2048_d0_w32) k0_pay19

theorem same_at (g : Fin 32) (c : Fin 16) (k : Fin 2048) (h : g.val * 16 + c.val < 512) :
    same (ix2 ⟨g.val * 16 + c.val, h⟩ k) = if g = grp k then 1#1 else 0#1 := by
  unfold same k0_pay20 k0_pay19
  pointwise
  rw [shr_state, shr_row, cmp_grp]

/-- The kernel's own part of a dense matrix. -/
theorem own_ker (t : A2 512 2048) : (k0_pay26 (F := Ideal) same t : A2 16 2048) = own t := by
  refine ext2 _ _ fun c k => ?_
  unfold k0_pay26
  pointwise
  simp only [Fin.sum_univ_one]
  exact Finset.sum_congr rfl fun g _ => by rw [same_at g c k]; rfl

variable (x0 x1 : A2 1 2048) (x2 : A2 1 32) (x3 x4 : A2 16 2048) (x7 x8 : A2 1 2048) (x9 x10 : A3 2 512 2048)

theorem ref85 : (val_main_v85 (F := Ideal) x9 : A2 16 2048) = own (val_main_v76 (F := Ideal) x9) := by
  refine ext2 _ _ fun c k => ?_
  unfold val_main_v85 val_main_v84 val_main_call6_v2 val_main_call6_v1 val_main_v83 val_main_call6_v0 val_main_call6_cst val_main_call6_cst_0 val_main_cst_8
  generalize val_main_v76 (F := Ideal) x9 = t
  rw [show (val_main_v55_1 (F := Ideal)) = val_main_v52_1 (F := Ideal) from rfl]
  pointwise [own_ref]
  simp only [Fin.sum_univ_one]
  rfl

theorem ref88 : (val_main_v88 (F := Ideal) x9 : A2 16 2048) = own (val_main_v74 (F := Ideal) x9) := by
  refine ext2 _ _ fun c k => ?_
  unfold val_main_v88 val_main_v87 val_main_call7_v2 val_main_call7_v1 val_main_v86 val_main_call7_v0 val_main_call7_cst val_main_call7_cst_0 val_main_cst_9
  generalize val_main_v74 (F := Ideal) x9 = t
  pointwise [own_ref]
  simp only [Fin.sum_univ_one]
  rfl

/-- The two layers of a stack of dense matrices, as the kernel loads them. -/
theorem layer0 : (k0_pay21 (F := Ideal) (View.ld x9 r0_3) : A2 512 2048) = val_main_v74 (F := Ideal) x9 := by
  refine ext2 _ _ fun r k => ?_
  unfold k0_pay21 val_main_v74 val_main_v73
  pointwise

theorem layer1 : (k0_pay21 (F := Ideal) (View.ld x9 r0_4) : A2 512 2048) = val_main_v76 (F := Ideal) x9 := by
  refine ext2 _ _ fun r k => ?_
  unfold k0_pay21 val_main_v76 val_main_v75
  pointwise

/-! The forward values. -/

theorem p5 : (k0_pay5 (F := Ideal) x0 x2 : A2 1 2048) = val_main_v6 (F := Ideal) x0 x2 := by
  unfold k0_pay5
  rw [p3]
  rfl

theorem p6 : (k0_pay6 (F := Ideal) x1 x2 : A2 1 2048) = val_main_v7 (F := Ideal) x1 x2 := by
  unfold k0_pay6 k0_pay4
  rw [p3]
  rfl

theorem p7 : (k0_pay7 (F := Ideal) x1 x2 : A2 1 2048) = val_main_v8 (F := Ideal) x1 x2 := by
  unfold k0_pay7 k0_pay4
  rw [p3]
  rfl

theorem p8 : (k0_pay8 (F := Ideal) x1 x2 : A2 1 2048) = val_main_v10 (F := Ideal) x1 x2 := by
  unfold k0_pay8 k0_pay4
  rw [p3]
  rfl

theorem p9 : (k0_pay9 (F := Ideal) x1 x2 : A2 1 2048) = val_main_v11 (F := Ideal) x1 x2 := by
  unfold k0_pay9 k0_pay4
  rw [p3]
  rfl

theorem p10 : (k0_pay10 (F := Ideal) x0 x1 x2 : A2 1 2048) = val_main_v12 (F := Ideal) x0 x1 x2 := by
  unfold k0_pay10
  rw [p5, p8]
  rfl

theorem p11 : (k0_pay11 (F := Ideal) x0 x1 x2 : A2 1 2048) = val_main_v14 (F := Ideal) x0 x1 x2 := by
  unfold k0_pay11
  rw [p5, p6]
  rfl

theorem p12 : (k0_pay12 (F := Ideal) x0 x1 : A2 1 2048) = val_main_v17 (F := Ideal) x0 x1 := by
  unfold k0_pay12
  rfl

theorem p13 : (k0_pay13 (F := Ideal) x0 x1 x2 : A2 1 2048) = val_main_v20 (F := Ideal) x0 x1 x2 := by
  unfold k0_pay13
  rw [p10, p11]
  rfl

theorem p14 : (k0_pay14 (F := Ideal) x0 x1 x2 : A2 1 2048) = val_main_v21 (F := Ideal) x0 x1 x2 := by
  unfold k0_pay14
  rw [p12, p13]
  rfl

theorem p15 : (k0_pay15 (F := Ideal) x0 x1 : A2 1 2048) = val_main_v24 (F := Ideal) x0 x1 := by
  unfold k0_pay15
  rw [p12]
  rfl

theorem p16 : (k0_pay16 (F := Ideal) x0 x1 x2 : A2 1 2048) = val_main_v27 (F := Ideal) x0 x1 x2 := by
  unfold k0_pay16
  rw [p10, p11]
  rfl

theorem p17 : (k0_pay17 (F := Ideal) x0 x1 x2 : A2 1 2048) = val_main_v28 (F := Ideal) x0 x1 x2 := by
  unfold k0_pay17
  rw [p12, p16]
  rfl

theorem p18 : (k0_pay18 (F := Ideal) x0 x1 : A2 1 2048) = val_main_v31 (F := Ideal) x0 x1 := by
  unfold k0_pay18
  rw [p12]
  rfl

/-! The gradients.  `E` and `D` are the two layers of the first dense cotangent. -/

section Grads
variable {M : IVec S512x2048 1} {D : FVec Ideal S512x2048 .f32} {E : FVec Ideal S1x16x2048 .f32}
  (h25 : (k0_pay25 (F := Ideal) E : A2 16 2048) = val_main_v85 (F := Ideal) x9)
  (h26 : (k0_pay26 (F := Ideal) M D : A2 16 2048) = val_main_v88 (F := Ideal) x9)
include h25 h26

omit h25 in
theorem p27 : (k0_pay27 (F := Ideal) M D : A2 16 2048) = val_main_v100 (F := Ideal) x9 := by
  unfold k0_pay27
  rw [h26]; exact zero_sub_eq _

theorem p28 : (k0_pay28 (F := Ideal) (val_main_v21 (F := Ideal) x0 x1 x2) (val_main_v28 (F := Ideal) x0 x1 x2) M D E : A2 16 2048) = val_main_v103 (F := Ideal) x0 x1 x2 x9 := by
  refine ext2 _ _ fun c k => ?_
  unfold k0_pay28 val_main_v103 val_main_v102 val_main_v101 val_main_v96 val_main_v95
  rw [h25, p27 x9 h26]
  pointwise

theorem p30 : (k0_pay30 (F := Ideal) (val_main_v21 (F := Ideal) x0 x1 x2) (val_main_v28 (F := Ideal) x0 x1 x2) M D E : A2 16 2048) = val_main_v110 (F := Ideal) x0 x1 x2 x9 := by
  refine ext2 _ _ fun c k => ?_
  unfold k0_pay30 val_main_v110 val_main_v109 val_main_v108 val_main_v91 val_main_v90
  rw [h25, h26]
  pointwise

theorem p29 : (k0_pay29 (F := Ideal) x3 x4 M D E : A2 1 2048) = val_main_v107 (F := Ideal) x3 x4 x9 := by
  refine ext2 _ _ fun z k => ?_
  unfold k0_pay29 val_main_v107 val_main_v106 val_main_v105 val_main_v104 val_main_v94 val_main_v93 val_main_v92 val_main_cst_10 val_main_cst_12
  rw [h25, p27 x9 h26]
  pointwise

theorem p31 : (k0_pay31 (F := Ideal) x3 x4 M D E : A2 1 2048) = val_main_v114 (F := Ideal) x3 x4 x9 := by
  refine ext2 _ _ fun z k => ?_
  unfold k0_pay31 val_main_v114 val_main_v113 val_main_v112 val_main_v111 val_main_v99 val_main_v98 val_main_v97 val_main_cst_11 val_main_cst_13
  rw [h25, h26]
  pointwise

theorem p32 : (k0_pay32 (F := Ideal) x3 x4 (val_main_v27 (F := Ideal) x0 x1 x2) (val_main_v31 (F := Ideal) x0 x1) M D E : A2 1 2048) = val_main_v117 (F := Ideal) x0 x1 x2 x3 x4 x9 := by
  unfold k0_pay32
  rw [p29 x3 x4 x9 h25 h26]
  exact zero_sub_eq _

theorem p33 : (k0_pay33 (F := Ideal) x3 x4 (val_main_v17 (F := Ideal) x0 x1) M D E : A2 1 2048) = val_main_v118 (F := Ideal) x0 x1 x3 x4 x9 := by
  unfold k0_pay33
  rw [p29 x3 x4 x9 h25 h26]
  rfl

theorem p34 : (k0_pay34 (F := Ideal) x3 x4 (val_main_v17 (F := Ideal) x0 x1) M D E : A2 1 2048) = val_main_v119 (F := Ideal) x0 x1 x3 x4 x9 := by
  unfold k0_pay34
  rw [p33 x0 x1 x3 x4 x9 h25 h26]
  exact zero_sub_eq _

theorem p35 : (k0_pay35 (F := Ideal) x3 x4 (val_main_v14 (F := Ideal) x0 x1 x2) (val_main_v17 (F := Ideal) x0 x1) M D E : A2 1 2048) = val_main_v120 (F := Ideal) x0 x1 x2 x3 x4 x9 := by
  unfold k0_pay35
  rw [p34 x0 x1 x3 x4 x9 h25 h26]
  rfl

theorem p36 : (k0_pay36 (F := Ideal) x1 x3 x4 (val_main_v17 (F := Ideal) x0 x1) M x7 D E : A2 1 2048) = val_main_v122 (F := Ideal) x0 x1 x3 x4 x7 x9 := by
  unfold k0_pay36
  rw [p34 x0 x1 x3 x4 x9 h25 h26]
  rfl

theorem p37 : (k0_pay37 (F := Ideal) x3 x4 (val_main_v12 (F := Ideal) x0 x1 x2) (val_main_v17 (F := Ideal) x0 x1) M D E : A2 1 2048) = val_main_v123 (F := Ideal) x0 x1 x2 x3 x4 x9 := by
  unfold k0_pay37
  rw [p33 x0 x1 x3 x4 x9 h25 h26]
  rfl

theorem p38 : (k0_pay38 (F := Ideal) x0 x3 x4 (val_main_v17 (F := Ideal) x0 x1) M x8 D E : A2 1 2048) = val_main_v125 (F := Ideal) x0 x1 x3 x4 x8 x9 := by
  unfold k0_pay38
  rw [p33 x0 x1 x3 x4 x9 h25 h26]
  rfl

theorem p39 : (k0_pay39 (F := Ideal) x3 x4 (val_main_v20 (F := Ideal) x0 x1 x2) (val_main_v24 (F := Ideal) x0 x1) M D E : A2 1 2048) = val_main_v127 (F := Ideal) x0 x1 x2 x3 x4 x9 := by
  unfold k0_pay39
  rw [p31 x3 x4 x9 h25 h26]
  rfl

end Grads

theorem p40 : (k0_pay40 (F := Ideal) (val_main_v117 (F := Ideal) x0 x1 x2 x3 x4 x9) (val_main_v127 (F := Ideal) x0 x1 x2 x3 x4 x9) (Scalar.ofBits (F := Ideal) .f32 0x00000000#32) : A2 1 2048) = val_main_v129 (F := Ideal) x0 x1 x2 x3 x4 x9 :=
  congrArg (addf _) (zero_sub_eq _)

theorem p41 : (k0_pay41 (F := Ideal) (val_main_v17 (F := Ideal) x0 x1) (val_main_v114 (F := Ideal) x3 x4 x9) : A2 1 2048) = val_main_v130 (F := Ideal) x0 x1 x3 x4 x9 := rfl

theorem p42 : (k0_pay42 (F := Ideal) x1 (val_main_v17 (F := Ideal) x0 x1) (val_main_v114 (F := Ideal) x3 x4 x9) (val_main_v125 (F := Ideal) x0 x1 x3 x4 x8 x9) : A2 1 2048) = val_main_v134 (F := Ideal) x0 x1 x3 x4 x8 x9 := by
  unfold k0_pay42
  rw [p41 x0 x1 x3 x4 x9]
  rfl

theorem p43 : (k0_pay43 (F := Ideal) x0 (val_main_v17 (F := Ideal) x0 x1) (val_main_v114 (F := Ideal) x3 x4 x9) (val_main_v122 (F := Ideal) x0 x1 x3 x4 x7 x9) : A2 1 2048) = val_main_v138 (F := Ideal) x0 x1 x3 x4 x7 x9 := by
  unfold k0_pay43
  rw [p41 x0 x1 x3 x4 x9]
  rfl

theorem p44 : (k0_pay44 (F := Ideal) x0 x1 (val_main_v6 (F := Ideal) x0 x2) (val_main_v8 (F := Ideal) x1 x2) (val_main_v11 (F := Ideal) x1 x2) (val_main_v17 (F := Ideal) x0 x1) (val_main_v114 (F := Ideal) x3 x4 x9) (val_main_v122 (F := Ideal) x0 x1 x3 x4 x7 x9) (val_main_v125 (F := Ideal) x0 x1 x3 x4 x8 x9) : A2 1 2048) = val_main_v155 (F := Ideal) x0 x1 x2 x3 x4 x7 x8 x9 := by
  unfold k0_pay44
  rw [p42 x0 x1 x3 x4 x8 x9, p43 x0 x1 x3 x4 x7 x9]
  dsimp only; rw [zero_sub_eq]; rfl

theorem p45 : (k0_pay45 (F := Ideal) x0 x1 (val_main_v6 (F := Ideal) x0 x2) (val_main_v7 (F := Ideal) x1 x2) (val_main_v10 (F := Ideal) x1 x2) (val_main_v17 (F := Ideal) x0 x1) (val_main_v114 (F := Ideal) x3 x4 x9) (val_main_v122 (F := Ideal) x0 x1 x3 x4 x7 x9) (val_main_v125 (F := Ideal) x0 x1 x3 x4 x8 x9) : A2 1 2048) = val_main_v156 (F := Ideal) x0 x1 x2 x3 x4 x7 x8 x9 := by
  unfold k0_pay45
  rw [p42 x0 x1 x3 x4 x8 x9, p43 x0 x1 x3 x4 x7 x9]
  rfl

theorem p46 : (k0_pay46 (F := Ideal) x0 x1 (val_main_v3 (F := Ideal) x2) (val_main_v6 (F := Ideal) x0 x2) (val_main_v8 (F := Ideal) x1 x2) (val_main_v11 (F := Ideal) x1 x2) (val_main_v12 (F := Ideal) x0 x1 x2) (val_main_v17 (F := Ideal) x0 x1) (val_main_v114 (F := Ideal) x3 x4 x9) (val_main_v117 (F := Ideal) x0 x1 x2 x3 x4 x9) (val_main_v120 (F := Ideal) x0 x1 x2 x3 x4 x9) (val_main_v122 (F := Ideal) x0 x1 x3 x4 x7 x9) (val_main_v125 (F := Ideal) x0 x1 x3 x4 x8 x9) (val_main_v127 (F := Ideal) x0 x1 x2 x3 x4 x9) (Scalar.ofBits (F := Ideal) .f32 0x00000000#32) : A2 1 2048) = val_main_v159 (F := Ideal) x0 x1 x2 x3 x4 x7 x8 x9 := by
  unfold k0_pay46
  rw [p41 x0 x1 x3 x4 x9, p40 x0 x1 x2 x3 x4 x9, p44 x0 x1 x2 x3 x4 x7 x8 x9]
  rfl

theorem p47 : (k0_pay47 (F := Ideal) x0 x1 (val_main_v3 (F := Ideal) x2) (val_main_v6 (F := Ideal) x0 x2) (val_main_v7 (F := Ideal) x1 x2) (val_main_v10 (F := Ideal) x1 x2) (val_main_v14 (F := Ideal) x0 x1 x2) (val_main_v17 (F := Ideal) x0 x1) (val_main_v114 (F := Ideal) x3 x4 x9) (val_main_v117 (F := Ideal) x0 x1 x2 x3 x4 x9) (val_main_v122 (F := Ideal) x0 x1 x3 x4 x7 x9) (val_main_v123 (F := Ideal) x0 x1 x2 x3 x4 x9) (val_main_v125 (F := Ideal) x0 x1 x3 x4 x8 x9) (val_main_v127 (F := Ideal) x0 x1 x2 x3 x4 x9) (Scalar.ofBits (F := Ideal) .f32 0x00000000#32) : A2 1 2048) = val_main_v163 (F := Ideal) x0 x1 x2 x3 x4 x7 x8 x9 := by
  unfold k0_pay47
  rw [p41 x0 x1 x3 x4 x9, p40 x0 x1 x2 x3 x4 x9, p45 x0 x1 x2 x3 x4 x7 x8 x9]
  rfl

/-- A group's sum over its states: the kernel's product with the mask. -/
theorem p48 : (k0_pay48 (F := Ideal) x0 x1 (k0_pay1 (F := Ideal)) (k0_pay2 (F := Ideal) x2) (val_main_v6 (F := Ideal) x0 x2) (val_main_v7 (F := Ideal) x1 x2) (val_main_v8 (F := Ideal) x1 x2) (val_main_v10 (F := Ideal) x1 x2) (val_main_v11 (F := Ideal) x1 x2) (val_main_v17 (F := Ideal) x0 x1) (val_main_v114 (F := Ideal) x3 x4 x9) (val_main_v122 (F := Ideal) x0 x1 x3 x4 x7 x9) (val_main_v125 (F := Ideal) x0 x1 x3 x4 x8 x9) : A2 1 32) = val_main_v168 (F := Ideal) x0 x1 x2 x3 x4 x7 x8 x9 := by
  refine ext2 _ _ fun z g => ?_
  unfold k0_pay48
  rw [p44 x0 x1 x2 x3 x4 x7 x8 x9, p45 x0 x1 x2 x3 x4 x7 x8 x9]
  unfold val_main_v168 val_main_v167 val_main_v166 val_main_v165 val_main_v164 val_main_cst_14 val_main_v161 val_main_v160 val_main_v157 val_main_v0 k0_pay2
  pointwise [mask_at]
  rw [sum_grp (fun k => x1 (ix2 z k) * val_main_v155 (F := Ideal) x0 x1 x2 x3 x4 x7 x8 x9 (ix2 z k) + x0 (ix2 z k) * val_main_v156 (F := Ideal) x0 x1 x2 x3 x4 x7 x8 x9 (ix2 z k)) g]
  rw [Subsingleton.elim z 0]

end Cert.S5.S5Prep

end
-- ==== Proof.S5.S5PrepClaims.lean ====
/-
  THE BACKWARD PASS OF THE RECURRENCE'S DISCRETIZATION: THE KERNEL'S RUN AND THE REFERENCE'S RUN, AT THE SAME ARRAYS.
-/
module

public import proofs.«01_k».proof.Proof.S5.S5Prep

@[expose] public section

noncomputable section

namespace Cert.S5.S5Prep

open Idealize.ShloMosaic Idealize.SL.Sem Cert.Mlp Cert.S5PrepRefIdeal.Read

section Kernel
open Cert.S5PrepIdeal Cert.S5PrepIdeal.Gen Cert.S5PrepIdeal.Value

variable (x0 x1 : A2 1 2048) (x2 : A2 1 32) (x3 x4 x5 x6 : A2 16 2048) (x7 x8 : A2 1 2048) (x9 x10 : A3 2 512 2048)

/-- Loading a whole block gives the block. -/
theorem ldA (x : Vec Ideal S1x2048 .f32) : View.ld x r0_0 = x := View.ld_unit_zero (S := S1x2048) hz0 _ x
theorem ldT (x : Vec Ideal S1x32 .f32) : View.ld x r0_1 = x := View.ld_unit_zero (S := S1x32) hz2 _ x
theorem ldC (x : Vec Ideal S16x2048 .f32) : View.ld x r0_2 = x := View.ld_unit_zero (S := S16x2048) hz3 _ x

/-- A group's own part of the first layer of a dense cotangent. -/
theorem own0 : (k0_pay26 (F := Ideal) same (k0_pay21 (F := Ideal) (View.ld x9 r0_3)) : A2 16 2048) = val_main_v88 (F := Ideal) x9 := by
  rw [layer0, own_ker, ref88]

/-- And of the second layer. -/
theorem own1 : (k0_pay26 (F := Ideal) same (k0_pay21 (F := Ideal) (View.ld x9 r0_4)) : A2 16 2048) = val_main_v85 (F := Ideal) x9 := by
  rw [layer1, own_ker, ref85]

theorem own1' : k0_pay25 (F := Ideal) (k0_pay24 (iota .tc S512x2048 32 [0] iota_S512x2048_d0_w32) k0_pay19 (View.ld x9 r0_4))
    = val_main_v85 (F := Ideal) x9 := own1 x9

theorem g11 : Value.G11 (F := Ideal) x0 x1 x2 x3 x4 x5 x6 x7 x8 x9 x10 = val_main_v163 (F := Ideal) x0 x1 x2 x3 x4 x7 x8 x9 := by
  unfold Value.G11 k0_pay69 k0_pay68 k0_pay67 k0_pay66 k0_pay65 k0_pay64 k0_pay63 k0_pay62 k0_pay61 k0_pay58 k0_pay57 k0_pay56 k0_pay54 k0_pay52 k0_pay51 k0_pay50 k0_pay49
  simp only [ldA, ldT, ldC]
  rw [p3, p5, p6, p8, p11, p12, p13, p15, p16, p18, p31 x3 x4 x9 (own1' x9) (own0 x9), p32 x0 x1 x2 x3 x4 x9 (own1' x9) (own0 x9), p36 x0 x1 x3 x4 x7 x9 (own1' x9) (own0 x9), p38 x0 x1 x3 x4 x8 x9 (own1' x9) (own0 x9), p39 x0 x1 x2 x3 x4 x9 (own1' x9) (own0 x9), p10, p37 x0 x1 x2 x3 x4 x9 (own1' x9) (own0 x9), p47]

theorem g12 : Value.G12 (F := Ideal) x0 x1 x2 x3 x4 x5 x6 x7 x8 x9 x10 = val_main_v159 (F := Ideal) x0 x1 x2 x3 x4 x7 x8 x9 := by
  unfold Value.G12 k0_pay69 k0_pay68 k0_pay67 k0_pay66 k0_pay65 k0_pay64 k0_pay63 k0_pay62 k0_pay61 k0_pay58 k0_pay57 k0_pay56 k0_pay55 k0_pay53 k0_pay51 k0_pay50 k0_pay49
  simp only [ldA, ldT, ldC]
  rw [p3, p5, p7, p9, p10, p11, p12, p13, p15, p16, p18, p31 x3 x4 x9 (own1' x9) (own0 x9), p32 x0 x1 x2 x3 x4 x9 (own1' x9) (own0 x9), p36 x0 x1 x3 x4 x7 x9 (own1' x9) (own0 x9), p38 x0 x1 x3 x4 x8 x9 (own1' x9) (own0 x9), p39 x0 x1 x2 x3 x4 x9 (own1' x9) (own0 x9), p35 x0 x1 x2 x3 x4 x9 (own1' x9) (own0 x9), p46]

theorem g13 : Value.G13 (F := Ideal) x0 x1 x2 x3 x4 x5 x6 x7 x8 x9 x10 = val_main_v168 (F := Ideal) x0 x1 x2 x3 x4 x7 x8 x9 := by
  unfold Value.G13 k0_pay68 k0_pay67 k0_pay65 k0_pay64 k0_pay63 k0_pay62 k0_pay61 k0_pay58 k0_pay55 k0_pay54 k0_pay53 k0_pay52 k0_pay51 k0_pay49
  simp only [ldA, ldT, ldC]
  rw [p5, p6, p7, p8, p9, p12, p31 x3 x4 x9 (own1' x9) (own0 x9), p36 x0 x1 x3 x4 x7 x9 (own1' x9) (own0 x9), p38 x0 x1 x3 x4 x8 x9 (own1' x9) (own0 x9), p48]

theorem g14 : Value.G14 (F := Ideal) x0 x1 x2 x3 x4 x5 x6 x7 x8 x9 x10 = val_main_v110 (F := Ideal) x0 x1 x2 x9 := by
  unfold Value.G14 k0_pay64 k0_pay63 k0_pay62 k0_pay61 k0_pay60 k0_pay59 k0_pay49
  simp only [ldA, ldT, ldC]
  rw [p14, p17, p30 x0 x1 x2 x9 (own1' x9) (own0 x9)]

theorem g15 : Value.G15 (F := Ideal) x0 x1 x2 x3 x4 x5 x6 x7 x8 x9 x10 = val_main_v103 (F := Ideal) x0 x1 x2 x9 := by
  unfold Value.G15 k0_pay64 k0_pay63 k0_pay62 k0_pay61 k0_pay60 k0_pay59 k0_pay49
  simp only [ldA, ldT, ldC]
  rw [p14, p17, p28 x0 x1 x2 x9 (own1' x9) (own0 x9)]

theorem g16 : Value.G16 (F := Ideal) x0 x1 x2 x3 x4 x5 x6 x7 x8 x9 x10 = val_main_v82 (F := Ideal) x10 := own0 x10

theorem g17 : Value.G17 (F := Ideal) x0 x1 x2 x3 x4 x5 x6 x7 x8 x9 x10 = val_main_v89 (F := Ideal) x10 :=
  (zero_sub_eq _).trans (congrArg Host.negf (own1 x10))

/-- The kernel's run: its results are the reference's values at the kernel's arguments, which are unchanged. -/
theorem kernel_run (m : Memory nD τ sig) (ρ : Dev nD → PrngReg) :
    θ_run defs (onTc main) ⟨m, fun _ => 0, ρ⟩ fun r => ∀ c : Dev nD,
      r.2.mem (c.tc.loc main_v0_0) = val_main_v163 (F := Ideal) (m (c.tc.loc main_arg0)) (m (c.tc.loc main_arg1)) (m (c.tc.loc main_arg2)) (m (c.tc.loc main_arg3)) (m (c.tc.loc main_arg4)) (m (c.tc.loc main_arg7)) (m (c.tc.loc main_arg8)) (m (c.tc.loc main_arg9))
      ∧ r.2.mem (c.tc.loc main_v0_1) = val_main_v159 (F := Ideal) (m (c.tc.loc main_arg0)) (m (c.tc.loc main_arg1)) (m (c.tc.loc main_arg2)) (m (c.tc.loc main_arg3)) (m (c.tc.loc main_arg4)) (m (c.tc.loc main_arg7)) (m (c.tc.loc main_arg8)) (m (c.tc.loc main_arg9))
      ∧ r.2.mem (c.tc.loc main_v0_2) = val_main_v168 (F := Ideal) (m (c.tc.loc main_arg0)) (m (c.tc.loc main_arg1)) (m (c.tc.loc main_arg2)) (m (c.tc.loc main_arg3)) (m (c.tc.loc main_arg4)) (m (c.tc.loc main_arg7)) (m (c.tc.loc main_arg8)) (m (c.tc.loc main_arg9))
      ∧ r.2.mem (c.tc.loc main_v0_3) = val_main_v110 (F := Ideal) (m (c.tc.loc main_arg0)) (m (c.tc.loc main_arg1)) (m (c.tc.loc main_arg2)) (m (c.tc.loc main_arg9))
      ∧ r.2.mem (c.tc.loc main_v0_4) = val_main_v103 (F := Ideal) (m (c.tc.loc main_arg0)) (m (c.tc.loc main_arg1)) (m (c.tc.loc main_arg2)) (m (c.tc.loc main_arg9))
      ∧ r.2.mem (c.tc.loc main_v0_5) = val_main_v82 (F := Ideal) (m (c.tc.loc main_arg10))
      ∧ r.2.mem (c.tc.loc main_v0_6) = val_main_v89 (F := Ideal) (m (c.tc.loc main_arg10))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)
      ∧ r.2.mem (c.tc.loc main_arg10) = m (c.tc.loc main_arg10) := by
  refine (θ_run defs _ _).mono (fun r h c => ?_) (Value.run m ρ)
  obtain ⟨h0, h1, h2, h3, h4, h5, h6, hr⟩ := h c
  exact ⟨h0.trans (g11 ..), h1.trans (g12 ..), h2.trans (g13 ..), h3.trans (g14 ..), h4.trans (g15 ..), h5.trans (g16 ..), h6.trans (g17 ..), hr⟩

end Kernel

section Reference
open Cert.S5PrepRefIdeal Cert.S5PrepRefIdeal.Gen

/-- The reference's run, at the same functions. -/
theorem reference_run (m : Memory nD τ sig) (ρ : Dev nD → PrngReg)
    (p0 : Dev nD → A2 1 2048) (p1 : Dev nD → A2 1 2048) (p2 : Dev nD → A2 1 32) (p3 : Dev nD → A2 16 2048) (p4 : Dev nD → A2 16 2048) (p5 : Dev nD → A2 16 2048) (p6 : Dev nD → A2 16 2048) (p7 : Dev nD → A2 1 2048) (p8 : Dev nD → A2 1 2048) (p9 : Dev nD → A3 2 512 2048) (p10 : Dev nD → A3 2 512 2048)
    (hm : ∀ c : Dev nD, m (c.tc.loc main_arg0) = p0 c ∧ m (c.tc.loc main_arg1) = p1 c ∧ m (c.tc.loc main_arg2) = p2 c ∧ m (c.tc.loc main_arg3) = p3 c ∧ m (c.tc.loc main_arg4) = p4 c ∧ m (c.tc.loc main_arg5) = p5 c ∧ m (c.tc.loc main_arg6) = p6 c ∧ m (c.tc.loc main_arg7) = p7 c ∧ m (c.tc.loc main_arg8) = p8 c ∧ m (c.tc.loc main_arg9) = p9 c ∧ m (c.tc.loc main_arg10) = p10 c) :
    θ_run defs (onTc main) ⟨m, fun _ => 0, ρ⟩ fun r => ∀ c : Dev nD,
      r.2.mem (c.tc.loc main_v163) = val_main_v163 (F := Ideal) (p0 c) (p1 c) (p2 c) (p3 c) (p4 c) (p7 c) (p8 c) (p9 c)
      ∧ r.2.mem (c.tc.loc main_v159) = val_main_v159 (F := Ideal) (p0 c) (p1 c) (p2 c) (p3 c) (p4 c) (p7 c) (p8 c) (p9 c)
      ∧ r.2.mem (c.tc.loc main_v168) = val_main_v168 (F := Ideal) (p0 c) (p1 c) (p2 c) (p3 c) (p4 c) (p7 c) (p8 c) (p9 c)
      ∧ r.2.mem (c.tc.loc main_v110) = val_main_v110 (F := Ideal) (p0 c) (p1 c) (p2 c) (p9 c)
      ∧ r.2.mem (c.tc.loc main_v103) = val_main_v103 (F := Ideal) (p0 c) (p1 c) (p2 c) (p9 c)
      ∧ r.2.mem (c.tc.loc main_v82) = val_main_v82 (F := Ideal) (p10 c)
      ∧ r.2.mem (c.tc.loc main_v89) = val_main_v89 (F := Ideal) (p10 c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)
      ∧ r.2.mem (c.tc.loc main_arg10) = m (c.tc.loc main_arg10) := by
  refine (θ_run _ _ _).mono (fun r h c => ?_) (Value.run m ρ)
  obtain ⟨h0, h1, h2, h3, h4, h5, h6, h7, h8, h9, h10⟩ := hm c
  obtain ⟨r0, r1, r2, r3, r4, r5, r6, hr⟩ := h c
  rw [← h0, ← h1, ← h2, ← h3, ← h4, ← h7, ← h8, ← h9, ← h10]
  exact ⟨r0.trans (Read.val_main_v163_eq _), r1.trans (Read.val_main_v159_eq _), r2.trans (Read.val_main_v168_eq _), r3.trans (Read.val_main_v110_eq _), r4.trans (Read.val_main_v103_eq _), r5.trans (Read.val_main_v82_eq _), r6.trans (Read.val_main_v89_eq _), hr⟩

end Reference

end Cert.S5.S5Prep

end
-- ==== Proof.lean ====
/-
  THE CLAIMS: every program runs and leaves its arguments and its semaphores as they were, and each kernel's results are
  its reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Glu.Claims
public import proofs.«01_k».proof.Proof.Gen.DAct
public import proofs.«01_k».proof.Proof.Gen.DAct.Skeleton
public import proofs.«01_k».proof.Proof.Gen.DAct.Launch
public import proofs.«01_k».proof.Proof.Gen.DAct.Points
public import proofs.«01_k».proof.Proof.Gen.DAct.Frame
public import proofs.«01_k».proof.Proof.Gen.DActIdeal
public import proofs.«01_k».proof.Proof.Gen.DActIdeal.Skeleton
public import proofs.«01_k».proof.Proof.Gen.DActIdeal.Launch
public import proofs.«01_k».proof.Proof.Gen.DActIdeal.Points
public import proofs.«01_k».proof.Proof.Gen.DActIdeal.Frame
public import proofs.«01_k».proof.Proof.Gen.DActIdeal.Value
public import proofs.«01_k».proof.Proof.Gen.DActRefIdeal
public import proofs.«01_k».proof.Proof.Gen.DActRefIdeal.Run
public import proofs.«01_k».proof.Proof.Gen.DActRefIdeal.Read
public import proofs.«01_k».proof.Proof.Mlp.DActClaims
public import proofs.«01_k».proof.Proof.Gen.DwDown
public import proofs.«01_k».proof.Proof.Gen.DwDown.Skeleton
public import proofs.«01_k».proof.Proof.Gen.DwDown.Launch
public import proofs.«01_k».proof.Proof.Gen.DwDown.Points
public import proofs.«01_k».proof.Proof.Gen.DwDown.Frame
public import proofs.«01_k».proof.Proof.Gen.DwDownIdeal
public import proofs.«01_k».proof.Proof.Gen.DwDownIdeal.Skeleton
public import proofs.«01_k».proof.Proof.Gen.DwDownIdeal.Launch
public import proofs.«01_k».proof.Proof.Gen.DwDownIdeal.Points
public import proofs.«01_k».proof.Proof.Gen.DwDownIdeal.Frame
public import proofs.«01_k».proof.Proof.Gen.DwDownIdeal.Value
public import proofs.«01_k».proof.Proof.Gen.DwDownRefIdeal
public import proofs.«01_k».proof.Proof.Gen.DwDownRefIdeal.Run
public import proofs.«01_k».proof.Proof.Gen.DwDownRefIdeal.Read
public import proofs.«01_k».proof.Proof.Mlp.DwDownClaims
public import proofs.«01_k».proof.Proof.Gen.DwUp
public import proofs.«01_k».proof.Proof.Gen.DwUp.Skeleton
public import proofs.«01_k».proof.Proof.Gen.DwUp.Launch
public import proofs.«01_k».proof.Proof.Gen.DwUp.Points
public import proofs.«01_k».proof.Proof.Gen.DwUp.Frame
public import proofs.«01_k».proof.Proof.Gen.DwUpIdeal
public import proofs.«01_k».proof.Proof.Gen.DwUpIdeal.Skeleton
public import proofs.«01_k».proof.Proof.Gen.DwUpIdeal.Launch
public import proofs.«01_k».proof.Proof.Gen.DwUpIdeal.Points
public import proofs.«01_k».proof.Proof.Gen.DwUpIdeal.Frame
public import proofs.«01_k».proof.Proof.Gen.DwUpIdeal.Value
public import proofs.«01_k».proof.Proof.Gen.DwUpRefIdeal
public import proofs.«01_k».proof.Proof.Gen.DwUpRefIdeal.Run
public import proofs.«01_k».proof.Proof.Gen.DwUpRefIdeal.Read
public import proofs.«01_k».proof.Proof.Mlp.DwUpClaims
public import proofs.«01_k».proof.Proof.Gen.DH2
public import proofs.«01_k».proof.Proof.Gen.DH2.Skeleton
public import proofs.«01_k».proof.Proof.Gen.DH2.Launch
public import proofs.«01_k».proof.Proof.Gen.DH2.Points
public import proofs.«01_k».proof.Proof.Gen.DH2.Frame
public import proofs.«01_k».proof.Proof.Gen.DH2Ideal
public import proofs.«01_k».proof.Proof.Gen.DH2Ideal.Skeleton
public import proofs.«01_k».proof.Proof.Gen.DH2Ideal.Launch
public import proofs.«01_k».proof.Proof.Gen.DH2Ideal.Points
public import proofs.«01_k».proof.Proof.Gen.DH2Ideal.Frame
public import proofs.«01_k».proof.Proof.Gen.DH2Ideal.Value
public import proofs.«01_k».proof.Proof.Gen.DH2RefIdeal
public import proofs.«01_k».proof.Proof.Gen.DH2RefIdeal.Run
public import proofs.«01_k».proof.Proof.Gen.DH2RefIdeal.Read
public import proofs.«01_k».proof.Proof.Mlp.DH2Claims
public import proofs.«01_k».proof.Proof.Gen.MlpUp
public import proofs.«01_k».proof.Proof.Gen.MlpUp.Skeleton
public import proofs.«01_k».proof.Proof.Gen.MlpUp.Launch
public import proofs.«01_k».proof.Proof.Gen.MlpUp.Points
public import proofs.«01_k».proof.Proof.Gen.MlpUp.Frame
public import proofs.«01_k».proof.Proof.Gen.MlpUpIdeal
public import proofs.«01_k».proof.Proof.Gen.MlpUpIdeal.Skeleton
public import proofs.«01_k».proof.Proof.Gen.MlpUpIdeal.Launch
public import proofs.«01_k».proof.Proof.Gen.MlpUpIdeal.Points
public import proofs.«01_k».proof.Proof.Gen.MlpUpIdeal.Frame
public import proofs.«01_k».proof.Proof.Gen.MlpUpIdeal.Value
public import proofs.«01_k».proof.Proof.Gen.MlpUpRefIdeal
public import proofs.«01_k».proof.Proof.Gen.MlpUpRefIdeal.Run
public import proofs.«01_k».proof.Proof.Gen.MlpUpRefIdeal.Read
public import proofs.«01_k».proof.Proof.Mlp.MlpUpClaims
public import proofs.«01_k».proof.Proof.Gen.MlpDown
public import proofs.«01_k».proof.Proof.Gen.MlpDown.Skeleton
public import proofs.«01_k».proof.Proof.Gen.MlpDown.Launch
public import proofs.«01_k».proof.Proof.Gen.MlpDown.Points
public import proofs.«01_k».proof.Proof.Gen.MlpDown.Frame
public import proofs.«01_k».proof.Proof.Gen.MlpDownIdeal
public import proofs.«01_k».proof.Proof.Gen.MlpDownIdeal.Skeleton
public import proofs.«01_k».proof.Proof.Gen.MlpDownIdeal.Launch
public import proofs.«01_k».proof.Proof.Gen.MlpDownIdeal.Points
public import proofs.«01_k».proof.Proof.Gen.MlpDownIdeal.Frame
public import proofs.«01_k».proof.Proof.Gen.MlpDownIdeal.Value
public import proofs.«01_k».proof.Proof.Gen.MlpDownRefIdeal
public import proofs.«01_k».proof.Proof.Gen.MlpDownRefIdeal.Run
public import proofs.«01_k».proof.Proof.Gen.MlpDownRefIdeal.Read
public import proofs.«01_k».proof.Proof.Mlp.MlpDownClaims
public import proofs.«01_k».proof.Proof.Gen.DH1
public import proofs.«01_k».proof.Proof.Gen.DH1.Skeleton
public import proofs.«01_k».proof.Proof.Gen.DH1.Launch
public import proofs.«01_k».proof.Proof.Gen.DH1.Points
public import proofs.«01_k».proof.Proof.Gen.DH1.Frame
public import proofs.«01_k».proof.Proof.Gen.DH1Ideal
public import proofs.«01_k».proof.Proof.Gen.DH1Ideal.Skeleton
public import proofs.«01_k».proof.Proof.Gen.DH1Ideal.Launch
public import proofs.«01_k».proof.Proof.Gen.DH1Ideal.Points
public import proofs.«01_k».proof.Proof.Gen.DH1Ideal.Frame
public import proofs.«01_k».proof.Proof.Gen.DH1Ideal.Value
public import proofs.«01_k».proof.Proof.Gen.DH1RefIdeal
public import proofs.«01_k».proof.Proof.Gen.DH1RefIdeal.Run
public import proofs.«01_k».proof.Proof.Gen.DH1RefIdeal.Read
public import proofs.«01_k».proof.Proof.Proj.DH1Claims
public import proofs.«01_k».proof.Proof.Gen.DOx
public import proofs.«01_k».proof.Proof.Gen.DOx.Skeleton
public import proofs.«01_k».proof.Proof.Gen.DOx.Launch
public import proofs.«01_k».proof.Proof.Gen.DOx.Points
public import proofs.«01_k».proof.Proof.Gen.DOx.Frame
public import proofs.«01_k».proof.Proof.Gen.DOxIdeal
public import proofs.«01_k».proof.Proof.Gen.DOxIdeal.Skeleton
public import proofs.«01_k».proof.Proof.Gen.DOxIdeal.Launch
public import proofs.«01_k».proof.Proof.Gen.DOxIdeal.Points
public import proofs.«01_k».proof.Proof.Gen.DOxIdeal.Frame
public import proofs.«01_k».proof.Proof.Gen.DOxIdeal.Value
public import proofs.«01_k».proof.Proof.Gen.DOxRefIdeal
public import proofs.«01_k».proof.Proof.Gen.DOxRefIdeal.Run
public import proofs.«01_k».proof.Proof.Gen.DOxRefIdeal.Read
public import proofs.«01_k».proof.Proof.Proj.DOxClaims
public import proofs.«01_k».proof.Proof.Gen.DwXo
public import proofs.«01_k».proof.Proof.Gen.DwXo.Skeleton
public import proofs.«01_k».proof.Proof.Gen.DwXo.Launch
public import proofs.«01_k».proof.Proof.Gen.DwXo.Points
public import proofs.«01_k».proof.Proof.Gen.DwXo.Frame
public import proofs.«01_k».proof.Proof.Gen.DwXoIdeal
public import proofs.«01_k».proof.Proof.Gen.DwXoIdeal.Skeleton
public import proofs.«01_k».proof.Proof.Gen.DwXoIdeal.Launch
public import proofs.«01_k».proof.Proof.Gen.DwXoIdeal.Points
public import proofs.«01_k».proof.Proof.Gen.DwXoIdeal.Frame
public import proofs.«01_k».proof.Proof.Gen.DwXoIdeal.Value
public import proofs.«01_k».proof.Proof.Gen.DwXoRefIdeal
public import proofs.«01_k».proof.Proof.Gen.DwXoRefIdeal.Run
public import proofs.«01_k».proof.Proof.Gen.DwXoRefIdeal.Read
public import proofs.«01_k».proof.Proof.Proj.DwXoClaims
public import proofs.«01_k».proof.Proof.Gen.DwXq
public import proofs.«01_k».proof.Proof.Gen.DwXq.Skeleton
public import proofs.«01_k».proof.Proof.Gen.DwXq.Launch
public import proofs.«01_k».proof.Proof.Gen.DwXq.Points
public import proofs.«01_k».proof.Proof.Gen.DwXq.Frame
public import proofs.«01_k».proof.Proof.Gen.DwXqIdeal
public import proofs.«01_k».proof.Proof.Gen.DwXqIdeal.Skeleton
public import proofs.«01_k».proof.Proof.Gen.DwXqIdeal.Launch
public import proofs.«01_k».proof.Proof.Gen.DwXqIdeal.Points
public import proofs.«01_k».proof.Proof.Gen.DwXqIdeal.Frame
public import proofs.«01_k».proof.Proof.Gen.DwXqIdeal.Value
public import proofs.«01_k».proof.Proof.Gen.DwXqRefIdeal
public import proofs.«01_k».proof.Proof.Gen.DwXqRefIdeal.Run
public import proofs.«01_k».proof.Proof.Gen.DwXqRefIdeal.Read
public import proofs.«01_k».proof.Proof.Proj.DwXqClaims
public import proofs.«01_k».proof.Proof.Gen.DwXkv
public import proofs.«01_k».proof.Proof.Gen.DwXkv.Skeleton
public import proofs.«01_k».proof.Proof.Gen.DwXkv.Launch
public import proofs.«01_k».proof.Proof.Gen.DwXkv.Points
public import proofs.«01_k».proof.Proof.Gen.DwXkv.Frame
public import proofs.«01_k».proof.Proof.Gen.DwXkvIdeal
public import proofs.«01_k».proof.Proof.Gen.DwXkvIdeal.Skeleton
public import proofs.«01_k».proof.Proof.Gen.DwXkvIdeal.Launch
public import proofs.«01_k».proof.Proof.Gen.DwXkvIdeal.Points
public import proofs.«01_k».proof.Proof.Gen.DwXkvIdeal.Frame
public import proofs.«01_k».proof.Proof.Gen.DwXkvIdeal.Value
public import proofs.«01_k».proof.Proof.Gen.DwXkvRefIdeal
public import proofs.«01_k».proof.Proof.Gen.DwXkvRefIdeal.Run
public import proofs.«01_k».proof.Proof.Gen.DwXkvRefIdeal.Read
public import proofs.«01_k».proof.Proof.Proj.DwXkvClaims
public import proofs.«01_k».proof.Proof.Gen.DMemn
public import proofs.«01_k».proof.Proof.Gen.DMemn.Skeleton
public import proofs.«01_k».proof.Proof.Gen.DMemn.Launch
public import proofs.«01_k».proof.Proof.Gen.DMemn.Points
public import proofs.«01_k».proof.Proof.Gen.DMemn.Frame
public import proofs.«01_k».proof.Proof.Gen.DMemnIdeal
public import proofs.«01_k».proof.Proof.Gen.DMemnIdeal.Skeleton
public import proofs.«01_k».proof.Proof.Gen.DMemnIdeal.Launch
public import proofs.«01_k».proof.Proof.Gen.DMemnIdeal.Points
public import proofs.«01_k».proof.Proof.Gen.DMemnIdeal.Frame
public import proofs.«01_k».proof.Proof.Gen.DMemnIdeal.Value
public import proofs.«01_k».proof.Proof.Gen.DMemnRefIdeal
public import proofs.«01_k».proof.Proof.Gen.DMemnRefIdeal.Run
public import proofs.«01_k».proof.Proof.Gen.DMemnRefIdeal.Read
public import proofs.«01_k».proof.Proof.Proj.DMemnClaims
public import proofs.«01_k».proof.Proof.Gen.DYnSsm
public import proofs.«01_k».proof.Proof.Gen.DYnSsm.Skeleton
public import proofs.«01_k».proof.Proof.Gen.DYnSsm.Launch
public import proofs.«01_k».proof.Proof.Gen.DYnSsm.Points
public import proofs.«01_k».proof.Proof.Gen.DYnSsm.Frame
public import proofs.«01_k».proof.Proof.Gen.DYnSsmIdeal
public import proofs.«01_k».proof.Proof.Gen.DYnSsmIdeal.Skeleton
public import proofs.«01_k».proof.Proof.Gen.DYnSsmIdeal.Launch
public import proofs.«01_k».proof.Proof.Gen.DYnSsmIdeal.Points
public import proofs.«01_k».proof.Proof.Gen.DYnSsmIdeal.Frame
public import proofs.«01_k».proof.Proof.Gen.DYnSsmIdeal.Value
public import proofs.«01_k».proof.Proof.Gen.DYnSsmRefIdeal
public import proofs.«01_k».proof.Proof.Gen.DYnSsmRefIdeal.Run
public import proofs.«01_k».proof.Proof.Gen.DYnSsmRefIdeal.Read
public import proofs.«01_k».proof.Proof.Proj.DYnSsmClaims
public import proofs.«01_k».proof.Proof.Gen.DwOutSsm
public import proofs.«01_k».proof.Proof.Gen.DwOutSsm.Skeleton
public import proofs.«01_k».proof.Proof.Gen.DwOutSsm.Launch
public import proofs.«01_k».proof.Proof.Gen.DwOutSsm.Points
public import proofs.«01_k».proof.Proof.Gen.DwOutSsm.Frame
public import proofs.«01_k».proof.Proof.Gen.DwOutSsmIdeal
public import proofs.«01_k».proof.Proof.Gen.DwOutSsmIdeal.Skeleton
public import proofs.«01_k».proof.Proof.Gen.DwOutSsmIdeal.Launch
public import proofs.«01_k».proof.Proof.Gen.DwOutSsmIdeal.Points
public import proofs.«01_k».proof.Proof.Gen.DwOutSsmIdeal.Frame
public import proofs.«01_k».proof.Proof.Gen.DwOutSsmIdeal.Value
public import proofs.«01_k».proof.Proof.Gen.DwOutSsmRefIdeal
public import proofs.«01_k».proof.Proof.Gen.DwOutSsmRefIdeal.Run
public import proofs.«01_k».proof.Proof.Gen.DwOutSsmRefIdeal.Read
public import proofs.«01_k».proof.Proof.Proj.DwOutSsmClaims
public import proofs.«01_k».proof.Proof.Gen.DwU
public import proofs.«01_k».proof.Proof.Gen.DwU.Skeleton
public import proofs.«01_k».proof.Proof.Gen.DwU.Launch
public import proofs.«01_k».proof.Proof.Gen.DwU.Points
public import proofs.«01_k».proof.Proof.Gen.DwU.Frame
public import proofs.«01_k».proof.Proof.Gen.DwUIdeal
public import proofs.«01_k».proof.Proof.Gen.DwUIdeal.Skeleton
public import proofs.«01_k».proof.Proof.Gen.DwUIdeal.Launch
public import proofs.«01_k».proof.Proof.Gen.DwUIdeal.Points
public import proofs.«01_k».proof.Proof.Gen.DwUIdeal.Frame
public import proofs.«01_k».proof.Proof.Gen.DwUIdeal.Value
public import proofs.«01_k».proof.Proof.Gen.DwURefIdeal
public import proofs.«01_k».proof.Proof.Gen.DwURefIdeal.Run
public import proofs.«01_k».proof.Proof.Gen.DwURefIdeal.Read
public import proofs.«01_k».proof.Proof.Proj.DwUClaims
public import proofs.«01_k».proof.Proof.Gen.DH0U
public import proofs.«01_k».proof.Proof.Gen.DH0U.Skeleton
public import proofs.«01_k».proof.Proof.Gen.DH0U.Launch
public import proofs.«01_k».proof.Proof.Gen.DH0U.Points
public import proofs.«01_k».proof.Proof.Gen.DH0U.Frame
public import proofs.«01_k».proof.Proof.Gen.DH0UIdeal
public import proofs.«01_k».proof.Proof.Gen.DH0UIdeal.Skeleton
public import proofs.«01_k».proof.Proof.Gen.DH0UIdeal.Launch
public import proofs.«01_k».proof.Proof.Gen.DH0UIdeal.Points
public import proofs.«01_k».proof.Proof.Gen.DH0UIdeal.Frame
public import proofs.«01_k».proof.Proof.Gen.DH0UIdeal.Value
public import proofs.«01_k».proof.Proof.Gen.DH0URefIdeal
public import proofs.«01_k».proof.Proof.Gen.DH0URefIdeal.Run
public import proofs.«01_k».proof.Proof.Gen.DH0URefIdeal.Read
public import proofs.«01_k».proof.Proof.Proj.DH0UClaims
public import proofs.«01_k».proof.Proof.Gen.ProjU
public import proofs.«01_k».proof.Proof.Gen.ProjU.Skeleton
public import proofs.«01_k».proof.Proof.Gen.ProjU.Launch
public import proofs.«01_k».proof.Proof.Gen.ProjU.Points
public import proofs.«01_k».proof.Proof.Gen.ProjU.Frame
public import proofs.«01_k».proof.Proof.Gen.ProjUIdeal
public import proofs.«01_k».proof.Proof.Gen.ProjUIdeal.Skeleton
public import proofs.«01_k».proof.Proof.Gen.ProjUIdeal.Launch
public import proofs.«01_k».proof.Proof.Gen.ProjUIdeal.Points
public import proofs.«01_k».proof.Proof.Gen.ProjUIdeal.Frame
public import proofs.«01_k».proof.Proof.Gen.ProjUIdeal.Value
public import proofs.«01_k».proof.Proof.Gen.ProjURefIdeal
public import proofs.«01_k».proof.Proof.Gen.ProjURefIdeal.Run
public import proofs.«01_k».proof.Proof.Gen.ProjURefIdeal.Read
public import proofs.«01_k».proof.Proof.Proj.ProjUClaims
public import proofs.«01_k».proof.Proof.Gen.XaQ
public import proofs.«01_k».proof.Proof.Gen.XaQ.Skeleton
public import proofs.«01_k».proof.Proof.Gen.XaQ.Launch
public import proofs.«01_k».proof.Proof.Gen.XaQ.Points
public import proofs.«01_k».proof.Proof.Gen.XaQ.Frame
public import proofs.«01_k».proof.Proof.Gen.XaQIdeal
public import proofs.«01_k».proof.Proof.Gen.XaQIdeal.Skeleton
public import proofs.«01_k».proof.Proof.Gen.XaQIdeal.Launch
public import proofs.«01_k».proof.Proof.Gen.XaQIdeal.Points
public import proofs.«01_k».proof.Proof.Gen.XaQIdeal.Frame
public import proofs.«01_k».proof.Proof.Gen.XaQIdeal.Value
public import proofs.«01_k».proof.Proof.Gen.XaQRefIdeal
public import proofs.«01_k».proof.Proof.Gen.XaQRefIdeal.Run
public import proofs.«01_k».proof.Proof.Gen.XaQRefIdeal.Read
public import proofs.«01_k».proof.Proof.Proj.XaQClaims
public import proofs.«01_k».proof.Proof.Gen.XaKv
public import proofs.«01_k».proof.Proof.Gen.XaKv.Skeleton
public import proofs.«01_k».proof.Proof.Gen.XaKv.Launch
public import proofs.«01_k».proof.Proof.Gen.XaKv.Points
public import proofs.«01_k».proof.Proof.Gen.XaKv.Frame
public import proofs.«01_k».proof.Proof.Gen.XaKvIdeal
public import proofs.«01_k».proof.Proof.Gen.XaKvIdeal.Skeleton
public import proofs.«01_k».proof.Proof.Gen.XaKvIdeal.Launch
public import proofs.«01_k».proof.Proof.Gen.XaKvIdeal.Points
public import proofs.«01_k».proof.Proof.Gen.XaKvIdeal.Frame
public import proofs.«01_k».proof.Proof.Gen.XaKvIdeal.Value
public import proofs.«01_k».proof.Proof.Gen.XaKvRefIdeal
public import proofs.«01_k».proof.Proof.Gen.XaKvRefIdeal.Run
public import proofs.«01_k».proof.Proof.Gen.XaKvRefIdeal.Read
public import proofs.«01_k».proof.Proof.Proj.XaKvClaims
public import proofs.«01_k».proof.Proof.Gen.OutSsm
public import proofs.«01_k».proof.Proof.Gen.OutSsm.Skeleton
public import proofs.«01_k».proof.Proof.Gen.OutSsm.Launch
public import proofs.«01_k».proof.Proof.Gen.OutSsm.Points
public import proofs.«01_k».proof.Proof.Gen.OutSsm.Frame
public import proofs.«01_k».proof.Proof.Gen.OutSsmIdeal
public import proofs.«01_k».proof.Proof.Gen.OutSsmIdeal.Skeleton
public import proofs.«01_k».proof.Proof.Gen.OutSsmIdeal.Launch
public import proofs.«01_k».proof.Proof.Gen.OutSsmIdeal.Points
public import proofs.«01_k».proof.Proof.Gen.OutSsmIdeal.Frame
public import proofs.«01_k».proof.Proof.Gen.OutSsmIdeal.Value
public import proofs.«01_k».proof.Proof.Gen.OutSsmRefIdeal
public import proofs.«01_k».proof.Proof.Gen.OutSsmRefIdeal.Run
public import proofs.«01_k».proof.Proof.Gen.OutSsmRefIdeal.Read
public import proofs.«01_k».proof.Proof.Proj.OutSsmClaims
public import proofs.«01_k».proof.Proof.Gen.XaO
public import proofs.«01_k».proof.Proof.Gen.XaO.Skeleton
public import proofs.«01_k».proof.Proof.Gen.XaO.Launch
public import proofs.«01_k».proof.Proof.Gen.XaO.Points
public import proofs.«01_k».proof.Proof.Gen.XaO.Frame
public import proofs.«01_k».proof.Proof.Gen.XaOIdeal
public import proofs.«01_k».proof.Proof.Gen.XaOIdeal.Skeleton
public import proofs.«01_k».proof.Proof.Gen.XaOIdeal.Launch
public import proofs.«01_k».proof.Proof.Gen.XaOIdeal.Points
public import proofs.«01_k».proof.Proof.Gen.XaOIdeal.Frame
public import proofs.«01_k».proof.Proof.Gen.XaOIdeal.Value
public import proofs.«01_k».proof.Proof.Gen.XaORefIdeal
public import proofs.«01_k».proof.Proof.Gen.XaORefIdeal.Run
public import proofs.«01_k».proof.Proof.Gen.XaORefIdeal.Read
public import proofs.«01_k».proof.Proof.Proj.XaOClaims
public import proofs.«01_k».proof.Proof.Gen.OutSb
public import proofs.«01_k».proof.Proof.Gen.OutSb.Skeleton
public import proofs.«01_k».proof.Proof.Gen.OutSb.Launch
public import proofs.«01_k».proof.Proof.Gen.OutSb.Points
public import proofs.«01_k».proof.Proof.Gen.OutSb.Frame
public import proofs.«01_k».proof.Proof.Gen.OutSbIdeal
public import proofs.«01_k».proof.Proof.Gen.OutSbIdeal.Skeleton
public import proofs.«01_k».proof.Proof.Gen.OutSbIdeal.Launch
public import proofs.«01_k».proof.Proof.Gen.OutSbIdeal.Points
public import proofs.«01_k».proof.Proof.Gen.OutSbIdeal.Frame
public import proofs.«01_k».proof.Proof.Gen.OutSbIdeal.Value
public import proofs.«01_k».proof.Proof.Gen.OutSbRefIdeal
public import proofs.«01_k».proof.Proof.Gen.OutSbRefIdeal.Run
public import proofs.«01_k».proof.Proof.Gen.OutSbRefIdeal.Read
public import proofs.«01_k».proof.Proof.Proj.OutSbClaims
public import proofs.«01_k».proof.Proof.Gen.DYnSb
public import proofs.«01_k».proof.Proof.Gen.DYnSb.Skeleton
public import proofs.«01_k».proof.Proof.Gen.DYnSb.Launch
public import proofs.«01_k».proof.Proof.Gen.DYnSb.Points
public import proofs.«01_k».proof.Proof.Gen.DYnSb.Frame
public import proofs.«01_k».proof.Proof.Gen.DYnSbIdeal
public import proofs.«01_k».proof.Proof.Gen.DYnSbIdeal.Skeleton
public import proofs.«01_k».proof.Proof.Gen.DYnSbIdeal.Launch
public import proofs.«01_k».proof.Proof.Gen.DYnSbIdeal.Points
public import proofs.«01_k».proof.Proof.Gen.DYnSbIdeal.Frame
public import proofs.«01_k».proof.Proof.Gen.DYnSbIdeal.Value
public import proofs.«01_k».proof.Proof.Gen.DYnSbRefIdeal
public import proofs.«01_k».proof.Proof.Gen.DYnSbRefIdeal.Run
public import proofs.«01_k».proof.Proof.Gen.DYnSbRefIdeal.Read
public import proofs.«01_k».proof.Proof.Proj.DYnSbClaims
public import proofs.«01_k».proof.Proof.Gen.DwOutSb
public import proofs.«01_k».proof.Proof.Gen.DwOutSb.Skeleton
public import proofs.«01_k».proof.Proof.Gen.DwOutSb.Launch
public import proofs.«01_k».proof.Proof.Gen.DwOutSb.Points
public import proofs.«01_k».proof.Proof.Gen.DwOutSb.Frame
public import proofs.«01_k».proof.Proof.Gen.DwOutSbIdeal
public import proofs.«01_k».proof.Proof.Gen.DwOutSbIdeal.Skeleton
public import proofs.«01_k».proof.Proof.Gen.DwOutSbIdeal.Launch
public import proofs.«01_k».proof.Proof.Gen.DwOutSbIdeal.Points
public import proofs.«01_k».proof.Proof.Gen.DwOutSbIdeal.Frame
public import proofs.«01_k».proof.Proof.Gen.DwOutSbIdeal.Value
public import proofs.«01_k».proof.Proof.Gen.DwOutSbRefIdeal
public import proofs.«01_k».proof.Proof.Gen.DwOutSbRefIdeal.Run
public import proofs.«01_k».proof.Proof.Gen.DwOutSbRefIdeal.Read
public import proofs.«01_k».proof.Proof.Proj.DwOutSbClaims
public import proofs.«01_k».proof.Proof.Gen.DwQkv
public import proofs.«01_k».proof.Proof.Gen.DwQkv.Skeleton
public import proofs.«01_k».proof.Proof.Gen.DwQkv.Launch
public import proofs.«01_k».proof.Proof.Gen.DwQkv.Points
public import proofs.«01_k».proof.Proof.Gen.DwQkv.Frame
public import proofs.«01_k».proof.Proof.Gen.DwQkvIdeal
public import proofs.«01_k».proof.Proof.Gen.DwQkvIdeal.Skeleton
public import proofs.«01_k».proof.Proof.Gen.DwQkvIdeal.Launch
public import proofs.«01_k».proof.Proof.Gen.DwQkvIdeal.Points
public import proofs.«01_k».proof.Proof.Gen.DwQkvIdeal.Frame
public import proofs.«01_k».proof.Proof.Gen.DwQkvIdeal.Value
public import proofs.«01_k».proof.Proof.Gen.DwQkvRefIdeal
public import proofs.«01_k».proof.Proof.Gen.DwQkvRefIdeal.Run
public import proofs.«01_k».proof.Proof.Gen.DwQkvRefIdeal.Read
public import proofs.«01_k».proof.Proof.Proj.DwQkvClaims
public import proofs.«01_k».proof.Proof.Gen.GluFwd
public import proofs.«01_k».proof.Proof.Gen.GluFwd.Skeleton
public import proofs.«01_k».proof.Proof.Gen.GluFwd.Launch
public import proofs.«01_k».proof.Proof.Gen.GluFwd.Points
public import proofs.«01_k».proof.Proof.Gen.GluFwd.Frame
public import proofs.«01_k».proof.Proof.Gen.GluFwdIdeal
public import proofs.«01_k».proof.Proof.Gen.GluFwdIdeal.Skeleton
public import proofs.«01_k».proof.Proof.Gen.GluFwdIdeal.Launch
public import proofs.«01_k».proof.Proof.Gen.GluFwdIdeal.Points
public import proofs.«01_k».proof.Proof.Gen.GluFwdIdeal.Frame
public import proofs.«01_k».proof.Proof.Gen.GluFwdIdeal.Value
public import proofs.«01_k».proof.Proof.Gen.GluFwdRefIdeal
public import proofs.«01_k».proof.Proof.Gen.GluFwdRefIdeal.Run
public import proofs.«01_k».proof.Proof.Gen.GluFwdRefIdeal.Read
public import proofs.«01_k».proof.Proof.Glu.GluFwdClaims
public import proofs.«01_k».proof.Proof.Gen.XaFwd
public import proofs.«01_k».proof.Proof.Gen.XaFwd.Skeleton
public import proofs.«01_k».proof.Proof.Gen.XaFwd.Launch
public import proofs.«01_k».proof.Proof.Gen.XaFwd.Points
public import proofs.«01_k».proof.Proof.Gen.XaFwd.Frame
public import proofs.«01_k».proof.Proof.Gen.XaFwdIdeal
public import proofs.«01_k».proof.Proof.Gen.XaFwdIdeal.Skeleton
public import proofs.«01_k».proof.Proof.Gen.XaFwdIdeal.Launch
public import proofs.«01_k».proof.Proof.Gen.XaFwdIdeal.Points
public import proofs.«01_k».proof.Proof.Gen.XaFwdIdeal.Frame
public import proofs.«01_k».proof.Proof.Gen.XaFwdIdeal.Value
public import proofs.«01_k».proof.Proof.Gen.XaFwdRefIdeal
public import proofs.«01_k».proof.Proof.Gen.XaFwdRefIdeal.Run
public import proofs.«01_k».proof.Proof.Gen.XaFwdRefIdeal.Read
public import proofs.«01_k».proof.Proof.Xa.XaFwdClaims
public import proofs.«01_k».proof.Proof.Gen.XaBwd
public import proofs.«01_k».proof.Proof.Gen.XaBwd.Skeleton
public import proofs.«01_k».proof.Proof.Gen.XaBwd.Launch
public import proofs.«01_k».proof.Proof.Gen.XaBwd.Points
public import proofs.«01_k».proof.Proof.Gen.XaBwd.Frame
public import proofs.«01_k».proof.Proof.Gen.XaBwdIdeal
public import proofs.«01_k».proof.Proof.Gen.XaBwdIdeal.Skeleton
public import proofs.«01_k».proof.Proof.Gen.XaBwdIdeal.Launch
public import proofs.«01_k».proof.Proof.Gen.XaBwdIdeal.Points
public import proofs.«01_k».proof.Proof.Gen.XaBwdIdeal.Frame
public import proofs.«01_k».proof.Proof.Gen.XaBwdIdeal.Value
public import proofs.«01_k».proof.Proof.Gen.XaBwdRefIdeal
public import proofs.«01_k».proof.Proof.Gen.XaBwdRefIdeal.Run
public import proofs.«01_k».proof.Proof.Gen.XaBwdRefIdeal.Read
public import proofs.«01_k».proof.Proof.Gen.Pre_finite
public import proofs.«01_k».proof.Proof.Xa.XaBwdClaims
public import proofs.«01_k».proof.Proof.Gen.RmsSsm
public import proofs.«01_k».proof.Proof.Gen.RmsSsm.Skeleton
public import proofs.«01_k».proof.Proof.Gen.RmsSsm.Launch
public import proofs.«01_k».proof.Proof.Gen.RmsSsm.Points
public import proofs.«01_k».proof.Proof.Gen.RmsSsm.Frame
public import proofs.«01_k».proof.Proof.Gen.RmsSsmIdeal
public import proofs.«01_k».proof.Proof.Gen.RmsSsmIdeal.Skeleton
public import proofs.«01_k».proof.Proof.Gen.RmsSsmIdeal.Launch
public import proofs.«01_k».proof.Proof.Gen.RmsSsmIdeal.Points
public import proofs.«01_k».proof.Proof.Gen.RmsSsmIdeal.Frame
public import proofs.«01_k».proof.Proof.Gen.RmsSsmIdeal.Value
public import proofs.«01_k».proof.Proof.Gen.RmsSsmRefIdeal
public import proofs.«01_k».proof.Proof.Gen.RmsSsmRefIdeal.Run
public import proofs.«01_k».proof.Proof.Gen.RmsSsmRefIdeal.Read
public import proofs.«01_k».proof.Proof.Norm.RmsSsmClaims
public import proofs.«01_k».proof.Proof.Gen.RmsMem
public import proofs.«01_k».proof.Proof.Gen.RmsMem.Skeleton
public import proofs.«01_k».proof.Proof.Gen.RmsMem.Launch
public import proofs.«01_k».proof.Proof.Gen.RmsMem.Points
public import proofs.«01_k».proof.Proof.Gen.RmsMem.Frame
public import proofs.«01_k».proof.Proof.Gen.RmsMemIdeal
public import proofs.«01_k».proof.Proof.Gen.RmsMemIdeal.Skeleton
public import proofs.«01_k».proof.Proof.Gen.RmsMemIdeal.Launch
public import proofs.«01_k».proof.Proof.Gen.RmsMemIdeal.Points
public import proofs.«01_k».proof.Proof.Gen.RmsMemIdeal.Frame
public import proofs.«01_k».proof.Proof.Gen.RmsMemIdeal.Value
public import proofs.«01_k».proof.Proof.Gen.RmsMemRefIdeal
public import proofs.«01_k».proof.Proof.Gen.RmsMemRefIdeal.Run
public import proofs.«01_k».proof.Proof.Gen.RmsMemRefIdeal.Read
public import proofs.«01_k».proof.Proof.Norm.RmsMemClaims
public import proofs.«01_k».proof.Proof.Gen.S5Prep
public import proofs.«01_k».proof.Proof.Gen.S5Prep.Skeleton
public import proofs.«01_k».proof.Proof.Gen.S5Prep.Launch
public import proofs.«01_k».proof.Proof.Gen.S5Prep.Points
public import proofs.«01_k».proof.Proof.Gen.S5Prep.Frame
public import proofs.«01_k».proof.Proof.Gen.S5PrepIdeal
public import proofs.«01_k».proof.Proof.Gen.S5PrepIdeal.Skeleton
public import proofs.«01_k».proof.Proof.Gen.S5PrepIdeal.Launch
public import proofs.«01_k».proof.Proof.Gen.S5PrepIdeal.Points
public import proofs.«01_k».proof.Proof.Gen.S5PrepIdeal.Frame
public import proofs.«01_k».proof.Proof.Gen.S5PrepIdeal.Value
public import proofs.«01_k».proof.Proof.Gen.S5PrepRefIdeal
public import proofs.«01_k».proof.Proof.Gen.S5PrepRefIdeal.Run
public import proofs.«01_k».proof.Proof.Gen.S5PrepRefIdeal.Read
public import proofs.«01_k».proof.Proof.S5.S5PrepClaims
public import Idealize.ShloMosaic.Adequacy
public import Idealize.ShloMosaic.Init

@[expose] public section

noncomputable section

namespace Cert.Proof

open Idealize.ShloMosaic Idealize.SL.Sem Cert.Kernel

/-- The gated unit's backward pass: the reference runs and leaves its arguments unchanged; it declares no semaphore. -/
theorem kernel_reference : Cert.quiescent_ReferenceIdeal := fun m ρ _ =>
  (θ_run Cert.ReferenceIdeal.defs _ _).mono
    (fun r h => ⟨fun c => (h c).2.2.2.2, sem_eq_zero_of_no_sems (by decide) r.2⟩)
    (Cert.ReferenceIdeal.Value.run m ρ)

/-- The gated unit's backward pass: the kernel's results are the reference's, at the same arguments. -/
theorem kernel_value : Cert.algebraic_KernelIdeal_ReferenceIdeal := fun m g m' g' _ hagree =>
  ⟨_, _, _, _, Cert.Glu.kernel_run m g, Cert.Glu.reference_run m' g' _ _ _ _ _ hagree⟩

/-- The cotangent of the MLP's pre-activations: the reference runs and leaves its arguments unchanged; it declares no semaphore. -/
theorem dAct_reference : Cert.quiescent_DActRefIdeal := fun m ρ _ =>
  (θ_run Cert.DActRefIdeal.defs _ _).mono
    (fun r h => ⟨fun c => (h c).2, sem_eq_zero_of_no_sems (by decide) r.2⟩)
    (Cert.DActRefIdeal.Value.run m ρ)

/-- The cotangent of the MLP's pre-activations: the kernel's results are the reference's, at the same arguments. -/
theorem dAct_value : Cert.algebraic_DActIdeal_DActRefIdeal := fun m g m' g' _ hagree =>
  ⟨_, Cert.Mlp.DAct.kernel_run m g, Cert.Mlp.DAct.reference_run m' g' _ _ _ hagree⟩

/-- The gradient of the MLP's second matrix: the reference runs and leaves its arguments unchanged; it declares no semaphore. -/
theorem dwDown_reference : Cert.quiescent_DwDownRefIdeal := fun m ρ _ =>
  (θ_run Cert.DwDownRefIdeal.defs _ _).mono
    (fun r h => ⟨fun c => (h c).2, sem_eq_zero_of_no_sems (by decide) r.2⟩)
    (Cert.DwDownRefIdeal.Value.run m ρ)

/-- The gradient of the MLP's second matrix: the kernel's results are the reference's, at the same arguments. -/
theorem dwDown_value : Cert.algebraic_DwDownIdeal_DwDownRefIdeal := fun m g m' g' _ hagree =>
  ⟨_, Cert.Mlp.DwDown.kernel_run m g, Cert.Mlp.DwDown.reference_run m' g' _ _ _ hagree⟩

/-- The gradient of the MLP's first matrix: the reference runs and leaves its arguments unchanged; it declares no semaphore. -/
theorem dwUp_reference : Cert.quiescent_DwUpRefIdeal := fun m ρ _ =>
  (θ_run Cert.DwUpRefIdeal.defs _ _).mono
    (fun r h => ⟨fun c => (h c).2, sem_eq_zero_of_no_sems (by decide) r.2⟩)
    (Cert.DwUpRefIdeal.Value.run m ρ)

/-- The gradient of the MLP's first matrix: the kernel's results are the reference's, at the same arguments. -/
theorem dwUp_value : Cert.algebraic_DwUpIdeal_DwUpRefIdeal := fun m g m' g' _ hagree =>
  ⟨_, Cert.Mlp.DwUp.kernel_run m g, Cert.Mlp.DwUp.reference_run m' g' _ _ _ _ hagree⟩

/-- The cotangent of the MLP's input and the gradient of its norm's scale: the reference runs and leaves its arguments unchanged; it declares no semaphore. -/
theorem dH2_reference : Cert.quiescent_DH2RefIdeal := fun m ρ _ =>
  (θ_run Cert.DH2RefIdeal.defs _ _).mono
    (fun r h => ⟨fun c => (h c).2.2.2, sem_eq_zero_of_no_sems (by decide) r.2⟩)
    (Cert.DH2RefIdeal.Value.run m ρ)

/-- The cotangent of the MLP's input and the gradient of its norm's scale: the kernel's results are the reference's, at the same arguments. -/
theorem dH2_value : Cert.algebraic_DH2Ideal_DH2RefIdeal := fun m g m' g' _ hagree =>
  ⟨_, _, _, Cert.Mlp.DH2.kernel_run m g, Cert.Mlp.DH2.reference_run m' g' _ _ _ _ _ hagree⟩

/-- The MLP's pre-activations: the reference runs and leaves its arguments unchanged; it declares no semaphore. -/
theorem mlpUp_reference : Cert.quiescent_MlpUpRefIdeal := fun m ρ _ =>
  (θ_run Cert.MlpUpRefIdeal.defs _ _).mono
    (fun r h => ⟨fun c => (h c).2, sem_eq_zero_of_no_sems (by decide) r.2⟩)
    (Cert.MlpUpRefIdeal.Value.run m ρ)

/-- The MLP's pre-activations: the kernel's results are the reference's, at the same arguments. -/
theorem mlpUp_value : Cert.algebraic_MlpUpIdeal_MlpUpRefIdeal := fun m g m' g' _ hagree =>
  ⟨_, Cert.Mlp.MlpUp.kernel_run m g, Cert.Mlp.MlpUp.reference_run m' g' _ _ hagree⟩

/-- The MLP's result, the loss and its cotangent: the reference runs and leaves its arguments unchanged; it declares no semaphore. -/
theorem mlpDown_reference : Cert.quiescent_MlpDownRefIdeal := fun m ρ _ =>
  (θ_run Cert.MlpDownRefIdeal.defs _ _).mono
    (fun r h => ⟨fun c => (h c).2.2.2, sem_eq_zero_of_no_sems (by decide) r.2⟩)
    (Cert.MlpDownRefIdeal.Value.run m ρ)

/-- The MLP's result, the loss and its cotangent: the kernel's results are the reference's, at the same arguments. -/
theorem mlpDown_value : Cert.algebraic_MlpDownIdeal_MlpDownRefIdeal := fun m g m' g' _ hagree =>
  ⟨_, _, _, Cert.Mlp.MlpDown.kernel_run m g, Cert.Mlp.MlpDown.reference_run m' g' _ _ _ _ hagree⟩

/-- The cotangent of the cross-attention's input and its norm's gradient: the reference runs and leaves its arguments unchanged; it declares no semaphore. -/
theorem dH1_reference : Cert.quiescent_DH1RefIdeal := fun m ρ _ =>
  (θ_run Cert.DH1RefIdeal.defs _ _).mono
    (fun r h => ⟨fun c => (h c).2.2.2, sem_eq_zero_of_no_sems (by decide) r.2⟩)
    (Cert.DH1RefIdeal.Value.run m ρ)

/-- The cotangent of the cross-attention's input and its norm's gradient: the kernel's results are the reference's, at the same arguments. -/
theorem dH1_value : Cert.algebraic_DH1Ideal_DH1RefIdeal := fun m g m' g' _ hagree =>
  ⟨_, _, _, Cert.Proj.DH1.kernel_run m g, Cert.Proj.DH1.reference_run m' g' _ _ _ _ _ hagree⟩

/-- The cotangent of the cross-attention's heads: the reference runs and leaves its arguments unchanged; it declares no semaphore. -/
theorem dOx_reference : Cert.quiescent_DOxRefIdeal := fun m ρ _ =>
  (θ_run Cert.DOxRefIdeal.defs _ _).mono
    (fun r h => ⟨fun c => (h c).2, sem_eq_zero_of_no_sems (by decide) r.2⟩)
    (Cert.DOxRefIdeal.Value.run m ρ)

/-- The cotangent of the cross-attention's heads: the kernel's results are the reference's, at the same arguments. -/
theorem dOx_value : Cert.algebraic_DOxIdeal_DOxRefIdeal := fun m g m' g' _ hagree =>
  ⟨_, Cert.Proj.DOx.kernel_run m g, Cert.Proj.DOx.reference_run m' g' _ _ _ hagree⟩

/-- The gradient of the cross-attention's output matrix: the reference runs and leaves its arguments unchanged; it declares no semaphore. -/
theorem dwXo_reference : Cert.quiescent_DwXoRefIdeal := fun m ρ _ =>
  (θ_run Cert.DwXoRefIdeal.defs _ _).mono
    (fun r h => ⟨fun c => (h c).2, sem_eq_zero_of_no_sems (by decide) r.2⟩)
    (Cert.DwXoRefIdeal.Value.run m ρ)

/-- The gradient of the cross-attention's output matrix: the kernel's results are the reference's, at the same arguments. -/
theorem dwXo_value : Cert.algebraic_DwXoIdeal_DwXoRefIdeal := fun m g m' g' _ hagree =>
  ⟨_, Cert.Proj.DwXo.kernel_run m g, Cert.Proj.DwXo.reference_run m' g' _ _ _ hagree⟩

/-- The gradient of its query matrix: the reference runs and leaves its arguments unchanged; it declares no semaphore. -/
theorem dwXq_reference : Cert.quiescent_DwXqRefIdeal := fun m ρ _ =>
  (θ_run Cert.DwXqRefIdeal.defs _ _).mono
    (fun r h => ⟨fun c => (h c).2, sem_eq_zero_of_no_sems (by decide) r.2⟩)
    (Cert.DwXqRefIdeal.Value.run m ρ)

/-- The gradient of its query matrix: the kernel's results are the reference's, at the same arguments. -/
theorem dwXq_value : Cert.algebraic_DwXqIdeal_DwXqRefIdeal := fun m g m' g' _ hagree =>
  ⟨_, Cert.Proj.DwXq.kernel_run m g, Cert.Proj.DwXq.reference_run m' g' _ _ _ hagree⟩

/-- The gradient of its key and value matrix: the reference runs and leaves its arguments unchanged; it declares no semaphore. -/
theorem dwXkv_reference : Cert.quiescent_DwXkvRefIdeal := fun m ρ _ =>
  (θ_run Cert.DwXkvRefIdeal.defs _ _).mono
    (fun r h => ⟨fun c => (h c).2, sem_eq_zero_of_no_sems (by decide) r.2⟩)
    (Cert.DwXkvRefIdeal.Value.run m ρ)

/-- The gradient of its key and value matrix: the kernel's results are the reference's, at the same arguments. -/
theorem dwXkv_value : Cert.algebraic_DwXkvIdeal_DwXkvRefIdeal := fun m g m' g' _ hagree =>
  ⟨_, Cert.Proj.DwXkv.kernel_run m g, Cert.Proj.DwXkv.reference_run m' g' _ _ _ hagree⟩

/-- The cotangent of the normed memory: the reference runs and leaves its arguments unchanged; it declares no semaphore. -/
theorem dMemn_reference : Cert.quiescent_DMemnRefIdeal := fun m ρ _ =>
  (θ_run Cert.DMemnRefIdeal.defs _ _).mono
    (fun r h => ⟨fun c => (h c).2, sem_eq_zero_of_no_sems (by decide) r.2⟩)
    (Cert.DMemnRefIdeal.Value.run m ρ)

/-- The cotangent of the normed memory: the kernel's results are the reference's, at the same arguments. -/
theorem dMemn_value : Cert.algebraic_DMemnIdeal_DMemnRefIdeal := fun m g m' g' _ hagree =>
  ⟨_, Cert.Proj.DMemn.kernel_run m g, Cert.Proj.DMemn.reference_run m' g' _ _ _ hagree⟩

/-- The cotangent of the S5 branch: the reference runs and leaves its arguments unchanged; it declares no semaphore. -/
theorem dYnSsm_reference : Cert.quiescent_DYnSsmRefIdeal := fun m ρ _ =>
  (θ_run Cert.DYnSsmRefIdeal.defs _ _).mono
    (fun r h => ⟨fun c => (h c).2, sem_eq_zero_of_no_sems (by decide) r.2⟩)
    (Cert.DYnSsmRefIdeal.Value.run m ρ)

/-- The cotangent of the S5 branch: the kernel's results are the reference's, at the same arguments. -/
theorem dYnSsm_value : Cert.algebraic_DYnSsmIdeal_DYnSsmRefIdeal := fun m g m' g' _ hagree =>
  ⟨_, Cert.Proj.DYnSsm.kernel_run m g, Cert.Proj.DYnSsm.reference_run m' g' _ _ _ hagree⟩

/-- The gradient of the S5 branch's output matrix: the reference runs and leaves its arguments unchanged; it declares no semaphore. -/
theorem dwOutSsm_reference : Cert.quiescent_DwOutSsmRefIdeal := fun m ρ _ =>
  (θ_run Cert.DwOutSsmRefIdeal.defs _ _).mono
    (fun r h => ⟨fun c => (h c).2, sem_eq_zero_of_no_sems (by decide) r.2⟩)
    (Cert.DwOutSsmRefIdeal.Value.run m ρ)

/-- The gradient of the S5 branch's output matrix: the kernel's results are the reference's, at the same arguments. -/
theorem dwOutSsm_value : Cert.algebraic_DwOutSsmIdeal_DwOutSsmRefIdeal := fun m g m' g' _ hagree =>
  ⟨_, Cert.Proj.DwOutSsm.kernel_run m g, Cert.Proj.DwOutSsm.reference_run m' g' _ _ _ hagree⟩

/-- The gradient of the S5 branch's input matrix: the reference runs and leaves its arguments unchanged; it declares no semaphore. -/
theorem dwU_reference : Cert.quiescent_DwURefIdeal := fun m ρ _ =>
  (θ_run Cert.DwURefIdeal.defs _ _).mono
    (fun r h => ⟨fun c => (h c).2, sem_eq_zero_of_no_sems (by decide) r.2⟩)
    (Cert.DwURefIdeal.Value.run m ρ)

/-- The gradient of the S5 branch's input matrix: the kernel's results are the reference's, at the same arguments. -/
theorem dwU_value : Cert.algebraic_DwUIdeal_DwURefIdeal := fun m g m' g' _ hagree =>
  ⟨_, Cert.Proj.DwU.kernel_run m g, Cert.Proj.DwU.reference_run m' g' _ _ _ hagree⟩

/-- The S5 branch's part of the mixer input's cotangent: the reference runs and leaves its arguments unchanged; it declares no semaphore. -/
theorem dH0U_reference : Cert.quiescent_DH0URefIdeal := fun m ρ _ =>
  (θ_run Cert.DH0URefIdeal.defs _ _).mono
    (fun r h => ⟨fun c => (h c).2, sem_eq_zero_of_no_sems (by decide) r.2⟩)
    (Cert.DH0URefIdeal.Value.run m ρ)

/-- The S5 branch's part of the mixer input's cotangent: the kernel's results are the reference's, at the same arguments. -/
theorem dH0U_value : Cert.algebraic_DH0UIdeal_DH0URefIdeal := fun m g m' g' _ hagree =>
  ⟨_, Cert.Proj.DH0U.kernel_run m g, Cert.Proj.DH0U.reference_run m' g' _ _ _ hagree⟩

/-- The S5 branch's input: the reference runs and leaves its arguments unchanged; it declares no semaphore. -/
theorem projU_reference : Cert.quiescent_ProjURefIdeal := fun m ρ _ =>
  (θ_run Cert.ProjURefIdeal.defs _ _).mono
    (fun r h => ⟨fun c => (h c).2, sem_eq_zero_of_no_sems (by decide) r.2⟩)
    (Cert.ProjURefIdeal.Value.run m ρ)

/-- The S5 branch's input: the kernel's results are the reference's, at the same arguments. -/
theorem projU_value : Cert.algebraic_ProjUIdeal_ProjURefIdeal := fun m g m' g' _ hagree =>
  ⟨_, Cert.Proj.ProjU.kernel_run m g, Cert.Proj.ProjU.reference_run m' g' _ _ hagree⟩

/-- The cross-attention's queries: the reference runs and leaves its arguments unchanged; it declares no semaphore. -/
theorem xaQ_reference : Cert.quiescent_XaQRefIdeal := fun m ρ _ =>
  (θ_run Cert.XaQRefIdeal.defs _ _).mono
    (fun r h => ⟨fun c => (h c).2, sem_eq_zero_of_no_sems (by decide) r.2⟩)
    (Cert.XaQRefIdeal.Value.run m ρ)

/-- The cross-attention's queries: the kernel's results are the reference's, at the same arguments. -/
theorem xaQ_value : Cert.algebraic_XaQIdeal_XaQRefIdeal := fun m g m' g' _ hagree =>
  ⟨_, Cert.Proj.XaQ.kernel_run m g, Cert.Proj.XaQ.reference_run m' g' _ _ hagree⟩

/-- The cross-attention's keys and values: the reference runs and leaves its arguments unchanged; it declares no semaphore. -/
theorem xaKv_reference : Cert.quiescent_XaKvRefIdeal := fun m ρ _ =>
  (θ_run Cert.XaKvRefIdeal.defs _ _).mono
    (fun r h => ⟨fun c => (h c).2, sem_eq_zero_of_no_sems (by decide) r.2⟩)
    (Cert.XaKvRefIdeal.Value.run m ρ)

/-- The cross-attention's keys and values: the kernel's results are the reference's, at the same arguments. -/
theorem xaKv_value : Cert.algebraic_XaKvIdeal_XaKvRefIdeal := fun m g m' g' _ hagree =>
  ⟨_, Cert.Proj.XaKv.kernel_run m g, Cert.Proj.XaKv.reference_run m' g' _ _ hagree⟩

/-- The S5 branch's output, added to the residual: the reference runs and leaves its arguments unchanged; it declares no semaphore. -/
theorem outSsm_reference : Cert.quiescent_OutSsmRefIdeal := fun m ρ _ =>
  (θ_run Cert.OutSsmRefIdeal.defs _ _).mono
    (fun r h => ⟨fun c => (h c).2, sem_eq_zero_of_no_sems (by decide) r.2⟩)
    (Cert.OutSsmRefIdeal.Value.run m ρ)

/-- The S5 branch's output, added to the residual: the kernel's results are the reference's, at the same arguments. -/
theorem outSsm_value : Cert.algebraic_OutSsmIdeal_OutSsmRefIdeal := fun m g m' g' _ hagree =>
  ⟨_, Cert.Proj.OutSsm.kernel_run m g, Cert.Proj.OutSsm.reference_run m' g' _ _ _ hagree⟩

/-- The cross-attention's output, added to the residual: the reference runs and leaves its arguments unchanged; it declares no semaphore. -/
theorem xaO_reference : Cert.quiescent_XaORefIdeal := fun m ρ _ =>
  (θ_run Cert.XaORefIdeal.defs _ _).mono
    (fun r h => ⟨fun c => (h c).2, sem_eq_zero_of_no_sems (by decide) r.2⟩)
    (Cert.XaORefIdeal.Value.run m ρ)

/-- The cross-attention's output, added to the residual: the kernel's results are the reference's, at the same arguments. -/
theorem xaO_value : Cert.algebraic_XaOIdeal_XaORefIdeal := fun m g m' g' _ hagree =>
  ⟨_, Cert.Proj.XaO.kernel_run m g, Cert.Proj.XaO.reference_run m' g' _ _ _ hagree⟩

/-- The attention's output projection, added to the residual: the reference runs and leaves its arguments unchanged; it declares no semaphore. -/
theorem outSb_reference : Cert.quiescent_OutSbRefIdeal := fun m ρ _ =>
  (θ_run Cert.OutSbRefIdeal.defs _ _).mono
    (fun r h => ⟨fun c => (h c).2, sem_eq_zero_of_no_sems (by decide) r.2⟩)
    (Cert.OutSbRefIdeal.Value.run m ρ)

/-- The attention's output projection, added to the residual: the kernel's results are the reference's, at the same arguments. -/
theorem outSb_value : Cert.algebraic_OutSbIdeal_OutSbRefIdeal := fun m g m' g' _ hagree =>
  ⟨_, Cert.Proj.OutSb.kernel_run m g, Cert.Proj.OutSb.reference_run m' g' _ _ _ hagree⟩

/-- The cotangent of the attention's result, through its output projection: the reference runs and leaves its arguments unchanged; it declares no semaphore. -/
theorem dYnSb_reference : Cert.quiescent_DYnSbRefIdeal := fun m ρ _ =>
  (θ_run Cert.DYnSbRefIdeal.defs _ _).mono
    (fun r h => ⟨fun c => (h c).2, sem_eq_zero_of_no_sems (by decide) r.2⟩)
    (Cert.DYnSbRefIdeal.Value.run m ρ)

/-- The cotangent of the attention's result, through its output projection: the kernel's results are the reference's, at the same arguments. -/
theorem dYnSb_value : Cert.algebraic_DYnSbIdeal_DYnSbRefIdeal := fun m g m' g' _ hagree =>
  ⟨_, Cert.Proj.DYnSb.kernel_run m g, Cert.Proj.DYnSb.reference_run m' g' _ _ _ hagree⟩

/-- The gradient of the attention's output projection: the reference runs and leaves its arguments unchanged; it declares no semaphore. -/
theorem dwOutSb_reference : Cert.quiescent_DwOutSbRefIdeal := fun m ρ _ =>
  (θ_run Cert.DwOutSbRefIdeal.defs _ _).mono
    (fun r h => ⟨fun c => (h c).2, sem_eq_zero_of_no_sems (by decide) r.2⟩)
    (Cert.DwOutSbRefIdeal.Value.run m ρ)

/-- The gradient of the attention's output projection: the kernel's results are the reference's, at the same arguments. -/
theorem dwOutSb_value : Cert.algebraic_DwOutSbIdeal_DwOutSbRefIdeal := fun m g m' g' _ hagree =>
  ⟨_, Cert.Proj.DwOutSb.kernel_run m g, Cert.Proj.DwOutSb.reference_run m' g' _ _ _ hagree⟩

/-- The gradients of the attention's query, key and value projections: the reference runs and leaves its arguments unchanged; it declares no semaphore. -/
theorem dwQkv_reference : Cert.quiescent_DwQkvRefIdeal := fun m ρ _ =>
  (θ_run Cert.DwQkvRefIdeal.defs _ _).mono
    (fun r h => ⟨fun c => (h c).2, sem_eq_zero_of_no_sems (by decide) r.2⟩)
    (Cert.DwQkvRefIdeal.Value.run m ρ)

/-- The gradients of the attention's query, key and value projections: the kernel's results are the reference's, at the same arguments. -/
theorem dwQkv_value : Cert.algebraic_DwQkvIdeal_DwQkvRefIdeal := fun m g m' g' _ hagree =>
  ⟨_, Cert.Proj.DwQkv.kernel_run m g, Cert.Proj.DwQkv.reference_run m' g' _ _ _ _ _ _ _ hagree⟩

/-- The gated unit, with its norm: the reference runs and leaves its arguments unchanged; it declares no semaphore. -/
theorem gluFwd_reference : Cert.quiescent_GluFwdRefIdeal := fun m ρ _ =>
  (θ_run Cert.GluFwdRefIdeal.defs _ _).mono
    (fun r h => ⟨fun c => (h c).2.2.2, sem_eq_zero_of_no_sems (by decide) r.2⟩)
    (Cert.GluFwdRefIdeal.Value.run m ρ)

/-- The gated unit, with its norm: the kernel's results are the reference's, at the same arguments. -/
theorem gluFwd_value : Cert.algebraic_GluFwdIdeal_GluFwdRefIdeal := fun m g m' g' _ hagree =>
  ⟨_, _, _, Cert.Glu.GluFwd.kernel_run m g, Cert.Glu.GluFwd.reference_run m' g' _ _ _ _ _ hagree⟩

/-- The cross-attention: the reference runs and leaves its arguments unchanged; it declares no semaphore. -/
theorem xaFwd_reference : Cert.quiescent_XaFwdRefIdeal := fun m ρ _ =>
  (θ_run Cert.XaFwdRefIdeal.defs _ _).mono
    (fun r h => ⟨fun c => (h c).2, sem_eq_zero_of_no_sems (by decide) r.2⟩)
    (Cert.XaFwdRefIdeal.Value.run m ρ)

/-- The cross-attention: the kernel's results are the reference's, at the same arguments. -/
theorem xaFwd_value : Cert.algebraic_XaFwdIdeal_XaFwdRefIdeal := fun m g m' g' _ hagree =>
  ⟨_, Cert.Xa.XaFwd.kernel_run m g, Cert.Xa.XaFwd.reference_run m' g' _ _ _ _ hagree⟩

/-- The cross-attention's backward pass: the kernel runs and leaves its arguments unchanged, on finite arguments as on any. -/
theorem xaBwd_kernel : Cert.quiescent_XaBwdIdeal_pre_finite := fun m ρ _ => Cert.XaBwdIdeal.Gen.frame m ρ

/-- The cross-attention's backward pass: the reference runs and leaves its arguments unchanged; it declares no semaphore. -/
theorem xaBwd_reference : Cert.quiescent_XaBwdRefIdeal := fun m ρ _ =>
  (θ_run Cert.XaBwdRefIdeal.defs _ _).mono
    (fun r h => ⟨fun c => (h c).2.2.2.2, sem_eq_zero_of_no_sems (by decide) r.2⟩)
    (Cert.XaBwdRefIdeal.Value.run m ρ)

/-- The cross-attention's backward pass: on finite arguments the kernel's results are the reference's, at the same arguments. -/
theorem xaBwd_value : Cert.algebraic_XaBwdIdeal_XaBwdRefIdeal_pre_finite := fun m g m' g' hp hagree =>
  ⟨_, _, _, _, Cert.Xa.XaBwd.kernel_run m g fun c => Cert.Xa.XaBwd.finites_of _ _ _ _ _ (hp c),
    Cert.Xa.XaBwd.reference_run m' g' _ _ _ _ _ hagree⟩

/-- The backward pass of the recurrence's output norm: the reference runs and leaves its arguments unchanged; it declares no semaphore. -/
theorem rmsSsm_reference : Cert.quiescent_RmsSsmRefIdeal := fun m ρ _ =>
  (θ_run Cert.RmsSsmRefIdeal.defs _ _).mono
    (fun r h => ⟨fun c => (h c).2.2, sem_eq_zero_of_no_sems (by decide) r.2⟩)
    (Cert.RmsSsmRefIdeal.Value.run m ρ)

/-- The backward pass of the recurrence's output norm: the kernel's results are the reference's, at the same arguments. -/
theorem rmsSsm_value : Cert.algebraic_RmsSsmIdeal_RmsSsmRefIdeal := fun m g m' g' _ hagree =>
  ⟨_, _, Cert.Norm.RmsSsm.kernel_run m g, Cert.Norm.RmsSsm.reference_run m' g' _ _ _ hagree⟩

/-- The backward pass of the memory's norm: the reference runs and leaves its arguments unchanged; it declares no semaphore. -/
theorem rmsMem_reference : Cert.quiescent_RmsMemRefIdeal := fun m ρ _ =>
  (θ_run Cert.RmsMemRefIdeal.defs _ _).mono
    (fun r h => ⟨fun c => (h c).2.2, sem_eq_zero_of_no_sems (by decide) r.2⟩)
    (Cert.RmsMemRefIdeal.Value.run m ρ)

/-- The backward pass of the memory's norm: the kernel's results are the reference's, at the same arguments. -/
theorem rmsMem_value : Cert.algebraic_RmsMemIdeal_RmsMemRefIdeal := fun m g m' g' _ hagree =>
  ⟨_, _, Cert.Norm.RmsMem.kernel_run m g, Cert.Norm.RmsMem.reference_run m' g' _ _ _ hagree⟩

/-- The gradients of the recurrence's parameters: the reference runs and leaves its arguments unchanged; it declares no semaphore. -/
theorem s5Prep_reference : Cert.quiescent_S5PrepRefIdeal := fun m ρ _ =>
  (θ_run Cert.S5PrepRefIdeal.defs _ _).mono
    (fun r h => ⟨fun c => (h c).2.2.2.2.2.2.2, sem_eq_zero_of_no_sems (by decide) r.2⟩)
    (Cert.S5PrepRefIdeal.Value.run m ρ)

/-- The gradients of the recurrence's parameters: the kernel's results are the reference's, at the same arguments. -/
theorem s5Prep_value : Cert.algebraic_S5PrepIdeal_S5PrepRefIdeal := fun m g m' g' _ hagree =>
  ⟨_, _, _, _, _, _, _, Cert.S5.S5Prep.kernel_run m g, Cert.S5.S5Prep.reference_run m' g' _ _ _ _ _ _ _ _ _ _ _ hagree⟩

theorem claim : Cert.Claim := ⟨Cert.Kernel.Gen.facts,
  Cert.KernelIdeal.Gen.facts,
  Cert.ReferenceIdeal.Gen.facts,
  Cert.DAct.Gen.facts,
  Cert.DActIdeal.Gen.facts,
  Cert.DActRefIdeal.Gen.facts,
  Cert.DwDown.Gen.facts,
  Cert.DwDownIdeal.Gen.facts,
  Cert.DwDownRefIdeal.Gen.facts,
  Cert.DwUp.Gen.facts,
  Cert.DwUpIdeal.Gen.facts,
  Cert.DwUpRefIdeal.Gen.facts,
  Cert.DH2.Gen.facts,
  Cert.DH2Ideal.Gen.facts,
  Cert.DH2RefIdeal.Gen.facts,
  Cert.MlpUp.Gen.facts,
  Cert.MlpUpIdeal.Gen.facts,
  Cert.MlpUpRefIdeal.Gen.facts,
  Cert.MlpDown.Gen.facts,
  Cert.MlpDownIdeal.Gen.facts,
  Cert.MlpDownRefIdeal.Gen.facts,
  Cert.DH1.Gen.facts,
  Cert.DH1Ideal.Gen.facts,
  Cert.DH1RefIdeal.Gen.facts,
  Cert.DOx.Gen.facts,
  Cert.DOxIdeal.Gen.facts,
  Cert.DOxRefIdeal.Gen.facts,
  Cert.DwXo.Gen.facts,
  Cert.DwXoIdeal.Gen.facts,
  Cert.DwXoRefIdeal.Gen.facts,
  Cert.DwXq.Gen.facts,
  Cert.DwXqIdeal.Gen.facts,
  Cert.DwXqRefIdeal.Gen.facts,
  Cert.DwXkv.Gen.facts,
  Cert.DwXkvIdeal.Gen.facts,
  Cert.DwXkvRefIdeal.Gen.facts,
  Cert.DMemn.Gen.facts,
  Cert.DMemnIdeal.Gen.facts,
  Cert.DMemnRefIdeal.Gen.facts,
  Cert.DYnSsm.Gen.facts,
  Cert.DYnSsmIdeal.Gen.facts,
  Cert.DYnSsmRefIdeal.Gen.facts,
  Cert.DwOutSsm.Gen.facts,
  Cert.DwOutSsmIdeal.Gen.facts,
  Cert.DwOutSsmRefIdeal.Gen.facts,
  Cert.DwU.Gen.facts,
  Cert.DwUIdeal.Gen.facts,
  Cert.DwURefIdeal.Gen.facts,
  Cert.DH0U.Gen.facts,
  Cert.DH0UIdeal.Gen.facts,
  Cert.DH0URefIdeal.Gen.facts,
  Cert.ProjU.Gen.facts,
  Cert.ProjUIdeal.Gen.facts,
  Cert.ProjURefIdeal.Gen.facts,
  Cert.XaQ.Gen.facts,
  Cert.XaQIdeal.Gen.facts,
  Cert.XaQRefIdeal.Gen.facts,
  Cert.XaKv.Gen.facts,
  Cert.XaKvIdeal.Gen.facts,
  Cert.XaKvRefIdeal.Gen.facts,
  Cert.OutSsm.Gen.facts,
  Cert.OutSsmIdeal.Gen.facts,
  Cert.OutSsmRefIdeal.Gen.facts,
  Cert.XaO.Gen.facts,
  Cert.XaOIdeal.Gen.facts,
  Cert.XaORefIdeal.Gen.facts,
  Cert.OutSb.Gen.facts,
  Cert.OutSbIdeal.Gen.facts,
  Cert.OutSbRefIdeal.Gen.facts,
  Cert.DYnSb.Gen.facts,
  Cert.DYnSbIdeal.Gen.facts,
  Cert.DYnSbRefIdeal.Gen.facts,
  Cert.DwOutSb.Gen.facts,
  Cert.DwOutSbIdeal.Gen.facts,
  Cert.DwOutSbRefIdeal.Gen.facts,
  Cert.DwQkv.Gen.facts,
  Cert.DwQkvIdeal.Gen.facts,
  Cert.DwQkvRefIdeal.Gen.facts,
  Cert.GluFwd.Gen.facts,
  Cert.GluFwdIdeal.Gen.facts,
  Cert.GluFwdRefIdeal.Gen.facts,
  Cert.XaFwd.Gen.facts,
  Cert.XaFwdIdeal.Gen.facts,
  Cert.XaFwdRefIdeal.Gen.facts,
  Cert.XaBwd.Gen.facts,
  Cert.XaBwdIdeal.Gen.facts,
  Cert.XaBwdRefIdeal.Gen.facts,
  Cert.RmsSsm.Gen.facts,
  Cert.RmsSsmIdeal.Gen.facts,
  Cert.RmsSsmRefIdeal.Gen.facts,
  Cert.RmsMem.Gen.facts,
  Cert.RmsMemIdeal.Gen.facts,
  Cert.RmsMemRefIdeal.Gen.facts,
  Cert.S5Prep.Gen.facts,
  Cert.S5PrepIdeal.Gen.facts,
  Cert.S5PrepRefIdeal.Gen.facts,
  Cert.Pre_finite.Gen.facts,
  fun m ρ _ => Cert.Kernel.Gen.frame m ρ, fun m ρ _ => Cert.KernelIdeal.Gen.frame m ρ, kernel_reference,
  fun m ρ _ => Cert.DAct.Gen.frame m ρ, fun m ρ _ => Cert.DActIdeal.Gen.frame m ρ, dAct_reference,
  fun m ρ _ => Cert.DwDown.Gen.frame m ρ, fun m ρ _ => Cert.DwDownIdeal.Gen.frame m ρ, dwDown_reference,
  fun m ρ _ => Cert.DwUp.Gen.frame m ρ, fun m ρ _ => Cert.DwUpIdeal.Gen.frame m ρ, dwUp_reference,
  fun m ρ _ => Cert.DH2.Gen.frame m ρ, fun m ρ _ => Cert.DH2Ideal.Gen.frame m ρ, dH2_reference,
  fun m ρ _ => Cert.MlpUp.Gen.frame m ρ, fun m ρ _ => Cert.MlpUpIdeal.Gen.frame m ρ, mlpUp_reference,
  fun m ρ _ => Cert.MlpDown.Gen.frame m ρ, fun m ρ _ => Cert.MlpDownIdeal.Gen.frame m ρ, mlpDown_reference,
  fun m ρ _ => Cert.DH1.Gen.frame m ρ, fun m ρ _ => Cert.DH1Ideal.Gen.frame m ρ, dH1_reference,
  fun m ρ _ => Cert.DOx.Gen.frame m ρ, fun m ρ _ => Cert.DOxIdeal.Gen.frame m ρ, dOx_reference,
  fun m ρ _ => Cert.DwXo.Gen.frame m ρ, fun m ρ _ => Cert.DwXoIdeal.Gen.frame m ρ, dwXo_reference,
  fun m ρ _ => Cert.DwXq.Gen.frame m ρ, fun m ρ _ => Cert.DwXqIdeal.Gen.frame m ρ, dwXq_reference,
  fun m ρ _ => Cert.DwXkv.Gen.frame m ρ, fun m ρ _ => Cert.DwXkvIdeal.Gen.frame m ρ, dwXkv_reference,
  fun m ρ _ => Cert.DMemn.Gen.frame m ρ, fun m ρ _ => Cert.DMemnIdeal.Gen.frame m ρ, dMemn_reference,
  fun m ρ _ => Cert.DYnSsm.Gen.frame m ρ, fun m ρ _ => Cert.DYnSsmIdeal.Gen.frame m ρ, dYnSsm_reference,
  fun m ρ _ => Cert.DwOutSsm.Gen.frame m ρ, fun m ρ _ => Cert.DwOutSsmIdeal.Gen.frame m ρ, dwOutSsm_reference,
  fun m ρ _ => Cert.DwU.Gen.frame m ρ, fun m ρ _ => Cert.DwUIdeal.Gen.frame m ρ, dwU_reference,
  fun m ρ _ => Cert.DH0U.Gen.frame m ρ, fun m ρ _ => Cert.DH0UIdeal.Gen.frame m ρ, dH0U_reference,
  fun m ρ _ => Cert.ProjU.Gen.frame m ρ, fun m ρ _ => Cert.ProjUIdeal.Gen.frame m ρ, projU_reference,
  fun m ρ _ => Cert.XaQ.Gen.frame m ρ, fun m ρ _ => Cert.XaQIdeal.Gen.frame m ρ, xaQ_reference,
  fun m ρ _ => Cert.XaKv.Gen.frame m ρ, fun m ρ _ => Cert.XaKvIdeal.Gen.frame m ρ, xaKv_reference,
  fun m ρ _ => Cert.OutSsm.Gen.frame m ρ, fun m ρ _ => Cert.OutSsmIdeal.Gen.frame m ρ, outSsm_reference,
  fun m ρ _ => Cert.XaO.Gen.frame m ρ, fun m ρ _ => Cert.XaOIdeal.Gen.frame m ρ, xaO_reference,
  fun m ρ _ => Cert.OutSb.Gen.frame m ρ, fun m ρ _ => Cert.OutSbIdeal.Gen.frame m ρ, outSb_reference,
  fun m ρ _ => Cert.DYnSb.Gen.frame m ρ, fun m ρ _ => Cert.DYnSbIdeal.Gen.frame m ρ, dYnSb_reference,
  fun m ρ _ => Cert.DwOutSb.Gen.frame m ρ, fun m ρ _ => Cert.DwOutSbIdeal.Gen.frame m ρ, dwOutSb_reference,
  fun m ρ _ => Cert.DwQkv.Gen.frame m ρ, fun m ρ _ => Cert.DwQkvIdeal.Gen.frame m ρ, dwQkv_reference,
  fun m ρ _ => Cert.GluFwd.Gen.frame m ρ, fun m ρ _ => Cert.GluFwdIdeal.Gen.frame m ρ, gluFwd_reference,
  fun m ρ _ => Cert.XaFwd.Gen.frame m ρ, fun m ρ _ => Cert.XaFwdIdeal.Gen.frame m ρ, xaFwd_reference,
  fun m ρ _ => Cert.XaBwd.Gen.frame m ρ, fun m ρ _ => Cert.XaBwdIdeal.Gen.frame m ρ, xaBwd_kernel, xaBwd_reference,
  fun m ρ _ => xaBwd_reference m ρ trivial,
  fun m ρ _ => Cert.RmsSsm.Gen.frame m ρ, fun m ρ _ => Cert.RmsSsmIdeal.Gen.frame m ρ, rmsSsm_reference,
  fun m ρ _ => Cert.RmsMem.Gen.frame m ρ, fun m ρ _ => Cert.RmsMemIdeal.Gen.frame m ρ, rmsMem_reference,
  fun m ρ _ => Cert.S5Prep.Gen.frame m ρ, fun m ρ _ => Cert.S5PrepIdeal.Gen.frame m ρ, s5Prep_reference,
  trivial, kernel_value,
  trivial, dAct_value,
  trivial, dwDown_value,
  trivial, dwUp_value,
  trivial, dH2_value,
  trivial, mlpUp_value,
  trivial, mlpDown_value,
  trivial, dH1_value,
  trivial, dOx_value,
  trivial, dwXo_value,
  trivial, dwXq_value,
  trivial, dwXkv_value,
  trivial, dMemn_value,
  trivial, dYnSsm_value,
  trivial, dwOutSsm_value,
  trivial, dwU_value,
  trivial, dH0U_value,
  trivial, projU_value,
  trivial, xaQ_value,
  trivial, xaKv_value,
  trivial, outSsm_value,
  trivial, xaO_value,
  trivial, outSb_value,
  trivial, dYnSb_value,
  trivial, dwOutSb_value,
  trivial, dwQkv_value,
  trivial, gluFwd_value,
  trivial, xaFwd_value,
  trivial, xaBwd_value,
  trivial, rmsSsm_value,
  trivial, rmsMem_value,
  trivial, s5Prep_value⟩

end Cert.Proof

end
